-- ==== Defs.lean ====
def Pre_D0 (m : (ℓ : Loc Cert.D0.nD Cert.D0.τ Cert.D0.sig) → Buf (Elt Bits) ℓ) : Prop :=
  True

def Pre_D0Ideal (m : (ℓ : Loc Cert.D0Ideal.nD Cert.D0Ideal.τ Cert.D0Ideal.sig) → Buf (Elt Ideal) ℓ) : Prop :=
  True

def Pre_R0Ideal (m : (ℓ : Loc Cert.R0Ideal.nD Cert.R0Ideal.τ Cert.R0Ideal.sig) → Buf (Elt Ideal) ℓ) : Prop :=
  True

def Pre_D1 (m : (ℓ : Loc Cert.D1.nD Cert.D1.τ Cert.D1.sig) → Buf (Elt Bits) ℓ) : Prop :=
  True

def Pre_D1Ideal (m : (ℓ : Loc Cert.D1Ideal.nD Cert.D1Ideal.τ Cert.D1Ideal.sig) → Buf (Elt Ideal) ℓ) : Prop :=
  True

def Pre_R1Ideal (m : (ℓ : Loc Cert.R1Ideal.nD Cert.R1Ideal.τ Cert.R1Ideal.sig) → Buf (Elt Ideal) ℓ) : Prop :=
  True

def Pre_D2 (m : (ℓ : Loc Cert.D2.nD Cert.D2.τ Cert.D2.sig) → Buf (Elt Bits) ℓ) : Prop :=
  True

def Pre_D2Ideal (m : (ℓ : Loc Cert.D2Ideal.nD Cert.D2Ideal.τ Cert.D2Ideal.sig) → Buf (Elt Ideal) ℓ) : Prop :=
  True

def Pre_R2Ideal (m : (ℓ : Loc Cert.R2Ideal.nD Cert.R2Ideal.τ Cert.R2Ideal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsRefIdeal (m : (ℓ : Loc Cert.ValsRefIdeal.nD Cert.ValsRefIdeal.τ Cert.ValsRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def Pre_Moe [hPre_experts_named : Cert.Pre_experts_named.Facts] (m : (ℓ : Loc Cert.Moe.nD Cert.Moe.τ Cert.Moe.sig) → Buf (Elt Bits) ℓ) : Prop :=
  ∀ c : Dev Cert.Moe.nD,
    (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).1 = (fun _ => 1#1)
    ∧ (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))).2 = (fun _ => 1#1)

def Pre_MoeIdeal [hPre_experts_named : Cert.Pre_experts_named.Facts] (m : (ℓ : Loc Cert.MoeIdeal.nD Cert.MoeIdeal.τ Cert.MoeIdeal.sig) → Buf (Elt Ideal) ℓ) : Prop :=
  ∀ c : Dev Cert.MoeIdeal.nD,
    (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).1 = (fun _ => 1#1)
    ∧ (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))).2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_named [hPre_experts_named : Cert.Pre_experts_named.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_named.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).1 = (fun _ => 1#1)
    ∧ (Cert.Pre_experts_named.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))).2 = (fun _ => 1#1)

def quiescent_D0 [hD0 : Cert.D0.Facts] : Prop :=
  ∀ (m : (ℓ : Loc Cert.D0.nD Cert.D0.τ Cert.D0.sig) → Buf (Elt Bits) ℓ) (g : Dev Cert.D0.nD → PrngReg), Pre_D0 m →
    θ_run (Cert.D0.defs (F := Bits)) (onTc (τ := Cert.D0.τ) (Cert.D0.main (F := Bits))) ⟨m, fun _ => 0, g⟩ (fun r => (∀ c : Dev Cert.D0.nD,
      r.2.mem ((c.tc : Thread Cert.D0.nD Cert.D0.τ).loc Cert.D0.main_arg0) = m ((c.tc : Thread Cert.D0.nD Cert.D0.τ).loc Cert.D0.main_arg0)
      ∧ r.2.mem ((c.tc : Thread Cert.D0.nD Cert.D0.τ).loc Cert.D0.main_arg1) = m ((c.tc : Thread Cert.D0.nD Cert.D0.τ).loc Cert.D0.main_arg1)
      ∧ r.2.mem ((c.tc : Thread Cert.D0.nD Cert.D0.τ).loc Cert.D0.main_arg2) = m ((c.tc : Thread Cert.D0.nD Cert.D0.τ).loc Cert.D0.main_arg2)
      ∧ r.2.mem ((c.tc : Thread Cert.D0.nD Cert.D0.τ).loc Cert.D0.main_arg3) = m ((c.tc : Thread Cert.D0.nD Cert.D0.τ).loc Cert.D0.main_arg3))
      ∧ r.2.sem = fun _ => 0)

def quiescent_D0Ideal [hD0Ideal : Cert.D0Ideal.Facts] : Prop :=
  ∀ (m : (ℓ : Loc Cert.D0Ideal.nD Cert.D0Ideal.τ Cert.D0Ideal.sig) → Buf (Elt Ideal) ℓ) (g : Dev Cert.D0Ideal.nD → PrngReg), Pre_D0Ideal m →
    θ_run (Cert.D0Ideal.defs (F := Ideal)) (onTc (τ := Cert.D0Ideal.τ) (Cert.D0Ideal.main (F := Ideal))) ⟨m, fun _ => 0, g⟩ (fun r => (∀ c : Dev Cert.D0Ideal.nD,
      r.2.mem ((c.tc : Thread Cert.D0Ideal.nD Cert.D0Ideal.τ).loc Cert.D0Ideal.main_arg0) = m ((c.tc : Thread Cert.D0Ideal.nD Cert.D0Ideal.τ).loc Cert.D0Ideal.main_arg0)
      ∧ r.2.mem ((c.tc : Thread Cert.D0Ideal.nD Cert.D0Ideal.τ).loc Cert.D0Ideal.main_arg1) = m ((c.tc : Thread Cert.D0Ideal.nD Cert.D0Ideal.τ).loc Cert.D0Ideal.main_arg1)
      ∧ r.2.mem ((c.tc : Thread Cert.D0Ideal.nD Cert.D0Ideal.τ).loc Cert.D0Ideal.main_arg2) = m ((c.tc : Thread Cert.D0Ideal.nD Cert.D0Ideal.τ).loc Cert.D0Ideal.main_arg2)
      ∧ r.2.mem ((c.tc : Thread Cert.D0Ideal.nD Cert.D0Ideal.τ).loc Cert.D0Ideal.main_arg3) = m ((c.tc : Thread Cert.D0Ideal.nD Cert.D0Ideal.τ).loc Cert.D0Ideal.main_arg3))
      ∧ r.2.sem = fun _ => 0)

def quiescent_R0Ideal [hR0Ideal : Cert.R0Ideal.Facts] : Prop :=
  ∀ (m : (ℓ : Loc Cert.R0Ideal.nD Cert.R0Ideal.τ Cert.R0Ideal.sig) → Buf (Elt Ideal) ℓ) (g : Dev Cert.R0Ideal.nD → PrngReg), Pre_R0Ideal m →
    θ_run (Cert.R0Ideal.defs (F := Ideal)) (onTc (τ := Cert.R0Ideal.τ) (Cert.R0Ideal.main (F := Ideal))) ⟨m, fun _ => 0, g⟩ (fun r => (∀ c : Dev Cert.R0Ideal.nD,
      r.2.mem ((c.tc : Thread Cert.R0Ideal.nD Cert.R0Ideal.τ).loc Cert.R0Ideal.main_arg0) = m ((c.tc : Thread Cert.R0Ideal.nD Cert.R0Ideal.τ).loc Cert.R0Ideal.main_arg0)
      ∧ r.2.mem ((c.tc : Thread Cert.R0Ideal.nD Cert.R0Ideal.τ).loc Cert.R0Ideal.main_arg1) = m ((c.tc : Thread Cert.R0Ideal.nD Cert.R0Ideal.τ).loc Cert.R0Ideal.main_arg1)
      ∧ r.2.mem ((c.tc : Thread Cert.R0Ideal.nD Cert.R0Ideal.τ).loc Cert.R0Ideal.main_arg2) = m ((c.tc : Thread Cert.R0Ideal.nD Cert.R0Ideal.τ).loc Cert.R0Ideal.main_arg2)
      ∧ r.2.mem ((c.tc : Thread Cert.R0Ideal.nD Cert.R0Ideal.τ).loc Cert.R0Ideal.main_arg3) = m ((c.tc : Thread Cert.R0Ideal.nD Cert.R0Ideal.τ).loc Cert.R0Ideal.main_arg3))
      ∧ r.2.sem = fun _ => 0)

def quiescent_D1 [hD1 : Cert.D1.Facts] : Prop :=
  ∀ (m : (ℓ : Loc Cert.D1.nD Cert.D1.τ Cert.D1.sig) → Buf (Elt Bits) ℓ) (g : Dev Cert.D1.nD → PrngReg), Pre_D1 m →
    θ_run (Cert.D1.defs (F := Bits)) (onTc (τ := Cert.D1.τ) (Cert.D1.main (F := Bits))) ⟨m, fun _ => 0, g⟩ (fun r => (∀ c : Dev Cert.D1.nD,
      r.2.mem ((c.tc : Thread Cert.D1.nD Cert.D1.τ).loc Cert.D1.main_arg0) = m ((c.tc : Thread Cert.D1.nD Cert.D1.τ).loc Cert.D1.main_arg0)
      ∧ r.2.mem ((c.tc : Thread Cert.D1.nD Cert.D1.τ).loc Cert.D1.main_arg1) = m ((c.tc : Thread Cert.D1.nD Cert.D1.τ).loc Cert.D1.main_arg1)
      ∧ r.2.mem ((c.tc : Thread Cert.D1.nD Cert.D1.τ).loc Cert.D1.main_arg2) = m ((c.tc : Thread Cert.D1.nD Cert.D1.τ).loc Cert.D1.main_arg2)
      ∧ r.2.mem ((c.tc : Thread Cert.D1.nD Cert.D1.τ).loc Cert.D1.main_arg3) = m ((c.tc : Thread Cert.D1.nD Cert.D1.τ).loc Cert.D1.main_arg3))
      ∧ r.2.sem = fun _ => 0)

def quiescent_D1Ideal [hD1Ideal : Cert.D1Ideal.Facts] : Prop :=
  ∀ (m : (ℓ : Loc Cert.D1Ideal.nD Cert.D1Ideal.τ Cert.D1Ideal.sig) → Buf (Elt Ideal) ℓ) (g : Dev Cert.D1Ideal.nD → PrngReg), Pre_D1Ideal m →
    θ_run (Cert.D1Ideal.defs (F := Ideal)) (onTc (τ := Cert.D1Ideal.τ) (Cert.D1Ideal.main (F := Ideal))) ⟨m, fun _ => 0, g⟩ (fun r => (∀ c : Dev Cert.D1Ideal.nD,
      r.2.mem ((c.tc : Thread Cert.D1Ideal.nD Cert.D1Ideal.τ).loc Cert.D1Ideal.main_arg0) = m ((c.tc : Thread Cert.D1Ideal.nD Cert.D1Ideal.τ).loc Cert.D1Ideal.main_arg0)
      ∧ r.2.mem ((c.tc : Thread Cert.D1Ideal.nD Cert.D1Ideal.τ).loc Cert.D1Ideal.main_arg1) = m ((c.tc : Thread Cert.D1Ideal.nD Cert.D1Ideal.τ).loc Cert.D1Ideal.main_arg1)
      ∧ r.2.mem ((c.tc : Thread Cert.D1Ideal.nD Cert.D1Ideal.τ).loc Cert.D1Ideal.main_arg2) = m ((c.tc : Thread Cert.D1Ideal.nD Cert.D1Ideal.τ).loc Cert.D1Ideal.main_arg2)
      ∧ r.2.mem ((c.tc : Thread Cert.D1Ideal.nD Cert.D1Ideal.τ).loc Cert.D1Ideal.main_arg3) = m ((c.tc : Thread Cert.D1Ideal.nD Cert.D1Ideal.τ).loc Cert.D1Ideal.main_arg3))
      ∧ r.2.sem = fun _ => 0)

def quiescent_R1Ideal [hR1Ideal : Cert.R1Ideal.Facts] : Prop :=
  ∀ (m : (ℓ : Loc Cert.R1Ideal.nD Cert.R1Ideal.τ Cert.R1Ideal.sig) → Buf (Elt Ideal) ℓ) (g : Dev Cert.R1Ideal.nD → PrngReg), Pre_R1Ideal m →
    θ_run (Cert.R1Ideal.defs (F := Ideal)) (onTc (τ := Cert.R1Ideal.τ) (Cert.R1Ideal.main (F := Ideal))) ⟨m, fun _ => 0, g⟩ (fun r => (∀ c : Dev Cert.R1Ideal.nD,
      r.2.mem ((c.tc : Thread Cert.R1Ideal.nD Cert.R1Ideal.τ).loc Cert.R1Ideal.main_arg0) = m ((c.tc : Thread Cert.R1Ideal.nD Cert.R1Ideal.τ).loc Cert.R1Ideal.main_arg0)
      ∧ r.2.mem ((c.tc : Thread Cert.R1Ideal.nD Cert.R1Ideal.τ).loc Cert.R1Ideal.main_arg1) = m ((c.tc : Thread Cert.R1Ideal.nD Cert.R1Ideal.τ).loc Cert.R1Ideal.main_arg1)
      ∧ r.2.mem ((c.tc : Thread Cert.R1Ideal.nD Cert.R1Ideal.τ).loc Cert.R1Ideal.main_arg2) = m ((c.tc : Thread Cert.R1Ideal.nD Cert.R1Ideal.τ).loc Cert.R1Ideal.main_arg2)
      ∧ r.2.mem ((c.tc : Thread Cert.R1Ideal.nD Cert.R1Ideal.τ).loc Cert.R1Ideal.main_arg3) = m ((c.tc : Thread Cert.R1Ideal.nD Cert.R1Ideal.τ).loc Cert.R1Ideal.main_arg3))
      ∧ r.2.sem = fun _ => 0)

def quiescent_D2 [hD2 : Cert.D2.Facts] : Prop :=
  ∀ (m : (ℓ : Loc Cert.D2.nD Cert.D2.τ Cert.D2.sig) → Buf (Elt Bits) ℓ) (g : Dev Cert.D2.nD → PrngReg), Pre_D2 m →
    θ_run (Cert.D2.defs (F := Bits)) (onTc (τ := Cert.D2.τ) (Cert.D2.main (F := Bits))) ⟨m, fun _ => 0, g⟩ (fun r => (∀ c : Dev Cert.D2.nD,
      r.2.mem ((c.tc : Thread Cert.D2.nD Cert.D2.τ).loc Cert.D2.main_arg0) = m ((c.tc : Thread Cert.D2.nD Cert.D2.τ).loc Cert.D2.main_arg0)
      ∧ r.2.mem ((c.tc : Thread Cert.D2.nD Cert.D2.τ).loc Cert.D2.main_arg1) = m ((c.tc : Thread Cert.D2.nD Cert.D2.τ).loc Cert.D2.main_arg1)
      ∧ r.2.mem ((c.tc : Thread Cert.D2.nD Cert.D2.τ).loc Cert.D2.main_arg2) = m ((c.tc : Thread Cert.D2.nD Cert.D2.τ).loc Cert.D2.main_arg2)
      ∧ r.2.mem ((c.tc : Thread Cert.D2.nD Cert.D2.τ).loc Cert.D2.main_arg3) = m ((c.tc : Thread Cert.D2.nD Cert.D2.τ).loc Cert.D2.main_arg3))
      ∧ r.2.sem = fun _ => 0)

def quiescent_D2Ideal [hD2Ideal : Cert.D2Ideal.Facts] : Prop :=
  ∀ (m : (ℓ : Loc Cert.D2Ideal.nD Cert.D2Ideal.τ Cert.D2Ideal.sig) → Buf (Elt Ideal) ℓ) (g : Dev Cert.D2Ideal.nD → PrngReg), Pre_D2Ideal m →
    θ_run (Cert.D2Ideal.defs (F := Ideal)) (onTc (τ := Cert.D2Ideal.τ) (Cert.D2Ideal.main (F := Ideal))) ⟨m, fun _ => 0, g⟩ (fun r => (∀ c : Dev Cert.D2Ideal.nD,
      r.2.mem ((c.tc : Thread Cert.D2Ideal.nD Cert.D2Ideal.τ).loc Cert.D2Ideal.main_arg0) = m ((c.tc : Thread Cert.D2Ideal.nD Cert.D2Ideal.τ).loc Cert.D2Ideal.main_arg0)
      ∧ r.2.mem ((c.tc : Thread Cert.D2Ideal.nD Cert.D2Ideal.τ).loc Cert.D2Ideal.main_arg1) = m ((c.tc : Thread Cert.D2Ideal.nD Cert.D2Ideal.τ).loc Cert.D2Ideal.main_arg1)
      ∧ r.2.mem ((c.tc : Thread Cert.D2Ideal.nD Cert.D2Ideal.τ).loc Cert.D2Ideal.main_arg2) = m ((c.tc : Thread Cert.D2Ideal.nD Cert.D2Ideal.τ).loc Cert.D2Ideal.main_arg2)
      ∧ r.2.mem ((c.tc : Thread Cert.D2Ideal.nD Cert.D2Ideal.τ).loc Cert.D2Ideal.main_arg3) = m ((c.tc : Thread Cert.D2Ideal.nD Cert.D2Ideal.τ).loc Cert.D2Ideal.main_arg3))
      ∧ r.2.sem = fun _ => 0)

def quiescent_R2Ideal [hR2Ideal : Cert.R2Ideal.Facts] : Prop :=
  ∀ (m : (ℓ : Loc Cert.R2Ideal.nD Cert.R2Ideal.τ Cert.R2Ideal.sig) → Buf (Elt Ideal) ℓ) (g : Dev Cert.R2Ideal.nD → PrngReg), Pre_R2Ideal m →
    θ_run (Cert.R2Ideal.defs (F := Ideal)) (onTc (τ := Cert.R2Ideal.τ) (Cert.R2Ideal.main (F := Ideal))) ⟨m, fun _ => 0, g⟩ (fun r => (∀ c : Dev Cert.R2Ideal.nD,
      r.2.mem ((c.tc : Thread Cert.R2Ideal.nD Cert.R2Ideal.τ).loc Cert.R2Ideal.main_arg0) = m ((c.tc : Thread Cert.R2Ideal.nD Cert.R2Ideal.τ).loc Cert.R2Ideal.main_arg0)
      ∧ r.2.mem ((c.tc : Thread Cert.R2Ideal.nD Cert.R2Ideal.τ).loc Cert.R2Ideal.main_arg1) = m ((c.tc : Thread Cert.R2Ideal.nD Cert.R2Ideal.τ).loc Cert.R2Ideal.main_arg1)
      ∧ r.2.mem ((c.tc : Thread Cert.R2Ideal.nD Cert.R2Ideal.τ).loc Cert.R2Ideal.main_arg2) = m ((c.tc : Thread Cert.R2Ideal.nD Cert.R2Ideal.τ).loc Cert.R2Ideal.main_arg2)
      ∧ r.2.mem ((c.tc : Thread Cert.R2Ideal.nD Cert.R2Ideal.τ).loc Cert.R2Ideal.main_arg3) = m ((c.tc : Thread Cert.R2Ideal.nD Cert.R2Ideal.τ).loc Cert.R2Ideal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1)
      ∧ r.2.mem ((c.tc : Thread Cert.Vals.nD Cert.Vals.τ).loc Cert.Vals.main_arg2) = m ((c.tc : Thread Cert.Vals.nD Cert.Vals.τ).loc Cert.Vals.main_arg2)
      ∧ r.2.mem ((c.tc : Thread Cert.Vals.nD Cert.Vals.τ).loc Cert.Vals.main_arg3) = m ((c.tc : Thread Cert.Vals.nD Cert.Vals.τ).loc Cert.Vals.main_arg3))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1)
      ∧ r.2.mem ((c.tc : Thread Cert.ValsIdeal.nD Cert.ValsIdeal.τ).loc Cert.ValsIdeal.main_arg2) = m ((c.tc : Thread Cert.ValsIdeal.nD Cert.ValsIdeal.τ).loc Cert.ValsIdeal.main_arg2)
      ∧ r.2.mem ((c.tc : Thread Cert.ValsIdeal.nD Cert.ValsIdeal.τ).loc Cert.ValsIdeal.main_arg3) = m ((c.tc : Thread Cert.ValsIdeal.nD Cert.ValsIdeal.τ).loc Cert.ValsIdeal.main_arg3))
      ∧ r.2.sem = fun _ => 0)

def quiescent_ValsRefIdeal [hValsRefIdeal : Cert.ValsRefIdeal.Facts] : Prop :=
  ∀ (m : (ℓ : Loc Cert.ValsRefIdeal.nD Cert.ValsRefIdeal.τ Cert.ValsRefIdeal.sig) → Buf (Elt Ideal) ℓ) (g : Dev Cert.ValsRefIdeal.nD → PrngReg), Pre_ValsRefIdeal m →
    θ_run (Cert.ValsRefIdeal.defs (F := Ideal)) (onTc (τ := Cert.ValsRefIdeal.τ) (Cert.ValsRefIdeal.main (F := Ideal))) ⟨m, fun _ => 0, g⟩ (fun r => (∀ c : Dev Cert.ValsRefIdeal.nD,
      r.2.mem ((c.tc : Thread Cert.ValsRefIdeal.nD Cert.ValsRefIdeal.τ).loc Cert.ValsRefIdeal.main_arg0) = m ((c.tc : Thread Cert.ValsRefIdeal.nD Cert.ValsRefIdeal.τ).loc Cert.ValsRefIdeal.main_arg0)
      ∧ r.2.mem ((c.tc : Thread Cert.ValsRefIdeal.nD Cert.ValsRefIdeal.τ).loc Cert.ValsRefIdeal.main_arg1) = m ((c.tc : Thread Cert.ValsRefIdeal.nD Cert.ValsRefIdeal.τ).loc Cert.ValsRefIdeal.main_arg1)
      ∧ r.2.mem ((c.tc : Thread Cert.ValsRefIdeal.nD Cert.ValsRefIdeal.τ).loc Cert.ValsRefIdeal.main_arg2) = m ((c.tc : Thread Cert.ValsRefIdeal.nD Cert.ValsRefIdeal.τ).loc Cert.ValsRefIdeal.main_arg2)
      ∧ r.2.mem ((c.tc : Thread Cert.ValsRefIdeal.nD Cert.ValsRefIdeal.τ).loc Cert.ValsRefIdeal.main_arg3) = m ((c.tc : Thread Cert.ValsRefIdeal.nD Cert.ValsRefIdeal.τ).loc Cert.ValsRefIdeal.main_arg3))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1)
      ∧ r.2.mem ((c.tc : Thread Cert.Rot.nD Cert.Rot.τ).loc Cert.Rot.main_arg2) = m ((c.tc : Thread Cert.Rot.nD Cert.Rot.τ).loc Cert.Rot.main_arg2)
      ∧ r.2.mem ((c.tc : Thread Cert.Rot.nD Cert.Rot.τ).loc Cert.Rot.main_arg3) = m ((c.tc : Thread Cert.Rot.nD Cert.Rot.τ).loc Cert.Rot.main_arg3)
      ∧ r.2.mem ((c.tc : Thread Cert.Rot.nD Cert.Rot.τ).loc Cert.Rot.main_arg4) = m ((c.tc : Thread Cert.Rot.nD Cert.Rot.τ).loc Cert.Rot.main_arg4)
      ∧ r.2.mem ((c.tc : Thread Cert.Rot.nD Cert.Rot.τ).loc Cert.Rot.main_arg5) = m ((c.tc : Thread Cert.Rot.nD Cert.Rot.τ).loc Cert.Rot.main_arg5))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
      ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
      ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
      ∧ r.2.mem ((c.tc : Thread Cert.RotIdeal.nD Cert.RotIdeal.τ).loc Cert.RotIdeal.main_arg5) = m ((c.tc : Thread Cert.RotIdeal.nD Cert.RotIdeal.τ).loc Cert.RotIdeal.main_arg5))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2)
      ∧ r.2.mem ((c.tc : Thread Cert.RotRefIdeal.nD Cert.RotRefIdeal.τ).loc Cert.RotRefIdeal.main_arg3) = m ((c.tc : Thread Cert.RotRefIdeal.nD Cert.RotRefIdeal.τ).loc Cert.RotRefIdeal.main_arg3)
      ∧ r.2.mem ((c.tc : Thread Cert.RotRefIdeal.nD Cert.RotRefIdeal.τ).loc Cert.RotRefIdeal.main_arg4) = m ((c.tc : Thread Cert.RotRefIdeal.nD Cert.RotRefIdeal.τ).loc Cert.RotRefIdeal.main_arg4)
      ∧ r.2.mem ((c.tc : Thread Cert.RotRefIdeal.nD Cert.RotRefIdeal.τ).loc Cert.RotRefIdeal.main_arg5) = m ((c.tc : Thread Cert.RotRefIdeal.nD Cert.RotRefIdeal.τ).loc Cert.RotRefIdeal.main_arg5))
      ∧ r.2.sem = fun _ => 0)

def quiescent_Moe [hMoe : Cert.Moe.Facts] [hPre_experts_named : Cert.Pre_experts_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_experts_named [hMoeRefIdeal : Cert.MoeRefIdeal.Facts] [hPre_experts_named : Cert.Pre_experts_named.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_named m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def preserves_D0_D0Ideal : Prop :=
  True

def algebraic_D0Ideal_R0Ideal [hD0Ideal : Cert.D0Ideal.Facts] [hR0Ideal : Cert.R0Ideal.Facts] : Prop :=
  ∀ (m : (ℓ : Loc Cert.D0Ideal.nD Cert.D0Ideal.τ Cert.D0Ideal.sig) → Buf (Elt Ideal) ℓ) (g : Dev Cert.D0Ideal.nD → PrngReg)
    (m' : (ℓ : Loc Cert.R0Ideal.nD Cert.R0Ideal.τ Cert.R0Ideal.sig) → Buf (Elt Ideal) ℓ) (g' : Dev Cert.R0Ideal.nD → PrngReg), Pre_D0Ideal m →
    (∀ c : Dev Cert.D0Ideal.nD,
      m' ((c.tc : Thread Cert.R0Ideal.nD Cert.R0Ideal.τ).loc Cert.R0Ideal.main_arg0) = m ((c.tc : Thread Cert.D0Ideal.nD Cert.D0Ideal.τ).loc Cert.D0Ideal.main_arg0)
      ∧ m' ((c.tc : Thread Cert.R0Ideal.nD Cert.R0Ideal.τ).loc Cert.R0Ideal.main_arg1) = m ((c.tc : Thread Cert.D0Ideal.nD Cert.D0Ideal.τ).loc Cert.D0Ideal.main_arg1)
      ∧ m' ((c.tc : Thread Cert.R0Ideal.nD Cert.R0Ideal.τ).loc Cert.R0Ideal.main_arg2) = m ((c.tc : Thread Cert.D0Ideal.nD Cert.D0Ideal.τ).loc Cert.D0Ideal.main_arg2)
      ∧ m' ((c.tc : Thread Cert.R0Ideal.nD Cert.R0Ideal.τ).loc Cert.R0Ideal.main_arg3) = m ((c.tc : Thread Cert.D0Ideal.nD Cert.D0Ideal.τ).loc Cert.D0Ideal.main_arg3)) →
    ∃ (v0 : (c : Dev Cert.D0Ideal.nD) → Buf (Elt Ideal) ((c.tc : Thread Cert.D0Ideal.nD Cert.D0Ideal.τ).loc Cert.D0Ideal.main_v3_0)) (v1 : (c : Dev Cert.D0Ideal.nD) → Buf (Elt Ideal) ((c.tc : Thread Cert.D0Ideal.nD Cert.D0Ideal.τ).loc Cert.D0Ideal.main_v3_1)) (v2 : (c : Dev Cert.D0Ideal.nD) → Buf (Elt Ideal) ((c.tc : Thread Cert.D0Ideal.nD Cert.D0Ideal.τ).loc Cert.D0Ideal.main_v3_2)) (v3 : (c : Dev Cert.D0Ideal.nD) → Buf (Elt Ideal) ((c.tc : Thread Cert.D0Ideal.nD Cert.D0Ideal.τ).loc Cert.D0Ideal.main_v3_3)) (v4 : (c : Dev Cert.D0Ideal.nD) → Buf (Elt Ideal) ((c.tc : Thread Cert.D0Ideal.nD Cert.D0Ideal.τ).loc Cert.D0Ideal.main_v3_4)),
      θ_run (Cert.D0Ideal.defs (F := Ideal)) (onTc (τ := Cert.D0Ideal.τ) (Cert.D0Ideal.main (F := Ideal))) ⟨m, fun _ => 0, g⟩ (fun r => ∀ c : Dev Cert.D0Ideal.nD,
          r.2.mem ((c.tc : Thread Cert.D0Ideal.nD Cert.D0Ideal.τ).loc Cert.D0Ideal.main_v3_0) = v0 c
          ∧ r.2.mem ((c.tc : Thread Cert.D0Ideal.nD Cert.D0Ideal.τ).loc Cert.D0Ideal.main_v3_1) = v1 c
          ∧ r.2.mem ((c.tc : Thread Cert.D0Ideal.nD Cert.D0Ideal.τ).loc Cert.D0Ideal.main_v3_2) = v2 c
          ∧ r.2.mem ((c.tc : Thread Cert.D0Ideal.nD Cert.D0Ideal.τ).loc Cert.D0Ideal.main_v3_3) = v3 c
          ∧ r.2.mem ((c.tc : Thread Cert.D0Ideal.nD Cert.D0Ideal.τ).loc Cert.D0Ideal.main_v3_4) = v4 c
          ∧ r.2.mem ((c.tc : Thread Cert.D0Ideal.nD Cert.D0Ideal.τ).loc Cert.D0Ideal.main_arg0) = m ((c.tc : Thread Cert.D0Ideal.nD Cert.D0Ideal.τ).loc Cert.D0Ideal.main_arg0)
          ∧ r.2.mem ((c.tc : Thread Cert.D0Ideal.nD Cert.D0Ideal.τ).loc Cert.D0Ideal.main_arg1) = m ((c.tc : Thread Cert.D0Ideal.nD Cert.D0Ideal.τ).loc Cert.D0Ideal.main_arg1)
          ∧ r.2.mem ((c.tc : Thread Cert.D0Ideal.nD Cert.D0Ideal.τ).loc Cert.D0Ideal.main_arg2) = m ((c.tc : Thread Cert.D0Ideal.nD Cert.D0Ideal.τ).loc Cert.D0Ideal.main_arg2)
          ∧ r.2.mem ((c.tc : Thread Cert.D0Ideal.nD Cert.D0Ideal.τ).loc Cert.D0Ideal.main_arg3) = m ((c.tc : Thread Cert.D0Ideal.nD Cert.D0Ideal.τ).loc Cert.D0Ideal.main_arg3))
      ∧ θ_run (Cert.R0Ideal.defs (F := Ideal)) (onTc (τ := Cert.R0Ideal.τ) (Cert.R0Ideal.main (F := Ideal))) ⟨m', fun _ => 0, g'⟩ (fun r => ∀ c : Dev Cert.R0Ideal.nD,
          r.2.mem ((c.tc : Thread Cert.R0Ideal.nD Cert.R0Ideal.τ).loc Cert.R0Ideal.main_v41) = v0 c
          ∧ r.2.mem ((c.tc : Thread Cert.R0Ideal.nD Cert.R0Ideal.τ).loc Cert.R0Ideal.main_v45) = v1 c
          ∧ r.2.mem ((c.tc : Thread Cert.R0Ideal.nD Cert.R0Ideal.τ).loc Cert.R0Ideal.main_v49) = v2 c
          ∧ r.2.mem ((c.tc : Thread Cert.R0Ideal.nD Cert.R0Ideal.τ).loc Cert.R0Ideal.main_v51) = v3 c
          ∧ r.2.mem ((c.tc : Thread Cert.R0Ideal.nD Cert.R0Ideal.τ).loc Cert.R0Ideal.main_v53) = v4 c
          ∧ r.2.mem ((c.tc : Thread Cert.R0Ideal.nD Cert.R0Ideal.τ).loc Cert.R0Ideal.main_arg0) = m' ((c.tc : Thread Cert.R0Ideal.nD Cert.R0Ideal.τ).loc Cert.R0Ideal.main_arg0)
          ∧ r.2.mem ((c.tc : Thread Cert.R0Ideal.nD Cert.R0Ideal.τ).loc Cert.R0Ideal.main_arg1) = m' ((c.tc : Thread Cert.R0Ideal.nD Cert.R0Ideal.τ).loc Cert.R0Ideal.main_arg1)
          ∧ r.2.mem ((c.tc : Thread Cert.R0Ideal.nD Cert.R0Ideal.τ).loc Cert.R0Ideal.main_arg2) = m' ((c.tc : Thread Cert.R0Ideal.nD Cert.R0Ideal.τ).loc Cert.R0Ideal.main_arg2)
          ∧ r.2.mem ((c.tc : Thread Cert.R0Ideal.nD Cert.R0Ideal.τ).loc Cert.R0Ideal.main_arg3) = m' ((c.tc : Thread Cert.R0Ideal.nD Cert.R0Ideal.τ).loc Cert.R0Ideal.main_arg3))

def preserves_D1_D1Ideal : Prop :=
  True

def algebraic_D1Ideal_R1Ideal [hD1Ideal : Cert.D1Ideal.Facts] [hR1Ideal : Cert.R1Ideal.Facts] : Prop :=
  ∀ (m : (ℓ : Loc Cert.D1Ideal.nD Cert.D1Ideal.τ Cert.D1Ideal.sig) → Buf (Elt Ideal) ℓ) (g : Dev Cert.D1Ideal.nD → PrngReg)
    (m' : (ℓ : Loc Cert.R1Ideal.nD Cert.R1Ideal.τ Cert.R1Ideal.sig) → Buf (Elt Ideal) ℓ) (g' : Dev Cert.R1Ideal.nD → PrngReg), Pre_D1Ideal m →
    (∀ c : Dev Cert.D1Ideal.nD,
      m' ((c.tc : Thread Cert.R1Ideal.nD Cert.R1Ideal.τ).loc Cert.R1Ideal.main_arg0) = m ((c.tc : Thread Cert.D1Ideal.nD Cert.D1Ideal.τ).loc Cert.D1Ideal.main_arg0)
      ∧ m' ((c.tc : Thread Cert.R1Ideal.nD Cert.R1Ideal.τ).loc Cert.R1Ideal.main_arg1) = m ((c.tc : Thread Cert.D1Ideal.nD Cert.D1Ideal.τ).loc Cert.D1Ideal.main_arg1)
      ∧ m' ((c.tc : Thread Cert.R1Ideal.nD Cert.R1Ideal.τ).loc Cert.R1Ideal.main_arg2) = m ((c.tc : Thread Cert.D1Ideal.nD Cert.D1Ideal.τ).loc Cert.D1Ideal.main_arg2)
      ∧ m' ((c.tc : Thread Cert.R1Ideal.nD Cert.R1Ideal.τ).loc Cert.R1Ideal.main_arg3) = m ((c.tc : Thread Cert.D1Ideal.nD Cert.D1Ideal.τ).loc Cert.D1Ideal.main_arg3)) →
    ∃ (v0 : (c : Dev Cert.D1Ideal.nD) → Buf (Elt Ideal) ((c.tc : Thread Cert.D1Ideal.nD Cert.D1Ideal.τ).loc Cert.D1Ideal.main_v3_0)) (v1 : (c : Dev Cert.D1Ideal.nD) → Buf (Elt Ideal) ((c.tc : Thread Cert.D1Ideal.nD Cert.D1Ideal.τ).loc Cert.D1Ideal.main_v3_1)) (v2 : (c : Dev Cert.D1Ideal.nD) → Buf (Elt Ideal) ((c.tc : Thread Cert.D1Ideal.nD Cert.D1Ideal.τ).loc Cert.D1Ideal.main_v3_2)) (v3 : (c : Dev Cert.D1Ideal.nD) → Buf (Elt Ideal) ((c.tc : Thread Cert.D1Ideal.nD Cert.D1Ideal.τ).loc Cert.D1Ideal.main_v3_3)) (v4 : (c : Dev Cert.D1Ideal.nD) → Buf (Elt Ideal) ((c.tc : Thread Cert.D1Ideal.nD Cert.D1Ideal.τ).loc Cert.D1Ideal.main_v3_4)),
      θ_run (Cert.D1Ideal.defs (F := Ideal)) (onTc (τ := Cert.D1Ideal.τ) (Cert.D1Ideal.main (F := Ideal))) ⟨m, fun _ => 0, g⟩ (fun r => ∀ c : Dev Cert.D1Ideal.nD,
          r.2.mem ((c.tc : Thread Cert.D1Ideal.nD Cert.D1Ideal.τ).loc Cert.D1Ideal.main_v3_0) = v0 c
          ∧ r.2.mem ((c.tc : Thread Cert.D1Ideal.nD Cert.D1Ideal.τ).loc Cert.D1Ideal.main_v3_1) = v1 c
          ∧ r.2.mem ((c.tc : Thread Cert.D1Ideal.nD Cert.D1Ideal.τ).loc Cert.D1Ideal.main_v3_2) = v2 c
          ∧ r.2.mem ((c.tc : Thread Cert.D1Ideal.nD Cert.D1Ideal.τ).loc Cert.D1Ideal.main_v3_3) = v3 c
          ∧ r.2.mem ((c.tc : Thread Cert.D1Ideal.nD Cert.D1Ideal.τ).loc Cert.D1Ideal.main_v3_4) = v4 c
          ∧ r.2.mem ((c.tc : Thread Cert.D1Ideal.nD Cert.D1Ideal.τ).loc Cert.D1Ideal.main_arg0) = m ((c.tc : Thread Cert.D1Ideal.nD Cert.D1Ideal.τ).loc Cert.D1Ideal.main_arg0)
          ∧ r.2.mem ((c.tc : Thread Cert.D1Ideal.nD Cert.D1Ideal.τ).loc Cert.D1Ideal.main_arg1) = m ((c.tc : Thread Cert.D1Ideal.nD Cert.D1Ideal.τ).loc Cert.D1Ideal.main_arg1)
          ∧ r.2.mem ((c.tc : Thread Cert.D1Ideal.nD Cert.D1Ideal.τ).loc Cert.D1Ideal.main_arg2) = m ((c.tc : Thread Cert.D1Ideal.nD Cert.D1Ideal.τ).loc Cert.D1Ideal.main_arg2)
          ∧ r.2.mem ((c.tc : Thread Cert.D1Ideal.nD Cert.D1Ideal.τ).loc Cert.D1Ideal.main_arg3) = m ((c.tc : Thread Cert.D1Ideal.nD Cert.D1Ideal.τ).loc Cert.D1Ideal.main_arg3))
      ∧ θ_run (Cert.R1Ideal.defs (F := Ideal)) (onTc (τ := Cert.R1Ideal.τ) (Cert.R1Ideal.main (F := Ideal))) ⟨m', fun _ => 0, g'⟩ (fun r => ∀ c : Dev Cert.R1Ideal.nD,
          r.2.mem ((c.tc : Thread Cert.R1Ideal.nD Cert.R1Ideal.τ).loc Cert.R1Ideal.main_v41) = v0 c
          ∧ r.2.mem ((c.tc : Thread Cert.R1Ideal.nD Cert.R1Ideal.τ).loc Cert.R1Ideal.main_v45) = v1 c
          ∧ r.2.mem ((c.tc : Thread Cert.R1Ideal.nD Cert.R1Ideal.τ).loc Cert.R1Ideal.main_v49) = v2 c
          ∧ r.2.mem ((c.tc : Thread Cert.R1Ideal.nD Cert.R1Ideal.τ).loc Cert.R1Ideal.main_v51) = v3 c
          ∧ r.2.mem ((c.tc : Thread Cert.R1Ideal.nD Cert.R1Ideal.τ).loc Cert.R1Ideal.main_v53) = v4 c
          ∧ r.2.mem ((c.tc : Thread Cert.R1Ideal.nD Cert.R1Ideal.τ).loc Cert.R1Ideal.main_arg0) = m' ((c.tc : Thread Cert.R1Ideal.nD Cert.R1Ideal.τ).loc Cert.R1Ideal.main_arg0)
          ∧ r.2.mem ((c.tc : Thread Cert.R1Ideal.nD Cert.R1Ideal.τ).loc Cert.R1Ideal.main_arg1) = m' ((c.tc : Thread Cert.R1Ideal.nD Cert.R1Ideal.τ).loc Cert.R1Ideal.main_arg1)
          ∧ r.2.mem ((c.tc : Thread Cert.R1Ideal.nD Cert.R1Ideal.τ).loc Cert.R1Ideal.main_arg2) = m' ((c.tc : Thread Cert.R1Ideal.nD Cert.R1Ideal.τ).loc Cert.R1Ideal.main_arg2)
          ∧ r.2.mem ((c.tc : Thread Cert.R1Ideal.nD Cert.R1Ideal.τ).loc Cert.R1Ideal.main_arg3) = m' ((c.tc : Thread Cert.R1Ideal.nD Cert.R1Ideal.τ).loc Cert.R1Ideal.main_arg3))

def preserves_D2_D2Ideal : Prop :=
  True

def algebraic_D2Ideal_R2Ideal [hD2Ideal : Cert.D2Ideal.Facts] [hR2Ideal : Cert.R2Ideal.Facts] : Prop :=
  ∀ (m : (ℓ : Loc Cert.D2Ideal.nD Cert.D2Ideal.τ Cert.D2Ideal.sig) → Buf (Elt Ideal) ℓ) (g : Dev Cert.D2Ideal.nD → PrngReg)
    (m' : (ℓ : Loc Cert.R2Ideal.nD Cert.R2Ideal.τ Cert.R2Ideal.sig) → Buf (Elt Ideal) ℓ) (g' : Dev Cert.R2Ideal.nD → PrngReg), Pre_D2Ideal m →
    (∀ c : Dev Cert.D2Ideal.nD,
      m' ((c.tc : Thread Cert.R2Ideal.nD Cert.R2Ideal.τ).loc Cert.R2Ideal.main_arg0) = m ((c.tc : Thread Cert.D2Ideal.nD Cert.D2Ideal.τ).loc Cert.D2Ideal.main_arg0)
      ∧ m' ((c.tc : Thread Cert.R2Ideal.nD Cert.R2Ideal.τ).loc Cert.R2Ideal.main_arg1) = m ((c.tc : Thread Cert.D2Ideal.nD Cert.D2Ideal.τ).loc Cert.D2Ideal.main_arg1)
      ∧ m' ((c.tc : Thread Cert.R2Ideal.nD Cert.R2Ideal.τ).loc Cert.R2Ideal.main_arg2) = m ((c.tc : Thread Cert.D2Ideal.nD Cert.D2Ideal.τ).loc Cert.D2Ideal.main_arg2)
      ∧ m' ((c.tc : Thread Cert.R2Ideal.nD Cert.R2Ideal.τ).loc Cert.R2Ideal.main_arg3) = m ((c.tc : Thread Cert.D2Ideal.nD Cert.D2Ideal.τ).loc Cert.D2Ideal.main_arg3)) →
    ∃ (v0 : (c : Dev Cert.D2Ideal.nD) → Buf (Elt Ideal) ((c.tc : Thread Cert.D2Ideal.nD Cert.D2Ideal.τ).loc Cert.D2Ideal.main_v3_0)) (v1 : (c : Dev Cert.D2Ideal.nD) → Buf (Elt Ideal) ((c.tc : Thread Cert.D2Ideal.nD Cert.D2Ideal.τ).loc Cert.D2Ideal.main_v3_1)) (v2 : (c : Dev Cert.D2Ideal.nD) → Buf (Elt Ideal) ((c.tc : Thread Cert.D2Ideal.nD Cert.D2Ideal.τ).loc Cert.D2Ideal.main_v3_2)) (v3 : (c : Dev Cert.D2Ideal.nD) → Buf (Elt Ideal) ((c.tc : Thread Cert.D2Ideal.nD Cert.D2Ideal.τ).loc Cert.D2Ideal.main_v3_3)) (v4 : (c : Dev Cert.D2Ideal.nD) → Buf (Elt Ideal) ((c.tc : Thread Cert.D2Ideal.nD Cert.D2Ideal.τ).loc Cert.D2Ideal.main_v3_4)),
      θ_run (Cert.D2Ideal.defs (F := Ideal)) (onTc (τ := Cert.D2Ideal.τ) (Cert.D2Ideal.main (F := Ideal))) ⟨m, fun _ => 0, g⟩ (fun r => ∀ c : Dev Cert.D2Ideal.nD,
          r.2.mem ((c.tc : Thread Cert.D2Ideal.nD Cert.D2Ideal.τ).loc Cert.D2Ideal.main_v3_0) = v0 c
          ∧ r.2.mem ((c.tc : Thread Cert.D2Ideal.nD Cert.D2Ideal.τ).loc Cert.D2Ideal.main_v3_1) = v1 c
          ∧ r.2.mem ((c.tc : Thread Cert.D2Ideal.nD Cert.D2Ideal.τ).loc Cert.D2Ideal.main_v3_2) = v2 c
          ∧ r.2.mem ((c.tc : Thread Cert.D2Ideal.nD Cert.D2Ideal.τ).loc Cert.D2Ideal.main_v3_3) = v3 c
          ∧ r.2.mem ((c.tc : Thread Cert.D2Ideal.nD Cert.D2Ideal.τ).loc Cert.D2Ideal.main_v3_4) = v4 c
          ∧ r.2.mem ((c.tc : Thread Cert.D2Ideal.nD Cert.D2Ideal.τ).loc Cert.D2Ideal.main_arg0) = m ((c.tc : Thread Cert.D2Ideal.nD Cert.D2Ideal.τ).loc Cert.D2Ideal.main_arg0)
          ∧ r.2.mem ((c.tc : Thread Cert.D2Ideal.nD Cert.D2Ideal.τ).loc Cert.D2Ideal.main_arg1) = m ((c.tc : Thread Cert.D2Ideal.nD Cert.D2Ideal.τ).loc Cert.D2Ideal.main_arg1)
          ∧ r.2.mem ((c.tc : Thread Cert.D2Ideal.nD Cert.D2Ideal.τ).loc Cert.D2Ideal.main_arg2) = m ((c.tc : Thread Cert.D2Ideal.nD Cert.D2Ideal.τ).loc Cert.D2Ideal.main_arg2)
          ∧ r.2.mem ((c.tc : Thread Cert.D2Ideal.nD Cert.D2Ideal.τ).loc Cert.D2Ideal.main_arg3) = m ((c.tc : Thread Cert.D2Ideal.nD Cert.D2Ideal.τ).loc Cert.D2Ideal.main_arg3))
      ∧ θ_run (Cert.R2Ideal.defs (F := Ideal)) (onTc (τ := Cert.R2Ideal.τ) (Cert.R2Ideal.main (F := Ideal))) ⟨m', fun _ => 0, g'⟩ (fun r => ∀ c : Dev Cert.R2Ideal.nD,
          r.2.mem ((c.tc : Thread Cert.R2Ideal.nD Cert.R2Ideal.τ).loc Cert.R2Ideal.main_v41) = v0 c
          ∧ r.2.mem ((c.tc : Thread Cert.R2Ideal.nD Cert.R2Ideal.τ).loc Cert.R2Ideal.main_v45) = v1 c
          ∧ r.2.mem ((c.tc : Thread Cert.R2Ideal.nD Cert.R2Ideal.τ).loc Cert.R2Ideal.main_v49) = v2 c
          ∧ r.2.mem ((c.tc : Thread Cert.R2Ideal.nD Cert.R2Ideal.τ).loc Cert.R2Ideal.main_v51) = v3 c
          ∧ r.2.mem ((c.tc : Thread Cert.R2Ideal.nD Cert.R2Ideal.τ).loc Cert.R2Ideal.main_v53) = v4 c
          ∧ r.2.mem ((c.tc : Thread Cert.R2Ideal.nD Cert.R2Ideal.τ).loc Cert.R2Ideal.main_arg0) = m' ((c.tc : Thread Cert.R2Ideal.nD Cert.R2Ideal.τ).loc Cert.R2Ideal.main_arg0)
          ∧ r.2.mem ((c.tc : Thread Cert.R2Ideal.nD Cert.R2Ideal.τ).loc Cert.R2Ideal.main_arg1) = m' ((c.tc : Thread Cert.R2Ideal.nD Cert.R2Ideal.τ).loc Cert.R2Ideal.main_arg1)
          ∧ r.2.mem ((c.tc : Thread Cert.R2Ideal.nD Cert.R2Ideal.τ).loc Cert.R2Ideal.main_arg2) = m' ((c.tc : Thread Cert.R2Ideal.nD Cert.R2Ideal.τ).loc Cert.R2Ideal.main_arg2)
          ∧ r.2.mem ((c.tc : Thread Cert.R2Ideal.nD Cert.R2Ideal.τ).loc Cert.R2Ideal.main_arg3) = m' ((c.tc : Thread Cert.R2Ideal.nD Cert.R2Ideal.τ).loc Cert.R2Ideal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v2_0)) (v1 : (c : Dev Cert.GatesIdeal.nD) → Buf (Elt Ideal) ((c.tc : Thread Cert.GatesIdeal.nD Cert.GatesIdeal.τ).loc Cert.GatesIdeal.main_v2_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v2_0) = v0 c
          ∧ r.2.mem ((c.tc : Thread Cert.GatesIdeal.nD Cert.GatesIdeal.τ).loc Cert.GatesIdeal.main_v2_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v9) = v0 c
          ∧ r.2.mem ((c.tc : Thread Cert.GatesRefIdeal.nD Cert.GatesRefIdeal.τ).loc Cert.GatesRefIdeal.main_v12) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_Vals_ValsIdeal : Prop :=
  True

def algebraic_ValsIdeal_ValsRefIdeal [hValsIdeal : Cert.ValsIdeal.Facts] [hValsRefIdeal : Cert.ValsRefIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsRefIdeal.nD Cert.ValsRefIdeal.τ Cert.ValsRefIdeal.sig) → Buf (Elt Ideal) ℓ) (g' : Dev Cert.ValsRefIdeal.nD → PrngReg), Pre_ValsIdeal m →
    (∀ c : Dev Cert.ValsIdeal.nD,
      m' ((c.tc : Thread Cert.ValsRefIdeal.nD Cert.ValsRefIdeal.τ).loc Cert.ValsRefIdeal.main_arg0) = m ((c.tc : Thread Cert.ValsIdeal.nD Cert.ValsIdeal.τ).loc Cert.ValsIdeal.main_arg0)
      ∧ m' ((c.tc : Thread Cert.ValsRefIdeal.nD Cert.ValsRefIdeal.τ).loc Cert.ValsRefIdeal.main_arg1) = m ((c.tc : Thread Cert.ValsIdeal.nD Cert.ValsIdeal.τ).loc Cert.ValsIdeal.main_arg1)
      ∧ m' ((c.tc : Thread Cert.ValsRefIdeal.nD Cert.ValsRefIdeal.τ).loc Cert.ValsRefIdeal.main_arg2) = m ((c.tc : Thread Cert.ValsIdeal.nD Cert.ValsIdeal.τ).loc Cert.ValsIdeal.main_arg2)
      ∧ m' ((c.tc : Thread Cert.ValsRefIdeal.nD Cert.ValsRefIdeal.τ).loc Cert.ValsRefIdeal.main_arg3) = m ((c.tc : Thread Cert.ValsIdeal.nD Cert.ValsIdeal.τ).loc Cert.ValsIdeal.main_arg3)) →
    ∃ (v0 : (c : Dev Cert.ValsIdeal.nD) → Buf (Elt Ideal) ((c.tc : Thread Cert.ValsIdeal.nD Cert.ValsIdeal.τ).loc Cert.ValsIdeal.main_v2_0)) (v1 : (c : Dev Cert.ValsIdeal.nD) → Buf (Elt Ideal) ((c.tc : Thread Cert.ValsIdeal.nD Cert.ValsIdeal.τ).loc Cert.ValsIdeal.main_v2_1)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v2_0) = v0 c
          ∧ r.2.mem ((c.tc : Thread Cert.ValsIdeal.nD Cert.ValsIdeal.τ).loc Cert.ValsIdeal.main_v2_1) = v1 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1)
          ∧ r.2.mem ((c.tc : Thread Cert.ValsIdeal.nD Cert.ValsIdeal.τ).loc Cert.ValsIdeal.main_arg2) = m ((c.tc : Thread Cert.ValsIdeal.nD Cert.ValsIdeal.τ).loc Cert.ValsIdeal.main_arg2)
          ∧ r.2.mem ((c.tc : Thread Cert.ValsIdeal.nD Cert.ValsIdeal.τ).loc Cert.ValsIdeal.main_arg3) = m ((c.tc : Thread Cert.ValsIdeal.nD Cert.ValsIdeal.τ).loc Cert.ValsIdeal.main_arg3))
      ∧ θ_run (Cert.ValsRefIdeal.defs (F := Ideal)) (onTc (τ := Cert.ValsRefIdeal.τ) (Cert.ValsRefIdeal.main (F := Ideal))) ⟨m', fun _ => 0, g'⟩ (fun r => ∀ c : Dev Cert.ValsRefIdeal.nD,
          r.2.mem ((c.tc : Thread Cert.ValsRefIdeal.nD Cert.ValsRefIdeal.τ).loc Cert.ValsRefIdeal.main_v9) = v0 c
          ∧ r.2.mem ((c.tc : Thread Cert.ValsRefIdeal.nD Cert.ValsRefIdeal.τ).loc Cert.ValsRefIdeal.main_v10) = v1 c
          ∧ r.2.mem ((c.tc : Thread Cert.ValsRefIdeal.nD Cert.ValsRefIdeal.τ).loc Cert.ValsRefIdeal.main_arg0) = m' ((c.tc : Thread Cert.ValsRefIdeal.nD Cert.ValsRefIdeal.τ).loc Cert.ValsRefIdeal.main_arg0)
          ∧ r.2.mem ((c.tc : Thread Cert.ValsRefIdeal.nD Cert.ValsRefIdeal.τ).loc Cert.ValsRefIdeal.main_arg1) = m' ((c.tc : Thread Cert.ValsRefIdeal.nD Cert.ValsRefIdeal.τ).loc Cert.ValsRefIdeal.main_arg1)
          ∧ r.2.mem ((c.tc : Thread Cert.ValsRefIdeal.nD Cert.ValsRefIdeal.τ).loc Cert.ValsRefIdeal.main_arg2) = m' ((c.tc : Thread Cert.ValsRefIdeal.nD Cert.ValsRefIdeal.τ).loc Cert.ValsRefIdeal.main_arg2)
          ∧ r.2.mem ((c.tc : Thread Cert.ValsRefIdeal.nD Cert.ValsRefIdeal.τ).loc Cert.ValsRefIdeal.main_arg3) = m' ((c.tc : Thread Cert.ValsRefIdeal.nD Cert.ValsRefIdeal.τ).loc Cert.ValsRefIdeal.main_arg3))

def preserves_Rot_RotIdeal : Prop :=
  True

def algebraic_RotIdeal_RotRefIdeal [hRotIdeal : Cert.RotIdeal.Facts] [hRotRefIdeal : Cert.RotRefIdeal.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)
      ∧ m' ((c.tc : Thread Cert.RotRefIdeal.nD Cert.RotRefIdeal.τ).loc Cert.RotRefIdeal.main_arg2) = m ((c.tc : Thread Cert.RotIdeal.nD Cert.RotIdeal.τ).loc Cert.RotIdeal.main_arg2)
      ∧ m' ((c.tc : Thread Cert.RotRefIdeal.nD Cert.RotRefIdeal.τ).loc Cert.RotRefIdeal.main_arg3) = m ((c.tc : Thread Cert.RotIdeal.nD Cert.RotIdeal.τ).loc Cert.RotIdeal.main_arg3)
      ∧ m' ((c.tc : Thread Cert.RotRefIdeal.nD Cert.RotRefIdeal.τ).loc Cert.RotRefIdeal.main_arg4) = m ((c.tc : Thread Cert.RotIdeal.nD Cert.RotIdeal.τ).loc Cert.RotIdeal.main_arg4)
      ∧ m' ((c.tc : Thread Cert.RotRefIdeal.nD Cert.RotRefIdeal.τ).loc Cert.RotRefIdeal.main_arg5) = m ((c.tc : Thread Cert.RotIdeal.nD Cert.RotIdeal.τ).loc Cert.RotIdeal.main_arg5)) →
    ∃ (v0 : (c : Dev Cert.RotIdeal.nD) → Buf (Elt Ideal) ((c.tc : Thread Cert.RotIdeal.nD Cert.RotIdeal.τ).loc Cert.RotIdeal.main_v16_0)) (v1 : (c : Dev Cert.RotIdeal.nD) → Buf (Elt Ideal) ((c.tc : Thread Cert.RotIdeal.nD Cert.RotIdeal.τ).loc Cert.RotIdeal.main_v16_1)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v16_0) = v0 c
          ∧ r.2.mem ((c.tc : Thread Cert.RotIdeal.nD Cert.RotIdeal.τ).loc Cert.RotIdeal.main_v16_1) = v1 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
          ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
          ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
          ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
          ∧ r.2.mem ((c.tc : Thread Cert.RotIdeal.nD Cert.RotIdeal.τ).loc Cert.RotIdeal.main_arg5) = m ((c.tc : Thread Cert.RotIdeal.nD Cert.RotIdeal.τ).loc Cert.RotIdeal.main_arg5))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v25) = v0 c
          ∧ r.2.mem ((c.tc : Thread Cert.RotRefIdeal.nD Cert.RotRefIdeal.τ).loc Cert.RotRefIdeal.main_v28) = v1 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2)
          ∧ r.2.mem ((c.tc : Thread Cert.RotRefIdeal.nD Cert.RotRefIdeal.τ).loc Cert.RotRefIdeal.main_arg3) = m' ((c.tc : Thread Cert.RotRefIdeal.nD Cert.RotRefIdeal.τ).loc Cert.RotRefIdeal.main_arg3)
          ∧ r.2.mem ((c.tc : Thread Cert.RotRefIdeal.nD Cert.RotRefIdeal.τ).loc Cert.RotRefIdeal.main_arg4) = m' ((c.tc : Thread Cert.RotRefIdeal.nD Cert.RotRefIdeal.τ).loc Cert.RotRefIdeal.main_arg4)
          ∧ r.2.mem ((c.tc : Thread Cert.RotRefIdeal.nD Cert.RotRefIdeal.τ).loc Cert.RotRefIdeal.main_arg5) = m' ((c.tc : Thread Cert.RotRefIdeal.nD Cert.RotRefIdeal.τ).loc Cert.RotRefIdeal.main_arg5))

def preserves_Moe_MoeIdeal : Prop :=
  True

def algebraic_MoeIdeal_MoeRefIdeal [hMoeIdeal : Cert.MoeIdeal.Facts] [hMoeRefIdeal : Cert.MoeRefIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v85) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def Claim : Prop :=
  ∃ (hD0 : Cert.D0.Facts) (hD0Ideal : Cert.D0Ideal.Facts) (hR0Ideal : Cert.R0Ideal.Facts) (hD1 : Cert.D1.Facts) (hD1Ideal : Cert.D1Ideal.Facts) (hR1Ideal : Cert.R1Ideal.Facts) (hD2 : Cert.D2.Facts) (hD2Ideal : Cert.D2Ideal.Facts) (hR2Ideal : Cert.R2Ideal.Facts) (hGates : Cert.Gates.Facts) (hGatesIdeal : Cert.GatesIdeal.Facts) (hGatesRefIdeal : Cert.GatesRefIdeal.Facts) (hVals : Cert.Vals.Facts) (hValsIdeal : Cert.ValsIdeal.Facts) (hValsRefIdeal : Cert.ValsRefIdeal.Facts) (hRot : Cert.Rot.Facts) (hRotIdeal : Cert.RotIdeal.Facts) (hRotRefIdeal : Cert.RotRefIdeal.Facts) (hMoe : Cert.Moe.Facts) (hMoeIdeal : Cert.MoeIdeal.Facts) (hMoeRefIdeal : Cert.MoeRefIdeal.Facts) (hPre_experts_named : Cert.Pre_experts_named.Facts),
    quiescent_D0 (hD0 := hD0)
    ∧ quiescent_D0Ideal (hD0Ideal := hD0Ideal)
    ∧ quiescent_R0Ideal (hR0Ideal := hR0Ideal)
    ∧ quiescent_D1 (hD1 := hD1)
    ∧ quiescent_D1Ideal (hD1Ideal := hD1Ideal)
    ∧ quiescent_R1Ideal (hR1Ideal := hR1Ideal)
    ∧ quiescent_D2 (hD2 := hD2)
    ∧ quiescent_D2Ideal (hD2Ideal := hD2Ideal)
    ∧ quiescent_R2Ideal (hR2Ideal := hR2Ideal)
    ∧ quiescent_Gates (hGates := hGates)
    ∧ quiescent_GatesIdeal (hGatesIdeal := hGatesIdeal)
    ∧ quiescent_GatesRefIdeal (hGatesRefIdeal := hGatesRefIdeal)
    ∧ quiescent_Vals (hVals := hVals)
    ∧ quiescent_ValsIdeal (hValsIdeal := hValsIdeal)
    ∧ quiescent_ValsRefIdeal (hValsRefIdeal := hValsRefIdeal)
    ∧ quiescent_Rot (hRot := hRot)
    ∧ quiescent_RotIdeal (hRotIdeal := hRotIdeal)
    ∧ quiescent_RotRefIdeal (hRotRefIdeal := hRotRefIdeal)
    ∧ quiescent_Moe (hMoe := hMoe) (hPre_experts_named := hPre_experts_named)
    ∧ quiescent_MoeIdeal (hMoeIdeal := hMoeIdeal) (hPre_experts_named := hPre_experts_named)
    ∧ quiescent_MoeRefIdeal (hMoeRefIdeal := hMoeRefIdeal)
    ∧ quiescent_MoeRefIdeal_pre_experts_named (hMoeRefIdeal := hMoeRefIdeal) (hPre_experts_named := hPre_experts_named)
    ∧ preserves_D0_D0Ideal
    ∧ algebraic_D0Ideal_R0Ideal (hD0Ideal := hD0Ideal) (hR0Ideal := hR0Ideal)
    ∧ preserves_D1_D1Ideal
    ∧ algebraic_D1Ideal_R1Ideal (hD1Ideal := hD1Ideal) (hR1Ideal := hR1Ideal)
    ∧ preserves_D2_D2Ideal
    ∧ algebraic_D2Ideal_R2Ideal (hD2Ideal := hD2Ideal) (hR2Ideal := hR2Ideal)
    ∧ preserves_Gates_GatesIdeal
    ∧ algebraic_GatesIdeal_GatesRefIdeal (hGatesIdeal := hGatesIdeal) (hGatesRefIdeal := hGatesRefIdeal)
    ∧ preserves_Vals_ValsIdeal
    ∧ algebraic_ValsIdeal_ValsRefIdeal (hValsIdeal := hValsIdeal) (hValsRefIdeal := hValsRefIdeal)
    ∧ preserves_Rot_RotIdeal
    ∧ algebraic_RotIdeal_RotRefIdeal (hRotIdeal := hRotIdeal) (hRotRefIdeal := hRotRefIdeal)
    ∧ preserves_Moe_MoeIdeal
    ∧ algebraic_MoeIdeal_MoeRefIdeal (hMoeIdeal := hMoeIdeal) (hMoeRefIdeal := hMoeRefIdeal) (hPre_experts_named := hPre_experts_named)
-- ==== Pre_experts_named.lean ====
abbrev S160 : Shape := ⟨1, ![160]⟩
abbrev S1 : Shape := ⟨1, ![1]⟩
abbrev S40960x2048 : Shape := ⟨2, ![40960, 2048]⟩
abbrev S4x8x2048x512 : Shape := ⟨4, ![4, 8, 2048, 512]⟩
abbrev S4x8x512x2048 : Shape := ⟨4, ![4, 8, 512, 2048]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)

variable [Facts]

def fn {F : FTy → Type} [FloatOps F] (main_arg0 : IVec S160 32) (main_arg1 : IVec S1 32) (main_arg2 : FVec F S40960x2048 .f32) (main_arg3 : FVec F S4x8x2048x512 .f32) (main_arg4 : FVec F S4x8x2048x512 .f32) (main_arg5 : FVec F S4x8x512x2048 .f32) : IVec S160 1 × IVec S1 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 31#32
  let main_v2 : IVec S160 32 := broadcastInDim S160 ![] bcast_S_S160 main_c_0
  let main_v3 : IVec S160 1 := cmpi .sle main_arg0 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  (main_v4, main_v6)
-- ==== D0.lean ====
abbrev S2x8192x2048 : Shape := ⟨3, ![2, 8192, 2048]⟩
abbrev S2048x12800 : Shape := ⟨2, ![2048, 12800]⟩
abbrev S128 : Shape := ⟨1, ![128]⟩
abbrev S16384x2048 : Shape := ⟨2, ![16384, 2048]⟩
abbrev S1x128 : Shape := ⟨2, ![1, 128]⟩
abbrev S16384x512 : Shape := ⟨2, ![16384, 512]⟩
abbrev S2x128x512 : Shape := ⟨3, ![2, 128, 512]⟩
abbrev S512x2048 : Shape := ⟨2, ![512, 2048]⟩
abbrev S2048x512 : Shape := ⟨2, ![2048, 512]⟩
abbrev S512x512 : Shape := ⟨2, ![512, 512]⟩
abbrev S1x128x512 : Shape := ⟨3, ![1, 128, 512]⟩
abbrev S3x4x512x128 : Shape := ⟨4, ![3, 4, 512, 128]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S128x128 : Shape := ⟨2, ![128, 128]⟩
abbrev S1x128x128 : Shape := ⟨3, ![1, 128, 128]⟩

abbrev nBuf : Space → Nat
  | .hbm => 12
  | .vmem => 21
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S16384x2048, .bf16⟩
  | .hbm, ⟨5, _⟩ => ⟨S1x128, .f32⟩
  | .hbm, ⟨6, _⟩ => ⟨S1x128, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S2x128x512, .f32⟩
  | .hbm, ⟨11, _⟩ => ⟨S2x128x512, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S3x4x512x128, .f32⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let c4096_i32 : BitVec 32 := 4096#32
  let arg0 : BitVec 32 := BitVec.ofNat 32 (i 0).val
  let c512_i32 : BitVec 32 := 512#32
  let v0 : BitVec 32 := Scalar.muli arg0 c512_i32
  let v1 : BitVec 32 := Scalar.addi c4096_i32 v0
  v1
def k0_mult2 (i : grid0.Coords) : BitVec 32 :=
  let c5632_i32 : BitVec 32 := 5632#32
  let arg0 : BitVec 32 := BitVec.ofNat 32 (i 0).val
  let c512_i32 : BitVec 32 := 512#32
  let v0 : BitVec 32 := Scalar.muli arg0 c512_i32
  let v1 : BitVec 32 := Scalar.addi c5632_i32 v0
  v1
def k0_mult3 (i : grid0.Coords) : BitVec 32 :=
  let c7168_i32 : BitVec 32 := 7168#32
  let arg0 : BitVec 32 := BitVec.ofNat 32 (i 0).val
  let c512_i32 : BitVec 32 := 512#32
  let v0 : BitVec 32 := Scalar.muli arg0 c512_i32
  let v1 : BitVec 32 := Scalar.addi c7168_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c5632_i32 : BitVec 32 := 5632#32
  let v1 : BitVec 32 := Scalar.addi c5632_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c7168_i32 : BitVec 32 := 7168#32
  let v1 : BitVec 32 := Scalar.addi c7168_i32 v0
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== D0Ideal.lean ====
abbrev S2x8192x2048 : Shape := ⟨3, ![2, 8192, 2048]⟩
abbrev S2048x12800 : Shape := ⟨2, ![2048, 12800]⟩
abbrev S128 : Shape := ⟨1, ![128]⟩
abbrev S16384x2048 : Shape := ⟨2, ![16384, 2048]⟩
abbrev S1x128 : Shape := ⟨2, ![1, 128]⟩
abbrev S16384x512 : Shape := ⟨2, ![16384, 512]⟩
abbrev S2x128x512 : Shape := ⟨3, ![2, 128, 512]⟩
abbrev S512x2048 : Shape := ⟨2, ![512, 2048]⟩
abbrev S2048x512 : Shape := ⟨2, ![2048, 512]⟩
abbrev S512x512 : Shape := ⟨2, ![512, 512]⟩
abbrev S1x128x512 : Shape := ⟨3, ![1, 128, 512]⟩
abbrev S3x4x512x128 : Shape := ⟨4, ![3, 4, 512, 128]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S128x128 : Shape := ⟨2, ![128, 128]⟩
abbrev S1x128x128 : Shape := ⟨3, ![1, 128, 128]⟩

abbrev nBuf : Space → Nat
  | .hbm => 12
  | .vmem => 21
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S16384x2048, .bf16⟩
  | .hbm, ⟨5, _⟩ => ⟨S1x128, .f32⟩
  | .hbm, ⟨6, _⟩ => ⟨S1x128, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S2x128x512, .f32⟩
  | .hbm, ⟨11, _⟩ => ⟨S2x128x512, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1x128, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S3x4x512x128, .f32⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let c4096_i32 : BitVec 32 := 4096#32
  let arg0 : BitVec 32 := BitVec.ofNat 32 (i 0).val
  let c512_i32 : BitVec 32 := 512#32
  let v0 : BitVec 32 := Scalar.muli arg0 c512_i32
  let v1 : BitVec 32 := Scalar.addi c4096_i32 v0
  v1
def k0_mult2 (i : grid0.Coords) : BitVec 32 :=
  let c5632_i32 : BitVec 32 := 5632#32
  let arg0 : BitVec 32 := BitVec.ofNat 32 (i 0).val
  let c512_i32 : BitVec 32 := 512#32
  let v0 : BitVec 32 := Scalar.muli arg0 c512_i32
  let v1 : BitVec 32 := Scalar.addi c5632_i32 v0
  v1
def k0_mult3 (i : grid0.Coords) : BitVec 32 :=
  let c7168_i32 : BitVec 32 := 7168#32
  let arg0 : BitVec 32 := BitVec.ofNat 32 (i 0).val
  let c512_i32 : BitVec 32 := 512#32
  let v0 : BitVec 32 := Scalar.muli arg0 c512_i32
  let v1 : BitVec 32 := Scalar.addi c7168_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.addi c4096_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c5632_i32 : BitVec 32 := 5632#32
  let v1 : BitVec 32 := Scalar.addi c5632_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c7168_i32 : BitVec 32 := 7168#32
  let v1 : BitVec 32 := Scalar.addi c7168_i32 v0
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== R0Ideal.lean ====
abbrev S2x8192x2048 : Shape := ⟨3, ![2, 8192, 2048]⟩
abbrev S2048x12800 : Shape := ⟨2, ![2048, 12800]⟩
abbrev S128 : Shape := ⟨1, ![128]⟩
abbrev S2048x512 : Shape := ⟨2, ![2048, 512]⟩
abbrev S2x8192x512 : Shape := ⟨3, ![2, 8192, 512]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x8192x1x4x128 : Shape := ⟨5, ![2, 8192, 1, 4, 128]⟩
abbrev S2x1x8192x4x128 : Shape := ⟨5, ![2, 1, 8192, 4, 128]⟩
abbrev S16384x512 : Shape := ⟨2, ![16384, 512]⟩
abbrev S2x128x4x128 : Shape := ⟨4, ![2, 128, 4, 128]⟩
abbrev S2x128x512 : Shape := ⟨3, ![2, 128, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S2x8192x2048, .f32⟩
  | .hbm, ⟨5, _⟩ => ⟨S2048x512, .f32⟩
  | .hbm, ⟨6, _⟩ => ⟨S2x8192x512, .f32⟩
  | .hbm, ⟨7, _⟩ => ⟨S2x8192x4x128, .f32⟩
  | .hbm, ⟨8, _⟩ => ⟨S2x8192x4x128, .f32⟩
  | .hbm, ⟨9, _⟩ => ⟨S_, .f32⟩
  | .hbm, ⟨10, _⟩ => ⟨S2x8192x4, .f32⟩
  | .hbm, ⟨11, _⟩ => ⟨S2x8192x4x1, .f32⟩
  | .hbm, ⟨12, _⟩ => ⟨S_, .f32⟩
  | .hbm, ⟨13, _⟩ => ⟨S2x8192x4x1, .f32⟩
  | .hbm, ⟨14, _⟩ => ⟨S2x8192x4x1, .f32⟩
  | .hbm, ⟨15, _⟩ => ⟨S_, .f32⟩
  | .hbm, ⟨16, _⟩ => ⟨S2x8192x4x1, .f32⟩
  | .hbm, ⟨17, _⟩ => ⟨S2x8192x4x1, .f32⟩
  | .hbm, ⟨18, _⟩ => ⟨S2x8192x4x1, .f32⟩
  | .hbm, ⟨19, _⟩ => ⟨S2x8192x4x128, .f32⟩
  | .hbm, ⟨20, _⟩ => ⟨S2x8192x4x128, .f32⟩
  | .hbm, ⟨21, _⟩ => ⟨S1x1x1x128, .f32⟩
  | .hbm, ⟨22, _⟩ => ⟨S2x8192x4x128, .f32⟩
  | .hbm, ⟨23, _⟩ => ⟨S2x8192x4x128, .f32⟩
  | .hbm, ⟨24, _⟩ => ⟨S2048x512, .f32⟩
  | .hbm, ⟨25, _⟩ => ⟨S2x8192x512, .f32⟩
  | .hbm, ⟨26, _⟩ => ⟨S2x8192x4x128, .f32⟩
  | .hbm, ⟨27, _⟩ => ⟨S2x8192x4x128, .f32⟩
  | .hbm, ⟨28, _⟩ => ⟨S_, .f32⟩
  | .hbm, ⟨29, _⟩ => ⟨S2x8192x4, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S_, .f32⟩
  | .hbm, ⟨35, _⟩ => ⟨S2x8192x4x1, .f32⟩
  | .hbm, ⟨36, _⟩ => ⟨S2x8192x4x1, .f32⟩
  | .hbm, ⟨37, _⟩ => ⟨S2x8192x4x1, .f32⟩
  | .hbm, ⟨38, _⟩ => ⟨S2x8192x4x128, .f32⟩
  | .hbm, ⟨39, _⟩ => ⟨S2x8192x4x128, .f32⟩
  | .hbm, ⟨40, _⟩ => ⟨S1x1x1x128, .f32⟩
  | .hbm, ⟨41, _⟩ => ⟨S2x8192x4x128, .f32⟩
  | .hbm, ⟨42, _⟩ => ⟨S2x8192x4x128, .f32⟩
  | .hbm, ⟨43, _⟩ => ⟨S2048x512, .f32⟩
  | .hbm, ⟨44, _⟩ => ⟨S2x8192x512, .f32⟩
  | .hbm, ⟨45, _⟩ => ⟨S2x8192x4x128, .f32⟩
  | .hbm, ⟨46, _⟩ => ⟨S_, .f32⟩
  | .hbm, ⟨47, _⟩ => ⟨S2x8192x4x128, .f32⟩
  | .hbm, ⟨48, _⟩ => ⟨S2x8192x4x128, .f32⟩
  | .hbm, ⟨49, _⟩ => ⟨S2x8192x1x4x128, .f32⟩
  | .hbm, ⟨50, _⟩ => ⟨S2x1x8192x4x128, .f32⟩
  | .hbm, ⟨51, _⟩ => ⟨S16384x512, .f32⟩
  | .hbm, ⟨52, _⟩ => ⟨S16384x512, .bf16⟩
  | .hbm, ⟨53, _⟩ => ⟨S2x8192x1x4x128, .f32⟩
  | .hbm, ⟨54, _⟩ => ⟨S2x1x8192x4x128, .f32⟩
  | .hbm, ⟨55, _⟩ => ⟨S16384x512, .f32⟩
  | .hbm, ⟨56, _⟩ => ⟨S16384x512, .bf16⟩
  | .hbm, ⟨57, _⟩ => ⟨S2x8192x1x4x128, .f32⟩
  | .hbm, ⟨58, _⟩ => ⟨S2x1x8192x4x128, .f32⟩
  | .hbm, ⟨59, _⟩ => ⟨S16384x512, .f32⟩
  | .hbm, ⟨60, _⟩ => ⟨S16384x512, .bf16⟩
  | .hbm, ⟨61, _⟩ => ⟨S2x128x4x128, .f32⟩
  | .hbm, ⟨62, _⟩ => ⟨S2x128x512, .f32⟩
  | .hbm, ⟨63, _⟩ => ⟨S2x128x4x128, .f32⟩
  | .hbm, ⟨64, _⟩ => ⟨S2x128x512, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== D1.lean ====
abbrev S2x8192x2048 : Shape := ⟨3, ![2, 8192, 2048]⟩
abbrev S2048x12800 : Shape := ⟨2, ![2048, 12800]⟩
abbrev S128 : Shape := ⟨1, ![128]⟩
abbrev S16384x2048 : Shape := ⟨2, ![16384, 2048]⟩
abbrev S1x128 : Shape := ⟨2, ![1, 128]⟩
abbrev S2x4x2048x512 : Shape := ⟨4, ![2, 4, 2048, 512]⟩
abbrev S2x512x512 : Shape := ⟨3, ![2, 512, 512]⟩
abbrev S512x2048 : Shape := ⟨2, ![512, 2048]⟩
abbrev S2048x512 : Shape := ⟨2, ![2048, 512]⟩
abbrev S1x4x128x512 : Shape := ⟨4, ![1, 4, 128, 512]⟩
abbrev S1x512x512 : Shape := ⟨3, ![1, 512, 512]⟩
abbrev S3x4x512x128 : Shape := ⟨4, ![3, 4, 512, 128]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S128x128 : Shape := ⟨2, ![128, 128]⟩
abbrev S1x1x128x128 : Shape := ⟨4, ![1, 1, 128, 128]⟩
abbrev S1x512x128 : Shape := ⟨3, ![1, 512, 128]⟩

abbrev nBuf : Space → Nat
  | .hbm => 12
  | .vmem => 21
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S16384x2048, .bf16⟩
  | .hbm, ⟨5, _⟩ => ⟨S1x128, .f32⟩
  | .hbm, ⟨6, _⟩ => ⟨S1x128, .f32⟩
  | .hbm, ⟨7, _⟩ => ⟨S2x4x2048x512, .bf16⟩
  | .hbm, ⟨8, _⟩ => ⟨S2x4x2048x512, .bf16⟩
  | .hbm, ⟨9, _⟩ => ⟨S2x4x2048x512, .bf16⟩
  | .hbm, ⟨10, _⟩ => ⟨S2x512x512, .f32⟩
  | .hbm, ⟨11, _⟩ => ⟨S2x512x512, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1x128, .f32⟩
  | .local _ .vmem, ⟨7, _⟩ => ⟨S1x4x128x512, .bf16⟩
  | .local _ .vmem, ⟨8, _⟩ => ⟨S1x4x128x512, .bf16⟩
  | .local _ .vmem, ⟨9, _⟩ => ⟨S1x4x128x512, .bf16⟩
  | .local _ .vmem, ⟨10, _⟩ => ⟨S1x4x128x512, .bf16⟩
  | .local _ .vmem, ⟨11, _⟩ => ⟨S1x4x128x512, .bf16⟩
  | .local _ .vmem, ⟨12, _⟩ => ⟨S1x4x128x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S3x4x512x128, .f32⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let c4608_i32 : BitVec 32 := 4608#32
  let arg0 : BitVec 32 := BitVec.ofNat 32 (i 0).val
  let c512_i32 : BitVec 32 := 512#32
  let v0 : BitVec 32 := Scalar.muli arg0 c512_i32
  let v1 : BitVec 32 := Scalar.addi c4608_i32 v0
  v1
def k0_mult2 (i : grid0.Coords) : BitVec 32 :=
  let c6144_i32 : BitVec 32 := 6144#32
  let arg0 : BitVec 32 := BitVec.ofNat 32 (i 0).val
  let c512_i32 : BitVec 32 := 512#32
  let v0 : BitVec 32 := Scalar.muli arg0 c512_i32
  let v1 : BitVec 32 := Scalar.addi c6144_i32 v0
  v1
def k0_mult3 (i : grid0.Coords) : BitVec 32 :=
  let c7680_i32 : BitVec 32 := 7680#32
  let arg0 : BitVec 32 := BitVec.ofNat 32 (i 0).val
  let c512_i32 : BitVec 32 := 512#32
  let v0 : BitVec 32 := Scalar.muli arg0 c512_i32
  let v1 : BitVec 32 := Scalar.addi c7680_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4608_i32 : BitVec 32 := 4608#32
  let v1 : BitVec 32 := Scalar.addi c4608_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6144_i32 : BitVec 32 := 6144#32
  let v1 : BitVec 32 := Scalar.addi c6144_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c7680_i32 : BitVec 32 := 7680#32
  let v1 : BitVec 32 := Scalar.addi c7680_i32 v0
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== D1Ideal.lean ====
abbrev S2x8192x2048 : Shape := ⟨3, ![2, 8192, 2048]⟩
abbrev S2048x12800 : Shape := ⟨2, ![2048, 12800]⟩
abbrev S128 : Shape := ⟨1, ![128]⟩
abbrev S16384x2048 : Shape := ⟨2, ![16384, 2048]⟩
abbrev S1x128 : Shape := ⟨2, ![1, 128]⟩
abbrev S2x4x2048x512 : Shape := ⟨4, ![2, 4, 2048, 512]⟩
abbrev S2x512x512 : Shape := ⟨3, ![2, 512, 512]⟩
abbrev S512x2048 : Shape := ⟨2, ![512, 2048]⟩
abbrev S2048x512 : Shape := ⟨2, ![2048, 512]⟩
abbrev S1x4x128x512 : Shape := ⟨4, ![1, 4, 128, 512]⟩
abbrev S1x512x512 : Shape := ⟨3, ![1, 512, 512]⟩
abbrev S3x4x512x128 : Shape := ⟨4, ![3, 4, 512, 128]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S128x128 : Shape := ⟨2, ![128, 128]⟩
abbrev S1x1x128x128 : Shape := ⟨4, ![1, 1, 128, 128]⟩
abbrev S1x512x128 : Shape := ⟨3, ![1, 512, 128]⟩

abbrev nBuf : Space → Nat
  | .hbm => 12
  | .vmem => 21
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S16384x2048, .bf16⟩
  | .hbm, ⟨5, _⟩ => ⟨S1x128, .f32⟩
  | .hbm, ⟨6, _⟩ => ⟨S1x128, .f32⟩
  | .hbm, ⟨7, _⟩ => ⟨S2x4x2048x512, .bf16⟩
  | .hbm, ⟨8, _⟩ => ⟨S2x4x2048x512, .bf16⟩
  | .hbm, ⟨9, _⟩ => ⟨S2x4x2048x512, .bf16⟩
  | .hbm, ⟨10, _⟩ => ⟨S2x512x512, .f32⟩
  | .hbm, ⟨11, _⟩ => ⟨S2x512x512, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1x128, .f32⟩
  | .local _ .vmem, ⟨7, _⟩ => ⟨S1x4x128x512, .bf16⟩
  | .local _ .vmem, ⟨8, _⟩ => ⟨S1x4x128x512, .bf16⟩
  | .local _ .vmem, ⟨9, _⟩ => ⟨S1x4x128x512, .bf16⟩
  | .local _ .vmem, ⟨10, _⟩ => ⟨S1x4x128x512, .bf16⟩
  | .local _ .vmem, ⟨11, _⟩ => ⟨S1x4x128x512, .bf16⟩
  | .local _ .vmem, ⟨12, _⟩ => ⟨S1x4x128x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S3x4x512x128, .f32⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let c4608_i32 : BitVec 32 := 4608#32
  let arg0 : BitVec 32 := BitVec.ofNat 32 (i 0).val
  let c512_i32 : BitVec 32 := 512#32
  let v0 : BitVec 32 := Scalar.muli arg0 c512_i32
  let v1 : BitVec 32 := Scalar.addi c4608_i32 v0
  v1
def k0_mult2 (i : grid0.Coords) : BitVec 32 :=
  let c6144_i32 : BitVec 32 := 6144#32
  let arg0 : BitVec 32 := BitVec.ofNat 32 (i 0).val
  let c512_i32 : BitVec 32 := 512#32
  let v0 : BitVec 32 := Scalar.muli arg0 c512_i32
  let v1 : BitVec 32 := Scalar.addi c6144_i32 v0
  v1
def k0_mult3 (i : grid0.Coords) : BitVec 32 :=
  let c7680_i32 : BitVec 32 := 7680#32
  let arg0 : BitVec 32 := BitVec.ofNat 32 (i 0).val
  let c512_i32 : BitVec 32 := 512#32
  let v0 : BitVec 32 := Scalar.muli arg0 c512_i32
  let v1 : BitVec 32 := Scalar.addi c7680_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4608_i32 : BitVec 32 := 4608#32
  let v1 : BitVec 32 := Scalar.addi c4608_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6144_i32 : BitVec 32 := 6144#32
  let v1 : BitVec 32 := Scalar.addi c6144_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c7680_i32 : BitVec 32 := 7680#32
  let v1 : BitVec 32 := Scalar.addi c7680_i32 v0
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c15_i32 : BitVec 32 := 15#32
  let v27 : BitVec 32 := Scalar.subi v26 c15_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== R1Ideal.lean ====
abbrev S2x8192x2048 : Shape := ⟨3, ![2, 8192, 2048]⟩
abbrev S2048x12800 : Shape := ⟨2, ![2048, 12800]⟩
abbrev S128 : Shape := ⟨1, ![128]⟩
abbrev S2048x512 : Shape := ⟨2, ![2048, 512]⟩
abbrev S2x8192x512 : Shape := ⟨3, ![2, 8192, 512]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x2048x4x4x128 : Shape := ⟨5, ![2, 2048, 4, 4, 128]⟩
abbrev S2x4x2048x4x128 : Shape := ⟨5, ![2, 4, 2048, 4, 128]⟩
abbrev S2x4x2048x512 : Shape := ⟨4, ![2, 4, 2048, 512]⟩
abbrev S2x512x4x128 : Shape := ⟨4, ![2, 512, 4, 128]⟩
abbrev S2x512x512 : Shape := ⟨3, ![2, 512, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S2x8192x2048, .f32⟩
  | .hbm, ⟨5, _⟩ => ⟨S2048x512, .f32⟩
  | .hbm, ⟨6, _⟩ => ⟨S2x8192x512, .f32⟩
  | .hbm, ⟨7, _⟩ => ⟨S2x8192x4x128, .f32⟩
  | .hbm, ⟨8, _⟩ => ⟨S2x8192x4x128, .f32⟩
  | .hbm, ⟨9, _⟩ => ⟨S_, .f32⟩
  | .hbm, ⟨10, _⟩ => ⟨S2x8192x4, .f32⟩
  | .hbm, ⟨11, _⟩ => ⟨S2x8192x4x1, .f32⟩
  | .hbm, ⟨12, _⟩ => ⟨S_, .f32⟩
  | .hbm, ⟨13, _⟩ => ⟨S2x8192x4x1, .f32⟩
  | .hbm, ⟨14, _⟩ => ⟨S2x8192x4x1, .f32⟩
  | .hbm, ⟨15, _⟩ => ⟨S_, .f32⟩
  | .hbm, ⟨16, _⟩ => ⟨S2x8192x4x1, .f32⟩
  | .hbm, ⟨17, _⟩ => ⟨S2x8192x4x1, .f32⟩
  | .hbm, ⟨18, _⟩ => ⟨S2x8192x4x1, .f32⟩
  | .hbm, ⟨19, _⟩ => ⟨S2x8192x4x128, .f32⟩
  | .hbm, ⟨20, _⟩ => ⟨S2x8192x4x128, .f32⟩
  | .hbm, ⟨21, _⟩ => ⟨S1x1x1x128, .f32⟩
  | .hbm, ⟨22, _⟩ => ⟨S2x8192x4x128, .f32⟩
  | .hbm, ⟨23, _⟩ => ⟨S2x8192x4x128, .f32⟩
  | .hbm, ⟨24, _⟩ => ⟨S2048x512, .f32⟩
  | .hbm, ⟨25, _⟩ => ⟨S2x8192x512, .f32⟩
  | .hbm, ⟨26, _⟩ => ⟨S2x8192x4x128, .f32⟩
  | .hbm, ⟨27, _⟩ => ⟨S2x8192x4x128, .f32⟩
  | .hbm, ⟨28, _⟩ => ⟨S_, .f32⟩
  | .hbm, ⟨29, _⟩ => ⟨S2x8192x4, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S_, .f32⟩
  | .hbm, ⟨35, _⟩ => ⟨S2x8192x4x1, .f32⟩
  | .hbm, ⟨36, _⟩ => ⟨S2x8192x4x1, .f32⟩
  | .hbm, ⟨37, _⟩ => ⟨S2x8192x4x1, .f32⟩
  | .hbm, ⟨38, _⟩ => ⟨S2x8192x4x128, .f32⟩
  | .hbm, ⟨39, _⟩ => ⟨S2x8192x4x128, .f32⟩
  | .hbm, ⟨40, _⟩ => ⟨S1x1x1x128, .f32⟩
  | .hbm, ⟨41, _⟩ => ⟨S2x8192x4x128, .f32⟩
  | .hbm, ⟨42, _⟩ => ⟨S2x8192x4x128, .f32⟩
  | .hbm, ⟨43, _⟩ => ⟨S2048x512, .f32⟩
  | .hbm, ⟨44, _⟩ => ⟨S2x8192x512, .f32⟩
  | .hbm, ⟨45, _⟩ => ⟨S2x8192x4x128, .f32⟩
  | .hbm, ⟨46, _⟩ => ⟨S_, .f32⟩
  | .hbm, ⟨47, _⟩ => ⟨S2x8192x4x128, .f32⟩
  | .hbm, ⟨48, _⟩ => ⟨S2x8192x4x128, .f32⟩
  | .hbm, ⟨49, _⟩ => ⟨S2x2048x4x4x128, .f32⟩
  | .hbm, ⟨50, _⟩ => ⟨S2x4x2048x4x128, .f32⟩
  | .hbm, ⟨51, _⟩ => ⟨S2x4x2048x512, .f32⟩
  | .hbm, ⟨52, _⟩ => ⟨S2x4x2048x512, .bf16⟩
  | .hbm, ⟨53, _⟩ => ⟨S2x2048x4x4x128, .f32⟩
  | .hbm, ⟨54, _⟩ => ⟨S2x4x2048x4x128, .f32⟩
  | .hbm, ⟨55, _⟩ => ⟨S2x4x2048x512, .f32⟩
  | .hbm, ⟨56, _⟩ => ⟨S2x4x2048x512, .bf16⟩
  | .hbm, ⟨57, _⟩ => ⟨S2x2048x4x4x128, .f32⟩
  | .hbm, ⟨58, _⟩ => ⟨S2x4x2048x4x128, .f32⟩
  | .hbm, ⟨59, _⟩ => ⟨S2x4x2048x512, .f32⟩
  | .hbm, ⟨60, _⟩ => ⟨S2x4x2048x512, .bf16⟩
  | .hbm, ⟨61, _⟩ => ⟨S2x512x4x128, .f32⟩
  | .hbm, ⟨62, _⟩ => ⟨S2x512x512, .f32⟩
  | .hbm, ⟨63, _⟩ => ⟨S2x512x4x128, .f32⟩
  | .hbm, ⟨64, _⟩ => ⟨S2x512x512, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== D2.lean ====
abbrev S2x8192x2048 : Shape := ⟨3, ![2, 8192, 2048]⟩
abbrev S2048x12800 : Shape := ⟨2, ![2048, 12800]⟩
abbrev S128 : Shape := ⟨1, ![128]⟩
abbrev S16384x2048 : Shape := ⟨2, ![16384, 2048]⟩
abbrev S1x128 : Shape := ⟨2, ![1, 128]⟩
abbrev S2x16x512x512 : Shape := ⟨4, ![2, 16, 512, 512]⟩
abbrev S2x2048x512 : Shape := ⟨3, ![2, 2048, 512]⟩
abbrev S512x2048 : Shape := ⟨2, ![512, 2048]⟩
abbrev S2048x512 : Shape := ⟨2, ![2048, 512]⟩
abbrev S1x16x32x512 : Shape := ⟨4, ![1, 16, 32, 512]⟩
abbrev S1x512x512 : Shape := ⟨3, ![1, 512, 512]⟩
abbrev S3x4x512x128 : Shape := ⟨4, ![3, 4, 512, 128]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x1x512x128 : Shape := ⟨4, ![1, 1, 512, 128]⟩
abbrev S32x128 : Shape := ⟨2, ![32, 128]⟩
abbrev S1x1x32x128 : Shape := ⟨4, ![1, 1, 32, 128]⟩
abbrev S1x512x128 : Shape := ⟨3, ![1, 512, 128]⟩

abbrev nBuf : Space → Nat
  | .hbm => 12
  | .vmem => 21
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S16384x2048, .bf16⟩
  | .hbm, ⟨5, _⟩ => ⟨S1x128, .f32⟩
  | .hbm, ⟨6, _⟩ => ⟨S1x128, .f32⟩
  | .hbm, ⟨7, _⟩ => ⟨S2x16x512x512, .bf16⟩
  | .hbm, ⟨8, _⟩ => ⟨S2x16x512x512, .bf16⟩
  | .hbm, ⟨9, _⟩ => ⟨S2x16x512x512, .bf16⟩
  | .hbm, ⟨10, _⟩ => ⟨S2x2048x512, .f32⟩
  | .hbm, ⟨11, _⟩ => ⟨S2x2048x512, .f32⟩
  | .local _ .vmem, ⟨0, _⟩ => ⟨S512x2048, .bf16⟩
  | .local _ .vmem, ⟨1, _⟩ => ⟨S512x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S1x128, .f32⟩
  | .local _ .vmem, ⟨7, _⟩ => ⟨S1x16x32x512, .bf16⟩
  | .local _ .vmem, ⟨8, _⟩ => ⟨S1x16x32x512, .bf16⟩
  | .local _ .vmem, ⟨9, _⟩ => ⟨S1x16x32x512, .bf16⟩
  | .local _ .vmem, ⟨10, _⟩ => ⟨S1x16x32x512, .bf16⟩
  | .local _ .vmem, ⟨11, _⟩ => ⟨S1x16x32x512, .bf16⟩
  | .local _ .vmem, ⟨12, _⟩ => ⟨S1x16x32x512, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S3x4x512x128, .f32⟩
  | .local _ .vmem, ⟨18, _⟩ => ⟨S2048x512, .bf16⟩
  | .local _ .vmem, ⟨19, _⟩ => ⟨S2048x512, .bf16⟩
  | .local _ .vmem, ⟨20, _⟩ => ⟨S2048x512, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let c5120_i32 : BitVec 32 := 5120#32
  let arg0 : BitVec 32 := BitVec.ofNat 32 (i 0).val
  let c512_i32 : BitVec 32 := 512#32
  let v0 : BitVec 32 := Scalar.muli arg0 c512_i32
  let v1 : BitVec 32 := Scalar.addi c5120_i32 v0
  v1
def k0_mult2 (i : grid0.Coords) : BitVec 32 :=
  let c6656_i32 : BitVec 32 := 6656#32
  let arg0 : BitVec 32 := BitVec.ofNat 32 (i 0).val
  let c512_i32 : BitVec 32 := 512#32
  let v0 : BitVec 32 := Scalar.muli arg0 c512_i32
  let v1 : BitVec 32 := Scalar.addi c6656_i32 v0
  v1
def k0_mult3 (i : grid0.Coords) : BitVec 32 :=
  let c8192_i32 : BitVec 32 := 8192#32
  let arg0 : BitVec 32 := BitVec.ofNat 32 (i 0).val
  let c512_i32 : BitVec 32 := 512#32
  let v0 : BitVec 32 := Scalar.muli arg0 c512_i32
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c5120_i32 : BitVec 32 := 5120#32
  let v1 : BitVec 32 := Scalar.addi c5120_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6656_i32 : BitVec 32 := 6656#32
  let v1 : BitVec 32 := Scalar.addi c6656_i32 v0
  let v2 : BitVec 32 := v1
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.addi c8192_i32 v0
  let v2 : BitVec 32 := v1
  let c0_i32 : BitVec 32 := 0#32
  let c0_i32_0 : BitVec 32 := 0#32
  ![c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.subi v26 c12_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.subi v26 c12_i32
  let c0_i32_10 : BitVec 32 := 0#32
  let v28 : BitVec 32 := Scalar.maxsi v27 c0_i32_10
  let c0_i32_11 : BitVec 32 := 0#32
  let c0_i32_12 : BitVec 32 := 0#32
  ![v16.toNat, v28.toNat, c0_i32_11.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x32x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x16x32x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== R2Ideal.lean ====
abbrev S2x8192x2048 : Shape := ⟨3, ![2, 8192, 2048]⟩
abbrev S2048x12800 : Shape := ⟨2, ![2048, 12800]⟩
abbrev S128 : Shape := ⟨1, ![128]⟩
abbrev S2048x512 : Shape := ⟨2, ![2048, 512]⟩
abbrev S2x8192x512 : Shape := ⟨3, ![2, 8192, 512]⟩
abbrev S2x8192x4x128 : Shape := ⟨4, ![2, 8192, 4, 128]⟩
abbrev S_ : Shape := ⟨0, ![]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x512x16x4x128 : Shape := ⟨5, ![2, 512, 16, 4, 128]⟩
abbrev S2x16x512x4x128 : Shape := ⟨5, ![2, 16, 512, 4, 128]⟩
abbrev S2x16x512x512 : Shape := ⟨4, ![2, 16, 512, 512]⟩
abbrev S2x2048x4x128 : Shape := ⟨4, ![2, 2048, 4, 128]⟩
abbrev S2x2048x512 : Shape := ⟨3, ![2, 2048, 512]⟩

abbrev nBuf : Space → Nat
  | .hbm => 65
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2048x12800, .f32⟩
  | .hbm, ⟨2, _⟩ => ⟨S128, .f32⟩
  | .hbm, ⟨3, _⟩ => ⟨S128, .f32⟩
  | .hbm, ⟨4, _⟩ => ⟨S2x8192x2048, .f32⟩
  | .hbm, ⟨5, _⟩ => ⟨S2048x512, .f32⟩
  | .hbm, ⟨6, _⟩ => ⟨S2x8192x512, .f32⟩
  | .hbm, ⟨7, _⟩ => ⟨S2x8192x4x128, .f32⟩
  | .hbm, ⟨8, _⟩ => ⟨S2x8192x4x128, .f32⟩
  | .hbm, ⟨9, _⟩ => ⟨S_, .f32⟩
  | .hbm, ⟨10, _⟩ => ⟨S2x8192x4, .f32⟩
  | .hbm, ⟨11, _⟩ => ⟨S2x8192x4x1, .f32⟩
  | .hbm, ⟨12, _⟩ => ⟨S_, .f32⟩
  | .hbm, ⟨13, _⟩ => ⟨S2x8192x4x1, .f32⟩
  | .hbm, ⟨14, _⟩ => ⟨S2x8192x4x1, .f32⟩
  | .hbm, ⟨15, _⟩ => ⟨S_, .f32⟩
  | .hbm, ⟨16, _⟩ => ⟨S2x8192x4x1, .f32⟩
  | .hbm, ⟨17, _⟩ => ⟨S2x8192x4x1, .f32⟩
  | .hbm, ⟨18, _⟩ => ⟨S2x8192x4x1, .f32⟩
  | .hbm, ⟨19, _⟩ => ⟨S2x8192x4x128, .f32⟩
  | .hbm, ⟨20, _⟩ => ⟨S2x8192x4x128, .f32⟩
  | .hbm, ⟨21, _⟩ => ⟨S1x1x1x128, .f32⟩
  | .hbm, ⟨22, _⟩ => ⟨S2x8192x4x128, .f32⟩
  | .hbm, ⟨23, _⟩ => ⟨S2x8192x4x128, .f32⟩
  | .hbm, ⟨24, _⟩ => ⟨S2048x512, .f32⟩
  | .hbm, ⟨25, _⟩ => ⟨S2x8192x512, .f32⟩
  | .hbm, ⟨26, _⟩ => ⟨S2x8192x4x128, .f32⟩
  | .hbm, ⟨27, _⟩ => ⟨S2x8192x4x128, .f32⟩
  | .hbm, ⟨28, _⟩ => ⟨S_, .f32⟩
  | .hbm, ⟨29, _⟩ => ⟨S2x8192x4, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S_, .f32⟩
  | .hbm, ⟨35, _⟩ => ⟨S2x8192x4x1, .f32⟩
  | .hbm, ⟨36, _⟩ => ⟨S2x8192x4x1, .f32⟩
  | .hbm, ⟨37, _⟩ => ⟨S2x8192x4x1, .f32⟩
  | .hbm, ⟨38, _⟩ => ⟨S2x8192x4x128, .f32⟩
  | .hbm, ⟨39, _⟩ => ⟨S2x8192x4x128, .f32⟩
  | .hbm, ⟨40, _⟩ => ⟨S1x1x1x128, .f32⟩
  | .hbm, ⟨41, _⟩ => ⟨S2x8192x4x128, .f32⟩
  | .hbm, ⟨42, _⟩ => ⟨S2x8192x4x128, .f32⟩
  | .hbm, ⟨43, _⟩ => ⟨S2048x512, .f32⟩
  | .hbm, ⟨44, _⟩ => ⟨S2x8192x512, .f32⟩
  | .hbm, ⟨45, _⟩ => ⟨S2x8192x4x128, .f32⟩
  | .hbm, ⟨46, _⟩ => ⟨S_, .f32⟩
  | .hbm, ⟨47, _⟩ => ⟨S2x8192x4x128, .f32⟩
  | .hbm, ⟨48, _⟩ => ⟨S2x8192x4x128, .f32⟩
  | .hbm, ⟨49, _⟩ => ⟨S2x512x16x4x128, .f32⟩
  | .hbm, ⟨50, _⟩ => ⟨S2x16x512x4x128, .f32⟩
  | .hbm, ⟨51, _⟩ => ⟨S2x16x512x512, .f32⟩
  | .hbm, ⟨52, _⟩ => ⟨S2x16x512x512, .bf16⟩
  | .hbm, ⟨53, _⟩ => ⟨S2x512x16x4x128, .f32⟩
  | .hbm, ⟨54, _⟩ => ⟨S2x16x512x4x128, .f32⟩
  | .hbm, ⟨55, _⟩ => ⟨S2x16x512x512, .f32⟩
  | .hbm, ⟨56, _⟩ => ⟨S2x16x512x512, .bf16⟩
  | .hbm, ⟨57, _⟩ => ⟨S2x512x16x4x128, .f32⟩
  | .hbm, ⟨58, _⟩ => ⟨S2x16x512x4x128, .f32⟩
  | .hbm, ⟨59, _⟩ => ⟨S2x16x512x512, .f32⟩
  | .hbm, ⟨60, _⟩ => ⟨S2x16x512x512, .bf16⟩
  | .hbm, ⟨61, _⟩ => ⟨S2x2048x4x128, .f32⟩
  | .hbm, ⟨62, _⟩ => ⟨S2x2048x512, .f32⟩
  | .hbm, ⟨63, _⟩ => ⟨S2x2048x4x128, .f32⟩
  | .hbm, ⟨64, _⟩ => ⟨S2x2048x512, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Gates.lean ====
abbrev S16384x2048 : Shape := ⟨2, ![16384, 2048]⟩
abbrev S2048x12800 : Shape := ⟨2, ![2048, 12800]⟩
abbrev S32x2048x2x4x128 : Shape := ⟨5, ![32, 2048, 2, 4, 128]⟩
abbrev S32x4x2x4x128 : Shape := ⟨5, ![32, 4, 2, 4, 128]⟩
abbrev S32x16384x128 : Shape := ⟨3, ![32, 16384, 128]⟩
abbrev S32x32x128 : Shape := ⟨3, ![32, 32, 128]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S2x8176x128 : Shape := ⟨3, ![2, 8176, 128]⟩
abbrev S3x2 : Shape := ⟨2, ![3, 2]⟩
abbrev S1x1 : Shape := ⟨2, ![1, 1]⟩
abbrev S_ : Shape := ⟨0, ![]⟩
abbrev S1x8176x128 : Shape := ⟨3, ![1, 8176, 128]⟩
abbrev S8176x128 : Shape := ⟨2, ![8176, 128]⟩
abbrev S2048x256 : Shape := ⟨2, ![2048, 256]⟩
abbrev S1024x256 : Shape := ⟨2, ![1024, 256]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x12800, .f32⟩
  | .hbm, ⟨2, _⟩ => ⟨S32x2048x2x4x128, .f32⟩
  | .hbm, ⟨3, _⟩ => ⟨S32x4x2x4x128, .f32⟩
  | .hbm, ⟨4, _⟩ => ⟨S32x16384x128, .f32⟩
  | .hbm, ⟨5, _⟩ => ⟨S32x32x128, .f32⟩
  | .hbm, ⟨6, _⟩ => ⟨S16384x4096, .bf16⟩
  | .hbm, ⟨7, _⟩ => ⟨S32x16384x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S32x32x128, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | .local _ .vmem, ⟨8, _⟩ => ⟨S2x8176x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c8704_i32 : BitVec 32 := 8704#32
  let arg0 : BitVec 32 := BitVec.ofNat 32 (i 0).val
  let c1024_i32 : BitVec 32 := 1024#32
  let v0 : BitVec 32 := Scalar.muli arg0 c1024_i32
  let v1 : BitVec 32 := Scalar.addi c8704_i32 v0
  v1
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_3 : BitVec 32 := 2#32
  let v12 : BitVec 1 := Scalar.cmpi .sge v1 c2_i32_3
  let v13 : BitVec 32 := Scalar.extui v12
  let c0_i32_4 : BitVec 32 := 0#32
  let v14 : BitVec 1 := Scalar.cmpi .ne v13 c0_i32_4
  v14

def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_50 : BitVec 32 := 2#32
  let v84 : BitVec 32 := Scalar.subi v1 c2_i32_50
  let c2_i32_58 : BitVec 32 := 2#32
  let c0_i32_59 : BitVec 32 := 0#32
  let v102 : BitVec 1 := Scalar.cmpi .eq c2_i32_58 c0_i32_59
  let c1_i32_60 : BitVec 32 := 1#32
  let v103 : BitVec 32 := Scalar.select v102 c1_i32_60 c2_i32_58
  let v104 : BitVec 32 := Scalar.remsi v84 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c8176_i32_64 : BitVec 32 := 8176#32
  let v112 : BitVec 32 := Scalar.muli v111 c8176_i32_64
  v112
def k0_off1 (i : grid0.Coords) : Fin 2 → Nat :=
  let c1_i32_65 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![1, v11.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_50 : BitVec 32 := 2#32
  let v84 : BitVec 32 := Scalar.subi v1 c2_i32_50
  let c0_i32_52 : BitVec 32 := 0#32
  let v86 : BitVec 1 := Scalar.cmpi .sgt v84 c0_i32_52
  let v87 : BitVec 32 := Scalar.extui v86
  let c0_i32_53 : BitVec 32 := 0#32
  let v88 : BitVec 1 := Scalar.cmpi .slt v84 c0_i32_53
  let v89 : BitVec 32 := Scalar.extui v88
  let v90 : BitVec 32 := Scalar.subi v87 v89
  let c2_i32_51 : BitVec 32 := 2#32
  let c0_i32_54 : BitVec 32 := 0#32
  let v91 : BitVec 1 := Scalar.cmpi .sgt c2_i32_51 c0_i32_54
  let v92 : BitVec 32 := Scalar.extui v91
  let c0_i32_55 : BitVec 32 := 0#32
  let v93 : BitVec 1 := Scalar.cmpi .slt c2_i32_51 c0_i32_55
  let v94 : BitVec 32 := Scalar.extui v93
  let v95 : BitVec 32 := Scalar.subi v92 v94
  let v96 : BitVec 1 := Scalar.cmpi .ne v90 v95
  let v97 : BitVec 32 := Scalar.remsi v84 c2_i32_51
  let c0_i32_56 : BitVec 32 := 0#32
  let v98 : BitVec 1 := Scalar.cmpi .ne v97 c0_i32_56
  let v99 : BitVec 1 := Scalar.andi v96 v98
  let v85 : BitVec 32 := Scalar.divsi v84 c2_i32_51
  let c1_i32_57 : BitVec 32 := 1#32
  let v100 : BitVec 32 := Scalar.subi v85 c1_i32_57
  let v101 : BitVec 32 := Scalar.select v99 v100 v85
  let c2_i32_58 : BitVec 32 := 2#32
  let c0_i32_59 : BitVec 32 := 0#32
  let v102 : BitVec 1 := Scalar.cmpi .eq c2_i32_58 c0_i32_59
  let c1_i32_60 : BitVec 32 := 1#32
  let v103 : BitVec 32 := Scalar.select v102 c1_i32_60 c2_i32_58
  let v104 : BitVec 32 := Scalar.remsi v84 v103
  let c0_i32_62 : BitVec 32 := 0#32
  let v106 : BitVec 1 := Scalar.cmpi .slt v104 c0_i32_62
  let c0_i32_63 : BitVec 32 := 0#32
  let v107 : BitVec 1 := Scalar.cmpi .slt v103 c0_i32_63
  let v108 : BitVec 1 := Scalar.xori v106 v107
  let c0_i32_61 : BitVec 32 := 0#32
  let v105 : BitVec 1 := Scalar.cmpi .ne v104 c0_i32_61
  let v109 : BitVec 1 := Scalar.andi v108 v105
  let v110 : BitVec 32 := Scalar.addi v104 v103
  let v111 : BitVec 32 := Scalar.select v109 v110 v104
  let c8176_i32_64 : BitVec 32 := 8176#32
  let v112 : BitVec 32 := Scalar.muli v111 c8176_i32_64
  let v113 : BitVec 32 := v112
  let c0_i32_66 : BitVec 32 := 0#32
  ![v101.toNat, v113.toNat, 0]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_67 : BitVec 32 := 0#32
  let c0_i32_68 : BitVec 32 := 0#32
  ![v11.toNat, 0, 0]
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_12 : BitVec 32 := 2#32
  let c0_i32_13 : BitVec 32 := 0#32
  let v32 : BitVec 1 := Scalar.cmpi .eq c2_i32_12 c0_i32_13
  let c1_i32_14 : BitVec 32 := 1#32
  let v33 : BitVec 32 := Scalar.select v32 c1_i32_14 c2_i32_12
  let v34 : BitVec 32 := Scalar.remsi v1 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c8176_i32 : BitVec 32 := 8176#32
  let v42 : BitVec 32 := Scalar.muli v41 c8176_i32
  let c32_i32 : BitVec 32 := 32#32
  let v43 : BitVec 32 := Scalar.addi v42 c32_i32
  v43
def k0_off4 (i : grid0.Coords) : Fin 2 → Nat :=
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![0, v11.toNat]
def k0_off5 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_19 : BitVec 32 := 0#32
  let c0_i32_20 : BitVec 32 := 0#32
  ![v11.toNat, 0, 0]
def k0_off6 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6 : BitVec 32 := 0#32
  let v16 : BitVec 1 := Scalar.cmpi .sgt v1 c0_i32_6
  let v17 : BitVec 32 := Scalar.extui v16
  let c0_i32_7 : BitVec 32 := 0#32
  let v18 : BitVec 1 := Scalar.cmpi .slt v1 c0_i32_7
  let v19 : BitVec 32 := Scalar.extui v18
  let v20 : BitVec 32 := Scalar.subi v17 v19
  let c2_i32_5 : BitVec 32 := 2#32
  let c0_i32_8 : BitVec 32 := 0#32
  let v21 : BitVec 1 := Scalar.cmpi .sgt c2_i32_5 c0_i32_8
  let v22 : BitVec 32 := Scalar.extui v21
  let c0_i32_9 : BitVec 32 := 0#32
  let v23 : BitVec 1 := Scalar.cmpi .slt c2_i32_5 c0_i32_9
  let v24 : BitVec 32 := Scalar.extui v23
  let v25 : BitVec 32 := Scalar.subi v22 v24
  let v26 : BitVec 1 := Scalar.cmpi .ne v20 v25
  let v27 : BitVec 32 := Scalar.remsi v1 c2_i32_5
  let c0_i32_10 : BitVec 32 := 0#32
  let v28 : BitVec 1 := Scalar.cmpi .ne v27 c0_i32_10
  let v29 : BitVec 1 := Scalar.andi v26 v28
  let v15 : BitVec 32 := Scalar.divsi v1 c2_i32_5
  let c1_i32_11 : BitVec 32 := 1#32
  let v30 : BitVec 32 := Scalar.subi v15 c1_i32_11
  let v31 : BitVec 32 := Scalar.select v29 v30 v15
  let c2_i32_12 : BitVec 32 := 2#32
  let c0_i32_13 : BitVec 32 := 0#32
  let v32 : BitVec 1 := Scalar.cmpi .eq c2_i32_12 c0_i32_13
  let c1_i32_14 : BitVec 32 := 1#32
  let v33 : BitVec 32 := Scalar.select v32 c1_i32_14 c2_i32_12
  let v34 : BitVec 32 := Scalar.remsi v1 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c8176_i32 : BitVec 32 := 8176#32
  let v42 : BitVec 32 := Scalar.muli v41 c8176_i32
  let c32_i32 : BitVec 32 := 32#32
  let v43 : BitVec 32 := Scalar.addi v42 c32_i32
  let v44 : BitVec 32 := v43
  let c0_i32_21 : BitVec 32 := 0#32
  ![v31.toNat, v44.toNat, 0]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_22 : BitVec 32 := 1#32
  let v51 : BitVec 1 := Scalar.cmpi .sge v1 c1_i32_22
  let v52 : BitVec 32 := Scalar.extui v51
  let c0_i32_23 : BitVec 32 := 0#32
  let v53 : BitVec 1 := Scalar.cmpi .ne v52 c0_i32_23
  v53

def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_50 : BitVec 32 := 1#32
  let v84 : BitVec 32 := Scalar.subi v1 c1_i32_50
  let c2_i32_59 : BitVec 32 := 2#32
  let c0_i32_60 : BitVec 32 := 0#32
  let v103 : BitVec 1 := Scalar.cmpi .eq c2_i32_59 c0_i32_60
  let c1_i32_61 : BitVec 32 := 1#32
  let v104 : BitVec 32 := Scalar.select v103 c1_i32_61 c2_i32_59
  let v105 : BitVec 32 := Scalar.remsi v84 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c8176_i32_65 : BitVec 32 := 8176#32
  let v113 : BitVec 32 := Scalar.muli v112 c8176_i32_65
  let c32_i32_66 : BitVec 32 := 32#32
  let v114 : BitVec 32 := Scalar.addi v113 c32_i32_66
  v114
def k0_off7 (i : grid0.Coords) : Fin 2 → Nat :=
  let c0_i32_67 : BitVec 32 := 0#32
  let c1_i32_51 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v85 : BitVec 32 := Scalar.subi c1_i32_51 v11
  ![0, v85.toNat]
def k0_off8 (i : grid0.Coords) : Fin 3 → Nat :=
  let c1_i32_51 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v85 : BitVec 32 := Scalar.subi c1_i32_51 v11
  let c0_i32_68 : BitVec 32 := 0#32
  let c0_i32_69 : BitVec 32 := 0#32
  ![v85.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_50 : BitVec 32 := 1#32
  let v84 : BitVec 32 := Scalar.subi v1 c1_i32_50
  let c0_i32_53 : BitVec 32 := 0#32
  let v87 : BitVec 1 := Scalar.cmpi .sgt v84 c0_i32_53
  let v88 : BitVec 32 := Scalar.extui v87
  let c0_i32_54 : BitVec 32 := 0#32
  let v89 : BitVec 1 := Scalar.cmpi .slt v84 c0_i32_54
  let v90 : BitVec 32 := Scalar.extui v89
  let v91 : BitVec 32 := Scalar.subi v88 v90
  let c2_i32_52 : BitVec 32 := 2#32
  let c0_i32_55 : BitVec 32 := 0#32
  let v92 : BitVec 1 := Scalar.cmpi .sgt c2_i32_52 c0_i32_55
  let v93 : BitVec 32 := Scalar.extui v92
  let c0_i32_56 : BitVec 32 := 0#32
  let v94 : BitVec 1 := Scalar.cmpi .slt c2_i32_52 c0_i32_56
  let v95 : BitVec 32 := Scalar.extui v94
  let v96 : BitVec 32 := Scalar.subi v93 v95
  let v97 : BitVec 1 := Scalar.cmpi .ne v91 v96
  let v98 : BitVec 32 := Scalar.remsi v84 c2_i32_52
  let c0_i32_57 : BitVec 32 := 0#32
  let v99 : BitVec 1 := Scalar.cmpi .ne v98 c0_i32_57
  let v100 : BitVec 1 := Scalar.andi v97 v99
  let v86 : BitVec 32 := Scalar.divsi v84 c2_i32_52
  let c1_i32_58 : BitVec 32 := 1#32
  let v101 : BitVec 32 := Scalar.subi v86 c1_i32_58
  let v102 : BitVec 32 := Scalar.select v100 v101 v86
  let c2_i32_59 : BitVec 32 := 2#32
  let c0_i32_60 : BitVec 32 := 0#32
  let v103 : BitVec 1 := Scalar.cmpi .eq c2_i32_59 c0_i32_60
  let c1_i32_61 : BitVec 32 := 1#32
  let v104 : BitVec 32 := Scalar.select v103 c1_i32_61 c2_i32_59
  let v105 : BitVec 32 := Scalar.remsi v84 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  let c8176_i32_65 : BitVec 32 := 8176#32
  let v113 : BitVec 32 := Scalar.muli v112 c8176_i32_65
  let c32_i32_66 : BitVec 32 := 32#32
  let v114 : BitVec 32 := Scalar.addi v113 c32_i32_66
  let v115 : BitVec 32 := v114
  let c0_i32_70 : BitVec 32 := 0#32
  ![v102.toNat, v115.toNat, 0]
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_71 : BitVec 32 := 1#32
  let v122 : BitVec 32 := Scalar.subi v1 c1_i32_71
  let c2_i32_80 : BitVec 32 := 2#32
  let c0_i32_81 : BitVec 32 := 0#32
  let v141 : BitVec 1 := Scalar.cmpi .eq c2_i32_80 c0_i32_81
  let c1_i32_82 : BitVec 32 := 1#32
  let v142 : BitVec 32 := Scalar.select v141 c1_i32_82 c2_i32_80
  let v143 : BitVec 32 := Scalar.remsi v122 v142
  let c0_i32_84 : BitVec 32 := 0#32
  let v145 : BitVec 1 := Scalar.cmpi .slt v143 c0_i32_84
  let c0_i32_85 : BitVec 32 := 0#32
  let v146 : BitVec 1 := Scalar.cmpi .slt v142 c0_i32_85
  let v147 : BitVec 1 := Scalar.xori v145 v146
  let c0_i32_83 : BitVec 32 := 0#32
  let v144 : BitVec 1 := Scalar.cmpi .ne v143 c0_i32_83
  let v148 : BitVec 1 := Scalar.andi v147 v144
  let v149 : BitVec 32 := Scalar.addi v143 v142
  let v150 : BitVec 32 := Scalar.select v148 v149 v143
  let c8176_i32_86 : BitVec 32 := 8176#32
  let v151 : BitVec 32 := Scalar.muli v150 c8176_i32_86
  v151
def k0_off10 (i : grid0.Coords) : Fin 2 → Nat :=
  let c1_i32_87 : BitVec 32 := 1#32
  let c1_i32_72 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v123 : BitVec 32 := Scalar.subi c1_i32_72 v11
  ![1, v123.toNat]
def k0_off11 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_71 : BitVec 32 := 1#32
  let v122 : BitVec 32 := Scalar.subi v1 c1_i32_71
  let c0_i32_74 : BitVec 32 := 0#32
  let v125 : BitVec 1 := Scalar.cmpi .sgt v122 c0_i32_74
  let v126 : BitVec 32 := Scalar.extui v125
  let c0_i32_75 : BitVec 32 := 0#32
  let v127 : BitVec 1 := Scalar.cmpi .slt v122 c0_i32_75
  let v128 : BitVec 32 := Scalar.extui v127
  let v129 : BitVec 32 := Scalar.subi v126 v128
  let c2_i32_73 : BitVec 32 := 2#32
  let c0_i32_76 : BitVec 32 := 0#32
  let v130 : BitVec 1 := Scalar.cmpi .sgt c2_i32_73 c0_i32_76
  let v131 : BitVec 32 := Scalar.extui v130
  let c0_i32_77 : BitVec 32 := 0#32
  let v132 : BitVec 1 := Scalar.cmpi .slt c2_i32_73 c0_i32_77
  let v133 : BitVec 32 := Scalar.extui v132
  let v134 : BitVec 32 := Scalar.subi v131 v133
  let v135 : BitVec 1 := Scalar.cmpi .ne v129 v134
  let v136 : BitVec 32 := Scalar.remsi v122 c2_i32_73
  let c0_i32_78 : BitVec 32 := 0#32
  let v137 : BitVec 1 := Scalar.cmpi .ne v136 c0_i32_78
  let v138 : BitVec 1 := Scalar.andi v135 v137
  let v124 : BitVec 32 := Scalar.divsi v122 c2_i32_73
  let c1_i32_79 : BitVec 32 := 1#32
  let v139 : BitVec 32 := Scalar.subi v124 c1_i32_79
  let v140 : BitVec 32 := Scalar.select v138 v139 v124
  let c2_i32_80 : BitVec 32 := 2#32
  let c0_i32_81 : BitVec 32 := 0#32
  let v141 : BitVec 1 := Scalar.cmpi .eq c2_i32_80 c0_i32_81
  let c1_i32_82 : BitVec 32 := 1#32
  let v142 : BitVec 32 := Scalar.select v141 c1_i32_82 c2_i32_80
  let v143 : BitVec 32 := Scalar.remsi v122 v142
  let c0_i32_84 : BitVec 32 := 0#32
  let v145 : BitVec 1 := Scalar.cmpi .slt v143 c0_i32_84
  let c0_i32_85 : BitVec 32 := 0#32
  let v146 : BitVec 1 := Scalar.cmpi .slt v142 c0_i32_85
  let v147 : BitVec 1 := Scalar.xori v145 v146
  let c0_i32_83 : BitVec 32 := 0#32
  let v144 : BitVec 1 := Scalar.cmpi .ne v143 c0_i32_83
  let v148 : BitVec 1 := Scalar.andi v147 v144
  let v149 : BitVec 32 := Scalar.addi v143 v142
  let v150 : BitVec 32 := Scalar.select v148 v149 v143
  let c8176_i32_86 : BitVec 32 := 8176#32
  let v151 : BitVec 32 := Scalar.muli v150 c8176_i32_86
  let v152 : BitVec 32 := v151
  let c0_i32_88 : BitVec 32 := 0#32
  ![v140.toNat, v152.toNat, 0]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c63_i32 : BitVec 32 := 63#32
  let v54 : BitVec 1 := Scalar.cmpi .eq v1 c63_i32
  let v55 : BitVec 32 := Scalar.extui v54
  let c0_i32_24 : BitVec 32 := 0#32
  let v56 : BitVec 1 := Scalar.cmpi .ne v55 c0_i32_24
  v56

def k0_mult6 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_61 : BitVec 32 := 2#32
  let c0_i32_62 : BitVec 32 := 0#32
  let v104 : BitVec 1 := Scalar.cmpi .eq c2_i32_61 c0_i32_62
  let c1_i32_63 : BitVec 32 := 1#32
  let v105 : BitVec 32 := Scalar.select v104 c1_i32_63 c2_i32_61
  let v106 : BitVec 32 := Scalar.remsi v1 v105
  let c0_i32_65 : BitVec 32 := 0#32
  let v108 : BitVec 1 := Scalar.cmpi .slt v106 c0_i32_65
  let c0_i32_66 : BitVec 32 := 0#32
  let v109 : BitVec 1 := Scalar.cmpi .slt v105 c0_i32_66
  let v110 : BitVec 1 := Scalar.xori v108 v109
  let c0_i32_64 : BitVec 32 := 0#32
  let v107 : BitVec 1 := Scalar.cmpi .ne v106 c0_i32_64
  let v111 : BitVec 1 := Scalar.andi v110 v107
  let v112 : BitVec 32 := Scalar.addi v106 v105
  let v113 : BitVec 32 := Scalar.select v111 v112 v106
  let c8176_i32_67 : BitVec 32 := 8176#32
  let v114 : BitVec 32 := Scalar.muli v113 c8176_i32_67
  let c32_i32_68 : BitVec 32 := 32#32
  let v115 : BitVec 32 := Scalar.addi v114 c32_i32_68
  v115
def k0_off12 (i : grid0.Coords) : Fin 2 → Nat :=
  let c0_i32_69 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![0, v11.toNat]
def k0_off13 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_70 : BitVec 32 := 0#32
  let c0_i32_71 : BitVec 32 := 0#32
  ![v11.toNat, 0, 0]
def k0_off14 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_55 : BitVec 32 := 0#32
  let v88 : BitVec 1 := Scalar.cmpi .sgt v1 c0_i32_55
  let v89 : BitVec 32 := Scalar.extui v88
  let c0_i32_56 : BitVec 32 := 0#32
  let v90 : BitVec 1 := Scalar.cmpi .slt v1 c0_i32_56
  let v91 : BitVec 32 := Scalar.extui v90
  let v92 : BitVec 32 := Scalar.subi v89 v91
  let c2_i32_54 : BitVec 32 := 2#32
  let c0_i32_57 : BitVec 32 := 0#32
  let v93 : BitVec 1 := Scalar.cmpi .sgt c2_i32_54 c0_i32_57
  let v94 : BitVec 32 := Scalar.extui v93
  let c0_i32_58 : BitVec 32 := 0#32
  let v95 : BitVec 1 := Scalar.cmpi .slt c2_i32_54 c0_i32_58
  let v96 : BitVec 32 := Scalar.extui v95
  let v97 : BitVec 32 := Scalar.subi v94 v96
  let v98 : BitVec 1 := Scalar.cmpi .ne v92 v97
  let v99 : BitVec 32 := Scalar.remsi v1 c2_i32_54
  let c0_i32_59 : BitVec 32 := 0#32
  let v100 : BitVec 1 := Scalar.cmpi .ne v99 c0_i32_59
  let v101 : BitVec 1 := Scalar.andi v98 v100
  let v87 : BitVec 32 := Scalar.divsi v1 c2_i32_54
  let c1_i32_60 : BitVec 32 := 1#32
  let v102 : BitVec 32 := Scalar.subi v87 c1_i32_60
  let v103 : BitVec 32 := Scalar.select v101 v102 v87
  let c2_i32_61 : BitVec 32 := 2#32
  let c0_i32_62 : BitVec 32 := 0#32
  let v104 : BitVec 1 := Scalar.cmpi .eq c2_i32_61 c0_i32_62
  let c1_i32_63 : BitVec 32 := 1#32
  let v105 : BitVec 32 := Scalar.select v104 c1_i32_63 c2_i32_61
  let v106 : BitVec 32 := Scalar.remsi v1 v105
  let c0_i32_65 : BitVec 32 := 0#32
  let v108 : BitVec 1 := Scalar.cmpi .slt v106 c0_i32_65
  let c0_i32_66 : BitVec 32 := 0#32
  let v109 : BitVec 1 := Scalar.cmpi .slt v105 c0_i32_66
  let v110 : BitVec 1 := Scalar.xori v108 v109
  let c0_i32_64 : BitVec 32 := 0#32
  let v107 : BitVec 1 := Scalar.cmpi .ne v106 c0_i32_64
  let v111 : BitVec 1 := Scalar.andi v110 v107
  let v112 : BitVec 32 := Scalar.addi v106 v105
  let v113 : BitVec 32 := Scalar.select v111 v112 v106
  let c8176_i32_67 : BitVec 32 := 8176#32
  let v114 : BitVec 32 := Scalar.muli v113 c8176_i32_67
  let c32_i32_68 : BitVec 32 := 32#32
  let v115 : BitVec 32 := Scalar.addi v114 c32_i32_68
  let v116 : BitVec 32 := v115
  let c0_i32_72 : BitVec 32 := 0#32
  ![v103.toNat, v116.toNat, 0]
def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_80 : BitVec 32 := 2#32
  let c0_i32_81 : BitVec 32 := 0#32
  let v140 : BitVec 1 := Scalar.cmpi .eq c2_i32_80 c0_i32_81
  let c1_i32_82 : BitVec 32 := 1#32
  let v141 : BitVec 32 := Scalar.select v140 c1_i32_82 c2_i32_80
  let v142 : BitVec 32 := Scalar.remsi v1 v141
  let c0_i32_84 : BitVec 32 := 0#32
  let v144 : BitVec 1 := Scalar.cmpi .slt v142 c0_i32_84
  let c0_i32_85 : BitVec 32 := 0#32
  let v145 : BitVec 1 := Scalar.cmpi .slt v141 c0_i32_85
  let v146 : BitVec 1 := Scalar.xori v144 v145
  let c0_i32_83 : BitVec 32 := 0#32
  let v143 : BitVec 1 := Scalar.cmpi .ne v142 c0_i32_83
  let v147 : BitVec 1 := Scalar.andi v146 v143
  let v148 : BitVec 32 := Scalar.addi v142 v141
  let v149 : BitVec 32 := Scalar.select v147 v148 v142
  let c8176_i32_86 : BitVec 32 := 8176#32
  let v150 : BitVec 32 := Scalar.muli v149 c8176_i32_86
  v150
def k0_off15 (i : grid0.Coords) : Fin 2 → Nat :=
  let c1_i32_87 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![1, v11.toNat]
def k0_off16 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_74 : BitVec 32 := 0#32
  let v124 : BitVec 1 := Scalar.cmpi .sgt v1 c0_i32_74
  let v125 : BitVec 32 := Scalar.extui v124
  let c0_i32_75 : BitVec 32 := 0#32
  let v126 : BitVec 1 := Scalar.cmpi .slt v1 c0_i32_75
  let v127 : BitVec 32 := Scalar.extui v126
  let v128 : BitVec 32 := Scalar.subi v125 v127
  let c2_i32_73 : BitVec 32 := 2#32
  let c0_i32_76 : BitVec 32 := 0#32
  let v129 : BitVec 1 := Scalar.cmpi .sgt c2_i32_73 c0_i32_76
  let v130 : BitVec 32 := Scalar.extui v129
  let c0_i32_77 : BitVec 32 := 0#32
  let v131 : BitVec 1 := Scalar.cmpi .slt c2_i32_73 c0_i32_77
  let v132 : BitVec 32 := Scalar.extui v131
  let v133 : BitVec 32 := Scalar.subi v130 v132
  let v134 : BitVec 1 := Scalar.cmpi .ne v128 v133
  let v135 : BitVec 32 := Scalar.remsi v1 c2_i32_73
  let c0_i32_78 : BitVec 32 := 0#32
  let v136 : BitVec 1 := Scalar.cmpi .ne v135 c0_i32_78
  let v137 : BitVec 1 := Scalar.andi v134 v136
  let v123 : BitVec 32 := Scalar.divsi v1 c2_i32_73
  let c1_i32_79 : BitVec 32 := 1#32
  let v138 : BitVec 32 := Scalar.subi v123 c1_i32_79
  let v139 : BitVec 32 := Scalar.select v137 v138 v123
  let c2_i32_80 : BitVec 32 := 2#32
  let c0_i32_81 : BitVec 32 := 0#32
  let v140 : BitVec 1 := Scalar.cmpi .eq c2_i32_80 c0_i32_81
  let c1_i32_82 : BitVec 32 := 1#32
  let v141 : BitVec 32 := Scalar.select v140 c1_i32_82 c2_i32_80
  let v142 : BitVec 32 := Scalar.remsi v1 v141
  let c0_i32_84 : BitVec 32 := 0#32
  let v144 : BitVec 1 := Scalar.cmpi .slt v142 c0_i32_84
  let c0_i32_85 : BitVec 32 := 0#32
  let v145 : BitVec 1 := Scalar.cmpi .slt v141 c0_i32_85
  let v146 : BitVec 1 := Scalar.xori v144 v145
  let c0_i32_83 : BitVec 32 := 0#32
  let v143 : BitVec 1 := Scalar.cmpi .ne v142 c0_i32_83
  let v147 : BitVec 1 := Scalar.andi v146 v143
  let v148 : BitVec 32 := Scalar.addi v142 v141
  let v149 : BitVec 32 := Scalar.select v147 v148 v142
  let c8176_i32_86 : BitVec 32 := 8176#32
  let v150 : BitVec 32 := Scalar.muli v149 c8176_i32_86
  let v151 : BitVec 32 := v150
  let c0_i32_88 : BitVec 32 := 0#32
  ![v139.toNat, v151.toNat, 0]
def k0_mult8 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_91 : BitVec 32 := 1#32
  let v158 : BitVec 32 := Scalar.subi v1 c1_i32_91
  let c2_i32_100 : BitVec 32 := 2#32
  let c0_i32_101 : BitVec 32 := 0#32
  let v177 : BitVec 1 := Scalar.cmpi .eq c2_i32_100 c0_i32_101
  let c1_i32_102 : BitVec 32 := 1#32
  let v178 : BitVec 32 := Scalar.select v177 c1_i32_102 c2_i32_100
  let v179 : BitVec 32 := Scalar.remsi v158 v178
  let c0_i32_104 : BitVec 32 := 0#32
  let v181 : BitVec 1 := Scalar.cmpi .slt v179 c0_i32_104
  let c0_i32_105 : BitVec 32 := 0#32
  let v182 : BitVec 1 := Scalar.cmpi .slt v178 c0_i32_105
  let v183 : BitVec 1 := Scalar.xori v181 v182
  let c0_i32_103 : BitVec 32 := 0#32
  let v180 : BitVec 1 := Scalar.cmpi .ne v179 c0_i32_103
  let v184 : BitVec 1 := Scalar.andi v183 v180
  let v185 : BitVec 32 := Scalar.addi v179 v178
  let v186 : BitVec 32 := Scalar.select v184 v185 v179
  let c8176_i32_106 : BitVec 32 := 8176#32
  let v187 : BitVec 32 := Scalar.muli v186 c8176_i32_106
  v187
def k0_off17 (i : grid0.Coords) : Fin 2 → Nat :=
  let c1_i32_107 : BitVec 32 := 1#32
  let c1_i32_92 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v159 : BitVec 32 := Scalar.subi c1_i32_92 v11
  ![1, v159.toNat]
def k0_off18 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_91 : BitVec 32 := 1#32
  let v158 : BitVec 32 := Scalar.subi v1 c1_i32_91
  let c0_i32_94 : BitVec 32 := 0#32
  let v161 : BitVec 1 := Scalar.cmpi .sgt v158 c0_i32_94
  let v162 : BitVec 32 := Scalar.extui v161
  let c0_i32_95 : BitVec 32 := 0#32
  let v163 : BitVec 1 := Scalar.cmpi .slt v158 c0_i32_95
  let v164 : BitVec 32 := Scalar.extui v163
  let v165 : BitVec 32 := Scalar.subi v162 v164
  let c2_i32_93 : BitVec 32 := 2#32
  let c0_i32_96 : BitVec 32 := 0#32
  let v166 : BitVec 1 := Scalar.cmpi .sgt c2_i32_93 c0_i32_96
  let v167 : BitVec 32 := Scalar.extui v166
  let c0_i32_97 : BitVec 32 := 0#32
  let v168 : BitVec 1 := Scalar.cmpi .slt c2_i32_93 c0_i32_97
  let v169 : BitVec 32 := Scalar.extui v168
  let v170 : BitVec 32 := Scalar.subi v167 v169
  let v171 : BitVec 1 := Scalar.cmpi .ne v165 v170
  let v172 : BitVec 32 := Scalar.remsi v158 c2_i32_93
  let c0_i32_98 : BitVec 32 := 0#32
  let v173 : BitVec 1 := Scalar.cmpi .ne v172 c0_i32_98
  let v174 : BitVec 1 := Scalar.andi v171 v173
  let v160 : BitVec 32 := Scalar.divsi v158 c2_i32_93
  let c1_i32_99 : BitVec 32 := 1#32
  let v175 : BitVec 32 := Scalar.subi v160 c1_i32_99
  let v176 : BitVec 32 := Scalar.select v174 v175 v160
  let c2_i32_100 : BitVec 32 := 2#32
  let c0_i32_101 : BitVec 32 := 0#32
  let v177 : BitVec 1 := Scalar.cmpi .eq c2_i32_100 c0_i32_101
  let c1_i32_102 : BitVec 32 := 1#32
  let v178 : BitVec 32 := Scalar.select v177 c1_i32_102 c2_i32_100
  let v179 : BitVec 32 := Scalar.remsi v158 v178
  let c0_i32_104 : BitVec 32 := 0#32
  let v181 : BitVec 1 := Scalar.cmpi .slt v179 c0_i32_104
  let c0_i32_105 : BitVec 32 := 0#32
  let v182 : BitVec 1 := Scalar.cmpi .slt v178 c0_i32_105
  let v183 : BitVec 1 := Scalar.xori v181 v182
  let c0_i32_103 : BitVec 32 := 0#32
  let v180 : BitVec 1 := Scalar.cmpi .ne v179 c0_i32_103
  let v184 : BitVec 1 := Scalar.andi v183 v180
  let v185 : BitVec 32 := Scalar.addi v179 v178
  let v186 : BitVec 32 := Scalar.select v184 v185 v179
  let c8176_i32_106 : BitVec 32 := 8176#32
  let v187 : BitVec 32 := Scalar.muli v186 c8176_i32_106
  let v188 : BitVec 32 := v187
  let c0_i32_108 : BitVec 32 := 0#32
  ![v176.toNat, v188.toNat, 0]
def k0_off19 (i : grid0.Coords) : Fin 3 → Nat :=
  let c1_i32_92 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v159 : BitVec 32 := Scalar.subi c1_i32_92 v11
  let c0_i32_109 : BitVec 32 := 0#32
  let c0_i32_110 : BitVec 32 := 0#32
  ![v159.toNat, 0, 0]
def k0_mult9 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_118 : BitVec 32 := 2#32
  let c0_i32_119 : BitVec 32 := 0#32
  let v212 : BitVec 1 := Scalar.cmpi .eq c2_i32_118 c0_i32_119
  let c1_i32_120 : BitVec 32 := 1#32
  let v213 : BitVec 32 := Scalar.select v212 c1_i32_120 c2_i32_118
  let v214 : BitVec 32 := Scalar.remsi v1 v213
  let c0_i32_122 : BitVec 32 := 0#32
  let v216 : BitVec 1 := Scalar.cmpi .slt v214 c0_i32_122
  let c0_i32_123 : BitVec 32 := 0#32
  let v217 : BitVec 1 := Scalar.cmpi .slt v213 c0_i32_123
  let v218 : BitVec 1 := Scalar.xori v216 v217
  let c0_i32_121 : BitVec 32 := 0#32
  let v215 : BitVec 1 := Scalar.cmpi .ne v214 c0_i32_121
  let v219 : BitVec 1 := Scalar.andi v218 v215
  let v220 : BitVec 32 := Scalar.addi v214 v213
  let v221 : BitVec 32 := Scalar.select v219 v220 v214
  let c8176_i32_124 : BitVec 32 := 8176#32
  let v222 : BitVec 32 := Scalar.muli v221 c8176_i32_124
  v222
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8704_i32 : BitVec 32 := 8704#32
  let v1 : BitVec 32 := Scalar.addi c8704_i32 v0
  let v2 : BitVec 32 := v1
  let c0_i32 : BitVec 32 := 0#32
  let c0_i32_0 : BitVec 32 := 0#32
  ![c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S16384x2048 : Shape := ⟨2, ![16384, 2048]⟩
abbrev S2048x12800 : Shape := ⟨2, ![2048, 12800]⟩
abbrev S32x2048x2x4x128 : Shape := ⟨5, ![32, 2048, 2, 4, 128]⟩
abbrev S32x4x2x4x128 : Shape := ⟨5, ![32, 4, 2, 4, 128]⟩
abbrev S2048x4096 : Shape := ⟨2, ![2048, 4096]⟩
abbrev S16384x4096 : Shape := ⟨2, ![16384, 4096]⟩
abbrev S_ : Shape := ⟨0, ![]⟩
abbrev S32x2044x2x4x128 : Shape := ⟨5, ![32, 2044, 2, 4, 128]⟩
abbrev S32x16384x128 : Shape := ⟨3, ![32, 16384, 128]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x12800, .f32⟩
  | .hbm, ⟨2, _⟩ => ⟨S32x2048x2x4x128, .f32⟩
  | .hbm, ⟨3, _⟩ => ⟨S32x4x2x4x128, .f32⟩
  | .hbm, ⟨4, _⟩ => ⟨S16384x2048, .f32⟩
  | .hbm, ⟨5, _⟩ => ⟨S2048x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .bf16⟩
  | .hbm, ⟨16, _⟩ => ⟨S32x2044x2x4x128, .f32⟩
  | .hbm, ⟨17, _⟩ => ⟨S32x2048x2x4x128, .f32⟩
  | .hbm, ⟨18, _⟩ => ⟨S32x16384x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Vals.lean ====
abbrev S16384x2048 : Shape := ⟨2, ![16384, 2048]⟩
abbrev S2048x12800 : Shape := ⟨2, ![2048, 12800]⟩
abbrev S32x512x2x4x128 : Shape := ⟨5, ![32, 512, 2, 4, 128]⟩
abbrev S32x4x2x4x128 : Shape := ⟨5, ![32, 4, 2, 4, 128]⟩
abbrev S32x4096x128 : Shape := ⟨3, ![32, 4096, 128]⟩
abbrev S32x32x128 : Shape := ⟨3, ![32, 32, 128]⟩
abbrev S1024x2048 : Shape := ⟨2, ![1024, 2048]⟩
abbrev S2048x1024 : Shape := ⟨2, ![2048, 1024]⟩
abbrev S1024x1024 : Shape := ⟨2, ![1024, 1024]⟩
abbrev S2x4064x128 : Shape := ⟨3, ![2, 4064, 128]⟩
abbrev S3x2 : Shape := ⟨2, ![3, 2]⟩
abbrev S1x1 : Shape := ⟨2, ![1, 1]⟩
abbrev S_ : Shape := ⟨0, ![]⟩
abbrev S1x4064x128 : Shape := ⟨3, ![1, 4064, 128]⟩
abbrev S4064x128 : Shape := ⟨2, ![4064, 128]⟩
abbrev S2048x256 : Shape := ⟨2, ![2048, 256]⟩
abbrev S1024x256 : Shape := ⟨2, ![1024, 256]⟩

abbrev nBuf : Space → Nat
  | .hbm => 8
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x12800, .f32⟩
  | .hbm, ⟨2, _⟩ => ⟨S32x512x2x4x128, .f32⟩
  | .hbm, ⟨3, _⟩ => ⟨S32x4x2x4x128, .f32⟩
  | .hbm, ⟨4, _⟩ => ⟨S32x4096x128, .f32⟩
  | .hbm, ⟨5, _⟩ => ⟨S32x32x128, .f32⟩
  | .hbm, ⟨6, _⟩ => ⟨S16384x2048, .bf16⟩
  | .hbm, ⟨7, _⟩ => ⟨S32x4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S32x32x128, .f32⟩
  | .local _ .vmem, ⟨5, _⟩ => ⟨S1024x1024, .bf16⟩
  | .local _ .vmem, ⟨6, _⟩ => ⟨S1024x1024, .bf16⟩
  | .local _ .vmem, ⟨7, _⟩ => ⟨S2048x1024, .bf16⟩
  | .local _ .vmem, ⟨8, _⟩ => ⟨S2x4064x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c2048_i32 : BitVec 32 := 2048#32
  let arg0 : BitVec 32 := BitVec.ofNat 32 (i 0).val
  let c1024_i32 : BitVec 32 := 1024#32
  let v0 : BitVec 32 := Scalar.muli arg0 c1024_i32
  let v1 : BitVec 32 := Scalar.addi c2048_i32 v0
  v1
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_3 : BitVec 32 := 2#32
  let v12 : BitVec 1 := Scalar.cmpi .sge v1 c2_i32_3
  let v13 : BitVec 32 := Scalar.extui v12
  let c0_i32_4 : BitVec 32 := 0#32
  let v14 : BitVec 1 := Scalar.cmpi .ne v13 c0_i32_4
  v14

def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_54 : BitVec 32 := 2#32
  let v96 : BitVec 32 := Scalar.subi v1 c2_i32_54
  let c1_i32_62 : BitVec 32 := 1#32
  let c0_i32_63 : BitVec 32 := 0#32
  let v114 : BitVec 1 := Scalar.cmpi .eq c1_i32_62 c0_i32_63
  let c1_i32_64 : BitVec 32 := 1#32
  let v115 : BitVec 32 := Scalar.select v114 c1_i32_64 c1_i32_62
  let v116 : BitVec 32 := Scalar.remsi v96 v115
  let c0_i32_66 : BitVec 32 := 0#32
  let v118 : BitVec 1 := Scalar.cmpi .slt v116 c0_i32_66
  let c0_i32_67 : BitVec 32 := 0#32
  let v119 : BitVec 1 := Scalar.cmpi .slt v115 c0_i32_67
  let v120 : BitVec 1 := Scalar.xori v118 v119
  let c0_i32_65 : BitVec 32 := 0#32
  let v117 : BitVec 1 := Scalar.cmpi .ne v116 c0_i32_65
  let v121 : BitVec 1 := Scalar.andi v120 v117
  let v122 : BitVec 32 := Scalar.addi v116 v115
  let v123 : BitVec 32 := Scalar.select v121 v122 v116
  let c4064_i32_68 : BitVec 32 := 4064#32
  let v124 : BitVec 32 := Scalar.muli v123 c4064_i32_68
  v124
def k0_off1 (i : grid0.Coords) : Fin 2 → Nat :=
  let c1_i32_69 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![1, v11.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_54 : BitVec 32 := 2#32
  let v96 : BitVec 32 := Scalar.subi v1 c2_i32_54
  let c0_i32_56 : BitVec 32 := 0#32
  let v98 : BitVec 1 := Scalar.cmpi .sgt v96 c0_i32_56
  let v99 : BitVec 32 := Scalar.extui v98
  let c0_i32_57 : BitVec 32 := 0#32
  let v100 : BitVec 1 := Scalar.cmpi .slt v96 c0_i32_57
  let v101 : BitVec 32 := Scalar.extui v100
  let v102 : BitVec 32 := Scalar.subi v99 v101
  let c1_i32_55 : BitVec 32 := 1#32
  let c0_i32_58 : BitVec 32 := 0#32
  let v103 : BitVec 1 := Scalar.cmpi .sgt c1_i32_55 c0_i32_58
  let v104 : BitVec 32 := Scalar.extui v103
  let c0_i32_59 : BitVec 32 := 0#32
  let v105 : BitVec 1 := Scalar.cmpi .slt c1_i32_55 c0_i32_59
  let v106 : BitVec 32 := Scalar.extui v105
  let v107 : BitVec 32 := Scalar.subi v104 v106
  let v108 : BitVec 1 := Scalar.cmpi .ne v102 v107
  let v109 : BitVec 32 := Scalar.remsi v96 c1_i32_55
  let c0_i32_60 : BitVec 32 := 0#32
  let v110 : BitVec 1 := Scalar.cmpi .ne v109 c0_i32_60
  let v111 : BitVec 1 := Scalar.andi v108 v110
  let v97 : BitVec 32 := Scalar.divsi v96 c1_i32_55
  let c1_i32_61 : BitVec 32 := 1#32
  let v112 : BitVec 32 := Scalar.subi v97 c1_i32_61
  let v113 : BitVec 32 := Scalar.select v111 v112 v97
  let c1_i32_62 : BitVec 32 := 1#32
  let c0_i32_63 : BitVec 32 := 0#32
  let v114 : BitVec 1 := Scalar.cmpi .eq c1_i32_62 c0_i32_63
  let c1_i32_64 : BitVec 32 := 1#32
  let v115 : BitVec 32 := Scalar.select v114 c1_i32_64 c1_i32_62
  let v116 : BitVec 32 := Scalar.remsi v96 v115
  let c0_i32_66 : BitVec 32 := 0#32
  let v118 : BitVec 1 := Scalar.cmpi .slt v116 c0_i32_66
  let c0_i32_67 : BitVec 32 := 0#32
  let v119 : BitVec 1 := Scalar.cmpi .slt v115 c0_i32_67
  let v120 : BitVec 1 := Scalar.xori v118 v119
  let c0_i32_65 : BitVec 32 := 0#32
  let v117 : BitVec 1 := Scalar.cmpi .ne v116 c0_i32_65
  let v121 : BitVec 1 := Scalar.andi v120 v117
  let v122 : BitVec 32 := Scalar.addi v116 v115
  let v123 : BitVec 32 := Scalar.select v121 v122 v116
  let c4064_i32_68 : BitVec 32 := 4064#32
  let v124 : BitVec 32 := Scalar.muli v123 c4064_i32_68
  let v125 : BitVec 32 := v124
  let c0_i32_70 : BitVec 32 := 0#32
  ![v113.toNat, v125.toNat, 0]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_71 : BitVec 32 := 0#32
  let c0_i32_72 : BitVec 32 := 0#32
  ![v11.toNat, 0, 0]
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_12 : BitVec 32 := 1#32
  let c0_i32_13 : BitVec 32 := 0#32
  let v32 : BitVec 1 := Scalar.cmpi .eq c1_i32_12 c0_i32_13
  let c1_i32_14 : BitVec 32 := 1#32
  let v33 : BitVec 32 := Scalar.select v32 c1_i32_14 c1_i32_12
  let v34 : BitVec 32 := Scalar.remsi v1 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c4064_i32 : BitVec 32 := 4064#32
  let v42 : BitVec 32 := Scalar.muli v41 c4064_i32
  let c32_i32 : BitVec 32 := 32#32
  let v43 : BitVec 32 := Scalar.addi v42 c32_i32
  v43
def k0_off4 (i : grid0.Coords) : Fin 2 → Nat :=
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![0, v11.toNat]
def k0_off5 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_19 : BitVec 32 := 0#32
  let c0_i32_20 : BitVec 32 := 0#32
  ![v11.toNat, 0, 0]
def k0_off6 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6 : BitVec 32 := 0#32
  let v16 : BitVec 1 := Scalar.cmpi .sgt v1 c0_i32_6
  let v17 : BitVec 32 := Scalar.extui v16
  let c0_i32_7 : BitVec 32 := 0#32
  let v18 : BitVec 1 := Scalar.cmpi .slt v1 c0_i32_7
  let v19 : BitVec 32 := Scalar.extui v18
  let v20 : BitVec 32 := Scalar.subi v17 v19
  let c1_i32_5 : BitVec 32 := 1#32
  let c0_i32_8 : BitVec 32 := 0#32
  let v21 : BitVec 1 := Scalar.cmpi .sgt c1_i32_5 c0_i32_8
  let v22 : BitVec 32 := Scalar.extui v21
  let c0_i32_9 : BitVec 32 := 0#32
  let v23 : BitVec 1 := Scalar.cmpi .slt c1_i32_5 c0_i32_9
  let v24 : BitVec 32 := Scalar.extui v23
  let v25 : BitVec 32 := Scalar.subi v22 v24
  let v26 : BitVec 1 := Scalar.cmpi .ne v20 v25
  let v27 : BitVec 32 := Scalar.remsi v1 c1_i32_5
  let c0_i32_10 : BitVec 32 := 0#32
  let v28 : BitVec 1 := Scalar.cmpi .ne v27 c0_i32_10
  let v29 : BitVec 1 := Scalar.andi v26 v28
  let v15 : BitVec 32 := Scalar.divsi v1 c1_i32_5
  let c1_i32_11 : BitVec 32 := 1#32
  let v30 : BitVec 32 := Scalar.subi v15 c1_i32_11
  let v31 : BitVec 32 := Scalar.select v29 v30 v15
  let c1_i32_12 : BitVec 32 := 1#32
  let c0_i32_13 : BitVec 32 := 0#32
  let v32 : BitVec 1 := Scalar.cmpi .eq c1_i32_12 c0_i32_13
  let c1_i32_14 : BitVec 32 := 1#32
  let v33 : BitVec 32 := Scalar.select v32 c1_i32_14 c1_i32_12
  let v34 : BitVec 32 := Scalar.remsi v1 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c4064_i32 : BitVec 32 := 4064#32
  let v42 : BitVec 32 := Scalar.muli v41 c4064_i32
  let c32_i32 : BitVec 32 := 32#32
  let v43 : BitVec 32 := Scalar.addi v42 c32_i32
  let v44 : BitVec 32 := v43
  let c0_i32_21 : BitVec 32 := 0#32
  ![v31.toNat, v44.toNat, 0]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_22 : BitVec 32 := 1#32
  let v51 : BitVec 1 := Scalar.cmpi .sge v1 c1_i32_22
  let v52 : BitVec 32 := Scalar.extui v51
  let c0_i32_23 : BitVec 32 := 0#32
  let v53 : BitVec 1 := Scalar.cmpi .ne v52 c0_i32_23
  v53

def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_54 : BitVec 32 := 1#32
  let v96 : BitVec 32 := Scalar.subi v1 c1_i32_54
  let c1_i32_63 : BitVec 32 := 1#32
  let c0_i32_64 : BitVec 32 := 0#32
  let v115 : BitVec 1 := Scalar.cmpi .eq c1_i32_63 c0_i32_64
  let c1_i32_65 : BitVec 32 := 1#32
  let v116 : BitVec 32 := Scalar.select v115 c1_i32_65 c1_i32_63
  let v117 : BitVec 32 := Scalar.remsi v96 v116
  let c0_i32_67 : BitVec 32 := 0#32
  let v119 : BitVec 1 := Scalar.cmpi .slt v117 c0_i32_67
  let c0_i32_68 : BitVec 32 := 0#32
  let v120 : BitVec 1 := Scalar.cmpi .slt v116 c0_i32_68
  let v121 : BitVec 1 := Scalar.xori v119 v120
  let c0_i32_66 : BitVec 32 := 0#32
  let v118 : BitVec 1 := Scalar.cmpi .ne v117 c0_i32_66
  let v122 : BitVec 1 := Scalar.andi v121 v118
  let v123 : BitVec 32 := Scalar.addi v117 v116
  let v124 : BitVec 32 := Scalar.select v122 v123 v117
  let c4064_i32_69 : BitVec 32 := 4064#32
  let v125 : BitVec 32 := Scalar.muli v124 c4064_i32_69
  let c32_i32_70 : BitVec 32 := 32#32
  let v126 : BitVec 32 := Scalar.addi v125 c32_i32_70
  v126
def k0_off7 (i : grid0.Coords) : Fin 2 → Nat :=
  let c0_i32_71 : BitVec 32 := 0#32
  let c1_i32_55 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v97 : BitVec 32 := Scalar.subi c1_i32_55 v11
  ![0, v97.toNat]
def k0_off8 (i : grid0.Coords) : Fin 3 → Nat :=
  let c1_i32_55 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v97 : BitVec 32 := Scalar.subi c1_i32_55 v11
  let c0_i32_72 : BitVec 32 := 0#32
  let c0_i32_73 : BitVec 32 := 0#32
  ![v97.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_54 : BitVec 32 := 1#32
  let v96 : BitVec 32 := Scalar.subi v1 c1_i32_54
  let c0_i32_57 : BitVec 32 := 0#32
  let v99 : BitVec 1 := Scalar.cmpi .sgt v96 c0_i32_57
  let v100 : BitVec 32 := Scalar.extui v99
  let c0_i32_58 : BitVec 32 := 0#32
  let v101 : BitVec 1 := Scalar.cmpi .slt v96 c0_i32_58
  let v102 : BitVec 32 := Scalar.extui v101
  let v103 : BitVec 32 := Scalar.subi v100 v102
  let c1_i32_56 : BitVec 32 := 1#32
  let c0_i32_59 : BitVec 32 := 0#32
  let v104 : BitVec 1 := Scalar.cmpi .sgt c1_i32_56 c0_i32_59
  let v105 : BitVec 32 := Scalar.extui v104
  let c0_i32_60 : BitVec 32 := 0#32
  let v106 : BitVec 1 := Scalar.cmpi .slt c1_i32_56 c0_i32_60
  let v107 : BitVec 32 := Scalar.extui v106
  let v108 : BitVec 32 := Scalar.subi v105 v107
  let v109 : BitVec 1 := Scalar.cmpi .ne v103 v108
  let v110 : BitVec 32 := Scalar.remsi v96 c1_i32_56
  let c0_i32_61 : BitVec 32 := 0#32
  let v111 : BitVec 1 := Scalar.cmpi .ne v110 c0_i32_61
  let v112 : BitVec 1 := Scalar.andi v109 v111
  let v98 : BitVec 32 := Scalar.divsi v96 c1_i32_56
  let c1_i32_62 : BitVec 32 := 1#32
  let v113 : BitVec 32 := Scalar.subi v98 c1_i32_62
  let v114 : BitVec 32 := Scalar.select v112 v113 v98
  let c1_i32_63 : BitVec 32 := 1#32
  let c0_i32_64 : BitVec 32 := 0#32
  let v115 : BitVec 1 := Scalar.cmpi .eq c1_i32_63 c0_i32_64
  let c1_i32_65 : BitVec 32 := 1#32
  let v116 : BitVec 32 := Scalar.select v115 c1_i32_65 c1_i32_63
  let v117 : BitVec 32 := Scalar.remsi v96 v116
  let c0_i32_67 : BitVec 32 := 0#32
  let v119 : BitVec 1 := Scalar.cmpi .slt v117 c0_i32_67
  let c0_i32_68 : BitVec 32 := 0#32
  let v120 : BitVec 1 := Scalar.cmpi .slt v116 c0_i32_68
  let v121 : BitVec 1 := Scalar.xori v119 v120
  let c0_i32_66 : BitVec 32 := 0#32
  let v118 : BitVec 1 := Scalar.cmpi .ne v117 c0_i32_66
  let v122 : BitVec 1 := Scalar.andi v121 v118
  let v123 : BitVec 32 := Scalar.addi v117 v116
  let v124 : BitVec 32 := Scalar.select v122 v123 v117
  let c4064_i32_69 : BitVec 32 := 4064#32
  let v125 : BitVec 32 := Scalar.muli v124 c4064_i32_69
  let c32_i32_70 : BitVec 32 := 32#32
  let v126 : BitVec 32 := Scalar.addi v125 c32_i32_70
  let v127 : BitVec 32 := v126
  let c0_i32_74 : BitVec 32 := 0#32
  ![v114.toNat, v127.toNat, 0]
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_75 : BitVec 32 := 1#32
  let v134 : BitVec 32 := Scalar.subi v1 c1_i32_75
  let c1_i32_84 : BitVec 32 := 1#32
  let c0_i32_85 : BitVec 32 := 0#32
  let v153 : BitVec 1 := Scalar.cmpi .eq c1_i32_84 c0_i32_85
  let c1_i32_86 : BitVec 32 := 1#32
  let v154 : BitVec 32 := Scalar.select v153 c1_i32_86 c1_i32_84
  let v155 : BitVec 32 := Scalar.remsi v134 v154
  let c0_i32_88 : BitVec 32 := 0#32
  let v157 : BitVec 1 := Scalar.cmpi .slt v155 c0_i32_88
  let c0_i32_89 : BitVec 32 := 0#32
  let v158 : BitVec 1 := Scalar.cmpi .slt v154 c0_i32_89
  let v159 : BitVec 1 := Scalar.xori v157 v158
  let c0_i32_87 : BitVec 32 := 0#32
  let v156 : BitVec 1 := Scalar.cmpi .ne v155 c0_i32_87
  let v160 : BitVec 1 := Scalar.andi v159 v156
  let v161 : BitVec 32 := Scalar.addi v155 v154
  let v162 : BitVec 32 := Scalar.select v160 v161 v155
  let c4064_i32_90 : BitVec 32 := 4064#32
  let v163 : BitVec 32 := Scalar.muli v162 c4064_i32_90
  v163
def k0_off10 (i : grid0.Coords) : Fin 2 → Nat :=
  let c1_i32_91 : BitVec 32 := 1#32
  let c1_i32_76 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v135 : BitVec 32 := Scalar.subi c1_i32_76 v11
  ![1, v135.toNat]
def k0_off11 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_75 : BitVec 32 := 1#32
  let v134 : BitVec 32 := Scalar.subi v1 c1_i32_75
  let c0_i32_78 : BitVec 32 := 0#32
  let v137 : BitVec 1 := Scalar.cmpi .sgt v134 c0_i32_78
  let v138 : BitVec 32 := Scalar.extui v137
  let c0_i32_79 : BitVec 32 := 0#32
  let v139 : BitVec 1 := Scalar.cmpi .slt v134 c0_i32_79
  let v140 : BitVec 32 := Scalar.extui v139
  let v141 : BitVec 32 := Scalar.subi v138 v140
  let c1_i32_77 : BitVec 32 := 1#32
  let c0_i32_80 : BitVec 32 := 0#32
  let v142 : BitVec 1 := Scalar.cmpi .sgt c1_i32_77 c0_i32_80
  let v143 : BitVec 32 := Scalar.extui v142
  let c0_i32_81 : BitVec 32 := 0#32
  let v144 : BitVec 1 := Scalar.cmpi .slt c1_i32_77 c0_i32_81
  let v145 : BitVec 32 := Scalar.extui v144
  let v146 : BitVec 32 := Scalar.subi v143 v145
  let v147 : BitVec 1 := Scalar.cmpi .ne v141 v146
  let v148 : BitVec 32 := Scalar.remsi v134 c1_i32_77
  let c0_i32_82 : BitVec 32 := 0#32
  let v149 : BitVec 1 := Scalar.cmpi .ne v148 c0_i32_82
  let v150 : BitVec 1 := Scalar.andi v147 v149
  let v136 : BitVec 32 := Scalar.divsi v134 c1_i32_77
  let c1_i32_83 : BitVec 32 := 1#32
  let v151 : BitVec 32 := Scalar.subi v136 c1_i32_83
  let v152 : BitVec 32 := Scalar.select v150 v151 v136
  let c1_i32_84 : BitVec 32 := 1#32
  let c0_i32_85 : BitVec 32 := 0#32
  let v153 : BitVec 1 := Scalar.cmpi .eq c1_i32_84 c0_i32_85
  let c1_i32_86 : BitVec 32 := 1#32
  let v154 : BitVec 32 := Scalar.select v153 c1_i32_86 c1_i32_84
  let v155 : BitVec 32 := Scalar.remsi v134 v154
  let c0_i32_88 : BitVec 32 := 0#32
  let v157 : BitVec 1 := Scalar.cmpi .slt v155 c0_i32_88
  let c0_i32_89 : BitVec 32 := 0#32
  let v158 : BitVec 1 := Scalar.cmpi .slt v154 c0_i32_89
  let v159 : BitVec 1 := Scalar.xori v157 v158
  let c0_i32_87 : BitVec 32 := 0#32
  let v156 : BitVec 1 := Scalar.cmpi .ne v155 c0_i32_87
  let v160 : BitVec 1 := Scalar.andi v159 v156
  let v161 : BitVec 32 := Scalar.addi v155 v154
  let v162 : BitVec 32 := Scalar.select v160 v161 v155
  let c4064_i32_90 : BitVec 32 := 4064#32
  let v163 : BitVec 32 := Scalar.muli v162 c4064_i32_90
  let v164 : BitVec 32 := v163
  let c0_i32_92 : BitVec 32 := 0#32
  ![v152.toNat, v164.toNat, 0]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v54 : BitVec 1 := Scalar.cmpi .eq v1 c31_i32
  let v55 : BitVec 32 := Scalar.extui v54
  let c0_i32_24 : BitVec 32 := 0#32
  let v56 : BitVec 1 := Scalar.cmpi .ne v55 c0_i32_24
  v56

def k0_mult6 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_66 : BitVec 32 := 1#32
  let c0_i32_67 : BitVec 32 := 0#32
  let v116 : BitVec 1 := Scalar.cmpi .eq c1_i32_66 c0_i32_67
  let c1_i32_68 : BitVec 32 := 1#32
  let v117 : BitVec 32 := Scalar.select v116 c1_i32_68 c1_i32_66
  let v118 : BitVec 32 := Scalar.remsi v1 v117
  let c0_i32_70 : BitVec 32 := 0#32
  let v120 : BitVec 1 := Scalar.cmpi .slt v118 c0_i32_70
  let c0_i32_71 : BitVec 32 := 0#32
  let v121 : BitVec 1 := Scalar.cmpi .slt v117 c0_i32_71
  let v122 : BitVec 1 := Scalar.xori v120 v121
  let c0_i32_69 : BitVec 32 := 0#32
  let v119 : BitVec 1 := Scalar.cmpi .ne v118 c0_i32_69
  let v123 : BitVec 1 := Scalar.andi v122 v119
  let v124 : BitVec 32 := Scalar.addi v118 v117
  let v125 : BitVec 32 := Scalar.select v123 v124 v118
  let c4064_i32_72 : BitVec 32 := 4064#32
  let v126 : BitVec 32 := Scalar.muli v125 c4064_i32_72
  let c32_i32_73 : BitVec 32 := 32#32
  let v127 : BitVec 32 := Scalar.addi v126 c32_i32_73
  v127
def k0_off12 (i : grid0.Coords) : Fin 2 → Nat :=
  let c0_i32_74 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![0, v11.toNat]
def k0_off13 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_75 : BitVec 32 := 0#32
  let c0_i32_76 : BitVec 32 := 0#32
  ![v11.toNat, 0, 0]
def k0_off14 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_60 : BitVec 32 := 0#32
  let v100 : BitVec 1 := Scalar.cmpi .sgt v1 c0_i32_60
  let v101 : BitVec 32 := Scalar.extui v100
  let c0_i32_61 : BitVec 32 := 0#32
  let v102 : BitVec 1 := Scalar.cmpi .slt v1 c0_i32_61
  let v103 : BitVec 32 := Scalar.extui v102
  let v104 : BitVec 32 := Scalar.subi v101 v103
  let c1_i32_59 : BitVec 32 := 1#32
  let c0_i32_62 : BitVec 32 := 0#32
  let v105 : BitVec 1 := Scalar.cmpi .sgt c1_i32_59 c0_i32_62
  let v106 : BitVec 32 := Scalar.extui v105
  let c0_i32_63 : BitVec 32 := 0#32
  let v107 : BitVec 1 := Scalar.cmpi .slt c1_i32_59 c0_i32_63
  let v108 : BitVec 32 := Scalar.extui v107
  let v109 : BitVec 32 := Scalar.subi v106 v108
  let v110 : BitVec 1 := Scalar.cmpi .ne v104 v109
  let v111 : BitVec 32 := Scalar.remsi v1 c1_i32_59
  let c0_i32_64 : BitVec 32 := 0#32
  let v112 : BitVec 1 := Scalar.cmpi .ne v111 c0_i32_64
  let v113 : BitVec 1 := Scalar.andi v110 v112
  let v99 : BitVec 32 := Scalar.divsi v1 c1_i32_59
  let c1_i32_65 : BitVec 32 := 1#32
  let v114 : BitVec 32 := Scalar.subi v99 c1_i32_65
  let v115 : BitVec 32 := Scalar.select v113 v114 v99
  let c1_i32_66 : BitVec 32 := 1#32
  let c0_i32_67 : BitVec 32 := 0#32
  let v116 : BitVec 1 := Scalar.cmpi .eq c1_i32_66 c0_i32_67
  let c1_i32_68 : BitVec 32 := 1#32
  let v117 : BitVec 32 := Scalar.select v116 c1_i32_68 c1_i32_66
  let v118 : BitVec 32 := Scalar.remsi v1 v117
  let c0_i32_70 : BitVec 32 := 0#32
  let v120 : BitVec 1 := Scalar.cmpi .slt v118 c0_i32_70
  let c0_i32_71 : BitVec 32 := 0#32
  let v121 : BitVec 1 := Scalar.cmpi .slt v117 c0_i32_71
  let v122 : BitVec 1 := Scalar.xori v120 v121
  let c0_i32_69 : BitVec 32 := 0#32
  let v119 : BitVec 1 := Scalar.cmpi .ne v118 c0_i32_69
  let v123 : BitVec 1 := Scalar.andi v122 v119
  let v124 : BitVec 32 := Scalar.addi v118 v117
  let v125 : BitVec 32 := Scalar.select v123 v124 v118
  let c4064_i32_72 : BitVec 32 := 4064#32
  let v126 : BitVec 32 := Scalar.muli v125 c4064_i32_72
  let c32_i32_73 : BitVec 32 := 32#32
  let v127 : BitVec 32 := Scalar.addi v126 c32_i32_73
  let v128 : BitVec 32 := v127
  let c0_i32_77 : BitVec 32 := 0#32
  ![v115.toNat, v128.toNat, 0]
def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_85 : BitVec 32 := 1#32
  let c0_i32_86 : BitVec 32 := 0#32
  let v152 : BitVec 1 := Scalar.cmpi .eq c1_i32_85 c0_i32_86
  let c1_i32_87 : BitVec 32 := 1#32
  let v153 : BitVec 32 := Scalar.select v152 c1_i32_87 c1_i32_85
  let v154 : BitVec 32 := Scalar.remsi v1 v153
  let c0_i32_89 : BitVec 32 := 0#32
  let v156 : BitVec 1 := Scalar.cmpi .slt v154 c0_i32_89
  let c0_i32_90 : BitVec 32 := 0#32
  let v157 : BitVec 1 := Scalar.cmpi .slt v153 c0_i32_90
  let v158 : BitVec 1 := Scalar.xori v156 v157
  let c0_i32_88 : BitVec 32 := 0#32
  let v155 : BitVec 1 := Scalar.cmpi .ne v154 c0_i32_88
  let v159 : BitVec 1 := Scalar.andi v158 v155
  let v160 : BitVec 32 := Scalar.addi v154 v153
  let v161 : BitVec 32 := Scalar.select v159 v160 v154
  let c4064_i32_91 : BitVec 32 := 4064#32
  let v162 : BitVec 32 := Scalar.muli v161 c4064_i32_91
  v162
def k0_off15 (i : grid0.Coords) : Fin 2 → Nat :=
  let c1_i32_92 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![1, v11.toNat]
def k0_off16 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_79 : BitVec 32 := 0#32
  let v136 : BitVec 1 := Scalar.cmpi .sgt v1 c0_i32_79
  let v137 : BitVec 32 := Scalar.extui v136
  let c0_i32_80 : BitVec 32 := 0#32
  let v138 : BitVec 1 := Scalar.cmpi .slt v1 c0_i32_80
  let v139 : BitVec 32 := Scalar.extui v138
  let v140 : BitVec 32 := Scalar.subi v137 v139
  let c1_i32_78 : BitVec 32 := 1#32
  let c0_i32_81 : BitVec 32 := 0#32
  let v141 : BitVec 1 := Scalar.cmpi .sgt c1_i32_78 c0_i32_81
  let v142 : BitVec 32 := Scalar.extui v141
  let c0_i32_82 : BitVec 32 := 0#32
  let v143 : BitVec 1 := Scalar.cmpi .slt c1_i32_78 c0_i32_82
  let v144 : BitVec 32 := Scalar.extui v143
  let v145 : BitVec 32 := Scalar.subi v142 v144
  let v146 : BitVec 1 := Scalar.cmpi .ne v140 v145
  let v147 : BitVec 32 := Scalar.remsi v1 c1_i32_78
  let c0_i32_83 : BitVec 32 := 0#32
  let v148 : BitVec 1 := Scalar.cmpi .ne v147 c0_i32_83
  let v149 : BitVec 1 := Scalar.andi v146 v148
  let v135 : BitVec 32 := Scalar.divsi v1 c1_i32_78
  let c1_i32_84 : BitVec 32 := 1#32
  let v150 : BitVec 32 := Scalar.subi v135 c1_i32_84
  let v151 : BitVec 32 := Scalar.select v149 v150 v135
  let c1_i32_85 : BitVec 32 := 1#32
  let c0_i32_86 : BitVec 32 := 0#32
  let v152 : BitVec 1 := Scalar.cmpi .eq c1_i32_85 c0_i32_86
  let c1_i32_87 : BitVec 32 := 1#32
  let v153 : BitVec 32 := Scalar.select v152 c1_i32_87 c1_i32_85
  let v154 : BitVec 32 := Scalar.remsi v1 v153
  let c0_i32_89 : BitVec 32 := 0#32
  let v156 : BitVec 1 := Scalar.cmpi .slt v154 c0_i32_89
  let c0_i32_90 : BitVec 32 := 0#32
  let v157 : BitVec 1 := Scalar.cmpi .slt v153 c0_i32_90
  let v158 : BitVec 1 := Scalar.xori v156 v157
  let c0_i32_88 : BitVec 32 := 0#32
  let v155 : BitVec 1 := Scalar.cmpi .ne v154 c0_i32_88
  let v159 : BitVec 1 := Scalar.andi v158 v155
  let v160 : BitVec 32 := Scalar.addi v154 v153
  let v161 : BitVec 32 := Scalar.select v159 v160 v154
  let c4064_i32_91 : BitVec 32 := 4064#32
  let v162 : BitVec 32 := Scalar.muli v161 c4064_i32_91
  let v163 : BitVec 32 := v162
  let c0_i32_93 : BitVec 32 := 0#32
  ![v151.toNat, v163.toNat, 0]
def k0_mult8 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_96 : BitVec 32 := 1#32
  let v170 : BitVec 32 := Scalar.subi v1 c1_i32_96
  let c1_i32_105 : BitVec 32 := 1#32
  let c0_i32_106 : BitVec 32 := 0#32
  let v189 : BitVec 1 := Scalar.cmpi .eq c1_i32_105 c0_i32_106
  let c1_i32_107 : BitVec 32 := 1#32
  let v190 : BitVec 32 := Scalar.select v189 c1_i32_107 c1_i32_105
  let v191 : BitVec 32 := Scalar.remsi v170 v190
  let c0_i32_109 : BitVec 32 := 0#32
  let v193 : BitVec 1 := Scalar.cmpi .slt v191 c0_i32_109
  let c0_i32_110 : BitVec 32 := 0#32
  let v194 : BitVec 1 := Scalar.cmpi .slt v190 c0_i32_110
  let v195 : BitVec 1 := Scalar.xori v193 v194
  let c0_i32_108 : BitVec 32 := 0#32
  let v192 : BitVec 1 := Scalar.cmpi .ne v191 c0_i32_108
  let v196 : BitVec 1 := Scalar.andi v195 v192
  let v197 : BitVec 32 := Scalar.addi v191 v190
  let v198 : BitVec 32 := Scalar.select v196 v197 v191
  let c4064_i32_111 : BitVec 32 := 4064#32
  let v199 : BitVec 32 := Scalar.muli v198 c4064_i32_111
  v199
def k0_off17 (i : grid0.Coords) : Fin 2 → Nat :=
  let c1_i32_112 : BitVec 32 := 1#32
  let c1_i32_97 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v171 : BitVec 32 := Scalar.subi c1_i32_97 v11
  ![1, v171.toNat]
def k0_off18 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_96 : BitVec 32 := 1#32
  let v170 : BitVec 32 := Scalar.subi v1 c1_i32_96
  let c0_i32_99 : BitVec 32 := 0#32
  let v173 : BitVec 1 := Scalar.cmpi .sgt v170 c0_i32_99
  let v174 : BitVec 32 := Scalar.extui v173
  let c0_i32_100 : BitVec 32 := 0#32
  let v175 : BitVec 1 := Scalar.cmpi .slt v170 c0_i32_100
  let v176 : BitVec 32 := Scalar.extui v175
  let v177 : BitVec 32 := Scalar.subi v174 v176
  let c1_i32_98 : BitVec 32 := 1#32
  let c0_i32_101 : BitVec 32 := 0#32
  let v178 : BitVec 1 := Scalar.cmpi .sgt c1_i32_98 c0_i32_101
  let v179 : BitVec 32 := Scalar.extui v178
  let c0_i32_102 : BitVec 32 := 0#32
  let v180 : BitVec 1 := Scalar.cmpi .slt c1_i32_98 c0_i32_102
  let v181 : BitVec 32 := Scalar.extui v180
  let v182 : BitVec 32 := Scalar.subi v179 v181
  let v183 : BitVec 1 := Scalar.cmpi .ne v177 v182
  let v184 : BitVec 32 := Scalar.remsi v170 c1_i32_98
  let c0_i32_103 : BitVec 32 := 0#32
  let v185 : BitVec 1 := Scalar.cmpi .ne v184 c0_i32_103
  let v186 : BitVec 1 := Scalar.andi v183 v185
  let v172 : BitVec 32 := Scalar.divsi v170 c1_i32_98
  let c1_i32_104 : BitVec 32 := 1#32
  let v187 : BitVec 32 := Scalar.subi v172 c1_i32_104
  let v188 : BitVec 32 := Scalar.select v186 v187 v172
  let c1_i32_105 : BitVec 32 := 1#32
  let c0_i32_106 : BitVec 32 := 0#32
  let v189 : BitVec 1 := Scalar.cmpi .eq c1_i32_105 c0_i32_106
  let c1_i32_107 : BitVec 32 := 1#32
  let v190 : BitVec 32 := Scalar.select v189 c1_i32_107 c1_i32_105
  let v191 : BitVec 32 := Scalar.remsi v170 v190
  let c0_i32_109 : BitVec 32 := 0#32
  let v193 : BitVec 1 := Scalar.cmpi .slt v191 c0_i32_109
  let c0_i32_110 : BitVec 32 := 0#32
  let v194 : BitVec 1 := Scalar.cmpi .slt v190 c0_i32_110
  let v195 : BitVec 1 := Scalar.xori v193 v194
  let c0_i32_108 : BitVec 32 := 0#32
  let v192 : BitVec 1 := Scalar.cmpi .ne v191 c0_i32_108
  let v196 : BitVec 1 := Scalar.andi v195 v192
  let v197 : BitVec 32 := Scalar.addi v191 v190
  let v198 : BitVec 32 := Scalar.select v196 v197 v191
  let c4064_i32_111 : BitVec 32 := 4064#32
  let v199 : BitVec 32 := Scalar.muli v198 c4064_i32_111
  let v200 : BitVec 32 := v199
  let c0_i32_113 : BitVec 32 := 0#32
  ![v188.toNat, v200.toNat, 0]
def k0_off19 (i : grid0.Coords) : Fin 3 → Nat :=
  let c1_i32_97 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v171 : BitVec 32 := Scalar.subi c1_i32_97 v11
  let c0_i32_114 : BitVec 32 := 0#32
  let c0_i32_115 : BitVec 32 := 0#32
  ![v171.toNat, 0, 0]
def k0_mult9 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_123 : BitVec 32 := 1#32
  let c0_i32_124 : BitVec 32 := 0#32
  let v224 : BitVec 1 := Scalar.cmpi .eq c1_i32_123 c0_i32_124
  let c1_i32_125 : BitVec 32 := 1#32
  let v225 : BitVec 32 := Scalar.select v224 c1_i32_125 c1_i32_123
  let v226 : BitVec 32 := Scalar.remsi v1 v225
  let c0_i32_127 : BitVec 32 := 0#32
  let v228 : BitVec 1 := Scalar.cmpi .slt v226 c0_i32_127
  let c0_i32_128 : BitVec 32 := 0#32
  let v229 : BitVec 1 := Scalar.cmpi .slt v225 c0_i32_128
  let v230 : BitVec 1 := Scalar.xori v228 v229
  let c0_i32_126 : BitVec 32 := 0#32
  let v227 : BitVec 1 := Scalar.cmpi .ne v226 c0_i32_126
  let v231 : BitVec 1 := Scalar.andi v230 v227
  let v232 : BitVec 32 := Scalar.addi v226 v225
  let v233 : BitVec 32 := Scalar.select v231 v232 v226
  let c4064_i32_129 : BitVec 32 := 4064#32
  let v234 : BitVec 32 := Scalar.muli v233 c4064_i32_129
  v234
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![c0_i32.toNat, v2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ValsRefIdeal.lean ====
abbrev S16384x2048 : Shape := ⟨2, ![16384, 2048]⟩
abbrev S2048x12800 : Shape := ⟨2, ![2048, 12800]⟩
abbrev S32x512x2x4x128 : Shape := ⟨5, ![32, 512, 2, 4, 128]⟩
abbrev S32x4x2x4x128 : Shape := ⟨5, ![32, 4, 2, 4, 128]⟩
abbrev S2048x1024 : Shape := ⟨2, ![2048, 1024]⟩
abbrev S16384x1024 : Shape := ⟨2, ![16384, 1024]⟩
abbrev S_ : Shape := ⟨0, ![]⟩
abbrev S32x508x2x4x128 : Shape := ⟨5, ![32, 508, 2, 4, 128]⟩
abbrev S32x4096x128 : Shape := ⟨3, ![32, 4096, 128]⟩

abbrev nBuf : Space → Nat
  | .hbm => 23
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x12800, .f32⟩
  | .hbm, ⟨2, _⟩ => ⟨S32x512x2x4x128, .f32⟩
  | .hbm, ⟨3, _⟩ => ⟨S32x4x2x4x128, .f32⟩
  | .hbm, ⟨4, _⟩ => ⟨S16384x2048, .f32⟩
  | .hbm, ⟨5, _⟩ => ⟨S2048x1024, .f32⟩
  | .hbm, ⟨6, _⟩ => ⟨S16384x1024, .f32⟩
  | .hbm, ⟨7, _⟩ => ⟨S2048x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S32x508x2x4x128, .f32⟩
  | .hbm, ⟨19, _⟩ => ⟨S32x512x2x4x128, .f32⟩
  | .hbm, ⟨20, _⟩ => ⟨S16384x2048, .f32⟩
  | .hbm, ⟨21, _⟩ => ⟨S16384x2048, .bf16⟩
  | .hbm, ⟨22, _⟩ => ⟨S32x4096x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Rot.lean ====
abbrev S16384x2048 : Shape := ⟨2, ![16384, 2048]⟩
abbrev S2048x12800 : Shape := ⟨2, ![2048, 12800]⟩
abbrev S8192x64 : Shape := ⟨2, ![8192, 64]⟩
abbrev S32x128x2x4x128 : Shape := ⟨5, ![32, 128, 2, 4, 128]⟩
abbrev S32x4x2x4x128 : Shape := ⟨5, ![32, 4, 2, 4, 128]⟩
abbrev S8192x128 : Shape := ⟨2, ![8192, 128]⟩
abbrev S1x8192x128 : Shape := ⟨3, ![1, 8192, 128]⟩
abbrev S2x8192x128 : Shape := ⟨3, ![2, 8192, 128]⟩
abbrev S_ : Shape := ⟨0, ![]⟩
abbrev S1x2x8192x128 : Shape := ⟨4, ![1, 2, 8192, 128]⟩
abbrev S2x2x8192x128 : Shape := ⟨4, ![2, 2, 8192, 128]⟩
abbrev S32x1024x128 : Shape := ⟨3, ![32, 1024, 128]⟩
abbrev S32x32x128 : Shape := ⟨3, ![32, 32, 128]⟩
abbrev S1024x2048 : Shape := ⟨2, ![1024, 2048]⟩
abbrev S2048x1024 : Shape := ⟨2, ![2048, 1024]⟩
abbrev S1x2x1024x128 : Shape := ⟨4, ![1, 2, 1024, 128]⟩
abbrev S1024x1024 : Shape := ⟨2, ![1024, 1024]⟩
abbrev S2x992x128 : Shape := ⟨3, ![2, 992, 128]⟩
abbrev S3x2 : Shape := ⟨2, ![3, 2]⟩
abbrev S1x1 : Shape := ⟨2, ![1, 1]⟩
abbrev S1x992x128 : Shape := ⟨3, ![1, 992, 128]⟩
abbrev S992x128 : Shape := ⟨2, ![992, 128]⟩
abbrev S2048x256 : Shape := ⟨2, ![2048, 256]⟩
abbrev S1024x256 : Shape := ⟨2, ![1024, 256]⟩
abbrev S1x1x1024x128 : Shape := ⟨4, ![1, 1, 1024, 128]⟩
abbrev S1024x128 : Shape := ⟨2, ![1024, 128]⟩

abbrev nBuf : Space → Nat
  | .hbm => 25
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2048x12800, .f32⟩
  | .hbm, ⟨2, _⟩ => ⟨S8192x64, .f32⟩
  | .hbm, ⟨3, _⟩ => ⟨S8192x64, .f32⟩
  | .hbm, ⟨4, _⟩ => ⟨S32x128x2x4x128, .f32⟩
  | .hbm, ⟨5, _⟩ => ⟨S32x4x2x4x128, .f32⟩
  | .hbm, ⟨6, _⟩ => ⟨S8192x128, .f32⟩
  | .hbm, ⟨7, _⟩ => ⟨S8192x64, .f32⟩
  | .hbm, ⟨8, _⟩ => ⟨S8192x128, .f32⟩
  | .hbm, ⟨9, _⟩ => ⟨S1x8192x128, .f32⟩
  | .hbm, ⟨10, _⟩ => ⟨S1x8192x128, .f32⟩
  | .hbm, ⟨11, _⟩ => ⟨S2x8192x128, .f32⟩
  | .hbm, ⟨12, _⟩ => ⟨S1x8192x128, .f32⟩
  | .hbm, ⟨13, _⟩ => ⟨S1x8192x128, .f32⟩
  | .hbm, ⟨14, _⟩ => ⟨S2x8192x128, .f32⟩
  | .hbm, ⟨15, _⟩ => ⟨S_, .f32⟩
  | .hbm, ⟨16, _⟩ => ⟨S2x8192x128, .f32⟩
  | .hbm, ⟨17, _⟩ => ⟨S2x8192x128, .f32⟩
  | .hbm, ⟨18, _⟩ => ⟨S1x2x8192x128, .f32⟩
  | .hbm, ⟨19, _⟩ => ⟨S1x2x8192x128, .f32⟩
  | .hbm, ⟨20, _⟩ => ⟨S2x2x8192x128, .f32⟩
  | .hbm, ⟨21, _⟩ => ⟨S32x1024x128, .f32⟩
  | .hbm, ⟨22, _⟩ => ⟨S32x32x128, .f32⟩
  | .hbm, ⟨23, _⟩ => ⟨S16384x2048, .bf16⟩
  | .hbm, ⟨24, _⟩ => ⟨S32x1024x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x2x1024x128, .f32⟩
  | .local _ .vmem, ⟨5, _⟩ => ⟨S1x2x1024x128, .f32⟩
  | .local _ .vmem, ⟨6, _⟩ => ⟨S32x32x128, .f32⟩
  | .local _ .vmem, ⟨7, _⟩ => ⟨S1024x1024, .bf16⟩
  | .local _ .vmem, ⟨8, _⟩ => ⟨S1024x1024, .bf16⟩
  | .local _ .vmem, ⟨9, _⟩ => ⟨S2048x1024, .bf16⟩
  | .local _ .vmem, ⟨10, _⟩ => ⟨S2x992x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_3 : BitVec 32 := 2#32
  let v12 : BitVec 1 := Scalar.cmpi .sge v1 c2_i32_3
  let v13 : BitVec 32 := Scalar.extui v12
  let c0_i32_4 : BitVec 32 := 0#32
  let v14 : BitVec 1 := Scalar.cmpi .ne v13 c0_i32_4
  v14

def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_92 : BitVec 32 := 2#32
  let v144 : BitVec 32 := Scalar.subi v1 c2_i32_92
  let c1_i32_100 : BitVec 32 := 1#32
  let c0_i32_101 : BitVec 32 := 0#32
  let v162 : BitVec 1 := Scalar.cmpi .eq c1_i32_100 c0_i32_101
  let c1_i32_102 : BitVec 32 := 1#32
  let v163 : BitVec 32 := Scalar.select v162 c1_i32_102 c1_i32_100
  let v164 : BitVec 32 := Scalar.remsi v144 v163
  let c0_i32_104 : BitVec 32 := 0#32
  let v166 : BitVec 1 := Scalar.cmpi .slt v164 c0_i32_104
  let c0_i32_105 : BitVec 32 := 0#32
  let v167 : BitVec 1 := Scalar.cmpi .slt v163 c0_i32_105
  let v168 : BitVec 1 := Scalar.xori v166 v167
  let c0_i32_103 : BitVec 32 := 0#32
  let v165 : BitVec 1 := Scalar.cmpi .ne v164 c0_i32_103
  let v169 : BitVec 1 := Scalar.andi v168 v165
  let v170 : BitVec 32 := Scalar.addi v164 v163
  let v171 : BitVec 32 := Scalar.select v169 v170 v164
  let c992_i32_106 : BitVec 32 := 992#32
  let v172 : BitVec 32 := Scalar.muli v171 c992_i32_106
  v172
def k0_off1 (i : grid0.Coords) : Fin 2 → Nat :=
  let c1_i32_107 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![1, v11.toNat]
def k0_off2 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_92 : BitVec 32 := 2#32
  let v144 : BitVec 32 := Scalar.subi v1 c2_i32_92
  let c0_i32_94 : BitVec 32 := 0#32
  let v146 : BitVec 1 := Scalar.cmpi .sgt v144 c0_i32_94
  let v147 : BitVec 32 := Scalar.extui v146
  let c0_i32_95 : BitVec 32 := 0#32
  let v148 : BitVec 1 := Scalar.cmpi .slt v144 c0_i32_95
  let v149 : BitVec 32 := Scalar.extui v148
  let v150 : BitVec 32 := Scalar.subi v147 v149
  let c1_i32_93 : BitVec 32 := 1#32
  let c0_i32_96 : BitVec 32 := 0#32
  let v151 : BitVec 1 := Scalar.cmpi .sgt c1_i32_93 c0_i32_96
  let v152 : BitVec 32 := Scalar.extui v151
  let c0_i32_97 : BitVec 32 := 0#32
  let v153 : BitVec 1 := Scalar.cmpi .slt c1_i32_93 c0_i32_97
  let v154 : BitVec 32 := Scalar.extui v153
  let v155 : BitVec 32 := Scalar.subi v152 v154
  let v156 : BitVec 1 := Scalar.cmpi .ne v150 v155
  let v157 : BitVec 32 := Scalar.remsi v144 c1_i32_93
  let c0_i32_98 : BitVec 32 := 0#32
  let v158 : BitVec 1 := Scalar.cmpi .ne v157 c0_i32_98
  let v159 : BitVec 1 := Scalar.andi v156 v158
  let v145 : BitVec 32 := Scalar.divsi v144 c1_i32_93
  let c1_i32_99 : BitVec 32 := 1#32
  let v160 : BitVec 32 := Scalar.subi v145 c1_i32_99
  let v161 : BitVec 32 := Scalar.select v159 v160 v145
  let c1_i32_100 : BitVec 32 := 1#32
  let c0_i32_101 : BitVec 32 := 0#32
  let v162 : BitVec 1 := Scalar.cmpi .eq c1_i32_100 c0_i32_101
  let c1_i32_102 : BitVec 32 := 1#32
  let v163 : BitVec 32 := Scalar.select v162 c1_i32_102 c1_i32_100
  let v164 : BitVec 32 := Scalar.remsi v144 v163
  let c0_i32_104 : BitVec 32 := 0#32
  let v166 : BitVec 1 := Scalar.cmpi .slt v164 c0_i32_104
  let c0_i32_105 : BitVec 32 := 0#32
  let v167 : BitVec 1 := Scalar.cmpi .slt v163 c0_i32_105
  let v168 : BitVec 1 := Scalar.xori v166 v167
  let c0_i32_103 : BitVec 32 := 0#32
  let v165 : BitVec 1 := Scalar.cmpi .ne v164 c0_i32_103
  let v169 : BitVec 1 := Scalar.andi v168 v165
  let v170 : BitVec 32 := Scalar.addi v164 v163
  let v171 : BitVec 32 := Scalar.select v169 v170 v164
  let c992_i32_106 : BitVec 32 := 992#32
  let v172 : BitVec 32 := Scalar.muli v171 c992_i32_106
  let v173 : BitVec 32 := v172
  let c0_i32_108 : BitVec 32 := 0#32
  ![v161.toNat, v173.toNat, 0]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_109 : BitVec 32 := 0#32
  let c0_i32_110 : BitVec 32 := 0#32
  ![v11.toNat, 0, 0]
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_12 : BitVec 32 := 1#32
  let c0_i32_13 : BitVec 32 := 0#32
  let v32 : BitVec 1 := Scalar.cmpi .eq c1_i32_12 c0_i32_13
  let c1_i32_14 : BitVec 32 := 1#32
  let v33 : BitVec 32 := Scalar.select v32 c1_i32_14 c1_i32_12
  let v34 : BitVec 32 := Scalar.remsi v1 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c992_i32 : BitVec 32 := 992#32
  let v42 : BitVec 32 := Scalar.muli v41 c992_i32
  let c32_i32 : BitVec 32 := 32#32
  let v43 : BitVec 32 := Scalar.addi v42 c32_i32
  v43
def k0_off4 (i : grid0.Coords) : Fin 2 → Nat :=
  let c0_i32_18 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![0, v11.toNat]
def k0_off5 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_19 : BitVec 32 := 0#32
  let c0_i32_20 : BitVec 32 := 0#32
  ![v11.toNat, 0, 0]
def k0_off6 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_6 : BitVec 32 := 0#32
  let v16 : BitVec 1 := Scalar.cmpi .sgt v1 c0_i32_6
  let v17 : BitVec 32 := Scalar.extui v16
  let c0_i32_7 : BitVec 32 := 0#32
  let v18 : BitVec 1 := Scalar.cmpi .slt v1 c0_i32_7
  let v19 : BitVec 32 := Scalar.extui v18
  let v20 : BitVec 32 := Scalar.subi v17 v19
  let c1_i32_5 : BitVec 32 := 1#32
  let c0_i32_8 : BitVec 32 := 0#32
  let v21 : BitVec 1 := Scalar.cmpi .sgt c1_i32_5 c0_i32_8
  let v22 : BitVec 32 := Scalar.extui v21
  let c0_i32_9 : BitVec 32 := 0#32
  let v23 : BitVec 1 := Scalar.cmpi .slt c1_i32_5 c0_i32_9
  let v24 : BitVec 32 := Scalar.extui v23
  let v25 : BitVec 32 := Scalar.subi v22 v24
  let v26 : BitVec 1 := Scalar.cmpi .ne v20 v25
  let v27 : BitVec 32 := Scalar.remsi v1 c1_i32_5
  let c0_i32_10 : BitVec 32 := 0#32
  let v28 : BitVec 1 := Scalar.cmpi .ne v27 c0_i32_10
  let v29 : BitVec 1 := Scalar.andi v26 v28
  let v15 : BitVec 32 := Scalar.divsi v1 c1_i32_5
  let c1_i32_11 : BitVec 32 := 1#32
  let v30 : BitVec 32 := Scalar.subi v15 c1_i32_11
  let v31 : BitVec 32 := Scalar.select v29 v30 v15
  let c1_i32_12 : BitVec 32 := 1#32
  let c0_i32_13 : BitVec 32 := 0#32
  let v32 : BitVec 1 := Scalar.cmpi .eq c1_i32_12 c0_i32_13
  let c1_i32_14 : BitVec 32 := 1#32
  let v33 : BitVec 32 := Scalar.select v32 c1_i32_14 c1_i32_12
  let v34 : BitVec 32 := Scalar.remsi v1 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c992_i32 : BitVec 32 := 992#32
  let v42 : BitVec 32 := Scalar.muli v41 c992_i32
  let c32_i32 : BitVec 32 := 32#32
  let v43 : BitVec 32 := Scalar.addi v42 c32_i32
  let v44 : BitVec 32 := v43
  let c0_i32_21 : BitVec 32 := 0#32
  ![v31.toNat, v44.toNat, 0]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_22 : BitVec 32 := 1#32
  let v51 : BitVec 1 := Scalar.cmpi .sge v1 c1_i32_22
  let v52 : BitVec 32 := Scalar.extui v51
  let c0_i32_23 : BitVec 32 := 0#32
  let v53 : BitVec 1 := Scalar.cmpi .ne v52 c0_i32_23
  v53

def k0_mult4 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_92 : BitVec 32 := 1#32
  let v144 : BitVec 32 := Scalar.subi v1 c1_i32_92
  let c1_i32_101 : BitVec 32 := 1#32
  let c0_i32_102 : BitVec 32 := 0#32
  let v163 : BitVec 1 := Scalar.cmpi .eq c1_i32_101 c0_i32_102
  let c1_i32_103 : BitVec 32 := 1#32
  let v164 : BitVec 32 := Scalar.select v163 c1_i32_103 c1_i32_101
  let v165 : BitVec 32 := Scalar.remsi v144 v164
  let c0_i32_105 : BitVec 32 := 0#32
  let v167 : BitVec 1 := Scalar.cmpi .slt v165 c0_i32_105
  let c0_i32_106 : BitVec 32 := 0#32
  let v168 : BitVec 1 := Scalar.cmpi .slt v164 c0_i32_106
  let v169 : BitVec 1 := Scalar.xori v167 v168
  let c0_i32_104 : BitVec 32 := 0#32
  let v166 : BitVec 1 := Scalar.cmpi .ne v165 c0_i32_104
  let v170 : BitVec 1 := Scalar.andi v169 v166
  let v171 : BitVec 32 := Scalar.addi v165 v164
  let v172 : BitVec 32 := Scalar.select v170 v171 v165
  let c992_i32_107 : BitVec 32 := 992#32
  let v173 : BitVec 32 := Scalar.muli v172 c992_i32_107
  let c32_i32_108 : BitVec 32 := 32#32
  let v174 : BitVec 32 := Scalar.addi v173 c32_i32_108
  v174
def k0_off7 (i : grid0.Coords) : Fin 2 → Nat :=
  let c0_i32_109 : BitVec 32 := 0#32
  let c1_i32_93 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v145 : BitVec 32 := Scalar.subi c1_i32_93 v11
  ![0, v145.toNat]
def k0_off8 (i : grid0.Coords) : Fin 3 → Nat :=
  let c1_i32_93 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v145 : BitVec 32 := Scalar.subi c1_i32_93 v11
  let c0_i32_110 : BitVec 32 := 0#32
  let c0_i32_111 : BitVec 32 := 0#32
  ![v145.toNat, 0, 0]
def k0_off9 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_92 : BitVec 32 := 1#32
  let v144 : BitVec 32 := Scalar.subi v1 c1_i32_92
  let c0_i32_95 : BitVec 32 := 0#32
  let v147 : BitVec 1 := Scalar.cmpi .sgt v144 c0_i32_95
  let v148 : BitVec 32 := Scalar.extui v147
  let c0_i32_96 : BitVec 32 := 0#32
  let v149 : BitVec 1 := Scalar.cmpi .slt v144 c0_i32_96
  let v150 : BitVec 32 := Scalar.extui v149
  let v151 : BitVec 32 := Scalar.subi v148 v150
  let c1_i32_94 : BitVec 32 := 1#32
  let c0_i32_97 : BitVec 32 := 0#32
  let v152 : BitVec 1 := Scalar.cmpi .sgt c1_i32_94 c0_i32_97
  let v153 : BitVec 32 := Scalar.extui v152
  let c0_i32_98 : BitVec 32 := 0#32
  let v154 : BitVec 1 := Scalar.cmpi .slt c1_i32_94 c0_i32_98
  let v155 : BitVec 32 := Scalar.extui v154
  let v156 : BitVec 32 := Scalar.subi v153 v155
  let v157 : BitVec 1 := Scalar.cmpi .ne v151 v156
  let v158 : BitVec 32 := Scalar.remsi v144 c1_i32_94
  let c0_i32_99 : BitVec 32 := 0#32
  let v159 : BitVec 1 := Scalar.cmpi .ne v158 c0_i32_99
  let v160 : BitVec 1 := Scalar.andi v157 v159
  let v146 : BitVec 32 := Scalar.divsi v144 c1_i32_94
  let c1_i32_100 : BitVec 32 := 1#32
  let v161 : BitVec 32 := Scalar.subi v146 c1_i32_100
  let v162 : BitVec 32 := Scalar.select v160 v161 v146
  let c1_i32_101 : BitVec 32 := 1#32
  let c0_i32_102 : BitVec 32 := 0#32
  let v163 : BitVec 1 := Scalar.cmpi .eq c1_i32_101 c0_i32_102
  let c1_i32_103 : BitVec 32 := 1#32
  let v164 : BitVec 32 := Scalar.select v163 c1_i32_103 c1_i32_101
  let v165 : BitVec 32 := Scalar.remsi v144 v164
  let c0_i32_105 : BitVec 32 := 0#32
  let v167 : BitVec 1 := Scalar.cmpi .slt v165 c0_i32_105
  let c0_i32_106 : BitVec 32 := 0#32
  let v168 : BitVec 1 := Scalar.cmpi .slt v164 c0_i32_106
  let v169 : BitVec 1 := Scalar.xori v167 v168
  let c0_i32_104 : BitVec 32 := 0#32
  let v166 : BitVec 1 := Scalar.cmpi .ne v165 c0_i32_104
  let v170 : BitVec 1 := Scalar.andi v169 v166
  let v171 : BitVec 32 := Scalar.addi v165 v164
  let v172 : BitVec 32 := Scalar.select v170 v171 v165
  let c992_i32_107 : BitVec 32 := 992#32
  let v173 : BitVec 32 := Scalar.muli v172 c992_i32_107
  let c32_i32_108 : BitVec 32 := 32#32
  let v174 : BitVec 32 := Scalar.addi v173 c32_i32_108
  let v175 : BitVec 32 := v174
  let c0_i32_112 : BitVec 32 := 0#32
  ![v162.toNat, v175.toNat, 0]
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_113 : BitVec 32 := 1#32
  let v182 : BitVec 32 := Scalar.subi v1 c1_i32_113
  let c1_i32_122 : BitVec 32 := 1#32
  let c0_i32_123 : BitVec 32 := 0#32
  let v201 : BitVec 1 := Scalar.cmpi .eq c1_i32_122 c0_i32_123
  let c1_i32_124 : BitVec 32 := 1#32
  let v202 : BitVec 32 := Scalar.select v201 c1_i32_124 c1_i32_122
  let v203 : BitVec 32 := Scalar.remsi v182 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c992_i32_128 : BitVec 32 := 992#32
  let v211 : BitVec 32 := Scalar.muli v210 c992_i32_128
  v211
def k0_off10 (i : grid0.Coords) : Fin 2 → Nat :=
  let c1_i32_129 : BitVec 32 := 1#32
  let c1_i32_114 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v183 : BitVec 32 := Scalar.subi c1_i32_114 v11
  ![1, v183.toNat]
def k0_off11 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_113 : BitVec 32 := 1#32
  let v182 : BitVec 32 := Scalar.subi v1 c1_i32_113
  let c0_i32_116 : BitVec 32 := 0#32
  let v185 : BitVec 1 := Scalar.cmpi .sgt v182 c0_i32_116
  let v186 : BitVec 32 := Scalar.extui v185
  let c0_i32_117 : BitVec 32 := 0#32
  let v187 : BitVec 1 := Scalar.cmpi .slt v182 c0_i32_117
  let v188 : BitVec 32 := Scalar.extui v187
  let v189 : BitVec 32 := Scalar.subi v186 v188
  let c1_i32_115 : BitVec 32 := 1#32
  let c0_i32_118 : BitVec 32 := 0#32
  let v190 : BitVec 1 := Scalar.cmpi .sgt c1_i32_115 c0_i32_118
  let v191 : BitVec 32 := Scalar.extui v190
  let c0_i32_119 : BitVec 32 := 0#32
  let v192 : BitVec 1 := Scalar.cmpi .slt c1_i32_115 c0_i32_119
  let v193 : BitVec 32 := Scalar.extui v192
  let v194 : BitVec 32 := Scalar.subi v191 v193
  let v195 : BitVec 1 := Scalar.cmpi .ne v189 v194
  let v196 : BitVec 32 := Scalar.remsi v182 c1_i32_115
  let c0_i32_120 : BitVec 32 := 0#32
  let v197 : BitVec 1 := Scalar.cmpi .ne v196 c0_i32_120
  let v198 : BitVec 1 := Scalar.andi v195 v197
  let v184 : BitVec 32 := Scalar.divsi v182 c1_i32_115
  let c1_i32_121 : BitVec 32 := 1#32
  let v199 : BitVec 32 := Scalar.subi v184 c1_i32_121
  let v200 : BitVec 32 := Scalar.select v198 v199 v184
  let c1_i32_122 : BitVec 32 := 1#32
  let c0_i32_123 : BitVec 32 := 0#32
  let v201 : BitVec 1 := Scalar.cmpi .eq c1_i32_122 c0_i32_123
  let c1_i32_124 : BitVec 32 := 1#32
  let v202 : BitVec 32 := Scalar.select v201 c1_i32_124 c1_i32_122
  let v203 : BitVec 32 := Scalar.remsi v182 v202
  let c0_i32_126 : BitVec 32 := 0#32
  let v205 : BitVec 1 := Scalar.cmpi .slt v203 c0_i32_126
  let c0_i32_127 : BitVec 32 := 0#32
  let v206 : BitVec 1 := Scalar.cmpi .slt v202 c0_i32_127
  let v207 : BitVec 1 := Scalar.xori v205 v206
  let c0_i32_125 : BitVec 32 := 0#32
  let v204 : BitVec 1 := Scalar.cmpi .ne v203 c0_i32_125
  let v208 : BitVec 1 := Scalar.andi v207 v204
  let v209 : BitVec 32 := Scalar.addi v203 v202
  let v210 : BitVec 32 := Scalar.select v208 v209 v203
  let c992_i32_128 : BitVec 32 := 992#32
  let v211 : BitVec 32 := Scalar.muli v210 c992_i32_128
  let v212 : BitVec 32 := v211
  let c0_i32_130 : BitVec 32 := 0#32
  ![v200.toNat, v212.toNat, 0]
def k0_cond3 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v54 : BitVec 1 := Scalar.cmpi .eq v1 c31_i32
  let v55 : BitVec 32 := Scalar.extui v54
  let c0_i32_24 : BitVec 32 := 0#32
  let v56 : BitVec 1 := Scalar.cmpi .ne v55 c0_i32_24
  v56

def k0_mult6 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_104 : BitVec 32 := 1#32
  let c0_i32_105 : BitVec 32 := 0#32
  let v164 : BitVec 1 := Scalar.cmpi .eq c1_i32_104 c0_i32_105
  let c1_i32_106 : BitVec 32 := 1#32
  let v165 : BitVec 32 := Scalar.select v164 c1_i32_106 c1_i32_104
  let v166 : BitVec 32 := Scalar.remsi v1 v165
  let c0_i32_108 : BitVec 32 := 0#32
  let v168 : BitVec 1 := Scalar.cmpi .slt v166 c0_i32_108
  let c0_i32_109 : BitVec 32 := 0#32
  let v169 : BitVec 1 := Scalar.cmpi .slt v165 c0_i32_109
  let v170 : BitVec 1 := Scalar.xori v168 v169
  let c0_i32_107 : BitVec 32 := 0#32
  let v167 : BitVec 1 := Scalar.cmpi .ne v166 c0_i32_107
  let v171 : BitVec 1 := Scalar.andi v170 v167
  let v172 : BitVec 32 := Scalar.addi v166 v165
  let v173 : BitVec 32 := Scalar.select v171 v172 v166
  let c992_i32_110 : BitVec 32 := 992#32
  let v174 : BitVec 32 := Scalar.muli v173 c992_i32_110
  let c32_i32_111 : BitVec 32 := 32#32
  let v175 : BitVec 32 := Scalar.addi v174 c32_i32_111
  v175
def k0_off12 (i : grid0.Coords) : Fin 2 → Nat :=
  let c0_i32_112 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![0, v11.toNat]
def k0_off13 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_113 : BitVec 32 := 0#32
  let c0_i32_114 : BitVec 32 := 0#32
  ![v11.toNat, 0, 0]
def k0_off14 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_98 : BitVec 32 := 0#32
  let v148 : BitVec 1 := Scalar.cmpi .sgt v1 c0_i32_98
  let v149 : BitVec 32 := Scalar.extui v148
  let c0_i32_99 : BitVec 32 := 0#32
  let v150 : BitVec 1 := Scalar.cmpi .slt v1 c0_i32_99
  let v151 : BitVec 32 := Scalar.extui v150
  let v152 : BitVec 32 := Scalar.subi v149 v151
  let c1_i32_97 : BitVec 32 := 1#32
  let c0_i32_100 : BitVec 32 := 0#32
  let v153 : BitVec 1 := Scalar.cmpi .sgt c1_i32_97 c0_i32_100
  let v154 : BitVec 32 := Scalar.extui v153
  let c0_i32_101 : BitVec 32 := 0#32
  let v155 : BitVec 1 := Scalar.cmpi .slt c1_i32_97 c0_i32_101
  let v156 : BitVec 32 := Scalar.extui v155
  let v157 : BitVec 32 := Scalar.subi v154 v156
  let v158 : BitVec 1 := Scalar.cmpi .ne v152 v157
  let v159 : BitVec 32 := Scalar.remsi v1 c1_i32_97
  let c0_i32_102 : BitVec 32 := 0#32
  let v160 : BitVec 1 := Scalar.cmpi .ne v159 c0_i32_102
  let v161 : BitVec 1 := Scalar.andi v158 v160
  let v147 : BitVec 32 := Scalar.divsi v1 c1_i32_97
  let c1_i32_103 : BitVec 32 := 1#32
  let v162 : BitVec 32 := Scalar.subi v147 c1_i32_103
  let v163 : BitVec 32 := Scalar.select v161 v162 v147
  let c1_i32_104 : BitVec 32 := 1#32
  let c0_i32_105 : BitVec 32 := 0#32
  let v164 : BitVec 1 := Scalar.cmpi .eq c1_i32_104 c0_i32_105
  let c1_i32_106 : BitVec 32 := 1#32
  let v165 : BitVec 32 := Scalar.select v164 c1_i32_106 c1_i32_104
  let v166 : BitVec 32 := Scalar.remsi v1 v165
  let c0_i32_108 : BitVec 32 := 0#32
  let v168 : BitVec 1 := Scalar.cmpi .slt v166 c0_i32_108
  let c0_i32_109 : BitVec 32 := 0#32
  let v169 : BitVec 1 := Scalar.cmpi .slt v165 c0_i32_109
  let v170 : BitVec 1 := Scalar.xori v168 v169
  let c0_i32_107 : BitVec 32 := 0#32
  let v167 : BitVec 1 := Scalar.cmpi .ne v166 c0_i32_107
  let v171 : BitVec 1 := Scalar.andi v170 v167
  let v172 : BitVec 32 := Scalar.addi v166 v165
  let v173 : BitVec 32 := Scalar.select v171 v172 v166
  let c992_i32_110 : BitVec 32 := 992#32
  let v174 : BitVec 32 := Scalar.muli v173 c992_i32_110
  let c32_i32_111 : BitVec 32 := 32#32
  let v175 : BitVec 32 := Scalar.addi v174 c32_i32_111
  let v176 : BitVec 32 := v175
  let c0_i32_115 : BitVec 32 := 0#32
  ![v163.toNat, v176.toNat, 0]
def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_123 : BitVec 32 := 1#32
  let c0_i32_124 : BitVec 32 := 0#32
  let v200 : BitVec 1 := Scalar.cmpi .eq c1_i32_123 c0_i32_124
  let c1_i32_125 : BitVec 32 := 1#32
  let v201 : BitVec 32 := Scalar.select v200 c1_i32_125 c1_i32_123
  let v202 : BitVec 32 := Scalar.remsi v1 v201
  let c0_i32_127 : BitVec 32 := 0#32
  let v204 : BitVec 1 := Scalar.cmpi .slt v202 c0_i32_127
  let c0_i32_128 : BitVec 32 := 0#32
  let v205 : BitVec 1 := Scalar.cmpi .slt v201 c0_i32_128
  let v206 : BitVec 1 := Scalar.xori v204 v205
  let c0_i32_126 : BitVec 32 := 0#32
  let v203 : BitVec 1 := Scalar.cmpi .ne v202 c0_i32_126
  let v207 : BitVec 1 := Scalar.andi v206 v203
  let v208 : BitVec 32 := Scalar.addi v202 v201
  let v209 : BitVec 32 := Scalar.select v207 v208 v202
  let c992_i32_129 : BitVec 32 := 992#32
  let v210 : BitVec 32 := Scalar.muli v209 c992_i32_129
  v210
def k0_off15 (i : grid0.Coords) : Fin 2 → Nat :=
  let c1_i32_130 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![1, v11.toNat]
def k0_off16 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_117 : BitVec 32 := 0#32
  let v184 : BitVec 1 := Scalar.cmpi .sgt v1 c0_i32_117
  let v185 : BitVec 32 := Scalar.extui v184
  let c0_i32_118 : BitVec 32 := 0#32
  let v186 : BitVec 1 := Scalar.cmpi .slt v1 c0_i32_118
  let v187 : BitVec 32 := Scalar.extui v186
  let v188 : BitVec 32 := Scalar.subi v185 v187
  let c1_i32_116 : BitVec 32 := 1#32
  let c0_i32_119 : BitVec 32 := 0#32
  let v189 : BitVec 1 := Scalar.cmpi .sgt c1_i32_116 c0_i32_119
  let v190 : BitVec 32 := Scalar.extui v189
  let c0_i32_120 : BitVec 32 := 0#32
  let v191 : BitVec 1 := Scalar.cmpi .slt c1_i32_116 c0_i32_120
  let v192 : BitVec 32 := Scalar.extui v191
  let v193 : BitVec 32 := Scalar.subi v190 v192
  let v194 : BitVec 1 := Scalar.cmpi .ne v188 v193
  let v195 : BitVec 32 := Scalar.remsi v1 c1_i32_116
  let c0_i32_121 : BitVec 32 := 0#32
  let v196 : BitVec 1 := Scalar.cmpi .ne v195 c0_i32_121
  let v197 : BitVec 1 := Scalar.andi v194 v196
  let v183 : BitVec 32 := Scalar.divsi v1 c1_i32_116
  let c1_i32_122 : BitVec 32 := 1#32
  let v198 : BitVec 32 := Scalar.subi v183 c1_i32_122
  let v199 : BitVec 32 := Scalar.select v197 v198 v183
  let c1_i32_123 : BitVec 32 := 1#32
  let c0_i32_124 : BitVec 32 := 0#32
  let v200 : BitVec 1 := Scalar.cmpi .eq c1_i32_123 c0_i32_124
  let c1_i32_125 : BitVec 32 := 1#32
  let v201 : BitVec 32 := Scalar.select v200 c1_i32_125 c1_i32_123
  let v202 : BitVec 32 := Scalar.remsi v1 v201
  let c0_i32_127 : BitVec 32 := 0#32
  let v204 : BitVec 1 := Scalar.cmpi .slt v202 c0_i32_127
  let c0_i32_128 : BitVec 32 := 0#32
  let v205 : BitVec 1 := Scalar.cmpi .slt v201 c0_i32_128
  let v206 : BitVec 1 := Scalar.xori v204 v205
  let c0_i32_126 : BitVec 32 := 0#32
  let v203 : BitVec 1 := Scalar.cmpi .ne v202 c0_i32_126
  let v207 : BitVec 1 := Scalar.andi v206 v203
  let v208 : BitVec 32 := Scalar.addi v202 v201
  let v209 : BitVec 32 := Scalar.select v207 v208 v202
  let c992_i32_129 : BitVec 32 := 992#32
  let v210 : BitVec 32 := Scalar.muli v209 c992_i32_129
  let v211 : BitVec 32 := v210
  let c0_i32_131 : BitVec 32 := 0#32
  ![v199.toNat, v211.toNat, 0]
def k0_mult8 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_134 : BitVec 32 := 1#32
  let v218 : BitVec 32 := Scalar.subi v1 c1_i32_134
  let c1_i32_143 : BitVec 32 := 1#32
  let c0_i32_144 : BitVec 32 := 0#32
  let v237 : BitVec 1 := Scalar.cmpi .eq c1_i32_143 c0_i32_144
  let c1_i32_145 : BitVec 32 := 1#32
  let v238 : BitVec 32 := Scalar.select v237 c1_i32_145 c1_i32_143
  let v239 : BitVec 32 := Scalar.remsi v218 v238
  let c0_i32_147 : BitVec 32 := 0#32
  let v241 : BitVec 1 := Scalar.cmpi .slt v239 c0_i32_147
  let c0_i32_148 : BitVec 32 := 0#32
  let v242 : BitVec 1 := Scalar.cmpi .slt v238 c0_i32_148
  let v243 : BitVec 1 := Scalar.xori v241 v242
  let c0_i32_146 : BitVec 32 := 0#32
  let v240 : BitVec 1 := Scalar.cmpi .ne v239 c0_i32_146
  let v244 : BitVec 1 := Scalar.andi v243 v240
  let v245 : BitVec 32 := Scalar.addi v239 v238
  let v246 : BitVec 32 := Scalar.select v244 v245 v239
  let c992_i32_149 : BitVec 32 := 992#32
  let v247 : BitVec 32 := Scalar.muli v246 c992_i32_149
  v247
def k0_off17 (i : grid0.Coords) : Fin 2 → Nat :=
  let c1_i32_150 : BitVec 32 := 1#32
  let c1_i32_135 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v219 : BitVec 32 := Scalar.subi c1_i32_135 v11
  ![1, v219.toNat]
def k0_off18 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_134 : BitVec 32 := 1#32
  let v218 : BitVec 32 := Scalar.subi v1 c1_i32_134
  let c0_i32_137 : BitVec 32 := 0#32
  let v221 : BitVec 1 := Scalar.cmpi .sgt v218 c0_i32_137
  let v222 : BitVec 32 := Scalar.extui v221
  let c0_i32_138 : BitVec 32 := 0#32
  let v223 : BitVec 1 := Scalar.cmpi .slt v218 c0_i32_138
  let v224 : BitVec 32 := Scalar.extui v223
  let v225 : BitVec 32 := Scalar.subi v222 v224
  let c1_i32_136 : BitVec 32 := 1#32
  let c0_i32_139 : BitVec 32 := 0#32
  let v226 : BitVec 1 := Scalar.cmpi .sgt c1_i32_136 c0_i32_139
  let v227 : BitVec 32 := Scalar.extui v226
  let c0_i32_140 : BitVec 32 := 0#32
  let v228 : BitVec 1 := Scalar.cmpi .slt c1_i32_136 c0_i32_140
  let v229 : BitVec 32 := Scalar.extui v228
  let v230 : BitVec 32 := Scalar.subi v227 v229
  let v231 : BitVec 1 := Scalar.cmpi .ne v225 v230
  let v232 : BitVec 32 := Scalar.remsi v218 c1_i32_136
  let c0_i32_141 : BitVec 32 := 0#32
  let v233 : BitVec 1 := Scalar.cmpi .ne v232 c0_i32_141
  let v234 : BitVec 1 := Scalar.andi v231 v233
  let v220 : BitVec 32 := Scalar.divsi v218 c1_i32_136
  let c1_i32_142 : BitVec 32 := 1#32
  let v235 : BitVec 32 := Scalar.subi v220 c1_i32_142
  let v236 : BitVec 32 := Scalar.select v234 v235 v220
  let c1_i32_143 : BitVec 32 := 1#32
  let c0_i32_144 : BitVec 32 := 0#32
  let v237 : BitVec 1 := Scalar.cmpi .eq c1_i32_143 c0_i32_144
  let c1_i32_145 : BitVec 32 := 1#32
  let v238 : BitVec 32 := Scalar.select v237 c1_i32_145 c1_i32_143
  let v239 : BitVec 32 := Scalar.remsi v218 v238
  let c0_i32_147 : BitVec 32 := 0#32
  let v241 : BitVec 1 := Scalar.cmpi .slt v239 c0_i32_147
  let c0_i32_148 : BitVec 32 := 0#32
  let v242 : BitVec 1 := Scalar.cmpi .slt v238 c0_i32_148
  let v243 : BitVec 1 := Scalar.xori v241 v242
  let c0_i32_146 : BitVec 32 := 0#32
  let v240 : BitVec 1 := Scalar.cmpi .ne v239 c0_i32_146
  let v244 : BitVec 1 := Scalar.andi v243 v240
  let v245 : BitVec 32 := Scalar.addi v239 v238
  let v246 : BitVec 32 := Scalar.select v244 v245 v239
  let c992_i32_149 : BitVec 32 := 992#32
  let v247 : BitVec 32 := Scalar.muli v246 c992_i32_149
  let v248 : BitVec 32 := v247
  let c0_i32_151 : BitVec 32 := 0#32
  ![v236.toNat, v248.toNat, 0]
def k0_off19 (i : grid0.Coords) : Fin 3 → Nat :=
  let c1_i32_135 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v219 : BitVec 32 := Scalar.subi c1_i32_135 v11
  let c0_i32_152 : BitVec 32 := 0#32
  let c0_i32_153 : BitVec 32 := 0#32
  ![v219.toNat, 0, 0]
def k0_mult9 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32_161 : BitVec 32 := 1#32
  let c0_i32_162 : BitVec 32 := 0#32
  let v272 : BitVec 1 := Scalar.cmpi .eq c1_i32_161 c0_i32_162
  let c1_i32_163 : BitVec 32 := 1#32
  let v273 : BitVec 32 := Scalar.select v272 c1_i32_163 c1_i32_161
  let v274 : BitVec 32 := Scalar.remsi v1 v273
  let c0_i32_165 : BitVec 32 := 0#32
  let v276 : BitVec 1 := Scalar.cmpi .slt v274 c0_i32_165
  let c0_i32_166 : BitVec 32 := 0#32
  let v277 : BitVec 1 := Scalar.cmpi .slt v273 c0_i32_166
  let v278 : BitVec 1 := Scalar.xori v276 v277
  let c0_i32_164 : BitVec 32 := 0#32
  let v275 : BitVec 1 := Scalar.cmpi .ne v274 c0_i32_164
  let v279 : BitVec 1 := Scalar.andi v278 v275
  let v280 : BitVec 32 := Scalar.addi v274 v273
  let v281 : BitVec 32 := Scalar.select v279 v280 v274
  let c992_i32_167 : BitVec 32 := 992#32
  let v282 : BitVec 32 := Scalar.muli v281 c992_i32_167
  v282
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![arg0.toNat, c0_i32_3.toNat, v9.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RotRefIdeal.lean ====
abbrev S16384x2048 : Shape := ⟨2, ![16384, 2048]⟩
abbrev S2048x12800 : Shape := ⟨2, ![2048, 12800]⟩
abbrev S8192x64 : Shape := ⟨2, ![8192, 64]⟩
abbrev S32x128x2x4x128 : Shape := ⟨5, ![32, 128, 2, 4, 128]⟩
abbrev S32x4x2x4x128 : Shape := ⟨5, ![32, 4, 2, 4, 128]⟩
abbrev S2048x2048 : Shape := ⟨2, ![2048, 2048]⟩
abbrev S2x8192x16x128 : Shape := ⟨4, ![2, 8192, 16, 128]⟩
abbrev S2x8192x16x64 : Shape := ⟨4, ![2, 8192, 16, 64]⟩
abbrev S1x8192x1x64 : Shape := ⟨4, ![1, 8192, 1, 64]⟩
abbrev S16384x1024 : Shape := ⟨2, ![16384, 1024]⟩
abbrev S_ : Shape := ⟨0, ![]⟩
abbrev S32x124x2x4x128 : Shape := ⟨5, ![32, 124, 2, 4, 128]⟩
abbrev S32x1024x128 : Shape := ⟨3, ![32, 1024, 128]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x12800, .f32⟩
  | .hbm, ⟨2, _⟩ => ⟨S8192x64, .f32⟩
  | .hbm, ⟨3, _⟩ => ⟨S8192x64, .f32⟩
  | .hbm, ⟨4, _⟩ => ⟨S32x128x2x4x128, .f32⟩
  | .hbm, ⟨5, _⟩ => ⟨S32x4x2x4x128, .f32⟩
  | .hbm, ⟨6, _⟩ => ⟨S16384x2048, .f32⟩
  | .hbm, ⟨7, _⟩ => ⟨S2048x2048, .f32⟩
  | .hbm, ⟨8, _⟩ => ⟨S16384x2048, .f32⟩
  | .hbm, ⟨9, _⟩ => ⟨S2x8192x16x128, .f32⟩
  | .hbm, ⟨10, _⟩ => ⟨S2x8192x16x64, .f32⟩
  | .hbm, ⟨11, _⟩ => ⟨S2x8192x16x64, .f32⟩
  | .hbm, ⟨12, _⟩ => ⟨S1x8192x1x64, .f32⟩
  | .hbm, ⟨13, _⟩ => ⟨S1x8192x1x64, .f32⟩
  | .hbm, ⟨14, _⟩ => ⟨S2x8192x16x64, .f32⟩
  | .hbm, ⟨15, _⟩ => ⟨S2x8192x16x64, .f32⟩
  | .hbm, ⟨16, _⟩ => ⟨S2x8192x16x64, .f32⟩
  | .hbm, ⟨17, _⟩ => ⟨S2x8192x16x64, .f32⟩
  | .hbm, ⟨18, _⟩ => ⟨S2x8192x16x64, .f32⟩
  | .hbm, ⟨19, _⟩ => ⟨S2x8192x16x64, .f32⟩
  | .hbm, ⟨20, _⟩ => ⟨S2x8192x16x64, .f32⟩
  | .hbm, ⟨21, _⟩ => ⟨S2x8192x16x64, .f32⟩
  | .hbm, ⟨22, _⟩ => ⟨S2x8192x16x64, .f32⟩
  | .hbm, ⟨23, _⟩ => ⟨S2x8192x16x64, .f32⟩
  | .hbm, ⟨24, _⟩ => ⟨S2x8192x16x128, .f32⟩
  | .hbm, ⟨25, _⟩ => ⟨S16384x2048, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x2048, .f32⟩
  | .hbm, ⟨32, _⟩ => ⟨S16384x2048, .bf16⟩
  | .hbm, ⟨33, _⟩ => ⟨S32x124x2x4x128, .f32⟩
  | .hbm, ⟨34, _⟩ => ⟨S32x128x2x4x128, .f32⟩
  | .hbm, ⟨35, _⟩ => ⟨S32x1024x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Moe.lean ====
abbrev S160 : Shape := ⟨1, ![160]⟩
abbrev S1 : Shape := ⟨1, ![1]⟩
abbrev S40960x2048 : Shape := ⟨2, ![40960, 2048]⟩
abbrev S4x8x2048x512 : Shape := ⟨4, ![4, 8, 2048, 512]⟩
abbrev S4x8x512x2048 : Shape := ⟨4, ![4, 8, 512, 2048]⟩
abbrev S256x2048 : Shape := ⟨2, ![256, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S2048x256 : Shape := ⟨2, ![2048, 256]⟩
abbrev S256x256 : Shape := ⟨2, ![256, 256]⟩

abbrev nBuf : Space → Nat
  | .hbm => 5
  | .vmem => 13
  | .smem => 2
  | _ => 0

abbrev bufTy : (tb : Table) → Fin (tcTables nBuf tb) → BufTy
  | .hbm, ⟨0, _⟩ => ⟨S40960x2048, .f32⟩
  | .hbm, ⟨1, _⟩ => ⟨S4x8x2048x512, .f32⟩
  | .hbm, ⟨2, _⟩ => ⟨S4x8x2048x512, .f32⟩
  | .hbm, ⟨3, _⟩ => ⟨S4x8x512x2048, .f32⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S256x2048, .f32⟩
  | .local _ .vmem, ⟨9, _⟩ => ⟨S256x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  let c0_i32_12 : BitVec 32 := 0#32
  ![v18.toNat, v28.toNat, c0_i32_10.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S160 : Shape := ⟨1, ![160]⟩
abbrev S1 : Shape := ⟨1, ![1]⟩
abbrev S40960x2048 : Shape := ⟨2, ![40960, 2048]⟩
abbrev S4x8x2048x512 : Shape := ⟨4, ![4, 8, 2048, 512]⟩
abbrev S4x8x512x2048 : Shape := ⟨4, ![4, 8, 512, 2048]⟩
abbrev S_ : Shape := ⟨0, ![]⟩
abbrev S160x1 : Shape := ⟨2, ![160, 1]⟩
abbrev S32 : Shape := ⟨1, ![32]⟩
abbrev S1x32 : Shape := ⟨2, ![1, 32]⟩
abbrev S160x32 : Shape := ⟨2, ![160, 32]⟩
abbrev S160x256x32 : Shape := ⟨3, ![160, 256, 32]⟩
abbrev S40960x32 : Shape := ⟨2, ![40960, 32]⟩
abbrev S40960x4x8 : Shape := ⟨3, ![40960, 4, 8]⟩
abbrev S1x8x2048x512 : Shape := ⟨4, ![1, 8, 2048, 512]⟩
abbrev S8x2048x512 : Shape := ⟨3, ![8, 2048, 512]⟩
abbrev S40960x8x512 : Shape := ⟨3, ![40960, 8, 512]⟩
abbrev S40960x1x8 : Shape := ⟨3, ![40960, 1, 8]⟩
abbrev S40960x8 : Shape := ⟨2, ![40960, 8]⟩
abbrev S40960x8x1 : Shape := ⟨3, ![40960, 8, 1]⟩
abbrev S1x8x512x2048 : Shape := ⟨4, ![1, 8, 512, 2048]⟩
abbrev S8x512x2048 : Shape := ⟨3, ![8, 512, 2048]⟩

abbrev nBuf : Space → Nat
  | .hbm => 125
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x2048, .f32⟩
  | .hbm, ⟨3, _⟩ => ⟨S4x8x2048x512, .f32⟩
  | .hbm, ⟨4, _⟩ => ⟨S4x8x2048x512, .f32⟩
  | .hbm, ⟨5, _⟩ => ⟨S4x8x512x2048, .f32⟩
  | .hbm, ⟨6, _⟩ => ⟨S160, .i32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S160x1, .i32⟩
  | .hbm, ⟨11, _⟩ => ⟨S32, .i32⟩
  | .hbm, ⟨12, _⟩ => ⟨S1x32, .i32⟩
  | .hbm, ⟨13, _⟩ => ⟨S160x32, .i32⟩
  | .hbm, ⟨14, _⟩ => ⟨S160x32, .i32⟩
  | .hbm, ⟨15, _⟩ => ⟨S160x32, .i1⟩
  | .hbm, ⟨16, _⟩ => ⟨S160x1, .i1⟩
  | .hbm, ⟨17, _⟩ => ⟨S160x32, .i1⟩
  | .hbm, ⟨18, _⟩ => ⟨S160x32, .i1⟩
  | .hbm, ⟨19, _⟩ => ⟨S160x32, .f32⟩
  | .hbm, ⟨20, _⟩ => ⟨S160x256x32, .f32⟩
  | .hbm, ⟨21, _⟩ => ⟨S40960x32, .f32⟩
  | .hbm, ⟨22, _⟩ => ⟨S40960x4x8, .f32⟩
  | .hbm, ⟨23, _⟩ => ⟨S_, .f32⟩
  | .hbm, ⟨24, _⟩ => ⟨S40960x2048, .f32⟩
  | .hbm, ⟨25, _⟩ => ⟨S1x8x2048x512, .f32⟩
  | .hbm, ⟨26, _⟩ => ⟨S8x2048x512, .f32⟩
  | .hbm, ⟨27, _⟩ => ⟨S40960x8x512, .f32⟩
  | .hbm, ⟨28, _⟩ => ⟨S1x8x2048x512, .f32⟩
  | .hbm, ⟨29, _⟩ => ⟨S8x2048x512, .f32⟩
  | .hbm, ⟨30, _⟩ => ⟨S40960x8x512, .f32⟩
  | .hbm, ⟨31, _⟩ => ⟨S40960x8x512, .f32⟩
  | .hbm, ⟨32, _⟩ => ⟨S40960x8x512, .f32⟩
  | .hbm, ⟨33, _⟩ => ⟨S_, .f32⟩
  | .hbm, ⟨34, _⟩ => ⟨S40960x8x512, .f32⟩
  | .hbm, ⟨35, _⟩ => ⟨S40960x8x512, .f32⟩
  | .hbm, ⟨36, _⟩ => ⟨S_, .f32⟩
  | .hbm, ⟨37, _⟩ => ⟨S40960x8x512, .f32⟩
  | .hbm, ⟨38, _⟩ => ⟨S40960x8x512, .f32⟩
  | .hbm, ⟨39, _⟩ => ⟨S40960x8x512, .f32⟩
  | .hbm, ⟨40, _⟩ => ⟨S40960x8x512, .f32⟩
  | .hbm, ⟨41, _⟩ => ⟨S40960x1x8, .f32⟩
  | .hbm, ⟨42, _⟩ => ⟨S40960x8, .f32⟩
  | .hbm, ⟨43, _⟩ => ⟨S40960x8x1, .f32⟩
  | .hbm, ⟨44, _⟩ => ⟨S40960x8x512, .f32⟩
  | .hbm, ⟨45, _⟩ => ⟨S40960x8x512, .f32⟩
  | .hbm, ⟨46, _⟩ => ⟨S1x8x512x2048, .f32⟩
  | .hbm, ⟨47, _⟩ => ⟨S8x512x2048, .f32⟩
  | .hbm, ⟨48, _⟩ => ⟨S40960x2048, .f32⟩
  | .hbm, ⟨49, _⟩ => ⟨S40960x2048, .f32⟩
  | .hbm, ⟨50, _⟩ => ⟨S1x8x2048x512, .f32⟩
  | .hbm, ⟨51, _⟩ => ⟨S8x2048x512, .f32⟩
  | .hbm, ⟨52, _⟩ => ⟨S40960x8x512, .f32⟩
  | .hbm, ⟨53, _⟩ => ⟨S1x8x2048x512, .f32⟩
  | .hbm, ⟨54, _⟩ => ⟨S8x2048x512, .f32⟩
  | .hbm, ⟨55, _⟩ => ⟨S40960x8x512, .f32⟩
  | .hbm, ⟨56, _⟩ => ⟨S40960x8x512, .f32⟩
  | .hbm, ⟨57, _⟩ => ⟨S40960x8x512, .f32⟩
  | .hbm, ⟨58, _⟩ => ⟨S_, .f32⟩
  | .hbm, ⟨59, _⟩ => ⟨S40960x8x512, .f32⟩
  | .hbm, ⟨60, _⟩ => ⟨S40960x8x512, .f32⟩
  | .hbm, ⟨61, _⟩ => ⟨S_, .f32⟩
  | .hbm, ⟨62, _⟩ => ⟨S40960x8x512, .f32⟩
  | .hbm, ⟨63, _⟩ => ⟨S40960x8x512, .f32⟩
  | .hbm, ⟨64, _⟩ => ⟨S40960x8x512, .f32⟩
  | .hbm, ⟨65, _⟩ => ⟨S40960x8x512, .f32⟩
  | .hbm, ⟨66, _⟩ => ⟨S40960x1x8, .f32⟩
  | .hbm, ⟨67, _⟩ => ⟨S40960x8, .f32⟩
  | .hbm, ⟨68, _⟩ => ⟨S40960x8x1, .f32⟩
  | .hbm, ⟨69, _⟩ => ⟨S40960x8x512, .f32⟩
  | .hbm, ⟨70, _⟩ => ⟨S40960x8x512, .f32⟩
  | .hbm, ⟨71, _⟩ => ⟨S1x8x512x2048, .f32⟩
  | .hbm, ⟨72, _⟩ => ⟨S8x512x2048, .f32⟩
  | .hbm, ⟨73, _⟩ => ⟨S40960x2048, .f32⟩
  | .hbm, ⟨74, _⟩ => ⟨S40960x2048, .f32⟩
  | .hbm, ⟨75, _⟩ => ⟨S1x8x2048x512, .f32⟩
  | .hbm, ⟨76, _⟩ => ⟨S8x2048x512, .f32⟩
  | .hbm, ⟨77, _⟩ => ⟨S40960x8x512, .f32⟩
  | .hbm, ⟨78, _⟩ => ⟨S1x8x2048x512, .f32⟩
  | .hbm, ⟨79, _⟩ => ⟨S8x2048x512, .f32⟩
  | .hbm, ⟨80, _⟩ => ⟨S40960x8x512, .f32⟩
  | .hbm, ⟨81, _⟩ => ⟨S40960x8x512, .f32⟩
  | .hbm, ⟨82, _⟩ => ⟨S40960x8x512, .f32⟩
  | .hbm, ⟨83, _⟩ => ⟨S_, .f32⟩
  | .hbm, ⟨84, _⟩ => ⟨S40960x8x512, .f32⟩
  | .hbm, ⟨85, _⟩ => ⟨S40960x8x512, .f32⟩
  | .hbm, ⟨86, _⟩ => ⟨S_, .f32⟩
  | .hbm, ⟨87, _⟩ => ⟨S40960x8x512, .f32⟩
  | .hbm, ⟨88, _⟩ => ⟨S40960x8x512, .f32⟩
  | .hbm, ⟨89, _⟩ => ⟨S40960x8x512, .f32⟩
  | .hbm, ⟨90, _⟩ => ⟨S40960x8x512, .f32⟩
  | .hbm, ⟨91, _⟩ => ⟨S40960x1x8, .f32⟩
  | .hbm, ⟨92, _⟩ => ⟨S40960x8, .f32⟩
  | .hbm, ⟨93, _⟩ => ⟨S40960x8x1, .f32⟩
  | .hbm, ⟨94, _⟩ => ⟨S40960x8x512, .f32⟩
  | .hbm, ⟨95, _⟩ => ⟨S40960x8x512, .f32⟩
  | .hbm, ⟨96, _⟩ => ⟨S1x8x512x2048, .f32⟩
  | .hbm, ⟨97, _⟩ => ⟨S8x512x2048, .f32⟩
  | .hbm, ⟨98, _⟩ => ⟨S40960x2048, .f32⟩
  | .hbm, ⟨99, _⟩ => ⟨S40960x2048, .f32⟩
  | .hbm, ⟨100, _⟩ => ⟨S1x8x2048x512, .f32⟩
  | .hbm, ⟨101, _⟩ => ⟨S8x2048x512, .f32⟩
  | .hbm, ⟨102, _⟩ => ⟨S40960x8x512, .f32⟩
  | .hbm, ⟨103, _⟩ => ⟨S1x8x2048x512, .f32⟩
  | .hbm, ⟨104, _⟩ => ⟨S8x2048x512, .f32⟩
  | .hbm, ⟨105, _⟩ => ⟨S40960x8x512, .f32⟩
  | .hbm, ⟨106, _⟩ => ⟨S40960x8x512, .f32⟩
  | .hbm, ⟨107, _⟩ => ⟨S40960x8x512, .f32⟩
  | .hbm, ⟨108, _⟩ => ⟨S_, .f32⟩
  | .hbm, ⟨109, _⟩ => ⟨S40960x8x512, .f32⟩
  | .hbm, ⟨110, _⟩ => ⟨S40960x8x512, .f32⟩
  | .hbm, ⟨111, _⟩ => ⟨S_, .f32⟩
  | .hbm, ⟨112, _⟩ => ⟨S40960x8x512, .f32⟩
  | .hbm, ⟨113, _⟩ => ⟨S40960x8x512, .f32⟩
  | .hbm, ⟨114, _⟩ => ⟨S40960x8x512, .f32⟩
  | .hbm, ⟨115, _⟩ => ⟨S40960x8x512, .f32⟩
  | .hbm, ⟨116, _⟩ => ⟨S40960x1x8, .f32⟩
  | .hbm, ⟨117, _⟩ => ⟨S40960x8, .f32⟩
  | .hbm, ⟨118, _⟩ => ⟨S40960x8x1, .f32⟩
  | .hbm, ⟨119, _⟩ => ⟨S40960x8x512, .f32⟩
  | .hbm, ⟨120, _⟩ => ⟨S40960x8x512, .f32⟩
  | .hbm, ⟨121, _⟩ => ⟨S1x8x512x2048, .f32⟩
  | .hbm, ⟨122, _⟩ => ⟨S8x512x2048, .f32⟩
  | .hbm, ⟨123, _⟩ => ⟨S40960x2048, .f32⟩
  | .hbm, ⟨124, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]
-- ==== Proof.Dil.lean ====
/-
  The arithmetic of the dilated-attention projection, free of any program: a projected element is a sum of 2048
  products, and queries and keys are divided, head by head (128 columns), by the root of their mean square plus a
  small constant and multiplied by a gain. `projBlk` and `normBlk` say this of one block of 512 rows by 512 columns.
-/
module

public import Idealize.ShloMosaic.Lib.Pointwise
public import Idealize.ShloMosaic.Lib.Tactic

@[expose] public section

noncomputable section

open Idealize.ShloMosaic

namespace Cert.Dil

/-- Rows sorted by their remainder stay in range. -/
theorem sorted_lt {R S N : Nat} (h : R * S = N) (c : Fin R) (j : Fin S) : j.val * R + c.val < N := by
  have h1 : (j.val + 1) * R ≤ S * R := Nat.mul_le_mul_right R j.isLt
  rw [Nat.succ_mul, Nat.mul_comm S R] at h1
  omega

/-- One element of a head `y` divided by the root of the head's mean square (plus the constant) and scaled by `g`. -/
def headNorm (y : Fin 128 → EReal) (g : EReal) (d : Fin 128) : EReal :=
  y d * Ideal.rsqrt (Ideal.div (∑ e, y e * y e) (Ideal.ofBits .f32 0x43000000#32) + Ideal.ofBits .f32 0x358637BD#32) * g

/-- Row `p` of `x` times column `n` of `w`. -/
def projBlk (x : (⟨2, ![512, 2048]⟩ : Shape).Idx → EReal) (w : (⟨2, ![2048, 512]⟩ : Shape).Idx → EReal)
    (p : Fin 512) (n : Fin 512) : EReal := ∑ k, x (ix2 p k) * w (ix2 k n)

/-- Column `128 h + e`: element `e` of head `h`. -/
abbrev col (h : Fin 4) (e : Fin 128) : Fin 512 := ⟨h.val * 128 + e.val, by omega⟩

/-- The normalised block: element `n` is element `n % 128` of head `n / 128`. -/
def normBlk (x : (⟨2, ![512, 2048]⟩ : Shape).Idx → EReal) (w : (⟨2, ![2048, 512]⟩ : Shape).Idx → EReal)
    (g : Fin 128 → EReal) (p : Fin 512) (n : Fin 512) : EReal :=
  headNorm (fun e => projBlk x w p (col ⟨n.val / 128, by omega⟩ e)) (g ⟨n.val % 128, Nat.mod_lt _ (by decide)⟩)
    ⟨n.val % 128, Nat.mod_lt _ (by decide)⟩

/-- The normalised block at a column named by head and element. -/
theorem normBlk_col (x : (⟨2, ![512, 2048]⟩ : Shape).Idx → EReal) (w : (⟨2, ![2048, 512]⟩ : Shape).Idx → EReal)
    (g : Fin 128 → EReal) (p : Fin 512) (h : Fin 4) (d : Fin 128) :
    normBlk x w g p (col h d) = headNorm (fun e => projBlk x w p (col h e)) (g d) d := by
  have e1 : (⟨(col h d).val / 128, by omega⟩ : Fin 4) = h := Fin.ext (by show (h.val * 128 + d.val) / 128 = h.val; omega)
  have e2 : (⟨(col h d).val % 128, Nat.mod_lt _ (by decide)⟩ : Fin 128) = d :=
    Fin.ext (by show (h.val * 128 + d.val) % 128 = d.val; omega)
  unfold normBlk
  rw [e1, e2]

/-- What a head whose columns start at `o` holds is the normalised block there. -/
theorem normBlk_of_head {x : (⟨2, ![512, 2048]⟩ : Shape).Idx → EReal} {w : (⟨2, ![2048, 512]⟩ : Shape).Idx → EReal}
    {g : Fin 128 → EReal} {p : Fin 512} {d : Fin 128} {r : EReal} {c : Fin 128 → Fin 512}
    (hr : r = headNorm (fun e => ∑ k, x (ix2 p k) * w (ix2 k (c e))) (g d) d)
    (o : Nat) (ho : o ≤ 384) (hm : o % 128 = 0) (hc : ∀ e, (c e).val = o + e.val) {q n : Fin 512}
    (hq : q.val = p.val) (hn : n.val = o + d.val) : r = normBlk x w g q n := by
  obtain rfl : q = p := Fin.ext hq
  rw [show n = col ⟨o / 128, by omega⟩ d from Fin.ext (by rw [hn]; show _ = o / 128 * 128 + d.val; omega), normBlk_col, hr]
  refine congrArg (fun y => headNorm y (g d) d) (funext fun e => ?_)
  refine Finset.sum_congr rfl fun k _ => congrArg (fun c => x (ix2 q k) * w (ix2 k c)) (Fin.ext ?_)
  rw [hc]
  show o + e.val = o / 128 * 128 + e.val
  omega

/-- The same of the plain product. -/
theorem projBlk_of_head {x : (⟨2, ![512, 2048]⟩ : Shape).Idx → EReal} {w : (⟨2, ![2048, 512]⟩ : Shape).Idx → EReal}
    {p n' : Fin 512} {r : EReal} (hr : r = ∑ k, x (ix2 p k) * w (ix2 k n')) {q n : Fin 512}
    (hq : q.val = p.val) (hn : n.val = n'.val) : r = projBlk x w q n := by
  obtain rfl : q = p := Fin.ext hq
  obtain rfl : n = n' := Fin.ext hn
  exact hr

/-- The normalised block as an array. -/
def normArr (x : (⟨2, ![512, 2048]⟩ : Shape).Idx → EReal) (w : (⟨2, ![2048, 512]⟩ : Shape).Idx → EReal)
    (g : Fin 128 → EReal) : (⟨2, ![512, 512]⟩ : Shape).Idx → EReal := fun j => normBlk x w g (j 0) (j 1)

/-- The plain product as an array. -/
def projArr (x : (⟨2, ![512, 2048]⟩ : Shape).Idx → EReal) (w : (⟨2, ![2048, 512]⟩ : Shape).Idx → EReal) :
    (⟨2, ![512, 512]⟩ : Shape).Idx → EReal := fun j => projBlk x w (j 0) (j 1)

/-- The last 128 rows of the normalised block. -/
def normTail (x : (⟨2, ![512, 2048]⟩ : Shape).Idx → EReal) (w : (⟨2, ![2048, 512]⟩ : Shape).Idx → EReal)
    (g : Fin 128 → EReal) : (⟨3, ![1, 128, 512]⟩ : Shape).Idx → EReal :=
  fun j => normBlk x w g ⟨384 + (j 1).val, by have : (j 1).val < 128 := (j 1).isLt; omega⟩ (j 2)

/-- The last 128 rows of the plain product. -/
def projTail (x : (⟨2, ![512, 2048]⟩ : Shape).Idx → EReal) (w : (⟨2, ![2048, 512]⟩ : Shape).Idx → EReal) :
    (⟨3, ![1, 128, 512]⟩ : Shape).Idx → EReal :=
  fun j => projBlk x w ⟨384 + (j 1).val, by have : (j 1).val < 128 := (j 1).isLt; omega⟩ (j 2)

/-- The query's gain: the norm's weight times the attention scale. -/
def qGain (g : (⟨2, ![1, 128]⟩ : Shape).Idx → EReal) (d : Fin 128) : EReal := g (ix2 0 d) * Ideal.ofBits .f32 0x3DB504F3#32

/-- The key's gain: the norm's weight. -/
def kGain (g : (⟨2, ![1, 128]⟩ : Shape).Idx → EReal) (d : Fin 128) : EReal := g (ix2 0 d)

/-- Row `l` of sequence `b` of the activations times column `o + n` of the weights. -/
def fullProj (u : (⟨3, ![2, 8192, 2048]⟩ : Shape).Idx → EReal) (w : (⟨2, ![2048, 12800]⟩ : Shape).Idx → EReal)
    (o : Nat) (ho : o ≤ 12288) (b : Fin 2) (l : Fin 8192) (n : Fin 512) : EReal :=
  ∑ k, u (ix3 b l k) * w (ix2 k ⟨o + n.val, by omega⟩)

/-- The same, normalised head by head. -/
def fullNorm (u : (⟨3, ![2, 8192, 2048]⟩ : Shape).Idx → EReal) (w : (⟨2, ![2048, 12800]⟩ : Shape).Idx → EReal)
    (o : Nat) (ho : o ≤ 12288) (g : Fin 128 → EReal) (b : Fin 2) (l : Fin 8192) (n : Fin 512) : EReal :=
  headNorm (fun e => fullProj u w o ho b l (col ⟨n.val / 128, by omega⟩ e)) (g ⟨n.val % 128, Nat.mod_lt _ (by decide)⟩)
    ⟨n.val % 128, Nat.mod_lt _ (by decide)⟩

/-- `fullNorm`, written out at its own column. -/
theorem fullNorm_eq (u : (⟨3, ![2, 8192, 2048]⟩ : Shape).Idx → EReal) (w : (⟨2, ![2048, 12800]⟩ : Shape).Idx → EReal)
    (o : Nat) (ho : o ≤ 12288) (g : Fin 128 → EReal) (b : Fin 2) (l : Fin 8192) (n : Fin 512) :
    fullNorm u w o ho g b l n = fullProj u w o ho b l n
      * Ideal.rsqrt (Ideal.div (∑ e, fullProj u w o ho b l (col ⟨n.val / 128, by omega⟩ e)
          * fullProj u w o ho b l (col ⟨n.val / 128, by omega⟩ e)) (Ideal.ofBits .f32 0x43000000#32)
        + Ideal.ofBits .f32 0x358637BD#32) * g ⟨n.val % 128, Nat.mod_lt _ (by decide)⟩ := by
  have e : col ⟨n.val / 128, by omega⟩ ⟨n.val % 128, Nat.mod_lt _ (by decide)⟩ = n :=
    Fin.ext (by show n.val / 128 * 128 + n.val % 128 = n.val; omega)
  unfold fullNorm headNorm
  dsimp only
  rw [e]

/-- Rows `512 t …` of the activations, the two sequences one after the other. -/
def rows (u : (⟨3, ![2, 8192, 2048]⟩ : Shape).Idx → EReal) (t : Fin 32) : (⟨2, ![512, 2048]⟩ : Shape).Idx → EReal :=
  fun j => u (ix3 ⟨(512 * t.val + (j 0).val) / 8192, by have : (j 0).val < 512 := (j 0).isLt; omega⟩
    ⟨(512 * t.val + (j 0).val) % 8192, Nat.mod_lt _ (by decide)⟩ (j 1))

/-- Columns `o …` of the weights. -/
def cols (w : (⟨2, ![2048, 12800]⟩ : Shape).Idx → EReal) (o : Nat) (ho : o ≤ 12288) : (⟨2, ![2048, 512]⟩ : Shape).Idx → EReal :=
  fun j => w (ix2 (j 0) ⟨o + (j 1).val, by have : (j 1).val < 512 := (j 1).isLt; omega⟩)

/-- A norm weight as the one-row block the kernel reads. -/
def asRow (g : (⟨1, ![128]⟩ : Shape).Idx → EReal) : (⟨2, ![1, 128]⟩ : Shape).Idx → EReal := fun j => g (ix1 (j 1))

/-- A block of the plain product, in terms of the whole arrays. -/
theorem projBlk_rows (u : (⟨3, ![2, 8192, 2048]⟩ : Shape).Idx → EReal) (w : (⟨2, ![2048, 12800]⟩ : Shape).Idx → EReal)
    (o : Nat) (ho : o ≤ 12288) {t : Fin 32} {p : Fin 512} {b : Fin 2} {l : Fin 8192}
    (h : 512 * t.val + p.val = 8192 * b.val + l.val) (n : Fin 512) :
    projBlk (rows u t) (cols w o ho) p n = fullProj u w o ho b l n := by
  have e1 : (⟨(512 * t.val + p.val) / 8192, by omega⟩ : Fin 2) = b := Fin.ext (by show (512 * t.val + p.val) / 8192 = _; omega)
  have e2 : (⟨(512 * t.val + p.val) % 8192, Nat.mod_lt _ (by decide)⟩ : Fin 8192) = l :=
    Fin.ext (by show (512 * t.val + p.val) % 8192 = _; omega)
  unfold projBlk fullProj
  refine Finset.sum_congr rfl fun k _ => ?_
  show u (ix3 ⟨(512 * t.val + p.val) / 8192, _⟩ ⟨(512 * t.val + p.val) % 8192, _⟩ k) * _ = _
  rw [e1, e2]
  rfl

/-- A normalised block, in terms of the whole arrays. -/
theorem normBlk_rows (u : (⟨3, ![2, 8192, 2048]⟩ : Shape).Idx → EReal) (w : (⟨2, ![2048, 12800]⟩ : Shape).Idx → EReal)
    (o : Nat) (ho : o ≤ 12288) (g : Fin 128 → EReal) {t : Fin 32} {p : Fin 512} {b : Fin 2} {l : Fin 8192}
    (h : 512 * t.val + p.val = 8192 * b.val + l.val) (n : Fin 512) :
    normBlk (rows u t) (cols w o ho) g p n = fullNorm u w o ho g b l n := by
  unfold normBlk fullNorm
  simp only [projBlk_rows u w o ho h]

/-- The normalised projection of all rows, the two sequences one after the other. -/
def normFlat (u : (⟨3, ![2, 8192, 2048]⟩ : Shape).Idx → EReal) (w : (⟨2, ![2048, 12800]⟩ : Shape).Idx → EReal)
    (o : Nat) (ho : o ≤ 12288) (g : Fin 128 → EReal) : (⟨2, ![16384, 512]⟩ : Shape).Idx → EReal :=
  fun i => fullNorm u w o ho g ⟨(i 0).val / 8192, by have : (i 0).val < 16384 := (i 0).isLt; omega⟩
    ⟨(i 0).val % 8192, Nat.mod_lt _ (by decide)⟩ (i 1)

/-- The plain projection of all rows, the two sequences one after the other. -/
def projFlat (u : (⟨3, ![2, 8192, 2048]⟩ : Shape).Idx → EReal) (w : (⟨2, ![2048, 12800]⟩ : Shape).Idx → EReal)
    (o : Nat) (ho : o ≤ 12288) : (⟨2, ![16384, 512]⟩ : Shape).Idx → EReal :=
  fun i => fullProj u w o ho ⟨(i 0).val / 8192, by have : (i 0).val < 16384 := (i 0).isLt; omega⟩
    ⟨(i 0).val % 8192, Nat.mod_lt _ (by decide)⟩ (i 1)

/-- The normalised projection of the last 128 rows of each sequence. -/
def normLast (u : (⟨3, ![2, 8192, 2048]⟩ : Shape).Idx → EReal) (w : (⟨2, ![2048, 12800]⟩ : Shape).Idx → EReal)
    (o : Nat) (ho : o ≤ 12288) (g : Fin 128 → EReal) : (⟨3, ![2, 128, 512]⟩ : Shape).Idx → EReal :=
  fun i => fullNorm u w o ho g (i 0) ⟨8064 + (i 1).val, by have : (i 1).val < 128 := (i 1).isLt; omega⟩ (i 2)

/-- The plain projection of the last 128 rows of each sequence. -/
def projLast (u : (⟨3, ![2, 8192, 2048]⟩ : Shape).Idx → EReal) (w : (⟨2, ![2048, 12800]⟩ : Shape).Idx → EReal)
    (o : Nat) (ho : o ≤ 12288) : (⟨3, ![2, 128, 512]⟩ : Shape).Idx → EReal :=
  fun i => fullProj u w o ho (i 0) ⟨8064 + (i 1).val, by have : (i 1).val < 128 := (i 1).isLt; omega⟩ (i 2)

/-- All rows of the normalised block. -/
def normAll (x : (⟨2, ![512, 2048]⟩ : Shape).Idx → EReal) (w : (⟨2, ![2048, 512]⟩ : Shape).Idx → EReal)
    (g : Fin 128 → EReal) : (⟨3, ![1, 512, 512]⟩ : Shape).Idx → EReal := fun j => normBlk x w g (j 1) (j 2)

/-- All rows of the plain product. -/
def projAll (x : (⟨2, ![512, 2048]⟩ : Shape).Idx → EReal) (w : (⟨2, ![2048, 512]⟩ : Shape).Idx → EReal) :
    (⟨3, ![1, 512, 512]⟩ : Shape).Idx → EReal := fun j => projBlk x w (j 1) (j 2)

/-- Each sequence's normalised projection sorted by the rows' remainder by `R`. -/
def normSorted (R S : Nat) (hRS : R * S = 8192) (u : (⟨3, ![2, 8192, 2048]⟩ : Shape).Idx → EReal)
    (w : (⟨2, ![2048, 12800]⟩ : Shape).Idx → EReal) (o : Nat) (ho : o ≤ 12288) (g : Fin 128 → EReal) :
    (⟨4, ![2, R, S, 512]⟩ : Shape).Idx → EReal :=
  fun i => fullNorm u w o ho g (i 0) ⟨(i 2).val * R + (i 1).val, sorted_lt hRS (i 1) (i 2)⟩ (i 3)

/-- Each sequence's plain projection sorted the same way. -/
def projSorted (R S : Nat) (hRS : R * S = 8192) (u : (⟨3, ![2, 8192, 2048]⟩ : Shape).Idx → EReal)
    (w : (⟨2, ![2048, 12800]⟩ : Shape).Idx → EReal) (o : Nat) (ho : o ≤ 12288) :
    (⟨4, ![2, R, S, 512]⟩ : Shape).Idx → EReal :=
  fun i => fullProj u w o ho (i 0) ⟨(i 2).val * R + (i 1).val, sorted_lt hRS (i 1) (i 2)⟩ (i 3)

/-- The normalised projection of the last `T` rows of each sequence. -/
def normLastN (T o' : Nat) (hT : o' + T = 8192) (u : (⟨3, ![2, 8192, 2048]⟩ : Shape).Idx → EReal)
    (w : (⟨2, ![2048, 12800]⟩ : Shape).Idx → EReal) (o : Nat) (ho : o ≤ 12288) (g : Fin 128 → EReal) :
    (⟨3, ![2, T, 512]⟩ : Shape).Idx → EReal :=
  fun i => fullNorm u w o ho g (i 0) ⟨o' + (i 1).val, by have : (i 1).val < T := (i 1).isLt; omega⟩ (i 2)

/-- The plain projection of the last `T` rows of each sequence. -/
def projLastN (T o' : Nat) (hT : o' + T = 8192) (u : (⟨3, ![2, 8192, 2048]⟩ : Shape).Idx → EReal)
    (w : (⟨2, ![2048, 12800]⟩ : Shape).Idx → EReal) (o : Nat) (ho : o ≤ 12288) :
    (⟨3, ![2, T, 512]⟩ : Shape).Idx → EReal :=
  fun i => fullProj u w o ho (i 0) ⟨o' + (i 1).val, by have : (i 1).val < T := (i 1).isLt; omega⟩ (i 2)

end Cert.Dil

end
-- ==== Proof.D0Blocks.lean ====
/-
  What one grid point of the dilated projection of group 0 leaves in its output blocks and in the weight copies it
  carries, as functions of the blocks it reads: at the first point the weights come from the input blocks, at every
  other point from the copies.
-/
module

public import proofs.«01_k».proof.Proof.Gen.D0Ideal.Frame
public import proofs.«01_k».proof.Proof.Dil
public import Idealize.ShloMosaic.Lib.Pipeline.ReadBack

@[expose] public section

noncomputable section

open Idealize.ShloMosaic Idealize.ShloMosaic.TcCoe Idealize.SL.Sem

namespace Cert.D0Ideal.Blk

open Cert.D0Ideal Cert.D0Ideal.Gen Cert.Dil

theorem hz : (![0, 0] : Fin 2 → Nat) = fun _ => 0 := funext fun a => by fin_cases a <;> rfl

/-! A load of a whole buffer of rows or of weights; an offset reached in steps of one. -/

theorem ldx {e : EltTy} (inb : ∀ a, (![0, 0] : Fin 2 → Nat) a + S512x2048.size a ≤ S512x2048.size a) (X : Vec Ideal S512x2048 e) :
    View.ld X (Rect.unit (s := S512x2048) ![0, 0] S512x2048.size inb) = X := View.ld_unit_zero hz inb X
theorem ldw {e : EltTy} (inb : ∀ a, (![0, 0] : Fin 2 → Nat) a + S2048x512.size a ≤ S2048x512.size a) (X : Vec Ideal S2048x512 e) :
    View.ld X (Rect.unit (s := S2048x512) ![0, 0] S2048x512.size inb) = X := View.ld_unit_zero hz inb X
theorem ats (n : Nat) : 0 + 1 * n = n := by omega
theorem at1 (k n : Nat) : k + 1 * n = k + n := by omega

/-- A load of part of a weight copy that one store filled reads the stored array there. -/
theorem readCov_whole (v : View sig .tc .vmem S2048x512 .bf16) (inb) (Z : Vec Ideal S2048x512 .bf16) (r : Rect S2048x512) :
    v.readCov [⟨Rect.unit ![0, 0] (no_index S2048x512.size) inb, Z⟩] r.toLoadRect = View.ld Z r :=
  View.readCov_fill v inb Z [] r (fun a => by fin_cases a <;> rfl)

variable (c : Dev nD) (i : grid0.Coords)
  (a2 : Memref sig .tc .vmem S512x2048 .bf16) (h2 : a2.IsWhole)
  (a3 : Memref sig .tc .vmem S2048x512 .f32) (h3 : a3.IsWhole)
  (a4 : Memref sig .tc .vmem S2048x512 .f32) (h4 : a4.IsWhole)
  (a5 : Memref sig .tc .vmem S2048x512 .f32) (h5 : a5.IsWhole)
  (a6 : Memref sig .tc .vmem S1x128 .f32) (h6 : a6.IsWhole)
  (a7 : Memref sig .tc .vmem S1x128 .f32) (h7 : a7.IsWhole)
  (a8 : Memref sig .tc .vmem S512x512 .bf16) (h8 : a8.IsWhole)
  (a9 : Memref sig .tc .vmem S512x512 .bf16) (h9 : a9.IsWhole)
  (a10 : Memref sig .tc .vmem S512x512 .bf16) (h10 : a10.IsWhole)
  (a11 : Memref sig .tc .vmem S1x128x512 .f32) (h11 : a11.IsWhole)
  (a12 : Memref sig .tc .vmem S1x128x512 .f32) (h12 : a12.IsWhole)
  (a13 : Memref sig .tc .vmem S3x4x512x128 .f32) (h13 : a13.IsWhole)
  (a14 : Memref sig .tc .vmem S2048x512 .bf16) (h14 : a14.IsWhole)
  (a15 : Memref sig .tc .vmem S2048x512 .bf16) (h15 : a15.IsWhole)
  (a16 : Memref sig .tc .vmem S2048x512 .bf16) (h16 : a16.IsWhole)
  (x0 : Vec Ideal S512x2048 .bf16) (x1 x2 x3 : Vec Ideal S2048x512 .f32) (x4 x5 : Vec Ideal S1x128 .f32)
  (xs1 xs2 xs3 : Vec Ideal S2048x512 .bf16)

set_option maxRecDepth 16384 in
/-- The first point: the queries. -/
theorem out_A_6 (hc : cond0_0 i) :
    out0_A_6 c i a2 h2 a3 h3 a4 h4 a5 h5 a6 h6 a7 h7 a8 h8 a9 h9 a10 h10 a11 h11 a12 h12 a13 h13 a14 h14 a15 h15 a16 h16 hc x0 x1 x2 x3 x4 x5 = normArr x0 x1 (qGain x4) := by
  unfold out0_A_6
  rw [View.read_writes_eq_canon _ _ _ (fun _ => cover0_A_6 ..)]
  refine funext fun y => View.canon_apply_of_pieces (normArr x0 x1 (qGain x4)) _ (View.PiecesOf.mem ?_) y (cover0_A_6 (F := Ideal) ..)
  unfold kernelRun0_A
  dsimp only
  sl_unfold_words
  simp only [View.readAt_eq_ld, h2.read_unread, h3.read_unread, h6.read_unread, readCov_whole]
  refine ⟨?_, ?_, ?_, ?_, trivial⟩
  · intro x
    obtain ⟨p, d, rfl⟩ : ∃ (p : Fin 512) (d : Fin 128), x = ix2 p d := ⟨x 0, x 1, eq_ix2 x⟩
    refine normBlk_of_head (x := x0) (w := x1) (g := qGain x4) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, qGain]
  · intro x
    obtain ⟨p, d, rfl⟩ : ∃ (p : Fin 512) (d : Fin 128), x = ix2 p d := ⟨x 0, x 1, eq_ix2 x⟩
    refine normBlk_of_head (x := x0) (w := x1) (g := qGain x4) (p := p) (d := d) (c := fun e => ⟨256 + e.val, by omega⟩) ?_ 256
      (by decide) (by decide) (fun _ => rfl) (ats p.val) (at1 256 d.val)
    unfold_payloads
    pointwise [ldx, ldw, headNorm, qGain]
  · intro x
    obtain ⟨p, d, rfl⟩ : ∃ (p : Fin 512) (d : Fin 128), x = ix2 p d := ⟨x 0, x 1, eq_ix2 x⟩
    refine normBlk_of_head (x := x0) (w := x1) (g := qGain x4) (p := p) (d := d) (c := fun e => ⟨128 + e.val, by omega⟩) ?_ 128
      (by decide) (by decide) (fun _ => rfl) (ats p.val) (at1 128 d.val)
    unfold_payloads
    pointwise [ldx, ldw, headNorm, qGain]
  · intro x
    obtain ⟨p, d, rfl⟩ : ∃ (p : Fin 512) (d : Fin 128), x = ix2 p d := ⟨x 0, x 1, eq_ix2 x⟩
    refine normBlk_of_head (x := x0) (w := x1) (g := qGain x4) (p := p) (d := d) (c := fun e => ⟨e.val, by omega⟩) ?_ 0
      (by decide) (by decide) (fun e => by show e.val = 0 + e.val; omega) (ats p.val) (at1 0 d.val)
    unfold_payloads
    pointwise [ldx, ldw, headNorm, qGain]

set_option maxRecDepth 16384 in
/-- The first point: the keys. -/
theorem out_A_7 (hc : cond0_0 i) :
    out0_A_7 c i a2 h2 a3 h3 a4 h4 a5 h5 a6 h6 a7 h7 a8 h8 a9 h9 a10 h10 a11 h11 a12 h12 a13 h13 a14 h14 a15 h15 a16 h16 hc x0 x1 x2 x3 x4 x5 = normArr x0 x2 (kGain x5) := by
  unfold out0_A_7
  rw [View.read_writes_eq_canon _ _ _ (fun _ => cover0_A_7 ..)]
  refine funext fun y => View.canon_apply_of_pieces (normArr x0 x2 (kGain x5)) _ (View.PiecesOf.mem ?_) y (cover0_A_7 (F := Ideal) ..)
  unfold kernelRun0_A
  dsimp only
  sl_unfold_words
  simp only [View.readAt_eq_ld, h2.read_unread, h4.read_unread, h7.read_unread, readCov_whole]
  refine ⟨?_, ?_, ?_, ?_, trivial⟩
  · intro x
    obtain ⟨p, d, rfl⟩ : ∃ (p : Fin 512) (d : Fin 128), x = ix2 p d := ⟨x 0, x 1, eq_ix2 x⟩
    refine normBlk_of_head (x := x0) (w := x2) (g := kGain x5) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, kGain]
  · intro x
    obtain ⟨p, d, rfl⟩ : ∃ (p : Fin 512) (d : Fin 128), x = ix2 p d := ⟨x 0, x 1, eq_ix2 x⟩
    refine normBlk_of_head (x := x0) (w := x2) (g := kGain x5) (p := p) (d := d) (c := fun e => ⟨256 + e.val, by omega⟩) ?_ 256
      (by decide) (by decide) (fun _ => rfl) (ats p.val) (at1 256 d.val)
    unfold_payloads
    pointwise [ldx, ldw, headNorm, kGain]
  · intro x
    obtain ⟨p, d, rfl⟩ : ∃ (p : Fin 512) (d : Fin 128), x = ix2 p d := ⟨x 0, x 1, eq_ix2 x⟩
    refine normBlk_of_head (x := x0) (w := x2) (g := kGain x5) (p := p) (d := d) (c := fun e => ⟨128 + e.val, by omega⟩) ?_ 128
      (by decide) (by decide) (fun _ => rfl) (ats p.val) (at1 128 d.val)
    unfold_payloads
    pointwise [ldx, ldw, headNorm, kGain]
  · intro x
    obtain ⟨p, d, rfl⟩ : ∃ (p : Fin 512) (d : Fin 128), x = ix2 p d := ⟨x 0, x 1, eq_ix2 x⟩
    refine normBlk_of_head (x := x0) (w := x2) (g := kGain x5) (p := p) (d := d) (c := fun e => ⟨e.val, by omega⟩) ?_ 0
      (by decide) (by decide) (fun e => by show e.val = 0 + e.val; omega) (ats p.val) (at1 0 d.val)
    unfold_payloads
    pointwise [ldx, ldw, headNorm, kGain]

set_option maxRecDepth 16384 in
/-- The first point: the values. -/
theorem out_A_8 (hc : cond0_0 i) :
    out0_A_8 c i a2 h2 a3 h3 a4 h4 a5 h5 a6 h6 a7 h7 a8 h8 a9 h9 a10 h10 a11 h11 a12 h12 a13 h13 a14 h14 a15 h15 a16 h16 hc x0 x1 x2 x3 x4 x5 = projArr x0 x3 := by
  unfold out0_A_8
  rw [View.read_writes_eq_canon _ _ _ (fun _ => cover0_A_8 ..)]
  refine funext fun y => View.canon_apply_of_pieces (projArr x0 x3) _ (View.PiecesOf.mem ?_) y (cover0_A_8 (F := Ideal) ..)
  unfold kernelRun0_A
  dsimp only
  sl_unfold_words
  simp only [View.readAt_eq_ld, h2.read_unread, h5.read_unread, readCov_whole]
  refine ⟨?_, ?_, ?_, ?_, trivial⟩
  · intro x
    obtain ⟨p, d, rfl⟩ : ∃ (p : Fin 512) (d : Fin 128), x = ix2 p d := ⟨x 0, x 1, eq_ix2 x⟩
    refine projBlk_of_head (x := x0) (w := x3) (p := p) (n' := ⟨256 + (128 + d.val), by omega⟩) ?_
      (ats p.val) (by show 384 + 1 * d.val = 256 + (128 + d.val); omega)
    unfold_payloads
    pointwise [ldx, ldw]
  · intro x
    obtain ⟨p, d, rfl⟩ : ∃ (p : Fin 512) (d : Fin 128), x = ix2 p d := ⟨x 0, x 1, eq_ix2 x⟩
    refine projBlk_of_head (x := x0) (w := x3) (p := p) (n' := ⟨256 + d.val, by omega⟩) ?_
      (ats p.val) (at1 256 d.val)
    unfold_payloads
    pointwise [ldx, ldw]
  · intro x
    obtain ⟨p, d, rfl⟩ : ∃ (p : Fin 512) (d : Fin 128), x = ix2 p d := ⟨x 0, x 1, eq_ix2 x⟩
    refine projBlk_of_head (x := x0) (w := x3) (p := p) (n' := ⟨128 + d.val, by omega⟩) ?_
      (ats p.val) (at1 128 d.val)
    unfold_payloads
    pointwise [ldx, ldw]
  · intro x
    obtain ⟨p, d, rfl⟩ : ∃ (p : Fin 512) (d : Fin 128), x = ix2 p d := ⟨x 0, x 1, eq_ix2 x⟩
    refine projBlk_of_head (x := x0) (w := x3) (p := p) (n' := ⟨d.val, by omega⟩) ?_
      (ats p.val) (ats d.val)
    unfold_payloads
    pointwise [ldx, ldw]

set_option maxRecDepth 16384 in
/-- The first point: the last rows of the keys. -/
theorem out_A_9 (hc : cond0_0 i) :
    out0_A_9 c i a2 h2 a3 h3 a4 h4 a5 h5 a6 h6 a7 h7 a8 h8 a9 h9 a10 h10 a11 h11 a12 h12 a13 h13 a14 h14 a15 h15 a16 h16 hc x0 x1 x2 x3 x4 x5 = normTail x0 x2 (kGain x5) := by
  unfold out0_A_9
  rw [View.read_writes_eq_canon _ _ _ (fun _ => cover0_A_9 ..)]
  refine funext fun y => View.canon_apply_of_pieces (normTail x0 x2 (kGain x5)) _ (View.PiecesOf.mem ?_) y (cover0_A_9 (F := Ideal) ..)
  unfold kernelRun0_A
  dsimp only
  sl_unfold_words
  simp only [View.readAt_eq_ld, h2.read_unread, h4.read_unread, h7.read_unread, readCov_whole]
  refine ⟨?_, ?_, ?_, ?_, trivial⟩
  · intro x
    obtain ⟨b, p, d, rfl⟩ : ∃ (b : Fin 1) (p : Fin 128) (d : Fin 128), x = ix3 b p d := ⟨x 0, x 1, x 2, eq_ix3 x⟩
    refine normBlk_of_head (x := x0) (w := x2) (g := kGain x5) (p := ⟨384 + p.val, by omega⟩) (d := d) (c := fun e => ⟨256 + (128 + e.val), by omega⟩) ?_ 384
      (by decide) (by decide) (fun e => by show 256 + (128 + e.val) = 384 + e.val; omega) (by show 384 + (0 + 1 * p.val) = 384 + p.val; omega) (at1 384 d.val)
    unfold_payloads
    pointwise [ldx, ldw, headNorm, kGain]
  · intro x
    obtain ⟨b, p, d, rfl⟩ : ∃ (b : Fin 1) (p : Fin 128) (d : Fin 128), x = ix3 b p d := ⟨x 0, x 1, x 2, eq_ix3 x⟩
    refine normBlk_of_head (x := x0) (w := x2) (g := kGain x5) (p := ⟨384 + p.val, by omega⟩) (d := d) (c := fun e => ⟨256 + e.val, by omega⟩) ?_ 256
      (by decide) (by decide) (fun _ => rfl) (by show 384 + (0 + 1 * p.val) = 384 + p.val; omega) (at1 256 d.val)
    unfold_payloads
    pointwise [ldx, ldw, headNorm, kGain]
  · intro x
    obtain ⟨b, p, d, rfl⟩ : ∃ (b : Fin 1) (p : Fin 128) (d : Fin 128), x = ix3 b p d := ⟨x 0, x 1, x 2, eq_ix3 x⟩
    refine normBlk_of_head (x := x0) (w := x2) (g := kGain x5) (p := ⟨384 + p.val, by omega⟩) (d := d) (c := fun e => ⟨128 + e.val, by omega⟩) ?_ 128
      (by decide) (by decide) (fun _ => rfl) (by show 384 + (0 + 1 * p.val) = 384 + p.val; omega) (at1 128 d.val)
    unfold_payloads
    pointwise [ldx, ldw, headNorm, kGain]
  · intro x
    obtain ⟨b, p, d, rfl⟩ : ∃ (b : Fin 1) (p : Fin 128) (d : Fin 128), x = ix3 b p d := ⟨x 0, x 1, x 2, eq_ix3 x⟩
    refine normBlk_of_head (x := x0) (w := x2) (g := kGain x5) (p := ⟨384 + p.val, by omega⟩) (d := d) (c := fun e => ⟨e.val, by omega⟩) ?_ 0
      (by decide) (by decide) (fun e => by show e.val = 0 + e.val; omega) (by show 384 + (0 + 1 * p.val) = 384 + p.val; omega) (at1 0 d.val)
    unfold_payloads
    pointwise [ldx, ldw, headNorm, kGain]

set_option maxRecDepth 16384 in
/-- The first point: the last rows of the values. -/
theorem out_A_10 (hc : cond0_0 i) :
    out0_A_10 c i a2 h2 a3 h3 a4 h4 a5 h5 a6 h6 a7 h7 a8 h8 a9 h9 a10 h10 a11 h11 a12 h12 a13 h13 a14 h14 a15 h15 a16 h16 hc x0 x1 x2 x3 x4 x5 = projTail x0 x3 := by
  unfold out0_A_10
  rw [View.read_writes_eq_canon _ _ _ (fun _ => cover0_A_10 ..)]
  refine funext fun y => View.canon_apply_of_pieces (projTail x0 x3) _ (View.PiecesOf.mem ?_) y (cover0_A_10 (F := Ideal) ..)
  unfold kernelRun0_A
  dsimp only
  sl_unfold_words
  simp only [View.readAt_eq_ld, h2.read_unread, h5.read_unread, readCov_whole]
  refine ⟨?_, ?_, ?_, ?_, trivial⟩
  · intro x
    obtain ⟨b, p, d, rfl⟩ : ∃ (b : Fin 1) (p : Fin 128) (d : Fin 128), x = ix3 b p d := ⟨x 0, x 1, x 2, eq_ix3 x⟩
    refine projBlk_of_head (x := x0) (w := x3) (p := ⟨384 + p.val, by omega⟩) (n' := ⟨256 + (128 + d.val), by omega⟩) ?_
      (by show 384 + (0 + 1 * p.val) = 384 + p.val; omega) (by show 384 + 1 * d.val = 256 + (128 + d.val); omega)
    unfold_payloads
    pointwise [ldx, ldw]
  · intro x
    obtain ⟨b, p, d, rfl⟩ : ∃ (b : Fin 1) (p : Fin 128) (d : Fin 128), x = ix3 b p d := ⟨x 0, x 1, x 2, eq_ix3 x⟩
    refine projBlk_of_head (x := x0) (w := x3) (p := ⟨384 + p.val, by omega⟩) (n' := ⟨256 + d.val, by omega⟩) ?_
      (by show 384 + (0 + 1 * p.val) = 384 + p.val; omega) (at1 256 d.val)
    unfold_payloads
    pointwise [ldx, ldw]
  · intro x
    obtain ⟨b, p, d, rfl⟩ : ∃ (b : Fin 1) (p : Fin 128) (d : Fin 128), x = ix3 b p d := ⟨x 0, x 1, x 2, eq_ix3 x⟩
    refine projBlk_of_head (x := x0) (w := x3) (p := ⟨384 + p.val, by omega⟩) (n' := ⟨128 + d.val, by omega⟩) ?_
      (by show 384 + (0 + 1 * p.val) = 384 + p.val; omega) (at1 128 d.val)
    unfold_payloads
    pointwise [ldx, ldw]
  · intro x
    obtain ⟨b, p, d, rfl⟩ : ∃ (b : Fin 1) (p : Fin 128) (d : Fin 128), x = ix3 b p d := ⟨x 0, x 1, x 2, eq_ix3 x⟩
    refine projBlk_of_head (x := x0) (w := x3) (p := ⟨384 + p.val, by omega⟩) (n' := ⟨d.val, by omega⟩) ?_
      (by show 384 + (0 + 1 * p.val) = 384 + p.val; omega) (ats d.val)
    unfold_payloads
    pointwise [ldx, ldw]

set_option maxRecDepth 16384 in
/-- Every other point: the queries. -/
theorem out_B_6 (hc : ¬cond0_0 i) :
    out0_B_6 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = normArr x0 xs1 (qGain x4) := by
  unfold out0_B_6
  rw [View.read_writes_eq_canon _ _ _ (fun _ => cover0_B_6 ..)]
  refine funext fun y => View.canon_apply_of_pieces (normArr x0 xs1 (qGain x4)) _ (View.PiecesOf.mem ?_) y (cover0_B_6 (F := Ideal) ..)
  unfold kernelRun0_B
  dsimp only
  sl_unfold_words
  simp only [View.readAt_eq_ld, h2.read_unread, h14.read_unread, h6.read_unread]
  refine ⟨?_, ?_, ?_, ?_, trivial⟩
  · intro x
    obtain ⟨p, d, rfl⟩ : ∃ (p : Fin 512) (d : Fin 128), x = ix2 p d := ⟨x 0, x 1, eq_ix2 x⟩
    refine normBlk_of_head (x := x0) (w := xs1) (g := qGain x4) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, qGain]
  · intro x
    obtain ⟨p, d, rfl⟩ : ∃ (p : Fin 512) (d : Fin 128), x = ix2 p d := ⟨x 0, x 1, eq_ix2 x⟩
    refine normBlk_of_head (x := x0) (w := xs1) (g := qGain x4) (p := p) (d := d) (c := fun e => ⟨256 + e.val, by omega⟩) ?_ 256
      (by decide) (by decide) (fun _ => rfl) (ats p.val) (at1 256 d.val)
    unfold_payloads
    pointwise [ldx, ldw, headNorm, qGain]
  · intro x
    obtain ⟨p, d, rfl⟩ : ∃ (p : Fin 512) (d : Fin 128), x = ix2 p d := ⟨x 0, x 1, eq_ix2 x⟩
    refine normBlk_of_head (x := x0) (w := xs1) (g := qGain x4) (p := p) (d := d) (c := fun e => ⟨128 + e.val, by omega⟩) ?_ 128
      (by decide) (by decide) (fun _ => rfl) (ats p.val) (at1 128 d.val)
    unfold_payloads
    pointwise [ldx, ldw, headNorm, qGain]
  · intro x
    obtain ⟨p, d, rfl⟩ : ∃ (p : Fin 512) (d : Fin 128), x = ix2 p d := ⟨x 0, x 1, eq_ix2 x⟩
    refine normBlk_of_head (x := x0) (w := xs1) (g := qGain x4) (p := p) (d := d) (c := fun e => ⟨e.val, by omega⟩) ?_ 0
      (by decide) (by decide) (fun e => by show e.val = 0 + e.val; omega) (ats p.val) (at1 0 d.val)
    unfold_payloads
    pointwise [ldx, ldw, headNorm, qGain]

set_option maxRecDepth 16384 in
/-- Every other point: the keys. -/
theorem out_B_7 (hc : ¬cond0_0 i) :
    out0_B_7 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = normArr x0 xs2 (kGain x5) := by
  unfold out0_B_7
  rw [View.read_writes_eq_canon _ _ _ (fun _ => cover0_B_7 ..)]
  refine funext fun y => View.canon_apply_of_pieces (normArr x0 xs2 (kGain x5)) _ (View.PiecesOf.mem ?_) y (cover0_B_7 (F := Ideal) ..)
  unfold kernelRun0_B
  dsimp only
  sl_unfold_words
  simp only [View.readAt_eq_ld, h2.read_unread, h15.read_unread, h7.read_unread]
  refine ⟨?_, ?_, ?_, ?_, trivial⟩
  · intro x
    obtain ⟨p, d, rfl⟩ : ∃ (p : Fin 512) (d : Fin 128), x = ix2 p d := ⟨x 0, x 1, eq_ix2 x⟩
    refine normBlk_of_head (x := x0) (w := xs2) (g := kGain x5) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, kGain]
  · intro x
    obtain ⟨p, d, rfl⟩ : ∃ (p : Fin 512) (d : Fin 128), x = ix2 p d := ⟨x 0, x 1, eq_ix2 x⟩
    refine normBlk_of_head (x := x0) (w := xs2) (g := kGain x5) (p := p) (d := d) (c := fun e => ⟨256 + e.val, by omega⟩) ?_ 256
      (by decide) (by decide) (fun _ => rfl) (ats p.val) (at1 256 d.val)
    unfold_payloads
    pointwise [ldx, ldw, headNorm, kGain]
  · intro x
    obtain ⟨p, d, rfl⟩ : ∃ (p : Fin 512) (d : Fin 128), x = ix2 p d := ⟨x 0, x 1, eq_ix2 x⟩
    refine normBlk_of_head (x := x0) (w := xs2) (g := kGain x5) (p := p) (d := d) (c := fun e => ⟨128 + e.val, by omega⟩) ?_ 128
      (by decide) (by decide) (fun _ => rfl) (ats p.val) (at1 128 d.val)
    unfold_payloads
    pointwise [ldx, ldw, headNorm, kGain]
  · intro x
    obtain ⟨p, d, rfl⟩ : ∃ (p : Fin 512) (d : Fin 128), x = ix2 p d := ⟨x 0, x 1, eq_ix2 x⟩
    refine normBlk_of_head (x := x0) (w := xs2) (g := kGain x5) (p := p) (d := d) (c := fun e => ⟨e.val, by omega⟩) ?_ 0
      (by decide) (by decide) (fun e => by show e.val = 0 + e.val; omega) (ats p.val) (at1 0 d.val)
    unfold_payloads
    pointwise [ldx, ldw, headNorm, kGain]

set_option maxRecDepth 16384 in
/-- Every other point: the values. -/
theorem out_B_8 (hc : ¬cond0_0 i) :
    out0_B_8 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = projArr x0 xs3 := by
  unfold out0_B_8
  rw [View.read_writes_eq_canon _ _ _ (fun _ => cover0_B_8 ..)]
  refine funext fun y => View.canon_apply_of_pieces (projArr x0 xs3) _ (View.PiecesOf.mem ?_) y (cover0_B_8 (F := Ideal) ..)
  unfold kernelRun0_B
  dsimp only
  sl_unfold_words
  simp only [View.readAt_eq_ld, h2.read_unread, h16.read_unread]
  refine ⟨?_, ?_, ?_, ?_, trivial⟩
  · intro x
    obtain ⟨p, d, rfl⟩ : ∃ (p : Fin 512) (d : Fin 128), x = ix2 p d := ⟨x 0, x 1, eq_ix2 x⟩
    refine projBlk_of_head (x := x0) (w := xs3) (p := p) (n' := ⟨256 + (128 + d.val), by omega⟩) ?_
      (ats p.val) (by show 384 + 1 * d.val = 256 + (128 + d.val); omega)
    unfold_payloads
    pointwise [ldx, ldw]
  · intro x
    obtain ⟨p, d, rfl⟩ : ∃ (p : Fin 512) (d : Fin 128), x = ix2 p d := ⟨x 0, x 1, eq_ix2 x⟩
    refine projBlk_of_head (x := x0) (w := xs3) (p := p) (n' := ⟨256 + d.val, by omega⟩) ?_
      (ats p.val) (at1 256 d.val)
    unfold_payloads
    pointwise [ldx, ldw]
  · intro x
    obtain ⟨p, d, rfl⟩ : ∃ (p : Fin 512) (d : Fin 128), x = ix2 p d := ⟨x 0, x 1, eq_ix2 x⟩
    refine projBlk_of_head (x := x0) (w := xs3) (p := p) (n' := ⟨128 + d.val, by omega⟩) ?_
      (ats p.val) (at1 128 d.val)
    unfold_payloads
    pointwise [ldx, ldw]
  · intro x
    obtain ⟨p, d, rfl⟩ : ∃ (p : Fin 512) (d : Fin 128), x = ix2 p d := ⟨x 0, x 1, eq_ix2 x⟩
    refine projBlk_of_head (x := x0) (w := xs3) (p := p) (n' := ⟨d.val, by omega⟩) ?_
      (ats p.val) (ats d.val)
    unfold_payloads
    pointwise [ldx, ldw]

set_option maxRecDepth 16384 in
/-- Every other point: the last rows of the keys. -/
theorem out_B_9 (hc : ¬cond0_0 i) :
    out0_B_9 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = normTail x0 xs2 (kGain x5) := by
  unfold out0_B_9
  rw [View.read_writes_eq_canon _ _ _ (fun _ => cover0_B_9 ..)]
  refine funext fun y => View.canon_apply_of_pieces (normTail x0 xs2 (kGain x5)) _ (View.PiecesOf.mem ?_) y (cover0_B_9 (F := Ideal) ..)
  unfold kernelRun0_B
  dsimp only
  sl_unfold_words
  simp only [View.readAt_eq_ld, h2.read_unread, h15.read_unread, h7.read_unread]
  refine ⟨?_, ?_, ?_, ?_, trivial⟩
  · intro x
    obtain ⟨b, p, d, rfl⟩ : ∃ (b : Fin 1) (p : Fin 128) (d : Fin 128), x = ix3 b p d := ⟨x 0, x 1, x 2, eq_ix3 x⟩
    refine normBlk_of_head (x := x0) (w := xs2) (g := kGain x5) (p := ⟨384 + p.val, by omega⟩) (d := d) (c := fun e => ⟨256 + (128 + e.val), by omega⟩) ?_ 384
      (by decide) (by decide) (fun e => by show 256 + (128 + e.val) = 384 + e.val; omega) (by show 384 + (0 + 1 * p.val) = 384 + p.val; omega) (at1 384 d.val)
    unfold_payloads
    pointwise [ldx, ldw, headNorm, kGain]
  · intro x
    obtain ⟨b, p, d, rfl⟩ : ∃ (b : Fin 1) (p : Fin 128) (d : Fin 128), x = ix3 b p d := ⟨x 0, x 1, x 2, eq_ix3 x⟩
    refine normBlk_of_head (x := x0) (w := xs2) (g := kGain x5) (p := ⟨384 + p.val, by omega⟩) (d := d) (c := fun e => ⟨256 + e.val, by omega⟩) ?_ 256
      (by decide) (by decide) (fun _ => rfl) (by show 384 + (0 + 1 * p.val) = 384 + p.val; omega) (at1 256 d.val)
    unfold_payloads
    pointwise [ldx, ldw, headNorm, kGain]
  · intro x
    obtain ⟨b, p, d, rfl⟩ : ∃ (b : Fin 1) (p : Fin 128) (d : Fin 128), x = ix3 b p d := ⟨x 0, x 1, x 2, eq_ix3 x⟩
    refine normBlk_of_head (x := x0) (w := xs2) (g := kGain x5) (p := ⟨384 + p.val, by omega⟩) (d := d) (c := fun e => ⟨128 + e.val, by omega⟩) ?_ 128
      (by decide) (by decide) (fun _ => rfl) (by show 384 + (0 + 1 * p.val) = 384 + p.val; omega) (at1 128 d.val)
    unfold_payloads
    pointwise [ldx, ldw, headNorm, kGain]
  · intro x
    obtain ⟨b, p, d, rfl⟩ : ∃ (b : Fin 1) (p : Fin 128) (d : Fin 128), x = ix3 b p d := ⟨x 0, x 1, x 2, eq_ix3 x⟩
    refine normBlk_of_head (x := x0) (w := xs2) (g := kGain x5) (p := ⟨384 + p.val, by omega⟩) (d := d) (c := fun e => ⟨e.val, by omega⟩) ?_ 0
      (by decide) (by decide) (fun e => by show e.val = 0 + e.val; omega) (by show 384 + (0 + 1 * p.val) = 384 + p.val; omega) (at1 0 d.val)
    unfold_payloads
    pointwise [ldx, ldw, headNorm, kGain]

set_option maxRecDepth 16384 in
/-- Every other point: the last rows of the values. -/
theorem out_B_10 (hc : ¬cond0_0 i) :
    out0_B_10 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = projTail x0 xs3 := by
  unfold out0_B_10
  rw [View.read_writes_eq_canon _ _ _ (fun _ => cover0_B_10 ..)]
  refine funext fun y => View.canon_apply_of_pieces (projTail x0 xs3) _ (View.PiecesOf.mem ?_) y (cover0_B_10 (F := Ideal) ..)
  unfold kernelRun0_B
  dsimp only
  sl_unfold_words
  simp only [View.readAt_eq_ld, h2.read_unread, h16.read_unread]
  refine ⟨?_, ?_, ?_, ?_, trivial⟩
  · intro x
    obtain ⟨b, p, d, rfl⟩ : ∃ (b : Fin 1) (p : Fin 128) (d : Fin 128), x = ix3 b p d := ⟨x 0, x 1, x 2, eq_ix3 x⟩
    refine projBlk_of_head (x := x0) (w := xs3) (p := ⟨384 + p.val, by omega⟩) (n' := ⟨256 + (128 + d.val), by omega⟩) ?_
      (by show 384 + (0 + 1 * p.val) = 384 + p.val; omega) (by show 384 + 1 * d.val = 256 + (128 + d.val); omega)
    unfold_payloads
    pointwise [ldx, ldw]
  · intro x
    obtain ⟨b, p, d, rfl⟩ : ∃ (b : Fin 1) (p : Fin 128) (d : Fin 128), x = ix3 b p d := ⟨x 0, x 1, x 2, eq_ix3 x⟩
    refine projBlk_of_head (x := x0) (w := xs3) (p := ⟨384 + p.val, by omega⟩) (n' := ⟨256 + d.val, by omega⟩) ?_
      (by show 384 + (0 + 1 * p.val) = 384 + p.val; omega) (at1 256 d.val)
    unfold_payloads
    pointwise [ldx, ldw]
  · intro x
    obtain ⟨b, p, d, rfl⟩ : ∃ (b : Fin 1) (p : Fin 128) (d : Fin 128), x = ix3 b p d := ⟨x 0, x 1, x 2, eq_ix3 x⟩
    refine projBlk_of_head (x := x0) (w := xs3) (p := ⟨384 + p.val, by omega⟩) (n' := ⟨128 + d.val, by omega⟩) ?_
      (by show 384 + (0 + 1 * p.val) = 384 + p.val; omega) (at1 128 d.val)
    unfold_payloads
    pointwise [ldx, ldw]
  · intro x
    obtain ⟨b, p, d, rfl⟩ : ∃ (b : Fin 1) (p : Fin 128) (d : Fin 128), x = ix3 b p d := ⟨x 0, x 1, x 2, eq_ix3 x⟩
    refine projBlk_of_head (x := x0) (w := xs3) (p := ⟨384 + p.val, by omega⟩) (n' := ⟨d.val, by omega⟩) ?_
      (by show 384 + (0 + 1 * p.val) = 384 + p.val; omega) (ats d.val)
    unfold_payloads
    pointwise [ldx, ldw]

/-- The first point fills weight copy 1. -/
theorem sout_A_1 (hc : cond0_0 i) :
    sout0_A_1 c i a2 h2 a3 h3 a4 h4 a5 h5 a6 h6 a7 h7 a8 h8 a9 h9 a10 h10 a11 h11 a12 h12 a13 h13 a14 h14 a15 h15 a16 h16 hc x0 x1 x2 x3 x4 x5 = x1 := by
  unfold sout0_A_1
  rw [View.read_writes_junk_eq_canon]
  unfold kernelRun0_A
  dsimp only
  sl_unfold_words
  rw [View.canon_unit_zero hz]
  unfold_payloads
  simp only [View.readAt_eq_ld, h3.read_unread, View.ld_unit_zero (S := S2048x512) hz, shapeCast_self]
  rfl

/-- The first point fills weight copy 2. -/
theorem sout_A_2 (hc : cond0_0 i) :
    sout0_A_2 c i a2 h2 a3 h3 a4 h4 a5 h5 a6 h6 a7 h7 a8 h8 a9 h9 a10 h10 a11 h11 a12 h12 a13 h13 a14 h14 a15 h15 a16 h16 hc x0 x1 x2 x3 x4 x5 = x2 := by
  unfold sout0_A_2
  rw [View.read_writes_junk_eq_canon]
  unfold kernelRun0_A
  dsimp only
  sl_unfold_words
  rw [View.canon_unit_zero hz]
  unfold_payloads
  simp only [View.readAt_eq_ld, h4.read_unread, View.ld_unit_zero (S := S2048x512) hz, shapeCast_self]
  rfl

/-- The first point fills weight copy 3. -/
theorem sout_A_3 (hc : cond0_0 i) :
    sout0_A_3 c i a2 h2 a3 h3 a4 h4 a5 h5 a6 h6 a7 h7 a8 h8 a9 h9 a10 h10 a11 h11 a12 h12 a13 h13 a14 h14 a15 h15 a16 h16 hc x0 x1 x2 x3 x4 x5 = x3 := by
  unfold sout0_A_3
  rw [View.read_writes_junk_eq_canon]
  unfold kernelRun0_A
  dsimp only
  sl_unfold_words
  rw [View.canon_unit_zero hz]
  unfold_payloads
  simp only [View.readAt_eq_ld, h5.read_unread, View.ld_unit_zero (S := S2048x512) hz, shapeCast_self]
  rfl

end Cert.D0Ideal.Blk

end
-- ==== Proof.D0Arrays.lean ====
/-
  What the dilated projection of group 0 leaves in its five result arrays, in terms of the arrays it starts from.
-/
module

public import proofs.«01_k».proof.Proof.D0Blocks
public import proofs.«01_k».proof.Proof.Gen.D0Ideal.Value

@[expose] public section

noncomputable section

open Idealize.ShloMosaic Idealize.ShloMosaic.TcCoe Idealize.SL.Sem

namespace Cert.D0Ideal.Arr

open Cert.D0Ideal Cert.D0Ideal.Gen Cert.D0Ideal.Value Cert.D0Ideal.Blk Cert.Dil

variable (m : (ℓ : Loc nD τ sig) → Buf (Elt Ideal) ℓ) (c : Dev nD)

/-- The activations, the weights and the two norm weights the run starts from. -/
abbrev u : Vec Ideal S2x8192x2048 .bf16 := m ((c : Thread nD τ).loc main_arg0)
abbrev w : Vec Ideal S2048x12800 .f32 := m ((c : Thread nD τ).loc main_arg1)
abbrev qn : Vec Ideal S128 .f32 := m ((c : Thread nD τ).loc main_arg2)
abbrev kn : Vec Ideal S128 .f32 := m ((c : Thread nD τ).loc main_arg3)

theorem V_v0 : V m c main_v0 = (shapeCast _ (u m c) shapeCasts_S2x8192x2048_S16384x2048 : Vec Ideal S16384x2048 .bf16) := by
  unfold_abbrev_sides
  after_results
  rfl

theorem V_v1 : V m c main_v1 = (shapeCast _ (qn m c) shapeCasts_S128_S1x128 : Vec Ideal S1x128 .f32) := by
  unfold_abbrev_sides
  after_results
  rfl

theorem V_v2 : V m c main_v2 = (shapeCast _ (kn m c) shapeCasts_S128_S1x128 : Vec Ideal S1x128 .f32) := by
  unfold_abbrev_sides
  after_results
  rfl

/-- Where each input block starts, at every point. -/
theorem index_facts : ∀ t : Fin cfg0.N, win0_0.index t 0 = t.val ∧ win0_0.index t 1 = 0
    ∧ win0_1.index t 0 = 0 ∧ win0_1.index t 1 = 4096 ∧ win0_2.index t 0 = 0 ∧ win0_2.index t 1 = 5632
    ∧ win0_3.index t 0 = 0 ∧ win0_3.index t 1 = 7168 ∧ win0_4.index t 0 = 0 ∧ win0_4.index t 1 = 0
    ∧ win0_5.index t 0 = 0 ∧ win0_5.index t 1 = 0 :=
  (by decide +kernel : ∀ t : Fin grid0.N, _)

/-- A grid point's number. -/
abbrev num (t : Fin cfg0.N) : Fin 32 := ⟨t.val, lt_of_lt_of_eq t.isLt (show cfg0.N = 32 from N_0)⟩

theorem iblk0 (t : Fin cfg0.N) : (iblk m c 0 t : Vec Ideal S512x2048 .bf16) = rows (u m c) (num t) := by
  funext j
  obtain ⟨p, k, rfl⟩ : ∃ (p : Fin 512) (k : Fin 2048), j = ix2 p k := ⟨j 0, j 1, eq_ix2 j⟩
  obtain ⟨h0, h1, _⟩ := index_facts t
  have hN : t.val < 32 := lt_of_lt_of_eq t.isLt (show cfg0.N = 32 from N_0)
  unfold iblk
  rw [View.read_apply]
  show V m c main_v0 _ = _
  rw [V_v0]
  have e : ((cfg0.win 0).blk t).view.emb (ix2 p k) = (ix2 ⟨512 * t.val + p.val, by omega⟩ k : S16384x2048.Idx) := by
    funext a
    apply Fin.ext
    match a with
    | ⟨0, _⟩ => show win0_0.index t 0 * 512 + 1 * p.val = 512 * t.val + p.val; omega
    | ⟨1, _⟩ => show win0_0.index t 1 * 2048 + 1 * k.val = k.val; omega
  rw [e]
  pointwise
  rfl

theorem iblk1 (t : Fin cfg0.N) : (iblk m c 1 t : Vec Ideal S2048x512 .f32) = cols (w m c) 4096 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨4096 + n.val, _⟩)
  congr 1
  funext a
  apply Fin.ext
  match a with
  | ⟨0, _⟩ => show win0_1.index t 0 + 1 * k.val = k.val; omega
  | ⟨1, _⟩ => show win0_1.index t 1 + 1 * n.val = 4096 + n.val; omega

theorem iblk2 (t : Fin cfg0.N) : (iblk m c 2 t : Vec Ideal S2048x512 .f32) = cols (w m c) 5632 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨5632 + n.val, _⟩)
  congr 1
  funext a
  apply Fin.ext
  match a with
  | ⟨0, _⟩ => show win0_2.index t 0 + 1 * k.val = k.val; omega
  | ⟨1, _⟩ => show win0_2.index t 1 + 1 * n.val = 5632 + n.val; omega

theorem iblk3 (t : Fin cfg0.N) : (iblk m c 3 t : Vec Ideal S2048x512 .f32) = cols (w m c) 7168 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨7168 + n.val, _⟩)
  congr 1
  funext a
  apply Fin.ext
  match a with
  | ⟨0, _⟩ => show win0_3.index t 0 + 1 * k.val = k.val; omega
  | ⟨1, _⟩ => show win0_3.index t 1 + 1 * n.val = 7168 + n.val; omega

theorem iblk4 (t : Fin cfg0.N) : (iblk m c 4 t : Vec Ideal S1x128 .f32) = asRow (qn m c) := by
  funext j
  obtain ⟨z, d, rfl⟩ : ∃ (z : Fin 1) (d : Fin 128), j = ix2 z d := ⟨j 0, j 1, eq_ix2 j⟩
  have h := index_facts t
  unfold iblk
  rw [View.read_apply]
  show V m c main_v1 _ = _
  rw [V_v1]
  have e : ((cfg0.win 4).blk t).view.emb (ix2 z d) = (ix2 z d : S1x128.Idx) := by
    funext a
    apply Fin.ext
    match a with
    | ⟨0, _⟩ => show win0_4.index t 0 * 1 + 1 * z.val = z.val; omega
    | ⟨1, _⟩ => show win0_4.index t 1 * 128 + 1 * d.val = d.val; omega
  rw [e]
  pointwise
  rfl

theorem iblk5 (t : Fin cfg0.N) : (iblk m c 5 t : Vec Ideal S1x128 .f32) = asRow (kn m c) := by
  funext j
  obtain ⟨z, d, rfl⟩ : ∃ (z : Fin 1) (d : Fin 128), j = ix2 z d := ⟨j 0, j 1, eq_ix2 j⟩
  have h := index_facts t
  unfold iblk
  rw [View.read_apply]
  show V m c main_v2 _ = _
  rw [V_v2]
  have e : ((cfg0.win 5).blk t).view.emb (ix2 z d) = (ix2 z d : S1x128.Idx) := by
    funext a
    apply Fin.ext
    match a with
    | ⟨0, _⟩ => show win0_5.index t 0 * 1 + 1 * z.val = z.val; omega
    | ⟨1, _⟩ => show win0_5.index t 1 * 128 + 1 * d.val = d.val; omega
  rw [e]
  pointwise
  rfl

/-- What a point leaves: the five output blocks of the rows it reads, and the three weight copies. -/
def left (t : Fin 32) : Vec Ideal S512x512 .bf16 × Vec Ideal S512x512 .bf16 × Vec Ideal S512x512 .bf16
    × Vec Ideal S1x128x512 .f32 × Vec Ideal S1x128x512 .f32
    × Vec Ideal S2048x512 .bf16 × Vec Ideal S2048x512 .bf16 × Vec Ideal S2048x512 .bf16 :=
  (normArr (rows (u m c) t) (cols (w m c) 4096 (by decide)) (qGain (asRow (qn m c))),
   normArr (rows (u m c) t) (cols (w m c) 5632 (by decide)) (kGain (asRow (kn m c))),
   projArr (rows (u m c) t) (cols (w m c) 7168 (by decide)),
   normTail (rows (u m c) t) (cols (w m c) 5632 (by decide)) (kGain (asRow (kn m c))),
   projTail (rows (u m c) t) (cols (w m c) 7168 (by decide)),
   cols (w m c) 4096 (by decide), cols (w m c) 5632 (by decide), cols (w m c) 7168 (by decide))

/-- After every point the run has left that. -/
theorem outs_eq : ∀ (n : ℕ) (h : n < cfg0.N), outsAt0 m c n h = left m c (num ⟨n, h⟩)
  | 0, h => by
    rw [outsAt0_A m c ⟨0, h⟩ rfl, out_A_6, out_A_7, out_A_8, out_A_9, out_A_10, sout_A_1, sout_A_2, sout_A_3,
      iblk0, iblk1, iblk2, iblk3, iblk4, iblk5]
    rfl
  | n + 1, h => by
    have hN : n + 1 < 32 := lt_of_lt_of_eq h (show cfg0.N = 32 from N_0)
    have hB : ¬(⟨n + 1, h⟩ : Fin cfg0.N).val % 32 = 0 := by dsimp only; omega
    have ih : outsAt0 m c ((⟨n + 1, h⟩ : Fin cfg0.N).val - 1) (by dsimp only; omega) = left m c (num ⟨n, Nat.lt_of_succ_lt h⟩) :=
      outs_eq n (Nat.lt_of_succ_lt h)
    rw [outsAt0_B m c ⟨n + 1, h⟩ hB, ih, out_B_6, out_B_7, out_B_8, out_B_9, out_B_10,
      iblk0, iblk1, iblk2, iblk3, iblk4, iblk5]
    rfl

/-- Result 1 of the call. -/
theorem G6_eq : G6 m c = normFlat (u m c) (w m c) 4096 (by decide) (qGain (asRow (qn m c))) := by
  funext i
  have h0 : (i 0).val < 16384 := (i 0).isLt
  have h1 : (i 1).val < 512 := (i 1).isLt
  have hp : pt6Of i = (i 0).val / 512 := by
    show 1 * ((i 0).val / 512 - 0) + 1 * ((i 1).val / 512 - 0) = _
    omega
  have hlt : pt6Of i < cfg0.N := by rw [show cfg0.N = 32 from N_0, hp]; omega
  unfold G6
  rw [dif_pos hlt, ← outsAt0_sweep m c _ hlt, outs_eq]
  exact normBlk_rows (u m c) (w m c) 4096 (by decide) (qGain (asRow (qn m c))) (b := ⟨(i 0).val / 8192, by omega⟩)
    (l := ⟨(i 0).val % 8192, Nat.mod_lt _ (by decide)⟩) (t := num ⟨pt6Of i, hlt⟩)
    (p := ⟨(i 0).val % 512, Nat.mod_lt _ (by decide)⟩) (by
      show 512 * pt6Of i + (i 0).val % 512 = 8192 * ((i 0).val / 8192) + (i 0).val % 8192
      rw [hp]; omega) ⟨(i 1).val % 512, Nat.mod_lt _ (by decide)⟩
    |>.trans (by
      rw [show (⟨(i 1).val % 512, Nat.mod_lt _ (by decide)⟩ : Fin 512) = i 1 from Fin.ext (Nat.mod_eq_of_lt h1)]; rfl)

/-- Result 2 of the call. -/
theorem G7_eq : G7 m c = normFlat (u m c) (w m c) 5632 (by decide) (kGain (asRow (kn m c))) := by
  funext i
  have h0 : (i 0).val < 16384 := (i 0).isLt
  have h1 : (i 1).val < 512 := (i 1).isLt
  have hp : pt7Of i = (i 0).val / 512 := by
    show 1 * ((i 0).val / 512 - 0) + 1 * ((i 1).val / 512 - 0) = _
    omega
  have hlt : pt7Of i < cfg0.N := by rw [show cfg0.N = 32 from N_0, hp]; omega
  unfold G7
  rw [dif_pos hlt, ← outsAt0_sweep m c _ hlt, outs_eq]
  exact normBlk_rows (u m c) (w m c) 5632 (by decide) (kGain (asRow (kn m c))) (b := ⟨(i 0).val / 8192, by omega⟩)
    (l := ⟨(i 0).val % 8192, Nat.mod_lt _ (by decide)⟩) (t := num ⟨pt7Of i, hlt⟩)
    (p := ⟨(i 0).val % 512, Nat.mod_lt _ (by decide)⟩) (by
      show 512 * pt7Of i + (i 0).val % 512 = 8192 * ((i 0).val / 8192) + (i 0).val % 8192
      rw [hp]; omega) ⟨(i 1).val % 512, Nat.mod_lt _ (by decide)⟩
    |>.trans (by
      rw [show (⟨(i 1).val % 512, Nat.mod_lt _ (by decide)⟩ : Fin 512) = i 1 from Fin.ext (Nat.mod_eq_of_lt h1)]; rfl)

/-- Result 3 of the call. -/
theorem G8_eq : G8 m c = projFlat (u m c) (w m c) 7168 (by decide) := by
  funext i
  have h0 : (i 0).val < 16384 := (i 0).isLt
  have h1 : (i 1).val < 512 := (i 1).isLt
  have hp : pt8Of i = (i 0).val / 512 := by
    show 1 * ((i 0).val / 512 - 0) + 1 * ((i 1).val / 512 - 0) = _
    omega
  have hlt : pt8Of i < cfg0.N := by rw [show cfg0.N = 32 from N_0, hp]; omega
  unfold G8
  rw [dif_pos hlt, ← outsAt0_sweep m c _ hlt, outs_eq]
  exact projBlk_rows (u m c) (w m c) 7168 (by decide) (b := ⟨(i 0).val / 8192, by omega⟩)
    (l := ⟨(i 0).val % 8192, Nat.mod_lt _ (by decide)⟩) (t := num ⟨pt8Of i, hlt⟩)
    (p := ⟨(i 0).val % 512, Nat.mod_lt _ (by decide)⟩) (by
      show 512 * pt8Of i + (i 0).val % 512 = 8192 * ((i 0).val / 8192) + (i 0).val % 8192
      rw [hp]; omega) ⟨(i 1).val % 512, Nat.mod_lt _ (by decide)⟩
    |>.trans (by
      rw [show (⟨(i 1).val % 512, Nat.mod_lt _ (by decide)⟩ : Fin 512) = i 1 from Fin.ext (Nat.mod_eq_of_lt h1)]; rfl)

/-- Result 4 of the call. -/
theorem G9_eq : G9 m c = normLast (u m c) (w m c) 5632 (by decide) (kGain (asRow (kn m c))) := by
  funext i
  have h0 : (i 0).val < 2 := (i 0).isLt
  have h1 : (i 1).val < 128 := (i 1).isLt
  have h2 : (i 2).val < 512 := (i 2).isLt
  have hp : pt9Of i = 16 * (i 0).val + 15 := by
    show 16 * (1 * ((i 0).val / 1 - 0) + 1 * ((i 1).val / 128 - 0) + 1 * ((i 2).val / 512 - 0)) + 15 = _
    omega
  have hlt : pt9Of i < cfg0.N := by rw [show cfg0.N = 32 from N_0, hp]; omega
  unfold G9
  rw [dif_pos hlt, ← outsAt0_sweep m c _ hlt, outs_eq]
  exact normBlk_rows (u m c) (w m c) 5632 (by decide) (kGain (asRow (kn m c))) (b := i 0)
    (l := ⟨8064 + (i 1).val, by omega⟩) (t := num ⟨pt9Of i, hlt⟩)
    (p := ⟨384 + (i 1).val % 128, by omega⟩) (by
      show 512 * pt9Of i + (384 + (i 1).val % 128) = 8192 * (i 0).val + (8064 + (i 1).val)
      rw [hp]; omega) ⟨(i 2).val % 512, Nat.mod_lt _ (by decide)⟩
    |>.trans (by
      rw [show (⟨(i 2).val % 512, Nat.mod_lt _ (by decide)⟩ : Fin 512) = i 2 from Fin.ext (Nat.mod_eq_of_lt h2)]; rfl)

/-- Result 5 of the call. -/
theorem G10_eq : G10 m c = projLast (u m c) (w m c) 7168 (by decide) := by
  funext i
  have h0 : (i 0).val < 2 := (i 0).isLt
  have h1 : (i 1).val < 128 := (i 1).isLt
  have h2 : (i 2).val < 512 := (i 2).isLt
  have hp : pt10Of i = 16 * (i 0).val + 15 := by
    show 16 * (1 * ((i 0).val / 1 - 0) + 1 * ((i 1).val / 128 - 0) + 1 * ((i 2).val / 512 - 0)) + 15 = _
    omega
  have hlt : pt10Of i < cfg0.N := by rw [show cfg0.N = 32 from N_0, hp]; omega
  unfold G10
  rw [dif_pos hlt, ← outsAt0_sweep m c _ hlt, outs_eq]
  exact projBlk_rows (u m c) (w m c) 7168 (by decide) (b := i 0)
    (l := ⟨8064 + (i 1).val, by omega⟩) (t := num ⟨pt10Of i, hlt⟩)
    (p := ⟨384 + (i 1).val % 128, by omega⟩) (by
      show 512 * pt10Of i + (384 + (i 1).val % 128) = 8192 * (i 0).val + (8064 + (i 1).val)
      rw [hp]; omega) ⟨(i 2).val % 512, Nat.mod_lt _ (by decide)⟩
    |>.trans (by
      rw [show (⟨(i 2).val % 512, Nat.mod_lt _ (by decide)⟩ : Fin 512) = i 2 from Fin.ext (Nat.mod_eq_of_lt h2)]; rfl)

end Cert.D0Ideal.Arr

end
-- ==== Proof.R0Arrays.lean ====
/-
  The reference of group 0's projection, read at an index: its five results are the whole-array functions of `Dil`.
-/
module

public import proofs.«01_k».proof.Proof.Dil
public import proofs.«01_k».proof.Proof.Gen.R0Ideal.Run

@[expose] public section

noncomputable section

open Idealize.ShloMosaic Idealize.ShloMosaic.TcCoe Idealize.SL.Sem

namespace Cert.R0Ideal.Arr

open Cert.R0Ideal Cert.R0Ideal.Gen Cert.R0Ideal.Value Cert.Dil

variable (m : (ℓ : Loc nD τ sig) → Buf (Elt Ideal) ℓ) (ρ : Dev nD → PrngReg)

abbrev u (c : Dev nD) : Vec Ideal S2x8192x2048 .bf16 := m ((c.tc : Thread nD τ).loc main_arg0)
abbrev w (c : Dev nD) : Vec Ideal S2048x12800 .f32 := m ((c.tc : Thread nD τ).loc main_arg1)
abbrev qn (c : Dev nD) : Vec Ideal S128 .f32 := m ((c.tc : Thread nD τ).loc main_arg2)
abbrev kn (c : Dev nD) : Vec Ideal S128 .f32 := m ((c.tc : Thread nD τ).loc main_arg3)

theorem run_read : θ_run defs (onTc (τ := τ) (main (F := Ideal))) ⟨m, fun _ => 0, ρ⟩ fun r => ∀ c : Dev nD,
      r.2.mem ((c.tc : Thread nD τ).loc main_v41) = normFlat (u m c) (w m c) 4096 (by decide) (qGain (asRow (qn m c)))
      ∧ r.2.mem ((c.tc : Thread nD τ).loc main_v45) = normFlat (u m c) (w m c) 5632 (by decide) (kGain (asRow (kn m c)))
      ∧ r.2.mem ((c.tc : Thread nD τ).loc main_v49) = projFlat (u m c) (w m c) 7168 (by decide)
      ∧ r.2.mem ((c.tc : Thread nD τ).loc main_v51) = normLast (u m c) (w m c) 5632 (by decide) (kGain (asRow (kn m c)))
      ∧ r.2.mem ((c.tc : Thread nD τ).loc main_v53) = projLast (u m c) (w m c) 7168 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h1, h2, h3, h4, h5, h6⟩ := h c
  refine ⟨h1.trans ?_, h2.trans ?_, h3.trans ?_, h4.trans ?_, h5.trans ?_, h6⟩
  · funext i
    obtain ⟨p, n, rfl⟩ : ∃ (p : Fin 16384) (n : Fin 512), i = ix2 p n := ⟨i 0, i 1, eq_ix2 i⟩
    show _ = fullNorm (u m c) (w m c) 4096 (by decide) (qGain (asRow (qn m c))) ⟨p.val / 8192, by omega⟩ ⟨p.val % 8192, Nat.mod_lt _ (by decide)⟩ n
    rw [fullNorm_eq]
    pointwise [fullProj, qGain, asRow, col]
    exact mul_assoc _ _ _
  · funext i
    obtain ⟨p, n, rfl⟩ : ∃ (p : Fin 16384) (n : Fin 512), i = ix2 p n := ⟨i 0, i 1, eq_ix2 i⟩
    show _ = fullNorm (u m c) (w m c) 5632 (by decide) (kGain (asRow (kn m c))) ⟨p.val / 8192, by omega⟩ ⟨p.val % 8192, Nat.mod_lt _ (by decide)⟩ n
    rw [fullNorm_eq]
    pointwise [fullProj, kGain, asRow, col]
  · funext i
    obtain ⟨p, n, rfl⟩ : ∃ (p : Fin 16384) (n : Fin 512), i = ix2 p n := ⟨i 0, i 1, eq_ix2 i⟩
    show _ = fullProj (u m c) (w m c) 7168 (by decide) ⟨p.val / 8192, by omega⟩ ⟨p.val % 8192, Nat.mod_lt _ (by decide)⟩ n
    pointwise [fullProj]
  · funext i
    obtain ⟨b, t, n, rfl⟩ : ∃ (b : Fin 2) (t : Fin 128) (n : Fin 512), i = ix3 b t n := ⟨i 0, i 1, i 2, eq_ix3 i⟩
    show _ = fullNorm (u m c) (w m c) 5632 (by decide) (kGain (asRow (kn m c))) b ⟨8064 + t.val, by omega⟩ n
    rw [fullNorm_eq]
    pointwise [fullProj, kGain, asRow, col]
  · funext i
    obtain ⟨b, t, n, rfl⟩ : ∃ (b : Fin 2) (t : Fin 128) (n : Fin 512), i = ix3 b t n := ⟨i 0, i 1, i 2, eq_ix3 i⟩
    show _ = fullProj (u m c) (w m c) 7168 (by decide)  b ⟨8064 + t.val, by omega⟩ n
    pointwise [fullProj]

end Cert.R0Ideal.Arr

end
-- ==== Proof.MoeRun.lean ====
/-
  The grouped expert product's body at one grid point, over any contents of its tables.
-/
module

public import proofs.«01_k».proof.Defs
public import proofs.«01_k».proof.Proof.Gen.MoeIdeal
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.MoeIdeal.Grp

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resource the triples are stated in. -/
local notation "𝕄" => MT nD τ sig Unit (Elt F) ℕ (UR sig nD τ) ℕ

/-- The tables and the kept weights, whole buffers. -/
abbrev teM : Memref sig .tc .smem S160 .i32 := Memref.whole main_arg0
abbrev ntM : Memref sig .tc .smem S1 .i32 := Memref.whole main_arg1
abbrev wgM : Memref sig .tc .vmem S2048x512 .bf16 := Memref.whole cc0_scratch0
abbrev wuM : Memref sig .tc .vmem S2048x512 .bf16 := Memref.whole cc0_scratch1
abbrev wdM : Memref sig .tc .vmem S512x2048 .bf16 := Memref.whole cc0_scratch2

/-- The word the body reads at grid point `i`: its tile's expert, -/
abbrev teHere (T : S160.Idx → Elt F .i32) (i : grid0.Coords) : BitVec 32 :=
  View.readAt (Elt F) teM.view (Rect.unit (s := S160) (k0_off1 i) S1.size (k0_off1_inb i)).toLoadRect T (Shape.Idx.first (numel1_S1.symm ▸ Nat.one_pos))
/-- the expert of the tile before it, -/
abbrev tePrev (T : S160.Idx → Elt F .i32) (i : grid0.Coords) : BitVec 32 :=
  View.readAt (Elt F) teM.view (Rect.unit (s := S160) (k0_off2 i) S1.size (k0_off2_inb i)).toLoadRect T (Shape.Idx.first (numel1_S1.symm ▸ Nat.one_pos))
/-- and the number of tiles in use. -/
abbrev ntHere (T : S1.Idx → Elt F .i32) : BitVec 32 :=
  View.readAt (Elt F) ntM.view (Rect.unit (s := S1) ![0] S1.size inb_S1_S1_0).toLoadRect T (Shape.Idx.first (numel1_S1.symm ▸ Nat.one_pos))

/-- The condition of the first branch, as the kernel computes it of the words it reads. -/
abbrev cond1 (i : grid0.Coords) (a b n : BitVec 32) : BitVec 1 :=
  Scalar.cmpi .ne (Scalar.extui (Scalar.andi (Scalar.ori (Scalar.cmpi .eq (BitVec.ofNat 32 (i 0).val) 0#32) (Scalar.cmpi .ne a b)) (Scalar.cmpi .slt (BitVec.ofNat 32 (i 0).val) n))) 0#32

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A tile's output block of its rows and the kept weights: the two halves of the hidden columns, one after the other. -/
def tileOut (x : Vec F S256x2048 .f32) (a b : Vec F S2048x512 .bf16) (d : Vec F S512x2048 .bf16) : Vec F S256x2048 .f32 :=
  k0_pay4 x (View.ld a (Rect.unit ![0, 0] S2048x256.size inb_S2048x512_S2048x256_0_0)) (View.ld b (Rect.unit ![0, 0] S2048x256.size inb_S2048x512_S2048x256_0_0))
    (View.ld d (Rect.unit ![0, 0] S256x2048.size inb_S512x2048_S256x2048_0_0)) (View.ld a (Rect.unit ![0, 256] S2048x256.size inb_S2048x512_S2048x256_0_256))
    (View.ld b (Rect.unit ![0, 256] S2048x256.size inb_S2048x512_S2048x256_0_256)) (View.ld d (Rect.unit ![256, 0] S256x2048.size inb_S512x2048_S256x2048_256_0))

/-- A load of part of a buffer that one store filled reads the stored array there. -/
theorem readCov_wide (v : View sig .tc .vmem S2048x512 .bf16) (inb) (Z : Vec F S2048x512 .bf16) (r : Rect S2048x512) :
    v.readCov [⟨Rect.unit ![0, 0] (no_index S2048x512.size) inb, Z⟩] r.toLoadRect = View.ld Z r :=
  View.readCov_fill v inb Z [] r (fun a => by fin_cases a <;> rfl)
theorem readCov_tall (v : View sig .tc .vmem S512x2048 .bf16) (inb) (Z : Vec F S512x2048 .bf16) (r : Rect S512x2048) :
    v.readCov [⟨Rect.unit ![0, 0] (no_index S512x2048.size) inb, Z⟩] r.toLoadRect = View.ld Z r :=
  View.readCov_fill v inb Z [] r (fun a => by fin_cases a <;> rfl)

/-- A buffer that one store filled reads as the stored array. -/
theorem read_fill {sp : Space} {s : Shape} {e : EltTy} (v : View sig .tc sp s e) (f) (off : Fin s.rank → Nat) (inb) (Z : s.Idx → Elt F e) (h0 : ∀ a, off a = 0) :
    v.read (Elt F) (v.writes (Elt F) f [⟨Rect.unit off s.size inb, Z⟩]) = Z := by
  obtain rfl : off = fun _ => 0 := funext h0
  exact View.read_writes_whole v f Z

variable (c : Dev nD) (i : grid0.Coords) (arg3 : Memref sig .tc .vmem S256x2048 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S256x2048 .f32) (harg7 : arg7.IsWhole)
  (T0 : S160.Idx → Elt F .i32) (T1 : S1.Idx → Elt F .i32) (x0 : Vec F S256x2048 .f32) (x1 : Vec F S1x1x2048x512 .f32) (x2 : Vec F S1x1x2048x512 .f32) (x3 : Vec F S1x1x512x2048 .f32)

/-- What the body is given and hands back unchanged: its input blocks and its tables. -/
abbrev Ins : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (teM.view.loc (c : Thread nD τ) ↦{fullShare.right} T0)
    ∗ (ntM.view.loc (c : Thread nD τ) ↦{fullShare.right} T1))

/-- The kept weights' buffers. -/
abbrev Kept (xa0 : Buf (Elt F) ((c : Thread nD τ).loc cc0_scratch0)) (xa1 : Buf (Elt F) ((c : Thread nD τ).loc cc0_scratch1)) (xa2 : Buf (Elt F) ((c : Thread nD τ).loc cc0_scratch2)) : sProp 𝕄 :=
  iprop((wgM.view.loc (c : Thread nD τ) ↦{fullShare} xa0) ∗ (wuM.view.loc (c : Thread nD τ) ↦{fullShare} xa1) ∗ (wdM.view.loc (c : Thread nD τ) ↦{fullShare} xa2))

/-- The body's run, to a continuation that holds the inputs, the output block `o` and kept weights of which `R` holds. -/
abbrev Runs (o : Vec F S256x2048 .f32) (R : Vec F S2048x512 .bf16 → Vec F S2048x512 .bf16 → Vec F S512x2048 .bf16 → Prop)
    (xa0 : Buf (Elt F) ((c : Thread nD τ).loc cc0_scratch0)) (xa1 : Buf (Elt F) ((c : Thread nD τ).loc cc0_scratch1)) (xa2 : Buf (Elt F) ((c : Thread nD τ).loc cc0_scratch2)) : Prop :=
  ∀ K : PUnit → sProp 𝕄,
    iprop(Ins c arg3 arg4 arg5 arg6 T0 T1 x0 x1 x2 x3 ∗ (∃ d, owns (c : Thread nD τ) arg7 fullShare d) ∗ Kept c xa0 xa1 xa2
        ∗ (iprop(Ins c arg3 arg4 arg5 arg6 T0 T1 x0 x1 x2 x3 ∗ owns (c : Thread nD τ) arg7 fullShare o
            ∗ (∃ y0 y1 y2, ⌜R (wgM.view.read (Elt F) y0) (wuM.view.read (Elt F) y1) (wdM.view.read (Elt F) y2)⌝ ∗ Kept c y0 y1 y2)) -∗ K ⟨⟩))
      ⊢ wp frame (wpE (defs₀ (F := F)) Variants.none c none) Set.univ (cc0_moe_grouped_matmul i teM (Memref.isWhole_whole _) ntM (Memref.isWhole_whole _) arg3 harg3 arg4 harg4 arg5 harg5 arg6 harg6 arg7 harg7 wgM (Memref.isWhole_whole _) wuM (Memref.isWhole_whole _) wdM (Memref.isWhole_whole _)) K

set_option maxHeartbeats 8000000 in
/-- A tile in use with a new expert: the weights are taken over and the tile is computed with them. -/
theorem run_fresh (hc0 : cond1 i (teHere T0 i) (tePrev T0 i) (ntHere T1) = 1#1) (k0_h2 : k0_cond2 i (ntHere T1) = 1#1) (k0_h3 : ¬(k0_cond3 i (ntHere T1) = 1#1))
    (xa0 : Buf (Elt F) ((c : Thread nD τ).loc cc0_scratch0)) (xa1 : Buf (Elt F) ((c : Thread nD τ).loc cc0_scratch1)) (xa2 : Buf (Elt F) ((c : Thread nD τ).loc cc0_scratch2)) :
    Runs c i arg3 harg3 arg4 harg4 arg5 harg5 arg6 harg6 arg7 harg7 T0 T1 x0 x1 x2 x3
      (tileOut x0 (k0_pay1 x1) (k0_pay2 x2) (k0_pay3 x3)) (fun a b d => a = k0_pay1 x1 ∧ b = k0_pay2 x2 ∧ d = k0_pay3 x3) xa0 xa1 xa2 := by
  intro K
  unfold owns
  rw [cc0_moe_grouped_matmul_eq_skeleton]; unfold cc0_moe_grouped_matmul_skel
  iintro ⟨⟨H0, H1, H2, H3, HT0, HT1⟩, ⟨%d4, %f4, -, HO4⟩, ⟨HS0, HS1, HS2⟩, Hk⟩
  have hS0 : wgM.IsWhole := Memref.isWhole_whole _
  have hS1 : wuM.IsWhole := Memref.isWhole_whole _
  have hS2 : wdM.IsWhole := Memref.isWhole_whole _
  have hT0 : teM.IsWhole := Memref.isWhole_whole _
  have hT1 : ntM.IsWhole := Memref.isWhole_whole _
  sl_exec! (disch := first | (guard_target = Scalar.cmpi = _; exact hc0) | (guard_target = k0_cond2 _ _ = _; exact k0_h2) | (guard_target = ¬(k0_cond3 _ _ = _); exact k0_h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr [HO4]
    swap; · iexact HO4
    ipureintro
    sl_unfold_words
    rw [read_fill (h0 := fun a => by fin_cases a <;> rfl)]
    simp only [View.readAt_eq_ld, View.read_rep, readCov_wide, readCov_tall, View.ld_unit_zero (S := S256x2048) hz2, View.ld_unit_zero (S := S1x1x2048x512) hz4, View.ld_unit_zero (S := S1x1x512x2048) hz4]
    rfl
  iexists _, _, _
  isplitr [HS0 HS1 HS2]
  swap
  · isplitl [HS0]; · iexact HS0
    isplitl [HS1]; · iexact HS1
    iexact HS2
  ipureintro
  sl_unfold_words
  refine ⟨?_, ?_, ?_⟩ <;>
  · rw [read_fill (h0 := fun a => by fin_cases a <;> rfl)]
    simp only [View.readAt_eq_ld, View.read_rep, View.ld_unit_zero (S := S1x1x2048x512) hz4, View.ld_unit_zero (S := S1x1x512x2048) hz4]

set_option maxHeartbeats 8000000 in
/-- A tile in use with the expert of the tile before it: it is computed with the kept weights. -/
theorem run_same (hc0 : ¬(cond1 i (teHere T0 i) (tePrev T0 i) (ntHere T1) = 1#1)) (k0_h2 : k0_cond2 i (ntHere T1) = 1#1) (k0_h3 : ¬(k0_cond3 i (ntHere T1) = 1#1))
    (xa0 : Buf (Elt F) ((c : Thread nD τ).loc cc0_scratch0)) (xa1 : Buf (Elt F) ((c : Thread nD τ).loc cc0_scratch1)) (xa2 : Buf (Elt F) ((c : Thread nD τ).loc cc0_scratch2)) :
    Runs c i arg3 harg3 arg4 harg4 arg5 harg5 arg6 harg6 arg7 harg7 T0 T1 x0 x1 x2 x3
      (tileOut x0 (wgM.view.read (Elt F) xa0) (wuM.view.read (Elt F) xa1) (wdM.view.read (Elt F) xa2)) (fun a b d => a = wgM.view.read (Elt F) xa0 ∧ b = wuM.view.read (Elt F) xa1 ∧ d = wdM.view.read (Elt F) xa2) xa0 xa1 xa2 := by
  intro K
  unfold owns
  rw [cc0_moe_grouped_matmul_eq_skeleton]; unfold cc0_moe_grouped_matmul_skel
  iintro ⟨⟨H0, H1, H2, H3, HT0, HT1⟩, ⟨%d4, %f4, -, HO4⟩, ⟨HS0, HS1, HS2⟩, Hk⟩
  have hS0 : wgM.IsWhole := Memref.isWhole_whole _
  have hS1 : wuM.IsWhole := Memref.isWhole_whole _
  have hS2 : wdM.IsWhole := Memref.isWhole_whole _
  have hT0 : teM.IsWhole := Memref.isWhole_whole _
  have hT1 : ntM.IsWhole := Memref.isWhole_whole _
  sl_exec! (disch := first | (guard_target = ¬(Scalar.cmpi = _); exact hc0) | (guard_target = k0_cond2 _ _ = _; exact k0_h2) | (guard_target = ¬(k0_cond3 _ _ = _); exact k0_h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr [HO4]
    swap; · iexact HO4
    ipureintro
    sl_unfold_words
    rw [read_fill (h0 := fun a => by fin_cases a <;> rfl)]
    simp only [View.readAt_eq_ld, View.read_rep, readCov_wide, readCov_tall, View.ld_unit_zero (S := S256x2048) hz2, View.ld_unit_zero (S := S1x1x2048x512) hz4, View.ld_unit_zero (S := S1x1x512x2048) hz4]
    rfl
  iexists _, _, _
  isplitr [HS0 HS1 HS2]
  swap
  · isplitl [HS0]; · iexact HS0
    isplitl [HS1]; · iexact HS1
    iexact HS2
  ipureintro
  exact ⟨rfl, rfl, rfl⟩

set_option maxHeartbeats 8000000 in
/-- A tile not in use: its block is zero. -/
theorem run_unused (hc0 : ¬(cond1 i (teHere T0 i) (tePrev T0 i) (ntHere T1) = 1#1)) (k0_h2 : ¬(k0_cond2 i (ntHere T1) = 1#1)) (k0_h3 : k0_cond3 i (ntHere T1) = 1#1)
    (xa0 : Buf (Elt F) ((c : Thread nD τ).loc cc0_scratch0)) (xa1 : Buf (Elt F) ((c : Thread nD τ).loc cc0_scratch1)) (xa2 : Buf (Elt F) ((c : Thread nD τ).loc cc0_scratch2)) :
    Runs c i arg3 harg3 arg4 harg4 arg5 harg5 arg6 harg6 arg7 harg7 T0 T1 x0 x1 x2 x3
      (k0_pay5 (F := F)) (fun _ _ _ => True) xa0 xa1 xa2 := by
  intro K
  unfold owns
  rw [cc0_moe_grouped_matmul_eq_skeleton]; unfold cc0_moe_grouped_matmul_skel
  iintro ⟨⟨H0, H1, H2, H3, HT0, HT1⟩, ⟨%d4, %f4, -, HO4⟩, ⟨HS0, HS1, HS2⟩, Hk⟩
  have hS0 : wgM.IsWhole := Memref.isWhole_whole _
  have hS1 : wuM.IsWhole := Memref.isWhole_whole _
  have hS2 : wdM.IsWhole := Memref.isWhole_whole _
  have hT0 : teM.IsWhole := Memref.isWhole_whole _
  have hT1 : ntM.IsWhole := Memref.isWhole_whole _
  sl_exec! (disch := first | (guard_target = ¬(Scalar.cmpi = _); exact hc0) | (guard_target = ¬(k0_cond2 _ _ = _); exact k0_h2) | (guard_target = k0_cond3 _ _ = _; exact k0_h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr [HO4]
    swap; · iexact HO4
    ipureintro
    sl_unfold_words
    rw [read_fill (h0 := fun a => by fin_cases a <;> rfl)]
  iexists _, _, _
  isplitr [HS0 HS1 HS2]
  swap
  · isplitl [HS0]; · iexact HS0
    isplitl [HS1]; · iexact HS1
    iexact HS2
  ipureintro
  trivial

end Cert.MoeIdeal.Grp
-- ==== Proof.MoeTables.lean ====
/-
  What the grouped expert product's tables say at a grid point: which expert a tile belongs to, which tiles are in use, and
  which blocks the windows take.
-/
module

public import proofs.«01_k».proof.Defs
public import proofs.«01_k».proof.Proof.MoeRun
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Writes
public import Idealize.ShloMosaic.Lib.ValueIdx
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.MoeIdeal.Grp

open Cert.MoeIdeal Cert.MoeIdeal.Gen
open Idealize.ShloMosaic
open Idealize.ShloMosaic.TcCoe Idealize.ShloMosaic.Tactic
open Idealize.ShloMosaic.ValueIdx

variable {F : FTy → Type} [FloatOps F]

/-- The expert of tile `t` and the number of tiles in use, of the tables' contents. -/
abbrev te (tb : pre0.Contents (Elt F)) (t : Fin 160) : BitVec 32 := tb 0 (ix1 t)
abbrev nt (tb : pre0.Contents (Elt F)) : BitVec 32 := tb 1 (ix1 (0 : Fin 1))

/-- Tables that name experts: every tile's expert is below 32, and at least one tile is in use. -/
structure Named (tb : pre0.Contents (Elt F)) : Prop where
  te_lt : ∀ t, (te tb t).toNat < 32
  nt_pos : 1 ≤ (nt tb).toInt

variable {tb : pre0.Contents (Elt F)}

theorem off1_val (i : grid0.Coords) : k0_off1 i 0 = (i 0).val := by
  have h : (i 0).val < 160 := (i 0).isLt
  show (BitVec.ofNat 32 (i 0).val).toNat = _
  rw [BitVec.toNat_ofNat]; omega

theorem off2_val (i : grid0.Coords) : k0_off2 i 0 = (i 0).val - 1 := by
  have h : (i 0).val < 160 := (i 0).isLt
  have key : ∀ k : Fin 160, (Scalar.indexCast (Scalar.maxsi (Scalar.subi (BitVec.ofNat 32 k.val) 1#32) 0#32) : BitVec 32).toNat = k.val - 1 := by decide +kernel
  exact key ⟨(i 0).val, h⟩

theorem teHere_eq (tb : pre0.Contents (Elt F)) (i : grid0.Coords) : teHere (tb 0) i = te tb ⟨(i 0).val, (i 0).isLt⟩ := by
  show tb 0 _ = tb 0 _
  congr 1
  funext a
  apply Fin.ext
  match a with
  | ⟨0, _⟩ => show k0_off1 i 0 + 1 * 0 = (i 0).val; rw [off1_val]; rfl

theorem tePrev_eq (tb : pre0.Contents (Elt F)) (i : grid0.Coords) :
    tePrev (tb 0) i = te tb ⟨(i 0).val - 1, lt_of_le_of_lt (Nat.sub_le _ _) (i 0).isLt⟩ := by
  show tb 0 _ = tb 0 _
  congr 1
  funext a
  apply Fin.ext
  match a with
  | ⟨0, _⟩ => show k0_off2 i 0 + 1 * 0 = (i 0).val - 1; rw [off2_val]; rfl

theorem ntHere_eq (tb : pre0.Contents (Elt F)) : ntHere (tb 1) = nt tb := by
  show tb 1 _ = tb 1 _
  congr 1
  funext a
  apply Fin.ext
  match a with
  | ⟨0, _⟩ => rfl

theorem toInt_small {k : ℕ} (h : k < 160) : (BitVec.ofNat 32 k).toInt = k := by
  rw [BitVec.toInt_ofNat', Int.bmod_def]; split <;> omega

/-- A comparison's bit, widened and tested, is the comparison. -/
theorem bit_iff (b : Bool) : Scalar.cmpi .ne (Scalar.extui (BitVec.ofBool b) : BitVec 32) 0#32 = 1#1 ↔ b = true := by
  cases b <;> decide

theorem cond2_iff (i : grid0.Coords) (n : BitVec 32) : k0_cond2 i n = 1#1 ↔ ((i 0).val : ℤ) < n.toInt := by
  have h : (i 0).val < 160 := (i 0).isLt
  unfold k0_cond2
  refine (bit_iff ((BitVec.ofNat 32 (i 0).val).slt n)).trans ?_
  rw [BitVec.slt_iff_toInt_lt, toInt_small h]

theorem cond3_iff (i : grid0.Coords) (n : BitVec 32) : k0_cond3 i n = 1#1 ↔ ¬ ((i 0).val : ℤ) < n.toInt := by
  have h : (i 0).val < 160 := (i 0).isLt
  unfold k0_cond3
  refine (bit_iff (n.sle (BitVec.ofNat 32 (i 0).val))).trans ?_
  rw [BitVec.sle_iff_toInt_le, toInt_small h, not_lt]

theorem cond1_iff (i : grid0.Coords) (a b n : BitVec 32) :
    cond1 i a b n = 1#1 ↔ ((i 0).val = 0 ∨ a ≠ b) ∧ ((i 0).val : ℤ) < n.toInt := by
  have h : (i 0).val < 160 := (i 0).isLt
  have e : Scalar.andi (Scalar.ori (Scalar.cmpi .eq (BitVec.ofNat 32 (i 0).val) 0#32) (Scalar.cmpi .ne a b)) (Scalar.cmpi .slt (BitVec.ofNat 32 (i 0).val) n)
      = BitVec.ofBool (((BitVec.ofNat 32 (i 0).val == 0#32) || (a != b)) && (BitVec.ofNat 32 (i 0).val).slt n) := by
    show (BitVec.ofBool (BitVec.ofNat 32 (i 0).val == 0#32) ||| BitVec.ofBool (a != b)) &&& BitVec.ofBool ((BitVec.ofNat 32 (i 0).val).slt n) = _
    cases (BitVec.ofNat 32 (i 0).val == 0#32) <;> cases (a != b) <;> cases (BitVec.ofNat 32 (i 0).val).slt n <;> rfl
  have z : BitVec.ofNat 32 (i 0).val = 0#32 ↔ (i 0).val = 0 := by
    rw [← BitVec.toNat_inj, BitVec.toNat_ofNat]
    show (i 0).val % 2 ^ 32 = 0 ↔ _
    omega
  unfold cond1
  rw [e, bit_iff, Bool.and_eq_true, Bool.or_eq_true, beq_iff_eq, bne_iff_ne, BitVec.slt_iff_toInt_lt, toInt_small h, z]

/-- The word the index maps of the weights read. -/
theorem at_te (tb : pre0.Contents (Elt F)) (i : grid0.Coords) (h) :
    tb.at 0 (Rect.unit (s := S160) (k0_off1 i) S1.size h) numel1_S1 = te tb ⟨(i 0).val, (i 0).isLt⟩ := teHere_eq tb i

theorem at_nt (tb : pre0.Contents (Elt F)) : tb.at 1 (Rect.unit (s := S1) ![0] S1.size inb_S1_S1_0) numel1_S1 = nt tb := ntHere_eq tb

theorem atD_nt (tb : pre0.Contents (Elt F)) : tb.atD 1 ![0] = nt tb := by
  have h : ∀ a, (![0] : Fin 1 → ℕ) a + 1 ≤ S1.size a := by decide
  refine (dif_pos h).trans ?_
  show tb 1 _ = tb 1 _
  congr 1
  funext a
  apply Fin.ext
  match a with
  | ⟨0, _⟩ => rfl

theorem ofNat_te (hn : Named tb) (t : Fin 160) : ∃ k : Fin 32, te tb t = BitVec.ofNat 32 k.val :=
  ⟨⟨_, hn.te_lt t⟩, (BitVec.ofNat_toNat _ _).trans (BitVec.setWidth_eq _) |>.symm⟩

/-- The blocks of the three weights: an expert's group and its place in the group. -/
theorem transform1_eq (hn : Named tb) (i : grid0.Coords) : cc0_transform_1 k0_off1_inb numel1_S1 tb i
    = ![(te tb ⟨(i 0).val, (i 0).isLt⟩).toNat / 8, (te tb ⟨(i 0).val, (i 0).isLt⟩).toNat % 8, 0, 0] := by
  obtain ⟨k, hk⟩ := ofNat_te hn ⟨(i 0).val, (i 0).isLt⟩
  have h1 := (at_te tb i (k0_off1_inb i)).trans hk
  unfold cc0_transform_1
  rw [hk]
  change tb.at 0 (Rect.unit (s := S160) ![(Scalar.indexCast (BitVec.ofNat 32 (i 0).val) : BitVec 32).toNat] S1.size (k0_off1_inb i)) numel1_S1 = BitVec.ofNat 32 k.val at h1
  simp only [h1]
  clear h1 hk
  revert k
  decide +kernel

theorem transform2_eq (hn : Named tb) (i : grid0.Coords) : cc0_transform_2 k0_off1_inb numel1_S1 tb i
    = ![(te tb ⟨(i 0).val, (i 0).isLt⟩).toNat / 8, (te tb ⟨(i 0).val, (i 0).isLt⟩).toNat % 8, 0, 0] := transform1_eq hn i

theorem transform3_eq (hn : Named tb) (i : grid0.Coords) : cc0_transform_3 k0_off1_inb numel1_S1 tb i
    = ![(te tb ⟨(i 0).val, (i 0).isLt⟩).toNat / 8, (te tb ⟨(i 0).val, (i 0).isLt⟩).toNat % 8, 0, 0] := transform1_eq hn i

theorem toInt_pred {n : BitVec 32} (h : 1 ≤ n.toInt) : (n - 1#32).toInt = n.toInt - 1 := by
  rw [BitVec.toInt_sub, Int.bmod_def]
  have h1 : (1#32 : BitVec 32).toInt = 1 := by decide
  have h2 := BitVec.toInt_lt (x := n)
  have h3 : (n.toInt - 1) % ((2 ^ 32 : ℕ) : ℤ) = n.toInt - 1 := Int.emod_eq_of_lt (by omega) (by omega)
  rw [h1, h3, if_pos (by omega)]

/-- The block of rows: the tile's own while it is in use, and the last one in use from there on. -/
theorem transform0_row (hn : Named tb) (i : grid0.Coords) :
    cc0_transform_0 inb_S1_S1_0 numel1_S1 tb i 0 = if ((i 0).val : ℤ) < (nt tb).toInt then (i 0).val else ((nt tb).toInt - 1).toNat := by
  have h : (i 0).val < 160 := (i 0).isLt
  have hp := hn.nt_pos
  have e : cc0_transform_0 inb_S1_S1_0 numel1_S1 tb i 0 = (if (BitVec.ofNat 32 (i 0).val).slt (nt tb - 1#32) then BitVec.ofNat 32 (i 0).val else nt tb - 1#32).toNat := by
    rw [← at_nt]; rfl
  have hq := toInt_pred hp
  have hx : (nt tb - 1#32).toNat = ((nt tb).toInt - 1).toNat := by
    rw [BitVec.toInt_eq_toNat_cond] at hq
    split at hq <;> omega
  rw [e]
  by_cases hc : (BitVec.ofNat 32 (i 0).val).slt (nt tb - 1#32) = true
  · have hc' := BitVec.slt_iff_toInt_lt.mp hc
    rw [toInt_small h, hq] at hc'
    rw [if_pos hc, if_pos (by omega), BitVec.toNat_ofNat]; omega
  · have hc' := mt BitVec.slt_iff_toInt_lt.mpr hc
    rw [toInt_small h, hq] at hc'
    rw [if_neg hc, hx]
    split <;> omega

theorem transform0_col (tb : pre0.Contents (Elt F)) (i : grid0.Coords) : cc0_transform_0 inb_S1_S1_0 numel1_S1 tb i 1 = 0 := rfl

/-- With such tables every block a window takes lies in its array. -/
theorem ok_of_named (hn : Named tb) : ok0 tb := by
  have hw (t : Fin 160) (A : Fin 4 → ℕ) (h : A = ![(te tb t).toNat / 8, (te tb t).toNat % 8, 0, 0]) :
      A 0 < 4 ∧ A 1 < 8 ∧ A 2 = 0 ∧ A 3 = 0 := by
    have := hn.te_lt t
    subst h
    refine ⟨?_, ?_, rfl, rfl⟩
    · show (te tb t).toNat / 8 < 4; omega
    · show (te tb t).toNat % 8 < 8; omega
  refine ⟨fun i => ⟨fun a => ?_, .inl rfl⟩, fun i => ⟨fun a => ?_, .inl rfl⟩, fun i => ⟨fun a => ?_, .inl rfl⟩, fun i => ⟨fun a => ?_, .inl rfl⟩⟩
  · have h : (i 0).val < 160 := (i 0).isLt
    match a with
    | ⟨0, _⟩ =>
      show (cc0_transform_0 inb_S1_S1_0 numel1_S1 tb i 0 + 1) * 256 ≤ 40960
      rw [transform0_row hn]; split <;> omega
    | ⟨1, _⟩ => show (0 + 1) * 2048 ≤ 2048; omega
  · obtain ⟨h0, h1, h2, h3⟩ := hw _ _ (transform1_eq hn i)
    match a with
    | ⟨0, _⟩ => show (cc0_transform_1 k0_off1_inb numel1_S1 tb i 0 + 1) * 1 ≤ 4; omega
    | ⟨1, _⟩ => show (cc0_transform_1 k0_off1_inb numel1_S1 tb i 1 + 1) * 1 ≤ 8; omega
    | ⟨2, _⟩ => show (cc0_transform_1 k0_off1_inb numel1_S1 tb i 2 + 1) * 2048 ≤ 2048; omega
    | ⟨3, _⟩ => show (cc0_transform_1 k0_off1_inb numel1_S1 tb i 3 + 1) * 512 ≤ 512; omega
  · obtain ⟨h0, h1, h2, h3⟩ := hw _ _ (transform2_eq hn i)
    match a with
    | ⟨0, _⟩ => show (cc0_transform_2 k0_off1_inb numel1_S1 tb i 0 + 1) * 1 ≤ 4; omega
    | ⟨1, _⟩ => show (cc0_transform_2 k0_off1_inb numel1_S1 tb i 1 + 1) * 1 ≤ 8; omega
    | ⟨2, _⟩ => show (cc0_transform_2 k0_off1_inb numel1_S1 tb i 2 + 1) * 2048 ≤ 2048; omega
    | ⟨3, _⟩ => show (cc0_transform_2 k0_off1_inb numel1_S1 tb i 3 + 1) * 512 ≤ 512; omega
  · obtain ⟨h0, h1, h2, h3⟩ := hw _ _ (transform3_eq hn i)
    match a with
    | ⟨0, _⟩ => show (cc0_transform_3 k0_off1_inb numel1_S1 tb i 0 + 1) * 1 ≤ 4; omega
    | ⟨1, _⟩ => show (cc0_transform_3 k0_off1_inb numel1_S1 tb i 1 + 1) * 1 ≤ 8; omega
    | ⟨2, _⟩ => show (cc0_transform_3 k0_off1_inb numel1_S1 tb i 2 + 1) * 512 ≤ 512; omega
    | ⟨3, _⟩ => show (cc0_transform_3 k0_off1_inb numel1_S1 tb i 3 + 1) * 2048 ≤ 2048; omega

end Cert.MoeIdeal.Grp
-- ==== Proof.MoeLaunch.lean ====
/-
  The grouped expert product over its whole grid, for any tables that name experts: the blocks each tile takes and leaves,
  the weights kept from tile to tile, and the state every run ends in.
-/
module

public import proofs.«01_k».proof.Defs
public import proofs.«01_k».proof.Proof.MoeTables
public import proofs.«01_k».proof.Proof.Gen.MoeIdeal.Launch
public import proofs.«01_k».proof.Proof.Gen.MoeIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Writes
public import Idealize.ShloMosaic.Lib.ValueIdx
public import Idealize.ShloMosaic.Lib.Pipeline.Quiescent
public import Idealize.ShloMosaic.Lib.Claim
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.MoeIdeal.Grp

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds
open Idealize.ShloMosaic.Pipeline (Dat Cfg Window BodyObligation BodyObligationLoose cellOf)

variable {F : FTy → Type} [FloatOps F]

/-- The resource the triples are stated in. -/
local notation "𝕄" => MT nD τ sig Unit (Elt F) ℕ (UR sig nD τ) ℕ

variable {tb : pre0.Contents (Elt F)} (hn : Named tb)
variable (m : (ℓ : Loc nD τ sig) → Buf (Elt F) ℓ) (ρ : Dev nD → PrngReg)

/-- The pipeline at tables that name experts. -/
abbrev tbl : (pcfg0 (F := F)).Adm := ⟨tb, ok_of_named hn⟩
abbrev cfgT : Pipeline.Cfg sig Λ₀ := cfg0 (F := F) (tbl hn)
abbrev pipes : Fin 1 → Pipeline.Cfg sig Λ₀ := Pipeline.pin (pcfgs (F := F)) fun _ => tbl hn

/-- A point's coordinates. -/
abbrev pt (t : Fin (cfgT hn).N) : (cfgT hn).grid.Coords := (cfgT hn).grid.coords t

theorem coord_val : ∀ t : Fin grid0.N, (grid0.coords t 0).val = t.val := by decide +kernel

theorem pt_val (t : Fin (cfgT hn).N) : (pt hn t 0).val = t.val := coord_val t

theorem lt_N (t : Fin (cfgT hn).N) : t.val < 160 := lt_of_lt_of_eq t.isLt (show (cfgT hn).N = 160 from N_0)

/-- A point's number among the tiles. -/
abbrev tile (t : Fin (cfgT hn).N) : Fin 160 := ⟨t.val, lt_N hn t⟩

/-- The tile is in use. -/
abbrev Live (tb : pre0.Contents (Elt F)) (n : ℕ) : Prop := (n : ℤ) < (nt tb).toInt

/-- The staging buffers at a point. -/
abbrev st0 (t : Fin (cfgT hn).N) : Memref sig .tc .vmem S256x2048 .f32 := spec0_0.stage ((cfgT hn).slots t (0 : Fin 5))
abbrev st1 (t : Fin (cfgT hn).N) : Memref sig .tc .vmem S1x1x2048x512 .f32 := spec0_1.stage ((cfgT hn).slots t (1 : Fin 5))
abbrev st2 (t : Fin (cfgT hn).N) : Memref sig .tc .vmem S1x1x2048x512 .f32 := spec0_2.stage ((cfgT hn).slots t (2 : Fin 5))
abbrev st3 (t : Fin (cfgT hn).N) : Memref sig .tc .vmem S1x1x512x2048 .f32 := spec0_3.stage ((cfgT hn).slots t (3 : Fin 5))
abbrev st4 (t : Fin (cfgT hn).N) : Memref sig .tc .vmem S256x2048 .f32 := spec0_4.stage ((cfgT hn).slots t (4 : Fin 5))
theorem whole0 (t : Fin (cfgT hn).N) : (st0 hn t).IsWhole := hstage0_0 (((cfgT hn).slots t (0 : Fin 5)).cast nbuf0_0)
theorem whole1 (t : Fin (cfgT hn).N) : (st1 hn t).IsWhole := hstage0_1 (((cfgT hn).slots t (1 : Fin 5)).cast nbuf0_1)
theorem whole2 (t : Fin (cfgT hn).N) : (st2 hn t).IsWhole := hstage0_2 (((cfgT hn).slots t (2 : Fin 5)).cast nbuf0_2)
theorem whole3 (t : Fin (cfgT hn).N) : (st3 hn t).IsWhole := hstage0_3 (((cfgT hn).slots t (3 : Fin 5)).cast nbuf0_3)
theorem whole4 (t : Fin (cfgT hn).N) : (st4 hn t).IsWhole := hstage0_4 (((cfgT hn).slots t (4 : Fin 5)).cast nbuf0_4)

/-! ## The blocks -/

/-- Window `w`'s block at a point, of the array the run starts from. -/
def blkAt (c : Dev nD) (w : Fin (cfgT hn).W) (t : Fin (cfgT hn).N) : (((cfgT hn).win w).xblock (pt hn t)).Idx → Elt F ((cfgT hn).win w).elt :=
  (((cfgT hn).win w).blk t).view.read (Elt F) ((s₀ m ρ).mem (((cfgT hn).win w).arr.view.loc (c : Thread nD τ)))

abbrev rowsAt (c : Dev nD) (t : Fin (cfgT hn).N) : Vec F S256x2048 .f32 := blkAt hn m ρ c (0 : Fin 5) t
abbrev gateAt (c : Dev nD) (t : Fin (cfgT hn).N) : Vec F S1x1x2048x512 .f32 := blkAt hn m ρ c (1 : Fin 5) t
abbrev upAt (c : Dev nD) (t : Fin (cfgT hn).N) : Vec F S1x1x2048x512 .f32 := blkAt hn m ρ c (2 : Fin 5) t
abbrev downAt (c : Dev nD) (t : Fin (cfgT hn).N) : Vec F S1x1x512x2048 .f32 := blkAt hn m ρ c (3 : Fin 5) t

/-- The expert's group and its place there. -/
abbrev grp (t : Fin 160) : Fin 4 := ⟨(te tb t).toNat / 8, by have := hn.te_lt t; omega⟩
abbrev mem (t : Fin 160) : Fin 8 := ⟨(te tb t).toNat % 8, by omega⟩

theorem rowsAt_apply (c : Dev nD) (t : Fin (cfgT hn).N) (hl : Live tb t.val) (p : Fin 256) (k : Fin 2048) :
    rowsAt hn m ρ c t (ix2 p k) = m ((c : Thread nD τ).loc main_arg2) (ix2 ⟨256 * t.val + p.val, by have := lt_N hn t; omega⟩ k : S40960x2048.Idx) := by
  unfold rowsAt blkAt
  rw [View.read_apply]
  show m ((c : Thread nD τ).loc main_arg2) _ = _
  congr 1
  funext a
  apply Fin.ext
  have h0 : cc0_transform_0 inb_S1_S1_0 numel1_S1 tb (pt hn t) 0 = t.val := by
    rw [transform0_row hn, pt_val hn t, if_pos hl]
  match a with
  | ⟨0, _⟩ => show cc0_transform_0 inb_S1_S1_0 numel1_S1 tb (pt hn t) 0 * 256 + 1 * p.val = 256 * t.val + p.val; omega
  | ⟨1, _⟩ => show 0 * 2048 + 1 * k.val = k.val; omega

theorem gateAt_eq (c : Dev nD) (t : Fin (cfgT hn).N) :
    gateAt hn m ρ c t = fun j => m ((c : Thread nD τ).loc main_arg3) (ix4 (grp hn (tile hn t)) (mem (tb := tb) (tile hn t)) (j 2) (j 3) : S4x8x2048x512.Idx) := by
  funext j
  unfold gateAt blkAt
  rw [View.read_apply]
  show m ((c : Thread nD τ).loc main_arg3) _ = _
  congr 1
  funext a
  apply Fin.ext
  have e := transform1_eq hn (pt hn t)
  have ht : (⟨(pt hn t 0).val, (pt hn t 0).isLt⟩ : Fin 160) = tile hn t := Fin.ext (pt_val hn t)
  rw [ht] at e
  have j0 : (j 0).val < 1 := (j 0).isLt
  have j1 : (j 1).val < 1 := (j 1).isLt
  match a with
  | ⟨0, _⟩ => show cc0_transform_1 k0_off1_inb numel1_S1 tb (pt hn t) 0 * 1 + 1 * (j 0).val = (te tb (tile hn t)).toNat / 8; rw [e]; show (te tb (tile hn t)).toNat / 8 * 1 + 1 * (j 0).val = _; omega
  | ⟨1, _⟩ => show cc0_transform_1 k0_off1_inb numel1_S1 tb (pt hn t) 1 * 1 + 1 * (j 1).val = (te tb (tile hn t)).toNat % 8; rw [e]; show (te tb (tile hn t)).toNat % 8 * 1 + 1 * (j 1).val = _; omega
  | ⟨2, _⟩ => show 0 * 2048 + 1 * (j 2).val = (j 2).val; omega
  | ⟨3, _⟩ => show 0 * 512 + 1 * (j 3).val = (j 3).val; omega

theorem upAt_eq (c : Dev nD) (t : Fin (cfgT hn).N) :
    upAt hn m ρ c t = fun j => m ((c : Thread nD τ).loc main_arg4) (ix4 (grp hn (tile hn t)) (mem (tb := tb) (tile hn t)) (j 2) (j 3) : S4x8x2048x512.Idx) := by
  funext j
  unfold upAt blkAt
  rw [View.read_apply]
  show m ((c : Thread nD τ).loc main_arg4) _ = _
  congr 1
  funext a
  apply Fin.ext
  have e := transform2_eq hn (pt hn t)
  have ht : (⟨(pt hn t 0).val, (pt hn t 0).isLt⟩ : Fin 160) = tile hn t := Fin.ext (pt_val hn t)
  rw [ht] at e
  have j0 : (j 0).val < 1 := (j 0).isLt
  have j1 : (j 1).val < 1 := (j 1).isLt
  match a with
  | ⟨0, _⟩ => show cc0_transform_2 k0_off1_inb numel1_S1 tb (pt hn t) 0 * 1 + 1 * (j 0).val = (te tb (tile hn t)).toNat / 8; rw [e]; show (te tb (tile hn t)).toNat / 8 * 1 + 1 * (j 0).val = _; omega
  | ⟨1, _⟩ => show cc0_transform_2 k0_off1_inb numel1_S1 tb (pt hn t) 1 * 1 + 1 * (j 1).val = (te tb (tile hn t)).toNat % 8; rw [e]; show (te tb (tile hn t)).toNat % 8 * 1 + 1 * (j 1).val = _; omega
  | ⟨2, _⟩ => show 0 * 2048 + 1 * (j 2).val = (j 2).val; omega
  | ⟨3, _⟩ => show 0 * 512 + 1 * (j 3).val = (j 3).val; omega

theorem downAt_eq (c : Dev nD) (t : Fin (cfgT hn).N) :
    downAt hn m ρ c t = fun j => m ((c : Thread nD τ).loc main_arg5) (ix4 (grp hn (tile hn t)) (mem (tb := tb) (tile hn t)) (j 2) (j 3) : S4x8x512x2048.Idx) := by
  funext j
  unfold downAt blkAt
  rw [View.read_apply]
  show m ((c : Thread nD τ).loc main_arg5) _ = _
  congr 1
  funext a
  apply Fin.ext
  have e := transform3_eq hn (pt hn t)
  have ht : (⟨(pt hn t 0).val, (pt hn t 0).isLt⟩ : Fin 160) = tile hn t := Fin.ext (pt_val hn t)
  rw [ht] at e
  have j0 : (j 0).val < 1 := (j 0).isLt
  have j1 : (j 1).val < 1 := (j 1).isLt
  match a with
  | ⟨0, _⟩ => show cc0_transform_3 k0_off1_inb numel1_S1 tb (pt hn t) 0 * 1 + 1 * (j 0).val = (te tb (tile hn t)).toNat / 8; rw [e]; show (te tb (tile hn t)).toNat / 8 * 1 + 1 * (j 0).val = _; omega
  | ⟨1, _⟩ => show cc0_transform_3 k0_off1_inb numel1_S1 tb (pt hn t) 1 * 1 + 1 * (j 1).val = (te tb (tile hn t)).toNat % 8; rw [e]; show (te tb (tile hn t)).toNat % 8 * 1 + 1 * (j 1).val = _; omega
  | ⟨2, _⟩ => show 0 * 512 + 1 * (j 2).val = (j 2).val; omega
  | ⟨3, _⟩ => show 0 * 2048 + 1 * (j 3).val = (j 3).val; omega

/-- Tiles of one expert take the same weights. -/
theorem same_weights (c : Dev nD) (t s : Fin (cfgT hn).N) (h : te tb (tile hn t) = te tb (tile hn s)) :
    gateAt hn m ρ c t = gateAt hn m ρ c s ∧ upAt hn m ρ c t = upAt hn m ρ c s ∧ downAt hn m ρ c t = downAt hn m ρ c s := by
  have hg : grp hn (tile hn t) = grp hn (tile hn s) := Fin.ext (by show (te tb (tile hn t)).toNat / 8 = _; rw [h])
  have hm : mem (tb := tb) (tile hn t) = mem (tb := tb) (tile hn s) := Fin.ext (by show (te tb (tile hn t)).toNat % 8 = _; rw [h])
  refine ⟨?_, ?_, ?_⟩
  · rw [gateAt_eq hn m ρ c t, gateAt_eq hn m ρ c s, hg, hm]
  · rw [upAt_eq hn m ρ c t, upAt_eq hn m ρ c s, hg, hm]
  · rw [downAt_eq hn m ρ c t, downAt_eq hn m ρ c s, hg, hm]

/-- The block a tile leaves: its rows through its expert, and zeros where it is not in use. -/
def outAt (c : Dev nD) (t : Fin (cfgT hn).N) : Vec F S256x2048 .f32 :=
  if Live tb t.val then tileOut (rowsAt hn m ρ c t) (k0_pay1 (gateAt hn m ρ c t)) (k0_pay2 (upAt hn m ρ c t)) (k0_pay3 (downAt hn m ρ c t))
  else k0_pay5 (F := F)

/-- What the kept weights are after a tile in use: its expert's. -/
abbrev Holds (c : Dev nD) (t : Fin (cfgT hn).N) (a : Vec F S2048x512 .bf16) (b : Vec F S2048x512 .bf16) (d : Vec F S512x2048 .bf16) : Prop :=
  Live tb t.val → a = k0_pay1 (gateAt hn m ρ c t) ∧ b = k0_pay2 (upAt hn m ρ c t) ∧ d = k0_pay3 (downAt hn m ρ c t)

/-! ## One point -/

theorem Runs.weaken {c : Dev nD} {i : grid0.Coords} {a3 h3 a4 h4 a5 h5 a6 h6 a7 h7 T0 T1 x0 x1 x2 x3} {o o' : Vec F S256x2048 .f32}
    {R R' : Vec F S2048x512 .bf16 → Vec F S2048x512 .bf16 → Vec F S512x2048 .bf16 → Prop} {xa0 xa1 xa2}
    (h : Runs c i a3 h3 a4 h4 a5 h5 a6 h6 a7 h7 T0 T1 x0 x1 x2 x3 o R xa0 xa1 xa2) (ho : o = o') (hR : ∀ a b d, R a b d → R' a b d) :
    Runs c i a3 h3 a4 h4 a5 h5 a6 h6 a7 h7 T0 T1 x0 x1 x2 x3 o' R' xa0 xa1 xa2 := by
  subst ho
  intro K
  iintro ⟨HI, HO, HS, HK⟩
  iapply h K
  isplitl [HI]; · iexact HI
  isplitl [HO]; · iexact HO
  isplitl [HS]; · iexact HS
  iintro ⟨HI, HO, ⟨%y0, %y1, %y2, %hy, HS⟩⟩
  iapply HK
  isplitl [HI]; · iexact HI
  isplitl [HO]; · iexact HO
  iexists y0, y1, y2
  isplitr
  · ipureintro; exact hR _ _ _ hy
  iexact HS

/-- The body at any point, from kept weights the tile before it left. -/
theorem runs_at (c : Dev nD) (t : Fin (cfgT hn).N) (xa0 xa1 xa2)
    (hk : ∀ s : Fin (cfgT hn).N, s.val + 1 = t.val → Holds hn m ρ c s (wgM.view.read (Elt F) xa0) (wuM.view.read (Elt F) xa1) (wdM.view.read (Elt F) xa2)) :
    Runs c (pt hn t) (st0 hn t) (whole0 hn t) (st1 hn t) (whole1 hn t) (st2 hn t) (whole2 hn t) (st3 hn t) (whole3 hn t) (st4 hn t) (whole4 hn t)
      (tb 0) (tb 1) (rowsAt hn m ρ c t) (gateAt hn m ρ c t) (upAt hn m ρ c t) (downAt hn m ρ c t) (outAt hn m ρ c t) (Holds hn m ρ c t) xa0 xa1 xa2 := by
  have hv := pt_val hn t
  by_cases hl : Live tb t.val
  · have hl' : ((pt hn t 0).val : ℤ) < (ntHere (tb 1)).toInt := by rw [ntHere_eq, hv]; exact hl
    have c2 := (cond2_iff (pt hn t) (ntHere (tb 1))).mpr hl'
    have c3 := fun h => (cond3_iff (pt hn t) (ntHere (tb 1))).mp h hl'
    by_cases h1 : cond1 (pt hn t) (teHere (tb 0) (pt hn t)) (tePrev (tb 0) (pt hn t)) (ntHere (tb 1)) = 1#1
    · exact (run_fresh c (pt hn t) _ _ _ _ _ _ _ _ _ _ _ _ _ _ _ _ h1 c2 c3 xa0 xa1 xa2).weaken (by unfold outAt; rw [if_pos hl]) (fun _ _ _ h _ => h)
    · have hx : ¬((pt hn t 0).val = 0 ∨ teHere (tb 0) (pt hn t) ≠ tePrev (tb 0) (pt hn t)) := fun h => h1 ((cond1_iff _ _ _ _).mpr ⟨h, hl'⟩)
      rw [not_or, not_not, hv] at hx
      obtain ⟨h0, he⟩ := hx
      rw [teHere_eq, tePrev_eq] at he
      let s : Fin (cfgT hn).N := ⟨t.val - 1, lt_of_le_of_lt (Nat.sub_le _ _) t.isLt⟩
      have hs : s.val + 1 = t.val := by show t.val - 1 + 1 = t.val; omega
      have hw : te tb (tile hn t) = te tb (tile hn s) := by
        have e1 : (⟨(pt hn t 0).val, (pt hn t 0).isLt⟩ : Fin 160) = tile hn t := Fin.ext hv
        have e2 : (⟨(pt hn t 0).val - 1, lt_of_le_of_lt (Nat.sub_le _ _) (pt hn t 0).isLt⟩ : Fin 160) = tile hn s := Fin.ext (by show (pt hn t 0).val - 1 = t.val - 1; rw [hv])
        rw [← e1, ← e2]; exact he
      obtain ⟨w1, w2, w3⟩ := same_weights hn m ρ c t s hw
      have hls : Live tb s.val := by show ((t.val - 1 : ℕ) : ℤ) < _; have := hl; unfold Live at this; omega
      obtain ⟨k1, k2, k3⟩ := hk s hs hls
      rw [← w1] at k1; rw [← w2] at k2; rw [← w3] at k3
      exact (run_same c (pt hn t) _ _ _ _ _ _ _ _ _ _ _ _ _ _ _ _ h1 c2 c3 xa0 xa1 xa2).weaken
        (by unfold outAt; rw [if_pos hl, k1, k2, k3]) (fun _ _ _ h _ => ⟨h.1.trans k1, h.2.1.trans k2, h.2.2.trans k3⟩)
  · have hl' : ¬ ((pt hn t 0).val : ℤ) < (ntHere (tb 1)).toInt := by rw [ntHere_eq, hv]; exact hl
    exact (run_unused c (pt hn t) _ _ _ _ _ _ _ _ _ _ _ _ _ _ _ _ (fun h => hl' ((cond1_iff _ _ _ _).mp h).2)
      (fun h => hl' ((cond2_iff _ _).mp h)) ((cond3_iff _ _).mpr hl') xa0 xa1 xa2).weaken (by unfold outAt; rw [if_neg hl]) (fun _ _ _ _ h => absurd h hl)

/-! ## The schedule of the result's window -/

theorem index4 (t : Fin (cfgT hn).N) : ((cfgT hn).win (4 : Fin 5)).index t 0 = t.val := by
  show (BitVec.ofNat 32 (pt hn t 0).val).toNat = _
  have := lt_N hn t
  rw [pt_val, BitVec.toNat_ofNat]; omega

theorem flush4 (t : Fin (cfgT hn).N) : ((cfgT hn).win (4 : Fin 5)).flush t = true := by
  unfold Window.flush
  rw [Bool.and_eq_true, Bool.or_eq_true, decide_eq_true_eq, decide_eq_true_eq]
  refine ⟨rfl, ?_⟩
  by_cases h : t.val + 1 = (cfgT hn).grid.N
  · exact .inl h
  · refine .inr ⟨lt_of_le_of_ne t.isLt h, fun he => ?_⟩
    have e := congrFun he 0
    rw [index4, index4] at e
    exact absurd e (Nat.succ_ne_self _)

theorem idle4 (t : Fin (cfgT hn).N) : (cfgT hn).idle (4 : Fin 5) ((cfgT hn).grid.coords t) = false := by
  show (!(k0_cond2 (pt hn t) (tb.atD 1 ![0]) == 1#1) && !(k0_cond3 (pt hn t) (tb.atD 1 ![0]) == 1#1)) = false
  by_cases h : ((pt hn t 0).val : ℤ) < (tb.atD 1 ![0] : BitVec 32).toInt
  · rw [(cond2_iff _ _).mpr h]; rfl
  · rw [(cond3_iff _ _).mpr h, Bool.and_comm]; rfl

theorem fresh4 (t : Fin (cfgT hn).N) : (cfgT hn).fresh (4 : Fin 5) t.val = true :=
  Pipeline.Cfg.fresh_tab (cfgT hn) (4 : Fin 5) (fun _ => true) rfl (fun t => by rw [flush4]; rfl) t.val (Nat.le_of_lt t.isLt)

/-! ## The pipeline's data -/

/-- Before a point: the weights the tile before it left, and the tables. -/
def Kpt (c : Dev nD) (n : ℕ) : sProp 𝕄 :=
  iprop((∃ y0 y1 y2, ⌜∀ s : Fin (cfgT hn).N, s.val + 1 = n → Holds hn m ρ c s (wgM.view.read (Elt F) y0) (wuM.view.read (Elt F) y1) (wdM.view.read (Elt F) y2)⌝ ∗ Kept c y0 y1 y2)
    ∗ (teM.view.loc (c : Thread nD τ) ↦{fullShare.right} tb 0) ∗ (ntM.view.loc (c : Thread nD τ) ↦{fullShare.right} tb 1))

/-- The data of the one pipeline. -/
def dat (_ : Fin 1) (c : Dev nD) : Dat τ (Elt F) Unit ℕ (UR sig nD τ) ℕ (cfgT hn) c where
  A w := (s₀ m ρ).mem (((cfgT hn).win w).arr.view.loc (c : Thread nD τ))
  after w t := match w with
    | ⟨0, _⟩ => blkAt hn m ρ c (0 : Fin 5) t
    | ⟨1, _⟩ => blkAt hn m ρ c (1 : Fin 5) t
    | ⟨2, _⟩ => blkAt hn m ρ c (2 : Fin 5) t
    | ⟨3, _⟩ => blkAt hn m ρ c (3 : Fin 5) t
    | ⟨4, _⟩ => outAt hn m ρ c t
  Φ t := Kpt hn m ρ c t.val
  q _ := fullShare
  owed _ := 0

theorem after0 (c : Dev nD) (t : Fin (cfgT hn).N) : (dat hn m ρ 0 c).after (0 : Fin 5) t = blkAt hn m ρ c (0 : Fin 5) t := rfl
theorem after1 (c : Dev nD) (t : Fin (cfgT hn).N) : (dat hn m ρ 0 c).after (1 : Fin 5) t = blkAt hn m ρ c (1 : Fin 5) t := rfl
theorem after2 (c : Dev nD) (t : Fin (cfgT hn).N) : (dat hn m ρ 0 c).after (2 : Fin 5) t = blkAt hn m ρ c (2 : Fin 5) t := rfl
theorem after3 (c : Dev nD) (t : Fin (cfgT hn).N) : (dat hn m ρ 0 c).after (3 : Fin 5) t = blkAt hn m ρ c (3 : Fin 5) t := rfl
theorem after4 (c : Dev nD) (t : Fin (cfgT hn).N) : (dat hn m ρ 0 c).after (4 : Fin 5) t = outAt hn m ρ c t := rfl

theorem before0 (c : Dev nD) (t : Fin (cfgT hn).N) (d) : (dat hn m ρ 0 c).before (0 : Fin 5) t d = blkAt hn m ρ c (0 : Fin 5) t :=
  ((dat hn m ρ 0 c).before_in_eq_fetched (0 : Fin 5) rfl (fun _ => rfl) (fun _ _ _ => rfl) (fun t => by rw [after0]; unfold Dat.blockOf blkAt; rfl) t d).trans
    (by unfold Dat.fetched Dat.blockOf blkAt; rfl)
theorem before1 (c : Dev nD) (t : Fin (cfgT hn).N) (d) : (dat hn m ρ 0 c).before (1 : Fin 5) t d = blkAt hn m ρ c (1 : Fin 5) t :=
  ((dat hn m ρ 0 c).before_in_eq_fetched (1 : Fin 5) rfl (fun _ => rfl) (fun _ _ _ => rfl) (fun t => by rw [after1]; unfold Dat.blockOf blkAt; rfl) t d).trans
    (by unfold Dat.fetched Dat.blockOf blkAt; rfl)
theorem before2 (c : Dev nD) (t : Fin (cfgT hn).N) (d) : (dat hn m ρ 0 c).before (2 : Fin 5) t d = blkAt hn m ρ c (2 : Fin 5) t :=
  ((dat hn m ρ 0 c).before_in_eq_fetched (2 : Fin 5) rfl (fun _ => rfl) (fun _ _ _ => rfl) (fun t => by rw [after2]; unfold Dat.blockOf blkAt; rfl) t d).trans
    (by unfold Dat.fetched Dat.blockOf blkAt; rfl)
theorem before3 (c : Dev nD) (t : Fin (cfgT hn).N) (d) : (dat hn m ρ 0 c).before (3 : Fin 5) t d = blkAt hn m ρ c (3 : Fin 5) t :=
  ((dat hn m ρ 0 c).before_in_eq_fetched (3 : Fin 5) rfl (fun _ => rfl) (fun _ _ _ => rfl) (fun t => by rw [after3]; unfold Dat.blockOf blkAt; rfl) t d).trans
    (by unfold Dat.fetched Dat.blockOf blkAt; rfl)

set_option maxHeartbeats 4000000 in
/-- The body meets its obligation at every point. -/
theorem body_ok (c : Dev nD) : BodyObligation (dat hn m ρ 0 c) (defs₀ (F := F)) Variants.none () Set.univ := fun t => by
  rw [bigSep_W0, bigSep_W0]
  rewrite [idle4 hn t]
  simp only [before0, before1, before2, before3, after0, after1, after2, after3, after4]
  rewrite [show (dat hn m ρ 0 c).Φ t.succ = Kpt hn m ρ c (t.val + 1) from rfl, show (dat hn m ρ 0 c).Φ t.castSucc = Kpt hn m ρ c t.val from rfl,
    show (dat hn m ρ 0 c).owesAt () t.succ = (dat hn m ρ 0 c).owesAt () t.castSucc from rfl]
  unfold Kpt
  iintro ⟨⟨⟨%y0, %y1, %y2, %hy, HS⟩, HT0, HT1⟩, Ho, ⟨%d0, H0⟩, ⟨%d1, H1⟩, ⟨%d2, H2⟩, ⟨%d3, H3⟩, ⟨%d4, H4⟩⟩
  iapply (runs_at hn m ρ c t y0 y1 y2 hy _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [HS]; · iexact HS
  iintro ⟨⟨H0, H1, H2, H3, HT0, HT1⟩, H4, ⟨%z0, %z1, %z2, %hz, HS⟩⟩
  isplitl [HS HT0 HT1]
  · isplitl [HS]
    · iexists z0, z1, z2
      isplitr
      · ipureintro
        intro s hs
        have e : s = t := Fin.ext (Nat.succ.inj hs)
        rw [e]; exact hz
      iexact HS
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  iexact H4

/-! ## The run -/

/-- What the run starts from. -/
def u₁ : UR sig nD τ :=
  initOf (Pipeline.cells (pipes hn) ((launch0 (F := F)).cellOf_inj fun _ => tbl hn))
    (Pipeline.launchToks (pipes hn) ((launch0 (F := F)).cellOf_inj fun _ => tbl hn))

theorem share_full (c : Dev nD) (w : Fin (cfgT hn).W) : (dat hn m ρ 0 c).share w = fullShare := by
  unfold Dat.share; split <;> rfl

theorem tables_split (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide, bigSep_insert (by decide), bigSep_singleton]
  rfl

theorem enter (c : Dev nD) :
    iprop(BI.emp ∗ Pipeline.prefHeld pre0 c (fun _ => fullShare.right) (tbl hn).1 ∗ Pipeline.scopedRest spec0 c) ⊢ (dat hn m ρ 0 c).Φ 0 := by
  rw [tables_split, scopedRest0_eq, show (dat hn m ρ 0 c).Φ 0 = Kpt hn m ρ c 0 from rfl]
  unfold Kpt
  iintro ⟨-, ⟨HT0, HT1⟩, ⟨%a0, HS0⟩, ⟨%a1, HS1⟩, ⟨%a2, HS2⟩⟩
  isplitl [HS0 HS1 HS2]
  · iexists a0, a1, a2
    isplitr
    · ipureintro; intro s hs; exact absurd hs (Nat.succ_ne_zero _)
    isplitl [HS0]; · iexact HS0
    isplitl [HS1]; · iexact HS1
    iexact HS2
  isplitl [HT0]; · iexact HT0
  iexact HT1

theorem leave (c : Dev nD) : (dat hn m ρ 0 c).Φ (Fin.last (cfgT hn).N) ⊢ iprop(BI.emp ∗ Pipeline.scopedRest spec0 c) := by
  rw [scopedRest0_eq, show (dat hn m ρ 0 c).Φ (Fin.last (cfgT hn).N) = Kpt hn m ρ c (cfgT hn).N from rfl]
  unfold Kpt
  iintro ⟨⟨%a0, %a1, %a2, -, HS0, HS1, HS2⟩, -, -⟩
  isplitr; · iempintro
  isplitl [HS0]; · iexists a0; iexact HS0
  isplitl [HS1]; · iexists a1; iexact HS1
  iexists a2; iexact HS2

/-- Where every run ends: each array at its computed contents and each table as it was. -/
def Ends : PUnit × MemSt nD τ sig (Elt F) → Prop := fun r =>
  ∀ c : Dev nD, (∀ w : Fin (cfgT hn).W, r.2.mem (((cfgT hn).win w).arr.view.loc (c : Thread nD τ)) = (dat hn m ρ 0 c).arrAt w (cfgT hn).N)
    ∧ ∀ j, r.2.mem ((c : Thread nD τ).loc (pre0.ref j)) = (tbl hn).1 j

set_option backward.isDefEq.respectTransparency.types false in
set_option maxHeartbeats 4000000 in
theorem run_ends (hp : ∀ (c : Dev nD) (j : Fin 2), m ((c : Thread nD τ).loc (pre0.ref j)) = tb j) :
    θ_run (defs (F := F)) (onTc (τ := τ) (main (F := F))) (s₀ m ρ) (fun r => Ends hn m ρ r ∧ r.2.sem = fun _ => 0) :=
  Pipeline.θ_run_region_noSem_pf_quiescent pcfgs (fun _ => tbl hn) (dat hn m ρ) () ((launch0 (F := F)).cellOf_inj fun _ => tbl hn) (0 : Fin 1)
    (launch0 (F := F)).win.to₀ (launch0 (F := F)).pre emb₁ defs₀ Variants.none m ρ main
    (hbody := fun c => (body_ok hn m ρ c).loose) (hne := (launch0 (F := F)).block_pos)
    (harr := (launch0 (F := F)).arr_whole) (hstage := (launch0 (F := F)).stage_whole) (howed := fun _ _ => rfl)
    (u₀ := u₁ hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes hn) (dat hn m ρ) 0 (launch0 (F := F)).win.arr_inj c (launch0 (F := F)).arr_whole
      (share_full hn m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter hn m ρ)
    (hout := leave hn m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.MoeIdeal.Grp
-- ==== Proof.MoeMath.lean ====
/-
  The expert product, free of any program: a row through one expert, and the sum over all experts with a gate that is one
  at the row's expert and zero elsewhere.
-/
module

public import Idealize.ShloMosaic.Lib.Pointwise
public import Idealize.ShloMosaic.Lib.Tactic

@[expose] public section

noncomputable section

open Idealize.ShloMosaic

namespace Cert.Experts

abbrev Rows := (⟨2, ![40960, 2048]⟩ : Shape).Idx → EReal
abbrev Wide := (⟨4, ![4, 8, 2048, 512]⟩ : Shape).Idx → EReal
abbrev Tall := (⟨4, ![4, 8, 512, 2048]⟩ : Shape).Idx → EReal

/-- A hidden element of row `r` at expert `(g, e)`: the gate's product through the logistic, times the other product. -/
def mid (x : Rows) (a b : Wide) (g : Fin 4) (e : Fin 8) (r : Fin 40960) (f : Fin 512) : EReal :=
  (∑ k, x (ix2 r k) * a (ix4 g e k f)) * Ideal.logistic (∑ k, x (ix2 r k) * a (ix4 g e k f)) * ∑ k, x (ix2 r k) * b (ix4 g e k f)

/-- Row `r` through expert `(g, e)`. -/
def through (x : Rows) (a b : Wide) (d : Tall) (g : Fin 4) (e : Fin 8) (r : Fin 40960) (q : Fin 2048) : EReal :=
  ∑ f, mid x a b g e r f * d (ix4 g e f q)

/-- The tile a row belongs to. -/
abbrev tileOf (r : Fin 40960) : Fin 160 := ⟨r.val / 256, by omega⟩

/-- The whole result: each row through its tile's expert while the tile is in use, zero from there on. -/
def grouped (te : (⟨1, ![160]⟩ : Shape).Idx → BitVec 32) (nt : (⟨1, ![1]⟩ : Shape).Idx → BitVec 32) (h : ∀ t, (te t).toNat < 32)
    (x : Rows) (a b : Wide) (d : Tall) : Rows := fun i =>
  if ((tileOf (i 0)).val : ℤ) < (nt (ix1 (0 : Fin 1))).toInt then
    through x a b d ⟨(te (ix1 (tileOf (i 0)))).toNat / 8, by have := h (ix1 (tileOf (i 0))); omega⟩ ⟨(te (ix1 (tileOf (i 0)))).toNat % 8, by omega⟩ (i 0) (i 1)
  else 0

theorem grouped_tables {te te' : (⟨1, ![160]⟩ : Shape).Idx → BitVec 32} (e : te = te') (nt : (⟨1, ![1]⟩ : Shape).Idx → BitVec 32) (h : ∀ t, (te t).toNat < 32)
    (h' : ∀ t, (te' t).toNat < 32) (x : Rows) (a b : Wide) (d : Tall) : grouped te nt h x a b d = grouped te' nt h' x a b d := by
  subst e; rfl

section
variable (te : (⟨1, ![160]⟩ : Shape).Idx → BitVec 32) (nt : (⟨1, ![1]⟩ : Shape).Idx → BitVec 32) (h : ∀ t, (te t).toNat < 32)
variable (x : Rows) (a b : Wide) (d : Tall) (r : Fin 40960) (q : Fin 2048) (t : Fin 160) (ht : r.val / 256 = t.val)
include ht

theorem grouped_live (g : Fin 4) (e : Fin 8) (hg : (te (ix1 t)).toNat / 8 = g.val) (he : (te (ix1 t)).toNat % 8 = e.val)
    (hl : (t.val : ℤ) < (nt (ix1 (0 : Fin 1))).toInt) : grouped te nt h x a b d (ix2 r q) = through x a b d g e r q := by
  have et : tileOf r = t := Fin.ext ht
  have e1 : (⟨(te (ix1 (tileOf r))).toNat / 8, by have := h (ix1 (tileOf r)); omega⟩ : Fin 4) = g := Fin.ext (by show (te (ix1 (tileOf r))).toNat / 8 = _; rw [et, hg])
  have e2 : (⟨(te (ix1 (tileOf r))).toNat % 8, by omega⟩ : Fin 8) = e := Fin.ext (by show (te (ix1 (tileOf r))).toNat % 8 = _; rw [et, he])
  rw [← e1, ← e2]
  exact if_pos (by show ((tileOf r).val : ℤ) < _; rw [et]; exact hl)

theorem grouped_rest (hl : ¬ (t.val : ℤ) < (nt (ix1 (0 : Fin 1))).toInt) : grouped te nt h x a b d (ix2 r q) = 0 := by
  have et : tileOf r = t := Fin.ext ht
  exact if_neg (by show ¬ ((tileOf r).val : ℤ) < _; rw [et]; exact hl)

end

/-- A sum over 512 columns, in two halves. -/
theorem sum_halves (F : Fin 512 → EReal) :
    (∑ j : Fin 256, F ⟨j.val, by omega⟩) + ∑ j : Fin 256, F ⟨256 + j.val, by omega⟩ = ∑ f, F f :=
  (Fin.sum_univ_add (a := 256) (b := 256) F).symm

/-- The gate of expert `8 g + e` at tile `t`, as words. -/
abbrev gate (w n : BitVec 32) (t k : ℕ) : EReal :=
  FloatOps.uitofp (F := Ideal) FTy.f32 (IntOp.andi (IntOp.cmpi CmpIPredicate.eq w (BitVec.ofNat 32 k)) (IntOp.cmpi CmpIPredicate.slt (BitVec.ofNat 32 t) n))

theorem gate_eq (w n : BitVec 32) (t k : ℕ) (hk : k < 32) (ht : t < 160) : gate w n t k = if w.toNat = k ∧ (t : ℤ) < n.toInt then 1 else 0 := by
  have h1 : (BitVec.ofNat 32 t).toInt = t := by rw [BitVec.toInt_ofNat', Int.bmod_def]; split <;> omega
  have h2 : (w == BitVec.ofNat 32 k) = decide (w.toNat = k) := by
    rw [Bool.eq_iff_iff, beq_iff_eq, decide_eq_true_eq, ← BitVec.toNat_inj, BitVec.toNat_ofNat, Nat.mod_eq_of_lt (by omega)]
  have h3 : (BitVec.ofNat 32 t).slt n = decide ((t : ℤ) < n.toInt) := by
    rw [Bool.eq_iff_iff, BitVec.slt_iff_toInt_lt, decide_eq_true_eq, h1]
  show (((BitVec.ofBool (w == BitVec.ofNat 32 k) &&& BitVec.ofBool ((BitVec.ofNat 32 t).slt n)).toNat : ℝ) : EReal) = _
  rw [h2, h3]
  by_cases c1 : w.toNat = k <;> by_cases c2 : (t : ℤ) < n.toInt <;> simp [c1, c2]

/-- One group's part of the gated sum. -/
theorem group_sum (w n : BitVec 32) (t : ℕ) (ht : t < 160) (hw : w.toNat < 32) (g : Fin 4) (H W : Fin 8 → Fin 512 → EReal) :
    (∑ e, ∑ f, H e f * gate w n t (8 * g.val + e.val) * W e f)
      = if w.toNat / 8 = g.val ∧ (t : ℤ) < n.toInt then ∑ f, H ⟨w.toNat % 8, by omega⟩ f * W ⟨w.toNat % 8, by omega⟩ f else 0 := by
  have hg (e : Fin 8) := gate_eq w n t (8 * g.val + e.val) (by omega) ht
  rw [Finset.sum_eq_single (⟨w.toNat % 8, by omega⟩ : Fin 8)]
  · rw [hg]
    have e1 : (w.toNat = 8 * g.val + w.toNat % 8) ↔ w.toNat / 8 = g.val := by omega
    simp only [e1]
    split
    · exact Finset.sum_congr rfl fun f _ => by rw [mul_one]
    · exact Finset.sum_eq_zero fun f _ => by rw [mul_zero, zero_mul]
  · intro e _ he
    have e1 : ¬ (w.toNat = 8 * g.val + e.val ∧ (t : ℤ) < n.toInt) := fun h => he (Fin.ext (by show e.val = w.toNat % 8; omega))
    rw [hg, if_neg e1]
    exact Finset.sum_eq_zero fun f _ => by rw [mul_zero, zero_mul]
  · intro h; exact absurd (Finset.mem_univ _) h

/-- The gated sum over all experts is the row through its own. -/
theorem gated_eq (w n : BitVec 32) (x : Rows) (a b : Wide) (d : Tall) (r : Fin 40960) (q : Fin 2048) (hw : w.toNat < 32) :
    (∑ e, ∑ f, mid x a b 0 e r f * gate w n (r.val / 256) e.val * d (ix4 0 e f q))
        + (∑ e, ∑ f, mid x a b 1 e r f * gate w n (r.val / 256) (8 + e.val) * d (ix4 1 e f q))
        + (∑ e, ∑ f, mid x a b 2 e r f * gate w n (r.val / 256) (16 + e.val) * d (ix4 2 e f q))
        + (∑ e, ∑ f, mid x a b 3 e r f * gate w n (r.val / 256) (24 + e.val) * d (ix4 3 e f q))
      = if ((r.val / 256 : ℕ) : ℤ) < n.toInt then through x a b d ⟨w.toNat / 8, by omega⟩ ⟨w.toNat % 8, by omega⟩ r q else 0 := by
  have ht : r.val / 256 < 160 := by omega
  have s0 := group_sum w n (r.val / 256) ht hw 0 (fun e f => mid x a b 0 e r f) (fun e f => d (ix4 0 e f q))
  have s1 := group_sum w n (r.val / 256) ht hw 1 (fun e f => mid x a b 1 e r f) (fun e f => d (ix4 1 e f q))
  have s2 := group_sum w n (r.val / 256) ht hw 2 (fun e f => mid x a b 2 e r f) (fun e f => d (ix4 2 e f q))
  have s3 := group_sum w n (r.val / 256) ht hw 3 (fun e f => mid x a b 3 e r f) (fun e f => d (ix4 3 e f q))
  simp only [show 8 * (0 : Fin 4).val = 0 from rfl, zero_add, show 8 * (1 : Fin 4).val = 8 from rfl, show 8 * (2 : Fin 4).val = 16 from rfl,
    show 8 * (3 : Fin 4).val = 24 from rfl] at s0 s1 s2 s3
  rw [s0, s1, s2, s3]
  have key (g : Fin 4) (hg : w.toNat / 8 = g.val) : (⟨w.toNat / 8, by omega⟩ : Fin 4) = g := Fin.ext hg
  by_cases hl : ((r.val / 256 : ℕ) : ℤ) < n.toInt
  · simp only [hl, and_true, if_true]
    have h4 : w.toNat / 8 = 0 ∨ w.toNat / 8 = 1 ∨ w.toNat / 8 = 2 ∨ w.toNat / 8 = 3 := by omega
    rcases h4 with h | h | h | h
    · rw [key 0 h]; simp only [h]; simp [through]
    · rw [key 1 h]; simp only [h]; simp [through]
    · rw [key 2 h]; simp only [h]; simp [through]
    · rw [key 3 h]; simp only [h]; simp [through]
  · simp only [hl, and_false, if_false, add_zero]

end Cert.Experts

end
-- ==== Proof.MoeArrays.lean ====
/-
  What the grouped expert product leaves in its result array: each row through the expert its tile names.
-/
module

public import proofs.«01_k».proof.Proof.MoeLaunch
public import proofs.«01_k».proof.Proof.MoeMath
public import Idealize.ShloMosaic.Lib.Pipeline.Value

@[expose] public section

noncomputable section

open Idealize.ShloMosaic Idealize.ShloMosaic.TcCoe Idealize.SL.Sem

namespace Cert.MoeIdeal.Grp

open Cert.MoeIdeal Cert.MoeIdeal.Gen Cert.Experts

/-- A tile's block at an index, where its rows and weights are a row and an expert's weights of the whole arrays. -/
theorem tileOut_apply (y : Vec Ideal S256x2048 .f32) (a b : Vec Ideal S1x1x2048x512 .f32) (d : Vec Ideal S1x1x512x2048 .f32)
    (X : Rows) (A B : Wide) (D : Tall) (g : Fin 4) (e : Fin 8) (r : Fin 40960) (p : Fin 256) (q : Fin 2048)
    (hy : ∀ k : Fin 2048, y (ix2 p k) = X (ix2 r k)) (ha : ∀ (k : Fin 2048) (f : Fin 512), a (ix4 0 0 k f) = A (ix4 g e k f))
    (hb : ∀ (k : Fin 2048) (f : Fin 512), b (ix4 0 0 k f) = B (ix4 g e k f)) (hd : ∀ f : Fin 512, d (ix4 0 0 f q) = D (ix4 g e f q)) :
    tileOut y (k0_pay1 a) (k0_pay2 b) (k0_pay3 d) (ix2 p q) = through X A B D g e r q := by
  have main : tileOut y (k0_pay1 a) (k0_pay2 b) (k0_pay3 d) (ix2 p q)
      = ∑ f : Fin 512, ((∑ k, y (ix2 p k) * a (ix4 0 0 k f)) * Ideal.logistic (∑ k, y (ix2 p k) * a (ix4 0 0 k f)) * ∑ k, y (ix2 p k) * b (ix4 0 0 k f)) * d (ix4 0 0 f q) := by
    rw [← sum_halves]
    unfold tileOut
    unfold_payloads
    pointwise
  rw [main]
  simp only [hy, ha, hb, hd]
  rfl

/-- A tile not in use leaves zeros. -/
theorem unused_apply (j : S256x2048.Idx) : k0_pay5 (F := Ideal) j = 0 := by
  obtain ⟨p, q, rfl⟩ : ∃ (p : Fin 256) (q : Fin 2048), j = ix2 p q := ⟨j 0, j 1, eq_ix2 j⟩
  unfold_payloads
  pointwise

variable {tb : pre0.Contents (Elt Ideal)} (hn : Named tb)
variable (m : (ℓ : Loc nD τ sig) → Buf (Elt Ideal) ℓ) (ρ : Dev nD → PrngReg) (c : Dev nD)

abbrev x : Vec Ideal S40960x2048 .f32 := m ((c : Thread nD τ).loc main_arg2)
abbrev wg : Vec Ideal S4x8x2048x512 .f32 := m ((c : Thread nD τ).loc main_arg3)
abbrev wu : Vec Ideal S4x8x2048x512 .f32 := m ((c : Thread nD τ).loc main_arg4)
abbrev wd : Vec Ideal S4x8x512x2048 .f32 := m ((c : Thread nD τ).loc main_arg5)

theorem small (h : Named tb) (t : S160.Idx) : (tb 0 t : BitVec 32).toNat < 32 := by
  rw [eq_ix1 t]; exact h.te_lt (t 0)

/-- The result array. -/
abbrev G : Vec Ideal S40960x2048 .f32 := grouped (tb 0) (tb 1) (small hn) (x m c) (wg m c) (wu m c) (wd m c)

theorem outAt_apply (t : Fin (cfgT hn).N) (p : Fin 256) (q : Fin 2048) :
    outAt hn m ρ c t (ix2 p q) = G hn m c (ix2 ⟨256 * t.val + p.val, by have := lt_N hn t; omega⟩ q) := by
  have hr : (256 * t.val + p.val) / 256 = (tile hn t).val := by show _ = t.val; omega
  unfold outAt
  by_cases hl : Live tb t.val
  · rw [if_pos hl]
    refine (tileOut_apply _ _ _ _ (x m c) (wg m c) (wu m c) (wd m c) (grp hn (tile hn t)) (mem (tb := tb) (tile hn t))
      ⟨256 * t.val + p.val, by have := lt_N hn t; omega⟩ p q (fun k => ?_) (fun k f => ?_) (fun k f => ?_) (fun f => ?_)).trans ?_
    · exact rowsAt_apply hn m ρ c t hl p k
    · exact congrFun (gateAt_eq hn m ρ c t) _
    · exact congrFun (upAt_eq hn m ρ c t) _
    · exact congrFun (downAt_eq hn m ρ c t) _
    · exact (grouped_live (tb 0) (tb 1) (small hn) _ _ _ _ _ q (tile hn t) hr _ _ rfl rfl hl).symm
  · rw [if_neg hl, unused_apply]
    exact (grouped_rest (tb 0) (tb 1) (small hn) _ _ _ _ _ q (tile hn t) hr hl).symm

/-- Where an element of a tile's block lies in the result. -/
theorem emb4 (t : Fin (cfgT hn).N) (p : Fin 256) (q : Fin 2048) :
    (((cfgT hn).win (4 : Fin 5)).blk t).view.emb (ix2 p q : S256x2048.Idx) = (ix2 ⟨256 * t.val + p.val, by have := lt_N hn t; omega⟩ q : S40960x2048.Idx) := by
  have h := index4 hn t
  funext a
  apply Fin.ext
  match a with
  | ⟨0, _⟩ => show ((cfgT hn).win (4 : Fin 5)).index t 0 * 256 + 1 * p.val = 256 * t.val + p.val; omega
  | ⟨1, _⟩ => show 0 * 2048 + 1 * q.val = q.val; omega

theorem cover4 (i : S40960x2048.Idx) : ∃ t : Fin (cfgT hn).N, ((cfgT hn).win (4 : Fin 5)).flush t = true ∧ i ∈ (((cfgT hn).win (4 : Fin 5)).blk t).view.set := by
  obtain ⟨r, q, rfl⟩ : ∃ (r : Fin 40960) (q : Fin 2048), i = ix2 r q := ⟨i 0, i 1, eq_ix2 i⟩
  let t : Fin (cfgT hn).N := ⟨r.val / 256, lt_of_lt_of_eq (by omega : r.val / 256 < 160) (show (cfgT hn).N = 160 from N_0).symm⟩
  refine ⟨t, flush4 hn t, ?_⟩
  have e : (ix2 r q : S40960x2048.Idx) = (((cfgT hn).win (4 : Fin 5)).blk t).view.emb (ix2 (⟨r.val % 256, by omega⟩ : Fin 256) q : S256x2048.Idx) := by
    rw [emb4]
    congr 1
    apply Fin.ext
    show r.val = 256 * (r.val / 256) + r.val % 256
    omega
  rw [e]
  exact (((cfgT hn).win (4 : Fin 5)).blk t).view.emb_mem_set _

/-- The result array at the end of a run. -/
theorem arr4_eq : (dat hn m ρ 0 c).arrAt (4 : Fin 5) (cfgT hn).N = G hn m c :=
  (dat hn m ρ 0 c).arrAt_eq_of_cover (4 : Fin 5) (G hn m c)
    (fun t _ => by
      funext j
      obtain ⟨p, q, rfl⟩ : ∃ (p : Fin 256) (q : Fin 2048), j = (ix2 p q : S256x2048.Idx) := ⟨j 0, j 1, eq_ix2 j⟩
      rw [View.read_apply, emb4]
      exact outAt_apply hn m ρ c t p q)
    (cover4 hn)

end Cert.MoeIdeal.Grp

end
-- ==== Proof.MoeRefRead.lean ====
/-
  The reference of the expert product, read at an index.
-/
module

public import proofs.«01_k».proof.Proof.MoeMath
public import proofs.«01_k».proof.Proof.Gen.MoeRefIdeal.Run

@[expose] public section

noncomputable section

open Idealize.ShloMosaic Idealize.ShloMosaic.TcCoe Idealize.SL.Sem

namespace Cert.MoeRefIdeal.Arr

open Cert.MoeRefIdeal Cert.MoeRefIdeal.Gen Cert.MoeRefIdeal.Value Cert.Experts

variable (m : (ℓ : Loc nD τ sig) → Buf (Elt Ideal) ℓ) (c : Dev nD)

abbrev te : IVec S160 32 := m ((c.tc : Thread nD τ).loc main_arg0)
abbrev nt : IVec S1 32 := m ((c.tc : Thread nD τ).loc main_arg1)
abbrev x : Vec Ideal S40960x2048 .f32 := m ((c.tc : Thread nD τ).loc main_arg2)
abbrev a : Vec Ideal S4x8x2048x512 .f32 := m ((c.tc : Thread nD τ).loc main_arg3)
abbrev b : Vec Ideal S4x8x2048x512 .f32 := m ((c.tc : Thread nD τ).loc main_arg4)
abbrev d : Vec Ideal S4x8x512x2048 .f32 := m ((c.tc : Thread nD τ).loc main_arg5)

/-- Where every tile names an expert, the reference's result is each row through its expert. -/
theorem result_eq (h : ∀ t, (te m c t).toNat < 32) :
    (res_main_v85 m c : Vec Ideal S40960x2048 .f32) = grouped (te m c) (nt m c) h (x m c) (a m c) (b m c) (d m c) := by
  funext i
  obtain ⟨r, q, rfl⟩ : ∃ (r : Fin 40960) (q : Fin 2048), i = ix2 r q := ⟨i 0, i 1, eq_ix2 i⟩
  refine Eq.trans ?_ (gated_eq (te m c (ix1 (tileOf r))) (nt m c (ix1 (0 : Fin 1))) (x m c) (a m c) (b m c) (d m c) r q (h _))
  unfold res_main_v85
  pointwise
  rfl

end Cert.MoeRefIdeal.Arr

end
-- ==== Proof.MoeFrame.lean ====
/-
  The grouped expert product's frame and its value, from tables the precondition speaks of.
-/
module

public import proofs.«01_k».proof.Proof.MoeArrays
public import proofs.«01_k».proof.Proof.MoeRefRead
public import proofs.«01_k».proof.Proof.Gen.Moe
public import proofs.«01_k».proof.Proof.Gen.Pre_experts_named

@[expose] public section

set_option maxRecDepth 16384

noncomputable section

open Idealize.ShloMosaic Idealize.ShloMosaic.TcCoe Idealize.SL.Sem

namespace Cert.MoeIdeal.Grp

open Cert.MoeIdeal Cert.MoeIdeal.Gen
open Idealize.ShloMosaic.Pipeline (Dat Cfg Window)

/-- What the precondition says of the two tables. -/
theorem pre_words {F : FTy → Type} [FloatOps F] (a0 : IVec S160 32) (a1 : IVec S1 32) (a2 a3 a4 a5)
    (h1 : (Cert.Pre_experts_named.fn (F := F) a0 a1 a2 a3 a4 a5).1 = fun _ => 1#1)
    (h2 : (Cert.Pre_experts_named.fn (F := F) a0 a1 a2 a3 a4 a5).2 = fun _ => 1#1) :
    (∀ t, (a0 t).toNat < 32) ∧ 1 ≤ (a1 (ix1 (0 : Fin 1))).toInt := by
  constructor
  · intro t
    have h := congrFun h1 t
    have h' : IntOp.andi (BitVec.ofBool ((0#32).sle (a0 t))) (BitVec.ofBool ((a0 t).sle 31#32)) = 1#1 := h
    cases c1 : (0#32).sle (a0 t) <;> cases c2 : (a0 t).sle 31#32 <;> rw [c1, c2] at h' <;> first | exact absurd h' (by decide) | skip
    rw [BitVec.sle_iff_toInt_le] at c1 c2
    have e1 : (31#32 : BitVec 32).toInt = 31 := by decide
    have e0 : (0#32 : BitVec 32).toInt = 0 := by decide
    rw [e0] at c1; rw [e1] at c2
    rw [BitVec.toInt_eq_toNat_cond] at c1 c2
    have := (a0 t).isLt
    split at c1 <;> omega
  · have h := congrFun h2 (ix1 (0 : Fin 1))
    have h' : BitVec.ofBool ((1#32).sle (a1 (ix1 (0 : Fin 1)))) = 1#1 := h
    cases c1 : (1#32).sle (a1 (ix1 (0 : Fin 1))) <;> rw [c1] at h' <;> first | exact absurd h' (by decide) | skip
    rw [BitVec.sle_iff_toInt_le] at c1
    have e1 : (1#32 : BitVec 32).toInt = 1 := by decide
    rw [e1] at c1
    exact c1

variable {F : FTy → Type} [FloatOps F] (m : (ℓ : Loc nD τ sig) → Buf (Elt F) ℓ) (ρ : Dev nD → PrngReg)

/-- The one device. -/
abbrev dev0 : Dev nD := ⟨0, by decide⟩

theorem dev_eq (c : Dev nD) : c = dev0 := by
  have h : ∀ c : Dev nD, c = dev0 := by decide
  exact h c

/-- The tables a run starts from. -/
abbrev tbOf : pre0.Contents (Elt F) := fun j => m ((dev0 : Thread nD τ).loc (pre0.ref j))

theorem hp (c : Dev nD) (j : Fin 2) : m ((c : Thread nD τ).loc (pre0.ref j)) = tbOf m j := by rw [dev_eq c]

/-- The precondition of a memory. -/
abbrev PreOf : Prop := (∀ t, (m ((dev0 : Thread nD τ).loc main_arg0) t : BitVec 32).toNat < 32) ∧ 1 ≤ (m ((dev0 : Thread nD τ).loc main_arg1) (ix1 (0 : Fin 1)) : BitVec 32).toInt

theorem named_of (h : PreOf m) : Named (tbOf m) := ⟨fun t => h.1 _, h.2⟩

/-- The run keeps its arguments and leaves the result at the computed array. -/
theorem run_all (h : PreOf m) : θ_run (defs (F := F)) (onTc (τ := τ) (main (F := F))) ⟨m, fun _ => 0, ρ⟩ (fun r =>
    (∀ c : Dev nD, r.2.mem ((c : Thread nD τ).loc main_v0) = (dat (named_of m h) m ρ 0 c).arrAt (4 : Fin 5) (cfgT (named_of m h)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r he => ⟨fun c => by
    obtain ⟨hw, ht⟩ := he.1 c
    have hin (w : Fin 5) (ho : ((cfgT (named_of m h)).win w).isOut = false) := (dat (named_of m h) m ρ 0 c).arrAt_in w ho (cfgT (named_of m h)).N
    exact ⟨hw (4 : Fin 5), (ht (0 : Fin 2)).trans (hp m c 0).symm, (ht (1 : Fin 2)).trans (hp m c 1).symm, (hw (0 : Fin 5)).trans (hin 0 rfl),
      (hw (1 : Fin 5)).trans (hin 1 rfl), (hw (2 : Fin 5)).trans (hin 2 rfl), (hw (3 : Fin 5)).trans (hin 3 rfl)⟩, he.2⟩) (run_ends (named_of m h) m ρ (hp m))

/-- The frame, at any floats. -/
theorem frame_any (h : PreOf m) : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r he => ⟨fun c => (he.1 c).2, he.2⟩) (run_all m ρ h)

end Cert.MoeIdeal.Grp

namespace Cert.Experts

open Cert.MoeIdeal.Grp

section

variable {F : FTy → Type} [FloatOps F]

/-! The program as compiled has the text of the one read over extended reals: their runs are the same, at any floats. -/

theorem body_eq : Cert.Moe.cc0_moe_grouped_matmul (F := F) = Cert.MoeIdeal.cc0_moe_grouped_matmul (F := F) := by
  funext i a1 h1 a2 h2 a3 h3 a4 h4 a5 h5 a6 h6 a7 h7 a8 h8 a9 h9 a10 h10
  unfold Cert.Moe.cc0_moe_grouped_matmul Cert.MoeIdeal.cc0_moe_grouped_matmul
  rfl

theorem bodies_eq : Cert.Moe.defs₀ (F := F) = Cert.MoeIdeal.defs₀ (F := F) := by
  unfold Cert.Moe.defs₀
  rw [body_eq]
  unfold Cert.MoeIdeal.defs₀
  refine congrArg (Defs.onTc (nD := Cert.MoeIdeal.nD) (τ := Cert.MoeIdeal.τ) (sig := Cert.MoeIdeal.sig) (Val := Elt F) (Λ := Cert.MoeIdeal.Λ₀)) ?_
  funext x y
  match x, y with
  | 0, (t, s) => rfl

theorem defs_eq : Cert.Moe.defs (F := F) = Cert.MoeIdeal.defs (F := F) := by
  unfold Cert.Moe.defs
  rw [bodies_eq]
  rfl

theorem run_eq (m : (ℓ : Loc Cert.MoeIdeal.nD Cert.MoeIdeal.τ Cert.MoeIdeal.sig) → Buf (Elt F) ℓ) (ρ : Dev Cert.MoeIdeal.nD → PrngReg) :
    (θ_run (Cert.Moe.defs (F := F)) (onTc (τ := Cert.Moe.τ) (Cert.Moe.main (F := F))) ⟨m, fun _ => 0, ρ⟩ : _ → Prop)
      = θ_run (Cert.MoeIdeal.defs (F := F)) (onTc (τ := Cert.MoeIdeal.τ) (Cert.MoeIdeal.main (F := F))) ⟨m, fun _ => 0, ρ⟩ := by
  rw [defs_eq]
  rfl

end

theorem frame_Moe : Cert.quiescent_Moe := fun m ρ h => by
  refine (congrFun (run_eq (F := Bits) m ρ) _).mpr ?_
  exact frame_any (F := Bits) m ρ (pre_words _ _ _ _ _ _ (h dev0).1 (h dev0).2)

theorem frame_MoeIdeal : Cert.quiescent_MoeIdeal := fun m ρ h =>
  frame_any m ρ (pre_words _ _ _ _ _ _ (h dev0).1 (h dev0).2)

theorem frame_MoeRefIdeal : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run m ρ)

/-- The grouped expert product leaves what the plain gated sum over all experts leaves. -/
theorem algebraic_Moe : Cert.algebraic_MoeIdeal_MoeRefIdeal := by
  intro m g m' g' hpre hagree
  have hw := pre_words _ _ _ _ _ _ (hpre dev0).1 (hpre dev0).2
  have hn := named_of m hw
  refine ⟨fun c => G hn m c, (θ_run Cert.MoeIdeal.defs _ _).mono (fun r h c => ⟨(h.1 c).1.trans (arr4_eq hn m g c), (h.1 c).2⟩) (run_all m g hw),
    (θ_run Cert.MoeRefIdeal.defs _ _).mono (fun r h c => ⟨(h c).1.trans ?_, (h c).2⟩) (Cert.MoeRefIdeal.Value.run m' g')⟩
  obtain ⟨e0, e1, e2, e3, e4, e5⟩ := hagree c
  have f0 : Cert.MoeRefIdeal.Arr.te m' c = tbOf m 0 := e0.trans (hp m c 0)
  have f1 : Cert.MoeRefIdeal.Arr.nt m' c = tbOf m 1 := e1.trans (hp m c 1)
  have f2 : Cert.MoeRefIdeal.Arr.x m' c = x m c := e2
  have f3 : Cert.MoeRefIdeal.Arr.a m' c = wg m c := e3
  have f4 : Cert.MoeRefIdeal.Arr.b m' c = wu m c := e4
  have f5 : Cert.MoeRefIdeal.Arr.d m' c = wd m c := e5
  have hs : ∀ t, (Cert.MoeRefIdeal.Arr.te m' c t).toNat < 32 := fun t => by rw [f0]; exact small hn t
  refine (Cert.MoeRefIdeal.Arr.result_eq m' c hs).trans ?_
  rw [f1, f2, f3, f4, f5]
  exact grouped_tables f0 _ _ _ _ _ _ _

end Cert.Experts

end
-- ==== Proof.Slab.lean ====
/-
  Reading a slab of a scratch back with a stride: a head's 512 rows are stored whole in one slab, and then every
  `R`-th row is loaded, so that each load holds the rows of one remainder.
-/
module

public import proofs.«01_k».proof.Proof.Dil
public import Idealize.ShloMosaic.Lib.Pipeline.ReadBack

@[expose] public section

noncomputable section

open Idealize.ShloMosaic Idealize.ShloMosaic.TcCoe Idealize.SL.Sem

namespace Cert.Dil

/-- A load inside the rectangle stored last reads the stored values. -/
theorem readCov_within {sig : RefSig} {κ : Kind} {sp : Space} {s : Shape} {e : EltTy} (v : View sig κ sp s e) (r : Rect s)
    (hr : ∀ a, r.stride a = 1) (Z : r.shape.Idx → Elt Ideal e) (L : List (View.Piece (Elt Ideal) s e)) (B : LoadRect r.shape) :
    v.readCov (⟨r, Z⟩ :: L) (r.withinL B hr) = fun j => Z (B.idx j) := by
  rw [View.readCov_eq_canon']
  funext j
  exact (congrArg (View.canon _) (Rect.idx_withinL r B hr j)).trans (View.canon_cons_emb r Z L _)

/-- The two leading axes of extent one do not move an element. -/
theorem slab_place {S : Nat} (j : Fin S) (d : Fin 128) :
    (Shape.rowMajorPi ![1, 1, S, 128] (ix4 0 0 j d)).val = (Shape.rowMajorPi ![S, 128] (ix2 j d)).val := by
  rw [Shape.rowMajorPi_succ_val, Shape.rowMajorPi_succ_val]
  show 0 * _ + (0 * _ + _) = _
  rw [Nat.zero_mul, Nat.zero_mul, Nat.zero_add, Nat.zero_add]
  rfl

/-- Values of a slab's box indexed by the box's own two axes. -/
theorem slab_at {V : Type} {S : Nat} (hn : (⟨2, ![S, 128]⟩ : Shape).numel = (⟨4, ![1, 1, S, 128]⟩ : Shape).numel)
    (f : (⟨4, ![1, 1, S, 128]⟩ : Shape).Idx → V) (j : Fin S) (d : Fin 128) :
    f (Shape.reshapeEquiv hn (ix2 j d)) = f (ix4 0 0 j d) :=
  congrArg f (Shape.reshapeEquiv_eq_of_rowMajor hn (slab_place j d))

/-- The values of a strided load of a slab, at the slab's own two axes. -/
theorem slab_load {V : Type} {S R c : Nat} (inb) (z3 : ![1, 512, 128] 0 = 1) (s3) (z4 : ![1, 1, 512, 128] 0 = 1) (s4)
    (hn) (f : ((LoadRect.consLift (d := ![512, 128]) ⟨![c, 0], ![S, 128], ![R, 1], inb⟩ ![1, 512, 128] z3 s3).consLift
      ![1, 1, 512, 128] z4 s4).shape.Idx → V) (j : Fin S) (d : Fin 128) :
    LoadRect.valAlong (s' := ⟨2, ![512, 128]⟩) (lr := ⟨![c, 0], ![S, 128], ![R, 1], inb⟩) hn f (ix2 j d)
      = f (ix4 (0 : Fin 1) (0 : Fin 1) j d) :=
  slab_at (S := S) hn f j d

/-- Every `R`-th row of 512, from row `c`, stays in range. -/
theorem strided_inb {R S c : Nat} (hRS : R * S = 512) (hc : c < R) (a : Fin 2) :
    (![S, 128] : Fin 2 → Nat) a = 0 ∨ (![c, 0] : Fin 2 → Nat) a + (![R, 1] : Fin 2 → Nat) a * ((![S, 128] : Fin 2 → Nat) a - 1)
      < (![512, 128] : Fin 2 → Nat) a := by
  match a with
  | ⟨0, _⟩ =>
    rcases Nat.eq_zero_or_pos S with h | h
    · exact Or.inl h
    · refine Or.inr ?_
      show c + R * (S - 1) < 512
      have h2 : (S - 1) * R + c < 512 := sorted_lt hRS ⟨c, hc⟩ ⟨S - 1, by omega⟩
      rw [Nat.mul_comm] at h2
      omega
  | ⟨1, _⟩ => exact Or.inr (by show 0 + 1 * (128 - 1) < 128; omega)

/-- Two leading axes of extent one do not change the number of elements. -/
theorem slab_casts (S : Nat) : (⟨2, ![S, 128]⟩ : Shape).ShapeCasts ⟨4, ![1, 1, S, 128]⟩ := by
  have h := (Rect.numel_consShape (d := ![S, 128]) ![1, S, 128] rfl (fun _ => rfl)).trans
    (Rect.numel_consShape (d := ![1, S, 128]) ![1, 1, S, 128] rfl fun _ => rfl)
  exact h.symm

/-- A box of a slab holds as many elements as it does read without the leading axes. -/
theorem slab_numel {R S c : Nat} (hRS : R * S = 512) (hc : c < R) :
    (LoadRect.mk (s := ⟨2, ![512, 128]⟩) ![c, 0] ![S, 128] ![R, 1] (strided_inb hRS hc)).shape.numel
      = ((LoadRect.consLift (d := ![512, 128]) ⟨![c, 0], ![S, 128], ![R, 1], strided_inb hRS hc⟩ ![1, 512, 128] rfl
          (by decide)).consLift ![1, 1, 512, 128] rfl (by decide)).shape.numel :=
  (LoadRect.numel_consLift _ _ _ _).trans (LoadRect.numel_consLift _ _ _ _)

/-- What a strided load of a slab holds once it is rounded and laid out as a block of the output: every `R`-th row of
    the slab, from row `c`. -/
theorem slab_piece {S R c : Nat} (inb) (z3 : ![1, 512, 128] 0 = 1) (s3) (z4 : ![1, 1, 512, 128] 0 = 1) (s4)
    (hn) (Z : (⟨4, ![1, 1, 512, 128]⟩ : Shape).Idx → Elt Ideal .f32) (hb : FTy.bits .bf16 < FTy.bits .f32)
    (hs : (⟨2, ![S, 128]⟩ : Shape).ShapeCasts ⟨4, ![1, 1, S, 128]⟩) (a b : Fin 1) (j : Fin S) (d : Fin 128) (hj : c + R * j.val < 512) :
    shapeCast ⟨4, ![1, 1, S, 128]⟩ (truncf (F := Ideal) (s := ⟨2, ![S, 128]⟩) .bf16
        (LoadRect.valAlong (s' := ⟨2, ![512, 128]⟩) (lr := ⟨![c, 0], ![S, 128], ![R, 1], inb⟩) hn
          fun i => Z (((LoadRect.consLift (d := ![512, 128]) ⟨![c, 0], ![S, 128], ![R, 1], inb⟩ ![1, 512, 128] z3 s3).consLift
            ![1, 1, 512, 128] z4 s4).idx i)) hb) hs (ix4 a b j d)
      = Z (ix4 0 0 ⟨c + R * j.val, hj⟩ d) := by
  refine Eq.trans (b := LoadRect.valAlong (s' := ⟨2, ![512, 128]⟩) (lr := ⟨![c, 0], ![S, 128], ![R, 1], inb⟩) hn
          (fun i => Z (((LoadRect.consLift (d := ![512, 128]) ⟨![c, 0], ![S, 128], ![R, 1], inb⟩ ![1, 512, 128] z3 s3).consLift
            ![1, 1, 512, 128] z4 s4).idx i)) (ix2 j d)) ?_ ?_
  · refine congrArg (LoadRect.valAlong (s' := ⟨2, ![512, 128]⟩) (lr := ⟨![c, 0], ![S, 128], ![R, 1], inb⟩) hn
        fun i => Z (((LoadRect.consLift (d := ![512, 128]) ⟨![c, 0], ![S, 128], ![R, 1], inb⟩ ![1, 512, 128] z3 s3).consLift
          ![1, 1, 512, 128] z4 s4).idx i)) (Shape.reshapeEquiv_eq_of_rowMajor _ ?_)
    obtain rfl : a = 0 := Subsingleton.elim _ _
    obtain rfl : b = 0 := Subsingleton.elim _ _
    exact (slab_place j d).symm
  · refine (slab_load inb z3 s3 z4 s4 hn _ j d).trans (congrArg Z ?_)
    funext a
    apply Fin.ext
    match a with
    | ⟨0, _⟩ => rfl
    | ⟨1, _⟩ => rfl
    | ⟨2, _⟩ => rfl
    | ⟨3, _⟩ => show 0 + 1 * d.val = d.val; omega

/-- A block function sorted by the rows' remainder by `R`. -/
def clsArr (R S : Nat) (hRS : R * S = 512) (T : Fin 512 → Fin 512 → EReal) : (⟨4, ![1, R, S, 512]⟩ : Shape).Idx → EReal :=
  fun j => T ⟨(j 2).val * R + (j 1).val, sorted_lt hRS (j 1) (j 2)⟩ (j 3)

/-- The piece of the output one strided load fills: remainder `c`, the 128 columns from `o`. -/
def clsPiece (R S : Nat) (hRS : R * S = 512) (c : Nat) (hc : c < R) (o : Nat) (ho : o ≤ 384)
    (Z : (⟨4, ![1, 1, 512, 128]⟩ : Shape).Idx → Elt Ideal .f32) : View.Piece (Elt Ideal) ⟨4, ![1, R, S, 512]⟩ .bf16 :=
  ⟨Rect.unit ![0, c, 0, o] ![1, 1, S, 128] (fun a => by
      match a with
      | ⟨0, _⟩ => show 0 + 1 ≤ 1; omega
      | ⟨1, _⟩ => show c + 1 ≤ R; omega
      | ⟨2, _⟩ => show 0 + S ≤ S; omega
      | ⟨3, _⟩ => show o + 128 ≤ 512; omega),
    shapeCast ⟨4, ![1, 1, S, 128]⟩ (truncf (F := Ideal) (s := ⟨2, ![S, 128]⟩) .bf16
      (LoadRect.valAlong (s' := ⟨2, ![512, 128]⟩) (lr := ⟨![c, 0], ![S, 128], ![R, 1], strided_inb hRS hc⟩)
        (slab_numel hRS hc)
        fun i => Z (((LoadRect.consLift (d := ![512, 128]) ⟨![c, 0], ![S, 128], ![R, 1], strided_inb hRS hc⟩ ![1, 512, 128] rfl
          (by decide)).consLift ![1, 1, 512, 128] rfl (by decide)).idx i)) (show FTy.bits .bf16 < FTy.bits .f32 by decide)) (slab_casts S)⟩

/-- It holds the sorted block function there. -/
theorem clsPiece_eq (R S : Nat) (hRS : R * S = 512) (c : Nat) (hc : c < R) (o : Nat) (ho : o ≤ 384)
    (Z : (⟨4, ![1, 1, 512, 128]⟩ : Shape).Idx → Elt Ideal .f32) (T : Fin 512 → Fin 512 → EReal)
    (hZ : ∀ (p : Fin 512) (d : Fin 128), Z (ix4 0 0 p d) = T p ⟨o + d.val, by omega⟩)
    (x : (⟨4, ![1, 1, S, 128]⟩ : Shape).Idx) :
    (clsPiece R S hRS c hc o ho Z).2 x = clsArr R S hRS T ((clsPiece R S hRS c hc o ho Z).1.emb x) := by
  obtain ⟨a, b, j, d, rfl⟩ : ∃ (a b : Fin 1) (j : Fin S) (d : Fin 128), x = ix4 a b j d := ⟨x 0, x 1, x 2, x 3, eq_ix4 x⟩
  have hj : c + R * j.val < 512 := by
    have h2 : j.val * R + c < 512 := sorted_lt hRS ⟨c, hc⟩ j
    rw [Nat.mul_comm] at h2
    omega
  refine (slab_piece (S := S) (R := R) (c := c) _ _ _ _ _ _ _ _ _ a b j d hj).trans ((hZ _ _).trans ?_)
  show T _ _ = T ⟨(0 + 1 * j.val) * R + (c + 1 * b.val), _⟩ ⟨o + 1 * d.val, _⟩
  congr 1
  · apply Fin.ext
    show c + R * j.val = (0 + 1 * j.val) * R + (c + 1 * b.val)
    rw [Nat.zero_add, Nat.one_mul, Nat.mul_comm]
    omega
  · apply Fin.ext
    show o + d.val = o + 1 * d.val
    omega

/-- The 4 pieces of one head, stored with the last remainder last. -/
theorem head_pieces4 (T : Fin 512 → Fin 512 → EReal) (o : Nat) (ho : o ≤ 384)
    (Z : (⟨4, ![1, 1, 512, 128]⟩ : Shape).Idx → Elt Ideal .f32) (L : List (View.Piece (Elt Ideal) ⟨4, ![1, 4, 128, 512]⟩ .bf16))
    (hZ : ∀ (p : Fin 512) (d : Fin 128), Z (ix4 0 0 p d) = T p ⟨o + d.val, by omega⟩)
    (hL : View.PiecesOf (clsArr 4 128 rfl T) L) :
    View.PiecesOf (clsArr 4 128 rfl T) (
      clsPiece 4 128 rfl 3 (by decide) o ho Z ::
      clsPiece 4 128 rfl 2 (by decide) o ho Z ::
      clsPiece 4 128 rfl 1 (by decide) o ho Z ::
      clsPiece 4 128 rfl 0 (by decide) o ho Z :: L) :=
  ⟨clsPiece_eq _ _ _ _ _ _ _ _ T hZ, clsPiece_eq _ _ _ _ _ _ _ _ T hZ, clsPiece_eq _ _ _ _ _ _ _ _ T hZ, clsPiece_eq _ _ _ _ _ _ _ _ T hZ, hL⟩

/-- The 16 pieces of one head, stored with the last remainder last. -/
theorem head_pieces16 (T : Fin 512 → Fin 512 → EReal) (o : Nat) (ho : o ≤ 384)
    (Z : (⟨4, ![1, 1, 512, 128]⟩ : Shape).Idx → Elt Ideal .f32) (L : List (View.Piece (Elt Ideal) ⟨4, ![1, 16, 32, 512]⟩ .bf16))
    (hZ : ∀ (p : Fin 512) (d : Fin 128), Z (ix4 0 0 p d) = T p ⟨o + d.val, by omega⟩)
    (hL : View.PiecesOf (clsArr 16 32 rfl T) L) :
    View.PiecesOf (clsArr 16 32 rfl T) (
      clsPiece 16 32 rfl 15 (by decide) o ho Z ::
      clsPiece 16 32 rfl 14 (by decide) o ho Z ::
      clsPiece 16 32 rfl 13 (by decide) o ho Z ::
      clsPiece 16 32 rfl 12 (by decide) o ho Z ::
      clsPiece 16 32 rfl 11 (by decide) o ho Z ::
      clsPiece 16 32 rfl 10 (by decide) o ho Z ::
      clsPiece 16 32 rfl 9 (by decide) o ho Z ::
      clsPiece 16 32 rfl 8 (by decide) o ho Z ::
      clsPiece 16 32 rfl 7 (by decide) o ho Z ::
      clsPiece 16 32 rfl 6 (by decide) o ho Z ::
      clsPiece 16 32 rfl 5 (by decide) o ho Z ::
      clsPiece 16 32 rfl 4 (by decide) o ho Z ::
      clsPiece 16 32 rfl 3 (by decide) o ho Z ::
      clsPiece 16 32 rfl 2 (by decide) o ho Z ::
      clsPiece 16 32 rfl 1 (by decide) o ho Z ::
      clsPiece 16 32 rfl 0 (by decide) o ho Z :: L) :=
  ⟨clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, clsPiece_eq _ _ _ _ _ _ _ _ T hZ, hL⟩

end Cert.Dil

end
-- ==== Proof.D1Blocks.lean ====
/-
  What one grid point of the dilated projection of group 1 leaves in its output blocks and in the weight copies it
  carries, as functions of the blocks it reads: at the first point the weights come from the input blocks, at every
  other point from the copies. The rows of a block are sorted by their remainder by 4.
-/
module

public import proofs.«01_k».proof.Proof.Gen.D1Ideal.Frame
public import proofs.«01_k».proof.Proof.Slab

@[expose] public section

noncomputable section

open Idealize.ShloMosaic Idealize.ShloMosaic.TcCoe Idealize.SL.Sem

namespace Cert.D1Ideal.Blk

open Cert.D1Ideal Cert.D1Ideal.Gen Cert.Dil

theorem hz : (![0, 0] : Fin 2 → Nat) = fun _ => 0 := funext fun a => by fin_cases a <;> rfl

/-! A load of a whole buffer of rows or of weights; an offset reached in steps of one. -/

theorem ldx {e : EltTy} (inb : ∀ a, (![0, 0] : Fin 2 → Nat) a + S512x2048.size a ≤ S512x2048.size a) (X : Vec Ideal S512x2048 e) :
    View.ld X (Rect.unit (s := S512x2048) ![0, 0] S512x2048.size inb) = X := View.ld_unit_zero hz inb X
theorem ldw {e : EltTy} (inb : ∀ a, (![0, 0] : Fin 2 → Nat) a + S2048x512.size a ≤ S2048x512.size a) (X : Vec Ideal S2048x512 e) :
    View.ld X (Rect.unit (s := S2048x512) ![0, 0] S2048x512.size inb) = X := View.ld_unit_zero hz inb X
theorem ats (n : Nat) : 0 + 1 * n = n := by omega
theorem at1 (k n : Nat) : k + 1 * n = k + n := by omega

/-- A load of part of a weight copy that one store filled reads the stored array there. -/
theorem readCov_whole (v : View sig .tc .vmem S2048x512 .bf16) (inb) (Z : Vec Ideal S2048x512 .bf16) (r : Rect S2048x512) :
    v.readCov [⟨Rect.unit ![0, 0] (no_index S2048x512.size) inb, Z⟩] r.toLoadRect = View.ld Z r :=
  View.readCov_fill v inb Z [] r (fun a => by fin_cases a <;> rfl)

variable (c : Dev nD) (i : grid0.Coords)
  (a2 : Memref sig .tc .vmem S512x2048 .bf16) (h2 : a2.IsWhole)
  (a3 : Memref sig .tc .vmem S2048x512 .f32) (h3 : a3.IsWhole)
  (a4 : Memref sig .tc .vmem S2048x512 .f32) (h4 : a4.IsWhole)
  (a5 : Memref sig .tc .vmem S2048x512 .f32) (h5 : a5.IsWhole)
  (a6 : Memref sig .tc .vmem S1x128 .f32) (h6 : a6.IsWhole)
  (a7 : Memref sig .tc .vmem S1x128 .f32) (h7 : a7.IsWhole)
  (a8 : Memref sig .tc .vmem S1x4x128x512 .bf16) (h8 : a8.IsWhole)
  (a9 : Memref sig .tc .vmem S1x4x128x512 .bf16) (h9 : a9.IsWhole)
  (a10 : Memref sig .tc .vmem S1x4x128x512 .bf16) (h10 : a10.IsWhole)
  (a11 : Memref sig .tc .vmem S1x512x512 .f32) (h11 : a11.IsWhole)
  (a12 : Memref sig .tc .vmem S1x512x512 .f32) (h12 : a12.IsWhole)
  (a13 : Memref sig .tc .vmem S3x4x512x128 .f32) (h13 : a13.IsWhole)
  (a14 : Memref sig .tc .vmem S2048x512 .bf16) (h14 : a14.IsWhole)
  (a15 : Memref sig .tc .vmem S2048x512 .bf16) (h15 : a15.IsWhole)
  (a16 : Memref sig .tc .vmem S2048x512 .bf16) (h16 : a16.IsWhole)
  (x0 : Vec Ideal S512x2048 .bf16) (x1 x2 x3 : Vec Ideal S2048x512 .f32) (x4 x5 : Vec Ideal S1x128 .f32)
  (xs1 xs2 xs3 : Vec Ideal S2048x512 .bf16)

set_option maxRecDepth 65536 in
/-- The first point: the queries. -/
theorem out_A_6 (hc : cond0_0 i) :
    out0_A_6 c i a2 h2 a3 h3 a4 h4 a5 h5 a6 h6 a7 h7 a8 h8 a9 h9 a10 h10 a11 h11 a12 h12 a13 h13 a14 h14 a15 h15 a16 h16 hc x0 x1 x2 x3 x4 x5 = clsArr 4 128 rfl (normBlk x0 x1 (qGain x4)) := by
  unfold out0_A_6
  rw [View.read_writes_eq_canon _ _ _ (fun _ => cover0_A_6 ..)]
  refine funext fun y => View.canon_apply_of_pieces (clsArr 4 128 rfl (normBlk x0 x1 (qGain x4))) _ (View.PiecesOf.mem ?_) y (cover0_A_6 (F := Ideal) ..)
  unfold kernelRun0_A
  dsimp only
  sl_unfold_words
  simp only [View.readAt_eq_ld, h2.read_unread, h3.read_unread, h6.read_unread, readCov_whole, readCov_within]
  refine head_pieces4 (normBlk x0 x1 (qGain x4)) 384 (by decide) _ _ ?_ ?_
  · intro p d
    refine normBlk_of_head (x := x0) (w := x1) (g := qGain x4) (p := p) (d := d) (c := fun e => ⟨256 + (128 + e.val), by omega⟩) ?_ 384
      (by decide) (by decide) (fun e => by show 256 + (128 + e.val) = 384 + e.val; omega) rfl rfl
    unfold_payloads
    pointwise [ldx, ldw, headNorm, qGain]
  refine head_pieces4 (normBlk x0 x1 (qGain x4)) 256 (by decide) _ _ ?_ ?_
  · intro p d
    refine normBlk_of_head (x := x0) (w := x1) (g := qGain x4) (p := p) (d := d) (c := fun e => ⟨256 + e.val, by omega⟩) ?_ 256
      (by decide) (by decide) (fun _ => rfl) rfl rfl
    unfold_payloads
    pointwise [ldx, ldw, headNorm, qGain]
  refine head_pieces4 (normBlk x0 x1 (qGain x4)) 128 (by decide) _ _ ?_ ?_
  · intro p d
    refine normBlk_of_head (x := x0) (w := x1) (g := qGain x4) (p := p) (d := d) (c := fun e => ⟨128 + e.val, by omega⟩) ?_ 128
      (by decide) (by decide) (fun _ => rfl) rfl rfl
    unfold_payloads
    pointwise [ldx, ldw, headNorm, qGain]
  refine head_pieces4 (normBlk x0 x1 (qGain x4)) 0 (by decide) _ _ ?_ ?_
  · intro p d
    refine normBlk_of_head (x := x0) (w := x1) (g := qGain x4) (p := p) (d := d) (c := fun e => ⟨e.val, by omega⟩) ?_ 0
      (by decide) (by decide) (fun e => by show e.val = 0 + e.val; omega) rfl rfl
    unfold_payloads
    pointwise [ldx, ldw, headNorm, qGain]
  trivial

set_option maxRecDepth 65536 in
/-- The first point: the keys. -/
theorem out_A_7 (hc : cond0_0 i) :
    out0_A_7 c i a2 h2 a3 h3 a4 h4 a5 h5 a6 h6 a7 h7 a8 h8 a9 h9 a10 h10 a11 h11 a12 h12 a13 h13 a14 h14 a15 h15 a16 h16 hc x0 x1 x2 x3 x4 x5 = clsArr 4 128 rfl (normBlk x0 x2 (kGain x5)) := by
  unfold out0_A_7
  rw [View.read_writes_eq_canon _ _ _ (fun _ => cover0_A_7 ..)]
  refine funext fun y => View.canon_apply_of_pieces (clsArr 4 128 rfl (normBlk x0 x2 (kGain x5))) _ (View.PiecesOf.mem ?_) y (cover0_A_7 (F := Ideal) ..)
  unfold kernelRun0_A
  dsimp only
  sl_unfold_words
  simp only [View.readAt_eq_ld, h2.read_unread, h4.read_unread, h7.read_unread, readCov_whole, readCov_within]
  refine head_pieces4 (normBlk x0 x2 (kGain x5)) 384 (by decide) _ _ ?_ ?_
  · intro p d
    refine normBlk_of_head (x := x0) (w := x2) (g := kGain x5) (p := p) (d := d) (c := fun e => ⟨256 + (128 + e.val), by omega⟩) ?_ 384
      (by decide) (by decide) (fun e => by show 256 + (128 + e.val) = 384 + e.val; omega) rfl rfl
    unfold_payloads
    pointwise [ldx, ldw, headNorm, kGain]
  refine head_pieces4 (normBlk x0 x2 (kGain x5)) 256 (by decide) _ _ ?_ ?_
  · intro p d
    refine normBlk_of_head (x := x0) (w := x2) (g := kGain x5) (p := p) (d := d) (c := fun e => ⟨256 + e.val, by omega⟩) ?_ 256
      (by decide) (by decide) (fun _ => rfl) rfl rfl
    unfold_payloads
    pointwise [ldx, ldw, headNorm, kGain]
  refine head_pieces4 (normBlk x0 x2 (kGain x5)) 128 (by decide) _ _ ?_ ?_
  · intro p d
    refine normBlk_of_head (x := x0) (w := x2) (g := kGain x5) (p := p) (d := d) (c := fun e => ⟨128 + e.val, by omega⟩) ?_ 128
      (by decide) (by decide) (fun _ => rfl) rfl rfl
    unfold_payloads
    pointwise [ldx, ldw, headNorm, kGain]
  refine head_pieces4 (normBlk x0 x2 (kGain x5)) 0 (by decide) _ _ ?_ ?_
  · intro p d
    refine normBlk_of_head (x := x0) (w := x2) (g := kGain x5) (p := p) (d := d) (c := fun e => ⟨e.val, by omega⟩) ?_ 0
      (by decide) (by decide) (fun e => by show e.val = 0 + e.val; omega) rfl rfl
    unfold_payloads
    pointwise [ldx, ldw, headNorm, kGain]
  trivial

set_option maxRecDepth 65536 in
/-- The first point: the values. -/
theorem out_A_8 (hc : cond0_0 i) :
    out0_A_8 c i a2 h2 a3 h3 a4 h4 a5 h5 a6 h6 a7 h7 a8 h8 a9 h9 a10 h10 a11 h11 a12 h12 a13 h13 a14 h14 a15 h15 a16 h16 hc x0 x1 x2 x3 x4 x5 = clsArr 4 128 rfl (projBlk x0 x3) := by
  unfold out0_A_8
  rw [View.read_writes_eq_canon _ _ _ (fun _ => cover0_A_8 ..)]
  refine funext fun y => View.canon_apply_of_pieces (clsArr 4 128 rfl (projBlk x0 x3)) _ (View.PiecesOf.mem ?_) y (cover0_A_8 (F := Ideal) ..)
  unfold kernelRun0_A
  dsimp only
  sl_unfold_words
  simp only [View.readAt_eq_ld, h2.read_unread, h5.read_unread, readCov_whole, readCov_within]
  refine head_pieces4 (projBlk x0 x3) 384 (by decide) _ _ ?_ ?_
  · intro p d
    refine projBlk_of_head (x := x0) (w := x3) (p := p) (n' := ⟨256 + (128 + d.val), by omega⟩) ?_ rfl (by show 384 + d.val = 256 + (128 + d.val); omega)
    unfold_payloads
    pointwise [ldx, ldw]
  refine head_pieces4 (projBlk x0 x3) 256 (by decide) _ _ ?_ ?_
  · intro p d
    refine projBlk_of_head (x := x0) (w := x3) (p := p) (n' := ⟨256 + d.val, by omega⟩) ?_ rfl rfl
    unfold_payloads
    pointwise [ldx, ldw]
  refine head_pieces4 (projBlk x0 x3) 128 (by decide) _ _ ?_ ?_
  · intro p d
    refine projBlk_of_head (x := x0) (w := x3) (p := p) (n' := ⟨128 + d.val, by omega⟩) ?_ rfl rfl
    unfold_payloads
    pointwise [ldx, ldw]
  refine head_pieces4 (projBlk x0 x3) 0 (by decide) _ _ ?_ ?_
  · intro p d
    refine projBlk_of_head (x := x0) (w := x3) (p := p) (n' := ⟨d.val, by omega⟩) ?_ rfl (by show 0 + d.val = d.val; omega)
    unfold_payloads
    pointwise [ldx, ldw]
  trivial

set_option maxRecDepth 65536 in
/-- The first point: all rows of the keys. -/
theorem out_A_9 (hc : cond0_0 i) :
    out0_A_9 c i a2 h2 a3 h3 a4 h4 a5 h5 a6 h6 a7 h7 a8 h8 a9 h9 a10 h10 a11 h11 a12 h12 a13 h13 a14 h14 a15 h15 a16 h16 hc x0 x1 x2 x3 x4 x5 = normAll x0 x2 (kGain x5) := by
  unfold out0_A_9
  rw [View.read_writes_eq_canon _ _ _ (fun _ => cover0_A_9 ..)]
  refine funext fun y => View.canon_apply_of_pieces (normAll x0 x2 (kGain x5)) _ (View.PiecesOf.mem ?_) y (cover0_A_9 (F := Ideal) ..)
  unfold kernelRun0_A
  dsimp only
  sl_unfold_words
  simp only [View.readAt_eq_ld, h2.read_unread, h4.read_unread, h7.read_unread, readCov_whole]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨256 + e.val, by omega⟩) ?_ 256
      (by decide) (by decide) (fun _ => rfl) (ats p.val) (at1 256 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨128 + e.val, by omega⟩) ?_ 128
      (by decide) (by decide) (fun _ => rfl) (ats p.val) (at1 128 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨e.val, by omega⟩) ?_ 0
      (by decide) (by decide) (fun e => by show e.val = 0 + e.val; omega) (ats p.val) (at1 0 d.val)
    unfold_payloads
    pointwise [ldx, ldw, headNorm, kGain]

set_option maxRecDepth 65536 in
/-- The first point: all rows of the values. -/
theorem out_A_10 (hc : cond0_0 i) :
    out0_A_10 c i a2 h2 a3 h3 a4 h4 a5 h5 a6 h6 a7 h7 a8 h8 a9 h9 a10 h10 a11 h11 a12 h12 a13 h13 a14 h14 a15 h15 a16 h16 hc x0 x1 x2 x3 x4 x5 = projAll x0 x3 := by
  unfold out0_A_10
  rw [View.read_writes_eq_canon _ _ _ (fun _ => cover0_A_10 ..)]
  refine funext fun y => View.canon_apply_of_pieces (projAll x0 x3) _ (View.PiecesOf.mem ?_) y (cover0_A_10 (F := Ideal) ..)
  unfold kernelRun0_A
  dsimp only
  sl_unfold_words
  simp only [View.readAt_eq_ld, h2.read_unread, h5.read_unread, readCov_whole]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨256 + (128 + d.val), by omega⟩) ?_ (ats p.val) (by show 384 + 1 * d.val = 256 + (128 + d.val); omega)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨256 + d.val, by omega⟩) ?_ (ats p.val) (at1 256 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨128 + d.val, by omega⟩) ?_ (ats p.val) (at1 128 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨d.val, by omega⟩) ?_ (ats p.val) (ats d.val)
    unfold_payloads
    pointwise [ldx, ldw]

set_option maxRecDepth 65536 in
/-- Every other point: the queries. -/
theorem out_B_6 (hc : ¬cond0_0 i) :
    out0_B_6 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = clsArr 4 128 rfl (normBlk x0 xs1 (qGain x4)) := by
  unfold out0_B_6
  rw [View.read_writes_eq_canon _ _ _ (fun _ => cover0_B_6 ..)]
  refine funext fun y => View.canon_apply_of_pieces (clsArr 4 128 rfl (normBlk x0 xs1 (qGain x4))) _ (View.PiecesOf.mem ?_) y (cover0_B_6 (F := Ideal) ..)
  unfold kernelRun0_B
  dsimp only
  sl_unfold_words
  simp only [View.readAt_eq_ld, h2.read_unread, h14.read_unread, h6.read_unread, readCov_within]
  refine head_pieces4 (normBlk x0 xs1 (qGain x4)) 384 (by decide) _ _ ?_ ?_
  · intro p d
    refine normBlk_of_head (x := x0) (w := xs1) (g := qGain x4) (p := p) (d := d) (c := fun e => ⟨256 + (128 + e.val), by omega⟩) ?_ 384
      (by decide) (by decide) (fun e => by show 256 + (128 + e.val) = 384 + e.val; omega) rfl rfl
    unfold_payloads
    pointwise [ldx, ldw, headNorm, qGain]
  refine head_pieces4 (normBlk x0 xs1 (qGain x4)) 256 (by decide) _ _ ?_ ?_
  · intro p d
    refine normBlk_of_head (x := x0) (w := xs1) (g := qGain x4) (p := p) (d := d) (c := fun e => ⟨256 + e.val, by omega⟩) ?_ 256
      (by decide) (by decide) (fun _ => rfl) rfl rfl
    unfold_payloads
    pointwise [ldx, ldw, headNorm, qGain]
  refine head_pieces4 (normBlk x0 xs1 (qGain x4)) 128 (by decide) _ _ ?_ ?_
  · intro p d
    refine normBlk_of_head (x := x0) (w := xs1) (g := qGain x4) (p := p) (d := d) (c := fun e => ⟨128 + e.val, by omega⟩) ?_ 128
      (by decide) (by decide) (fun _ => rfl) rfl rfl
    unfold_payloads
    pointwise [ldx, ldw, headNorm, qGain]
  refine head_pieces4 (normBlk x0 xs1 (qGain x4)) 0 (by decide) _ _ ?_ ?_
  · intro p d
    refine normBlk_of_head (x := x0) (w := xs1) (g := qGain x4) (p := p) (d := d) (c := fun e => ⟨e.val, by omega⟩) ?_ 0
      (by decide) (by decide) (fun e => by show e.val = 0 + e.val; omega) rfl rfl
    unfold_payloads
    pointwise [ldx, ldw, headNorm, qGain]
  trivial

set_option maxRecDepth 65536 in
/-- Every other point: the keys. -/
theorem out_B_7 (hc : ¬cond0_0 i) :
    out0_B_7 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = clsArr 4 128 rfl (normBlk x0 xs2 (kGain x5)) := by
  unfold out0_B_7
  rw [View.read_writes_eq_canon _ _ _ (fun _ => cover0_B_7 ..)]
  refine funext fun y => View.canon_apply_of_pieces (clsArr 4 128 rfl (normBlk x0 xs2 (kGain x5))) _ (View.PiecesOf.mem ?_) y (cover0_B_7 (F := Ideal) ..)
  unfold kernelRun0_B
  dsimp only
  sl_unfold_words
  simp only [View.readAt_eq_ld, h2.read_unread, h15.read_unread, h7.read_unread, readCov_within]
  refine head_pieces4 (normBlk x0 xs2 (kGain x5)) 384 (by decide) _ _ ?_ ?_
  · intro p d
    refine normBlk_of_head (x := x0) (w := xs2) (g := kGain x5) (p := p) (d := d) (c := fun e => ⟨256 + (128 + e.val), by omega⟩) ?_ 384
      (by decide) (by decide) (fun e => by show 256 + (128 + e.val) = 384 + e.val; omega) rfl rfl
    unfold_payloads
    pointwise [ldx, ldw, headNorm, kGain]
  refine head_pieces4 (normBlk x0 xs2 (kGain x5)) 256 (by decide) _ _ ?_ ?_
  · intro p d
    refine normBlk_of_head (x := x0) (w := xs2) (g := kGain x5) (p := p) (d := d) (c := fun e => ⟨256 + e.val, by omega⟩) ?_ 256
      (by decide) (by decide) (fun _ => rfl) rfl rfl
    unfold_payloads
    pointwise [ldx, ldw, headNorm, kGain]
  refine head_pieces4 (normBlk x0 xs2 (kGain x5)) 128 (by decide) _ _ ?_ ?_
  · intro p d
    refine normBlk_of_head (x := x0) (w := xs2) (g := kGain x5) (p := p) (d := d) (c := fun e => ⟨128 + e.val, by omega⟩) ?_ 128
      (by decide) (by decide) (fun _ => rfl) rfl rfl
    unfold_payloads
    pointwise [ldx, ldw, headNorm, kGain]
  refine head_pieces4 (normBlk x0 xs2 (kGain x5)) 0 (by decide) _ _ ?_ ?_
  · intro p d
    refine normBlk_of_head (x := x0) (w := xs2) (g := kGain x5) (p := p) (d := d) (c := fun e => ⟨e.val, by omega⟩) ?_ 0
      (by decide) (by decide) (fun e => by show e.val = 0 + e.val; omega) rfl rfl
    unfold_payloads
    pointwise [ldx, ldw, headNorm, kGain]
  trivial

set_option maxRecDepth 65536 in
/-- Every other point: the values. -/
theorem out_B_8 (hc : ¬cond0_0 i) :
    out0_B_8 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = clsArr 4 128 rfl (projBlk x0 xs3) := by
  unfold out0_B_8
  rw [View.read_writes_eq_canon _ _ _ (fun _ => cover0_B_8 ..)]
  refine funext fun y => View.canon_apply_of_pieces (clsArr 4 128 rfl (projBlk x0 xs3)) _ (View.PiecesOf.mem ?_) y (cover0_B_8 (F := Ideal) ..)
  unfold kernelRun0_B
  dsimp only
  sl_unfold_words
  simp only [View.readAt_eq_ld, h2.read_unread, h16.read_unread, readCov_within]
  refine head_pieces4 (projBlk x0 xs3) 384 (by decide) _ _ ?_ ?_
  · intro p d
    refine projBlk_of_head (x := x0) (w := xs3) (p := p) (n' := ⟨256 + (128 + d.val), by omega⟩) ?_ rfl (by show 384 + d.val = 256 + (128 + d.val); omega)
    unfold_payloads
    pointwise [ldx, ldw]
  refine head_pieces4 (projBlk x0 xs3) 256 (by decide) _ _ ?_ ?_
  · intro p d
    refine projBlk_of_head (x := x0) (w := xs3) (p := p) (n' := ⟨256 + d.val, by omega⟩) ?_ rfl rfl
    unfold_payloads
    pointwise [ldx, ldw]
  refine head_pieces4 (projBlk x0 xs3) 128 (by decide) _ _ ?_ ?_
  · intro p d
    refine projBlk_of_head (x := x0) (w := xs3) (p := p) (n' := ⟨128 + d.val, by omega⟩) ?_ rfl rfl
    unfold_payloads
    pointwise [ldx, ldw]
  refine head_pieces4 (projBlk x0 xs3) 0 (by decide) _ _ ?_ ?_
  · intro p d
    refine projBlk_of_head (x := x0) (w := xs3) (p := p) (n' := ⟨d.val, by omega⟩) ?_ rfl (by show 0 + d.val = d.val; omega)
    unfold_payloads
    pointwise [ldx, ldw]
  trivial

set_option maxRecDepth 65536 in
/-- Every other point: all rows of the keys. -/
theorem out_B_9 (hc : ¬cond0_0 i) :
    out0_B_9 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = normAll x0 xs2 (kGain x5) := by
  unfold out0_B_9
  rw [View.read_writes_eq_canon _ _ _ (fun _ => cover0_B_9 ..)]
  refine funext fun y => View.canon_apply_of_pieces (normAll x0 xs2 (kGain x5)) _ (View.PiecesOf.mem ?_) y (cover0_B_9 (F := Ideal) ..)
  unfold kernelRun0_B
  dsimp only
  sl_unfold_words
  simp only [View.readAt_eq_ld, h2.read_unread, h15.read_unread, h7.read_unread]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨256 + e.val, by omega⟩) ?_ 256
      (by decide) (by decide) (fun _ => rfl) (ats p.val) (at1 256 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨128 + e.val, by omega⟩) ?_ 128
      (by decide) (by decide) (fun _ => rfl) (ats p.val) (at1 128 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨e.val, by omega⟩) ?_ 0
      (by decide) (by decide) (fun e => by show e.val = 0 + e.val; omega) (ats p.val) (at1 0 d.val)
    unfold_payloads
    pointwise [ldx, ldw, headNorm, kGain]

set_option maxRecDepth 65536 in
/-- Every other point: all rows of the values. -/
theorem out_B_10 (hc : ¬cond0_0 i) :
    out0_B_10 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = projAll x0 xs3 := by
  unfold out0_B_10
  rw [View.read_writes_eq_canon _ _ _ (fun _ => cover0_B_10 ..)]
  refine funext fun y => View.canon_apply_of_pieces (projAll x0 xs3) _ (View.PiecesOf.mem ?_) y (cover0_B_10 (F := Ideal) ..)
  unfold kernelRun0_B
  dsimp only
  sl_unfold_words
  simp only [View.readAt_eq_ld, h2.read_unread, h16.read_unread]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨256 + (128 + d.val), by omega⟩) ?_ (ats p.val) (by show 384 + 1 * d.val = 256 + (128 + d.val); omega)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨256 + d.val, by omega⟩) ?_ (ats p.val) (at1 256 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨128 + d.val, by omega⟩) ?_ (ats p.val) (at1 128 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨d.val, by omega⟩) ?_ (ats p.val) (ats d.val)
    unfold_payloads
    pointwise [ldx, ldw]

/-- The first point fills weight copy 1. -/
theorem sout_A_1 (hc : cond0_0 i) :
    sout0_A_1 c i a2 h2 a3 h3 a4 h4 a5 h5 a6 h6 a7 h7 a8 h8 a9 h9 a10 h10 a11 h11 a12 h12 a13 h13 a14 h14 a15 h15 a16 h16 hc x0 x1 x2 x3 x4 x5 = x1 := by
  unfold sout0_A_1
  rw [View.read_writes_junk_eq_canon]
  unfold kernelRun0_A
  dsimp only
  sl_unfold_words
  rw [View.canon_unit_zero hz]
  unfold_payloads
  simp only [View.readAt_eq_ld, h3.read_unread, View.ld_unit_zero (S := S2048x512) hz, shapeCast_self]
  rfl

/-- The first point fills weight copy 2. -/
theorem sout_A_2 (hc : cond0_0 i) :
    sout0_A_2 c i a2 h2 a3 h3 a4 h4 a5 h5 a6 h6 a7 h7 a8 h8 a9 h9 a10 h10 a11 h11 a12 h12 a13 h13 a14 h14 a15 h15 a16 h16 hc x0 x1 x2 x3 x4 x5 = x2 := by
  unfold sout0_A_2
  rw [View.read_writes_junk_eq_canon]
  unfold kernelRun0_A
  dsimp only
  sl_unfold_words
  rw [View.canon_unit_zero hz]
  unfold_payloads
  simp only [View.readAt_eq_ld, h4.read_unread, View.ld_unit_zero (S := S2048x512) hz, shapeCast_self]
  rfl

/-- The first point fills weight copy 3. -/
theorem sout_A_3 (hc : cond0_0 i) :
    sout0_A_3 c i a2 h2 a3 h3 a4 h4 a5 h5 a6 h6 a7 h7 a8 h8 a9 h9 a10 h10 a11 h11 a12 h12 a13 h13 a14 h14 a15 h15 a16 h16 hc x0 x1 x2 x3 x4 x5 = x3 := by
  unfold sout0_A_3
  rw [View.read_writes_junk_eq_canon]
  unfold kernelRun0_A
  dsimp only
  sl_unfold_words
  rw [View.canon_unit_zero hz]
  unfold_payloads
  simp only [View.readAt_eq_ld, h5.read_unread, View.ld_unit_zero (S := S2048x512) hz, shapeCast_self]
  rfl

end Cert.D1Ideal.Blk

end
-- ==== Proof.D1Arrays.lean ====
/-
  What the dilated projection of group 1 leaves in its five result arrays, in terms of the arrays it starts from.
-/
module

public import proofs.«01_k».proof.Proof.D1Blocks
public import proofs.«01_k».proof.Proof.Gen.D1Ideal.Value
public import Idealize.ShloMosaic.Lib.Pipeline.ValueKit.Geometry

@[expose] public section

noncomputable section

open Idealize.ShloMosaic Idealize.ShloMosaic.TcCoe Idealize.SL.Sem

namespace Cert.D1Ideal.Arr

open Cert.D1Ideal Cert.D1Ideal.Gen Cert.D1Ideal.Value Cert.D1Ideal.Blk Cert.Dil

variable (m : (ℓ : Loc nD τ sig) → Buf (Elt Ideal) ℓ) (c : Dev nD)

/-- The activations, the weights and the two norm weights the run starts from. -/
abbrev u : Vec Ideal S2x8192x2048 .bf16 := m ((c : Thread nD τ).loc main_arg0)
abbrev w : Vec Ideal S2048x12800 .f32 := m ((c : Thread nD τ).loc main_arg1)
abbrev qn : Vec Ideal S128 .f32 := m ((c : Thread nD τ).loc main_arg2)
abbrev kn : Vec Ideal S128 .f32 := m ((c : Thread nD τ).loc main_arg3)

theorem V_v0 : V m c main_v0 = (shapeCast _ (u m c) shapeCasts_S2x8192x2048_S16384x2048 : Vec Ideal S16384x2048 .bf16) := by
  unfold_abbrev_sides
  after_results
  rfl

theorem V_v1 : V m c main_v1 = (shapeCast _ (qn m c) shapeCasts_S128_S1x128 : Vec Ideal S1x128 .f32) := by
  unfold_abbrev_sides
  after_results
  rfl

theorem V_v2 : V m c main_v2 = (shapeCast _ (kn m c) shapeCasts_S128_S1x128 : Vec Ideal S1x128 .f32) := by
  unfold_abbrev_sides
  after_results
  rfl

/-- Where each block starts, at every point. -/
theorem index_facts : ∀ t : Fin cfg0.N, win0_0.index t 0 = t.val ∧ win0_0.index t 1 = 0
    ∧ win0_1.index t 0 = 0 ∧ win0_1.index t 1 = 4608 ∧ win0_2.index t 0 = 0 ∧ win0_2.index t 1 = 6144
    ∧ win0_3.index t 0 = 0 ∧ win0_3.index t 1 = 7680 ∧ win0_4.index t 0 = 0 ∧ win0_4.index t 1 = 0
    ∧ win0_5.index t 0 = 0 ∧ win0_5.index t 1 = 0 :=
  (by decide +kernel : ∀ t : Fin grid0.N, _)

theorem index6 : ∀ t : Fin cfg0.N, win0_6.index t 0 = t.val / 16 ∧ win0_6.index t 1 = 0
    ∧ win0_6.index t 2 = t.val % 16 ∧ win0_6.index t 3 = 0 :=
  (by decide +kernel : ∀ t : Fin grid0.N, _)

theorem index7 : ∀ t : Fin cfg0.N, win0_7.index t 0 = t.val / 16 ∧ win0_7.index t 1 = 0
    ∧ win0_7.index t 2 = t.val % 16 ∧ win0_7.index t 3 = 0 :=
  (by decide +kernel : ∀ t : Fin grid0.N, _)

theorem index8 : ∀ t : Fin cfg0.N, win0_8.index t 0 = t.val / 16 ∧ win0_8.index t 1 = 0
    ∧ win0_8.index t 2 = t.val % 16 ∧ win0_8.index t 3 = 0 :=
  (by decide +kernel : ∀ t : Fin grid0.N, _)

theorem index9 : ∀ t : Fin cfg0.N, win0_9.index t 0 = t.val / 16 ∧ win0_9.index t 1 = t.val % 16 - 15
    ∧ win0_9.index t 2 = 0 :=
  (by decide +kernel : ∀ t : Fin grid0.N, _)

/-- Which points write their block of the last rows back. -/
theorem flush9 : ∀ t : Fin cfg0.N, (cfg0.win 9).flush t = true → 15 ≤ t.val % 16 :=
  (by decide +kernel : ∀ t : Fin grid0.N, _)

theorem index10 : ∀ t : Fin cfg0.N, win0_10.index t 0 = t.val / 16 ∧ win0_10.index t 1 = t.val % 16 - 15
    ∧ win0_10.index t 2 = 0 :=
  (by decide +kernel : ∀ t : Fin grid0.N, _)

/-- Which points write their block of the last rows back. -/
theorem flush10 : ∀ t : Fin cfg0.N, (cfg0.win 10).flush t = true → 15 ≤ t.val % 16 :=
  (by decide +kernel : ∀ t : Fin grid0.N, _)

/-- A grid point's number. -/
abbrev num (t : Fin cfg0.N) : Fin 32 := ⟨t.val, lt_of_lt_of_eq t.isLt (show cfg0.N = 32 from N_0)⟩

theorem iblk0 (t : Fin cfg0.N) : (iblk m c 0 t : Vec Ideal S512x2048 .bf16) = rows (u m c) (num t) := by
  funext j
  obtain ⟨p, k, rfl⟩ : ∃ (p : Fin 512) (k : Fin 2048), j = ix2 p k := ⟨j 0, j 1, eq_ix2 j⟩
  obtain ⟨h0, h1, _⟩ := index_facts t
  have hN : t.val < 32 := lt_of_lt_of_eq t.isLt (show cfg0.N = 32 from N_0)
  unfold iblk
  rw [View.read_apply]
  show V m c main_v0 _ = _
  rw [V_v0]
  have e : ((cfg0.win 0).blk t).view.emb (ix2 p k) = (ix2 ⟨512 * t.val + p.val, by omega⟩ k : S16384x2048.Idx) := by
    funext a
    apply Fin.ext
    match a with
    | ⟨0, _⟩ => show win0_0.index t 0 * 512 + 1 * p.val = 512 * t.val + p.val; omega
    | ⟨1, _⟩ => show win0_0.index t 1 * 2048 + 1 * k.val = k.val; omega
  rw [e]
  pointwise
  rfl

theorem iblk1 (t : Fin cfg0.N) : (iblk m c 1 t : Vec Ideal S2048x512 .f32) = cols (w m c) 4608 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨4608 + n.val, _⟩)
  congr 1
  funext a
  apply Fin.ext
  match a with
  | ⟨0, _⟩ => show win0_1.index t 0 + 1 * k.val = k.val; omega
  | ⟨1, _⟩ => show win0_1.index t 1 + 1 * n.val = 4608 + n.val; omega

theorem iblk2 (t : Fin cfg0.N) : (iblk m c 2 t : Vec Ideal S2048x512 .f32) = cols (w m c) 6144 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨6144 + n.val, _⟩)
  congr 1
  funext a
  apply Fin.ext
  match a with
  | ⟨0, _⟩ => show win0_2.index t 0 + 1 * k.val = k.val; omega
  | ⟨1, _⟩ => show win0_2.index t 1 + 1 * n.val = 6144 + n.val; omega

theorem iblk3 (t : Fin cfg0.N) : (iblk m c 3 t : Vec Ideal S2048x512 .f32) = cols (w m c) 7680 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨7680 + n.val, _⟩)
  congr 1
  funext a
  apply Fin.ext
  match a with
  | ⟨0, _⟩ => show win0_3.index t 0 + 1 * k.val = k.val; omega
  | ⟨1, _⟩ => show win0_3.index t 1 + 1 * n.val = 7680 + n.val; omega

theorem iblk4 (t : Fin cfg0.N) : (iblk m c 4 t : Vec Ideal S1x128 .f32) = asRow (qn m c) := by
  funext j
  obtain ⟨z, d, rfl⟩ : ∃ (z : Fin 1) (d : Fin 128), j = ix2 z d := ⟨j 0, j 1, eq_ix2 j⟩
  have h := index_facts t
  unfold iblk
  rw [View.read_apply]
  show V m c main_v1 _ = _
  rw [V_v1]
  have e : ((cfg0.win 4).blk t).view.emb (ix2 z d) = (ix2 z d : S1x128.Idx) := by
    funext a
    apply Fin.ext
    match a with
    | ⟨0, _⟩ => show win0_4.index t 0 * 1 + 1 * z.val = z.val; omega
    | ⟨1, _⟩ => show win0_4.index t 1 * 128 + 1 * d.val = d.val; omega
  rw [e]
  pointwise
  rfl

theorem iblk5 (t : Fin cfg0.N) : (iblk m c 5 t : Vec Ideal S1x128 .f32) = asRow (kn m c) := by
  funext j
  obtain ⟨z, d, rfl⟩ : ∃ (z : Fin 1) (d : Fin 128), j = ix2 z d := ⟨j 0, j 1, eq_ix2 j⟩
  have h := index_facts t
  unfold iblk
  rw [View.read_apply]
  show V m c main_v2 _ = _
  rw [V_v2]
  have e : ((cfg0.win 5).blk t).view.emb (ix2 z d) = (ix2 z d : S1x128.Idx) := by
    funext a
    apply Fin.ext
    match a with
    | ⟨0, _⟩ => show win0_5.index t 0 * 1 + 1 * z.val = z.val; omega
    | ⟨1, _⟩ => show win0_5.index t 1 * 128 + 1 * d.val = d.val; omega
  rw [e]
  pointwise
  rfl

/-- What a point leaves: the five output blocks of the rows it reads, and the three weight copies. -/
def left (t : Fin 32) : Vec Ideal S1x4x128x512 .bf16 × Vec Ideal S1x4x128x512 .bf16 × Vec Ideal S1x4x128x512 .bf16
    × Vec Ideal S1x512x512 .f32 × Vec Ideal S1x512x512 .f32
    × Vec Ideal S2048x512 .bf16 × Vec Ideal S2048x512 .bf16 × Vec Ideal S2048x512 .bf16 :=
  (clsArr 4 128 rfl (normBlk (rows (u m c) t) (cols (w m c) 4608 (by decide)) (qGain (asRow (qn m c)))),
   clsArr 4 128 rfl (normBlk (rows (u m c) t) (cols (w m c) 6144 (by decide)) (kGain (asRow (kn m c)))),
   clsArr 4 128 rfl (projBlk (rows (u m c) t) (cols (w m c) 7680 (by decide))),
   normAll (rows (u m c) t) (cols (w m c) 6144 (by decide)) (kGain (asRow (kn m c))),
   projAll (rows (u m c) t) (cols (w m c) 7680 (by decide)),
   cols (w m c) 4608 (by decide), cols (w m c) 6144 (by decide), cols (w m c) 7680 (by decide))

/-- After every point the run has left that. -/
theorem outs_eq : ∀ (n : ℕ) (h : n < cfg0.N), outsAt0 m c n h = left m c (num ⟨n, h⟩)
  | 0, h => by
    rw [outsAt0_A m c ⟨0, h⟩ rfl, out_A_6, out_A_7, out_A_8, out_A_9, out_A_10, sout_A_1, sout_A_2, sout_A_3,
      iblk0, iblk1, iblk2, iblk3, iblk4, iblk5]
    rfl
  | n + 1, h => by
    have hN : n + 1 < 32 := lt_of_lt_of_eq h (show cfg0.N = 32 from N_0)
    have hB : ¬(⟨n + 1, h⟩ : Fin cfg0.N).val % 32 = 0 := by dsimp only; omega
    have ih : outsAt0 m c ((⟨n + 1, h⟩ : Fin cfg0.N).val - 1) (by dsimp only; omega) = left m c (num ⟨n, Nat.lt_of_succ_lt h⟩) :=
      outs_eq n (Nat.lt_of_succ_lt h)
    rw [outsAt0_B m c ⟨n + 1, h⟩ hB, ih, out_B_6, out_B_7, out_B_8, out_B_9, out_B_10,
      iblk0, iblk1, iblk2, iblk3, iblk4, iblk5]
    rfl

/-- Result 1 of the call. -/
theorem arr6 : (dats m 0 c).arrAt 6 cfg0.N = (normSorted 4 2048 (by decide) (u m c) (w m c) 4608 (by decide) (qGain (asRow (qn m c))) : Vec Ideal S2x4x2048x512 .bf16) := by
  refine (dats m 0 c).arrAt_eq_of_covers 6 _ (by decide +kernel) fun t hf y => ?_
  rw [after0_6, outs_eq]
  obtain ⟨z, a, q, n, rfl⟩ : ∃ (z : Fin 1) (a : Fin 4) (q : Fin 128) (n : Fin 512), y = (ix4 z a q n : S1x4x128x512.Idx) := ⟨y 0, y 1, y 2, y 3, eq_ix4 y⟩
  obtain ⟨i0, i1, i2, i3⟩ := index6 t
  have hN : t.val < 32 := lt_of_lt_of_eq t.isLt (show cfg0.N = 32 from N_0)
  have e : ((cfg0.win 6).blk t).view.emb (ix4 z a q n : S1x4x128x512.Idx)
      = (ix4 ⟨t.val / 16, by omega⟩ a ⟨t.val % 16 * 128 + q.val, by omega⟩ n : S2x4x2048x512.Idx) := by
    funext b
    apply Fin.ext
    match b with
    | ⟨0, _⟩ => show win0_6.index t 0 * 1 + 1 * z.val = t.val / 16; omega
    | ⟨1, _⟩ => show win0_6.index t 1 * 4 + 1 * a.val = a.val; omega
    | ⟨2, _⟩ => show win0_6.index t 2 * 128 + 1 * q.val = t.val % 16 * 128 + q.val; omega
    | ⟨3, _⟩ => show win0_6.index t 3 * 512 + 1 * n.val = n.val; omega
  rw [e]
  exact normBlk_rows (u m c) (w m c) 4608 (by decide) (qGain (asRow (qn m c))) (b := ⟨t.val / 16, by omega⟩)
    (l := ⟨(t.val % 16 * 128 + q.val) * 4 + a.val, by omega⟩) (t := num t) (p := ⟨q.val * 4 + a.val, by omega⟩) (by
      show 512 * t.val + (q.val * 4 + a.val) = 8192 * (t.val / 16) + ((t.val % 16 * 128 + q.val) * 4 + a.val)
      omega) n

/-- Result 2 of the call. -/
theorem arr7 : (dats m 0 c).arrAt 7 cfg0.N = (normSorted 4 2048 (by decide) (u m c) (w m c) 6144 (by decide) (kGain (asRow (kn m c))) : Vec Ideal S2x4x2048x512 .bf16) := by
  refine (dats m 0 c).arrAt_eq_of_covers 7 _ (by decide +kernel) fun t hf y => ?_
  rw [after0_7, outs_eq]
  obtain ⟨z, a, q, n, rfl⟩ : ∃ (z : Fin 1) (a : Fin 4) (q : Fin 128) (n : Fin 512), y = (ix4 z a q n : S1x4x128x512.Idx) := ⟨y 0, y 1, y 2, y 3, eq_ix4 y⟩
  obtain ⟨i0, i1, i2, i3⟩ := index7 t
  have hN : t.val < 32 := lt_of_lt_of_eq t.isLt (show cfg0.N = 32 from N_0)
  have e : ((cfg0.win 7).blk t).view.emb (ix4 z a q n : S1x4x128x512.Idx)
      = (ix4 ⟨t.val / 16, by omega⟩ a ⟨t.val % 16 * 128 + q.val, by omega⟩ n : S2x4x2048x512.Idx) := by
    funext b
    apply Fin.ext
    match b with
    | ⟨0, _⟩ => show win0_7.index t 0 * 1 + 1 * z.val = t.val / 16; omega
    | ⟨1, _⟩ => show win0_7.index t 1 * 4 + 1 * a.val = a.val; omega
    | ⟨2, _⟩ => show win0_7.index t 2 * 128 + 1 * q.val = t.val % 16 * 128 + q.val; omega
    | ⟨3, _⟩ => show win0_7.index t 3 * 512 + 1 * n.val = n.val; omega
  rw [e]
  exact normBlk_rows (u m c) (w m c) 6144 (by decide) (kGain (asRow (kn m c))) (b := ⟨t.val / 16, by omega⟩)
    (l := ⟨(t.val % 16 * 128 + q.val) * 4 + a.val, by omega⟩) (t := num t) (p := ⟨q.val * 4 + a.val, by omega⟩) (by
      show 512 * t.val + (q.val * 4 + a.val) = 8192 * (t.val / 16) + ((t.val % 16 * 128 + q.val) * 4 + a.val)
      omega) n

/-- Result 3 of the call. -/
theorem arr8 : (dats m 0 c).arrAt 8 cfg0.N = (projSorted 4 2048 (by decide) (u m c) (w m c) 7680 (by decide) : Vec Ideal S2x4x2048x512 .bf16) := by
  refine (dats m 0 c).arrAt_eq_of_covers 8 _ (by decide +kernel) fun t hf y => ?_
  rw [after0_8, outs_eq]
  obtain ⟨z, a, q, n, rfl⟩ : ∃ (z : Fin 1) (a : Fin 4) (q : Fin 128) (n : Fin 512), y = (ix4 z a q n : S1x4x128x512.Idx) := ⟨y 0, y 1, y 2, y 3, eq_ix4 y⟩
  obtain ⟨i0, i1, i2, i3⟩ := index8 t
  have hN : t.val < 32 := lt_of_lt_of_eq t.isLt (show cfg0.N = 32 from N_0)
  have e : ((cfg0.win 8).blk t).view.emb (ix4 z a q n : S1x4x128x512.Idx)
      = (ix4 ⟨t.val / 16, by omega⟩ a ⟨t.val % 16 * 128 + q.val, by omega⟩ n : S2x4x2048x512.Idx) := by
    funext b
    apply Fin.ext
    match b with
    | ⟨0, _⟩ => show win0_8.index t 0 * 1 + 1 * z.val = t.val / 16; omega
    | ⟨1, _⟩ => show win0_8.index t 1 * 4 + 1 * a.val = a.val; omega
    | ⟨2, _⟩ => show win0_8.index t 2 * 128 + 1 * q.val = t.val % 16 * 128 + q.val; omega
    | ⟨3, _⟩ => show win0_8.index t 3 * 512 + 1 * n.val = n.val; omega
  rw [e]
  exact projBlk_rows (u m c) (w m c) 7680 (by decide) (b := ⟨t.val / 16, by omega⟩)
    (l := ⟨(t.val % 16 * 128 + q.val) * 4 + a.val, by omega⟩) (t := num t) (p := ⟨q.val * 4 + a.val, by omega⟩) (by
      show 512 * t.val + (q.val * 4 + a.val) = 8192 * (t.val / 16) + ((t.val % 16 * 128 + q.val) * 4 + a.val)
      omega) n

/-- Result 4 of the call. -/
theorem arr9 : (dats m 0 c).arrAt 9 cfg0.N = (normLastN 512 7680 (by decide) (u m c) (w m c) 6144 (by decide) (kGain (asRow (kn m c))) : Vec Ideal S2x512x512 .f32) := by
  refine (dats m 0 c).arrAt_eq_of_covers 9 _ (by decide +kernel) fun t hf y => ?_
  rw [after0_9, outs_eq]
  obtain ⟨z, a, n, rfl⟩ : ∃ (z : Fin 1) (a : Fin 512) (n : Fin 512), y = (ix3 z a n : S1x512x512.Idx) := ⟨y 0, y 1, y 2, eq_ix3 y⟩
  obtain ⟨i0, i1, i2⟩ := index9 t
  have hfl := flush9 t hf
  have hN : t.val < 32 := lt_of_lt_of_eq t.isLt (show cfg0.N = 32 from N_0)
  have e : ((cfg0.win 9).blk t).view.emb (ix3 z a n : S1x512x512.Idx)
      = (ix3 ⟨t.val / 16, by omega⟩ ⟨(t.val % 16 - 15) * 512 + a.val, by omega⟩ n : S2x512x512.Idx) := by
    funext b
    apply Fin.ext
    match b with
    | ⟨0, _⟩ => show win0_9.index t 0 * 1 + 1 * z.val = t.val / 16; omega
    | ⟨1, _⟩ => show win0_9.index t 1 * 512 + 1 * a.val = (t.val % 16 - 15) * 512 + a.val; omega
    | ⟨2, _⟩ => show win0_9.index t 2 * 512 + 1 * n.val = n.val; omega
  rw [e]
  exact normBlk_rows (u m c) (w m c) 6144 (by decide) (kGain (asRow (kn m c))) (b := ⟨t.val / 16, by omega⟩)
    (l := ⟨7680 + ((t.val % 16 - 15) * 512 + a.val), by omega⟩) (t := num t) (p := a) (by
      show 512 * t.val + a.val = 8192 * (t.val / 16) + (7680 + ((t.val % 16 - 15) * 512 + a.val))
      omega) n

/-- Result 5 of the call. -/
theorem arr10 : (dats m 0 c).arrAt 10 cfg0.N = (projLastN 512 7680 (by decide) (u m c) (w m c) 7680 (by decide) : Vec Ideal S2x512x512 .f32) := by
  refine (dats m 0 c).arrAt_eq_of_covers 10 _ (by decide +kernel) fun t hf y => ?_
  rw [after0_10, outs_eq]
  obtain ⟨z, a, n, rfl⟩ : ∃ (z : Fin 1) (a : Fin 512) (n : Fin 512), y = (ix3 z a n : S1x512x512.Idx) := ⟨y 0, y 1, y 2, eq_ix3 y⟩
  obtain ⟨i0, i1, i2⟩ := index10 t
  have hfl := flush10 t hf
  have hN : t.val < 32 := lt_of_lt_of_eq t.isLt (show cfg0.N = 32 from N_0)
  have e : ((cfg0.win 10).blk t).view.emb (ix3 z a n : S1x512x512.Idx)
      = (ix3 ⟨t.val / 16, by omega⟩ ⟨(t.val % 16 - 15) * 512 + a.val, by omega⟩ n : S2x512x512.Idx) := by
    funext b
    apply Fin.ext
    match b with
    | ⟨0, _⟩ => show win0_10.index t 0 * 1 + 1 * z.val = t.val / 16; omega
    | ⟨1, _⟩ => show win0_10.index t 1 * 512 + 1 * a.val = (t.val % 16 - 15) * 512 + a.val; omega
    | ⟨2, _⟩ => show win0_10.index t 2 * 512 + 1 * n.val = n.val; omega
  rw [e]
  exact projBlk_rows (u m c) (w m c) 7680 (by decide) (b := ⟨t.val / 16, by omega⟩)
    (l := ⟨7680 + ((t.val % 16 - 15) * 512 + a.val), by omega⟩) (t := num t) (p := a) (by
      show 512 * t.val + a.val = 8192 * (t.val / 16) + (7680 + ((t.val % 16 - 15) * 512 + a.val))
      omega) n

/-- The run's results, and its arguments kept. -/
theorem run_read (ρ : Dev nD → PrngReg) : θ_run defs (onTc (τ := τ) (main (F := Ideal))) ⟨m, fun _ => 0, ρ⟩ fun r => ∀ c : Dev nD,
      r.2.mem ((c : Thread nD τ).loc main_v3_0) = normSorted 4 2048 (by decide) (u m c) (w m c) 4608 (by decide) (qGain (asRow (qn m c)))
      ∧ r.2.mem ((c : Thread nD τ).loc main_v3_1) = normSorted 4 2048 (by decide) (u m c) (w m c) 6144 (by decide) (kGain (asRow (kn m c)))
      ∧ r.2.mem ((c : Thread nD τ).loc main_v3_2) = projSorted 4 2048 (by decide) (u m c) (w m c) 7680 (by decide)
      ∧ r.2.mem ((c : Thread nD τ).loc main_v3_3) = normLastN 512 7680 (by decide) (u m c) (w m c) 6144 (by decide) (kGain (asRow (kn m c)))
      ∧ r.2.mem ((c : Thread nD τ).loc main_v3_4) = projLastN 512 7680 (by decide) (u m c) (w m c) 7680 (by decide)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (arr6 m c), (post7 m r h c).trans (arr7 m c),
    (post8 m r h c).trans (arr8 m c), (post9 m r h c).trans (arr9 m c), (post10 m r h c).trans (arr10 m c),
    kept_main_arg0 m r h c, kept_main_arg1 m r h c, kept_main_arg2 m r h c, kept_main_arg3 m r h c⟩) (run_main m ρ)

end Cert.D1Ideal.Arr

end
-- ==== Proof.R1Arrays.lean ====
/-
  The reference of group 1's projection, read at an index: its five results are the whole-array functions of `Dil`.
-/
module

public import proofs.«01_k».proof.Proof.Dil
public import proofs.«01_k».proof.Proof.Gen.R1Ideal.Run

@[expose] public section

noncomputable section

open Idealize.ShloMosaic Idealize.ShloMosaic.TcCoe Idealize.SL.Sem

namespace Cert.R1Ideal.Arr

open Cert.R1Ideal Cert.R1Ideal.Gen Cert.R1Ideal.Value Cert.Dil

variable (m : (ℓ : Loc nD τ sig) → Buf (Elt Ideal) ℓ) (ρ : Dev nD → PrngReg)

abbrev u (c : Dev nD) : Vec Ideal S2x8192x2048 .bf16 := m ((c.tc : Thread nD τ).loc main_arg0)
abbrev w (c : Dev nD) : Vec Ideal S2048x12800 .f32 := m ((c.tc : Thread nD τ).loc main_arg1)
abbrev qn (c : Dev nD) : Vec Ideal S128 .f32 := m ((c.tc : Thread nD τ).loc main_arg2)
abbrev kn (c : Dev nD) : Vec Ideal S128 .f32 := m ((c.tc : Thread nD τ).loc main_arg3)

theorem run_read : θ_run defs (onTc (τ := τ) (main (F := Ideal))) ⟨m, fun _ => 0, ρ⟩ fun r => ∀ c : Dev nD,
      r.2.mem ((c.tc : Thread nD τ).loc main_v41) = normSorted 4 2048 (by decide) (u m c) (w m c) 4608 (by decide) (qGain (asRow (qn m c)))
      ∧ r.2.mem ((c.tc : Thread nD τ).loc main_v45) = normSorted 4 2048 (by decide) (u m c) (w m c) 6144 (by decide) (kGain (asRow (kn m c)))
      ∧ r.2.mem ((c.tc : Thread nD τ).loc main_v49) = projSorted 4 2048 (by decide) (u m c) (w m c) 7680 (by decide)
      ∧ r.2.mem ((c.tc : Thread nD τ).loc main_v51) = normLastN 512 7680 (by decide) (u m c) (w m c) 6144 (by decide) (kGain (asRow (kn m c)))
      ∧ r.2.mem ((c.tc : Thread nD τ).loc main_v53) = projLastN 512 7680 (by decide) (u m c) (w m c) 7680 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h1, h2, h3, h4, h5, h6⟩ := h c
  refine ⟨h1.trans ?_, h2.trans ?_, h3.trans ?_, h4.trans ?_, h5.trans ?_, h6⟩
  · funext i
    obtain ⟨b, t, j, n, rfl⟩ : ∃ (b : Fin 2) (t : Fin 4) (j : Fin 2048) (n : Fin 512), i = ix4 b t j n := ⟨i 0, i 1, i 2, i 3, eq_ix4 i⟩
    show _ = fullNorm (u m c) (w m c) 4608 (by decide) (qGain (asRow (qn m c))) b ⟨j.val * 4 + t.val, by omega⟩ n
    rw [fullNorm_eq]
    pointwise [fullProj, qGain, asRow, col]
    exact mul_assoc _ _ _
  · funext i
    obtain ⟨b, t, j, n, rfl⟩ : ∃ (b : Fin 2) (t : Fin 4) (j : Fin 2048) (n : Fin 512), i = ix4 b t j n := ⟨i 0, i 1, i 2, i 3, eq_ix4 i⟩
    show _ = fullNorm (u m c) (w m c) 6144 (by decide) (kGain (asRow (kn m c))) b ⟨j.val * 4 + t.val, by omega⟩ n
    rw [fullNorm_eq]
    pointwise [fullProj, kGain, asRow, col]
  · funext i
    obtain ⟨b, t, j, n, rfl⟩ : ∃ (b : Fin 2) (t : Fin 4) (j : Fin 2048) (n : Fin 512), i = ix4 b t j n := ⟨i 0, i 1, i 2, i 3, eq_ix4 i⟩
    show _ = fullProj (u m c) (w m c) 7680 (by decide)  b ⟨j.val * 4 + t.val, by omega⟩ n
    pointwise [fullProj]
  · funext i
    obtain ⟨b, t, n, rfl⟩ : ∃ (b : Fin 2) (t : Fin 512) (n : Fin 512), i = ix3 b t n := ⟨i 0, i 1, i 2, eq_ix3 i⟩
    show _ = fullNorm (u m c) (w m c) 6144 (by decide) (kGain (asRow (kn m c))) b ⟨7680 + t.val, by omega⟩ n
    rw [fullNorm_eq]
    pointwise [fullProj, kGain, asRow, col]
  · funext i
    obtain ⟨b, t, n, rfl⟩ : ∃ (b : Fin 2) (t : Fin 512) (n : Fin 512), i = ix3 b t n := ⟨i 0, i 1, i 2, eq_ix3 i⟩
    show _ = fullProj (u m c) (w m c) 7680 (by decide)  b ⟨7680 + t.val, by omega⟩ n
    pointwise [fullProj]

end Cert.R1Ideal.Arr

end
-- ==== Proof.D2Blocks.lean ====
/-
  What one grid point of the dilated projection of group 2 leaves in its output blocks and in the weight copies it
  carries, as functions of the blocks it reads: at the first point the weights come from the input blocks, at every
  other point from the copies. The rows of a block are sorted by their remainder by 16.
-/
module

public import proofs.«01_k».proof.Proof.Gen.D2Ideal.Frame
public import proofs.«01_k».proof.Proof.Slab

@[expose] public section

noncomputable section

open Idealize.ShloMosaic Idealize.ShloMosaic.TcCoe Idealize.SL.Sem

namespace Cert.D2Ideal.Blk

open Cert.D2Ideal Cert.D2Ideal.Gen Cert.Dil

theorem hz : (![0, 0] : Fin 2 → Nat) = fun _ => 0 := funext fun a => by fin_cases a <;> rfl

/-! A load of a whole buffer of rows or of weights; an offset reached in steps of one. -/

theorem ldx {e : EltTy} (inb : ∀ a, (![0, 0] : Fin 2 → Nat) a + S512x2048.size a ≤ S512x2048.size a) (X : Vec Ideal S512x2048 e) :
    View.ld X (Rect.unit (s := S512x2048) ![0, 0] S512x2048.size inb) = X := View.ld_unit_zero hz inb X
theorem ldw {e : EltTy} (inb : ∀ a, (![0, 0] : Fin 2 → Nat) a + S2048x512.size a ≤ S2048x512.size a) (X : Vec Ideal S2048x512 e) :
    View.ld X (Rect.unit (s := S2048x512) ![0, 0] S2048x512.size inb) = X := View.ld_unit_zero hz inb X
theorem ats (n : Nat) : 0 + 1 * n = n := by omega
theorem at1 (k n : Nat) : k + 1 * n = k + n := by omega

/-- A load of part of a weight copy that one store filled reads the stored array there. -/
theorem readCov_whole (v : View sig .tc .vmem S2048x512 .bf16) (inb) (Z : Vec Ideal S2048x512 .bf16) (r : Rect S2048x512) :
    v.readCov [⟨Rect.unit ![0, 0] (no_index S2048x512.size) inb, Z⟩] r.toLoadRect = View.ld Z r :=
  View.readCov_fill v inb Z [] r (fun a => by fin_cases a <;> rfl)

variable (c : Dev nD) (i : grid0.Coords)
  (a2 : Memref sig .tc .vmem S512x2048 .bf16) (h2 : a2.IsWhole)
  (a3 : Memref sig .tc .vmem S2048x512 .f32) (h3 : a3.IsWhole)
  (a4 : Memref sig .tc .vmem S2048x512 .f32) (h4 : a4.IsWhole)
  (a5 : Memref sig .tc .vmem S2048x512 .f32) (h5 : a5.IsWhole)
  (a6 : Memref sig .tc .vmem S1x128 .f32) (h6 : a6.IsWhole)
  (a7 : Memref sig .tc .vmem S1x128 .f32) (h7 : a7.IsWhole)
  (a8 : Memref sig .tc .vmem S1x16x32x512 .bf16) (h8 : a8.IsWhole)
  (a9 : Memref sig .tc .vmem S1x16x32x512 .bf16) (h9 : a9.IsWhole)
  (a10 : Memref sig .tc .vmem S1x16x32x512 .bf16) (h10 : a10.IsWhole)
  (a11 : Memref sig .tc .vmem S1x512x512 .f32) (h11 : a11.IsWhole)
  (a12 : Memref sig .tc .vmem S1x512x512 .f32) (h12 : a12.IsWhole)
  (a13 : Memref sig .tc .vmem S3x4x512x128 .f32) (h13 : a13.IsWhole)
  (a14 : Memref sig .tc .vmem S2048x512 .bf16) (h14 : a14.IsWhole)
  (a15 : Memref sig .tc .vmem S2048x512 .bf16) (h15 : a15.IsWhole)
  (a16 : Memref sig .tc .vmem S2048x512 .bf16) (h16 : a16.IsWhole)
  (x0 : Vec Ideal S512x2048 .bf16) (x1 x2 x3 : Vec Ideal S2048x512 .f32) (x4 x5 : Vec Ideal S1x128 .f32)
  (xs1 xs2 xs3 : Vec Ideal S2048x512 .bf16)

set_option maxRecDepth 65536 in
/-- The first point: the queries. -/
theorem out_A_6 (hc : cond0_0 i) :
    out0_A_6 c i a2 h2 a3 h3 a4 h4 a5 h5 a6 h6 a7 h7 a8 h8 a9 h9 a10 h10 a11 h11 a12 h12 a13 h13 a14 h14 a15 h15 a16 h16 hc x0 x1 x2 x3 x4 x5 = clsArr 16 32 rfl (normBlk x0 x1 (qGain x4)) := by
  unfold out0_A_6
  rw [View.read_writes_eq_canon _ _ _ (fun _ => cover0_A_6 ..)]
  refine funext fun y => View.canon_apply_of_pieces (clsArr 16 32 rfl (normBlk x0 x1 (qGain x4))) _ (View.PiecesOf.mem ?_) y (cover0_A_6 (F := Ideal) ..)
  unfold kernelRun0_A
  dsimp only
  sl_unfold_words
  simp only [View.readAt_eq_ld, h2.read_unread, h3.read_unread, h6.read_unread, readCov_whole, readCov_within]
  refine head_pieces16 (normBlk x0 x1 (qGain x4)) 384 (by decide) _ _ ?_ ?_
  · intro p d
    refine normBlk_of_head (x := x0) (w := x1) (g := qGain x4) (p := p) (d := d) (c := fun e => ⟨256 + (128 + e.val), by omega⟩) ?_ 384
      (by decide) (by decide) (fun e => by show 256 + (128 + e.val) = 384 + e.val; omega) rfl rfl
    unfold_payloads
    pointwise [ldx, ldw, headNorm, qGain]
  refine head_pieces16 (normBlk x0 x1 (qGain x4)) 256 (by decide) _ _ ?_ ?_
  · intro p d
    refine normBlk_of_head (x := x0) (w := x1) (g := qGain x4) (p := p) (d := d) (c := fun e => ⟨256 + e.val, by omega⟩) ?_ 256
      (by decide) (by decide) (fun _ => rfl) rfl rfl
    unfold_payloads
    pointwise [ldx, ldw, headNorm, qGain]
  refine head_pieces16 (normBlk x0 x1 (qGain x4)) 128 (by decide) _ _ ?_ ?_
  · intro p d
    refine normBlk_of_head (x := x0) (w := x1) (g := qGain x4) (p := p) (d := d) (c := fun e => ⟨128 + e.val, by omega⟩) ?_ 128
      (by decide) (by decide) (fun _ => rfl) rfl rfl
    unfold_payloads
    pointwise [ldx, ldw, headNorm, qGain]
  refine head_pieces16 (normBlk x0 x1 (qGain x4)) 0 (by decide) _ _ ?_ ?_
  · intro p d
    refine normBlk_of_head (x := x0) (w := x1) (g := qGain x4) (p := p) (d := d) (c := fun e => ⟨e.val, by omega⟩) ?_ 0
      (by decide) (by decide) (fun e => by show e.val = 0 + e.val; omega) rfl rfl
    unfold_payloads
    pointwise [ldx, ldw, headNorm, qGain]
  trivial

set_option maxRecDepth 65536 in
/-- The first point: the keys. -/
theorem out_A_7 (hc : cond0_0 i) :
    out0_A_7 c i a2 h2 a3 h3 a4 h4 a5 h5 a6 h6 a7 h7 a8 h8 a9 h9 a10 h10 a11 h11 a12 h12 a13 h13 a14 h14 a15 h15 a16 h16 hc x0 x1 x2 x3 x4 x5 = clsArr 16 32 rfl (normBlk x0 x2 (kGain x5)) := by
  unfold out0_A_7
  rw [View.read_writes_eq_canon _ _ _ (fun _ => cover0_A_7 ..)]
  refine funext fun y => View.canon_apply_of_pieces (clsArr 16 32 rfl (normBlk x0 x2 (kGain x5))) _ (View.PiecesOf.mem ?_) y (cover0_A_7 (F := Ideal) ..)
  unfold kernelRun0_A
  dsimp only
  sl_unfold_words
  simp only [View.readAt_eq_ld, h2.read_unread, h4.read_unread, h7.read_unread, readCov_whole, readCov_within]
  refine head_pieces16 (normBlk x0 x2 (kGain x5)) 384 (by decide) _ _ ?_ ?_
  · intro p d
    refine normBlk_of_head (x := x0) (w := x2) (g := kGain x5) (p := p) (d := d) (c := fun e => ⟨256 + (128 + e.val), by omega⟩) ?_ 384
      (by decide) (by decide) (fun e => by show 256 + (128 + e.val) = 384 + e.val; omega) rfl rfl
    unfold_payloads
    pointwise [ldx, ldw, headNorm, kGain]
  refine head_pieces16 (normBlk x0 x2 (kGain x5)) 256 (by decide) _ _ ?_ ?_
  · intro p d
    refine normBlk_of_head (x := x0) (w := x2) (g := kGain x5) (p := p) (d := d) (c := fun e => ⟨256 + e.val, by omega⟩) ?_ 256
      (by decide) (by decide) (fun _ => rfl) rfl rfl
    unfold_payloads
    pointwise [ldx, ldw, headNorm, kGain]
  refine head_pieces16 (normBlk x0 x2 (kGain x5)) 128 (by decide) _ _ ?_ ?_
  · intro p d
    refine normBlk_of_head (x := x0) (w := x2) (g := kGain x5) (p := p) (d := d) (c := fun e => ⟨128 + e.val, by omega⟩) ?_ 128
      (by decide) (by decide) (fun _ => rfl) rfl rfl
    unfold_payloads
    pointwise [ldx, ldw, headNorm, kGain]
  refine head_pieces16 (normBlk x0 x2 (kGain x5)) 0 (by decide) _ _ ?_ ?_
  · intro p d
    refine normBlk_of_head (x := x0) (w := x2) (g := kGain x5) (p := p) (d := d) (c := fun e => ⟨e.val, by omega⟩) ?_ 0
      (by decide) (by decide) (fun e => by show e.val = 0 + e.val; omega) rfl rfl
    unfold_payloads
    pointwise [ldx, ldw, headNorm, kGain]
  trivial

set_option maxRecDepth 65536 in
/-- The first point: the values. -/
theorem out_A_8 (hc : cond0_0 i) :
    out0_A_8 c i a2 h2 a3 h3 a4 h4 a5 h5 a6 h6 a7 h7 a8 h8 a9 h9 a10 h10 a11 h11 a12 h12 a13 h13 a14 h14 a15 h15 a16 h16 hc x0 x1 x2 x3 x4 x5 = clsArr 16 32 rfl (projBlk x0 x3) := by
  unfold out0_A_8
  rw [View.read_writes_eq_canon _ _ _ (fun _ => cover0_A_8 ..)]
  refine funext fun y => View.canon_apply_of_pieces (clsArr 16 32 rfl (projBlk x0 x3)) _ (View.PiecesOf.mem ?_) y (cover0_A_8 (F := Ideal) ..)
  unfold kernelRun0_A
  dsimp only
  sl_unfold_words
  simp only [View.readAt_eq_ld, h2.read_unread, h5.read_unread, readCov_whole, readCov_within]
  refine head_pieces16 (projBlk x0 x3) 384 (by decide) _ _ ?_ ?_
  · intro p d
    refine projBlk_of_head (x := x0) (w := x3) (p := p) (n' := ⟨256 + (128 + d.val), by omega⟩) ?_ rfl (by show 384 + d.val = 256 + (128 + d.val); omega)
    unfold_payloads
    pointwise [ldx, ldw]
  refine head_pieces16 (projBlk x0 x3) 256 (by decide) _ _ ?_ ?_
  · intro p d
    refine projBlk_of_head (x := x0) (w := x3) (p := p) (n' := ⟨256 + d.val, by omega⟩) ?_ rfl rfl
    unfold_payloads
    pointwise [ldx, ldw]
  refine head_pieces16 (projBlk x0 x3) 128 (by decide) _ _ ?_ ?_
  · intro p d
    refine projBlk_of_head (x := x0) (w := x3) (p := p) (n' := ⟨128 + d.val, by omega⟩) ?_ rfl rfl
    unfold_payloads
    pointwise [ldx, ldw]
  refine head_pieces16 (projBlk x0 x3) 0 (by decide) _ _ ?_ ?_
  · intro p d
    refine projBlk_of_head (x := x0) (w := x3) (p := p) (n' := ⟨d.val, by omega⟩) ?_ rfl (by show 0 + d.val = d.val; omega)
    unfold_payloads
    pointwise [ldx, ldw]
  trivial

set_option maxRecDepth 65536 in
/-- The first point: all rows of the keys. -/
theorem out_A_9 (hc : cond0_0 i) :
    out0_A_9 c i a2 h2 a3 h3 a4 h4 a5 h5 a6 h6 a7 h7 a8 h8 a9 h9 a10 h10 a11 h11 a12 h12 a13 h13 a14 h14 a15 h15 a16 h16 hc x0 x1 x2 x3 x4 x5 = normAll x0 x2 (kGain x5) := by
  unfold out0_A_9
  rw [View.read_writes_eq_canon _ _ _ (fun _ => cover0_A_9 ..)]
  refine funext fun y => View.canon_apply_of_pieces (normAll x0 x2 (kGain x5)) _ (View.PiecesOf.mem ?_) y (cover0_A_9 (F := Ideal) ..)
  unfold kernelRun0_A
  dsimp only
  sl_unfold_words
  simp only [View.readAt_eq_ld, h2.read_unread, h4.read_unread, h7.read_unread, readCov_whole]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨256 + e.val, by omega⟩) ?_ 256
      (by decide) (by decide) (fun _ => rfl) (ats p.val) (at1 256 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨128 + e.val, by omega⟩) ?_ 128
      (by decide) (by decide) (fun _ => rfl) (ats p.val) (at1 128 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := x2) (g := kGain x5) (p := p) (d := d) (c := fun e => ⟨e.val, by omega⟩) ?_ 0
      (by decide) (by decide) (fun e => by show e.val = 0 + e.val; omega) (ats p.val) (at1 0 d.val)
    unfold_payloads
    pointwise [ldx, ldw, headNorm, kGain]

set_option maxRecDepth 65536 in
/-- The first point: all rows of the values. -/
theorem out_A_10 (hc : cond0_0 i) :
    out0_A_10 c i a2 h2 a3 h3 a4 h4 a5 h5 a6 h6 a7 h7 a8 h8 a9 h9 a10 h10 a11 h11 a12 h12 a13 h13 a14 h14 a15 h15 a16 h16 hc x0 x1 x2 x3 x4 x5 = projAll x0 x3 := by
  unfold out0_A_10
  rw [View.read_writes_eq_canon _ _ _ (fun _ => cover0_A_10 ..)]
  refine funext fun y => View.canon_apply_of_pieces (projAll x0 x3) _ (View.PiecesOf.mem ?_) y (cover0_A_10 (F := Ideal) ..)
  unfold kernelRun0_A
  dsimp only
  sl_unfold_words
  simp only [View.readAt_eq_ld, h2.read_unread, h5.read_unread, readCov_whole]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨256 + (128 + d.val), by omega⟩) ?_ (ats p.val) (by show 384 + 1 * d.val = 256 + (128 + d.val); omega)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨256 + d.val, by omega⟩) ?_ (ats p.val) (at1 256 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨128 + d.val, by omega⟩) ?_ (ats p.val) (at1 128 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := x3) (p := p) (n' := ⟨d.val, by omega⟩) ?_ (ats p.val) (ats d.val)
    unfold_payloads
    pointwise [ldx, ldw]

set_option maxRecDepth 65536 in
/-- Every other point: the queries. -/
theorem out_B_6 (hc : ¬cond0_0 i) :
    out0_B_6 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = clsArr 16 32 rfl (normBlk x0 xs1 (qGain x4)) := by
  unfold out0_B_6
  rw [View.read_writes_eq_canon _ _ _ (fun _ => cover0_B_6 ..)]
  refine funext fun y => View.canon_apply_of_pieces (clsArr 16 32 rfl (normBlk x0 xs1 (qGain x4))) _ (View.PiecesOf.mem ?_) y (cover0_B_6 (F := Ideal) ..)
  unfold kernelRun0_B
  dsimp only
  sl_unfold_words
  simp only [View.readAt_eq_ld, h2.read_unread, h14.read_unread, h6.read_unread, readCov_within]
  refine head_pieces16 (normBlk x0 xs1 (qGain x4)) 384 (by decide) _ _ ?_ ?_
  · intro p d
    refine normBlk_of_head (x := x0) (w := xs1) (g := qGain x4) (p := p) (d := d) (c := fun e => ⟨256 + (128 + e.val), by omega⟩) ?_ 384
      (by decide) (by decide) (fun e => by show 256 + (128 + e.val) = 384 + e.val; omega) rfl rfl
    unfold_payloads
    pointwise [ldx, ldw, headNorm, qGain]
  refine head_pieces16 (normBlk x0 xs1 (qGain x4)) 256 (by decide) _ _ ?_ ?_
  · intro p d
    refine normBlk_of_head (x := x0) (w := xs1) (g := qGain x4) (p := p) (d := d) (c := fun e => ⟨256 + e.val, by omega⟩) ?_ 256
      (by decide) (by decide) (fun _ => rfl) rfl rfl
    unfold_payloads
    pointwise [ldx, ldw, headNorm, qGain]
  refine head_pieces16 (normBlk x0 xs1 (qGain x4)) 128 (by decide) _ _ ?_ ?_
  · intro p d
    refine normBlk_of_head (x := x0) (w := xs1) (g := qGain x4) (p := p) (d := d) (c := fun e => ⟨128 + e.val, by omega⟩) ?_ 128
      (by decide) (by decide) (fun _ => rfl) rfl rfl
    unfold_payloads
    pointwise [ldx, ldw, headNorm, qGain]
  refine head_pieces16 (normBlk x0 xs1 (qGain x4)) 0 (by decide) _ _ ?_ ?_
  · intro p d
    refine normBlk_of_head (x := x0) (w := xs1) (g := qGain x4) (p := p) (d := d) (c := fun e => ⟨e.val, by omega⟩) ?_ 0
      (by decide) (by decide) (fun e => by show e.val = 0 + e.val; omega) rfl rfl
    unfold_payloads
    pointwise [ldx, ldw, headNorm, qGain]
  trivial

set_option maxRecDepth 65536 in
/-- Every other point: the keys. -/
theorem out_B_7 (hc : ¬cond0_0 i) :
    out0_B_7 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = clsArr 16 32 rfl (normBlk x0 xs2 (kGain x5)) := by
  unfold out0_B_7
  rw [View.read_writes_eq_canon _ _ _ (fun _ => cover0_B_7 ..)]
  refine funext fun y => View.canon_apply_of_pieces (clsArr 16 32 rfl (normBlk x0 xs2 (kGain x5))) _ (View.PiecesOf.mem ?_) y (cover0_B_7 (F := Ideal) ..)
  unfold kernelRun0_B
  dsimp only
  sl_unfold_words
  simp only [View.readAt_eq_ld, h2.read_unread, h15.read_unread, h7.read_unread, readCov_within]
  refine head_pieces16 (normBlk x0 xs2 (kGain x5)) 384 (by decide) _ _ ?_ ?_
  · intro p d
    refine normBlk_of_head (x := x0) (w := xs2) (g := kGain x5) (p := p) (d := d) (c := fun e => ⟨256 + (128 + e.val), by omega⟩) ?_ 384
      (by decide) (by decide) (fun e => by show 256 + (128 + e.val) = 384 + e.val; omega) rfl rfl
    unfold_payloads
    pointwise [ldx, ldw, headNorm, kGain]
  refine head_pieces16 (normBlk x0 xs2 (kGain x5)) 256 (by decide) _ _ ?_ ?_
  · intro p d
    refine normBlk_of_head (x := x0) (w := xs2) (g := kGain x5) (p := p) (d := d) (c := fun e => ⟨256 + e.val, by omega⟩) ?_ 256
      (by decide) (by decide) (fun _ => rfl) rfl rfl
    unfold_payloads
    pointwise [ldx, ldw, headNorm, kGain]
  refine head_pieces16 (normBlk x0 xs2 (kGain x5)) 128 (by decide) _ _ ?_ ?_
  · intro p d
    refine normBlk_of_head (x := x0) (w := xs2) (g := kGain x5) (p := p) (d := d) (c := fun e => ⟨128 + e.val, by omega⟩) ?_ 128
      (by decide) (by decide) (fun _ => rfl) rfl rfl
    unfold_payloads
    pointwise [ldx, ldw, headNorm, kGain]
  refine head_pieces16 (normBlk x0 xs2 (kGain x5)) 0 (by decide) _ _ ?_ ?_
  · intro p d
    refine normBlk_of_head (x := x0) (w := xs2) (g := kGain x5) (p := p) (d := d) (c := fun e => ⟨e.val, by omega⟩) ?_ 0
      (by decide) (by decide) (fun e => by show e.val = 0 + e.val; omega) rfl rfl
    unfold_payloads
    pointwise [ldx, ldw, headNorm, kGain]
  trivial

set_option maxRecDepth 65536 in
/-- Every other point: the values. -/
theorem out_B_8 (hc : ¬cond0_0 i) :
    out0_B_8 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = clsArr 16 32 rfl (projBlk x0 xs3) := by
  unfold out0_B_8
  rw [View.read_writes_eq_canon _ _ _ (fun _ => cover0_B_8 ..)]
  refine funext fun y => View.canon_apply_of_pieces (clsArr 16 32 rfl (projBlk x0 xs3)) _ (View.PiecesOf.mem ?_) y (cover0_B_8 (F := Ideal) ..)
  unfold kernelRun0_B
  dsimp only
  sl_unfold_words
  simp only [View.readAt_eq_ld, h2.read_unread, h16.read_unread, readCov_within]
  refine head_pieces16 (projBlk x0 xs3) 384 (by decide) _ _ ?_ ?_
  · intro p d
    refine projBlk_of_head (x := x0) (w := xs3) (p := p) (n' := ⟨256 + (128 + d.val), by omega⟩) ?_ rfl (by show 384 + d.val = 256 + (128 + d.val); omega)
    unfold_payloads
    pointwise [ldx, ldw]
  refine head_pieces16 (projBlk x0 xs3) 256 (by decide) _ _ ?_ ?_
  · intro p d
    refine projBlk_of_head (x := x0) (w := xs3) (p := p) (n' := ⟨256 + d.val, by omega⟩) ?_ rfl rfl
    unfold_payloads
    pointwise [ldx, ldw]
  refine head_pieces16 (projBlk x0 xs3) 128 (by decide) _ _ ?_ ?_
  · intro p d
    refine projBlk_of_head (x := x0) (w := xs3) (p := p) (n' := ⟨128 + d.val, by omega⟩) ?_ rfl rfl
    unfold_payloads
    pointwise [ldx, ldw]
  refine head_pieces16 (projBlk x0 xs3) 0 (by decide) _ _ ?_ ?_
  · intro p d
    refine projBlk_of_head (x := x0) (w := xs3) (p := p) (n' := ⟨d.val, by omega⟩) ?_ rfl (by show 0 + d.val = d.val; omega)
    unfold_payloads
    pointwise [ldx, ldw]
  trivial

set_option maxRecDepth 65536 in
/-- Every other point: all rows of the keys. -/
theorem out_B_9 (hc : ¬cond0_0 i) :
    out0_B_9 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = normAll x0 xs2 (kGain x5) := by
  unfold out0_B_9
  rw [View.read_writes_eq_canon _ _ _ (fun _ => cover0_B_9 ..)]
  refine funext fun y => View.canon_apply_of_pieces (normAll x0 xs2 (kGain x5)) _ (View.PiecesOf.mem ?_) y (cover0_B_9 (F := Ideal) ..)
  unfold kernelRun0_B
  dsimp only
  sl_unfold_words
  simp only [View.readAt_eq_ld, h2.read_unread, h15.read_unread, h7.read_unread]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨256 + (128 + e.val), by omega⟩) ?_ 384
      (by decide) (by decide) (fun e => by show 256 + (128 + e.val) = 384 + e.val; omega) (ats p.val) (at1 384 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨256 + e.val, by omega⟩) ?_ 256
      (by decide) (by decide) (fun _ => rfl) (ats p.val) (at1 256 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨128 + e.val, by omega⟩) ?_ 128
      (by decide) (by decide) (fun _ => rfl) (ats p.val) (at1 128 d.val)
    unfold_payloads
    pointwise [ldx, ldw, headNorm, kGain]
  · intro x
    obtain ⟨b, p, d, rfl⟩ : ∃ (b : Fin 1) (p : Fin 512) (d : Fin 128), x = ix3 b p d := ⟨x 0, x 1, x 2, eq_ix3 x⟩
    refine normBlk_of_head (x := x0) (w := xs2) (g := kGain x5) (p := p) (d := d) (c := fun e => ⟨e.val, by omega⟩) ?_ 0
      (by decide) (by decide) (fun e => by show e.val = 0 + e.val; omega) (ats p.val) (at1 0 d.val)
    unfold_payloads
    pointwise [ldx, ldw, headNorm, kGain]

set_option maxRecDepth 65536 in
/-- Every other point: all rows of the values. -/
theorem out_B_10 (hc : ¬cond0_0 i) :
    out0_B_10 c i a2 h2 a3 h3 a4 h4 a5 h5 a6 h6 a7 h7 a8 h8 a9 h9 a10 h10 a11 h11 a12 h12 a13 h13 a14 h14 a15 h15 a16 h16 hc x0 x1 x2 x3 x4 x5 xs1 xs2 xs3 = projAll x0 xs3 := by
  unfold out0_B_10
  rw [View.read_writes_eq_canon _ _ _ (fun _ => cover0_B_10 ..)]
  refine funext fun y => View.canon_apply_of_pieces (projAll x0 xs3) _ (View.PiecesOf.mem ?_) y (cover0_B_10 (F := Ideal) ..)
  unfold kernelRun0_B
  dsimp only
  sl_unfold_words
  simp only [View.readAt_eq_ld, h2.read_unread, h16.read_unread]
  refine ⟨?_, ?_, ?_, ?_, trivial⟩
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨256 + (128 + d.val), by omega⟩) ?_ (ats p.val) (by show 384 + 1 * d.val = 256 + (128 + d.val); omega)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨256 + d.val, by omega⟩) ?_ (ats p.val) (at1 256 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨128 + d.val, by omega⟩) ?_ (ats p.val) (at1 128 d.val)
    unfold_payloads
    pointwise [ldx, ldw]
  · intro x
    obtain ⟨b, p, d, rfl⟩ : ∃ (b : Fin 1) (p : Fin 512) (d : Fin 128), x = ix3 b p d := ⟨x 0, x 1, x 2, eq_ix3 x⟩
    refine projBlk_of_head (x := x0) (w := xs3) (p := p) (n' := ⟨d.val, by omega⟩) ?_ (ats p.val) (ats d.val)
    unfold_payloads
    pointwise [ldx, ldw]

/-- The first point fills weight copy 1. -/
theorem sout_A_1 (hc : cond0_0 i) :
    sout0_A_1 c i a2 h2 a3 h3 a4 h4 a5 h5 a6 h6 a7 h7 a8 h8 a9 h9 a10 h10 a11 h11 a12 h12 a13 h13 a14 h14 a15 h15 a16 h16 hc x0 x1 x2 x3 x4 x5 = x1 := by
  unfold sout0_A_1
  rw [View.read_writes_junk_eq_canon]
  unfold kernelRun0_A
  dsimp only
  sl_unfold_words
  rw [View.canon_unit_zero hz]
  unfold_payloads
  simp only [View.readAt_eq_ld, h3.read_unread, View.ld_unit_zero (S := S2048x512) hz, shapeCast_self]
  rfl

/-- The first point fills weight copy 2. -/
theorem sout_A_2 (hc : cond0_0 i) :
    sout0_A_2 c i a2 h2 a3 h3 a4 h4 a5 h5 a6 h6 a7 h7 a8 h8 a9 h9 a10 h10 a11 h11 a12 h12 a13 h13 a14 h14 a15 h15 a16 h16 hc x0 x1 x2 x3 x4 x5 = x2 := by
  unfold sout0_A_2
  rw [View.read_writes_junk_eq_canon]
  unfold kernelRun0_A
  dsimp only
  sl_unfold_words
  rw [View.canon_unit_zero hz]
  unfold_payloads
  simp only [View.readAt_eq_ld, h4.read_unread, View.ld_unit_zero (S := S2048x512) hz, shapeCast_self]
  rfl

/-- The first point fills weight copy 3. -/
theorem sout_A_3 (hc : cond0_0 i) :
    sout0_A_3 c i a2 h2 a3 h3 a4 h4 a5 h5 a6 h6 a7 h7 a8 h8 a9 h9 a10 h10 a11 h11 a12 h12 a13 h13 a14 h14 a15 h15 a16 h16 hc x0 x1 x2 x3 x4 x5 = x3 := by
  unfold sout0_A_3
  rw [View.read_writes_junk_eq_canon]
  unfold kernelRun0_A
  dsimp only
  sl_unfold_words
  rw [View.canon_unit_zero hz]
  unfold_payloads
  simp only [View.readAt_eq_ld, h5.read_unread, View.ld_unit_zero (S := S2048x512) hz, shapeCast_self]
  rfl

end Cert.D2Ideal.Blk

end
-- ==== Proof.D2Arrays.lean ====
/-
  What the dilated projection of group 2 leaves in its five result arrays, in terms of the arrays it starts from.
-/
module

public import proofs.«01_k».proof.Proof.D2Blocks
public import proofs.«01_k».proof.Proof.Gen.D2Ideal.Value
public import Idealize.ShloMosaic.Lib.Pipeline.ValueKit.Geometry

@[expose] public section

noncomputable section

open Idealize.ShloMosaic Idealize.ShloMosaic.TcCoe Idealize.SL.Sem

namespace Cert.D2Ideal.Arr

open Cert.D2Ideal Cert.D2Ideal.Gen Cert.D2Ideal.Value Cert.D2Ideal.Blk Cert.Dil

variable (m : (ℓ : Loc nD τ sig) → Buf (Elt Ideal) ℓ) (c : Dev nD)

/-- The activations, the weights and the two norm weights the run starts from. -/
abbrev u : Vec Ideal S2x8192x2048 .bf16 := m ((c : Thread nD τ).loc main_arg0)
abbrev w : Vec Ideal S2048x12800 .f32 := m ((c : Thread nD τ).loc main_arg1)
abbrev qn : Vec Ideal S128 .f32 := m ((c : Thread nD τ).loc main_arg2)
abbrev kn : Vec Ideal S128 .f32 := m ((c : Thread nD τ).loc main_arg3)

theorem V_v0 : V m c main_v0 = (shapeCast _ (u m c) shapeCasts_S2x8192x2048_S16384x2048 : Vec Ideal S16384x2048 .bf16) := by
  unfold_abbrev_sides
  after_results
  rfl

theorem V_v1 : V m c main_v1 = (shapeCast _ (qn m c) shapeCasts_S128_S1x128 : Vec Ideal S1x128 .f32) := by
  unfold_abbrev_sides
  after_results
  rfl

theorem V_v2 : V m c main_v2 = (shapeCast _ (kn m c) shapeCasts_S128_S1x128 : Vec Ideal S1x128 .f32) := by
  unfold_abbrev_sides
  after_results
  rfl

/-- Where each block starts, at every point. -/
theorem index_facts : ∀ t : Fin cfg0.N, win0_0.index t 0 = t.val ∧ win0_0.index t 1 = 0
    ∧ win0_1.index t 0 = 0 ∧ win0_1.index t 1 = 5120 ∧ win0_2.index t 0 = 0 ∧ win0_2.index t 1 = 6656
    ∧ win0_3.index t 0 = 0 ∧ win0_3.index t 1 = 8192 ∧ win0_4.index t 0 = 0 ∧ win0_4.index t 1 = 0
    ∧ win0_5.index t 0 = 0 ∧ win0_5.index t 1 = 0 :=
  (by decide +kernel : ∀ t : Fin grid0.N, _)

theorem index6 : ∀ t : Fin cfg0.N, win0_6.index t 0 = t.val / 16 ∧ win0_6.index t 1 = 0
    ∧ win0_6.index t 2 = t.val % 16 ∧ win0_6.index t 3 = 0 :=
  (by decide +kernel : ∀ t : Fin grid0.N, _)

theorem index7 : ∀ t : Fin cfg0.N, win0_7.index t 0 = t.val / 16 ∧ win0_7.index t 1 = 0
    ∧ win0_7.index t 2 = t.val % 16 ∧ win0_7.index t 3 = 0 :=
  (by decide +kernel : ∀ t : Fin grid0.N, _)

theorem index8 : ∀ t : Fin cfg0.N, win0_8.index t 0 = t.val / 16 ∧ win0_8.index t 1 = 0
    ∧ win0_8.index t 2 = t.val % 16 ∧ win0_8.index t 3 = 0 :=
  (by decide +kernel : ∀ t : Fin grid0.N, _)

theorem index9 : ∀ t : Fin cfg0.N, win0_9.index t 0 = t.val / 16 ∧ win0_9.index t 1 = t.val % 16 - 12
    ∧ win0_9.index t 2 = 0 :=
  (by decide +kernel : ∀ t : Fin grid0.N, _)

/-- Which points write their block of the last rows back. -/
theorem flush9 : ∀ t : Fin cfg0.N, (cfg0.win 9).flush t = true → 12 ≤ t.val % 16 :=
  (by decide +kernel : ∀ t : Fin grid0.N, _)

theorem index10 : ∀ t : Fin cfg0.N, win0_10.index t 0 = t.val / 16 ∧ win0_10.index t 1 = t.val % 16 - 12
    ∧ win0_10.index t 2 = 0 :=
  (by decide +kernel : ∀ t : Fin grid0.N, _)

/-- Which points write their block of the last rows back. -/
theorem flush10 : ∀ t : Fin cfg0.N, (cfg0.win 10).flush t = true → 12 ≤ t.val % 16 :=
  (by decide +kernel : ∀ t : Fin grid0.N, _)

/-- A grid point's number. -/
abbrev num (t : Fin cfg0.N) : Fin 32 := ⟨t.val, lt_of_lt_of_eq t.isLt (show cfg0.N = 32 from N_0)⟩

theorem iblk0 (t : Fin cfg0.N) : (iblk m c 0 t : Vec Ideal S512x2048 .bf16) = rows (u m c) (num t) := by
  funext j
  obtain ⟨p, k, rfl⟩ : ∃ (p : Fin 512) (k : Fin 2048), j = ix2 p k := ⟨j 0, j 1, eq_ix2 j⟩
  obtain ⟨h0, h1, _⟩ := index_facts t
  have hN : t.val < 32 := lt_of_lt_of_eq t.isLt (show cfg0.N = 32 from N_0)
  unfold iblk
  rw [View.read_apply]
  show V m c main_v0 _ = _
  rw [V_v0]
  have e : ((cfg0.win 0).blk t).view.emb (ix2 p k) = (ix2 ⟨512 * t.val + p.val, by omega⟩ k : S16384x2048.Idx) := by
    funext a
    apply Fin.ext
    match a with
    | ⟨0, _⟩ => show win0_0.index t 0 * 512 + 1 * p.val = 512 * t.val + p.val; omega
    | ⟨1, _⟩ => show win0_0.index t 1 * 2048 + 1 * k.val = k.val; omega
  rw [e]
  pointwise
  rfl

theorem iblk1 (t : Fin cfg0.N) : (iblk m c 1 t : Vec Ideal S2048x512 .f32) = cols (w m c) 5120 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨5120 + n.val, _⟩)
  congr 1
  funext a
  apply Fin.ext
  match a with
  | ⟨0, _⟩ => show win0_1.index t 0 + 1 * k.val = k.val; omega
  | ⟨1, _⟩ => show win0_1.index t 1 + 1 * n.val = 5120 + n.val; omega

theorem iblk2 (t : Fin cfg0.N) : (iblk m c 2 t : Vec Ideal S2048x512 .f32) = cols (w m c) 6656 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨6656 + n.val, _⟩)
  congr 1
  funext a
  apply Fin.ext
  match a with
  | ⟨0, _⟩ => show win0_2.index t 0 + 1 * k.val = k.val; omega
  | ⟨1, _⟩ => show win0_2.index t 1 + 1 * n.val = 6656 + n.val; omega

theorem iblk3 (t : Fin cfg0.N) : (iblk m c 3 t : Vec Ideal S2048x512 .f32) = cols (w m c) 8192 (by decide) := by
  funext j
  obtain ⟨k, n, rfl⟩ : ∃ (k : Fin 2048) (n : Fin 512), j = ix2 k n := ⟨j 0, j 1, eq_ix2 j⟩
  have h := index_facts t
  unfold iblk
  rw [View.read_apply]
  show V m c main_arg1 _ = _
  rw [V_main_arg1]
  show _ = w m c (ix2 k ⟨8192 + n.val, _⟩)
  congr 1
  funext a
  apply Fin.ext
  match a with
  | ⟨0, _⟩ => show win0_3.index t 0 + 1 * k.val = k.val; omega
  | ⟨1, _⟩ => show win0_3.index t 1 + 1 * n.val = 8192 + n.val; omega

theorem iblk4 (t : Fin cfg0.N) : (iblk m c 4 t : Vec Ideal S1x128 .f32) = asRow (qn m c) := by
  funext j
  obtain ⟨z, d, rfl⟩ : ∃ (z : Fin 1) (d : Fin 128), j = ix2 z d := ⟨j 0, j 1, eq_ix2 j⟩
  have h := index_facts t
  unfold iblk
  rw [View.read_apply]
  show V m c main_v1 _ = _
  rw [V_v1]
  have e : ((cfg0.win 4).blk t).view.emb (ix2 z d) = (ix2 z d : S1x128.Idx) := by
    funext a
    apply Fin.ext
    match a with
    | ⟨0, _⟩ => show win0_4.index t 0 * 1 + 1 * z.val = z.val; omega
    | ⟨1, _⟩ => show win0_4.index t 1 * 128 + 1 * d.val = d.val; omega
  rw [e]
  pointwise
  rfl

theorem iblk5 (t : Fin cfg0.N) : (iblk m c 5 t : Vec Ideal S1x128 .f32) = asRow (kn m c) := by
  funext j
  obtain ⟨z, d, rfl⟩ : ∃ (z : Fin 1) (d : Fin 128), j = ix2 z d := ⟨j 0, j 1, eq_ix2 j⟩
  have h := index_facts t
  unfold iblk
  rw [View.read_apply]
  show V m c main_v2 _ = _
  rw [V_v2]
  have e : ((cfg0.win 5).blk t).view.emb (ix2 z d) = (ix2 z d : S1x128.Idx) := by
    funext a
    apply Fin.ext
    match a with
    | ⟨0, _⟩ => show win0_5.index t 0 * 1 + 1 * z.val = z.val; omega
    | ⟨1, _⟩ => show win0_5.index t 1 * 128 + 1 * d.val = d.val; omega
  rw [e]
  pointwise
  rfl

/-- What a point leaves: the five output blocks of the rows it reads, and the three weight copies. -/
def left (t : Fin 32) : Vec Ideal S1x16x32x512 .bf16 × Vec Ideal S1x16x32x512 .bf16 × Vec Ideal S1x16x32x512 .bf16
    × Vec Ideal S1x512x512 .f32 × Vec Ideal S1x512x512 .f32
    × Vec Ideal S2048x512 .bf16 × Vec Ideal S2048x512 .bf16 × Vec Ideal S2048x512 .bf16 :=
  (clsArr 16 32 rfl (normBlk (rows (u m c) t) (cols (w m c) 5120 (by decide)) (qGain (asRow (qn m c)))),
   clsArr 16 32 rfl (normBlk (rows (u m c) t) (cols (w m c) 6656 (by decide)) (kGain (asRow (kn m c)))),
   clsArr 16 32 rfl (projBlk (rows (u m c) t) (cols (w m c) 8192 (by decide))),
   normAll (rows (u m c) t) (cols (w m c) 6656 (by decide)) (kGain (asRow (kn m c))),
   projAll (rows (u m c) t) (cols (w m c) 8192 (by decide)),
   cols (w m c) 5120 (by decide), cols (w m c) 6656 (by decide), cols (w m c) 8192 (by decide))

/-- After every point the run has left that. -/
theorem outs_eq : ∀ (n : ℕ) (h : n < cfg0.N), outsAt0 m c n h = left m c (num ⟨n, h⟩)
  | 0, h => by
    rw [outsAt0_A m c ⟨0, h⟩ rfl, out_A_6, out_A_7, out_A_8, out_A_9, out_A_10, sout_A_1, sout_A_2, sout_A_3,
      iblk0, iblk1, iblk2, iblk3, iblk4, iblk5]
    rfl
  | n + 1, h => by
    have hN : n + 1 < 32 := lt_of_lt_of_eq h (show cfg0.N = 32 from N_0)
    have hB : ¬(⟨n + 1, h⟩ : Fin cfg0.N).val % 32 = 0 := by dsimp only; omega
    have ih : outsAt0 m c ((⟨n + 1, h⟩ : Fin cfg0.N).val - 1) (by dsimp only; omega) = left m c (num ⟨n, Nat.lt_of_succ_lt h⟩) :=
      outs_eq n (Nat.lt_of_succ_lt h)
    rw [outsAt0_B m c ⟨n + 1, h⟩ hB, ih, out_B_6, out_B_7, out_B_8, out_B_9, out_B_10,
      iblk0, iblk1, iblk2, iblk3, iblk4, iblk5]
    rfl

/-- Result 1 of the call. -/
theorem arr6 : (dats m 0 c).arrAt 6 cfg0.N = (normSorted 16 512 (by decide) (u m c) (w m c) 5120 (by decide) (qGain (asRow (qn m c))) : Vec Ideal S2x16x512x512 .bf16) := by
  refine (dats m 0 c).arrAt_eq_of_covers 6 _ (by decide +kernel) fun t hf y => ?_
  rw [after0_6, outs_eq]
  obtain ⟨z, a, q, n, rfl⟩ : ∃ (z : Fin 1) (a : Fin 16) (q : Fin 32) (n : Fin 512), y = (ix4 z a q n : S1x16x32x512.Idx) := ⟨y 0, y 1, y 2, y 3, eq_ix4 y⟩
  obtain ⟨i0, i1, i2, i3⟩ := index6 t
  have hN : t.val < 32 := lt_of_lt_of_eq t.isLt (show cfg0.N = 32 from N_0)
  have e : ((cfg0.win 6).blk t).view.emb (ix4 z a q n : S1x16x32x512.Idx)
      = (ix4 ⟨t.val / 16, by omega⟩ a ⟨t.val % 16 * 32 + q.val, by omega⟩ n : S2x16x512x512.Idx) := by
    funext b
    apply Fin.ext
    match b with
    | ⟨0, _⟩ => show win0_6.index t 0 * 1 + 1 * z.val = t.val / 16; omega
    | ⟨1, _⟩ => show win0_6.index t 1 * 16 + 1 * a.val = a.val; omega
    | ⟨2, _⟩ => show win0_6.index t 2 * 32 + 1 * q.val = t.val % 16 * 32 + q.val; omega
    | ⟨3, _⟩ => show win0_6.index t 3 * 512 + 1 * n.val = n.val; omega
  rw [e]
  exact normBlk_rows (u m c) (w m c) 5120 (by decide) (qGain (asRow (qn m c))) (b := ⟨t.val / 16, by omega⟩)
    (l := ⟨(t.val % 16 * 32 + q.val) * 16 + a.val, by omega⟩) (t := num t) (p := ⟨q.val * 16 + a.val, by omega⟩) (by
      show 512 * t.val + (q.val * 16 + a.val) = 8192 * (t.val / 16) + ((t.val % 16 * 32 + q.val) * 16 + a.val)
      omega) n

/-- Result 2 of the call. -/
theorem arr7 : (dats m 0 c).arrAt 7 cfg0.N = (normSorted 16 512 (by decide) (u m c) (w m c) 6656 (by decide) (kGain (asRow (kn m c))) : Vec Ideal S2x16x512x512 .bf16) := by
  refine (dats m 0 c).arrAt_eq_of_covers 7 _ (by decide +kernel) fun t hf y => ?_
  rw [after0_7, outs_eq]
  obtain ⟨z, a, q, n, rfl⟩ : ∃ (z : Fin 1) (a : Fin 16) (q : Fin 32) (n : Fin 512), y = (ix4 z a q n : S1x16x32x512.Idx) := ⟨y 0, y 1, y 2, y 3, eq_ix4 y⟩
  obtain ⟨i0, i1, i2, i3⟩ := index7 t
  have hN : t.val < 32 := lt_of_lt_of_eq t.isLt (show cfg0.N = 32 from N_0)
  have e : ((cfg0.win 7).blk t).view.emb (ix4 z a q n : S1x16x32x512.Idx)
      = (ix4 ⟨t.val / 16, by omega⟩ a ⟨t.val % 16 * 32 + q.val, by omega⟩ n : S2x16x512x512.Idx) := by
    funext b
    apply Fin.ext
    match b with
    | ⟨0, _⟩ => show win0_7.index t 0 * 1 + 1 * z.val = t.val / 16; omega
    | ⟨1, _⟩ => show win0_7.index t 1 * 16 + 1 * a.val = a.val; omega
    | ⟨2, _⟩ => show win0_7.index t 2 * 32 + 1 * q.val = t.val % 16 * 32 + q.val; omega
    | ⟨3, _⟩ => show win0_7.index t 3 * 512 + 1 * n.val = n.val; omega
  rw [e]
  exact normBlk_rows (u m c) (w m c) 6656 (by decide) (kGain (asRow (kn m c))) (b := ⟨t.val / 16, by omega⟩)
    (l := ⟨(t.val % 16 * 32 + q.val) * 16 + a.val, by omega⟩) (t := num t) (p := ⟨q.val * 16 + a.val, by omega⟩) (by
      show 512 * t.val + (q.val * 16 + a.val) = 8192 * (t.val / 16) + ((t.val % 16 * 32 + q.val) * 16 + a.val)
      omega) n

/-- Result 3 of the call. -/
theorem arr8 : (dats m 0 c).arrAt 8 cfg0.N = (projSorted 16 512 (by decide) (u m c) (w m c) 8192 (by decide) : Vec Ideal S2x16x512x512 .bf16) := by
  refine (dats m 0 c).arrAt_eq_of_covers 8 _ (by decide +kernel) fun t hf y => ?_
  rw [after0_8, outs_eq]
  obtain ⟨z, a, q, n, rfl⟩ : ∃ (z : Fin 1) (a : Fin 16) (q : Fin 32) (n : Fin 512), y = (ix4 z a q n : S1x16x32x512.Idx) := ⟨y 0, y 1, y 2, y 3, eq_ix4 y⟩
  obtain ⟨i0, i1, i2, i3⟩ := index8 t
  have hN : t.val < 32 := lt_of_lt_of_eq t.isLt (show cfg0.N = 32 from N_0)
  have e : ((cfg0.win 8).blk t).view.emb (ix4 z a q n : S1x16x32x512.Idx)
      = (ix4 ⟨t.val / 16, by omega⟩ a ⟨t.val % 16 * 32 + q.val, by omega⟩ n : S2x16x512x512.Idx) := by
    funext b
    apply Fin.ext
    match b with
    | ⟨0, _⟩ => show win0_8.index t 0 * 1 + 1 * z.val = t.val / 16; omega
    | ⟨1, _⟩ => show win0_8.index t 1 * 16 + 1 * a.val = a.val; omega
    | ⟨2, _⟩ => show win0_8.index t 2 * 32 + 1 * q.val = t.val % 16 * 32 + q.val; omega
    | ⟨3, _⟩ => show win0_8.index t 3 * 512 + 1 * n.val = n.val; omega
  rw [e]
  exact projBlk_rows (u m c) (w m c) 8192 (by decide) (b := ⟨t.val / 16, by omega⟩)
    (l := ⟨(t.val % 16 * 32 + q.val) * 16 + a.val, by omega⟩) (t := num t) (p := ⟨q.val * 16 + a.val, by omega⟩) (by
      show 512 * t.val + (q.val * 16 + a.val) = 8192 * (t.val / 16) + ((t.val % 16 * 32 + q.val) * 16 + a.val)
      omega) n

/-- Result 4 of the call. -/
theorem arr9 : (dats m 0 c).arrAt 9 cfg0.N = (normLastN 2048 6144 (by decide) (u m c) (w m c) 6656 (by decide) (kGain (asRow (kn m c))) : Vec Ideal S2x2048x512 .f32) := by
  refine (dats m 0 c).arrAt_eq_of_covers 9 _ (by decide +kernel) fun t hf y => ?_
  rw [after0_9, outs_eq]
  obtain ⟨z, a, n, rfl⟩ : ∃ (z : Fin 1) (a : Fin 512) (n : Fin 512), y = (ix3 z a n : S1x512x512.Idx) := ⟨y 0, y 1, y 2, eq_ix3 y⟩
  obtain ⟨i0, i1, i2⟩ := index9 t
  have hfl := flush9 t hf
  have hN : t.val < 32 := lt_of_lt_of_eq t.isLt (show cfg0.N = 32 from N_0)
  have e : ((cfg0.win 9).blk t).view.emb (ix3 z a n : S1x512x512.Idx)
      = (ix3 ⟨t.val / 16, by omega⟩ ⟨(t.val % 16 - 12) * 512 + a.val, by omega⟩ n : S2x2048x512.Idx) := by
    funext b
    apply Fin.ext
    match b with
    | ⟨0, _⟩ => show win0_9.index t 0 * 1 + 1 * z.val = t.val / 16; omega
    | ⟨1, _⟩ => show win0_9.index t 1 * 512 + 1 * a.val = (t.val % 16 - 12) * 512 + a.val; omega
    | ⟨2, _⟩ => show win0_9.index t 2 * 512 + 1 * n.val = n.val; omega
  rw [e]
  exact normBlk_rows (u m c) (w m c) 6656 (by decide) (kGain (asRow (kn m c))) (b := ⟨t.val / 16, by omega⟩)
    (l := ⟨6144 + ((t.val % 16 - 12) * 512 + a.val), by omega⟩) (t := num t) (p := a) (by
      show 512 * t.val + a.val = 8192 * (t.val / 16) + (6144 + ((t.val % 16 - 12) * 512 + a.val))
      omega) n

/-- Result 5 of the call. -/
theorem arr10 : (dats m 0 c).arrAt 10 cfg0.N = (projLastN 2048 6144 (by decide) (u m c) (w m c) 8192 (by decide) : Vec Ideal S2x2048x512 .f32) := by
  refine (dats m 0 c).arrAt_eq_of_covers 10 _ (by decide +kernel) fun t hf y => ?_
  rw [after0_10, outs_eq]
  obtain ⟨z, a, n, rfl⟩ : ∃ (z : Fin 1) (a : Fin 512) (n : Fin 512), y = (ix3 z a n : S1x512x512.Idx) := ⟨y 0, y 1, y 2, eq_ix3 y⟩
  obtain ⟨i0, i1, i2⟩ := index10 t
  have hfl := flush10 t hf
  have hN : t.val < 32 := lt_of_lt_of_eq t.isLt (show cfg0.N = 32 from N_0)
  have e : ((cfg0.win 10).blk t).view.emb (ix3 z a n : S1x512x512.Idx)
      = (ix3 ⟨t.val / 16, by omega⟩ ⟨(t.val % 16 - 12) * 512 + a.val, by omega⟩ n : S2x2048x512.Idx) := by
    funext b
    apply Fin.ext
    match b with
    | ⟨0, _⟩ => show win0_10.index t 0 * 1 + 1 * z.val = t.val / 16; omega
    | ⟨1, _⟩ => show win0_10.index t 1 * 512 + 1 * a.val = (t.val % 16 - 12) * 512 + a.val; omega
    | ⟨2, _⟩ => show win0_10.index t 2 * 512 + 1 * n.val = n.val; omega
  rw [e]
  exact projBlk_rows (u m c) (w m c) 8192 (by decide) (b := ⟨t.val / 16, by omega⟩)
    (l := ⟨6144 + ((t.val % 16 - 12) * 512 + a.val), by omega⟩) (t := num t) (p := a) (by
      show 512 * t.val + a.val = 8192 * (t.val / 16) + (6144 + ((t.val % 16 - 12) * 512 + a.val))
      omega) n

/-- The run's results, and its arguments kept. -/
theorem run_read (ρ : Dev nD → PrngReg) : θ_run defs (onTc (τ := τ) (main (F := Ideal))) ⟨m, fun _ => 0, ρ⟩ fun r => ∀ c : Dev nD,
      r.2.mem ((c : Thread nD τ).loc main_v3_0) = normSorted 16 512 (by decide) (u m c) (w m c) 5120 (by decide) (qGain (asRow (qn m c)))
      ∧ r.2.mem ((c : Thread nD τ).loc main_v3_1) = normSorted 16 512 (by decide) (u m c) (w m c) 6656 (by decide) (kGain (asRow (kn m c)))
      ∧ r.2.mem ((c : Thread nD τ).loc main_v3_2) = projSorted 16 512 (by decide) (u m c) (w m c) 8192 (by decide)
      ∧ r.2.mem ((c : Thread nD τ).loc main_v3_3) = normLastN 2048 6144 (by decide) (u m c) (w m c) 6656 (by decide) (kGain (asRow (kn m c)))
      ∧ r.2.mem ((c : Thread nD τ).loc main_v3_4) = projLastN 2048 6144 (by decide) (u m c) (w m c) 8192 (by decide)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (arr6 m c), (post7 m r h c).trans (arr7 m c),
    (post8 m r h c).trans (arr8 m c), (post9 m r h c).trans (arr9 m c), (post10 m r h c).trans (arr10 m c),
    kept_main_arg0 m r h c, kept_main_arg1 m r h c, kept_main_arg2 m r h c, kept_main_arg3 m r h c⟩) (run_main m ρ)

end Cert.D2Ideal.Arr

end
-- ==== Proof.R2Arrays.lean ====
/-
  The reference of group 2's projection, read at an index: its five results are the whole-array functions of `Dil`.
-/
module

public import proofs.«01_k».proof.Proof.Dil
public import proofs.«01_k».proof.Proof.Gen.R2Ideal.Run

@[expose] public section

noncomputable section

open Idealize.ShloMosaic Idealize.ShloMosaic.TcCoe Idealize.SL.Sem

namespace Cert.R2Ideal.Arr

open Cert.R2Ideal Cert.R2Ideal.Gen Cert.R2Ideal.Value Cert.Dil

variable (m : (ℓ : Loc nD τ sig) → Buf (Elt Ideal) ℓ) (ρ : Dev nD → PrngReg)

abbrev u (c : Dev nD) : Vec Ideal S2x8192x2048 .bf16 := m ((c.tc : Thread nD τ).loc main_arg0)
abbrev w (c : Dev nD) : Vec Ideal S2048x12800 .f32 := m ((c.tc : Thread nD τ).loc main_arg1)
abbrev qn (c : Dev nD) : Vec Ideal S128 .f32 := m ((c.tc : Thread nD τ).loc main_arg2)
abbrev kn (c : Dev nD) : Vec Ideal S128 .f32 := m ((c.tc : Thread nD τ).loc main_arg3)

theorem run_read : θ_run defs (onTc (τ := τ) (main (F := Ideal))) ⟨m, fun _ => 0, ρ⟩ fun r => ∀ c : Dev nD,
      r.2.mem ((c.tc : Thread nD τ).loc main_v41) = normSorted 16 512 (by decide) (u m c) (w m c) 5120 (by decide) (qGain (asRow (qn m c)))
      ∧ r.2.mem ((c.tc : Thread nD τ).loc main_v45) = normSorted 16 512 (by decide) (u m c) (w m c) 6656 (by decide) (kGain (asRow (kn m c)))
      ∧ r.2.mem ((c.tc : Thread nD τ).loc main_v49) = projSorted 16 512 (by decide) (u m c) (w m c) 8192 (by decide)
      ∧ r.2.mem ((c.tc : Thread nD τ).loc main_v51) = normLastN 2048 6144 (by decide) (u m c) (w m c) 6656 (by decide) (kGain (asRow (kn m c)))
      ∧ r.2.mem ((c.tc : Thread nD τ).loc main_v53) = projLastN 2048 6144 (by decide) (u m c) (w m c) 8192 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h1, h2, h3, h4, h5, h6⟩ := h c
  refine ⟨h1.trans ?_, h2.trans ?_, h3.trans ?_, h4.trans ?_, h5.trans ?_, h6⟩
  · funext i
    obtain ⟨b, t, j, n, rfl⟩ : ∃ (b : Fin 2) (t : Fin 16) (j : Fin 512) (n : Fin 512), i = ix4 b t j n := ⟨i 0, i 1, i 2, i 3, eq_ix4 i⟩
    show _ = fullNorm (u m c) (w m c) 5120 (by decide) (qGain (asRow (qn m c))) b ⟨j.val * 16 + t.val, by omega⟩ n
    rw [fullNorm_eq]
    pointwise [fullProj, qGain, asRow, col]
    exact mul_assoc _ _ _
  · funext i
    obtain ⟨b, t, j, n, rfl⟩ : ∃ (b : Fin 2) (t : Fin 16) (j : Fin 512) (n : Fin 512), i = ix4 b t j n := ⟨i 0, i 1, i 2, i 3, eq_ix4 i⟩
    show _ = fullNorm (u m c) (w m c) 6656 (by decide) (kGain (asRow (kn m c))) b ⟨j.val * 16 + t.val, by omega⟩ n
    rw [fullNorm_eq]
    pointwise [fullProj, kGain, asRow, col]
  · funext i
    obtain ⟨b, t, j, n, rfl⟩ : ∃ (b : Fin 2) (t : Fin 16) (j : Fin 512) (n : Fin 512), i = ix4 b t j n := ⟨i 0, i 1, i 2, i 3, eq_ix4 i⟩
    show _ = fullProj (u m c) (w m c) 8192 (by decide)  b ⟨j.val * 16 + t.val, by omega⟩ n
    pointwise [fullProj]
  · funext i
    obtain ⟨b, t, n, rfl⟩ : ∃ (b : Fin 2) (t : Fin 2048) (n : Fin 512), i = ix3 b t n := ⟨i 0, i 1, i 2, eq_ix3 i⟩
    show _ = fullNorm (u m c) (w m c) 6656 (by decide) (kGain (asRow (kn m c))) b ⟨6144 + t.val, by omega⟩ n
    rw [fullNorm_eq]
    pointwise [fullProj, kGain, asRow, col]
  · funext i
    obtain ⟨b, t, n, rfl⟩ : ∃ (b : Fin 2) (t : Fin 2048) (n : Fin 512), i = ix3 b t n := ⟨i 0, i 1, i 2, eq_ix3 i⟩
    show _ = fullProj (u m c) (w m c) 8192 (by decide)  b ⟨6144 + t.val, by omega⟩ n
    pointwise [fullProj]

end Cert.R2Ideal.Arr

end
-- ==== Proof.GatesRing.lean ====
/-
  The slots of the ring through which the gates projection moves its cache, the blocks it moves, and the cells its copies end on.
-/
module

public import proofs.«01_k».proof.Defs
public import proofs.«01_k».proof.Proof.Gen.GatesIdeal
public import proofs.«01_k».proof.Proof.Gen.GatesIdeal.Launch
public import proofs.«01_k».proof.Proof.Gen.GatesIdeal.Points
public import Idealize.ShloMosaic.Lib.Pipeline.Kit
public import Idealize.ShloMosaic.Lib.Pipeline.FrameBody
public import Idealize.ShloMosaic.Lib.Pipeline.FrameValue
public import Idealize.ShloMosaic.Lib.Pipeline.ReadBack
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.GatesIdeal.Shift

open Cert.GatesIdeal Cert.GatesIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The cache, the moved cache, the ring. -/
abbrev srcM : Memref sig .tc .hbm S32x16384x128 .f32 := Memref.whole main_v0
abbrev dstM : Memref sig .tc .hbm S32x16384x128 .f32 := Memref.whole main_v2_1
abbrev ringM : Memref sig .tc .vmem S2x8176x128 .f32 := Memref.whole cc0_scratch1
abbrev wM : Memref sig .tc .vmem S2048x1024 .bf16 := Memref.whole cc0_scratch0

theorem src_inb (k : Nat) (h : k < 64) : ∀ a, (![k / 2, k % 2 * 8176 + 32, 0] : Fin 3 → Nat) a + S1x8176x128.size a ≤ S32x16384x128.size a := fun a => by
  fin_cases a
  · show k / 2 + 1 ≤ 32; omega
  · show k % 2 * 8176 + 32 + 8176 ≤ 16384; omega
  · show 0 + 128 ≤ 128; omega
theorem dst_inb (k : Nat) (h : k < 64) : ∀ a, (![k / 2, k % 2 * 8176, 0] : Fin 3 → Nat) a + S1x8176x128.size a ≤ S32x16384x128.size a := fun a => by
  fin_cases a
  · show k / 2 + 1 ≤ 32; omega
  · show k % 2 * 8176 + 8176 ≤ 16384; omega
  · show 0 + 128 ≤ 128; omega
theorem slot_inb (k : Nat) : ∀ a, (![k % 2, 0, 0] : Fin 3 → Nat) a + S1x8176x128.size a ≤ S2x8176x128.size a := fun a => by
  fin_cases a
  · show k % 2 + 1 ≤ 2; omega
  · show 0 + 8176 ≤ 8176; omega
  · show 0 + 128 ≤ 128; omega
theorem cell_inb (r k : Nat) (h : r < 3) : ∀ a, (![r, k % 2] : Fin 2 → Nat) a + S1x1.size a ≤ S3x2.size a := fun a => by
  fin_cases a
  · show r + 1 ≤ 3; omega
  · show k % 2 + 1 ≤ 2; omega

/-- Block `k` of the cache as it is read: `8176` rows, from row `32` on in one half and from row `8208` on in the other. -/
abbrev srcB (k : Nat) (h : k < 64) : Memref sig .tc .hbm S8176x128 .f32 :=
  (srcM.slice (Rect.unit (s := S32x16384x128) ![k / 2, k % 2 * 8176 + 32, 0] S1x8176x128.size (src_inb k h)) (fun _ => rfl)).squeeze S8176x128 squeezes_S1x8176x128_S8176x128
/-- Block `k` of the moved cache, `32` rows earlier. -/
abbrev dstB (k : Nat) (h : k < 64) : Memref sig .tc .hbm S8176x128 .f32 :=
  (dstM.slice (Rect.unit (s := S32x16384x128) ![k / 2, k % 2 * 8176, 0] S1x8176x128.size (dst_inb k h)) (fun _ => rfl)).squeeze S8176x128 squeezes_S1x8176x128_S8176x128
/-- The ring's slot of block `k`. -/
abbrev slotB (k : Nat) : Memref sig .tc .vmem S8176x128 .f32 :=
  (ringM.slice (Rect.unit (s := S2x8176x128) ![k % 2, 0, 0] S1x8176x128.size (slot_inb k)) (fun _ => rfl)).squeeze S8176x128 squeezes_S1x8176x128_S8176x128
/-- The cell of block `k`'s copy in (`r = 0`) or out (`r = 1`). -/
abbrev cellB (r k : Nat) (h : r < 3) : DmaSem sig :=
  ((cc0_scratch2.slice (Rect.unit (s := S3x2) ![r, k % 2] S1x1.size (cell_inb r k h))).squeeze S_ squeezes_S1x1_S_).sem

/-- A slice at an offset equal to a block's is the block's. -/
theorem src_at {o : Fin 3 → Nat} {k : Nat} (h : o = ![k / 2, k % 2 * 8176 + 32, 0]) (hk : k < 64) (p : ∀ a, o a + S1x8176x128.size a ≤ S32x16384x128.size a) (q) :
    srcM.slice (Rect.unit (s := S32x16384x128) o S1x8176x128.size p) q
      = srcM.slice (Rect.unit (s := S32x16384x128) ![k / 2, k % 2 * 8176 + 32, 0] S1x8176x128.size (src_inb k hk)) (fun _ => rfl) := by
  subst h; rfl
theorem dst_at {o : Fin 3 → Nat} {k : Nat} (h : o = ![k / 2, k % 2 * 8176, 0]) (hk : k < 64) (p : ∀ a, o a + S1x8176x128.size a ≤ S32x16384x128.size a) (q) :
    dstM.slice (Rect.unit (s := S32x16384x128) o S1x8176x128.size p) q
      = dstM.slice (Rect.unit (s := S32x16384x128) ![k / 2, k % 2 * 8176, 0] S1x8176x128.size (dst_inb k hk)) (fun _ => rfl) := by
  subst h; rfl
theorem slot_at {o : Fin 3 → Nat} {k : Nat} (h : o = ![k % 2, 0, 0]) (p : ∀ a, o a + S1x8176x128.size a ≤ S2x8176x128.size a) (q) :
    ringM.slice (Rect.unit (s := S2x8176x128) o S1x8176x128.size p) q
      = ringM.slice (Rect.unit (s := S2x8176x128) ![k % 2, 0, 0] S1x8176x128.size (slot_inb k)) (fun _ => rfl) := by
  subst h; rfl
theorem cell_at {o : Fin 2 → Nat} {r k : Nat} (h : o = ![r, k % 2]) (hr : r < 3) (p : ∀ a, o a + S1x1.size a ≤ S3x2.size a) :
    cc0_scratch2.slice (Rect.unit (s := S3x2) o S1x1.size p) = cc0_scratch2.slice (Rect.unit (s := S3x2) ![r, k % 2] S1x1.size (cell_inb r k hr)) := by
  subst h; rfl

theorem off1 : ∀ t : Fin cfg0.N, 2 ≤ t.val → k0_off1 (grid0.coords t) = ![1, (t.val - 2) % 2] := by decide +kernel
theorem off2 : ∀ t : Fin cfg0.N, 2 ≤ t.val → k0_off2 (grid0.coords t) = ![(t.val - 2) / 2, (t.val - 2) % 2 * 8176, 0] := by decide +kernel
theorem off3 : ∀ t : Fin cfg0.N, 2 ≤ t.val → k0_off3 (grid0.coords t) = ![(t.val - 2) % 2, 0, 0] := by decide +kernel
theorem off4 : ∀ t : Fin cfg0.N, k0_off4 (grid0.coords t) = ![0, t.val % 2] := by decide +kernel
theorem off5 : ∀ t : Fin cfg0.N, k0_off5 (grid0.coords t) = ![t.val % 2, 0, 0] := by decide +kernel
theorem off6 : ∀ t : Fin cfg0.N, k0_off6 (grid0.coords t) = ![t.val / 2, t.val % 2 * 8176 + 32, 0] := by decide +kernel
theorem off7 : ∀ t : Fin cfg0.N, 1 ≤ t.val → k0_off7 (grid0.coords t) = ![0, (t.val - 1) % 2] := by decide +kernel
theorem off8 : ∀ t : Fin cfg0.N, 1 ≤ t.val → k0_off8 (grid0.coords t) = ![(t.val - 1) % 2, 0, 0] := by decide +kernel
theorem off9 : ∀ t : Fin cfg0.N, 1 ≤ t.val → k0_off9 (grid0.coords t) = ![(t.val - 1) / 2, (t.val - 1) % 2 * 8176 + 32, 0] := by decide +kernel
theorem off10 : ∀ t : Fin cfg0.N, 1 ≤ t.val → k0_off10 (grid0.coords t) = ![1, (t.val - 1) % 2] := by decide +kernel
theorem off11 : ∀ t : Fin cfg0.N, 1 ≤ t.val → k0_off11 (grid0.coords t) = ![(t.val - 1) / 2, (t.val - 1) % 2 * 8176, 0] := by decide +kernel
theorem off12 : ∀ t : Fin cfg0.N, t.val = 63 → k0_off12 (grid0.coords t) = ![0, 1] := by decide +kernel
theorem off13 : ∀ t : Fin cfg0.N, t.val = 63 → k0_off13 (grid0.coords t) = ![1, 0, 0] := by decide +kernel
theorem off14 : ∀ t : Fin cfg0.N, t.val = 63 → k0_off14 (grid0.coords t) = ![31, 8208, 0] := by decide +kernel
theorem off15 : ∀ t : Fin cfg0.N, t.val = 63 → k0_off15 (grid0.coords t) = ![1, 1] := by decide +kernel
theorem off16 : ∀ t : Fin cfg0.N, t.val = 63 → k0_off16 (grid0.coords t) = ![31, 8176, 0] := by decide +kernel
theorem off17 : ∀ t : Fin cfg0.N, t.val = 63 → k0_off17 (grid0.coords t) = ![1, 0] := by decide +kernel
theorem off18 : ∀ t : Fin cfg0.N, t.val = 63 → k0_off18 (grid0.coords t) = ![31, 0, 0] := by decide +kernel
theorem off19 : ∀ t : Fin cfg0.N, t.val = 63 → k0_off19 (grid0.coords t) = ![0, 0, 0] := by decide +kernel
theorem cond1 : ∀ t : Fin cfg0.N, k0_cond1 (grid0.coords t) = 1#1 ↔ 2 ≤ t.val := by decide +kernel
theorem cond2 : ∀ t : Fin cfg0.N, k0_cond2 (grid0.coords t) = 1#1 ↔ 1 ≤ t.val := by decide +kernel
theorem cond3 : ∀ t : Fin cfg0.N, k0_cond3 (grid0.coords t) = 1#1 ↔ t.val = 63 := by decide +kernel

end Cert.GatesIdeal.Shift

end
-- ==== Proof.GatesBlk.lean ====
/-
  The block of gates one point leaves, from its rows and the weights kept.
-/
module

public import proofs.«01_k».proof.Proof.GatesRing
public import Idealize.ShloMosaic.Lib.ValueIdx

@[expose] public section

set_option maxRecDepth 16384

noncomputable section

namespace Cert.GatesIdeal.Shift

open Cert.GatesIdeal Cert.GatesIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

theorem col_inb (q : Fin 4) : ∀ a, (![0, 256 * q.val] : Fin 2 → Nat) a + S2048x256.size a ≤ S2048x1024.size a := fun a => by
  have := q.isLt
  fin_cases a
  · show 0 + 2048 ≤ 2048; omega
  · show 256 * q.val + 256 ≤ 1024; omega

/-- One block of `256` gates: the rows `x` through `256` columns of the weights `k`, and their logistic. -/
def colBlk (q : Fin 4) (x : Vec F S1024x2048 .bf16) (k : Vec F S2048x1024 .bf16) : Vec F S1024x256 .bf16 :=
  truncf .bf16 (logistic (matmul dot_S1024x2048_S2048x256_S1024x256_1_0_0_1_n_n none x
    (View.ld k (Rect.unit (s := S2048x1024) ![0, 256 * q.val] S2048x256.size (col_inb q))) (constant S1024x256 .f32 0#32))) bitsLt_bf16_f32

/-- The block of gates a point leaves. -/
def gateOut (x : Vec F S1024x2048 .bf16) (k : Vec F S2048x1024 .bf16) : Vec F S1024x1024 .bf16 := fun j =>
  colBlk ⟨(j 1).val / 256, by have h : (j 1).val < 1024 := (j 1).isLt; omega⟩ x k (ix2 (j 0) ⟨(j 1).val % 256, by omega⟩ : S1024x256.Idx)

theorem out_inb (q : Fin 4) : ∀ a, (![0, 256 * q.val] : Fin 2 → Nat) a + S1024x256.size a ≤ S1024x1024.size a := fun a => by
  have := q.isLt
  fin_cases a
  · show 0 + 1024 ≤ 1024; omega
  · show 256 * q.val + 256 ≤ 1024; omega

/-- The piece of the block a store of `256` columns leaves. -/
abbrev piece (q : Fin 4) (Z : Vec F S1024x256 .bf16) : View.Piece (Elt F) S1024x1024 .bf16 := ⟨Rect.unit (s := S1024x1024) ![0, 256 * q.val] S1024x256.size (out_inb q), Z⟩

theorem piece_eq (q : Fin 4) (x : Vec F S1024x2048 .bf16) (k : Vec F S2048x1024 .bf16) (y : S1024x256.Idx) :
    colBlk q x k y = gateOut x k ((piece (F := F) q (colBlk q x k)).1.emb y) := by
  have hy : (y 1).val < 256 := (y 1).isLt
  have e : (((piece (F := F) q (colBlk q x k)).1.emb y) 1).val = 256 * q.val + (y 1).val := by show 256 * q.val + 1 * (y 1).val = _; omega
  have e0 : (((piece (F := F) q (colBlk q x k)).1.emb y) 0) = y 0 := Fin.ext (by show 0 + 1 * (y 0).val = _; omega)
  unfold gateOut
  have hq : (⟨(((piece (F := F) q (colBlk q x k)).1.emb y) 1).val / 256, by have h := (((piece (F := F) q (colBlk q x k)).1.emb y) 1).isLt; have h : _ < 1024 := h; omega⟩ : Fin 4) = q := Fin.ext (by show _ / 256 = _; rw [e]; omega)
  rw [hq]
  congr 1
  funext a
  match a with
  | ⟨0, _⟩ => exact e0.symm
  | ⟨1, _⟩ => exact Fin.ext (by show (y 1).val = _ % 256; rw [e]; omega)

theorem hz : (![0, 0] : Fin 2 → Nat) = fun _ => 0 := funext fun a => by fin_cases a <;> rfl

/-- Four stores of `256` columns leave the block of gates. -/
theorem read_pieces (v : View sig .tc .vmem S1024x1024 .bf16) (f : v.ty.Contents (Elt F)) (x : Vec F S1024x2048 .bf16) (k : Vec F S2048x1024 .bf16)
    (Z0 Z1 Z2 Z3 : Vec F S1024x256 .bf16) (h0 : Z0 = colBlk 0 x k) (h1 : Z1 = colBlk 1 x k) (h2 : Z2 = colBlk 2 x k) (h3 : Z3 = colBlk 3 x k) (p0 p1 p2 p3) :
    v.read (Elt F) (v.writes (Elt F) f [⟨Rect.unit (s := S1024x1024) ![0, 768] S1024x256.size p3, Z3⟩, ⟨Rect.unit (s := S1024x1024) ![0, 512] S1024x256.size p2, Z2⟩,
      ⟨Rect.unit (s := S1024x1024) ![0, 256] S1024x256.size p1, Z1⟩, ⟨Rect.unit (s := S1024x1024) ![0, 0] S1024x256.size p0, Z0⟩]) = gateOut x k := by
  subst h0 h1 h2 h3
  funext j
  have hj : (j 1).val < 1024 := (j 1).isLt
  have hi : (j 0).val < 1024 := (j 0).isLt
  refine View.read_writes_apply_of_pieces v f (gateOut x k) _ ?_ j ?_
  · intro p hp
    simp only [List.mem_cons, List.not_mem_nil, or_false] at hp
    rcases hp with rfl | rfl | rfl | rfl
    · exact piece_eq 3 x k
    · exact piece_eq 2 x k
    · exact piece_eq 1 x k
    · exact piece_eq 0 x k
  · have hm : ∀ (o : Nat) (p : ∀ a, (![0, o] : Fin 2 → Nat) a + S1024x256.size a ≤ S1024x1024.size a), o ≤ (j 1).val → (j 1).val < o + 256 →
        j ∈ (Rect.unit (s := S1024x1024) ![0, o] S1024x256.size p).set := by
      intro o p h1 h2
      refine (Rect.unit (s := S1024x1024) ![0, o] S1024x256.size p).mem_set.mpr fun a => ?_
      match a with
      | ⟨0, _⟩ => exact ⟨(j 0).val, hi, by show (j 0).val = 0 + 1 * (j 0).val; omega⟩
      | ⟨1, _⟩ => exact ⟨(j 1).val - o, by show _ < 256; omega, by show (j 1).val = o + 1 * ((j 1).val - o); omega⟩
    by_cases c0 : (j 1).val < 256
    · exact ⟨_, List.mem_cons_of_mem _ (List.mem_cons_of_mem _ (List.mem_cons_of_mem _ List.mem_cons_self)), hm 0 p0 (by omega) (by omega)⟩
    by_cases c1 : (j 1).val < 512
    · exact ⟨_, List.mem_cons_of_mem _ (List.mem_cons_of_mem _ List.mem_cons_self), hm 256 p1 (by omega) (by omega)⟩
    by_cases c2 : (j 1).val < 768
    · exact ⟨_, List.mem_cons_of_mem _ List.mem_cons_self, hm 512 p2 (by omega) (by omega)⟩
    exact ⟨_, List.mem_cons_self, hm 768 p3 (by omega) (by omega)⟩

end Cert.GatesIdeal.Shift

end
-- ==== Proof.GatesSteps.lean ====
/-
  The gates projection's copies, one part of its body at a time.
-/
module

public import proofs.«01_k».proof.Proof.GatesBlk

@[expose] public section

set_option maxRecDepth 16384

noncomputable section

namespace Cert.GatesIdeal.Shift

open Cert.GatesIdeal Cert.GatesIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in: the pipeline's, beside the counters of the copies in flight. -/
local notation "𝕄" => MT nD τ sig Unit (Elt F) ℕ (Pipeline.UD sig nD τ) ℕ

variable (c : Dev nD)

/-- The kinds of contents. -/
abbrev BufA : Type := Buf (Elt F) ((c : Thread nD τ).loc main_v0)
abbrev BufO : Type := Buf (Elt F) ((c : Thread nD τ).loc main_v2_1)
abbrev BufW : Type := Buf (Elt F) ((c : Thread nD τ).loc cc0_scratch0)
abbrev BufR : Type := Buf (Elt F) ((c : Thread nD τ).loc cc0_scratch1)

/-- Block `k` of the cache, block `k` of the moved cache and block `k`'s slot, held at given contents. -/
abbrev heldA (k : Nat) (h : k < 64) (f : BufA (F := F) c) : sProp 𝕄 := (srcB k h).view.loc (c : Thread nD τ) ↦[(srcB k h).view.set]{fullShare} f
abbrev heldO (k : Nat) (h : k < 64) (f : BufO (F := F) c) : sProp 𝕄 := (dstB k h).view.loc (c : Thread nD τ) ↦[(dstB k h).view.set]{fullShare} f
abbrev heldR (k : Nat) (f : BufR (F := F) c) : sProp 𝕄 := (slotB k).view.loc (c : Thread nD τ) ↦[(slotB k).view.set]{fullShare} f

/-- The weights kept, held at given contents. -/
abbrev heldW (f : BufW (F := F) c) : sProp 𝕄 := wM.view.loc (c : Thread nD τ) ↦{fullShare} f

/-- The tail of the moved cache, which the new rows fill, and the cell their copy ends on. -/
abbrev tailB : Memref sig .tc .hbm S32x32x128 .f32 :=
  dstM.slice (Rect.unit (s := S32x16384x128) ![0, 16352, 0] S32x32x128.size inb_S32x16384x128_S32x32x128_0_16352_0) (fun _ => rfl)
abbrev tailC : DmaSem sig := ((cc0_scratch2.slice (Rect.unit (s := S3x2) ![2, 0] S1x1.size inb_S3x2_S1x1_2_0)).squeeze S_ squeezes_S1x1_S_).sem
abbrev heldT (f : BufO (F := F) c) : sProp 𝕄 := tailB.view.loc (c : Thread nD τ) ↦[tailB.view.set]{fullShare} f

/-- A cell at rest. -/
abbrev idle (s : DmaSem sig) : sProp 𝕄 := semVal ((c : Thread nD τ), .dma s) 0

/-- What the slot of block `k` holds is the block of the cache. -/
abbrev Loaded (k : Nat) (h : k < 64) (fa : BufA (F := F) c) (fr : BufR (F := F) c) : Prop :=
  (slotB k).view.read (Elt F) fr = (srcB k h).view.read (Elt F) fa
/-- What block `k` of the moved cache holds is what its slot does. -/
abbrev Wrote (k : Nat) (h : k < 64) (fr : BufR (F := F) c) (g : BufO (F := F) c) : Prop :=
  (dstB k h).view.read (Elt F) g = (slotB k).view.read (Elt F) fr

/-- Block `k`'s copy in, in flight: it will deliver the slot at `fr` and the block back. -/
abbrev flyIn (k : Nat) (h : k < 64) (fr : BufR (F := F) c) (fa : BufA (F := F) c) : sProp 𝕄 :=
  Transfers.Flight countersEmb (c : Thread nD τ) (.dma (cellB 0 k (by decide))) default 130816
    iprop(heldR c k fr ∗ heldA c k h fa)
/-- Block `k`'s copy out, in flight: it will deliver the block written at `fo` and the slot back. -/
abbrev flyOut (k : Nat) (h : k < 64) (fo : BufO (F := F) c) (fr : BufR (F := F) c) : sProp 𝕄 :=
  Transfers.Flight countersEmb (c : Thread nD τ) (.dma (cellB 1 k (by decide))) default 130816
    iprop(heldO c k h fo ∗ heldR c k fr)

variable (t : Fin cfg0.N) (arg2 : Memref sig .tc .vmem S1024x2048 .bf16) (harg2 : arg2.IsWhole) (arg3 : Memref sig .tc .vmem S2048x1024 .f32) (harg3 : arg3.IsWhole)
  (arg5 : Memref sig .tc .vmem S32x32x128 .f32) (harg5 : arg5.IsWhole) (arg6 : Memref sig .tc .vmem S1024x1024 .bf16) (harg6 : arg6.IsWhole)

/-- The first part of the body at a point. -/
abbrev part6 := k0_part6 (F := F) (grid0.coords t) arg2 harg2 arg3 harg3 srcM (Memref.isWhole_whole _) arg5 harg5 arg6 harg6 dstM (Memref.isWhole_whole _) wM (Memref.isWhole_whole _) ringM (Memref.isWhole_whole _) cc0_scratch2

/-- What the first part of the body leaves behind: from `P` and what the core waits for, the slot of the point's own block at `fr`, and `Z`. -/
abbrev Frees (P Z : sProp 𝕄) (fr : BufR (F := F) c) : Prop :=
  ∀ (W : Waits sig Unit) (Q : _ → sProp 𝕄),
    iprop(P ∗ owes c.tc 0 W
        ∗ (∀ r, iprop(⌜r.1 = BitVec.ofNat 32 (grid0.coords t 1).val⌝ ∗ heldR c t.val fr ∗ Z ∗ (∃ W', owes c.tc 0 W')) -∗ Q r))
      ⊢ wp frame (wpE (defs₀ (F := F)) Variants.none c none) Set.univ (part6 t arg2 harg2 arg3 harg3 arg5 harg5 arg6 harg6) Q

theorem cellB_congr (r : Nat) (hr : r < 3) {m n : Nat} (h : m % 2 = n % 2) : cellB r m hr = cellB r n hr := by
  have key : ∀ (m n : Nat) (hm : ∀ a, (![r, m] : Fin 2 → Nat) a + S1x1.size a ≤ S3x2.size a)
      (hn : ∀ a, (![r, n] : Fin 2 → Nat) a + S1x1.size a ≤ S3x2.size a), m = n →
      ((cc0_scratch2.slice (Rect.unit (s := S3x2) ![r, m] S1x1.size hm)).squeeze S_ squeezes_S1x1_S_).sem
        = ((cc0_scratch2.slice (Rect.unit (s := S3x2) ![r, n] S1x1.size hn)).squeeze S_ squeezes_S1x1_S_).sem := by
    rintro m n hm hn rfl; rfl
  exact key _ _ _ _ h

theorem heldR_congr {m n : Nat} (h : m % 2 = n % 2) (f : BufR (F := F) c) : heldR (F := F) c m f = heldR c n f := by
  have key : ∀ (m n : Nat) (hm : ∀ a, (![m, 0, 0] : Fin 3 → Nat) a + S1x8176x128.size a ≤ S2x8176x128.size a)
      (hn : ∀ a, (![n, 0, 0] : Fin 3 → Nat) a + S1x8176x128.size a ≤ S2x8176x128.size a), m = n →
      ((((ringM.slice (Rect.unit (s := S2x8176x128) ![m, 0, 0] S1x8176x128.size hm) (fun _ => rfl)).squeeze S8176x128 squeezes_S1x8176x128_S8176x128).view.set
        : Finset (Idx ((c : Thread nD τ).loc cc0_scratch1))))
        = ((ringM.slice (Rect.unit (s := S2x8176x128) ![n, 0, 0] S1x8176x128.size hn) (fun _ => rfl)).squeeze S8176x128 squeezes_S1x8176x128_S8176x128).view.set := by
    rintro m n hm hn rfl; rfl
  exact congrArg (fun S : Finset (Idx ((c : Thread nD τ).loc cc0_scratch1)) => ((c : Thread nD τ).loc cc0_scratch1 ↦[S]{fullShare} f : sProp 𝕄)) (key _ _ _ _ h)

/-- From the third point on, the first part of the body takes back the block written two points before and its slot. -/
theorem frees_late (ht : 2 ≤ t.val) (hk : t.val - 2 < 64) (fo : BufO (F := F) c) (fr : BufR (F := F) c) :
    Frees c t arg2 harg2 arg3 harg3 arg5 harg5 arg6 harg6 (flyOut c (t.val - 2) hk fo fr)
      iprop(idle c (cellB 1 t.val (by decide)) ∗ heldO c (t.val - 2) hk fo) fr := by
  intro W Q
  unfold part6 k0_part6
  have h1 := (cond1 t).mpr ht
  dsimp only
  simp only [dif_pos h1, dst_at (off2 t ht) hk, slot_at (off3 t ht), cell_at (off1 t ht) (by decide)]
  iintro ⟨HF, HO, Hk⟩
  sl_exec
  sl_step
  iapply Hk
  isplitr [HF HF_dst HF_src HO]
  · ipureintro; rfl
  isplitl [HF_src]
  · rw [heldR_congr c (m := t.val) (n := t.val - 2) (by omega)]; iexact HF_src
  isplitl [HF HF_dst]
  · isplitl [HF]
    · rw [cellB_congr 1 (by decide) (m := t.val) (n := t.val - 2) (by omega)]; iexact HF
    iexact HF_dst
  iexists _; iexact HO

/-- At the first two points there is nothing to take back. -/
theorem frees_early (ht : ¬ 2 ≤ t.val) (fr : BufR (F := F) c) :
    Frees c t arg2 harg2 arg3 harg3 arg5 harg5 arg6 harg6 (heldR c t.val fr) iprop(emp) fr := by
  intro W Q
  unfold part6 k0_part6
  have h1 := fun h => ht ((cond1 t).mp h)
  dsimp only
  simp only [dif_neg h1]
  iintro ⟨HR, HO, Hk⟩
  sl_step
  iapply Hk
  isplitr [HR HO]
  · ipureintro; rfl
  isplitl [HR]; · iexact HR
  isplitr; · iempintro
  iexists _; iexact HO

/-- The whole body at a point. -/
abbrev body := cc0_proj_gates (F := F) (grid0.coords t) arg2 harg2 arg3 harg3 srcM (Memref.isWhole_whole _) arg5 harg5 arg6 harg6 dstM (Memref.isWhole_whole _) wM (Memref.isWhole_whole _) ringM (Memref.isWhole_whole _) cc0_scratch2

theorem fresh1 : ∀ t : Fin cfg0.N, Scalar.cmpi .ne (Scalar.extui (Scalar.cmpi .eq (BitVec.ofNat 32 (grid0.coords t 1).val) 0#32) : BitVec 32) 0#32 = 1#1 ↔ t.val % 16 = 0 := by decide +kernel

variable (x : Vec F S1024x2048 .bf16) (w : Vec F S2048x1024 .f32) (z : Vec F S32x32x128 .f32)

/-- The input blocks, as the body is handed them. -/
abbrev Ins : sProp 𝕄 :=
  iprop((arg2.view.loc (c : Thread nD τ) ↦[arg2.view.set]{fullShare} arg2.view.rep (Val := Elt F) x)
    ∗ (arg3.view.loc (c : Thread nD τ) ↦[arg3.view.set]{fullShare} arg3.view.rep (Val := Elt F) w)
    ∗ (arg5.view.loc (c : Thread nD τ) ↦[arg5.view.set]{fullShare} arg5.view.rep (Val := Elt F) z))

/-- The weights, rounded. -/
abbrev narrow (w : Vec F S2048x1024 .f32) : Vec F S2048x1024 .bf16 := truncf .bf16 w bitsLt_bf16_f32

theorem read_fill {sp : Space} {s : Shape} {e : EltTy} (v : View sig .tc sp s e) (f) (off : Fin s.rank → Nat) (inb) (Z : s.Idx → Elt F e) (h0 : ∀ a, off a = 0) :
    v.read (Elt F) (v.writes (Elt F) f [⟨Rect.unit off s.size inb, Z⟩]) = Z := by
  obtain rfl : off = fun _ => 0 := funext h0
  exact View.read_writes_whole v f Z

/-- A load of part of the weights kept after a store filled them reads the stored array there. -/
theorem readCov_whole (v : View sig .tc .vmem S2048x1024 .bf16) (inb) (Z : Vec F S2048x1024 .bf16) (r : Rect S2048x1024) :
    v.readCov [⟨Rect.unit ![0, 0] (no_index S2048x1024.size) inb, Z⟩] r.toLoadRect = View.ld Z r :=
  View.readCov_fill v inb Z [] r (fun a => by fin_cases a <;> rfl)

theorem off12' (ht : t.val = 63) : k0_off12 (grid0.coords t) = ![0, t.val % 2] := by rw [off12 t ht, ht]
theorem off13' (ht : t.val = 63) : k0_off13 (grid0.coords t) = ![t.val % 2, 0, 0] := by rw [off13 t ht, ht]
theorem off14' (ht : t.val = 63) : k0_off14 (grid0.coords t) = ![t.val / 2, t.val % 2 * 8176 + 32, 0] := by rw [off14 t ht, ht]
theorem off15' (ht : t.val = 63) : k0_off15 (grid0.coords t) = ![1, t.val % 2] := by rw [off15 t ht, ht]
theorem off16' (ht : t.val = 63) : k0_off16 (grid0.coords t) = ![t.val / 2, t.val % 2 * 8176, 0] := by rw [off16 t ht, ht]
theorem off17' (ht : t.val = 63) : k0_off17 (grid0.coords t) = ![1, (t.val - 1) % 2] := by rw [off17 t ht, ht]
theorem off18' (ht : t.val = 63) : k0_off18 (grid0.coords t) = ![(t.val - 1) / 2, (t.val - 1) % 2 * 8176, 0] := by rw [off18 t ht, ht]
theorem off19' (ht : t.val = 63) : k0_off19 (grid0.coords t) = ![(t.val - 1) % 2, 0, 0] := by rw [off19 t ht, ht]

set_option maxHeartbeats 400000 in
/-- A point after the first and before the last, with the weights of the point before it. -/
theorem mid_keep (h1 : 1 ≤ t.val) (h63 : t.val ≠ 63) (h16 : t.val % 16 ≠ 0) (hk : t.val < 64) (hk1 : t.val - 1 < 64)
    (P Z : sProp 𝕄) (fr fr1 : BufR (F := F) c) (h6 : Frees c t arg2 harg2 arg3 harg3 arg5 harg5 arg6 harg6 P Z fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ (∃ W', owes c.tc 0 W') ∗ Ins c arg2 arg3 arg5 x w z ∗ owns c.tc arg6 fullShare (gateOut x (wM.view.read (Elt F) y))
            ∗ (∃ y', ⌜wM.view.read (Elt F) y' = wM.view.read (Elt F) y⌝ ∗ heldW c y')) -∗ K ⟨⟩))
      ⊢ wp frame (wpE (defs₀ (F := F)) Variants.none c none) Set.univ (body t arg2 harg2 arg3 harg3 arg5 harg5 arg6 harg6) K := by
  unfold owns body cc0_proj_gates
  iintro ⟨HP, HF, HA, HsI, HD, HsO, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a1, v1, v11, v33, v34, v35, c0⟩ := r
  dsimp only at hr ⊢
  subst hr
  unfold k0_part7
  have c2 := (cond2 t).mpr h1
  have c3 := fun h => h63 ((cond3 t).mp h)
  have c4 := fun h => h16 ((fresh1 t).mp h)
  dsimp only
  simp only [dif_pos c2, dif_neg c3, dif_neg c4, src_at (off6 t) hk, slot_at (off5 t), cell_at (off4 t) (by decide),
    k0_part1, cell_at (off7 t h1) (by decide), slot_at (off8 t h1), src_at (off9 t h1) hk1, cell_at (off10 t h1) (by decide), dst_at (off11 t h1) hk1]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HF_src]; · iexact HF_src
  isplitl [HF]; · iexact HF
  isplitl [HsO]
  · iexists _; isplitr [HsO]
    swap; · iexact HsO
    ipureintro
    sl_unfold_words
    first | unfold Loaded | unfold Wrote
    rw [View.read_writes_whole]
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ rfl rfl rfl rfl _ _ _ _
  iexists _; isplitr [HY]
  swap; · iexact HY
  ipureintro
  rfl

set_option maxHeartbeats 400000 in
/-- A point after the first and before the last that takes over new weights. -/
theorem mid_fresh (h1 : 1 ≤ t.val) (h63 : t.val ≠ 63) (h16 : t.val % 16 = 0) (hk : t.val < 64) (hk1 : t.val - 1 < 64)
    (P Z : sProp 𝕄) (fr fr1 : BufR (F := F) c) (h6 : Frees c t arg2 harg2 arg3 harg3 arg5 harg5 arg6 harg6 P Z fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ (∃ W', owes c.tc 0 W') ∗ Ins c arg2 arg3 arg5 x w z ∗ owns c.tc arg6 fullShare (gateOut x (narrow w))
            ∗ (∃ y', ⌜wM.view.read (Elt F) y' = narrow w⌝ ∗ heldW c y')) -∗ K ⟨⟩))
      ⊢ wp frame (wpE (defs₀ (F := F)) Variants.none c none) Set.univ (body t arg2 harg2 arg3 harg3 arg5 harg5 arg6 harg6) K := by
  unfold owns body cc0_proj_gates
  iintro ⟨HP, HF, HA, HsI, HD, HsO, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a1, v1, v11, v33, v34, v35, c0⟩ := r
  dsimp only at hr ⊢
  subst hr
  unfold k0_part7
  have c2 := (cond2 t).mpr h1
  have c3 := fun h => h63 ((cond3 t).mp h)
  have c4 := (fresh1 t).mpr h16
  dsimp only
  simp only [dif_pos c2, dif_neg c3, dif_pos c4, src_at (off6 t) hk, slot_at (off5 t), cell_at (off4 t) (by decide),
    k0_part1, cell_at (off7 t h1) (by decide), slot_at (off8 t h1), src_at (off9 t h1) hk1, cell_at (off10 t h1) (by decide), dst_at (off11 t h1) hk1]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HF_src]; · iexact HF_src
  isplitl [HF]; · iexact HF
  isplitl [HsO]
  · iexists _; isplitr [HsO]
    swap; · iexact HsO
    ipureintro
    sl_unfold_words
    first | unfold Loaded | unfold Wrote
    rw [View.read_writes_whole]
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ rfl rfl rfl rfl _ _ _ _
  iexists _; isplitr [HY]
  swap; · iexact HY
  ipureintro
  sl_unfold_words
  rw [read_fill (h0 := fun a => by fin_cases a <;> rfl)]
  simp only [View.readAt_eq_ld, View.read_rep, shapeCast_self, View.ld_unit_zero (S := S2048x1024) hz]

set_option maxHeartbeats 400000 in
/-- The first point. -/
theorem first (h1 : ¬ 1 ≤ t.val) (h63 : t.val ≠ 63) (h16 : t.val % 16 = 0) (hk : t.val < 64)
    (P Z : sProp 𝕄) (fr : BufR (F := F) c) (h6 : Frees c t arg2 harg2 arg3 harg3 arg5 harg5 arg6 harg6 P Z fr)
    (fa : BufA (F := F) c) (y : BufW (F := F) c) (W : Waits sig Unit) (K : PUnit → sProp 𝕄) :
    iprop(P ∗ heldA c t.val hk fa ∗ idle c (cellB 0 t.val (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ (∃ W', owes c.tc 0 W') ∗ Ins c arg2 arg3 arg5 x w z ∗ owns c.tc arg6 fullShare (gateOut x (narrow w))
            ∗ (∃ y', ⌜wM.view.read (Elt F) y' = narrow w⌝ ∗ heldW c y')) -∗ K ⟨⟩))
      ⊢ wp frame (wpE (defs₀ (F := F)) Variants.none c none) Set.univ (body t arg2 harg2 arg3 harg3 arg5 harg5 arg6 harg6) K := by
  unfold owns body cc0_proj_gates
  iintro ⟨HP, HA, HsI, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a1, v1, v11, v33, v34, v35, c0⟩ := r
  dsimp only at hr ⊢
  subst hr
  unfold k0_part7
  have c2 := fun h => h1 ((cond2 t).mp h)
  have c3 := fun h => h63 ((cond3 t).mp h)
  have c4 := (fresh1 t).mpr h16
  dsimp only
  simp only [dif_neg c2, dif_neg c3, dif_pos c4, src_at (off6 t) hk, slot_at (off5 t), cell_at (off4 t) (by decide)]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ rfl rfl rfl rfl _ _ _ _
  iexists _; isplitr [HY]
  swap; · iexact HY
  ipureintro
  sl_unfold_words
  rw [read_fill (h0 := fun a => by fin_cases a <;> rfl)]
  simp only [View.readAt_eq_ld, View.read_rep, shapeCast_self, View.ld_unit_zero (S := S2048x1024) hz]

set_option maxHeartbeats 400000 in
/-- The last point. -/
theorem last (h1 : 1 ≤ t.val) (h63 : t.val = 63) (h16 : t.val % 16 ≠ 0) (hk : t.val < 64) (hk1 : t.val - 1 < 64)
    (P Z : sProp 𝕄) (fr fr1 : BufR (F := F) c) (h6 : Frees c t arg2 harg2 arg3 harg3 arg5 harg5 arg6 harg6 P iprop(idle c (cellB 1 t.val (by decide)) ∗ Z) fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ heldO c t.val hk g ∗ heldT c g ∗ idle c tailC
        ∗ owes c.tc 0 W ∗ Ins c arg2 arg3 arg5 x w z ∗ (∃ d, owns c.tc arg6 fullShare d) ∗ heldW c y
        ∗ (iprop(Z ∗ (∃ fr' g', ⌜Loaded c t.val hk fa fr'⌝ ∗ ⌜Wrote c t.val hk fr' g'⌝ ∗ heldR c t.val fr' ∗ heldO c t.val hk g')
            ∗ heldR c (t.val - 1) fr1 ∗ (∃ g', ⌜Wrote c (t.val - 1) hk1 fr1 g'⌝ ∗ heldO c (t.val - 1) hk1 g')
            ∗ (∃ g', ⌜tailB.view.read (Elt F) g' = z⌝ ∗ heldT c g') ∗ heldA c t.val hk fa ∗ heldA c (t.val - 1) hk1 fa
            ∗ idle c (cellB 0 t.val (by decide)) ∗ idle c (cellB 0 (t.val - 1) (by decide)) ∗ idle c (cellB 1 t.val (by decide)) ∗ idle c (cellB 1 (t.val - 1) (by decide)) ∗ idle c tailC
            ∗ (∃ W', owes c.tc 0 W') ∗ Ins c arg2 arg3 arg5 x w z ∗ owns c.tc arg6 fullShare (gateOut x (wM.view.read (Elt F) y))
            ∗ (∃ y', ⌜wM.view.read (Elt F) y' = wM.view.read (Elt F) y⌝ ∗ heldW c y')) -∗ K ⟨⟩))
      ⊢ wp frame (wpE (defs₀ (F := F)) Variants.none c none) Set.univ (body t arg2 harg2 arg3 harg3 arg5 harg5 arg6 harg6) K := by
  unfold owns body cc0_proj_gates
  iintro ⟨HP, HF, HA, HsI, HD, HsO, HD1, HT, HsT, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, ⟨HsO1, HZ⟩, ⟨%W', HO⟩⟩
  obtain ⟨a1, v1, v11, v33, v34, v35, c0⟩ := r
  dsimp only at hr ⊢
  subst hr
  unfold k0_part7
  have c2 := (cond2 t).mpr h1
  have c3 := (cond3 t).mpr h63
  have c4 := fun h => h16 ((fresh1 t).mp h)
  dsimp only
  simp only [dif_pos c2, dif_pos c3, dif_neg c4, src_at (off6 t) hk, slot_at (off5 t), cell_at (off4 t) (by decide),
    k0_part1, cell_at (off7 t h1) (by decide), slot_at (off8 t h1), src_at (off9 t h1) hk1, cell_at (off10 t h1) (by decide), dst_at (off11 t h1) hk1,
    k0_part2, k0_part3, k0_part4, k0_part5, cell_at (off12' t h63) (by decide), slot_at (off13' t h63), src_at (off14' t h63) hk, cell_at (off15' t h63) (by decide), dst_at (off16' t h63) hk, cell_at (off17' t h63) (by decide), dst_at (off18' t h63) hk1, slot_at (off19' t h63)]
  sl_exec!
  sl_step
  iapply Hk
  isplitl [HZ]; · iexact HZ
  isplitl [HR HD1]
  · iexists _, _
    isplitr [HR HD1]
    swap
    · isplitr [HR HD1]
      swap
      · isplitl [HR]; · iexact HR
        iexact HD1
      ipureintro
      sl_unfold_words
      unfold Wrote
      rw [View.read_writes_whole, View.read_writes_whole]
    ipureintro
    sl_unfold_words
    first | unfold Loaded | unfold Wrote
    rw [View.read_writes_whole]
  isplitl [HF_dst]; · iexact HF_dst
  isplitl [HD]
  · iexists _; isplitr [HD]
    swap; · iexact HD
    ipureintro
    sl_unfold_words
    first | unfold Loaded | unfold Wrote
    rw [View.read_writes_whole]
  isplitl [HT]
  · iexists _; isplitr [HT]
    swap; · iexact HT
    ipureintro
    sl_unfold_words
    rw [View.read_writes_whole]
    exact View.read_rep _ _
  isplitl [HA]; · iexact HA
  isplitl [HF_src]; · iexact HF_src
  isplitl [HsI]; · iexact HsI
  isplitl [HF]; · iexact HF
  isplitl [HsO1]; · iexact HsO1
  isplitl [HsO]; · iexact HsO
  isplitl [HsT]; · iexact HsT
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ rfl rfl rfl rfl _ _ _ _
  iexists _; isplitr [HY]
  swap; · iexact HY
  ipureintro
  rfl

end Cert.GatesIdeal.Shift

end
-- ==== Proof.GatesSets.lean ====
/-
  Which rows of the cache and of the moved cache each copy of the gates projection takes and leaves, and what the moved
  cache holds when they are done.
-/
module

public import proofs.«01_k».proof.Proof.GatesSteps

@[expose] public section

set_option maxRecDepth 16384

noncomputable section

namespace Cert.GatesIdeal.Shift

open Cert.GatesIdeal Cert.GatesIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in. -/
local notation "𝕄" => MT nD τ sig Unit (Elt F) ℕ (Pipeline.UD sig nD τ) ℕ

/-- The block of the cache a place lies in, and `64` for the rows no copy takes. -/
def sn (i : S32x16384x128.Idx) : ℕ := if (i 1).val < 32 then 64 else 2 * (i 0).val + if (i 1).val < 8208 then 0 else 1
/-- The block of the moved cache a place lies in, and `64` for its tail. -/
def bn (i : S32x16384x128.Idx) : ℕ := if (i 1).val < 8176 then 2 * (i 0).val else if (i 1).val < 16352 then 2 * (i 0).val + 1 else 64

theorem rows_mem {n0 n1 : ℕ} (o : Fin 3 → ℕ) (S S' : Fin 3 → ℕ) (p) (i : (⟨3, S⟩ : Shape).Idx) (h : S' = ![n0, n1, 128]) :
    i ∈ (Rect.unit (s := ⟨3, S⟩) o S' p).set ↔ (o 0 ≤ (i 0).val ∧ (i 0).val < o 0 + n0) ∧ (o 1 ≤ (i 1).val ∧ (i 1).val < o 1 + n1) ∧ (o 2 ≤ (i 2).val ∧ (i 2).val < o 2 + 128) := by
  subst h
  refine ((Rect.unit (s := ⟨3, S⟩) o ![n0, n1, 128] p).mem_set).trans ?_
  have key : ∀ x off n : ℕ, (∃ j < n, x = off + 1 * j) ↔ off ≤ x ∧ x < off + n := fun x off n =>
    ⟨fun ⟨j, h, e⟩ => by omega, fun h => ⟨x - off, by omega, by omega⟩⟩
  constructor
  · intro h
    exact ⟨(key _ _ _).mp (h 0), (key _ _ _).mp (h 1), (key _ _ _).mp (h 2)⟩
  · rintro ⟨h0, h1, h2⟩ a
    match a with
    | ⟨0, _⟩ => exact (key _ _ _).mpr h0
    | ⟨1, _⟩ => exact (key _ _ _).mpr h1
    | ⟨2, _⟩ => exact (key _ _ _).mpr h2

theorem size_a : S1x8176x128.size = ![1, 8176, 128] := rfl

theorem mem_src (k : ℕ) (h : k < 64) (i : S32x16384x128.Idx) : i ∈ (srcB k h).view.set ↔ sn i = k := by
  rw [show (srcB k h).view.set = (Rect.unit (s := S32x16384x128) ![k / 2, k % 2 * 8176 + 32, 0] S1x8176x128.size (src_inb k h)).set from
    (View.set_reshape _ _).trans (View.set_slice_whole _ _), rows_mem _ _ _ _ i size_a]
  have h0 : (i 0).val < 32 := (i 0).isLt
  have h1 : (i 1).val < 16384 := (i 1).isLt
  have h2 : (i 2).val < 128 := (i 2).isLt
  show (k / 2 ≤ _ ∧ _ < k / 2 + 1) ∧ (k % 2 * 8176 + 32 ≤ _ ∧ _ < k % 2 * 8176 + 32 + 8176) ∧ (0 ≤ _ ∧ _ < 0 + 128) ↔ _
  unfold sn
  split <;> [skip; split] <;> omega

theorem mem_dst (k : ℕ) (h : k < 64) (i : S32x16384x128.Idx) : i ∈ (dstB k h).view.set ↔ bn i = k := by
  rw [show (dstB k h).view.set = (Rect.unit (s := S32x16384x128) ![k / 2, k % 2 * 8176, 0] S1x8176x128.size (dst_inb k h)).set from
    (View.set_reshape _ _).trans (View.set_slice_whole _ _), rows_mem _ _ _ _ i size_a]
  have h0 : (i 0).val < 32 := (i 0).isLt
  have h1 : (i 1).val < 16384 := (i 1).isLt
  have h2 : (i 2).val < 128 := (i 2).isLt
  show (k / 2 ≤ _ ∧ _ < k / 2 + 1) ∧ (k % 2 * 8176 ≤ _ ∧ _ < k % 2 * 8176 + 8176) ∧ (0 ≤ _ ∧ _ < 0 + 128) ↔ _
  unfold bn
  split <;> [skip; split] <;> omega

theorem mem_tail (i : S32x16384x128.Idx) : i ∈ tailB.view.set ↔ bn i = 64 := by
  rw [show tailB.view.set = (Rect.unit (s := S32x16384x128) ![0, 16352, 0] S32x32x128.size inb_S32x16384x128_S32x32x128_0_16352_0).set from
    View.set_slice_whole _ _, rows_mem _ _ _ _ i (show S32x32x128.size = ![32, 32, 128] from rfl)]
  have h0 : (i 0).val < 32 := (i 0).isLt
  have h1 : (i 1).val < 16384 := (i 1).isLt
  have h2 : (i 2).val < 128 := (i 2).isLt
  show (0 ≤ _ ∧ _ < 0 + 32) ∧ (16352 ≤ _ ∧ _ < 16352 + 32) ∧ (0 ≤ _ ∧ _ < 0 + 128) ↔ _
  unfold bn
  split <;> [skip; split] <;> omega

theorem mem_slot (k : ℕ) (i : S2x8176x128.Idx) : i ∈ (slotB k).view.set ↔ (i 0).val = k % 2 := by
  rw [show (slotB k).view.set = (Rect.unit (s := S2x8176x128) ![k % 2, 0, 0] S1x8176x128.size (slot_inb k)).set from
    (View.set_reshape _ _).trans (View.set_slice_whole _ _), rows_mem _ _ _ _ i size_a]
  have h1 : (i 1).val < 8176 := (i 1).isLt
  have h2 : (i 2).val < 128 := (i 2).isLt
  show (k % 2 ≤ _ ∧ _ < k % 2 + 1) ∧ (0 ≤ _ ∧ _ < 0 + 8176) ∧ (0 ≤ _ ∧ _ < 0 + 128) ↔ _
  omega

theorem bn_le (i : S32x16384x128.Idx) : bn i ≤ 64 := by
  have h0 : (i 0).val < 32 := (i 0).isLt
  unfold bn; split <;> [skip; split] <;> omega

/-! ## The cache and the moved cache in parts -/

variable (c : Dev nD)

/-- The places of a buffer this shape that meet a condition, held at given contents. -/
abbrev partA (p : S32x16384x128.Idx → Prop) [DecidablePred p] (f : BufA (F := F) c) : sProp 𝕄 :=
  ((c : Thread nD τ).loc main_v0) ↦[(Finset.univ.filter p : Finset S32x16384x128.Idx)]{fullShare} f
abbrev partO (p : S32x16384x128.Idx → Prop) [DecidablePred p] (f : BufO (F := F) c) : sProp 𝕄 :=
  ((c : Thread nD τ).loc main_v2_1) ↦[(Finset.univ.filter p : Finset S32x16384x128.Idx)]{fullShare} f

theorem eqA (k : ℕ) (h : k < 64) (f : BufA (F := F) c) : heldA c k h f = partA c (fun i => sn i = k) f :=
  congrArg (fun S : Finset S32x16384x128.Idx => (((c : Thread nD τ).loc main_v0) ↦[S]{fullShare} f : sProp 𝕄))
    (Finset.ext fun i => (mem_src k h i).trans (by simp))
theorem eqO (k : ℕ) (h : k < 64) (f : BufO (F := F) c) : heldO c k h f = partO c (fun i => bn i = k) f :=
  congrArg (fun S : Finset S32x16384x128.Idx => (((c : Thread nD τ).loc main_v2_1) ↦[S]{fullShare} f : sProp 𝕄))
    (Finset.ext fun i => (mem_dst k h i).trans (by simp))
theorem eqT (f : BufO (F := F) c) : heldT c f = partO c (fun i => bn i = 64) f :=
  congrArg (fun S : Finset S32x16384x128.Idx => (((c : Thread nD τ).loc main_v2_1) ↦[S]{fullShare} f : sProp 𝕄))
    (Finset.ext fun i => (mem_tail i).trans (by simp))
theorem allA (p : S32x16384x128.Idx → Prop) [DecidablePred p] (hp : ∀ i, p i) (f : BufA (F := F) c) :
    (((c : Thread nD τ).loc main_v0) ↦{fullShare} f : sProp 𝕄) = partA c p f :=
  congrArg (fun S : Finset S32x16384x128.Idx => (((c : Thread nD τ).loc main_v0) ↦[S]{fullShare} f : sProp 𝕄))
    (Finset.ext fun i => by simp [hp i])
theorem allO (p : S32x16384x128.Idx → Prop) [DecidablePred p] (hp : ∀ i, p i) (f : BufO (F := F) c) :
    (((c : Thread nD τ).loc main_v2_1) ↦{fullShare} f : sProp 𝕄) = partO c p f :=
  congrArg (fun S : Finset S32x16384x128.Idx => (((c : Thread nD τ).loc main_v2_1) ↦[S]{fullShare} f : sProp 𝕄))
    (Finset.ext fun i => by simp [hp i])

/-- A part is two parts that make it up. -/
theorem cutA (p q r : S32x16384x128.Idx → Prop) [DecidablePred p] [DecidablePred q] [DecidablePred r] (f : BufA (F := F) c)
    (h : ∀ i, p i ↔ q i ∨ r i) (hd : ∀ i, q i → ¬ r i) : partA c p f ⊣⊢ iprop(partA c q f ∗ partA c r f) := by
  have e : (Finset.univ.filter p : Finset S32x16384x128.Idx) = Finset.univ.filter q ∪ Finset.univ.filter r :=
    Finset.ext fun i => by simp [h i]
  unfold partA; rw [e]
  exact pointsTo_union (ℓ := (c : Thread nD τ).loc main_v0) (Finset.disjoint_left.mpr fun i a b => hd i (by simpa using a) (by simpa using b))
theorem cutO (p q r : S32x16384x128.Idx → Prop) [DecidablePred p] [DecidablePred q] [DecidablePred r] (f : BufO (F := F) c)
    (h : ∀ i, p i ↔ q i ∨ r i) (hd : ∀ i, q i → ¬ r i) : partO c p f ⊣⊢ iprop(partO c q f ∗ partO c r f) := by
  have e : (Finset.univ.filter p : Finset S32x16384x128.Idx) = Finset.univ.filter q ∪ Finset.univ.filter r :=
    Finset.ext fun i => by simp [h i]
  unfold partO; rw [e]
  exact pointsTo_union (ℓ := (c : Thread nD τ).loc main_v2_1) (Finset.disjoint_left.mpr fun i a b => hd i (by simpa using a) (by simpa using b))

/-! ## The ring in slots -/

theorem ring_split (f : BufR (F := F) c) : (((c : Thread nD τ).loc cc0_scratch1) ↦{fullShare} f : sProp 𝕄) ⊢ iprop(heldR c 0 f ∗ heldR c 1 f) := by
  have e : (Finset.univ : Finset S2x8176x128.Idx) = (slotB 0).view.set ∪ (slotB 1).view.set := Finset.ext fun i => by
    have h0 : (i 0).val < 2 := (i 0).isLt
    simp only [Finset.mem_univ, true_iff]
    refine Finset.mem_union.mpr ?_
    rw [show (i ∈ (slotB 0).view.set ↔ _) from mem_slot 0 i, show (i ∈ (slotB 1).view.set ↔ _) from mem_slot 1 i]
    omega
  refine (Entails.of_eq (congrArg (fun S : Finset S2x8176x128.Idx => (((c : Thread nD τ).loc cc0_scratch1) ↦[S]{fullShare} f : sProp 𝕄)) e)).trans ?_
  exact (pointsTo_union (ℓ := (c : Thread nD τ).loc cc0_scratch1) (Finset.disjoint_left.mpr fun i a b => by
    have a' := (mem_slot 0 i).mp a; have b' := (mem_slot 1 i).mp b; omega)).1
theorem ring_join (f g : BufR (F := F) c) : iprop(heldR c 0 f ∗ heldR c 1 g) ⊢ (iprop(∃ h, ((c : Thread nD τ).loc cc0_scratch1) ↦{fullShare} h) : sProp 𝕄) := by
  have e : (Finset.univ : Finset S2x8176x128.Idx) = (slotB 0).view.set ∪ (slotB 1).view.set := Finset.ext fun i => by
    have h0 : (i 0).val < 2 := (i 0).isLt
    simp only [Finset.mem_univ, true_iff]
    refine Finset.mem_union.mpr ?_
    rw [show (i ∈ (slotB 0).view.set ↔ _) from mem_slot 0 i, show (i ∈ (slotB 1).view.set ↔ _) from mem_slot 1 i]
    omega
  refine (pointsTo_join (ℓ := (c : Thread nD τ).loc cc0_scratch1) (f := f) (g := g) (I := (slotB 0).view.set) (J := (slotB 1).view.set) (Finset.disjoint_left.mpr fun i a b => by
    have a' := (mem_slot 0 i).mp a; have b' := (mem_slot 1 i).mp b; omega)).trans ?_
  refine Entails.trans (Entails.of_eq ?_) (exists_intro ((slotB 1).view.set.piecewise g f))
  exact (congrArg (fun S : Finset S2x8176x128.Idx => (((c : Thread nD τ).loc cc0_scratch1) ↦[S]{fullShare} ((slotB 1).view.set.piecewise g f) : sProp 𝕄)) e).symm

/-! ## The moved cache -/

/-- The moved cache: the cache `32` rows earlier, and the new rows at its tail. -/
def moved (fa : S32x16384x128.Idx → Elt F .f32) (z : S32x32x128.Idx → Elt F .f32) : S32x16384x128.Idx → Elt F .f32 := fun i =>
  if h : (i 1).val < 16352 then fa (ix3 (i 0) ⟨(i 1).val + 32, by omega⟩ (i 2))
  else z (ix3 (i 0) ⟨(i 1).val - 16352, by have : (i 1).val < 16384 := (i 1).isLt; omega⟩ (i 2))

theorem moved_lo (fa : S32x16384x128.Idx → Elt F .f32) (z : S32x32x128.Idx → Elt F .f32) (i i' : S32x16384x128.Idx) (hl : (i 1).val < 16352)
    (h0 : (i' 0).val = (i 0).val) (h1 : (i' 1).val = (i 1).val + 32) (h2 : (i' 2).val = (i 2).val) : moved fa z i = fa i' := by
  unfold moved
  rw [dif_pos hl]
  congr 1
  funext a
  apply Fin.ext
  match a with
  | ⟨0, _⟩ => exact h0.symm
  | ⟨1, _⟩ => exact h1.symm
  | ⟨2, _⟩ => exact h2.symm
theorem moved_hi (fa : S32x16384x128.Idx → Elt F .f32) (z : S32x32x128.Idx → Elt F .f32) (i : S32x16384x128.Idx) (j : S32x32x128.Idx)
    (h0 : (i 0).val = (j 0).val) (h1 : (i 1).val = 16352 + (j 1).val) (h2 : (i 2).val = (j 2).val) : moved fa z i = z j := by
  unfold moved
  rw [dif_neg (by omega)]
  congr 1
  funext a
  apply Fin.ext
  match a with
  | ⟨0, _⟩ => exact h0
  | ⟨1, _⟩ => show (i 1).val - 16352 = (j 1).val; omega
  | ⟨2, _⟩ => exact h2

theorem moved_dst (fa : BufA (F := F) c) (z : Vec F S32x32x128 .f32) (k : ℕ) (h : k < 64) :
    (dstB k h).view.read (Elt F) (moved fa z) = (srcB k h).view.read (Elt F) fa := by
  have key : ∀ j : S1x8176x128.Idx,
      moved (F := F) fa z ((Rect.unit (s := S32x16384x128) ![k / 2, k % 2 * 8176, 0] S1x8176x128.size (dst_inb k h)).emb j)
        = fa ((Rect.unit (s := S32x16384x128) ![k / 2, k % 2 * 8176 + 32, 0] S1x8176x128.size (src_inb k h)).emb j) := fun j => by
    have h1 : (j 1).val < 8176 := (j 1).isLt
    refine moved_lo _ _ _ _ (show k % 2 * 8176 + 1 * (j 1).val < 16352 by omega) (show k / 2 + 1 * (j 0).val = k / 2 + 1 * (j 0).val from rfl) ?_ (show 0 + 1 * (j 2).val = 0 + 1 * (j 2).val from rfl)
    show k % 2 * 8176 + 32 + 1 * (j 1).val = k % 2 * 8176 + 1 * (j 1).val + 32; omega
  funext j
  exact key _

theorem moved_tail (fa : BufA (F := F) c) (z : Vec F S32x32x128 .f32) : tailB.view.read (Elt F) (moved fa z : BufO (F := F) c) = z := by
  funext j
  show moved (F := F) fa z ((Rect.unit (s := S32x16384x128) ![0, 16352, 0] S32x32x128.size inb_S32x16384x128_S32x32x128_0_16352_0).emb j) = z j
  refine moved_hi _ _ _ j ?_ ?_ ?_
  · show 0 + 1 * (j 0).val = (j 0).val; omega
  · show 16352 + 1 * (j 1).val = 16352 + (j 1).val; omega
  · show 0 + 1 * (j 2).val = (j 2).val; omega

/-- A block written from its slot is a block of the moved cache. -/
theorem done_eq (fa : BufA (F := F) c) (z : Vec F S32x32x128 .f32) (k : ℕ) (h : k < 64) (fr : BufR (F := F) c) (g : BufO (F := F) c)
    (hl : Loaded c k h fa fr) (hw : Wrote c k h fr g) : heldO c k h g = heldO c k h (moved fa z) := by
  unfold heldO
  rw [pointsTo_rep (c : Thread nD τ) (dstB k h) g, pointsTo_rep (c : Thread nD τ) (dstB k h) (moved fa z), hw, hl, moved_dst]
theorem tail_eq (fa : BufA (F := F) c) (z : Vec F S32x32x128 .f32) (g : BufO (F := F) c)
    (hw : tailB.view.read (Elt F) g = z) : heldT c g = heldT c (moved fa z) := by
  unfold heldT
  rw [pointsTo_rep (c : Thread nD τ) tailB g, pointsTo_rep (c : Thread nD τ) tailB (moved fa z), hw, moved_tail]

end Cert.GatesIdeal.Shift

end
-- ==== Proof.GatesInv.lean ====
/-
  What the gates projection holds between its points, and that each point takes it to the next.
-/
module

public import proofs.«01_k».proof.Proof.GatesSets

@[expose] public section

set_option maxRecDepth 16384

noncomputable section

namespace Cert.GatesIdeal.Shift

open Cert.GatesIdeal Cert.GatesIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in. -/
local notation "𝕄" => MT nD τ sig Unit (Elt F) ℕ (Pipeline.UD sig nD τ) ℕ

variable (c : Dev nD) (fa : BufA (F := F) c) (V2 : BufO (F := F) c) (z : Vec F S32x32x128 .f32)

/-- Nothing in flight: the whole cache, the moved cache at `g`, both slots and every cell. -/
def Rest (g : BufO (F := F) c) : sProp 𝕄 :=
  iprop((((c : Thread nD τ).loc main_v0) ↦{fullShare} fa) ∗ (((c : Thread nD τ).loc main_v2_1) ↦{fullShare} g)
    ∗ (∃ f, heldR c 0 f) ∗ (∃ f, heldR c 1 f) ∗ idle c (cellB 0 0 (by decide)) ∗ idle c (cellB 0 1 (by decide)) ∗ idle c (cellB 1 0 (by decide)) ∗ idle c (cellB 1 1 (by decide)))

/-- The slot the next copy in takes, as point `n` leaves it: in the hands of a copy out, or free. -/
def Slot (n : ℕ) (h : n < 63) : sProp 𝕄 :=
  if 1 ≤ n then iprop(∃ fr, flyOut c (n - 1) (by omega) (moved fa z) fr) else iprop((∃ fr, heldR c (n + 1) fr) ∗ idle c (cellB 1 (n + 1) (by decide)))

/-- What point `n` leaves, other than the last: block `n` on its way in. -/
def Mid (n : ℕ) (h : n < 63) : sProp 𝕄 :=
  iprop((∃ fr, ⌜Loaded c n (by omega) fa fr⌝ ∗ flyIn c n (by omega) fr fa) ∗ partA c (fun i => sn i ≠ n) fa ∗ Slot c fa z n h
    ∗ idle c (cellB 0 (n + 1) (by decide)) ∗ idle c (cellB 1 n (by decide))
    ∗ partO c (fun i => bn i < n - 1) (moved fa z) ∗ partO c (fun i => n ≤ bn i) V2)

variable (t : Fin cfg0.N) (arg2 : Memref sig .tc .vmem S1024x2048 .bf16) (harg2 : arg2.IsWhole) (arg3 : Memref sig .tc .vmem S2048x1024 .f32) (harg3 : arg3.IsWhole)
  (arg5 : Memref sig .tc .vmem S32x32x128 .f32) (harg5 : arg5.IsWhole) (arg6 : Memref sig .tc .vmem S1024x1024 .bf16) (harg6 : arg6.IsWhole)

theorem flyOut_congr {m n : ℕ} (h : m = n) (hm : m < 64) (hn : n < 64) (fo : BufO (F := F) c) (fr : BufR (F := F) c) : flyOut c m hm fo fr = flyOut c n hn fo fr := by
  subst h; rfl
theorem partO_congr (p q : S32x16384x128.Idx → Prop) [DecidablePred p] [DecidablePred q] (h : ∀ i, p i ↔ q i) (f : BufO (F := F) c) : partO c p f = partO c q f :=
  congrArg (fun S : Finset S32x16384x128.Idx => (((c : Thread nD τ).loc main_v2_1) ↦[S]{fullShare} f : sProp 𝕄)) (Finset.ext fun i => by simp [h i])

/-- A first part that leaves more alone leaves it. -/
theorem frees_frame (P Z R : sProp 𝕄) (fr : BufR (F := F) c) (h : Frees c t arg2 harg2 arg3 harg3 arg5 harg5 arg6 harg6 P Z fr) :
    Frees c t arg2 harg2 arg3 harg3 arg5 harg5 arg6 harg6 iprop(P ∗ R) iprop(R ∗ Z) fr := by
  intro W Q
  iintro ⟨⟨HP, HR⟩, HO, Hk⟩
  iapply h W Q
  isplitl [HP]; · iexact HP
  isplitl [HO]; · iexact HO
  iintro %r ⟨%hr, H1, H2, H3⟩
  iapply Hk
  isplitr [H1 H2 H3 HR]; · ipureintro; exact hr
  isplitl [H1]; · iexact H1
  isplitl [H2 HR]
  · isplitl [HR]; · iexact HR
    iexact H2
  iexact H3

/-- At every point after the first the slot is, or is made, free, and the block copied out of it is done. -/
theorem slot_frees (h1 : 1 ≤ t.val) (h : t.val - 1 < 63) (R G : sProp 𝕄)
    (hG : ∀ (P Z : sProp 𝕄) (fr : BufR (F := F) c), Frees c t arg2 harg2 arg3 harg3 arg5 harg5 arg6 harg6 P iprop(idle c (cellB 1 t.val (by decide)) ∗ Z) fr →
      iprop(P ∗ (Z -∗ partO c (fun i => bn i < t.val - 1) (moved fa z)) ∗ R) ⊢ G) :
    iprop(Slot c fa z (t.val - 1) h ∗ partO c (fun i => bn i < t.val - 1 - 1) (moved fa z) ∗ R) ⊢ G := by
  by_cases h2 : 2 ≤ t.val
  · unfold Slot
    rw [if_pos (by omega)]
    iintro ⟨⟨%fr, HF⟩, HD, HR⟩
    iapply (hG _ _ fr (frees_late c t arg2 harg2 arg3 harg3 arg5 harg5 arg6 harg6 h2 (by omega) (moved fa z) fr))
    isplitl [HF]; · rw [flyOut_congr c (m := t.val - 2) (n := t.val - 1 - 1) (by omega) (by omega) (by omega)]; iexact HF
    isplitr [HR]
    · iintro HZ
      iapply (cutO c (fun i => bn i < t.val - 1) (fun i => bn i = t.val - 2) (fun i => bn i < t.val - 1 - 1) (moved fa z) (fun i => by omega) (fun i a b => by omega)).2
      isplitl [HZ]; · rw [← eqO c (t.val - 2) (by omega)]; iexact HZ
      iexact HD
    iexact HR
  · have e : t.val - 1 = 0 := by omega
    unfold Slot
    rw [if_neg (by omega)]
    iintro ⟨⟨⟨%fr, HF⟩, HI⟩, HD, HR⟩
    iapply (hG _ _ fr (frees_frame c t arg2 harg2 arg3 harg3 arg5 harg5 arg6 harg6 _ _ _ fr (frees_early c t arg2 harg2 arg3 harg3 arg5 harg5 arg6 harg6 h2 fr)))
    isplitl [HF HI]
    · isplitl [HF]; · rw [heldR_congr c (m := t.val) (n := t.val - 1 + 1) (by omega)]; iexact HF
      rw [cellB_congr 1 (by decide) (m := t.val) (n := t.val - 1 + 1) (by omega)]; iexact HI
    isplitr [HR]
    · iintro -
      rw [partO_congr c (fun i => bn i < t.val - 1) (fun i => bn i < t.val - 1 - 1) (fun i => by omega)]
      iexact HD
    iexact HR

variable (x : Vec F S1024x2048 .bf16) (w : Vec F S2048x1024 .f32)

/-- What a point gives back, besides its copies. -/
abbrev Back : sProp 𝕄 :=
  iprop((∃ W', owes c.tc 0 W') ∗ Ins c arg2 arg3 arg5 x w z ∗ owns c.tc arg6 fullShare (gateOut x (narrow w))
    ∗ (∃ y', ⌜wM.view.read (Elt F) y' = narrow w⌝ ∗ heldW c y'))

/-- A point after the first and before the last, its weights new or kept. -/
theorem mid (h1 : 1 ≤ t.val) (h63 : t.val ≠ 63) (hk : t.val < 64) (hk1 : t.val - 1 < 64)
    (P Z : sProp 𝕄) (fr fr1 : BufR (F := F) c) (h6 : Frees c t arg2 harg2 arg3 harg3 arg5 harg5 arg6 harg6 P Z fr)
    (g : BufO (F := F) c) (y : BufW (F := F) c) (hy : t.val % 16 ≠ 0 → wM.view.read (Elt F) y = narrow w) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ Back c z arg2 arg3 arg5 arg6 x w) -∗ K ⟨⟩))
      ⊢ wp frame (wpE (defs₀ (F := F)) Variants.none c none) Set.univ (body t arg2 harg2 arg3 harg3 arg5 harg5 arg6 harg6) K := by
  by_cases h16 : t.val % 16 = 0
  · exact mid_fresh c t arg2 harg2 arg3 harg3 arg5 harg5 arg6 harg6 x w z h1 h63 h16 hk hk1 P Z fr fr1 h6 fa g y W K
  · have := mid_keep c t arg2 harg2 arg3 harg3 arg5 harg5 arg6 harg6 x w z h1 h63 h16 hk hk1 P Z fr fr1 h6 fa g y W K
    rw [hy h16] at this
    exact this

/-- The first point. -/
theorem step_first (h0 : t.val = 0) (ht : t.val < 63) (y : BufW (F := F) c) (W : Waits sig Unit) (K : PUnit → sProp 𝕄) :
    iprop(Rest c fa V2 ∗ owes c.tc 0 W ∗ Ins c arg2 arg3 arg5 x w z ∗ (∃ d, owns c.tc arg6 fullShare d) ∗ heldW c y
        ∗ (iprop(Mid c fa V2 z t.val ht ∗ Back c z arg2 arg3 arg5 arg6 x w) -∗ K ⟨⟩))
      ⊢ wp frame (wpE (defs₀ (F := F)) Variants.none c none) Set.univ (body t arg2 harg2 arg3 harg3 arg5 harg5 arg6 harg6) K := by
  unfold Rest
  rw [allA c (fun _ => True) (fun _ => trivial), allO c (fun i => t.val ≤ bn i) (fun i => by omega)]
  iintro ⟨⟨HA, HD, ⟨%f0, HR0⟩, HR1, HI0, HI1, HO0, HO1⟩, HW, Hin, Hout, HY, Hk⟩
  ihave HA2 := (cutA c (fun _ => True) (fun i => sn i = t.val) (fun i => sn i ≠ t.val) fa (fun i => by simp [em]) (fun i a b => b a)).1 $$ HA
  icases HA2 with ⟨HA, HA'⟩
  iapply (first c t arg2 harg2 arg3 harg3 arg5 harg5 arg6 harg6 x w z (by omega) (by omega) (by omega) (by omega) _ _ f0
    (frees_early c t arg2 harg2 arg3 harg3 arg5 harg5 arg6 harg6 (by omega) f0) fa y W K)
  isplitl [HR0]; · rw [heldR_congr c (m := t.val) (n := 0) (by omega)]; iexact HR0
  isplitl [HA]; · rw [eqA c t.val (by omega)]; iexact HA
  isplitl [HI0]; · rw [cellB_congr 0 (by decide) (m := t.val) (n := 0) (by omega)]; iexact HI0
  isplitl [HW]; · iexact HW
  isplitl [Hin]; · iexact Hin
  isplitl [Hout]; · iexact Hout
  isplitl [HY]; · iexact HY
  iintro ⟨-, HF, HB⟩
  iapply Hk
  isplitr [HB]
  swap; · iexact HB
  unfold Mid Slot
  rw [if_neg (show ¬ 1 ≤ t.val by omega)]
  isplitl [HF]; · iexact HF
  isplitl [HA']; · iexact HA'
  isplitl [HR1 HO1]
  · isplitl [HR1]
    · icases HR1 with ⟨%f1, HR1⟩
      iexists f1; rw [heldR_congr c (m := t.val + 1) (n := 1) (by omega)]; iexact HR1
    rw [cellB_congr 1 (by decide) (m := t.val + 1) (n := 1) (by omega)]; iexact HO1
  isplitl [HI1]; · rw [cellB_congr 0 (by decide) (m := t.val + 1) (n := 1) (by omega)]; iexact HI1
  isplitl [HO0]; · rw [cellB_congr 1 (by decide) (m := t.val) (n := 0) (by omega)]; iexact HO0
  isplitr
  · have e : (Finset.univ.filter (fun i => bn i < t.val - 1) : Finset S32x16384x128.Idx) = ∅ := Finset.ext fun i => by simp; omega
    unfold partO; rw [e]
    iapply (Entails.of_eq (pointsTo_empty (ℓ := (c : Thread nD τ).loc main_v2_1)).symm)
    iempintro
  iexact HD

/-- A point between the first and the last. -/
theorem step_mid (h1 : 1 ≤ t.val) (ht : t.val < 63) (ht1 : t.val - 1 < 63) (y : BufW (F := F) c) (hy : t.val % 16 ≠ 0 → wM.view.read (Elt F) y = narrow w) (W : Waits sig Unit) (K : PUnit → sProp 𝕄) :
    iprop(Mid c fa V2 z (t.val - 1) ht1 ∗ owes c.tc 0 W ∗ Ins c arg2 arg3 arg5 x w z ∗ (∃ d, owns c.tc arg6 fullShare d) ∗ heldW c y
        ∗ (iprop(Mid c fa V2 z t.val ht ∗ Back c z arg2 arg3 arg5 arg6 x w) -∗ K ⟨⟩))
      ⊢ wp frame (wpE (defs₀ (F := F)) Variants.none c none) Set.univ (body t arg2 harg2 arg3 harg3 arg5 harg5 arg6 harg6) K := by
  iintro ⟨HM, HR⟩
  unfold Mid
  icases HM with ⟨⟨%fr1, %hl, HF⟩, HA, HS, HI, HO, HD, HU⟩
  iapply (slot_frees c fa z t arg2 harg2 arg3 harg3 arg5 harg5 arg6 harg6 h1 ht1
    iprop(flyIn c (t.val - 1) (by omega) fr1 fa ∗ partA c (fun i => sn i ≠ t.val - 1) fa ∗ idle c (cellB 0 (t.val - 1 + 1) (by decide)) ∗ idle c (cellB 1 (t.val - 1) (by decide))
      ∗ partO c (fun i => t.val - 1 ≤ bn i) V2
      ∗ owes c.tc 0 W ∗ Ins c arg2 arg3 arg5 x w z ∗ (∃ d, owns c.tc arg6 fullShare d) ∗ heldW c y
        ∗ (iprop(Mid c fa V2 z t.val ht ∗ Back c z arg2 arg3 arg5 arg6 x w) -∗ K ⟨⟩)) _ ?_)
  · intro P Z fr h6
    iintro ⟨HP, HZ, HF, HA, HI, HO, HU, HW, Hin, Hout, HY, Hk⟩
    ihave HA2 := (cutA c (fun i => sn i ≠ t.val - 1) (fun i => sn i = t.val) (fun i => sn i ≠ t.val - 1 ∧ sn i ≠ t.val) fa (fun i => by omega) (fun i a b => b.2 a)).1 $$ HA
    icases HA2 with ⟨HA, HA'⟩
    ihave HU2 := (cutO c (fun i => t.val - 1 ≤ bn i) (fun i => bn i = t.val - 1) (fun i => t.val ≤ bn i) V2 (fun i => by omega) (fun i a b => by omega)).1 $$ HU
    icases HU2 with ⟨HU, HU'⟩
    iapply (mid c fa z t arg2 harg2 arg3 harg3 arg5 harg5 arg6 harg6 x w h1 (by omega) (by omega) (by omega) P _ fr fr1 h6 V2 y hy W K)
    isplitl [HP]; · iexact HP
    isplitl [HF]; · iexact HF
    isplitl [HA]; · rw [eqA c t.val (by omega)]; iexact HA
    isplitl [HI]; · rw [cellB_congr 0 (by decide) (m := t.val) (n := t.val - 1 + 1) (by omega)]; iexact HI
    isplitl [HU]; · rw [eqO c (t.val - 1) (by omega)]; iexact HU
    isplitl [HO]; · iexact HO
    isplitl [HW]; · iexact HW
    isplitl [Hin]; · iexact Hin
    isplitl [Hout]; · iexact Hout
    isplitl [HY]; · iexact HY
    iintro ⟨⟨HO1, HZ'⟩, HF, HA, HI, ⟨%g', %hw, HG⟩, HB⟩
    iapply Hk
    isplitr [HB]
    swap; · iexact HB
    unfold Mid Slot
    rw [if_pos h1]
    isplitl [HF]; · iexact HF
    isplitl [HA HA']
    · iapply (cutA c (fun i => sn i ≠ t.val) (fun i => sn i = t.val - 1) (fun i => sn i ≠ t.val - 1 ∧ sn i ≠ t.val) fa (fun i => by omega) (fun i a b => b.1 a)).2
      isplitl [HA]; · rw [← eqA c (t.val - 1) (by omega)]; iexact HA
      iexact HA'
    isplitl [HG]
    · iexists fr1
      rw [← show flyOut c (t.val - 1) (by omega) g' fr1 = flyOut c (t.val - 1) (by omega) (moved fa z) fr1 from by
        unfold flyOut; rw [done_eq c fa z (t.val - 1) (by omega) fr1 g' hl hw]]
      iexact HG
    isplitl [HI]; · rw [cellB_congr 0 (by decide) (m := t.val + 1) (n := t.val - 1) (by omega)]; iexact HI
    isplitl [HO1]; · iexact HO1
    isplitl [HZ HZ']; · iapply HZ; iexact HZ'
    iexact HU'
  · isplitl [HS]; · iexact HS
    isplitl [HD]; · iexact HD
    isplitl [HF]; · iexact HF
    isplitl [HA]; · iexact HA
    isplitl [HI]; · iexact HI
    isplitl [HO]; · iexact HO
    isplitl [HU]; · iexact HU
    unfold Mid
    iexact HR

/-- The last point, which waits for every copy. -/
theorem step_last (ht : t.val = 63) (ht1 : t.val - 1 < 63) (y : BufW (F := F) c) (hy : wM.view.read (Elt F) y = narrow w) (W : Waits sig Unit) (K : PUnit → sProp 𝕄) :
    iprop(Mid c fa V2 z (t.val - 1) ht1 ∗ idle c tailC ∗ owes c.tc 0 W ∗ Ins c arg2 arg3 arg5 x w z ∗ (∃ d, owns c.tc arg6 fullShare d) ∗ heldW c y
        ∗ (iprop(Rest c fa (moved fa z) ∗ idle c tailC ∗ Back c z arg2 arg3 arg5 arg6 x w) -∗ K ⟨⟩))
      ⊢ wp frame (wpE (defs₀ (F := F)) Variants.none c none) Set.univ (body t arg2 harg2 arg3 harg3 arg5 harg5 arg6 harg6) K := by
  iintro ⟨HM, HR⟩
  unfold Mid
  icases HM with ⟨⟨%fr1, %hl, HF⟩, HA, HS, HI, HO, HD, HU⟩
  iapply (slot_frees c fa z t arg2 harg2 arg3 harg3 arg5 harg5 arg6 harg6 (by omega) ht1
    iprop(flyIn c (t.val - 1) (by omega) fr1 fa ∗ partA c (fun i => sn i ≠ t.val - 1) fa ∗ idle c (cellB 0 (t.val - 1 + 1) (by decide)) ∗ idle c (cellB 1 (t.val - 1) (by decide))
      ∗ partO c (fun i => t.val - 1 ≤ bn i) V2 ∗ idle c tailC
      ∗ owes c.tc 0 W ∗ Ins c arg2 arg3 arg5 x w z ∗ (∃ d, owns c.tc arg6 fullShare d) ∗ heldW c y
        ∗ (iprop(Rest c fa (moved fa z) ∗ idle c tailC ∗ Back c z arg2 arg3 arg5 arg6 x w) -∗ K ⟨⟩)) _ ?_)
  · intro P Z fr h6
    iintro ⟨HP, HZ, HF, HA, HI, HO, HU, HT, HW, Hin, Hout, HY, Hk⟩
    ihave HA2 := (cutA c (fun i => sn i ≠ t.val - 1) (fun i => sn i = t.val) (fun i => sn i ≠ t.val - 1 ∧ sn i ≠ t.val) fa (fun i => by omega) (fun i a b => b.2 a)).1 $$ HA
    icases HA2 with ⟨HA, HA'⟩
    ihave HU2 := (cutO c (fun i => t.val - 1 ≤ bn i) (fun i => bn i = t.val - 1) (fun i => t.val ≤ bn i) V2 (fun i => by omega) (fun i a b => by omega)).1 $$ HU
    icases HU2 with ⟨HU, HU'⟩
    ihave HU3 := (cutO c (fun i => t.val ≤ bn i) (fun i => bn i = t.val) (fun i => bn i = 64) V2 (fun i => by have := bn_le i; omega) (fun i a b => by omega)).1 $$ HU'
    icases HU3 with ⟨HU1, HU2⟩
    have hk := last c t arg2 harg2 arg3 harg3 arg5 harg5 arg6 harg6 x w z (by omega) ht (by omega) (by omega) (by omega) P Z fr fr1 h6 fa V2 y W K
    rw [hy] at hk
    iapply hk
    isplitl [HP]; · iexact HP
    isplitl [HF]; · iexact HF
    isplitl [HA]; · rw [eqA c t.val (by omega)]; iexact HA
    isplitl [HI]; · rw [cellB_congr 0 (by decide) (m := t.val) (n := t.val - 1 + 1) (by omega)]; iexact HI
    isplitl [HU]; · rw [eqO c (t.val - 1) (by omega)]; iexact HU
    isplitl [HO]; · iexact HO
    isplitl [HU1]; · rw [eqO c t.val (by omega)]; iexact HU1
    isplitl [HU2]; · rw [eqT c]; iexact HU2
    isplitl [HT]; · iexact HT
    isplitl [HW]; · iexact HW
    isplitl [Hin]; · iexact Hin
    isplitl [Hout]; · iexact Hout
    isplitl [HY]; · iexact HY
    iintro ⟨HZ', ⟨%f2, %g2, %hl2, %hw2, HR1, HG2⟩, HR0, ⟨%g1, %hw1, HG1⟩, ⟨%g3, %hw3, HG3⟩, HA, HA1, HI1, HI0, HO1, HO0, HT, HB⟩
    iapply Hk
    isplitr [HB HT]
    swap
    · isplitl [HT]; · iexact HT
      iexact HB
    ihave HG2 := (Entails.of_eq (done_eq c fa z t.val _ f2 g2 hl2 hw2)) $$ HG2
    ihave HG1 := (Entails.of_eq (done_eq c fa z (t.val - 1) _ fr1 g1 hl hw1)) $$ HG1
    ihave HG3 := (Entails.of_eq (tail_eq c fa z g3 hw3)) $$ HG3
    unfold Rest
    isplitl [HA HA1 HA']
    · rw [allA c (fun _ => True) (fun _ => trivial)]
      iapply (cutA c (fun _ => True) (fun i => sn i = t.val) (fun i => sn i ≠ t.val) fa (fun i => by simp [em]) (fun i a b => b a)).2
      isplitl [HA]; · rw [← eqA c t.val (by omega)]; iexact HA
      iapply (cutA c (fun i => sn i ≠ t.val) (fun i => sn i = t.val - 1) (fun i => sn i ≠ t.val - 1 ∧ sn i ≠ t.val) fa (fun i => by omega) (fun i a b => b.1 a)).2
      isplitl [HA1]; · rw [← eqA c (t.val - 1) (by omega)]; iexact HA1
      iexact HA'
    isplitl [HZ HZ' HG1 HG2 HG3]
    · rw [allO c (fun _ => True) (fun _ => trivial)]
      iapply (cutO c (fun _ => True) (fun i => bn i < t.val - 1) (fun i => t.val - 1 ≤ bn i) (moved fa z) (fun i => ⟨fun _ => by omega, fun _ => trivial⟩) (fun i a b => by omega)).2
      isplitl [HZ HZ']; · iapply HZ; iexact HZ'
      iapply (cutO c (fun i => t.val - 1 ≤ bn i) (fun i => bn i = t.val - 1) (fun i => t.val ≤ bn i) (moved fa z) (fun i => by omega) (fun i a b => by omega)).2
      isplitl [HG1]; · rw [← eqO c (t.val - 1) (by omega)]; iexact HG1
      iapply (cutO c (fun i => t.val ≤ bn i) (fun i => bn i = t.val) (fun i => bn i = 64) (moved fa z) (fun i => by have := bn_le i; omega) (fun i a b => by omega)).2
      isplitl [HG2]; · rw [← eqO c t.val (by omega)]; iexact HG2
      rw [← eqT c]; iexact HG3
    isplitl [HR0]; · iexists fr1; rw [heldR_congr c (m := 0) (n := t.val - 1) (by omega)]; iexact HR0
    isplitl [HR1]; · iexists f2; rw [heldR_congr c (m := 1) (n := t.val) (by omega)]; iexact HR1
    isplitl [HI0]; · rw [cellB_congr 0 (by decide) (m := 0) (n := t.val - 1) (by omega)]; iexact HI0
    isplitl [HI1]; · rw [cellB_congr 0 (by decide) (m := 1) (n := t.val) (by omega)]; iexact HI1
    isplitl [HO0]; · rw [cellB_congr 1 (by decide) (m := 0) (n := t.val - 1) (by omega)]; iexact HO0
    rw [cellB_congr 1 (by decide) (m := 1) (n := t.val) (by omega)]; iexact HO1
  · isplitl [HS]; · iexact HS
    isplitl [HD]; · iexact HD
    isplitl [HF]; · iexact HF
    isplitl [HA]; · iexact HA
    isplitl [HI]; · iexact HI
    isplitl [HO]; · iexact HO
    isplitl [HU]; · iexact HU
    iexact HR

end Cert.GatesIdeal.Shift

end
-- ==== Proof.GatesFrame.lean ====
/-
  The gates projection over its whole grid: the blocks each point takes and leaves, and the state every run ends in.
-/
module

public import proofs.«01_k».proof.Proof.GatesInv
public import Idealize.ShloMosaic.Lib.Pipeline.TableIdle
public import Idealize.ShloMosaic.Lib.Pipeline.Quiescent
public import Idealize.ShloMosaic.Lib.Claim

@[expose] public section

set_option maxRecDepth 16384

noncomputable section

namespace Cert.GatesIdeal.Shift

open Cert.GatesIdeal Cert.GatesIdeal.Gen
open Idealize.ShloMosaic
open Idealize.ShloMosaic.TcCoe Idealize.ShloMosaic.Tactic
open Idealize.SL Idealize.SL.RA Idealize.SL.BI
open scoped Idealize.SL.BI
open Idealize.ShloMosaic.ValueIdx Idealize.ShloMosaic.Rounds
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The resource the triples are stated in. -/
local notation "𝕄" => MT nD τ sig Unit (Elt F) ℕ (Pipeline.UD sig nD τ) ℕ

variable (m : (ℓ : Loc nD τ sig) → Buf (Elt F) ℓ) (ρ : Dev nD → PrngReg)

/-! ## The buffers when the grid starts -/

/-- The buffers after the two reshapes. -/
abbrev V (c : Dev nD) (b : Ref sig .tc) : Buf (Elt F) ((c : Thread nD τ).loc b) := StableHlo.after hostOps0 (fun b => m (c, b)) b

theorem nothing_fresh : (hostOps0 : List (HloOp τ sig (Elt F))).Forall fun op => op.fresh = ∅ := by
  simp only [List.Forall]; repeat' constructor

set_option maxHeartbeats 800000 in
theorem starts (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub nothing_fresh main_chain

/-- A buffer neither reshape writes is as it was. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The blocks -/

def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev uAt (c : Dev nD) (t : Fin cfg0.N) : Vec F S1024x2048 .bf16 := blkAt m c (0 : Fin 4) t
abbrev wAt (c : Dev nD) (t : Fin cfg0.N) : Vec F S2048x1024 .f32 := blkAt m c (1 : Fin 4) t
abbrev zAt (c : Dev nD) (t : Fin cfg0.N) : Vec F S32x32x128 .f32 := blkAt m c (2 : Fin 4) t

theorem index0 : ∀ t : Fin grid0.N, cc0_transform_0 (grid0.coords t) = ![t.val % 16, 0] := by decide +kernel
theorem index1 : ∀ t : Fin grid0.N, cc0_transform_1 (grid0.coords t) = ![0, 8704 + 1024 * (t.val / 16)] := by decide +kernel
theorem index2 : ∀ t : Fin grid0.N, cc0_transform_3 (grid0.coords t) = ![0, 0, 0] := by decide +kernel

theorem lt_N (t : Fin cfg0.N) : t.val < 64 := lt_of_lt_of_eq t.isLt (show cfg0.N = 64 from N_0)

theorem uAt_eq (c : Dev nD) (t : Fin cfg0.N) :
    uAt m c t = fun j => V m c main_arg0 (ix2 ⟨1024 * (t.val % 16) + (j 0).val, by have := lt_N t; have : (j 0).val < 1024 := (j 0).isLt; omega⟩ (j 1) : S16384x2048.Idx) := by
  funext j
  unfold uAt blkAt
  rw [View.read_apply]
  show V m c main_arg0 _ = _
  congr 1
  funext a
  apply Fin.ext
  have e := index0 t
  match a with
  | ⟨0, _⟩ => show cc0_transform_0 (grid0.coords t) 0 * 1024 + 1 * (j 0).val = 1024 * (t.val % 16) + (j 0).val; rw [e]; show t.val % 16 * 1024 + 1 * (j 0).val = _; omega
  | ⟨1, _⟩ => show cc0_transform_0 (grid0.coords t) 1 * 2048 + 1 * (j 1).val = (j 1).val; rw [e]; show 0 * 2048 + 1 * (j 1).val = _; omega

theorem wAt_eq (c : Dev nD) (t : Fin cfg0.N) :
    wAt m c t = fun j => V m c main_arg1 (ix2 (j 0) ⟨8704 + 1024 * (t.val / 16) + (j 1).val, by have := lt_N t; have : (j 1).val < 1024 := (j 1).isLt; omega⟩ : S2048x12800.Idx) := by
  funext j
  unfold wAt blkAt
  rw [View.read_apply]
  show V m c main_arg1 _ = _
  congr 1
  funext a
  apply Fin.ext
  have e := index1 t
  match a with
  | ⟨0, _⟩ => show cc0_transform_1 (grid0.coords t) 0 + 1 * (j 0).val = (j 0).val; rw [e]; show 0 + 1 * (j 0).val = _; omega
  | ⟨1, _⟩ => show cc0_transform_1 (grid0.coords t) 1 + 1 * (j 1).val = 8704 + 1024 * (t.val / 16) + (j 1).val; rw [e]; show 8704 + 1024 * (t.val / 16) + 1 * (j 1).val = _; omega

theorem zAt_eq (c : Dev nD) (t : Fin cfg0.N) : zAt m c t = V m c main_v1 := by
  funext j
  unfold zAt blkAt
  rw [View.read_apply]
  show V m c main_v1 _ = _
  congr 1
  funext a
  apply Fin.ext
  have e := index2 t
  match a with
  | ⟨0, _⟩ => show cc0_transform_3 (grid0.coords t) 0 * 32 + 1 * (j 0).val = (j 0).val; rw [e]; show 0 * 32 + 1 * (j 0).val = _; omega
  | ⟨1, _⟩ => show cc0_transform_3 (grid0.coords t) 1 * 32 + 1 * (j 1).val = (j 1).val; rw [e]; show 0 * 32 + 1 * (j 1).val = _; omega
  | ⟨2, _⟩ => show cc0_transform_3 (grid0.coords t) 2 * 128 + 1 * (j 2).val = (j 2).val; rw [e]; show 0 * 128 + 1 * (j 2).val = _; omega

/-- Points of one column block take the same weights. -/
theorem same_weights (c : Dev nD) (t s : Fin cfg0.N) (h : s.val / 16 = t.val / 16) : wAt m c s = wAt m c t := by
  rw [wAt_eq, wAt_eq]
  funext j
  congr 1
  funext a
  apply Fin.ext
  match a with
  | ⟨0, _⟩ => rfl
  | ⟨1, _⟩ => show 8704 + 1024 * (s.val / 16) + (j 1).val = 8704 + 1024 * (t.val / 16) + (j 1).val; rw [h]

/-! ## The pipeline's data -/

/-- What the moved cache ends at. -/
abbrev newCache (c : Dev nD) : BufO (F := F) c := moved (F := F) (V m c main_v0) (V m c main_v1)

/-- The copies before point `n`. -/
def Copies (c : Dev nD) (n : ℕ) : sProp 𝕄 :=
  if h : 1 ≤ n ∧ n ≤ 63 then Mid c (V m c main_v0) (V m c main_v2_1) (V m c main_v1) (n - 1) (by omega)
  else if n = 0 then Rest c (V m c main_v0) (V m c main_v2_1) else Rest c (V m c main_v0) (newCache m c)

/-- What is held before point `n`. -/
def Held (c : Dev nD) (n : ℕ) : sProp 𝕄 :=
  iprop(Copies m c n ∗ (∃ y, ⌜∀ s : Fin cfg0.N, s.val + 1 = n → wM.view.read (Elt F) y = narrow (wAt m c s)⌝ ∗ heldW c y)
    ∗ idle c tailC ∗ idle c (cellB 2 1 (by decide)) ∗ (∃ r, prngReg c r))

def dat (_ : Fin 1) (c : Dev nD) : Dat τ (Elt F) Unit ℕ (Pipeline.UD sig nD τ) ℕ cfg0 c where
  A w := V m c (Pipeline.arrRef spec0 w)
  after w t := match w with
    | ⟨0, _⟩ => blkAt m c (0 : Fin 4) t
    | ⟨1, _⟩ => blkAt m c (1 : Fin 4) t
    | ⟨2, _⟩ => blkAt m c (2 : Fin 4) t
    | ⟨3, _⟩ => gateOut (uAt m c t) (narrow (wAt m c t))
  Φ t := Held m c t.val
  q _ := fullShare
  owed _ := 0

theorem after0 (c : Dev nD) (t : Fin cfg0.N) : (dat m 0 c).after (0 : Fin 4) t = blkAt m c (0 : Fin 4) t := rfl
theorem after1 (c : Dev nD) (t : Fin cfg0.N) : (dat m 0 c).after (1 : Fin 4) t = blkAt m c (1 : Fin 4) t := rfl
theorem after2 (c : Dev nD) (t : Fin cfg0.N) : (dat m 0 c).after (2 : Fin 4) t = blkAt m c (2 : Fin 4) t := rfl
theorem after3 (c : Dev nD) (t : Fin cfg0.N) : (dat m 0 c).after (3 : Fin 4) t = gateOut (uAt m c t) (narrow (wAt m c t)) := rfl

theorem before0 (c : Dev nD) (t : Fin cfg0.N) (d) : (dat m 0 c).before (0 : Fin 4) t d = blkAt m c (0 : Fin 4) t :=
  ((dat m 0 c).before_in_eq_fetched (0 : Fin 4) rfl (fun _ => rfl) (fun _ _ _ => rfl) (fun t => by rw [after0]; unfold Dat.blockOf blkAt; rfl) t d).trans
    (by unfold Dat.fetched Dat.blockOf blkAt; rfl)
theorem before1 (c : Dev nD) (t : Fin cfg0.N) (d) : (dat m 0 c).before (1 : Fin 4) t d = blkAt m c (1 : Fin 4) t :=
  ((dat m 0 c).before_in_eq_fetched (1 : Fin 4) rfl (fun _ => rfl) (fun _ _ _ => rfl) (fun t => by rw [after1]; unfold Dat.blockOf blkAt; rfl) t d).trans
    (by unfold Dat.fetched Dat.blockOf blkAt; rfl)
theorem before2 (c : Dev nD) (t : Fin cfg0.N) (d) : (dat m 0 c).before (2 : Fin 4) t d = blkAt m c (2 : Fin 4) t :=
  ((dat m 0 c).before_in_eq_fetched (2 : Fin 4) rfl (fun _ => rfl) (fun _ _ _ => rfl) (fun t => by rw [after2]; unfold Dat.blockOf blkAt; rfl) t d).trans
    (by unfold Dat.fetched Dat.blockOf blkAt; rfl)

theorem Ins_intro (c : Dev nD) (a2 : Memref sig .tc .vmem S1024x2048 .bf16) (a3 : Memref sig .tc .vmem S2048x1024 .f32) (a5 : Memref sig .tc .vmem S32x32x128 .f32) (x) (w) (z) :
    iprop(owns (c : Thread nD τ) a2 fullShare x ∗ owns (c : Thread nD τ) a3 fullShare w ∗ owns (c : Thread nD τ) a5 fullShare z) ⊢ (Ins (F := F) c a2 a3 a5 x w z : sProp 𝕄) := by
  iintro ⟨H0, H1, H2⟩
  isplitl [H0]; · iapply rep_of_owns; iexact H0
  isplitl [H1]; · iapply rep_of_owns; iexact H1
  iapply rep_of_owns; iexact H2
theorem Ins_elim (c : Dev nD) (a2 : Memref sig .tc .vmem S1024x2048 .bf16) (a3 : Memref sig .tc .vmem S2048x1024 .f32) (a5 : Memref sig .tc .vmem S32x32x128 .f32) (x) (w) (z) :
    (Ins (F := F) c a2 a3 a5 x w z : sProp 𝕄) ⊢ iprop(owns (c : Thread nD τ) a2 fullShare x ∗ owns (c : Thread nD τ) a3 fullShare w ∗ owns (c : Thread nD τ) a5 fullShare z) := by
  iintro ⟨H0, H1, H2⟩
  isplitl [H0]; · iapply owns_of_rep; iexact H0
  isplitl [H1]; · iapply owns_of_rep; iexact H1
  iapply owns_of_rep; iexact H2

/-- The body at any point takes what is held before it to what is held after it. -/
theorem point (c : Dev nD) (t : Fin cfg0.N) (a2 : Memref sig .tc .vmem S1024x2048 .bf16) (h2 : a2.IsWhole) (a3 : Memref sig .tc .vmem S2048x1024 .f32) (h3 : a3.IsWhole)
    (a5 : Memref sig .tc .vmem S32x32x128 .f32) (h5 : a5.IsWhole) (a6 : Memref sig .tc .vmem S1024x1024 .bf16) (h6 : a6.IsWhole) (W : Waits sig Unit) (K : PUnit → sProp 𝕄) :
    iprop(Held m c t.val ∗ owes (c : Thread nD τ) 0 W ∗ Ins c a2 a3 a5 (uAt m c t) (wAt m c t) (V m c main_v1) ∗ (∃ d, owns (c : Thread nD τ) a6 fullShare d)
        ∗ (iprop(Held m c (t.val + 1) ∗ (∃ W', owes (c : Thread nD τ) 0 W') ∗ Ins c a2 a3 a5 (uAt m c t) (wAt m c t) (V m c main_v1)
            ∗ owns (c : Thread nD τ) a6 fullShare (gateOut (uAt m c t) (narrow (wAt m c t)))) -∗ K ⟨⟩))
      ⊢ wp frame (wpE (defs₀ (F := F)) Variants.none c none) Set.univ (body t a2 h2 a3 h3 a5 h5 a6 h6) K := by
  have hN := lt_N t
  have hnext : ∀ y' : BufW (F := F) c, wM.view.read (Elt F) y' = narrow (wAt m c t) →
      ∀ s : Fin cfg0.N, s.val + 1 = t.val + 1 → wM.view.read (Elt F) y' = narrow (wAt m c s) := fun y' hy s hs => by
    rw [show s = t from Fin.ext (Nat.succ.inj hs)]; exact hy
  unfold Held
  iintro ⟨⟨HC, ⟨%y, %hy, HY⟩, HT, HS, HP⟩, HW, Hin, Hout, Hk⟩
  have hkeep : t.val % 16 ≠ 0 → wM.view.read (Elt F) y = narrow (wAt m c t) := fun h => by
    let s : Fin cfg0.N := ⟨t.val - 1, lt_of_le_of_lt (Nat.sub_le _ _) t.isLt⟩
    have hs : s.val + 1 = t.val := by show t.val - 1 + 1 = t.val; omega
    rw [hy s hs, same_weights m c t s (by show (t.val - 1) / 16 = t.val / 16; omega)]
  by_cases h0 : t.val = 0
  · ihave HC := (Entails.of_eq (show Copies m c t.val = Rest c (V m c main_v0) (V m c main_v2_1) from by unfold Copies; rw [dif_neg (by omega), if_pos h0])) $$ HC
    iapply (step_first c (V m c main_v0) (V m c main_v2_1) (V m c main_v1) t a2 h2 a3 h3 a5 h5 a6 h6 (uAt m c t) (wAt m c t) h0 (by omega) y W K)
    isplitl [HC]; · iexact HC
    isplitl [HW]; · iexact HW
    isplitl [Hin]; · iexact Hin
    isplitl [Hout]; · iexact Hout
    isplitl [HY]; · iexact HY
    iintro ⟨HC, HW, Hin, Hout, ⟨%y', %hy', HY⟩⟩
    iapply Hk
    isplitr [HW Hin Hout]
    · isplitl [HC]
      · iapply (Entails.of_eq (show Copies m c (t.val + 1) = Mid c (V m c main_v0) (V m c main_v2_1) (V m c main_v1) t.val (by omega) from by unfold Copies; rw [dif_pos (by omega)]; rfl).symm)
        iexact HC
      isplitl [HY]
      · iexists y'; isplitr; · ipureintro; exact hnext y' hy'
        iexact HY
      isplitl [HT]; · iexact HT
      isplitl [HS]; · iexact HS
      iexact HP
    isplitl [HW]; · iexact HW
    isplitl [Hin]; · iexact Hin
    iexact Hout
  · ihave HC := (Entails.of_eq (show Copies m c t.val = Mid c (V m c main_v0) (V m c main_v2_1) (V m c main_v1) (t.val - 1) (by omega) from by unfold Copies; rw [dif_pos (by omega)])) $$ HC
    by_cases h63 : t.val = 63
    · iapply (step_last c (V m c main_v0) (V m c main_v2_1) (V m c main_v1) t a2 h2 a3 h3 a5 h5 a6 h6 (uAt m c t) (wAt m c t) h63 (by omega) y (hkeep (by omega)) W K)
      isplitl [HC]; · iexact HC
      isplitl [HT]; · iexact HT
      isplitl [HW]; · iexact HW
      isplitl [Hin]; · iexact Hin
      isplitl [Hout]; · iexact Hout
      isplitl [HY]; · iexact HY
      iintro ⟨HC, HT, HW, Hin, Hout, ⟨%y', %hy', HY⟩⟩
      iapply Hk
      isplitr [HW Hin Hout]
      · isplitl [HC]
        · iapply (Entails.of_eq (show Copies m c (t.val + 1) = Rest c (V m c main_v0) (newCache m c) from by unfold Copies; rw [dif_neg (by omega), if_neg (by omega)]).symm)
          iexact HC
        isplitl [HY]
        · iexists y'; isplitr; · ipureintro; exact hnext y' hy'
          iexact HY
        isplitl [HT]; · iexact HT
        isplitl [HS]; · iexact HS
        iexact HP
      isplitl [HW]; · iexact HW
      isplitl [Hin]; · iexact Hin
      iexact Hout
    · iapply (step_mid c (V m c main_v0) (V m c main_v2_1) (V m c main_v1) t a2 h2 a3 h3 a5 h5 a6 h6 (uAt m c t) (wAt m c t) (by omega) (by omega) (by omega) y hkeep W K)
      isplitl [HC]; · iexact HC
      isplitl [HW]; · iexact HW
      isplitl [Hin]; · iexact Hin
      isplitl [Hout]; · iexact Hout
      isplitl [HY]; · iexact HY
      iintro ⟨HC, HW, Hin, Hout, ⟨%y', %hy', HY⟩⟩
      iapply Hk
      isplitr [HW Hin Hout]
      · isplitl [HC]
        · iapply (Entails.of_eq (show Copies m c (t.val + 1) = Mid c (V m c main_v0) (V m c main_v2_1) (V m c main_v1) t.val (by omega) from by unfold Copies; rw [dif_pos (by omega)]; rfl).symm)
          iexact HC
        isplitl [HY]
        · iexists y'; isplitr; · ipureintro; exact hnext y' hy'
          iexact HY
        isplitl [HT]; · iexact HT
        isplitl [HS]; · iexact HS
        iexact HP
      isplitl [HW]; · iexact HW
      isplitl [Hin]; · iexact Hin
      iexact Hout

set_option maxHeartbeats 1000000 in
/-- The body meets its obligation at every point. -/
theorem body_ok (c : Dev nD) : BodyObligation (dat m 0 c) (defs₀ (F := F)) Variants.none () Set.univ := fun t => by
  rw [bigSep_W0, bigSep_W0]
  simp only [before0, before1, before2, after0, after1, after2, after3]
  rewrite [show (dat m 0 c).Φ t.succ = Held m c (t.val + 1) from rfl, show (dat m 0 c).Φ t.castSucc = Held m c t.val from rfl]
  iintro ⟨HH, ⟨%W, %hW, Ho⟩, ⟨%d0, H0⟩, ⟨%d1, H1⟩, ⟨%d2, H2⟩, ⟨%d3, H3⟩⟩
  iapply (point m c t _ _ _ _ _ _ _ _ W _)
  isplitl [HH]; · iexact HH
  isplitl [Ho]; · iexact Ho
  isplitl [H0 H1 H2]
  · iapply Ins_intro
    isplitl [H0]; · iexact H0
    isplitl [H1]; · iexact H1
    rw [← zAt_eq m c t]; iexact H2
  isplitl [H3]; · iexists _; iexact H3
  iintro ⟨HH, ⟨%W', Ho⟩, Hin, H3⟩
  ihave Hin := (Ins_elim c _ _ _ _ _ _) $$ Hin
  icases Hin with ⟨H0, H1, H2⟩
  isplitl [HH]; · iexact HH
  isplitl [Ho]
  · iexists W'; isplitr; · ipureintro; exact fun _ _ => Or.inl trivial
    iexact Ho
  isplitl [H0]; · iexact H0
  isplitl [H1]; · iexact H1
  isplitl [H2]; · rw [← zAt_eq m c t]; iexact H2
  iexact H3

/-! ## The run -/

/-- The kernel's own cells. -/
def ownCell : Fin 6 → SemLoc sig := fun k => .dma (match k with
  | ⟨0, _⟩ => cellB 0 0 (by decide) | ⟨1, _⟩ => cellB 0 1 (by decide) | ⟨2, _⟩ => cellB 1 0 (by decide) | ⟨3, _⟩ => cellB 1 1 (by decide)
  | ⟨4, _⟩ => tailC | ⟨5, _⟩ => cellB 2 1 (by decide))

theorem ownCell_ok : Pipeline.OwnSemFacts spec0 ownCell := by decide +kernel

theorem ownCells_eq (c : Dev nD) : (Pipeline.ownSems0 (Ix := Unit) (Name := ℕ) (U := Pipeline.UD sig nD τ) (Lvl := ℕ) (Val := Elt F) (τ := τ) ownCell c : sProp 𝕄)
    = iprop(idle c (cellB 0 0 (by decide)) ∗ idle c (cellB 0 1 (by decide)) ∗ idle c (cellB 1 0 (by decide)) ∗ idle c (cellB 1 1 (by decide)) ∗ idle c tailC ∗ idle c (cellB 2 1 (by decide))) := by
  unfold Pipeline.ownSems0
  exact bigSep_univ_eq_bigSepL [(0 : Fin 6), 1, 2, 3, 4, 5] (by decide) (by decide) _

/-- The buffers at the end: the moved cache in its place, everything else as the grid found it. -/
def G (c : Dev nD) : (b : Ref sig .tc) → Buf (Elt F) ((c : Thread nD τ).loc b) := Function.update (V m c) main_v2_1 (newCache m c)

theorem G_moved (c : Dev nD) : G m c main_v2_1 = newCache m c := Function.update_self ..

theorem ends_eq (c : Dev nD) (g : (b : Ref sig .tc) → Buf (Elt F) ((c : Thread nD τ).loc b)) (gg : (c : Dev nD) → (b : Ref sig .tc) → Buf (Elt F) ((c : Thread nD τ).loc b)) (hg : gg c = g) :
    (Pipeline.ΦDRG ownCell spec0 {main_v0} {main_v2_1} (V m) gg c : sProp 𝕄)
      = iprop(((∃ f : BufW (F := F) c, ((c : Thread nD τ).loc cc0_scratch0) ↦{fullShare} f) ∗ (∃ f : BufR (F := F) c, ((c : Thread nD τ).loc cc0_scratch1) ↦{fullShare} f))
        ∗ (∃ r, prngReg c r)
        ∗ (idle c (cellB 0 0 (by decide)) ∗ idle c (cellB 0 1 (by decide)) ∗ idle c (cellB 1 0 (by decide)) ∗ idle c (cellB 1 1 (by decide)) ∗ idle c tailC ∗ idle c (cellB 2 1 (by decide)))
        ∗ (((c : Thread nD τ).loc main_v0) ↦{fullShare} V m c main_v0) ∗ (((c : Thread nD τ).loc main_v2_1) ↦{fullShare} g main_v2_1)) := by
  subst hg
  rw [Pipeline.ΦDRG_eq, ownCells_eq, scopedRest0_eq]
  unfold Pipeline.routed
  rw [bigSep_singleton, bigSep_singleton]

theorem enter (c : Dev nD) : Pipeline.ΦDRG ownCell spec0 {main_v0} {main_v2_1} (V m) (V m) c ⊢ (dat m 0 c).Φ 0 := by
  rw [ends_eq m c _ _ rfl, show (dat m 0 c).Φ 0 = Held m c 0 from rfl]
  unfold Held
  iintro ⟨⟨⟨%y, HY⟩, ⟨%f, HR⟩⟩, HP, ⟨HI0, HI1, HO0, HO1, HT, HS⟩, HA, HD⟩
  isplitr [HY HT HS HP]
  · iapply (Entails.of_eq (show Copies m c 0 = Rest c (V m c main_v0) (V m c main_v2_1) from by unfold Copies; rw [dif_neg (by omega), if_pos rfl]).symm)
    unfold Rest
    ihave HR := (ring_split c f) $$ HR
    icases HR with ⟨HR0, HR1⟩
    isplitl [HA]; · iexact HA
    isplitl [HD]; · iexact HD
    isplitl [HR0]; · iexists f; iexact HR0
    isplitl [HR1]; · iexists f; iexact HR1
    isplitl [HI0]; · iexact HI0
    isplitl [HI1]; · iexact HI1
    isplitl [HO0]; · iexact HO0
    iexact HO1
  isplitl [HY]
  · iexists y; isplitr; · ipureintro; intro s hs; exact absurd hs (Nat.succ_ne_zero _)
    iexact HY
  isplitl [HT]; · iexact HT
  isplitl [HS]; · iexact HS
  iexact HP

theorem leave (c : Dev nD) : (dat m 0 c).Φ (Fin.last cfg0.N) ⊢ Pipeline.ΦDRG ownCell spec0 {main_v0} {main_v2_1} (V m) (G m) c := by
  rw [ends_eq m c _ _ rfl, show (dat m 0 c).Φ (Fin.last cfg0.N) = Held m c cfg0.N from rfl, G_moved]
  unfold Held
  iintro ⟨HC, ⟨%y, -, HY⟩, HT, HS, HP⟩
  ihave HC := (Entails.of_eq (show Copies m c cfg0.N = Rest c (V m c main_v0) (newCache m c) from by
    rw [show cfg0.N = 64 from N_0]; unfold Copies; rw [dif_neg (by omega), if_neg (by omega)])) $$ HC
  unfold Rest
  icases HC with ⟨HA, HD, ⟨%f0, HR0⟩, ⟨%f1, HR1⟩, HI0, HI1, HO0, HO1⟩
  isplitl [HY HR0 HR1]
  · isplitl [HY]; · iexists y; iexact HY
    iapply (ring_join c f0 f1)
    isplitl [HR0]; · iexact HR0
    iexact HR1
  isplitl [HP]; · iexact HP
  isplitr [HA HD]
  · isplitl [HI0]; · iexact HI0
    isplitl [HI1]; · iexact HI1
    isplitl [HO0]; · iexact HO0
    isplitl [HO1]; · iexact HO1
    isplitl [HT]; · iexact HT
    iexact HS
  isplitl [HA]; · iexact HA
  iexact HD

theorem share_full (c : Dev nD) (w : Fin cfg0.W) : (dat m 0 c).share w = fullShare := by
  unfold Dat.share; split <;> rfl

/-- Every run ends with each window's array at its computed contents, the moved cache in its place, the other buffers as
    the grid found them, and no count on any semaphore. -/
theorem run_ends : θ_run (defs (F := F)) (onTc (τ := τ) (main (F := F))) (s₀ m ρ)
    (fun r => Pipeline.FramePostRG cfgs (dat m) 0 {main_v2_1} (V m) (G m) r ∧ r.2.sem = fun _ => 0) :=
  Pipeline.θ_run_frame_dmaRG cfgs (dat m) 0 launch0 ownCell defs₀ Variants.none ownCell_ok {main_v0} {main_v2_1}
    (by decide +kernel) (by decide +kernel) m ρ main (fun c => (body_ok m c).loose) (share_full m) (fun _ _ => rfl) (V m) (starts m _)
    (fun _ _ => rfl) (G m) (enter m) (leave m) _ (fun _ h => h)

end Cert.GatesIdeal.Shift

end
-- ==== Proof.GatesMath.lean ====
/-
  What the gates projection is to leave: the logistic of the rows through the gate columns of the weights, and the cache
  with its four oldest entries dropped and the four new ones behind; and the reference's run read that way.
-/
module

public import proofs.«01_k».proof.Proof.Gen.GatesRefIdeal.Run
public import Idealize.ShloMosaic.Lib.IdealHost
public import Idealize.ShloMosaic.Lib.Pointwise
public import Idealize.ShloMosaic.Lib.Tactic
public import Idealize.ShloMosaic.Lib.Pipeline.Value
public import Idealize.ShloMosaic.PureOps.Ideal

@[expose] public section

set_option maxRecDepth 16384

noncomputable section

open Idealize.ShloMosaic Idealize.ShloMosaic.TcCoe Idealize.SL.Sem

namespace Cert.Gating

/-- The gate of row `p` at column `n`. -/
def gate (u : (⟨2, ![16384, 2048]⟩ : Shape).Idx → EReal) (w : (⟨2, ![2048, 12800]⟩ : Shape).Idx → EReal) (p : Fin 16384) (n : Fin 4096) : EReal :=
  Ideal.logistic (∑ k, u (ix2 p k) * w (ix2 k ⟨8704 + n.val, by omega⟩))

/-- All gates. -/
def gates (u : (⟨2, ![16384, 2048]⟩ : Shape).Idx → EReal) (w : (⟨2, ![2048, 12800]⟩ : Shape).Idx → EReal) : (⟨2, ![16384, 4096]⟩ : Shape).Idx → EReal :=
  fun i => gate u w (i 0) (i 1)

variable {α : Type}

/-- The cache shifted by four entries. -/
def shifted (a : (⟨5, ![32, 2048, 2, 4, 128]⟩ : Shape).Idx → α) (b : (⟨5, ![32, 4, 2, 4, 128]⟩ : Shape).Idx → α) (z : Fin 32) (s : Fin 2048) (x : Fin 2) (y : Fin 4)
    (d : Fin 128) : α :=
  if h : s.val < 2044 then a (ix5 z ⟨s.val + 4, by omega⟩ x y d) else b (ix5 z ⟨s.val - 2044, by omega⟩ x y d)

/-- The shifted cache with its entries' rows in one line. -/
def shiftedRows (a : (⟨5, ![32, 2048, 2, 4, 128]⟩ : Shape).Idx → α) (b : (⟨5, ![32, 4, 2, 4, 128]⟩ : Shape).Idx → α) : (⟨3, ![32, 16384, 128]⟩ : Shape).Idx → α := fun i =>
  shifted a b (i 0) ⟨(i 1).val / 8, by have : (i 1).val < 16384 := (i 1).isLt; omega⟩ ⟨(i 1).val / 4 % 2, by omega⟩ ⟨(i 1).val % 4, by omega⟩ (i 2)

/-- Rows of an array whose entries hold eight each, in one line. -/
theorem lined {n N : ℕ} (a : (⟨5, ![32, n, 2, 4, 128]⟩ : Shape).Idx → α) (h : (⟨5, ![32, n, 2, 4, 128]⟩ : Shape).ShapeCasts (⟨3, ![32, N, 128]⟩ : Shape))
    (hN : N = 8 * n) (z : Fin 32) (r : Fin N) (d : Fin 128) :
    shapeCast (⟨3, ![32, N, 128]⟩ : Shape) a h (ix3 z r d) = a (ix5 z ⟨r.val / 8, by omega⟩ ⟨r.val / 4 % 2, by omega⟩ ⟨r.val % 4, by omega⟩ d) := by
  refine shapeCast_apply a h _ _ ?_
  rw [Shape.rowMajor_val_five, Shape.rowMajor_val_three]
  subst hN
  show (((z.val * n + r.val / 8) * 2 + r.val / 4 % 2) * 4 + r.val % 4) * 128 + d.val = (z.val * (8 * n) + r.val) * 128 + d.val
  have e : r.val = 8 * (r.val / 8) + 4 * (r.val / 4 % 2) + r.val % 4 := by omega
  have e2 : z.val * (8 * n) = 8 * (z.val * n) := by ring
  rw [e2]
  omega

end Cert.Gating

namespace Cert.GatesRefIdeal.Arr

open Cert.GatesRefIdeal Cert.GatesRefIdeal.Gen Cert.GatesRefIdeal.Value Cert.Gating

variable (m : (ℓ : Loc nD τ sig) → Buf (Elt Ideal) ℓ) (ρ : Dev nD → PrngReg)

abbrev u (c : Dev nD) : Vec Ideal S16384x2048 .bf16 := m ((c.tc : Thread nD τ).loc main_arg0)
abbrev w (c : Dev nD) : Vec Ideal S2048x12800 .f32 := m ((c.tc : Thread nD τ).loc main_arg1)
abbrev old (c : Dev nD) : Vec Ideal S32x2048x2x4x128 .f32 := m ((c.tc : Thread nD τ).loc main_arg2)
abbrev new (c : Dev nD) : Vec Ideal S32x4x2x4x128 .f32 := m ((c.tc : Thread nD τ).loc main_arg3)

theorem joined (a : Vec Ideal S32x2048x2x4x128 .f32) (b : Vec Ideal S32x4x2x4x128 .f32) (z : Fin 32) (s : Fin 2048) (x : Fin 2) (y : Fin 4) (d : Fin 128) :
    concatenate S32x2048x2x4x128 1 [⟨S32x2044x2x4x128, (extractStridedSlice S32x2044x2x4x128 ![0, 4, 0, 0, 0] a slices_S32x2048x2x4x128_S32x2044x2x4x128_0_4_0_0_0)⟩, ⟨S32x4x2x4x128, b⟩]
      concatenates_S32x2044x2x4x128_S32x4x2x4x128_S32x2048x2x4x128_d1 (ix5 z s x y d) = shifted a b z s x y d := by
  unfold shifted
  by_cases h : s.val < 2044
  · rw [dif_pos h, concatenate_pair_apply_left (t := S32x2048x2x4x128) (s₁ := S32x2044x2x4x128) 1 _ b _ _ rfl (ix5 z ⟨s.val, h⟩ x y d) (fun q => by fin_cases q <;> rfl)]
    pointwise
    congr 2
    apply Fin.ext
    show 4 + s.val = s.val + 4
    omega
  · rw [dif_neg h, concatenate_pair_apply_right (t := S32x2048x2x4x128) (s₁ := S32x2044x2x4x128) 1 _ b _ _ rfl rfl (ix5 z ⟨s.val - 2044, by omega⟩ x y d)
      (fun q hq => by fin_cases q <;> first | rfl | exact absurd rfl hq) (by show s.val - 2044 + 2044 = s.val; omega)]

theorem run_read : θ_run defs (onTc (τ := τ) (main (F := Ideal))) ⟨m, fun _ => 0, ρ⟩ fun r => ∀ c : Dev nD,
      r.2.mem ((c.tc : Thread nD τ).loc main_v9) = gates (u m c) (w m c)
      ∧ r.2.mem ((c.tc : Thread nD τ).loc main_v12) = shiftedRows (old m c) (new m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h1, h2, h3⟩ := h c
  refine ⟨h1.trans ?_, h2.trans ?_, h3⟩
  · funext i
    obtain ⟨p, n, rfl⟩ : ∃ (p : Fin 16384) (n : Fin 4096), i = ix2 p n := ⟨i 0, i 1, eq_ix2 i⟩
    show _ = Ideal.logistic (∑ k, u m c (ix2 p k) * w m c (ix2 k ⟨8704 + n.val, by omega⟩))
    unfold Ideal.logistic
    pointwise
  · funext i
    obtain ⟨z, r, d, rfl⟩ : ∃ (z : Fin 32) (r : Fin 16384) (d : Fin 128), i = ix3 z r d := ⟨i 0, i 1, i 2, eq_ix3 i⟩
    refine (lined (n := 2048) (N := 16384) _ _ rfl z r d).trans ?_
    exact joined _ _ _ _ _ _ _

end Cert.GatesRefIdeal.Arr

end
-- ==== Proof.GatesArrays.lean ====
/-
  What the gates projection leaves in its two results, in terms of its arguments.
-/
module

public import proofs.«01_k».proof.Proof.GatesFrame
public import proofs.«01_k».proof.Proof.GatesMath

@[expose] public section

set_option maxRecDepth 16384

noncomputable section

open Idealize.ShloMosaic Idealize.ShloMosaic.TcCoe Idealize.SL.Sem

namespace Cert.GatesIdeal.Shift

open Cert.GatesIdeal Cert.GatesIdeal.Gen Cert.Gating

section

variable {F : FTy → Type} [FloatOps F] (m : (ℓ : Loc nD τ sig) → Buf (Elt F) ℓ) (ρ : Dev nD → PrngReg) (c : Dev nD)

abbrev u : Vec F S16384x2048 .bf16 := m ((c : Thread nD τ).loc main_arg0)
abbrev wts : Vec F S2048x12800 .f32 := m ((c : Thread nD τ).loc main_arg1)
abbrev old : Vec F S32x2048x2x4x128 .f32 := m ((c : Thread nD τ).loc main_arg2)
abbrev new : Vec F S32x4x2x4x128 .f32 := m ((c : Thread nD τ).loc main_arg3)

theorem V_old : V m c main_v0 = (shapeCast _ (old m c) shapeCasts_S32x2048x2x4x128_S32x16384x128 : Vec F S32x16384x128 .f32) := by
  unfold_abbrev_sides
  after_results
  rfl

theorem V_new : V m c main_v1 = (shapeCast _ (new m c) shapeCasts_S32x4x2x4x128_S32x32x128 : Vec F S32x32x128 .f32) := by
  unfold_abbrev_sides
  after_results
  rfl

/-- The moved cache is the cache shifted by four entries. -/
theorem newCache_eq : newCache m c = shiftedRows (old m c) (new m c) := by
  funext i
  obtain ⟨z, r, d, rfl⟩ : ∃ (z : Fin 32) (r : Fin 16384) (d : Fin 128), i = ix3 z r d := ⟨i 0, i 1, i 2, eq_ix3 i⟩
  show _ = shifted (old m c) (new m c) z ⟨r.val / 8, by omega⟩ ⟨r.val / 4 % 2, by omega⟩ ⟨r.val % 4, by omega⟩ d
  unfold shifted
  by_cases h : r.val < 16352
  · refine (moved_lo _ _ (ix3 z r d) (ix3 z ⟨r.val + 32, by omega⟩ d) h rfl rfl rfl).trans ?_
    rw [V_old, dif_pos (by show r.val / 8 < 2044; omega)]
    refine (lined (n := 2048) (N := 16384) _ _ rfl z ⟨r.val + 32, by omega⟩ d).trans ?_
    have e1 : (⟨(r.val + 32) / 8, by omega⟩ : Fin 2048) = ⟨r.val / 8 + 4, by omega⟩ := Fin.ext (by show (r.val + 32) / 8 = r.val / 8 + 4; omega)
    have e2 : (⟨(r.val + 32) / 4 % 2, by omega⟩ : Fin 2) = ⟨r.val / 4 % 2, by omega⟩ := Fin.ext (by show (r.val + 32) / 4 % 2 = r.val / 4 % 2; omega)
    have e3 : (⟨(r.val + 32) % 4, by omega⟩ : Fin 4) = ⟨r.val % 4, by omega⟩ := Fin.ext (by show (r.val + 32) % 4 = r.val % 4; omega)
    rw [e1, e2, e3]
  · refine (moved_hi _ _ (ix3 z r d) (ix3 z ⟨r.val - 16352, by omega⟩ d) rfl (by show r.val = 16352 + (r.val - 16352); omega) rfl).trans ?_
    rw [V_new, dif_neg (by show ¬ r.val / 8 < 2044; omega)]
    refine (lined (n := 4) (N := 32) _ _ rfl z ⟨r.val - 16352, by omega⟩ d).trans ?_
    have e1 : (⟨(r.val - 16352) / 8, by omega⟩ : Fin 4) = ⟨r.val / 8 - 2044, by omega⟩ := Fin.ext (by show (r.val - 16352) / 8 = r.val / 8 - 2044; omega)
    have e2 : (⟨(r.val - 16352) / 4 % 2, by omega⟩ : Fin 2) = ⟨r.val / 4 % 2, by omega⟩ := Fin.ext (by show (r.val - 16352) / 4 % 2 = r.val / 4 % 2; omega)
    have e3 : (⟨(r.val - 16352) % 4, by omega⟩ : Fin 4) = ⟨r.val % 4, by omega⟩ := Fin.ext (by show (r.val - 16352) % 4 = r.val % 4; omega)
    rw [e1, e2, e3]

/-- The run leaves the gates' array at its computed contents and the moved cache, and keeps its arguments. -/
theorem run_all : θ_run (defs (F := F)) (onTc (τ := τ) (main (F := F))) ⟨m, fun _ => 0, ρ⟩ (fun r =>
    (∀ c : Dev nD, r.2.mem ((c : Thread nD τ).loc main_v2_0) = (dat m 0 c).arrAt (3 : Fin 4) cfg0.N
      ∧ r.2.mem ((c : Thread nD τ).loc main_v2_1) = newCache m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r he => ⟨fun c => by
    obtain ⟨⟨hf, hr⟩, -⟩ := he
    obtain ⟨hw, ht⟩ := hf c
    refine ⟨hw (3 : Fin 4), (hr c main_v2_1 (Finset.mem_singleton_self _)).trans (G_moved m c), ?_, ?_, ?_, ?_⟩
    · exact (hw (0 : Fin 4)).trans (((dat m 0 c).arrAt_in (0 : Fin 4) rfl _).trans (V_kept m c main_arg0 (by decide) (by decide)))
    · exact (hw (1 : Fin 4)).trans (((dat m 0 c).arrAt_in (1 : Fin 4) rfl _).trans (V_kept m c main_arg1 (by decide) (by decide)))
    · exact (ht main_arg2 (Finset.mem_sdiff.mpr ⟨Pipeline.mem_restRefs_of main_arg2 (by decide) (by decide), by decide⟩)).trans (V_kept m c main_arg2 (by decide) (by decide))
    · exact (ht main_arg3 (Finset.mem_sdiff.mpr ⟨Pipeline.mem_restRefs_of main_arg3 (by decide) (by decide), by decide⟩)).trans (V_kept m c main_arg3 (by decide) (by decide)), he.2⟩)
    (run_ends m ρ)

/-- The frame, at any floats. -/
theorem frame_any : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r he => ⟨fun c => (he.1 c).2.2, he.2⟩) (run_all m ρ)

end

/-- The gates of one block of columns at an index. -/
theorem colBlk_apply (q : Fin 4) (x : Vec Ideal S1024x2048 .bf16) (w : Vec Ideal S2048x1024 .f32) (p : Fin 1024) (n : Fin 256) :
    colBlk q x (narrow w) (ix2 p n) = Ideal.logistic (∑ k, x (ix2 p k) * w (ix2 k ⟨256 * q.val + n.val, by omega⟩)) := by
  unfold colBlk
  pointwise

/-- The block of gates at an index. -/
theorem gateOut_apply (x : Vec Ideal S1024x2048 .bf16) (w : Vec Ideal S2048x1024 .f32) (p : Fin 1024) (n : Fin 1024) :
    gateOut x (narrow w) (ix2 p n) = Ideal.logistic (∑ k, x (ix2 p k) * w (ix2 k n)) := by
  refine (colBlk_apply ⟨n.val / 256, by omega⟩ x w p ⟨n.val % 256, by omega⟩).trans ?_
  have e : (⟨256 * (n.val / 256) + n.val % 256, by omega⟩ : Fin 1024) = n := Fin.ext (by show 256 * (n.val / 256) + n.val % 256 = n.val; omega)
  simp only [e]

variable (m : (ℓ : Loc nD τ sig) → Buf (Elt Ideal) ℓ) (ρ : Dev nD → PrngReg) (c : Dev nD)

theorem index3 : ∀ t : Fin grid0.N, cc0_transform_4 (grid0.coords t) = ![t.val % 16, t.val / 16] := by decide +kernel

/-- Where an element of a point's block lies in the result. -/
theorem emb3 (t : Fin cfg0.N) (p : Fin 1024) (n : Fin 1024) :
    ((cfg0.win (3 : Fin 4)).blk t).view.emb (ix2 p n : S1024x1024.Idx)
      = (ix2 ⟨1024 * (t.val % 16) + p.val, by have := lt_N t; omega⟩ ⟨1024 * (t.val / 16) + n.val, by have := lt_N t; omega⟩ : S16384x4096.Idx) := by
  have e := index3 t
  funext a
  apply Fin.ext
  match a with
  | ⟨0, _⟩ => show cc0_transform_4 (grid0.coords t) 0 * 1024 + 1 * p.val = 1024 * (t.val % 16) + p.val; rw [e]; show t.val % 16 * 1024 + 1 * p.val = _; omega
  | ⟨1, _⟩ => show cc0_transform_4 (grid0.coords t) 1 * 1024 + 1 * n.val = 1024 * (t.val / 16) + n.val; rw [e]; show t.val / 16 * 1024 + 1 * n.val = _; omega

theorem cover3 (i : S16384x4096.Idx) : ∃ t : Fin cfg0.N, (cfg0.win (3 : Fin 4)).flush t = true ∧ i ∈ ((cfg0.win (3 : Fin 4)).blk t).view.set := by
  obtain ⟨r, q, rfl⟩ : ∃ (r : Fin 16384) (q : Fin 4096), i = ix2 r q := ⟨i 0, i 1, eq_ix2 i⟩
  let t : Fin cfg0.N := ⟨16 * (q.val / 1024) + r.val / 1024, lt_of_lt_of_eq (by omega) (show cfg0.N = 64 from N_0).symm⟩
  have hv : t.val = 16 * (q.val / 1024) + r.val / 1024 := rfl
  refine ⟨t, flush0_3 t, ?_⟩
  have e : (ix2 r q : S16384x4096.Idx) = ((cfg0.win (3 : Fin 4)).blk t).view.emb (ix2 (⟨r.val % 1024, by omega⟩ : Fin 1024) (⟨q.val % 1024, by omega⟩ : Fin 1024) : S1024x1024.Idx) := by
    rw [emb3]
    congr 1
    · apply Fin.ext
      show r.val = 1024 * (t.val % 16) + r.val % 1024
      omega
    · apply Fin.ext
      show q.val = 1024 * (t.val / 16) + q.val % 1024
      omega
  rw [e]
  exact ((cfg0.win (3 : Fin 4)).blk t).view.emb_mem_set _

/-- The gates' array at the end of a run. -/
theorem arr3_eq : (dat m 0 c).arrAt (3 : Fin 4) cfg0.N = gates (u m c) (wts m c) :=
  (dat m 0 c).arrAt_eq_of_cover (3 : Fin 4) (gates (u m c) (wts m c))
    (fun t _ => by
      funext j
      obtain ⟨p, n, rfl⟩ : ∃ (p : Fin 1024) (n : Fin 1024), j = (ix2 p n : S1024x1024.Idx) := ⟨j 0, j 1, eq_ix2 j⟩
      rw [View.read_apply, emb3]
      refine (gateOut_apply (uAt m c t) (wAt m c t) p n).trans ?_
      rw [uAt_eq, wAt_eq, V_kept m c main_arg0 (by decide) (by decide), V_kept m c main_arg1 (by decide) (by decide)]
      show Ideal.logistic _ = Ideal.logistic _
      congr 1
      refine Finset.sum_congr rfl fun k _ => ?_
      refine congrArg₂ (· * ·) rfl (congrArg _ ?_)
      funext a
      apply Fin.ext
      match a with
      | ⟨0, _⟩ => rfl
      | ⟨1, _⟩ => show 8704 + 1024 * (t.val / 16) + n.val = 8704 + (1024 * (t.val / 16) + n.val); omega)
    cover3

end Cert.GatesIdeal.Shift

end
-- ==== Proof.GatesClaim.lean ====
/-
  The gates projection's claims.
-/
module

public import proofs.«01_k».proof.Defs
public import proofs.«01_k».proof.Proof.GatesArrays
public import proofs.«01_k».proof.Proof.Gen.Gates
public import Idealize.ShloMosaic.Adequacy
public import Idealize.ShloMosaic.Init

@[expose] public section

set_option maxRecDepth 16384

noncomputable section

open Idealize.ShloMosaic Idealize.ShloMosaic.TcCoe Idealize.SL.Sem

namespace Cert.Gating

section

variable {F : FTy → Type} [FloatOps F]

/-! The program as compiled has the text of the one read over extended reals: their runs are the same, at any floats. -/

theorem body_eq : Cert.Gates.cc0_proj_gates (F := F) = Cert.GatesIdeal.cc0_proj_gates (F := F) := by
  funext i a1 h1 a2 h2 a3 h3 a4 h4 a5 h5 a6 h6 a7 h7 a8 h8 a9
  unfold Cert.Gates.cc0_proj_gates Cert.GatesIdeal.cc0_proj_gates
  rfl

theorem bodies_eq : Cert.Gates.defs₀ (F := F) = Cert.GatesIdeal.defs₀ (F := F) := by
  unfold Cert.Gates.defs₀
  rw [body_eq]
  unfold Cert.GatesIdeal.defs₀
  refine congrArg (Defs.onTc (nD := Cert.GatesIdeal.nD) (τ := Cert.GatesIdeal.τ) (sig := Cert.GatesIdeal.sig) (Val := Elt F) (Λ := Cert.GatesIdeal.Λ₀)) ?_
  funext x y
  match x, y with
  | 0, (t, s) => rfl

theorem defs_eq : Cert.Gates.defs (F := F) = Cert.GatesIdeal.defs (F := F) := by
  unfold Cert.Gates.defs
  rw [bodies_eq]
  rfl

theorem run_eq (m : (ℓ : Loc Cert.GatesIdeal.nD Cert.GatesIdeal.τ Cert.GatesIdeal.sig) → Buf (Elt F) ℓ) (ρ : Dev Cert.GatesIdeal.nD → PrngReg) :
    (θ_run (Cert.Gates.defs (F := F)) (onTc (τ := Cert.Gates.τ) (Cert.Gates.main (F := F))) ⟨m, fun _ => 0, ρ⟩ : _ → Prop)
      = θ_run (Cert.GatesIdeal.defs (F := F)) (onTc (τ := Cert.GatesIdeal.τ) (Cert.GatesIdeal.main (F := F))) ⟨m, fun _ => 0, ρ⟩ := by
  rw [defs_eq]
  rfl

end

theorem frame_Gates : Cert.quiescent_Gates := fun m ρ _ => by
  refine (congrFun (run_eq (F := Bits) m ρ) _).mpr ?_
  exact Cert.GatesIdeal.Shift.frame_any (F := Bits) m ρ

theorem frame_GatesIdeal : Cert.quiescent_GatesIdeal := fun m ρ _ => Cert.GatesIdeal.Shift.frame_any m ρ

theorem frame_GatesRefIdeal : Cert.quiescent_GatesRefIdeal := fun m ρ _ =>
  (θ_run Cert.GatesRefIdeal.defs _ _).mono (fun r h => ⟨fun c => (h c).2.2, sem_eq_zero_of_no_sems (by decide) r.2⟩)
    (Cert.GatesRefIdeal.Value.run m ρ)

/-- The gates and the moved cache are the reference's. -/
theorem algebraic_Gates : Cert.algebraic_GatesIdeal_GatesRefIdeal := by
  intro m g m' g' _ hagree
  refine ⟨fun c => gates (Cert.GatesIdeal.Shift.u m c) (Cert.GatesIdeal.Shift.wts m c), fun c => shiftedRows (Cert.GatesIdeal.Shift.old m c) (Cert.GatesIdeal.Shift.new m c),
    (θ_run Cert.GatesIdeal.defs _ _).mono (fun r h c => ⟨(h.1 c).1.trans (Cert.GatesIdeal.Shift.arr3_eq m c),
      (h.1 c).2.1.trans (Cert.GatesIdeal.Shift.newCache_eq m c), (h.1 c).2.2⟩) (Cert.GatesIdeal.Shift.run_all m g),
    (θ_run Cert.GatesRefIdeal.defs _ _).mono (fun r h c => ⟨(h c).1.trans ?_, (h c).2.1.trans ?_, (h c).2.2⟩) (Cert.GatesRefIdeal.Arr.run_read m' g')⟩
  · have e0 : Cert.GatesRefIdeal.Arr.u m' c = Cert.GatesIdeal.Shift.u m c := (hagree c).1
    have e1 : Cert.GatesRefIdeal.Arr.w m' c = Cert.GatesIdeal.Shift.wts m c := (hagree c).2.1
    rw [e0, e1]
  · have e2 : Cert.GatesRefIdeal.Arr.old m' c = Cert.GatesIdeal.Shift.old m c := (hagree c).2.2.1
    have e3 : Cert.GatesRefIdeal.Arr.new m' c = Cert.GatesIdeal.Shift.new m c := (hagree c).2.2.2
    rw [e2, e3]

end Cert.Gating

end
-- ==== Proof.ValsRing.lean ====
/-
  The slots of the ring through which the values projection moves its cache, the blocks it moves, and the cells its copies end on.
-/
module

public import proofs.«01_k».proof.Defs
public import proofs.«01_k».proof.Proof.Gen.ValsIdeal
public import proofs.«01_k».proof.Proof.Gen.ValsIdeal.Launch
public import proofs.«01_k».proof.Proof.Gen.ValsIdeal.Points
public import Idealize.ShloMosaic.Lib.Pipeline.Kit
public import Idealize.ShloMosaic.Lib.Pipeline.FrameBody
public import Idealize.ShloMosaic.Lib.Pipeline.FrameValue
public import Idealize.ShloMosaic.Lib.Pipeline.ReadBack
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ValsIdeal.Shift

open Cert.ValsIdeal Cert.ValsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The cache, the moved cache, the ring. -/
abbrev srcM : Memref sig .tc .hbm S32x4096x128 .f32 := Memref.whole main_v0
abbrev dstM : Memref sig .tc .hbm S32x4096x128 .f32 := Memref.whole main_v2_1
abbrev ringM : Memref sig .tc .vmem S2x4064x128 .f32 := Memref.whole cc0_scratch1
abbrev wM : Memref sig .tc .vmem S2048x1024 .bf16 := Memref.whole cc0_scratch0

theorem src_inb (k : Nat) (h : k < 32) : ∀ a, (![k, 32, 0] : Fin 3 → Nat) a + S1x4064x128.size a ≤ S32x4096x128.size a := fun a => by
  fin_cases a
  · show k + 1 ≤ 32; omega
  · show 32 + 4064 ≤ 4096; omega
  · show 0 + 128 ≤ 128; omega
theorem dst_inb (k : Nat) (h : k < 32) : ∀ a, (![k, 0, 0] : Fin 3 → Nat) a + S1x4064x128.size a ≤ S32x4096x128.size a := fun a => by
  fin_cases a
  · show k + 1 ≤ 32; omega
  · show 0 + 4064 ≤ 4096; omega
  · show 0 + 128 ≤ 128; omega
theorem slot_inb (k : Nat) : ∀ a, (![k % 2, 0, 0] : Fin 3 → Nat) a + S1x4064x128.size a ≤ S2x4064x128.size a := fun a => by
  fin_cases a
  · show k % 2 + 1 ≤ 2; omega
  · show 0 + 4064 ≤ 4064; omega
  · show 0 + 128 ≤ 128; omega
theorem cell_inb (r k : Nat) (h : r < 3) : ∀ a, (![r, k % 2] : Fin 2 → Nat) a + S1x1.size a ≤ S3x2.size a := fun a => by
  fin_cases a
  · show r + 1 ≤ 3; omega
  · show k % 2 + 1 ≤ 2; omega

/-- Block `k` of the cache as it is read: `4064` rows, from row `32` on. -/
abbrev srcB (k : Nat) (h : k < 32) : Memref sig .tc .hbm S4064x128 .f32 :=
  (srcM.slice (Rect.unit (s := S32x4096x128) ![k, 32, 0] S1x4064x128.size (src_inb k h)) (fun _ => rfl)).squeeze S4064x128 squeezes_S1x4064x128_S4064x128
/-- Block `k` of the moved cache, `32` rows earlier. -/
abbrev dstB (k : Nat) (h : k < 32) : Memref sig .tc .hbm S4064x128 .f32 :=
  (dstM.slice (Rect.unit (s := S32x4096x128) ![k, 0, 0] S1x4064x128.size (dst_inb k h)) (fun _ => rfl)).squeeze S4064x128 squeezes_S1x4064x128_S4064x128
/-- The ring's slot of block `k`. -/
abbrev slotB (k : Nat) : Memref sig .tc .vmem S4064x128 .f32 :=
  (ringM.slice (Rect.unit (s := S2x4064x128) ![k % 2, 0, 0] S1x4064x128.size (slot_inb k)) (fun _ => rfl)).squeeze S4064x128 squeezes_S1x4064x128_S4064x128
/-- The cell of block `k`'s copy in (`r = 0`) or out (`r = 1`). -/
abbrev cellB (r k : Nat) (h : r < 3) : DmaSem sig :=
  ((cc0_scratch2.slice (Rect.unit (s := S3x2) ![r, k % 2] S1x1.size (cell_inb r k h))).squeeze S_ squeezes_S1x1_S_).sem

/-- A slice at an offset equal to a block's is the block's. -/
theorem src_at {o : Fin 3 → Nat} {k : Nat} (h : o = ![k, 32, 0]) (hk : k < 32) (p : ∀ a, o a + S1x4064x128.size a ≤ S32x4096x128.size a) (q) :
    srcM.slice (Rect.unit (s := S32x4096x128) o S1x4064x128.size p) q
      = srcM.slice (Rect.unit (s := S32x4096x128) ![k, 32, 0] S1x4064x128.size (src_inb k hk)) (fun _ => rfl) := by
  subst h; rfl
theorem dst_at {o : Fin 3 → Nat} {k : Nat} (h : o = ![k, 0, 0]) (hk : k < 32) (p : ∀ a, o a + S1x4064x128.size a ≤ S32x4096x128.size a) (q) :
    dstM.slice (Rect.unit (s := S32x4096x128) o S1x4064x128.size p) q
      = dstM.slice (Rect.unit (s := S32x4096x128) ![k, 0, 0] S1x4064x128.size (dst_inb k hk)) (fun _ => rfl) := by
  subst h; rfl
theorem slot_at {o : Fin 3 → Nat} {k : Nat} (h : o = ![k % 2, 0, 0]) (p : ∀ a, o a + S1x4064x128.size a ≤ S2x4064x128.size a) (q) :
    ringM.slice (Rect.unit (s := S2x4064x128) o S1x4064x128.size p) q
      = ringM.slice (Rect.unit (s := S2x4064x128) ![k % 2, 0, 0] S1x4064x128.size (slot_inb k)) (fun _ => rfl) := by
  subst h; rfl
theorem cell_at {o : Fin 2 → Nat} {r k : Nat} (h : o = ![r, k % 2]) (hr : r < 3) (p : ∀ a, o a + S1x1.size a ≤ S3x2.size a) :
    cc0_scratch2.slice (Rect.unit (s := S3x2) o S1x1.size p) = cc0_scratch2.slice (Rect.unit (s := S3x2) ![r, k % 2] S1x1.size (cell_inb r k hr)) := by
  subst h; rfl

theorem off1 : ∀ t : Fin cfg0.N, 2 ≤ t.val → k0_off1 (grid0.coords t) = ![1, (t.val - 2) % 2] := by decide +kernel
theorem off2 : ∀ t : Fin cfg0.N, 2 ≤ t.val → k0_off2 (grid0.coords t) = ![t.val - 2, 0, 0] := by decide +kernel
theorem off3 : ∀ t : Fin cfg0.N, 2 ≤ t.val → k0_off3 (grid0.coords t) = ![(t.val - 2) % 2, 0, 0] := by decide +kernel
theorem off4 : ∀ t : Fin cfg0.N, k0_off4 (grid0.coords t) = ![0, t.val % 2] := by decide +kernel
theorem off5 : ∀ t : Fin cfg0.N, k0_off5 (grid0.coords t) = ![t.val % 2, 0, 0] := by decide +kernel
theorem off6 : ∀ t : Fin cfg0.N, k0_off6 (grid0.coords t) = ![t.val, 32, 0] := by decide +kernel
theorem off7 : ∀ t : Fin cfg0.N, 1 ≤ t.val → k0_off7 (grid0.coords t) = ![0, (t.val - 1) % 2] := by decide +kernel
theorem off8 : ∀ t : Fin cfg0.N, 1 ≤ t.val → k0_off8 (grid0.coords t) = ![(t.val - 1) % 2, 0, 0] := by decide +kernel
theorem off9 : ∀ t : Fin cfg0.N, 1 ≤ t.val → k0_off9 (grid0.coords t) = ![t.val - 1, 32, 0] := by decide +kernel
theorem off10 : ∀ t : Fin cfg0.N, 1 ≤ t.val → k0_off10 (grid0.coords t) = ![1, (t.val - 1) % 2] := by decide +kernel
theorem off11 : ∀ t : Fin cfg0.N, 1 ≤ t.val → k0_off11 (grid0.coords t) = ![t.val - 1, 0, 0] := by decide +kernel
theorem off12 : ∀ t : Fin cfg0.N, t.val = 31 → k0_off12 (grid0.coords t) = ![0, 1] := by decide +kernel
theorem off13 : ∀ t : Fin cfg0.N, t.val = 31 → k0_off13 (grid0.coords t) = ![1, 0, 0] := by decide +kernel
theorem off14 : ∀ t : Fin cfg0.N, t.val = 31 → k0_off14 (grid0.coords t) = ![31, 32, 0] := by decide +kernel
theorem off15 : ∀ t : Fin cfg0.N, t.val = 31 → k0_off15 (grid0.coords t) = ![1, 1] := by decide +kernel
theorem off16 : ∀ t : Fin cfg0.N, t.val = 31 → k0_off16 (grid0.coords t) = ![31, 0, 0] := by decide +kernel
theorem off17 : ∀ t : Fin cfg0.N, t.val = 31 → k0_off17 (grid0.coords t) = ![1, 0] := by decide +kernel
theorem off18 : ∀ t : Fin cfg0.N, t.val = 31 → k0_off18 (grid0.coords t) = ![30, 0, 0] := by decide +kernel
theorem off19 : ∀ t : Fin cfg0.N, t.val = 31 → k0_off19 (grid0.coords t) = ![0, 0, 0] := by decide +kernel
theorem cond1 : ∀ t : Fin cfg0.N, k0_cond1 (grid0.coords t) = 1#1 ↔ 2 ≤ t.val := by decide +kernel
theorem cond2 : ∀ t : Fin cfg0.N, k0_cond2 (grid0.coords t) = 1#1 ↔ 1 ≤ t.val := by decide +kernel
theorem cond3 : ∀ t : Fin cfg0.N, k0_cond3 (grid0.coords t) = 1#1 ↔ t.val = 31 := by decide +kernel

end Cert.ValsIdeal.Shift

end
-- ==== Proof.ValsBlk.lean ====
/-
  The block of results one point leaves, from its rows and the weights kept.
-/
module

public import proofs.«01_k».proof.Proof.ValsRing
public import Idealize.ShloMosaic.Lib.ValueIdx

@[expose] public section

set_option maxRecDepth 16384

noncomputable section

namespace Cert.ValsIdeal.Shift

open Cert.ValsIdeal Cert.ValsIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

theorem col_inb (q : Fin 4) : ∀ a, (![0, 256 * q.val] : Fin 2 → Nat) a + S2048x256.size a ≤ S2048x1024.size a := fun a => by
  have := q.isLt
  fin_cases a
  · show 0 + 2048 ≤ 2048; omega
  · show 256 * q.val + 256 ≤ 1024; omega

/-- The rows `x` through `256` columns of the weights `k`. -/
def prod (q : Fin 4) (x : Vec F S1024x2048 .bf16) (k : Vec F S2048x1024 .bf16) : Vec F S1024x256 .f32 :=
  matmul dot_S1024x2048_S2048x256_S1024x256_1_0_0_1_n_n none x
    (View.ld k (Rect.unit (s := S2048x1024) ![0, 256 * q.val] S2048x256.size (col_inb q))) (constant S1024x256 .f32 0#32)

/-- One block of `256` results: those rows as they are, or where `b` says so each times its logistic. -/
def colBlk (b : BitVec 1) (q : Fin 4) (x : Vec F S1024x2048 .bf16) (k : Vec F S2048x1024 .bf16) : Vec F S1024x256 .bf16 :=
  truncf .bf16 (Scalar.select b (mulf (prod q x k) (logistic (prod q x k))) (prod q x k)) bitsLt_bf16_f32

/-- The block of results a point leaves. -/
def gateOut (b : BitVec 1) (x : Vec F S1024x2048 .bf16) (k : Vec F S2048x1024 .bf16) : Vec F S1024x1024 .bf16 := fun j =>
  colBlk b ⟨(j 1).val / 256, by have h : (j 1).val < 1024 := (j 1).isLt; omega⟩ x k (ix2 (j 0) ⟨(j 1).val % 256, by omega⟩ : S1024x256.Idx)

theorem out_inb (q : Fin 4) : ∀ a, (![0, 256 * q.val] : Fin 2 → Nat) a + S1024x256.size a ≤ S1024x1024.size a := fun a => by
  have := q.isLt
  fin_cases a
  · show 0 + 1024 ≤ 1024; omega
  · show 256 * q.val + 256 ≤ 1024; omega

/-- The piece of the block a store of `256` columns leaves. -/
abbrev piece (q : Fin 4) (Z : Vec F S1024x256 .bf16) : View.Piece (Elt F) S1024x1024 .bf16 := ⟨Rect.unit (s := S1024x1024) ![0, 256 * q.val] S1024x256.size (out_inb q), Z⟩

theorem piece_eq (b : BitVec 1) (q : Fin 4) (x : Vec F S1024x2048 .bf16) (k : Vec F S2048x1024 .bf16) (y : S1024x256.Idx) :
    colBlk b q x k y = gateOut b x k ((piece (F := F) q (colBlk b q x k)).1.emb y) := by
  have hy : (y 1).val < 256 := (y 1).isLt
  have e : (((piece (F := F) q (colBlk b q x k)).1.emb y) 1).val = 256 * q.val + (y 1).val := by show 256 * q.val + 1 * (y 1).val = _; omega
  have e0 : (((piece (F := F) q (colBlk b q x k)).1.emb y) 0) = y 0 := Fin.ext (by show 0 + 1 * (y 0).val = _; omega)
  unfold gateOut
  have hq : (⟨(((piece (F := F) q (colBlk b q x k)).1.emb y) 1).val / 256, by have h := (((piece (F := F) q (colBlk b q x k)).1.emb y) 1).isLt; have h : _ < 1024 := h; omega⟩ : Fin 4) = q := Fin.ext (by show _ / 256 = _; rw [e]; omega)
  rw [hq]
  congr 1
  funext a
  match a with
  | ⟨0, _⟩ => exact e0.symm
  | ⟨1, _⟩ => exact Fin.ext (by show (y 1).val = _ % 256; rw [e]; omega)

theorem hz : (![0, 0] : Fin 2 → Nat) = fun _ => 0 := funext fun a => by fin_cases a <;> rfl

/-- Four stores of `256` columns leave the block of results. -/
theorem read_pieces (v : View sig .tc .vmem S1024x1024 .bf16) (f : v.ty.Contents (Elt F)) (b : BitVec 1) (x : Vec F S1024x2048 .bf16) (k : Vec F S2048x1024 .bf16)
    (Z0 Z1 Z2 Z3 : Vec F S1024x256 .bf16) (h0 : Z0 = colBlk b 0 x k) (h1 : Z1 = colBlk b 1 x k) (h2 : Z2 = colBlk b 2 x k) (h3 : Z3 = colBlk b 3 x k) (p0 p1 p2 p3) :
    v.read (Elt F) (v.writes (Elt F) f [⟨Rect.unit (s := S1024x1024) ![0, 768] S1024x256.size p3, Z3⟩, ⟨Rect.unit (s := S1024x1024) ![0, 512] S1024x256.size p2, Z2⟩,
      ⟨Rect.unit (s := S1024x1024) ![0, 256] S1024x256.size p1, Z1⟩, ⟨Rect.unit (s := S1024x1024) ![0, 0] S1024x256.size p0, Z0⟩]) = gateOut b x k := by
  subst h0 h1 h2 h3
  funext j
  have hj : (j 1).val < 1024 := (j 1).isLt
  have hi : (j 0).val < 1024 := (j 0).isLt
  refine View.read_writes_apply_of_pieces v f (gateOut b x k) _ ?_ j ?_
  · intro p hp
    simp only [List.mem_cons, List.not_mem_nil, or_false] at hp
    rcases hp with rfl | rfl | rfl | rfl
    · exact piece_eq b 3 x k
    · exact piece_eq b 2 x k
    · exact piece_eq b 1 x k
    · exact piece_eq b 0 x k
  · have hm : ∀ (o : Nat) (p : ∀ a, (![0, o] : Fin 2 → Nat) a + S1024x256.size a ≤ S1024x1024.size a), o ≤ (j 1).val → (j 1).val < o + 256 →
        j ∈ (Rect.unit (s := S1024x1024) ![0, o] S1024x256.size p).set := by
      intro o p h1 h2
      refine (Rect.unit (s := S1024x1024) ![0, o] S1024x256.size p).mem_set.mpr fun a => ?_
      match a with
      | ⟨0, _⟩ => exact ⟨(j 0).val, hi, by show (j 0).val = 0 + 1 * (j 0).val; omega⟩
      | ⟨1, _⟩ => exact ⟨(j 1).val - o, by show _ < 256; omega, by show (j 1).val = o + 1 * ((j 1).val - o); omega⟩
    by_cases c0 : (j 1).val < 256
    · exact ⟨_, List.mem_cons_of_mem _ (List.mem_cons_of_mem _ (List.mem_cons_of_mem _ List.mem_cons_self)), hm 0 p0 (by omega) (by omega)⟩
    by_cases c1 : (j 1).val < 512
    · exact ⟨_, List.mem_cons_of_mem _ (List.mem_cons_of_mem _ List.mem_cons_self), hm 256 p1 (by omega) (by omega)⟩
    by_cases c2 : (j 1).val < 768
    · exact ⟨_, List.mem_cons_of_mem _ List.mem_cons_self, hm 512 p2 (by omega) (by omega)⟩
    exact ⟨_, List.mem_cons_self, hm 768 p3 (by omega) (by omega)⟩

end Cert.ValsIdeal.Shift

end
-- ==== Proof.ValsSteps.lean ====
/-
  The values projection's copies, one part of its body at a time.
-/
module

public import proofs.«01_k».proof.Proof.ValsBlk

@[expose] public section

set_option maxRecDepth 16384

noncomputable section

namespace Cert.ValsIdeal.Shift

open Cert.ValsIdeal Cert.ValsIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in: the pipeline's, beside the counters of the copies in flight. -/
local notation "𝕄" => MT nD τ sig Unit (Elt F) ℕ (Pipeline.UD sig nD τ) ℕ

variable (c : Dev nD)

/-- The kinds of contents. -/
abbrev BufA : Type := Buf (Elt F) ((c : Thread nD τ).loc main_v0)
abbrev BufO : Type := Buf (Elt F) ((c : Thread nD τ).loc main_v2_1)
abbrev BufW : Type := Buf (Elt F) ((c : Thread nD τ).loc cc0_scratch0)
abbrev BufR : Type := Buf (Elt F) ((c : Thread nD τ).loc cc0_scratch1)

/-- Block `k` of the cache, block `k` of the moved cache and block `k`'s slot, held at given contents. -/
abbrev heldA (k : Nat) (h : k < 32) (f : BufA (F := F) c) : sProp 𝕄 := (srcB k h).view.loc (c : Thread nD τ) ↦[(srcB k h).view.set]{fullShare} f
abbrev heldO (k : Nat) (h : k < 32) (f : BufO (F := F) c) : sProp 𝕄 := (dstB k h).view.loc (c : Thread nD τ) ↦[(dstB k h).view.set]{fullShare} f
abbrev heldR (k : Nat) (f : BufR (F := F) c) : sProp 𝕄 := (slotB k).view.loc (c : Thread nD τ) ↦[(slotB k).view.set]{fullShare} f

/-- The weights kept, held at given contents. -/
abbrev heldW (f : BufW (F := F) c) : sProp 𝕄 := wM.view.loc (c : Thread nD τ) ↦{fullShare} f

/-- The tail of the moved cache, which the new rows fill, and the cell their copy ends on. -/
abbrev tailB : Memref sig .tc .hbm S32x32x128 .f32 :=
  dstM.slice (Rect.unit (s := S32x4096x128) ![0, 4064, 0] S32x32x128.size inb_S32x4096x128_S32x32x128_0_4064_0) (fun _ => rfl)
abbrev tailC : DmaSem sig := ((cc0_scratch2.slice (Rect.unit (s := S3x2) ![2, 0] S1x1.size inb_S3x2_S1x1_2_0)).squeeze S_ squeezes_S1x1_S_).sem
abbrev heldT (f : BufO (F := F) c) : sProp 𝕄 := tailB.view.loc (c : Thread nD τ) ↦[tailB.view.set]{fullShare} f

/-- A cell at rest. -/
abbrev idle (s : DmaSem sig) : sProp 𝕄 := semVal ((c : Thread nD τ), .dma s) 0

/-- What the slot of block `k` holds is the block of the cache. -/
abbrev Loaded (k : Nat) (h : k < 32) (fa : BufA (F := F) c) (fr : BufR (F := F) c) : Prop :=
  (slotB k).view.read (Elt F) fr = (srcB k h).view.read (Elt F) fa
/-- What block `k` of the moved cache holds is what its slot does. -/
abbrev Wrote (k : Nat) (h : k < 32) (fr : BufR (F := F) c) (g : BufO (F := F) c) : Prop :=
  (dstB k h).view.read (Elt F) g = (slotB k).view.read (Elt F) fr

/-- Block `k`'s copy in, in flight: it will deliver the slot at `fr` and the block back. -/
abbrev flyIn (k : Nat) (h : k < 32) (fr : BufR (F := F) c) (fa : BufA (F := F) c) : sProp 𝕄 :=
  Transfers.Flight countersEmb (c : Thread nD τ) (.dma (cellB 0 k (by decide))) default 65024
    iprop(heldR c k fr ∗ heldA c k h fa)
/-- Block `k`'s copy out, in flight: it will deliver the block written at `fo` and the slot back. -/
abbrev flyOut (k : Nat) (h : k < 32) (fo : BufO (F := F) c) (fr : BufR (F := F) c) : sProp 𝕄 :=
  Transfers.Flight countersEmb (c : Thread nD τ) (.dma (cellB 1 k (by decide))) default 65024
    iprop(heldO c k h fo ∗ heldR c k fr)

variable (t : Fin cfg0.N) (arg2 : Memref sig .tc .vmem S1024x2048 .bf16) (harg2 : arg2.IsWhole) (arg3 : Memref sig .tc .vmem S2048x1024 .f32) (harg3 : arg3.IsWhole)
  (arg5 : Memref sig .tc .vmem S32x32x128 .f32) (harg5 : arg5.IsWhole) (arg6 : Memref sig .tc .vmem S1024x1024 .bf16) (harg6 : arg6.IsWhole)

/-- The first part of the body at a point. -/
abbrev part6 := k0_part6 (F := F) (grid0.coords t) arg2 harg2 arg3 harg3 srcM (Memref.isWhole_whole _) arg5 harg5 arg6 harg6 dstM (Memref.isWhole_whole _) wM (Memref.isWhole_whole _) ringM (Memref.isWhole_whole _) cc0_scratch2

/-- What the first part of the body leaves behind: from `P` and what the core waits for, the slot of the point's own block at `fr`, and `Z`. -/
abbrev Frees (P Z : sProp 𝕄) (fr : BufR (F := F) c) : Prop :=
  ∀ (W : Waits sig Unit) (Q : _ → sProp 𝕄),
    iprop(P ∗ owes c.tc 0 W
        ∗ (∀ r, iprop(⌜r.1 = BitVec.ofNat 32 (grid0.coords t 0).val ∧ r.2.1 = BitVec.ofNat 32 (grid0.coords t 1).val⌝ ∗ heldR c t.val fr ∗ Z ∗ (∃ W', owes c.tc 0 W')) -∗ Q r))
      ⊢ wp frame (wpE (defs₀ (F := F)) Variants.none c none) Set.univ (part6 t arg2 harg2 arg3 harg3 arg5 harg5 arg6 harg6) Q

theorem cellB_congr (r : Nat) (hr : r < 3) {m n : Nat} (h : m % 2 = n % 2) : cellB r m hr = cellB r n hr := by
  have key : ∀ (m n : Nat) (hm : ∀ a, (![r, m] : Fin 2 → Nat) a + S1x1.size a ≤ S3x2.size a)
      (hn : ∀ a, (![r, n] : Fin 2 → Nat) a + S1x1.size a ≤ S3x2.size a), m = n →
      ((cc0_scratch2.slice (Rect.unit (s := S3x2) ![r, m] S1x1.size hm)).squeeze S_ squeezes_S1x1_S_).sem
        = ((cc0_scratch2.slice (Rect.unit (s := S3x2) ![r, n] S1x1.size hn)).squeeze S_ squeezes_S1x1_S_).sem := by
    rintro m n hm hn rfl; rfl
  exact key _ _ _ _ h

theorem heldR_congr {m n : Nat} (h : m % 2 = n % 2) (f : BufR (F := F) c) : heldR (F := F) c m f = heldR c n f := by
  have key : ∀ (m n : Nat) (hm : ∀ a, (![m, 0, 0] : Fin 3 → Nat) a + S1x4064x128.size a ≤ S2x4064x128.size a)
      (hn : ∀ a, (![n, 0, 0] : Fin 3 → Nat) a + S1x4064x128.size a ≤ S2x4064x128.size a), m = n →
      ((((ringM.slice (Rect.unit (s := S2x4064x128) ![m, 0, 0] S1x4064x128.size hm) (fun _ => rfl)).squeeze S4064x128 squeezes_S1x4064x128_S4064x128).view.set
        : Finset (Idx ((c : Thread nD τ).loc cc0_scratch1))))
        = ((ringM.slice (Rect.unit (s := S2x4064x128) ![n, 0, 0] S1x4064x128.size hn) (fun _ => rfl)).squeeze S4064x128 squeezes_S1x4064x128_S4064x128).view.set := by
    rintro m n hm hn rfl; rfl
  exact congrArg (fun S : Finset (Idx ((c : Thread nD τ).loc cc0_scratch1)) => ((c : Thread nD τ).loc cc0_scratch1 ↦[S]{fullShare} f : sProp 𝕄)) (key _ _ _ _ h)

/-- From the third point on, the first part of the body takes back the block written two points before and its slot. -/
theorem frees_late (ht : 2 ≤ t.val) (hk : t.val - 2 < 32) (fo : BufO (F := F) c) (fr : BufR (F := F) c) :
    Frees c t arg2 harg2 arg3 harg3 arg5 harg5 arg6 harg6 (flyOut c (t.val - 2) hk fo fr)
      iprop(idle c (cellB 1 t.val (by decide)) ∗ heldO c (t.val - 2) hk fo) fr := by
  intro W Q
  unfold part6 k0_part6
  have h1 := (cond1 t).mpr ht
  dsimp only
  simp only [dif_pos h1, dst_at (off2 t ht) hk, slot_at (off3 t ht), cell_at (off1 t ht) (by decide)]
  iintro ⟨HF, HO, Hk⟩
  sl_exec
  sl_step
  iapply Hk
  isplitr [HF HF_dst HF_src HO]
  · ipureintro; exact ⟨rfl, rfl⟩
  isplitl [HF_src]
  · rw [heldR_congr c (m := t.val) (n := t.val - 2) (by omega)]; iexact HF_src
  isplitl [HF HF_dst]
  · isplitl [HF]
    · rw [cellB_congr 1 (by decide) (m := t.val) (n := t.val - 2) (by omega)]; iexact HF
    iexact HF_dst
  iexists _; iexact HO

/-- At the first two points there is nothing to take back. -/
theorem frees_early (ht : ¬ 2 ≤ t.val) (fr : BufR (F := F) c) :
    Frees c t arg2 harg2 arg3 harg3 arg5 harg5 arg6 harg6 (heldR c t.val fr) iprop(emp) fr := by
  intro W Q
  unfold part6 k0_part6
  have h1 := fun h => ht ((cond1 t).mp h)
  dsimp only
  simp only [dif_neg h1]
  iintro ⟨HR, HO, Hk⟩
  sl_step
  iapply Hk
  isplitr [HR HO]
  · ipureintro; exact ⟨rfl, rfl⟩
  isplitl [HR]; · iexact HR
  isplitr; · iempintro
  iexists _; iexact HO

/-- Whether a point works on the second half of the columns. -/
abbrev second (t : Fin cfg0.N) : BitVec 1 := Scalar.cmpi .eq (BitVec.ofNat 32 (grid0.coords t 0).val) 1#32

/-- The whole body at a point. -/
abbrev body := cc0_proj_vg_ret (F := F) (grid0.coords t) arg2 harg2 arg3 harg3 srcM (Memref.isWhole_whole _) arg5 harg5 arg6 harg6 dstM (Memref.isWhole_whole _) wM (Memref.isWhole_whole _) ringM (Memref.isWhole_whole _) cc0_scratch2

theorem fresh1 : ∀ t : Fin cfg0.N, Scalar.cmpi .ne (Scalar.extui (Scalar.cmpi .eq (BitVec.ofNat 32 (grid0.coords t 1).val) 0#32) : BitVec 32) 0#32 = 1#1 ↔ t.val % 16 = 0 := by decide +kernel

variable (x : Vec F S1024x2048 .bf16) (w : Vec F S2048x1024 .f32) (z : Vec F S32x32x128 .f32)

/-- The input blocks, as the body is handed them. -/
abbrev Ins : sProp 𝕄 :=
  iprop((arg2.view.loc (c : Thread nD τ) ↦[arg2.view.set]{fullShare} arg2.view.rep (Val := Elt F) x)
    ∗ (arg3.view.loc (c : Thread nD τ) ↦[arg3.view.set]{fullShare} arg3.view.rep (Val := Elt F) w)
    ∗ (arg5.view.loc (c : Thread nD τ) ↦[arg5.view.set]{fullShare} arg5.view.rep (Val := Elt F) z))

/-- The weights, rounded. -/
abbrev narrow (w : Vec F S2048x1024 .f32) : Vec F S2048x1024 .bf16 := truncf .bf16 w bitsLt_bf16_f32

theorem read_fill {sp : Space} {s : Shape} {e : EltTy} (v : View sig .tc sp s e) (f) (off : Fin s.rank → Nat) (inb) (Z : s.Idx → Elt F e) (h0 : ∀ a, off a = 0) :
    v.read (Elt F) (v.writes (Elt F) f [⟨Rect.unit off s.size inb, Z⟩]) = Z := by
  obtain rfl : off = fun _ => 0 := funext h0
  exact View.read_writes_whole v f Z

/-- A load of part of the weights kept after a store filled them reads the stored array there. -/
theorem readCov_whole (v : View sig .tc .vmem S2048x1024 .bf16) (inb) (Z : Vec F S2048x1024 .bf16) (r : Rect S2048x1024) :
    v.readCov [⟨Rect.unit ![0, 0] (no_index S2048x1024.size) inb, Z⟩] r.toLoadRect = View.ld Z r :=
  View.readCov_fill v inb Z [] r (fun a => by fin_cases a <;> rfl)

theorem off12' (ht : t.val = 31) : k0_off12 (grid0.coords t) = ![0, t.val % 2] := by rw [off12 t ht, ht]
theorem off13' (ht : t.val = 31) : k0_off13 (grid0.coords t) = ![t.val % 2, 0, 0] := by rw [off13 t ht, ht]
theorem off14' (ht : t.val = 31) : k0_off14 (grid0.coords t) = ![t.val, 32, 0] := by rw [off14 t ht, ht]
theorem off15' (ht : t.val = 31) : k0_off15 (grid0.coords t) = ![1, t.val % 2] := by rw [off15 t ht, ht]
theorem off16' (ht : t.val = 31) : k0_off16 (grid0.coords t) = ![t.val, 0, 0] := by rw [off16 t ht, ht]
theorem off17' (ht : t.val = 31) : k0_off17 (grid0.coords t) = ![1, (t.val - 1) % 2] := by rw [off17 t ht, ht]
theorem off18' (ht : t.val = 31) : k0_off18 (grid0.coords t) = ![t.val - 1, 0, 0] := by rw [off18 t ht, ht]
theorem off19' (ht : t.val = 31) : k0_off19 (grid0.coords t) = ![(t.val - 1) % 2, 0, 0] := by rw [off19 t ht, ht]

set_option maxHeartbeats 400000 in
/-- A point after the first and before the last, with the weights of the point before it. -/
theorem mid_keep (h1 : 1 ≤ t.val) (h31 : t.val ≠ 31) (h16 : t.val % 16 ≠ 0) (hk : t.val < 32) (hk1 : t.val - 1 < 32)
    (P Z : sProp 𝕄) (fr fr1 : BufR (F := F) c) (h6 : Frees c t arg2 harg2 arg3 harg3 arg5 harg5 arg6 harg6 P Z fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ (∃ W', owes c.tc 0 W') ∗ Ins c arg2 arg3 arg5 x w z ∗ owns c.tc arg6 fullShare (gateOut (second t) x (wM.view.read (Elt F) y))
            ∗ (∃ y', ⌜wM.view.read (Elt F) y' = wM.view.read (Elt F) y⌝ ∗ heldW c y')) -∗ K ⟨⟩))
      ⊢ wp frame (wpE (defs₀ (F := F)) Variants.none c none) Set.univ (body t arg2 harg2 arg3 harg3 arg5 harg5 arg6 harg6) K := by
  unfold owns body cc0_proj_vg_ret
  iintro ⟨HP, HF, HA, HsI, HD, HsO, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a0, a1, v1, v11, v33, v34, v35, c0⟩ := r
  dsimp only at hr ⊢
  obtain ⟨rfl, rfl⟩ := hr
  unfold k0_part7
  have c2 := (cond2 t).mpr h1
  have c3 := fun h => h31 ((cond3 t).mp h)
  have c4 := fun h => h16 ((fresh1 t).mp h)
  dsimp only
  simp only [dif_pos c2, dif_neg c3, dif_neg c4, src_at (off6 t) hk, slot_at (off5 t), cell_at (off4 t) (by decide),
    k0_part1, cell_at (off7 t h1) (by decide), slot_at (off8 t h1), src_at (off9 t h1) hk1, cell_at (off10 t h1) (by decide), dst_at (off11 t h1) hk1]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HF_src]; · iexact HF_src
  isplitl [HF]; · iexact HF
  isplitl [HsO]
  · iexists _; isplitr [HsO]
    swap; · iexact HsO
    ipureintro
    sl_unfold_words
    first | unfold Loaded | unfold Wrote
    rw [View.read_writes_whole]
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ rfl rfl rfl rfl _ _ _ _
  iexists _; isplitr [HY]
  swap; · iexact HY
  ipureintro
  rfl

set_option maxHeartbeats 400000 in
/-- A point after the first and before the last that takes over new weights. -/
theorem mid_fresh (h1 : 1 ≤ t.val) (h31 : t.val ≠ 31) (h16 : t.val % 16 = 0) (hk : t.val < 32) (hk1 : t.val - 1 < 32)
    (P Z : sProp 𝕄) (fr fr1 : BufR (F := F) c) (h6 : Frees c t arg2 harg2 arg3 harg3 arg5 harg5 arg6 harg6 P Z fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ (∃ W', owes c.tc 0 W') ∗ Ins c arg2 arg3 arg5 x w z ∗ owns c.tc arg6 fullShare (gateOut (second t) x (narrow w))
            ∗ (∃ y', ⌜wM.view.read (Elt F) y' = narrow w⌝ ∗ heldW c y')) -∗ K ⟨⟩))
      ⊢ wp frame (wpE (defs₀ (F := F)) Variants.none c none) Set.univ (body t arg2 harg2 arg3 harg3 arg5 harg5 arg6 harg6) K := by
  unfold owns body cc0_proj_vg_ret
  iintro ⟨HP, HF, HA, HsI, HD, HsO, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a0, a1, v1, v11, v33, v34, v35, c0⟩ := r
  dsimp only at hr ⊢
  obtain ⟨rfl, rfl⟩ := hr
  unfold k0_part7
  have c2 := (cond2 t).mpr h1
  have c3 := fun h => h31 ((cond3 t).mp h)
  have c4 := (fresh1 t).mpr h16
  dsimp only
  simp only [dif_pos c2, dif_neg c3, dif_pos c4, src_at (off6 t) hk, slot_at (off5 t), cell_at (off4 t) (by decide),
    k0_part1, cell_at (off7 t h1) (by decide), slot_at (off8 t h1), src_at (off9 t h1) hk1, cell_at (off10 t h1) (by decide), dst_at (off11 t h1) hk1]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HF_src]; · iexact HF_src
  isplitl [HF]; · iexact HF
  isplitl [HsO]
  · iexists _; isplitr [HsO]
    swap; · iexact HsO
    ipureintro
    sl_unfold_words
    first | unfold Loaded | unfold Wrote
    rw [View.read_writes_whole]
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ rfl rfl rfl rfl _ _ _ _
  iexists _; isplitr [HY]
  swap; · iexact HY
  ipureintro
  sl_unfold_words
  rw [read_fill (h0 := fun a => by fin_cases a <;> rfl)]
  simp only [View.readAt_eq_ld, View.read_rep, shapeCast_self, View.ld_unit_zero (S := S2048x1024) hz]

set_option maxHeartbeats 400000 in
/-- The first point. -/
theorem first (h1 : ¬ 1 ≤ t.val) (h31 : t.val ≠ 31) (h16 : t.val % 16 = 0) (hk : t.val < 32)
    (P Z : sProp 𝕄) (fr : BufR (F := F) c) (h6 : Frees c t arg2 harg2 arg3 harg3 arg5 harg5 arg6 harg6 P Z fr)
    (fa : BufA (F := F) c) (y : BufW (F := F) c) (W : Waits sig Unit) (K : PUnit → sProp 𝕄) :
    iprop(P ∗ heldA c t.val hk fa ∗ idle c (cellB 0 t.val (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ (∃ W', owes c.tc 0 W') ∗ Ins c arg2 arg3 arg5 x w z ∗ owns c.tc arg6 fullShare (gateOut (second t) x (narrow w))
            ∗ (∃ y', ⌜wM.view.read (Elt F) y' = narrow w⌝ ∗ heldW c y')) -∗ K ⟨⟩))
      ⊢ wp frame (wpE (defs₀ (F := F)) Variants.none c none) Set.univ (body t arg2 harg2 arg3 harg3 arg5 harg5 arg6 harg6) K := by
  unfold owns body cc0_proj_vg_ret
  iintro ⟨HP, HA, HsI, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a0, a1, v1, v11, v33, v34, v35, c0⟩ := r
  dsimp only at hr ⊢
  obtain ⟨rfl, rfl⟩ := hr
  unfold k0_part7
  have c2 := fun h => h1 ((cond2 t).mp h)
  have c3 := fun h => h31 ((cond3 t).mp h)
  have c4 := (fresh1 t).mpr h16
  dsimp only
  simp only [dif_neg c2, dif_neg c3, dif_pos c4, src_at (off6 t) hk, slot_at (off5 t), cell_at (off4 t) (by decide)]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ rfl rfl rfl rfl _ _ _ _
  iexists _; isplitr [HY]
  swap; · iexact HY
  ipureintro
  sl_unfold_words
  rw [read_fill (h0 := fun a => by fin_cases a <;> rfl)]
  simp only [View.readAt_eq_ld, View.read_rep, shapeCast_self, View.ld_unit_zero (S := S2048x1024) hz]

set_option maxHeartbeats 400000 in
/-- The last point. -/
theorem last (h1 : 1 ≤ t.val) (h31 : t.val = 31) (h16 : t.val % 16 ≠ 0) (hk : t.val < 32) (hk1 : t.val - 1 < 32)
    (P Z : sProp 𝕄) (fr fr1 : BufR (F := F) c) (h6 : Frees c t arg2 harg2 arg3 harg3 arg5 harg5 arg6 harg6 P iprop(idle c (cellB 1 t.val (by decide)) ∗ Z) fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ heldO c t.val hk g ∗ heldT c g ∗ idle c tailC
        ∗ owes c.tc 0 W ∗ Ins c arg2 arg3 arg5 x w z ∗ (∃ d, owns c.tc arg6 fullShare d) ∗ heldW c y
        ∗ (iprop(Z ∗ (∃ fr' g', ⌜Loaded c t.val hk fa fr'⌝ ∗ ⌜Wrote c t.val hk fr' g'⌝ ∗ heldR c t.val fr' ∗ heldO c t.val hk g')
            ∗ heldR c (t.val - 1) fr1 ∗ (∃ g', ⌜Wrote c (t.val - 1) hk1 fr1 g'⌝ ∗ heldO c (t.val - 1) hk1 g')
            ∗ (∃ g', ⌜tailB.view.read (Elt F) g' = z⌝ ∗ heldT c g') ∗ heldA c t.val hk fa ∗ heldA c (t.val - 1) hk1 fa
            ∗ idle c (cellB 0 t.val (by decide)) ∗ idle c (cellB 0 (t.val - 1) (by decide)) ∗ idle c (cellB 1 t.val (by decide)) ∗ idle c (cellB 1 (t.val - 1) (by decide)) ∗ idle c tailC
            ∗ (∃ W', owes c.tc 0 W') ∗ Ins c arg2 arg3 arg5 x w z ∗ owns c.tc arg6 fullShare (gateOut (second t) x (wM.view.read (Elt F) y))
            ∗ (∃ y', ⌜wM.view.read (Elt F) y' = wM.view.read (Elt F) y⌝ ∗ heldW c y')) -∗ K ⟨⟩))
      ⊢ wp frame (wpE (defs₀ (F := F)) Variants.none c none) Set.univ (body t arg2 harg2 arg3 harg3 arg5 harg5 arg6 harg6) K := by
  unfold owns body cc0_proj_vg_ret
  iintro ⟨HP, HF, HA, HsI, HD, HsO, HD1, HT, HsT, HO, ⟨H2, H3, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, ⟨HsO1, HZ⟩, ⟨%W', HO⟩⟩
  obtain ⟨a0, a1, v1, v11, v33, v34, v35, c0⟩ := r
  dsimp only at hr ⊢
  obtain ⟨rfl, rfl⟩ := hr
  unfold k0_part7
  have c2 := (cond2 t).mpr h1
  have c3 := (cond3 t).mpr h31
  have c4 := fun h => h16 ((fresh1 t).mp h)
  dsimp only
  simp only [dif_pos c2, dif_pos c3, dif_neg c4, src_at (off6 t) hk, slot_at (off5 t), cell_at (off4 t) (by decide),
    k0_part1, cell_at (off7 t h1) (by decide), slot_at (off8 t h1), src_at (off9 t h1) hk1, cell_at (off10 t h1) (by decide), dst_at (off11 t h1) hk1,
    k0_part2, k0_part3, k0_part4, k0_part5, cell_at (off12' t h31) (by decide), slot_at (off13' t h31), src_at (off14' t h31) hk, cell_at (off15' t h31) (by decide), dst_at (off16' t h31) hk, cell_at (off17' t h31) (by decide), dst_at (off18' t h31) hk1, slot_at (off19' t h31)]
  sl_exec!
  sl_step
  iapply Hk
  isplitl [HZ]; · iexact HZ
  isplitl [HR HD1]
  · iexists _, _
    isplitr [HR HD1]
    swap
    · isplitr [HR HD1]
      swap
      · isplitl [HR]; · iexact HR
        iexact HD1
      ipureintro
      sl_unfold_words
      unfold Wrote
      rw [View.read_writes_whole, View.read_writes_whole]
    ipureintro
    sl_unfold_words
    first | unfold Loaded | unfold Wrote
    rw [View.read_writes_whole]
  isplitl [HF_dst]; · iexact HF_dst
  isplitl [HD]
  · iexists _; isplitr [HD]
    swap; · iexact HD
    ipureintro
    sl_unfold_words
    first | unfold Loaded | unfold Wrote
    rw [View.read_writes_whole]
  isplitl [HT]
  · iexists _; isplitr [HT]
    swap; · iexact HT
    ipureintro
    sl_unfold_words
    rw [View.read_writes_whole]
    exact View.read_rep _ _
  isplitl [HA]; · iexact HA
  isplitl [HF_src]; · iexact HF_src
  isplitl [HsI]; · iexact HsI
  isplitl [HF]; · iexact HF
  isplitl [HsO1]; · iexact HsO1
  isplitl [HsO]; · iexact HsO
  isplitl [HsT]; · iexact HsT
  isplitl [HO]; · iexists _; iexact HO
  isplitl [H2 H3 H5]
  · isplitl [H2]; · iexact H2
    isplitl [H3]; · iexact H3
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ rfl rfl rfl rfl _ _ _ _
  iexists _; isplitr [HY]
  swap; · iexact HY
  ipureintro
  rfl

end Cert.ValsIdeal.Shift

end
-- ==== Proof.ValsSets.lean ====
/-
  Which rows of the cache and of the moved cache each copy of the values projection takes and leaves, and what the moved
  cache holds when they are done.
-/
module

public import proofs.«01_k».proof.Proof.ValsSteps

@[expose] public section

set_option maxRecDepth 16384

noncomputable section

namespace Cert.ValsIdeal.Shift

open Cert.ValsIdeal Cert.ValsIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in. -/
local notation "𝕄" => MT nD τ sig Unit (Elt F) ℕ (Pipeline.UD sig nD τ) ℕ

/-- The block of the cache a place lies in, and `32` for the rows no copy takes. -/
def sn (i : S32x4096x128.Idx) : ℕ := if (i 1).val < 32 then 32 else (i 0).val
/-- The block of the moved cache a place lies in, and `32` for its tail. -/
def bn (i : S32x4096x128.Idx) : ℕ := if (i 1).val < 4064 then (i 0).val else 32

theorem rows_mem {n0 n1 : ℕ} (o : Fin 3 → ℕ) (S S' : Fin 3 → ℕ) (p) (i : (⟨3, S⟩ : Shape).Idx) (h : S' = ![n0, n1, 128]) :
    i ∈ (Rect.unit (s := ⟨3, S⟩) o S' p).set ↔ (o 0 ≤ (i 0).val ∧ (i 0).val < o 0 + n0) ∧ (o 1 ≤ (i 1).val ∧ (i 1).val < o 1 + n1) ∧ (o 2 ≤ (i 2).val ∧ (i 2).val < o 2 + 128) := by
  subst h
  refine ((Rect.unit (s := ⟨3, S⟩) o ![n0, n1, 128] p).mem_set).trans ?_
  have key : ∀ x off n : ℕ, (∃ j < n, x = off + 1 * j) ↔ off ≤ x ∧ x < off + n := fun x off n =>
    ⟨fun ⟨j, h, e⟩ => by omega, fun h => ⟨x - off, by omega, by omega⟩⟩
  constructor
  · intro h
    exact ⟨(key _ _ _).mp (h 0), (key _ _ _).mp (h 1), (key _ _ _).mp (h 2)⟩
  · rintro ⟨h0, h1, h2⟩ a
    match a with
    | ⟨0, _⟩ => exact (key _ _ _).mpr h0
    | ⟨1, _⟩ => exact (key _ _ _).mpr h1
    | ⟨2, _⟩ => exact (key _ _ _).mpr h2

theorem size_a : S1x4064x128.size = ![1, 4064, 128] := rfl

theorem mem_src (k : ℕ) (h : k < 32) (i : S32x4096x128.Idx) : i ∈ (srcB k h).view.set ↔ sn i = k := by
  rw [show (srcB k h).view.set = (Rect.unit (s := S32x4096x128) ![k, 32, 0] S1x4064x128.size (src_inb k h)).set from
    (View.set_reshape _ _).trans (View.set_slice_whole _ _), rows_mem _ _ _ _ i size_a]
  have h0 : (i 0).val < 32 := (i 0).isLt
  have h1 : (i 1).val < 4096 := (i 1).isLt
  have h2 : (i 2).val < 128 := (i 2).isLt
  show (k ≤ _ ∧ _ < k + 1) ∧ (32 ≤ _ ∧ _ < 32 + 4064) ∧ (0 ≤ _ ∧ _ < 0 + 128) ↔ _
  unfold sn
  split <;> omega

theorem mem_dst (k : ℕ) (h : k < 32) (i : S32x4096x128.Idx) : i ∈ (dstB k h).view.set ↔ bn i = k := by
  rw [show (dstB k h).view.set = (Rect.unit (s := S32x4096x128) ![k, 0, 0] S1x4064x128.size (dst_inb k h)).set from
    (View.set_reshape _ _).trans (View.set_slice_whole _ _), rows_mem _ _ _ _ i size_a]
  have h0 : (i 0).val < 32 := (i 0).isLt
  have h1 : (i 1).val < 4096 := (i 1).isLt
  have h2 : (i 2).val < 128 := (i 2).isLt
  show (k ≤ _ ∧ _ < k + 1) ∧ (0 ≤ _ ∧ _ < 0 + 4064) ∧ (0 ≤ _ ∧ _ < 0 + 128) ↔ _
  unfold bn
  split <;> omega

theorem mem_tail (i : S32x4096x128.Idx) : i ∈ tailB.view.set ↔ bn i = 32 := by
  rw [show tailB.view.set = (Rect.unit (s := S32x4096x128) ![0, 4064, 0] S32x32x128.size inb_S32x4096x128_S32x32x128_0_4064_0).set from
    View.set_slice_whole _ _, rows_mem _ _ _ _ i (show S32x32x128.size = ![32, 32, 128] from rfl)]
  have h0 : (i 0).val < 32 := (i 0).isLt
  have h1 : (i 1).val < 4096 := (i 1).isLt
  have h2 : (i 2).val < 128 := (i 2).isLt
  show (0 ≤ _ ∧ _ < 0 + 32) ∧ (4064 ≤ _ ∧ _ < 4064 + 32) ∧ (0 ≤ _ ∧ _ < 0 + 128) ↔ _
  unfold bn
  split <;> omega

theorem mem_slot (k : ℕ) (i : S2x4064x128.Idx) : i ∈ (slotB k).view.set ↔ (i 0).val = k % 2 := by
  rw [show (slotB k).view.set = (Rect.unit (s := S2x4064x128) ![k % 2, 0, 0] S1x4064x128.size (slot_inb k)).set from
    (View.set_reshape _ _).trans (View.set_slice_whole _ _), rows_mem _ _ _ _ i size_a]
  have h1 : (i 1).val < 4064 := (i 1).isLt
  have h2 : (i 2).val < 128 := (i 2).isLt
  show (k % 2 ≤ _ ∧ _ < k % 2 + 1) ∧ (0 ≤ _ ∧ _ < 0 + 4064) ∧ (0 ≤ _ ∧ _ < 0 + 128) ↔ _
  omega

theorem bn_le (i : S32x4096x128.Idx) : bn i ≤ 32 := by
  have h0 : (i 0).val < 32 := (i 0).isLt
  unfold bn; split <;> omega

/-! ## The cache and the moved cache in parts -/

variable (c : Dev nD)

/-- The places of a buffer this shape that meet a condition, held at given contents. -/
abbrev partA (p : S32x4096x128.Idx → Prop) [DecidablePred p] (f : BufA (F := F) c) : sProp 𝕄 :=
  ((c : Thread nD τ).loc main_v0) ↦[(Finset.univ.filter p : Finset S32x4096x128.Idx)]{fullShare} f
abbrev partO (p : S32x4096x128.Idx → Prop) [DecidablePred p] (f : BufO (F := F) c) : sProp 𝕄 :=
  ((c : Thread nD τ).loc main_v2_1) ↦[(Finset.univ.filter p : Finset S32x4096x128.Idx)]{fullShare} f

theorem eqA (k : ℕ) (h : k < 32) (f : BufA (F := F) c) : heldA c k h f = partA c (fun i => sn i = k) f :=
  congrArg (fun S : Finset S32x4096x128.Idx => (((c : Thread nD τ).loc main_v0) ↦[S]{fullShare} f : sProp 𝕄))
    (Finset.ext fun i => (mem_src k h i).trans (by simp))
theorem eqO (k : ℕ) (h : k < 32) (f : BufO (F := F) c) : heldO c k h f = partO c (fun i => bn i = k) f :=
  congrArg (fun S : Finset S32x4096x128.Idx => (((c : Thread nD τ).loc main_v2_1) ↦[S]{fullShare} f : sProp 𝕄))
    (Finset.ext fun i => (mem_dst k h i).trans (by simp))
theorem eqT (f : BufO (F := F) c) : heldT c f = partO c (fun i => bn i = 32) f :=
  congrArg (fun S : Finset S32x4096x128.Idx => (((c : Thread nD τ).loc main_v2_1) ↦[S]{fullShare} f : sProp 𝕄))
    (Finset.ext fun i => (mem_tail i).trans (by simp))
theorem allA (p : S32x4096x128.Idx → Prop) [DecidablePred p] (hp : ∀ i, p i) (f : BufA (F := F) c) :
    (((c : Thread nD τ).loc main_v0) ↦{fullShare} f : sProp 𝕄) = partA c p f :=
  congrArg (fun S : Finset S32x4096x128.Idx => (((c : Thread nD τ).loc main_v0) ↦[S]{fullShare} f : sProp 𝕄))
    (Finset.ext fun i => by simp [hp i])
theorem allO (p : S32x4096x128.Idx → Prop) [DecidablePred p] (hp : ∀ i, p i) (f : BufO (F := F) c) :
    (((c : Thread nD τ).loc main_v2_1) ↦{fullShare} f : sProp 𝕄) = partO c p f :=
  congrArg (fun S : Finset S32x4096x128.Idx => (((c : Thread nD τ).loc main_v2_1) ↦[S]{fullShare} f : sProp 𝕄))
    (Finset.ext fun i => by simp [hp i])

/-- A part is two parts that make it up. -/
theorem cutA (p q r : S32x4096x128.Idx → Prop) [DecidablePred p] [DecidablePred q] [DecidablePred r] (f : BufA (F := F) c)
    (h : ∀ i, p i ↔ q i ∨ r i) (hd : ∀ i, q i → ¬ r i) : partA c p f ⊣⊢ iprop(partA c q f ∗ partA c r f) := by
  have e : (Finset.univ.filter p : Finset S32x4096x128.Idx) = Finset.univ.filter q ∪ Finset.univ.filter r :=
    Finset.ext fun i => by simp [h i]
  unfold partA; rw [e]
  exact pointsTo_union (ℓ := (c : Thread nD τ).loc main_v0) (Finset.disjoint_left.mpr fun i a b => hd i (by simpa using a) (by simpa using b))
theorem cutO (p q r : S32x4096x128.Idx → Prop) [DecidablePred p] [DecidablePred q] [DecidablePred r] (f : BufO (F := F) c)
    (h : ∀ i, p i ↔ q i ∨ r i) (hd : ∀ i, q i → ¬ r i) : partO c p f ⊣⊢ iprop(partO c q f ∗ partO c r f) := by
  have e : (Finset.univ.filter p : Finset S32x4096x128.Idx) = Finset.univ.filter q ∪ Finset.univ.filter r :=
    Finset.ext fun i => by simp [h i]
  unfold partO; rw [e]
  exact pointsTo_union (ℓ := (c : Thread nD τ).loc main_v2_1) (Finset.disjoint_left.mpr fun i a b => hd i (by simpa using a) (by simpa using b))

/-! ## The ring in slots -/

theorem ring_split (f : BufR (F := F) c) : (((c : Thread nD τ).loc cc0_scratch1) ↦{fullShare} f : sProp 𝕄) ⊢ iprop(heldR c 0 f ∗ heldR c 1 f) := by
  have e : (Finset.univ : Finset S2x4064x128.Idx) = (slotB 0).view.set ∪ (slotB 1).view.set := Finset.ext fun i => by
    have h0 : (i 0).val < 2 := (i 0).isLt
    simp only [Finset.mem_univ, true_iff]
    refine Finset.mem_union.mpr ?_
    rw [show (i ∈ (slotB 0).view.set ↔ _) from mem_slot 0 i, show (i ∈ (slotB 1).view.set ↔ _) from mem_slot 1 i]
    omega
  refine (Entails.of_eq (congrArg (fun S : Finset S2x4064x128.Idx => (((c : Thread nD τ).loc cc0_scratch1) ↦[S]{fullShare} f : sProp 𝕄)) e)).trans ?_
  exact (pointsTo_union (ℓ := (c : Thread nD τ).loc cc0_scratch1) (Finset.disjoint_left.mpr fun i a b => by
    have a' := (mem_slot 0 i).mp a; have b' := (mem_slot 1 i).mp b; omega)).1
theorem ring_join (f g : BufR (F := F) c) : iprop(heldR c 0 f ∗ heldR c 1 g) ⊢ (iprop(∃ h, ((c : Thread nD τ).loc cc0_scratch1) ↦{fullShare} h) : sProp 𝕄) := by
  have e : (Finset.univ : Finset S2x4064x128.Idx) = (slotB 0).view.set ∪ (slotB 1).view.set := Finset.ext fun i => by
    have h0 : (i 0).val < 2 := (i 0).isLt
    simp only [Finset.mem_univ, true_iff]
    refine Finset.mem_union.mpr ?_
    rw [show (i ∈ (slotB 0).view.set ↔ _) from mem_slot 0 i, show (i ∈ (slotB 1).view.set ↔ _) from mem_slot 1 i]
    omega
  refine (pointsTo_join (ℓ := (c : Thread nD τ).loc cc0_scratch1) (f := f) (g := g) (I := (slotB 0).view.set) (J := (slotB 1).view.set) (Finset.disjoint_left.mpr fun i a b => by
    have a' := (mem_slot 0 i).mp a; have b' := (mem_slot 1 i).mp b; omega)).trans ?_
  refine Entails.trans (Entails.of_eq ?_) (exists_intro ((slotB 1).view.set.piecewise g f))
  exact (congrArg (fun S : Finset S2x4064x128.Idx => (((c : Thread nD τ).loc cc0_scratch1) ↦[S]{fullShare} ((slotB 1).view.set.piecewise g f) : sProp 𝕄)) e).symm

/-! ## The moved cache -/

/-- The moved cache: the cache `32` rows earlier, and the new rows at its tail. -/
def moved (fa : S32x4096x128.Idx → Elt F .f32) (z : S32x32x128.Idx → Elt F .f32) : S32x4096x128.Idx → Elt F .f32 := fun i =>
  if h : (i 1).val < 4064 then fa (ix3 (i 0) ⟨(i 1).val + 32, by omega⟩ (i 2))
  else z (ix3 (i 0) ⟨(i 1).val - 4064, by have : (i 1).val < 4096 := (i 1).isLt; omega⟩ (i 2))

theorem moved_lo (fa : S32x4096x128.Idx → Elt F .f32) (z : S32x32x128.Idx → Elt F .f32) (i i' : S32x4096x128.Idx) (hl : (i 1).val < 4064)
    (h0 : (i' 0).val = (i 0).val) (h1 : (i' 1).val = (i 1).val + 32) (h2 : (i' 2).val = (i 2).val) : moved fa z i = fa i' := by
  unfold moved
  rw [dif_pos hl]
  congr 1
  funext a
  apply Fin.ext
  match a with
  | ⟨0, _⟩ => exact h0.symm
  | ⟨1, _⟩ => exact h1.symm
  | ⟨2, _⟩ => exact h2.symm
theorem moved_hi (fa : S32x4096x128.Idx → Elt F .f32) (z : S32x32x128.Idx → Elt F .f32) (i : S32x4096x128.Idx) (j : S32x32x128.Idx)
    (h0 : (i 0).val = (j 0).val) (h1 : (i 1).val = 4064 + (j 1).val) (h2 : (i 2).val = (j 2).val) : moved fa z i = z j := by
  unfold moved
  rw [dif_neg (by omega)]
  congr 1
  funext a
  apply Fin.ext
  match a with
  | ⟨0, _⟩ => exact h0
  | ⟨1, _⟩ => show (i 1).val - 4064 = (j 1).val; omega
  | ⟨2, _⟩ => exact h2

theorem moved_dst (fa : BufA (F := F) c) (z : Vec F S32x32x128 .f32) (k : ℕ) (h : k < 32) :
    (dstB k h).view.read (Elt F) (moved fa z) = (srcB k h).view.read (Elt F) fa := by
  have key : ∀ j : S1x4064x128.Idx,
      moved (F := F) fa z ((Rect.unit (s := S32x4096x128) ![k, 0, 0] S1x4064x128.size (dst_inb k h)).emb j)
        = fa ((Rect.unit (s := S32x4096x128) ![k, 32, 0] S1x4064x128.size (src_inb k h)).emb j) := fun j => by
    have h1 : (j 1).val < 4064 := (j 1).isLt
    refine moved_lo _ _ _ _ (show 0 + 1 * (j 1).val < 4064 by omega) (show k + 1 * (j 0).val = k + 1 * (j 0).val from rfl) ?_ (show 0 + 1 * (j 2).val = 0 + 1 * (j 2).val from rfl)
    show 32 + 1 * (j 1).val = 0 + 1 * (j 1).val + 32; omega
  funext j
  exact key _

theorem moved_tail (fa : BufA (F := F) c) (z : Vec F S32x32x128 .f32) : tailB.view.read (Elt F) (moved fa z : BufO (F := F) c) = z := by
  funext j
  show moved (F := F) fa z ((Rect.unit (s := S32x4096x128) ![0, 4064, 0] S32x32x128.size inb_S32x4096x128_S32x32x128_0_4064_0).emb j) = z j
  refine moved_hi _ _ _ j ?_ ?_ ?_
  · show 0 + 1 * (j 0).val = (j 0).val; omega
  · show 4064 + 1 * (j 1).val = 4064 + (j 1).val; omega
  · show 0 + 1 * (j 2).val = (j 2).val; omega

/-- A block written from its slot is a block of the moved cache. -/
theorem done_eq (fa : BufA (F := F) c) (z : Vec F S32x32x128 .f32) (k : ℕ) (h : k < 32) (fr : BufR (F := F) c) (g : BufO (F := F) c)
    (hl : Loaded c k h fa fr) (hw : Wrote c k h fr g) : heldO c k h g = heldO c k h (moved fa z) := by
  unfold heldO
  rw [pointsTo_rep (c : Thread nD τ) (dstB k h) g, pointsTo_rep (c : Thread nD τ) (dstB k h) (moved fa z), hw, hl, moved_dst]
theorem tail_eq (fa : BufA (F := F) c) (z : Vec F S32x32x128 .f32) (g : BufO (F := F) c)
    (hw : tailB.view.read (Elt F) g = z) : heldT c g = heldT c (moved fa z) := by
  unfold heldT
  rw [pointsTo_rep (c : Thread nD τ) tailB g, pointsTo_rep (c : Thread nD τ) tailB (moved fa z), hw, moved_tail]

end Cert.ValsIdeal.Shift

end
-- ==== Proof.ValsInv.lean ====
/-
  What the values projection holds between its points, and that each point takes it to the next.
-/
module

public import proofs.«01_k».proof.Proof.ValsSets

@[expose] public section

set_option maxRecDepth 16384

noncomputable section

namespace Cert.ValsIdeal.Shift

open Cert.ValsIdeal Cert.ValsIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in. -/
local notation "𝕄" => MT nD τ sig Unit (Elt F) ℕ (Pipeline.UD sig nD τ) ℕ

variable (c : Dev nD) (fa : BufA (F := F) c) (V2 : BufO (F := F) c) (z : Vec F S32x32x128 .f32)

/-- Nothing in flight: the whole cache, the moved cache at `g`, both slots and every cell. -/
def Rest (g : BufO (F := F) c) : sProp 𝕄 :=
  iprop((((c : Thread nD τ).loc main_v0) ↦{fullShare} fa) ∗ (((c : Thread nD τ).loc main_v2_1) ↦{fullShare} g)
    ∗ (∃ f, heldR c 0 f) ∗ (∃ f, heldR c 1 f) ∗ idle c (cellB 0 0 (by decide)) ∗ idle c (cellB 0 1 (by decide)) ∗ idle c (cellB 1 0 (by decide)) ∗ idle c (cellB 1 1 (by decide)))

/-- The slot the next copy in takes, as point `n` leaves it: in the hands of a copy out, or free. -/
def Slot (n : ℕ) (h : n < 31) : sProp 𝕄 :=
  if 1 ≤ n then iprop(∃ fr, flyOut c (n - 1) (by omega) (moved fa z) fr) else iprop((∃ fr, heldR c (n + 1) fr) ∗ idle c (cellB 1 (n + 1) (by decide)))

/-- What point `n` leaves, other than the last: block `n` on its way in. -/
def Mid (n : ℕ) (h : n < 31) : sProp 𝕄 :=
  iprop((∃ fr, ⌜Loaded c n (by omega) fa fr⌝ ∗ flyIn c n (by omega) fr fa) ∗ partA c (fun i => sn i ≠ n) fa ∗ Slot c fa z n h
    ∗ idle c (cellB 0 (n + 1) (by decide)) ∗ idle c (cellB 1 n (by decide))
    ∗ partO c (fun i => bn i < n - 1) (moved fa z) ∗ partO c (fun i => n ≤ bn i) V2)

variable (t : Fin cfg0.N) (arg2 : Memref sig .tc .vmem S1024x2048 .bf16) (harg2 : arg2.IsWhole) (arg3 : Memref sig .tc .vmem S2048x1024 .f32) (harg3 : arg3.IsWhole)
  (arg5 : Memref sig .tc .vmem S32x32x128 .f32) (harg5 : arg5.IsWhole) (arg6 : Memref sig .tc .vmem S1024x1024 .bf16) (harg6 : arg6.IsWhole)

theorem flyOut_congr {m n : ℕ} (h : m = n) (hm : m < 32) (hn : n < 32) (fo : BufO (F := F) c) (fr : BufR (F := F) c) : flyOut c m hm fo fr = flyOut c n hn fo fr := by
  subst h; rfl
theorem partO_congr (p q : S32x4096x128.Idx → Prop) [DecidablePred p] [DecidablePred q] (h : ∀ i, p i ↔ q i) (f : BufO (F := F) c) : partO c p f = partO c q f :=
  congrArg (fun S : Finset S32x4096x128.Idx => (((c : Thread nD τ).loc main_v2_1) ↦[S]{fullShare} f : sProp 𝕄)) (Finset.ext fun i => by simp [h i])

/-- A first part that leaves more alone leaves it. -/
theorem frees_frame (P Z R : sProp 𝕄) (fr : BufR (F := F) c) (h : Frees c t arg2 harg2 arg3 harg3 arg5 harg5 arg6 harg6 P Z fr) :
    Frees c t arg2 harg2 arg3 harg3 arg5 harg5 arg6 harg6 iprop(P ∗ R) iprop(R ∗ Z) fr := by
  intro W Q
  iintro ⟨⟨HP, HR⟩, HO, Hk⟩
  iapply h W Q
  isplitl [HP]; · iexact HP
  isplitl [HO]; · iexact HO
  iintro %r ⟨%hr, H1, H2, H3⟩
  iapply Hk
  isplitr [H1 H2 H3 HR]; · ipureintro; exact hr
  isplitl [H1]; · iexact H1
  isplitl [H2 HR]
  · isplitl [HR]; · iexact HR
    iexact H2
  iexact H3

/-- At every point after the first the slot is, or is made, free, and the block copied out of it is done. -/
theorem slot_frees (h1 : 1 ≤ t.val) (h : t.val - 1 < 31) (R G : sProp 𝕄)
    (hG : ∀ (P Z : sProp 𝕄) (fr : BufR (F := F) c), Frees c t arg2 harg2 arg3 harg3 arg5 harg5 arg6 harg6 P iprop(idle c (cellB 1 t.val (by decide)) ∗ Z) fr →
      iprop(P ∗ (Z -∗ partO c (fun i => bn i < t.val - 1) (moved fa z)) ∗ R) ⊢ G) :
    iprop(Slot c fa z (t.val - 1) h ∗ partO c (fun i => bn i < t.val - 1 - 1) (moved fa z) ∗ R) ⊢ G := by
  by_cases h2 : 2 ≤ t.val
  · unfold Slot
    rw [if_pos (by omega)]
    iintro ⟨⟨%fr, HF⟩, HD, HR⟩
    iapply (hG _ _ fr (frees_late c t arg2 harg2 arg3 harg3 arg5 harg5 arg6 harg6 h2 (by omega) (moved fa z) fr))
    isplitl [HF]; · rw [flyOut_congr c (m := t.val - 2) (n := t.val - 1 - 1) (by omega) (by omega) (by omega)]; iexact HF
    isplitr [HR]
    · iintro HZ
      iapply (cutO c (fun i => bn i < t.val - 1) (fun i => bn i = t.val - 2) (fun i => bn i < t.val - 1 - 1) (moved fa z) (fun i => by omega) (fun i a b => by omega)).2
      isplitl [HZ]; · rw [← eqO c (t.val - 2) (by omega)]; iexact HZ
      iexact HD
    iexact HR
  · have e : t.val - 1 = 0 := by omega
    unfold Slot
    rw [if_neg (by omega)]
    iintro ⟨⟨⟨%fr, HF⟩, HI⟩, HD, HR⟩
    iapply (hG _ _ fr (frees_frame c t arg2 harg2 arg3 harg3 arg5 harg5 arg6 harg6 _ _ _ fr (frees_early c t arg2 harg2 arg3 harg3 arg5 harg5 arg6 harg6 h2 fr)))
    isplitl [HF HI]
    · isplitl [HF]; · rw [heldR_congr c (m := t.val) (n := t.val - 1 + 1) (by omega)]; iexact HF
      rw [cellB_congr 1 (by decide) (m := t.val) (n := t.val - 1 + 1) (by omega)]; iexact HI
    isplitr [HR]
    · iintro -
      rw [partO_congr c (fun i => bn i < t.val - 1) (fun i => bn i < t.val - 1 - 1) (fun i => by omega)]
      iexact HD
    iexact HR

variable (x : Vec F S1024x2048 .bf16) (w : Vec F S2048x1024 .f32)

/-- What a point gives back, besides its copies. -/
abbrev Back : sProp 𝕄 :=
  iprop((∃ W', owes c.tc 0 W') ∗ Ins c arg2 arg3 arg5 x w z ∗ owns c.tc arg6 fullShare (gateOut (second t) x (narrow w))
    ∗ (∃ y', ⌜wM.view.read (Elt F) y' = narrow w⌝ ∗ heldW c y'))

/-- A point after the first and before the last, its weights new or kept. -/
theorem mid (h1 : 1 ≤ t.val) (h31 : t.val ≠ 31) (hk : t.val < 32) (hk1 : t.val - 1 < 32)
    (P Z : sProp 𝕄) (fr fr1 : BufR (F := F) c) (h6 : Frees c t arg2 harg2 arg3 harg3 arg5 harg5 arg6 harg6 P Z fr)
    (g : BufO (F := F) c) (y : BufW (F := F) c) (hy : t.val % 16 ≠ 0 → wM.view.read (Elt F) y = narrow w) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg5 x w z ∗ (∃ d, owns c.tc arg6 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ Back c z t arg2 arg3 arg5 arg6 x w) -∗ K ⟨⟩))
      ⊢ wp frame (wpE (defs₀ (F := F)) Variants.none c none) Set.univ (body t arg2 harg2 arg3 harg3 arg5 harg5 arg6 harg6) K := by
  by_cases h16 : t.val % 16 = 0
  · exact mid_fresh c t arg2 harg2 arg3 harg3 arg5 harg5 arg6 harg6 x w z h1 h31 h16 hk hk1 P Z fr fr1 h6 fa g y W K
  · have := mid_keep c t arg2 harg2 arg3 harg3 arg5 harg5 arg6 harg6 x w z h1 h31 h16 hk hk1 P Z fr fr1 h6 fa g y W K
    rw [hy h16] at this
    exact this

/-- The first point. -/
theorem step_first (h0 : t.val = 0) (ht : t.val < 31) (y : BufW (F := F) c) (W : Waits sig Unit) (K : PUnit → sProp 𝕄) :
    iprop(Rest c fa V2 ∗ owes c.tc 0 W ∗ Ins c arg2 arg3 arg5 x w z ∗ (∃ d, owns c.tc arg6 fullShare d) ∗ heldW c y
        ∗ (iprop(Mid c fa V2 z t.val ht ∗ Back c z t arg2 arg3 arg5 arg6 x w) -∗ K ⟨⟩))
      ⊢ wp frame (wpE (defs₀ (F := F)) Variants.none c none) Set.univ (body t arg2 harg2 arg3 harg3 arg5 harg5 arg6 harg6) K := by
  unfold Rest
  rw [allA c (fun _ => True) (fun _ => trivial), allO c (fun i => t.val ≤ bn i) (fun i => by omega)]
  iintro ⟨⟨HA, HD, ⟨%f0, HR0⟩, HR1, HI0, HI1, HO0, HO1⟩, HW, Hin, Hout, HY, Hk⟩
  ihave HA2 := (cutA c (fun _ => True) (fun i => sn i = t.val) (fun i => sn i ≠ t.val) fa (fun i => by simp [em]) (fun i a b => b a)).1 $$ HA
  icases HA2 with ⟨HA, HA'⟩
  iapply (first c t arg2 harg2 arg3 harg3 arg5 harg5 arg6 harg6 x w z (by omega) (by omega) (by omega) (by omega) _ _ f0
    (frees_early c t arg2 harg2 arg3 harg3 arg5 harg5 arg6 harg6 (by omega) f0) fa y W K)
  isplitl [HR0]; · rw [heldR_congr c (m := t.val) (n := 0) (by omega)]; iexact HR0
  isplitl [HA]; · rw [eqA c t.val (by omega)]; iexact HA
  isplitl [HI0]; · rw [cellB_congr 0 (by decide) (m := t.val) (n := 0) (by omega)]; iexact HI0
  isplitl [HW]; · iexact HW
  isplitl [Hin]; · iexact Hin
  isplitl [Hout]; · iexact Hout
  isplitl [HY]; · iexact HY
  iintro ⟨-, HF, HB⟩
  iapply Hk
  isplitr [HB]
  swap; · iexact HB
  unfold Mid Slot
  rw [if_neg (show ¬ 1 ≤ t.val by omega)]
  isplitl [HF]; · iexact HF
  isplitl [HA']; · iexact HA'
  isplitl [HR1 HO1]
  · isplitl [HR1]
    · icases HR1 with ⟨%f1, HR1⟩
      iexists f1; rw [heldR_congr c (m := t.val + 1) (n := 1) (by omega)]; iexact HR1
    rw [cellB_congr 1 (by decide) (m := t.val + 1) (n := 1) (by omega)]; iexact HO1
  isplitl [HI1]; · rw [cellB_congr 0 (by decide) (m := t.val + 1) (n := 1) (by omega)]; iexact HI1
  isplitl [HO0]; · rw [cellB_congr 1 (by decide) (m := t.val) (n := 0) (by omega)]; iexact HO0
  isplitr
  · have e : (Finset.univ.filter (fun i => bn i < t.val - 1) : Finset S32x4096x128.Idx) = ∅ := Finset.ext fun i => by simp; omega
    unfold partO; rw [e]
    iapply (Entails.of_eq (pointsTo_empty (ℓ := (c : Thread nD τ).loc main_v2_1)).symm)
    iempintro
  iexact HD

/-- A point between the first and the last. -/
theorem step_mid (h1 : 1 ≤ t.val) (ht : t.val < 31) (ht1 : t.val - 1 < 31) (y : BufW (F := F) c) (hy : t.val % 16 ≠ 0 → wM.view.read (Elt F) y = narrow w) (W : Waits sig Unit) (K : PUnit → sProp 𝕄) :
    iprop(Mid c fa V2 z (t.val - 1) ht1 ∗ owes c.tc 0 W ∗ Ins c arg2 arg3 arg5 x w z ∗ (∃ d, owns c.tc arg6 fullShare d) ∗ heldW c y
        ∗ (iprop(Mid c fa V2 z t.val ht ∗ Back c z t arg2 arg3 arg5 arg6 x w) -∗ K ⟨⟩))
      ⊢ wp frame (wpE (defs₀ (F := F)) Variants.none c none) Set.univ (body t arg2 harg2 arg3 harg3 arg5 harg5 arg6 harg6) K := by
  iintro ⟨HM, HR⟩
  unfold Mid
  icases HM with ⟨⟨%fr1, %hl, HF⟩, HA, HS, HI, HO, HD, HU⟩
  iapply (slot_frees c fa z t arg2 harg2 arg3 harg3 arg5 harg5 arg6 harg6 h1 ht1
    iprop(flyIn c (t.val - 1) (by omega) fr1 fa ∗ partA c (fun i => sn i ≠ t.val - 1) fa ∗ idle c (cellB 0 (t.val - 1 + 1) (by decide)) ∗ idle c (cellB 1 (t.val - 1) (by decide))
      ∗ partO c (fun i => t.val - 1 ≤ bn i) V2
      ∗ owes c.tc 0 W ∗ Ins c arg2 arg3 arg5 x w z ∗ (∃ d, owns c.tc arg6 fullShare d) ∗ heldW c y
        ∗ (iprop(Mid c fa V2 z t.val ht ∗ Back c z t arg2 arg3 arg5 arg6 x w) -∗ K ⟨⟩)) _ ?_)
  · intro P Z fr h6
    iintro ⟨HP, HZ, HF, HA, HI, HO, HU, HW, Hin, Hout, HY, Hk⟩
    ihave HA2 := (cutA c (fun i => sn i ≠ t.val - 1) (fun i => sn i = t.val) (fun i => sn i ≠ t.val - 1 ∧ sn i ≠ t.val) fa (fun i => by omega) (fun i a b => b.2 a)).1 $$ HA
    icases HA2 with ⟨HA, HA'⟩
    ihave HU2 := (cutO c (fun i => t.val - 1 ≤ bn i) (fun i => bn i = t.val - 1) (fun i => t.val ≤ bn i) V2 (fun i => by omega) (fun i a b => by omega)).1 $$ HU
    icases HU2 with ⟨HU, HU'⟩
    iapply (mid c fa z t arg2 harg2 arg3 harg3 arg5 harg5 arg6 harg6 x w h1 (by omega) (by omega) (by omega) P _ fr fr1 h6 V2 y hy W K)
    isplitl [HP]; · iexact HP
    isplitl [HF]; · iexact HF
    isplitl [HA]; · rw [eqA c t.val (by omega)]; iexact HA
    isplitl [HI]; · rw [cellB_congr 0 (by decide) (m := t.val) (n := t.val - 1 + 1) (by omega)]; iexact HI
    isplitl [HU]; · rw [eqO c (t.val - 1) (by omega)]; iexact HU
    isplitl [HO]; · iexact HO
    isplitl [HW]; · iexact HW
    isplitl [Hin]; · iexact Hin
    isplitl [Hout]; · iexact Hout
    isplitl [HY]; · iexact HY
    iintro ⟨⟨HO1, HZ'⟩, HF, HA, HI, ⟨%g', %hw, HG⟩, HB⟩
    iapply Hk
    isplitr [HB]
    swap; · iexact HB
    unfold Mid Slot
    rw [if_pos h1]
    isplitl [HF]; · iexact HF
    isplitl [HA HA']
    · iapply (cutA c (fun i => sn i ≠ t.val) (fun i => sn i = t.val - 1) (fun i => sn i ≠ t.val - 1 ∧ sn i ≠ t.val) fa (fun i => by omega) (fun i a b => b.1 a)).2
      isplitl [HA]; · rw [← eqA c (t.val - 1) (by omega)]; iexact HA
      iexact HA'
    isplitl [HG]
    · iexists fr1
      rw [← show flyOut c (t.val - 1) (by omega) g' fr1 = flyOut c (t.val - 1) (by omega) (moved fa z) fr1 from by
        unfold flyOut; rw [done_eq c fa z (t.val - 1) (by omega) fr1 g' hl hw]]
      iexact HG
    isplitl [HI]; · rw [cellB_congr 0 (by decide) (m := t.val + 1) (n := t.val - 1) (by omega)]; iexact HI
    isplitl [HO1]; · iexact HO1
    isplitl [HZ HZ']; · iapply HZ; iexact HZ'
    iexact HU'
  · isplitl [HS]; · iexact HS
    isplitl [HD]; · iexact HD
    isplitl [HF]; · iexact HF
    isplitl [HA]; · iexact HA
    isplitl [HI]; · iexact HI
    isplitl [HO]; · iexact HO
    isplitl [HU]; · iexact HU
    unfold Mid
    iexact HR

/-- The last point, which waits for every copy. -/
theorem step_last (ht : t.val = 31) (ht1 : t.val - 1 < 31) (y : BufW (F := F) c) (hy : wM.view.read (Elt F) y = narrow w) (W : Waits sig Unit) (K : PUnit → sProp 𝕄) :
    iprop(Mid c fa V2 z (t.val - 1) ht1 ∗ idle c tailC ∗ owes c.tc 0 W ∗ Ins c arg2 arg3 arg5 x w z ∗ (∃ d, owns c.tc arg6 fullShare d) ∗ heldW c y
        ∗ (iprop(Rest c fa (moved fa z) ∗ idle c tailC ∗ Back c z t arg2 arg3 arg5 arg6 x w) -∗ K ⟨⟩))
      ⊢ wp frame (wpE (defs₀ (F := F)) Variants.none c none) Set.univ (body t arg2 harg2 arg3 harg3 arg5 harg5 arg6 harg6) K := by
  iintro ⟨HM, HR⟩
  unfold Mid
  icases HM with ⟨⟨%fr1, %hl, HF⟩, HA, HS, HI, HO, HD, HU⟩
  iapply (slot_frees c fa z t arg2 harg2 arg3 harg3 arg5 harg5 arg6 harg6 (by omega) ht1
    iprop(flyIn c (t.val - 1) (by omega) fr1 fa ∗ partA c (fun i => sn i ≠ t.val - 1) fa ∗ idle c (cellB 0 (t.val - 1 + 1) (by decide)) ∗ idle c (cellB 1 (t.val - 1) (by decide))
      ∗ partO c (fun i => t.val - 1 ≤ bn i) V2 ∗ idle c tailC
      ∗ owes c.tc 0 W ∗ Ins c arg2 arg3 arg5 x w z ∗ (∃ d, owns c.tc arg6 fullShare d) ∗ heldW c y
        ∗ (iprop(Rest c fa (moved fa z) ∗ idle c tailC ∗ Back c z t arg2 arg3 arg5 arg6 x w) -∗ K ⟨⟩)) _ ?_)
  · intro P Z fr h6
    iintro ⟨HP, HZ, HF, HA, HI, HO, HU, HT, HW, Hin, Hout, HY, Hk⟩
    ihave HA2 := (cutA c (fun i => sn i ≠ t.val - 1) (fun i => sn i = t.val) (fun i => sn i ≠ t.val - 1 ∧ sn i ≠ t.val) fa (fun i => by omega) (fun i a b => b.2 a)).1 $$ HA
    icases HA2 with ⟨HA, HA'⟩
    ihave HU2 := (cutO c (fun i => t.val - 1 ≤ bn i) (fun i => bn i = t.val - 1) (fun i => t.val ≤ bn i) V2 (fun i => by omega) (fun i a b => by omega)).1 $$ HU
    icases HU2 with ⟨HU, HU'⟩
    ihave HU3 := (cutO c (fun i => t.val ≤ bn i) (fun i => bn i = t.val) (fun i => bn i = 32) V2 (fun i => by have := bn_le i; omega) (fun i a b => by omega)).1 $$ HU'
    icases HU3 with ⟨HU1, HU2⟩
    have hk := last c t arg2 harg2 arg3 harg3 arg5 harg5 arg6 harg6 x w z (by omega) ht (by omega) (by omega) (by omega) P Z fr fr1 h6 fa V2 y W K
    rw [hy] at hk
    iapply hk
    isplitl [HP]; · iexact HP
    isplitl [HF]; · iexact HF
    isplitl [HA]; · rw [eqA c t.val (by omega)]; iexact HA
    isplitl [HI]; · rw [cellB_congr 0 (by decide) (m := t.val) (n := t.val - 1 + 1) (by omega)]; iexact HI
    isplitl [HU]; · rw [eqO c (t.val - 1) (by omega)]; iexact HU
    isplitl [HO]; · iexact HO
    isplitl [HU1]; · rw [eqO c t.val (by omega)]; iexact HU1
    isplitl [HU2]; · rw [eqT c]; iexact HU2
    isplitl [HT]; · iexact HT
    isplitl [HW]; · iexact HW
    isplitl [Hin]; · iexact Hin
    isplitl [Hout]; · iexact Hout
    isplitl [HY]; · iexact HY
    iintro ⟨HZ', ⟨%f2, %g2, %hl2, %hw2, HR1, HG2⟩, HR0, ⟨%g1, %hw1, HG1⟩, ⟨%g3, %hw3, HG3⟩, HA, HA1, HI1, HI0, HO1, HO0, HT, HB⟩
    iapply Hk
    isplitr [HB HT]
    swap
    · isplitl [HT]; · iexact HT
      iexact HB
    ihave HG2 := (Entails.of_eq (done_eq c fa z t.val _ f2 g2 hl2 hw2)) $$ HG2
    ihave HG1 := (Entails.of_eq (done_eq c fa z (t.val - 1) _ fr1 g1 hl hw1)) $$ HG1
    ihave HG3 := (Entails.of_eq (tail_eq c fa z g3 hw3)) $$ HG3
    unfold Rest
    isplitl [HA HA1 HA']
    · rw [allA c (fun _ => True) (fun _ => trivial)]
      iapply (cutA c (fun _ => True) (fun i => sn i = t.val) (fun i => sn i ≠ t.val) fa (fun i => by simp [em]) (fun i a b => b a)).2
      isplitl [HA]; · rw [← eqA c t.val (by omega)]; iexact HA
      iapply (cutA c (fun i => sn i ≠ t.val) (fun i => sn i = t.val - 1) (fun i => sn i ≠ t.val - 1 ∧ sn i ≠ t.val) fa (fun i => by omega) (fun i a b => b.1 a)).2
      isplitl [HA1]; · rw [← eqA c (t.val - 1) (by omega)]; iexact HA1
      iexact HA'
    isplitl [HZ HZ' HG1 HG2 HG3]
    · rw [allO c (fun _ => True) (fun _ => trivial)]
      iapply (cutO c (fun _ => True) (fun i => bn i < t.val - 1) (fun i => t.val - 1 ≤ bn i) (moved fa z) (fun i => ⟨fun _ => by omega, fun _ => trivial⟩) (fun i a b => by omega)).2
      isplitl [HZ HZ']; · iapply HZ; iexact HZ'
      iapply (cutO c (fun i => t.val - 1 ≤ bn i) (fun i => bn i = t.val - 1) (fun i => t.val ≤ bn i) (moved fa z) (fun i => by omega) (fun i a b => by omega)).2
      isplitl [HG1]; · rw [← eqO c (t.val - 1) (by omega)]; iexact HG1
      iapply (cutO c (fun i => t.val ≤ bn i) (fun i => bn i = t.val) (fun i => bn i = 32) (moved fa z) (fun i => by have := bn_le i; omega) (fun i a b => by omega)).2
      isplitl [HG2]; · rw [← eqO c t.val (by omega)]; iexact HG2
      rw [← eqT c]; iexact HG3
    isplitl [HR0]; · iexists fr1; rw [heldR_congr c (m := 0) (n := t.val - 1) (by omega)]; iexact HR0
    isplitl [HR1]; · iexists f2; rw [heldR_congr c (m := 1) (n := t.val) (by omega)]; iexact HR1
    isplitl [HI0]; · rw [cellB_congr 0 (by decide) (m := 0) (n := t.val - 1) (by omega)]; iexact HI0
    isplitl [HI1]; · rw [cellB_congr 0 (by decide) (m := 1) (n := t.val) (by omega)]; iexact HI1
    isplitl [HO0]; · rw [cellB_congr 1 (by decide) (m := 0) (n := t.val - 1) (by omega)]; iexact HO0
    rw [cellB_congr 1 (by decide) (m := 1) (n := t.val) (by omega)]; iexact HO1
  · isplitl [HS]; · iexact HS
    isplitl [HD]; · iexact HD
    isplitl [HF]; · iexact HF
    isplitl [HA]; · iexact HA
    isplitl [HI]; · iexact HI
    isplitl [HO]; · iexact HO
    isplitl [HU]; · iexact HU
    iexact HR

end Cert.ValsIdeal.Shift

end
-- ==== Proof.ValsFrame.lean ====
/-
  The values projection over its whole grid: the blocks each point takes and leaves, and the state every run ends in.
-/
module

public import proofs.«01_k».proof.Proof.ValsInv
public import Idealize.ShloMosaic.Lib.Pipeline.TableIdle
public import Idealize.ShloMosaic.Lib.Pipeline.Quiescent
public import Idealize.ShloMosaic.Lib.Claim

@[expose] public section

set_option maxRecDepth 16384

noncomputable section

namespace Cert.ValsIdeal.Shift

open Cert.ValsIdeal Cert.ValsIdeal.Gen
open Idealize.ShloMosaic
open Idealize.ShloMosaic.TcCoe Idealize.ShloMosaic.Tactic
open Idealize.SL Idealize.SL.RA Idealize.SL.BI
open scoped Idealize.SL.BI
open Idealize.ShloMosaic.ValueIdx Idealize.ShloMosaic.Rounds
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The resource the triples are stated in. -/
local notation "𝕄" => MT nD τ sig Unit (Elt F) ℕ (Pipeline.UD sig nD τ) ℕ

variable (m : (ℓ : Loc nD τ sig) → Buf (Elt F) ℓ) (ρ : Dev nD → PrngReg)

/-! ## The buffers when the grid starts -/

/-- The buffers after the two reshapes. -/
abbrev V (c : Dev nD) (b : Ref sig .tc) : Buf (Elt F) ((c : Thread nD τ).loc b) := StableHlo.after hostOps0 (fun b => m (c, b)) b

theorem nothing_fresh : (hostOps0 : List (HloOp τ sig (Elt F))).Forall fun op => op.fresh = ∅ := by
  simp only [List.Forall]; repeat' constructor

set_option maxHeartbeats 800000 in
theorem starts (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub nothing_fresh main_chain

/-- A buffer neither reshape writes is as it was. -/
theorem V_kept (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The blocks -/

def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev uAt (c : Dev nD) (t : Fin cfg0.N) : Vec F S1024x2048 .bf16 := blkAt m c (0 : Fin 4) t
abbrev wAt (c : Dev nD) (t : Fin cfg0.N) : Vec F S2048x1024 .f32 := blkAt m c (1 : Fin 4) t
abbrev zAt (c : Dev nD) (t : Fin cfg0.N) : Vec F S32x32x128 .f32 := blkAt m c (2 : Fin 4) t

theorem index0 : ∀ t : Fin grid0.N, cc0_transform_0 (grid0.coords t) = ![t.val % 16, 0] := by decide +kernel
theorem index1 : ∀ t : Fin grid0.N, cc0_transform_1 (grid0.coords t) = ![0, 2048 + 1024 * (t.val / 16)] := by decide +kernel
theorem index2 : ∀ t : Fin grid0.N, cc0_transform_3 (grid0.coords t) = ![0, 0, 0] := by decide +kernel

theorem lt_N (t : Fin cfg0.N) : t.val < 32 := lt_of_lt_of_eq t.isLt (show cfg0.N = 32 from N_0)

theorem uAt_eq (c : Dev nD) (t : Fin cfg0.N) :
    uAt m c t = fun j => V m c main_arg0 (ix2 ⟨1024 * (t.val % 16) + (j 0).val, by have := lt_N t; have : (j 0).val < 1024 := (j 0).isLt; omega⟩ (j 1) : S16384x2048.Idx) := by
  funext j
  unfold uAt blkAt
  rw [View.read_apply]
  show V m c main_arg0 _ = _
  congr 1
  funext a
  apply Fin.ext
  have e := index0 t
  match a with
  | ⟨0, _⟩ => show cc0_transform_0 (grid0.coords t) 0 * 1024 + 1 * (j 0).val = 1024 * (t.val % 16) + (j 0).val; rw [e]; show t.val % 16 * 1024 + 1 * (j 0).val = _; omega
  | ⟨1, _⟩ => show cc0_transform_0 (grid0.coords t) 1 * 2048 + 1 * (j 1).val = (j 1).val; rw [e]; show 0 * 2048 + 1 * (j 1).val = _; omega

theorem wAt_eq (c : Dev nD) (t : Fin cfg0.N) :
    wAt m c t = fun j => V m c main_arg1 (ix2 (j 0) ⟨2048 + 1024 * (t.val / 16) + (j 1).val, by have := lt_N t; have : (j 1).val < 1024 := (j 1).isLt; omega⟩ : S2048x12800.Idx) := by
  funext j
  unfold wAt blkAt
  rw [View.read_apply]
  show V m c main_arg1 _ = _
  congr 1
  funext a
  apply Fin.ext
  have e := index1 t
  match a with
  | ⟨0, _⟩ => show cc0_transform_1 (grid0.coords t) 0 + 1 * (j 0).val = (j 0).val; rw [e]; show 0 + 1 * (j 0).val = _; omega
  | ⟨1, _⟩ => show cc0_transform_1 (grid0.coords t) 1 + 1 * (j 1).val = 2048 + 1024 * (t.val / 16) + (j 1).val; rw [e]; show 2048 + 1024 * (t.val / 16) + 1 * (j 1).val = _; omega

theorem zAt_eq (c : Dev nD) (t : Fin cfg0.N) : zAt m c t = V m c main_v1 := by
  funext j
  unfold zAt blkAt
  rw [View.read_apply]
  show V m c main_v1 _ = _
  congr 1
  funext a
  apply Fin.ext
  have e := index2 t
  match a with
  | ⟨0, _⟩ => show cc0_transform_3 (grid0.coords t) 0 * 32 + 1 * (j 0).val = (j 0).val; rw [e]; show 0 * 32 + 1 * (j 0).val = _; omega
  | ⟨1, _⟩ => show cc0_transform_3 (grid0.coords t) 1 * 32 + 1 * (j 1).val = (j 1).val; rw [e]; show 0 * 32 + 1 * (j 1).val = _; omega
  | ⟨2, _⟩ => show cc0_transform_3 (grid0.coords t) 2 * 128 + 1 * (j 2).val = (j 2).val; rw [e]; show 0 * 128 + 1 * (j 2).val = _; omega

/-- Points of one column block take the same weights. -/
theorem same_weights (c : Dev nD) (t s : Fin cfg0.N) (h : s.val / 16 = t.val / 16) : wAt m c s = wAt m c t := by
  rw [wAt_eq, wAt_eq]
  funext j
  congr 1
  funext a
  apply Fin.ext
  match a with
  | ⟨0, _⟩ => rfl
  | ⟨1, _⟩ => show 2048 + 1024 * (s.val / 16) + (j 1).val = 2048 + 1024 * (t.val / 16) + (j 1).val; rw [h]

/-! ## The pipeline's data -/

/-- What the moved cache ends at. -/
abbrev newCache (c : Dev nD) : BufO (F := F) c := moved (F := F) (V m c main_v0) (V m c main_v1)

/-- The copies before point `n`. -/
def Copies (c : Dev nD) (n : ℕ) : sProp 𝕄 :=
  if h : 1 ≤ n ∧ n ≤ 31 then Mid c (V m c main_v0) (V m c main_v2_1) (V m c main_v1) (n - 1) (by omega)
  else if n = 0 then Rest c (V m c main_v0) (V m c main_v2_1) else Rest c (V m c main_v0) (newCache m c)

/-- What is held before point `n`. -/
def Held (c : Dev nD) (n : ℕ) : sProp 𝕄 :=
  iprop(Copies m c n ∗ (∃ y, ⌜∀ s : Fin cfg0.N, s.val + 1 = n → wM.view.read (Elt F) y = narrow (wAt m c s)⌝ ∗ heldW c y)
    ∗ idle c tailC ∗ idle c (cellB 2 1 (by decide)) ∗ (∃ r, prngReg c r))

def dat (_ : Fin 1) (c : Dev nD) : Dat τ (Elt F) Unit ℕ (Pipeline.UD sig nD τ) ℕ cfg0 c where
  A w := V m c (Pipeline.arrRef spec0 w)
  after w t := match w with
    | ⟨0, _⟩ => blkAt m c (0 : Fin 4) t
    | ⟨1, _⟩ => blkAt m c (1 : Fin 4) t
    | ⟨2, _⟩ => blkAt m c (2 : Fin 4) t
    | ⟨3, _⟩ => gateOut (second t) (uAt m c t) (narrow (wAt m c t))
  Φ t := Held m c t.val
  q _ := fullShare
  owed _ := 0

theorem after0 (c : Dev nD) (t : Fin cfg0.N) : (dat m 0 c).after (0 : Fin 4) t = blkAt m c (0 : Fin 4) t := rfl
theorem after1 (c : Dev nD) (t : Fin cfg0.N) : (dat m 0 c).after (1 : Fin 4) t = blkAt m c (1 : Fin 4) t := rfl
theorem after2 (c : Dev nD) (t : Fin cfg0.N) : (dat m 0 c).after (2 : Fin 4) t = blkAt m c (2 : Fin 4) t := rfl
theorem after3 (c : Dev nD) (t : Fin cfg0.N) : (dat m 0 c).after (3 : Fin 4) t = gateOut (second t) (uAt m c t) (narrow (wAt m c t)) := rfl

theorem before0 (c : Dev nD) (t : Fin cfg0.N) (d) : (dat m 0 c).before (0 : Fin 4) t d = blkAt m c (0 : Fin 4) t :=
  ((dat m 0 c).before_in_eq_fetched (0 : Fin 4) rfl (fun _ => rfl) (fun _ _ _ => rfl) (fun t => by rw [after0]; unfold Dat.blockOf blkAt; rfl) t d).trans
    (by unfold Dat.fetched Dat.blockOf blkAt; rfl)
theorem before1 (c : Dev nD) (t : Fin cfg0.N) (d) : (dat m 0 c).before (1 : Fin 4) t d = blkAt m c (1 : Fin 4) t :=
  ((dat m 0 c).before_in_eq_fetched (1 : Fin 4) rfl (fun _ => rfl) (fun _ _ _ => rfl) (fun t => by rw [after1]; unfold Dat.blockOf blkAt; rfl) t d).trans
    (by unfold Dat.fetched Dat.blockOf blkAt; rfl)
theorem before2 (c : Dev nD) (t : Fin cfg0.N) (d) : (dat m 0 c).before (2 : Fin 4) t d = blkAt m c (2 : Fin 4) t :=
  ((dat m 0 c).before_in_eq_fetched (2 : Fin 4) rfl (fun _ => rfl) (fun _ _ _ => rfl) (fun t => by rw [after2]; unfold Dat.blockOf blkAt; rfl) t d).trans
    (by unfold Dat.fetched Dat.blockOf blkAt; rfl)

theorem Ins_intro (c : Dev nD) (a2 : Memref sig .tc .vmem S1024x2048 .bf16) (a3 : Memref sig .tc .vmem S2048x1024 .f32) (a5 : Memref sig .tc .vmem S32x32x128 .f32) (x) (w) (z) :
    iprop(owns (c : Thread nD τ) a2 fullShare x ∗ owns (c : Thread nD τ) a3 fullShare w ∗ owns (c : Thread nD τ) a5 fullShare z) ⊢ (Ins (F := F) c a2 a3 a5 x w z : sProp 𝕄) := by
  iintro ⟨H0, H1, H2⟩
  isplitl [H0]; · iapply rep_of_owns; iexact H0
  isplitl [H1]; · iapply rep_of_owns; iexact H1
  iapply rep_of_owns; iexact H2
theorem Ins_elim (c : Dev nD) (a2 : Memref sig .tc .vmem S1024x2048 .bf16) (a3 : Memref sig .tc .vmem S2048x1024 .f32) (a5 : Memref sig .tc .vmem S32x32x128 .f32) (x) (w) (z) :
    (Ins (F := F) c a2 a3 a5 x w z : sProp 𝕄) ⊢ iprop(owns (c : Thread nD τ) a2 fullShare x ∗ owns (c : Thread nD τ) a3 fullShare w ∗ owns (c : Thread nD τ) a5 fullShare z) := by
  iintro ⟨H0, H1, H2⟩
  isplitl [H0]; · iapply owns_of_rep; iexact H0
  isplitl [H1]; · iapply owns_of_rep; iexact H1
  iapply owns_of_rep; iexact H2

/-- The body at any point takes what is held before it to what is held after it. -/
theorem point (c : Dev nD) (t : Fin cfg0.N) (a2 : Memref sig .tc .vmem S1024x2048 .bf16) (h2 : a2.IsWhole) (a3 : Memref sig .tc .vmem S2048x1024 .f32) (h3 : a3.IsWhole)
    (a5 : Memref sig .tc .vmem S32x32x128 .f32) (h5 : a5.IsWhole) (a6 : Memref sig .tc .vmem S1024x1024 .bf16) (h6 : a6.IsWhole) (W : Waits sig Unit) (K : PUnit → sProp 𝕄) :
    iprop(Held m c t.val ∗ owes (c : Thread nD τ) 0 W ∗ Ins c a2 a3 a5 (uAt m c t) (wAt m c t) (V m c main_v1) ∗ (∃ d, owns (c : Thread nD τ) a6 fullShare d)
        ∗ (iprop(Held m c (t.val + 1) ∗ (∃ W', owes (c : Thread nD τ) 0 W') ∗ Ins c a2 a3 a5 (uAt m c t) (wAt m c t) (V m c main_v1)
            ∗ owns (c : Thread nD τ) a6 fullShare (gateOut (second t) (uAt m c t) (narrow (wAt m c t)))) -∗ K ⟨⟩))
      ⊢ wp frame (wpE (defs₀ (F := F)) Variants.none c none) Set.univ (body t a2 h2 a3 h3 a5 h5 a6 h6) K := by
  have hN := lt_N t
  have hnext : ∀ y' : BufW (F := F) c, wM.view.read (Elt F) y' = narrow (wAt m c t) →
      ∀ s : Fin cfg0.N, s.val + 1 = t.val + 1 → wM.view.read (Elt F) y' = narrow (wAt m c s) := fun y' hy s hs => by
    rw [show s = t from Fin.ext (Nat.succ.inj hs)]; exact hy
  unfold Held
  iintro ⟨⟨HC, ⟨%y, %hy, HY⟩, HT, HS, HP⟩, HW, Hin, Hout, Hk⟩
  have hkeep : t.val % 16 ≠ 0 → wM.view.read (Elt F) y = narrow (wAt m c t) := fun h => by
    let s : Fin cfg0.N := ⟨t.val - 1, lt_of_le_of_lt (Nat.sub_le _ _) t.isLt⟩
    have hs : s.val + 1 = t.val := by show t.val - 1 + 1 = t.val; omega
    rw [hy s hs, same_weights m c t s (by show (t.val - 1) / 16 = t.val / 16; omega)]
  by_cases h0 : t.val = 0
  · ihave HC := (Entails.of_eq (show Copies m c t.val = Rest c (V m c main_v0) (V m c main_v2_1) from by unfold Copies; rw [dif_neg (by omega), if_pos h0])) $$ HC
    iapply (step_first c (V m c main_v0) (V m c main_v2_1) (V m c main_v1) t a2 h2 a3 h3 a5 h5 a6 h6 (uAt m c t) (wAt m c t) h0 (by omega) y W K)
    isplitl [HC]; · iexact HC
    isplitl [HW]; · iexact HW
    isplitl [Hin]; · iexact Hin
    isplitl [Hout]; · iexact Hout
    isplitl [HY]; · iexact HY
    iintro ⟨HC, HW, Hin, Hout, ⟨%y', %hy', HY⟩⟩
    iapply Hk
    isplitr [HW Hin Hout]
    · isplitl [HC]
      · iapply (Entails.of_eq (show Copies m c (t.val + 1) = Mid c (V m c main_v0) (V m c main_v2_1) (V m c main_v1) t.val (by omega) from by unfold Copies; rw [dif_pos (by omega)]; rfl).symm)
        iexact HC
      isplitl [HY]
      · iexists y'; isplitr; · ipureintro; exact hnext y' hy'
        iexact HY
      isplitl [HT]; · iexact HT
      isplitl [HS]; · iexact HS
      iexact HP
    isplitl [HW]; · iexact HW
    isplitl [Hin]; · iexact Hin
    iexact Hout
  · ihave HC := (Entails.of_eq (show Copies m c t.val = Mid c (V m c main_v0) (V m c main_v2_1) (V m c main_v1) (t.val - 1) (by omega) from by unfold Copies; rw [dif_pos (by omega)])) $$ HC
    by_cases h31 : t.val = 31
    · iapply (step_last c (V m c main_v0) (V m c main_v2_1) (V m c main_v1) t a2 h2 a3 h3 a5 h5 a6 h6 (uAt m c t) (wAt m c t) h31 (by omega) y (hkeep (by omega)) W K)
      isplitl [HC]; · iexact HC
      isplitl [HT]; · iexact HT
      isplitl [HW]; · iexact HW
      isplitl [Hin]; · iexact Hin
      isplitl [Hout]; · iexact Hout
      isplitl [HY]; · iexact HY
      iintro ⟨HC, HT, HW, Hin, Hout, ⟨%y', %hy', HY⟩⟩
      iapply Hk
      isplitr [HW Hin Hout]
      · isplitl [HC]
        · iapply (Entails.of_eq (show Copies m c (t.val + 1) = Rest c (V m c main_v0) (newCache m c) from by unfold Copies; rw [dif_neg (by omega), if_neg (by omega)]).symm)
          iexact HC
        isplitl [HY]
        · iexists y'; isplitr; · ipureintro; exact hnext y' hy'
          iexact HY
        isplitl [HT]; · iexact HT
        isplitl [HS]; · iexact HS
        iexact HP
      isplitl [HW]; · iexact HW
      isplitl [Hin]; · iexact Hin
      iexact Hout
    · iapply (step_mid c (V m c main_v0) (V m c main_v2_1) (V m c main_v1) t a2 h2 a3 h3 a5 h5 a6 h6 (uAt m c t) (wAt m c t) (by omega) (by omega) (by omega) y hkeep W K)
      isplitl [HC]; · iexact HC
      isplitl [HW]; · iexact HW
      isplitl [Hin]; · iexact Hin
      isplitl [Hout]; · iexact Hout
      isplitl [HY]; · iexact HY
      iintro ⟨HC, HW, Hin, Hout, ⟨%y', %hy', HY⟩⟩
      iapply Hk
      isplitr [HW Hin Hout]
      · isplitl [HC]
        · iapply (Entails.of_eq (show Copies m c (t.val + 1) = Mid c (V m c main_v0) (V m c main_v2_1) (V m c main_v1) t.val (by omega) from by unfold Copies; rw [dif_pos (by omega)]; rfl).symm)
          iexact HC
        isplitl [HY]
        · iexists y'; isplitr; · ipureintro; exact hnext y' hy'
          iexact HY
        isplitl [HT]; · iexact HT
        isplitl [HS]; · iexact HS
        iexact HP
      isplitl [HW]; · iexact HW
      isplitl [Hin]; · iexact Hin
      iexact Hout

set_option maxHeartbeats 1000000 in
/-- The body meets its obligation at every point. -/
theorem body_ok (c : Dev nD) : BodyObligation (dat m 0 c) (defs₀ (F := F)) Variants.none () Set.univ := fun t => by
  rw [bigSep_W0, bigSep_W0]
  simp only [before0, before1, before2, after0, after1, after2, after3]
  rewrite [show (dat m 0 c).Φ t.succ = Held m c (t.val + 1) from rfl, show (dat m 0 c).Φ t.castSucc = Held m c t.val from rfl]
  iintro ⟨HH, ⟨%W, %hW, Ho⟩, ⟨%d0, H0⟩, ⟨%d1, H1⟩, ⟨%d2, H2⟩, ⟨%d3, H3⟩⟩
  iapply (point m c t _ _ _ _ _ _ _ _ W _)
  isplitl [HH]; · iexact HH
  isplitl [Ho]; · iexact Ho
  isplitl [H0 H1 H2]
  · iapply Ins_intro
    isplitl [H0]; · iexact H0
    isplitl [H1]; · iexact H1
    rw [← zAt_eq m c t]; iexact H2
  isplitl [H3]; · iexists _; iexact H3
  iintro ⟨HH, ⟨%W', Ho⟩, Hin, H3⟩
  ihave Hin := (Ins_elim c _ _ _ _ _ _) $$ Hin
  icases Hin with ⟨H0, H1, H2⟩
  isplitl [HH]; · iexact HH
  isplitl [Ho]
  · iexists W'; isplitr; · ipureintro; exact fun _ _ => Or.inl trivial
    iexact Ho
  isplitl [H0]; · iexact H0
  isplitl [H1]; · iexact H1
  isplitl [H2]; · rw [← zAt_eq m c t]; iexact H2
  iexact H3

/-! ## The run -/

/-- The kernel's own cells. -/
def ownCell : Fin 6 → SemLoc sig := fun k => .dma (match k with
  | ⟨0, _⟩ => cellB 0 0 (by decide) | ⟨1, _⟩ => cellB 0 1 (by decide) | ⟨2, _⟩ => cellB 1 0 (by decide) | ⟨3, _⟩ => cellB 1 1 (by decide)
  | ⟨4, _⟩ => tailC | ⟨5, _⟩ => cellB 2 1 (by decide))

theorem ownCell_ok : Pipeline.OwnSemFacts spec0 ownCell := by decide +kernel

theorem ownCells_eq (c : Dev nD) : (Pipeline.ownSems0 (Ix := Unit) (Name := ℕ) (U := Pipeline.UD sig nD τ) (Lvl := ℕ) (Val := Elt F) (τ := τ) ownCell c : sProp 𝕄)
    = iprop(idle c (cellB 0 0 (by decide)) ∗ idle c (cellB 0 1 (by decide)) ∗ idle c (cellB 1 0 (by decide)) ∗ idle c (cellB 1 1 (by decide)) ∗ idle c tailC ∗ idle c (cellB 2 1 (by decide))) := by
  unfold Pipeline.ownSems0
  exact bigSep_univ_eq_bigSepL [(0 : Fin 6), 1, 2, 3, 4, 5] (by decide) (by decide) _

/-- The buffers at the end: the moved cache in its place, everything else as the grid found it. -/
def G (c : Dev nD) : (b : Ref sig .tc) → Buf (Elt F) ((c : Thread nD τ).loc b) := Function.update (V m c) main_v2_1 (newCache m c)

theorem G_moved (c : Dev nD) : G m c main_v2_1 = newCache m c := Function.update_self ..

theorem ends_eq (c : Dev nD) (g : (b : Ref sig .tc) → Buf (Elt F) ((c : Thread nD τ).loc b)) (gg : (c : Dev nD) → (b : Ref sig .tc) → Buf (Elt F) ((c : Thread nD τ).loc b)) (hg : gg c = g) :
    (Pipeline.ΦDRG ownCell spec0 {main_v0} {main_v2_1} (V m) gg c : sProp 𝕄)
      = iprop(((∃ f : BufW (F := F) c, ((c : Thread nD τ).loc cc0_scratch0) ↦{fullShare} f) ∗ (∃ f : BufR (F := F) c, ((c : Thread nD τ).loc cc0_scratch1) ↦{fullShare} f))
        ∗ (∃ r, prngReg c r)
        ∗ (idle c (cellB 0 0 (by decide)) ∗ idle c (cellB 0 1 (by decide)) ∗ idle c (cellB 1 0 (by decide)) ∗ idle c (cellB 1 1 (by decide)) ∗ idle c tailC ∗ idle c (cellB 2 1 (by decide)))
        ∗ (((c : Thread nD τ).loc main_v0) ↦{fullShare} V m c main_v0) ∗ (((c : Thread nD τ).loc main_v2_1) ↦{fullShare} g main_v2_1)) := by
  subst hg
  rw [Pipeline.ΦDRG_eq, ownCells_eq, scopedRest0_eq]
  unfold Pipeline.routed
  rw [bigSep_singleton, bigSep_singleton]

theorem enter (c : Dev nD) : Pipeline.ΦDRG ownCell spec0 {main_v0} {main_v2_1} (V m) (V m) c ⊢ (dat m 0 c).Φ 0 := by
  rw [ends_eq m c _ _ rfl, show (dat m 0 c).Φ 0 = Held m c 0 from rfl]
  unfold Held
  iintro ⟨⟨⟨%y, HY⟩, ⟨%f, HR⟩⟩, HP, ⟨HI0, HI1, HO0, HO1, HT, HS⟩, HA, HD⟩
  isplitr [HY HT HS HP]
  · iapply (Entails.of_eq (show Copies m c 0 = Rest c (V m c main_v0) (V m c main_v2_1) from by unfold Copies; rw [dif_neg (by omega), if_pos rfl]).symm)
    unfold Rest
    ihave HR := (ring_split c f) $$ HR
    icases HR with ⟨HR0, HR1⟩
    isplitl [HA]; · iexact HA
    isplitl [HD]; · iexact HD
    isplitl [HR0]; · iexists f; iexact HR0
    isplitl [HR1]; · iexists f; iexact HR1
    isplitl [HI0]; · iexact HI0
    isplitl [HI1]; · iexact HI1
    isplitl [HO0]; · iexact HO0
    iexact HO1
  isplitl [HY]
  · iexists y; isplitr; · ipureintro; intro s hs; exact absurd hs (Nat.succ_ne_zero _)
    iexact HY
  isplitl [HT]; · iexact HT
  isplitl [HS]; · iexact HS
  iexact HP

theorem leave (c : Dev nD) : (dat m 0 c).Φ (Fin.last cfg0.N) ⊢ Pipeline.ΦDRG ownCell spec0 {main_v0} {main_v2_1} (V m) (G m) c := by
  rw [ends_eq m c _ _ rfl, show (dat m 0 c).Φ (Fin.last cfg0.N) = Held m c cfg0.N from rfl, G_moved]
  unfold Held
  iintro ⟨HC, ⟨%y, -, HY⟩, HT, HS, HP⟩
  ihave HC := (Entails.of_eq (show Copies m c cfg0.N = Rest c (V m c main_v0) (newCache m c) from by
    rw [show cfg0.N = 32 from N_0]; unfold Copies; rw [dif_neg (by omega), if_neg (by omega)])) $$ HC
  unfold Rest
  icases HC with ⟨HA, HD, ⟨%f0, HR0⟩, ⟨%f1, HR1⟩, HI0, HI1, HO0, HO1⟩
  isplitl [HY HR0 HR1]
  · isplitl [HY]; · iexists y; iexact HY
    iapply (ring_join c f0 f1)
    isplitl [HR0]; · iexact HR0
    iexact HR1
  isplitl [HP]; · iexact HP
  isplitr [HA HD]
  · isplitl [HI0]; · iexact HI0
    isplitl [HI1]; · iexact HI1
    isplitl [HO0]; · iexact HO0
    isplitl [HO1]; · iexact HO1
    isplitl [HT]; · iexact HT
    iexact HS
  isplitl [HA]; · iexact HA
  iexact HD

theorem share_full (c : Dev nD) (w : Fin cfg0.W) : (dat m 0 c).share w = fullShare := by
  unfold Dat.share; split <;> rfl

/-- Every run ends with each window's array at its computed contents, the moved cache in its place, the other buffers as
    the grid found them, and no count on any semaphore. -/
theorem run_ends : θ_run (defs (F := F)) (onTc (τ := τ) (main (F := F))) (s₀ m ρ)
    (fun r => Pipeline.FramePostRG cfgs (dat m) 0 {main_v2_1} (V m) (G m) r ∧ r.2.sem = fun _ => 0) :=
  Pipeline.θ_run_frame_dmaRG cfgs (dat m) 0 launch0 ownCell defs₀ Variants.none ownCell_ok {main_v0} {main_v2_1}
    (by decide +kernel) (by decide +kernel) m ρ main (fun c => (body_ok m c).loose) (share_full m) (fun _ _ => rfl) (V m) (starts m _)
    (fun _ _ => rfl) (G m) (enter m) (leave m) _ (fun _ h => h)

end Cert.ValsIdeal.Shift

end
-- ==== Proof.ValsMath.lean ====
/-
  What the values projection is to leave: the rows through the columns of the values, the rows through those of their gates times the logistic
  of the same, and the cache with its four oldest entries dropped and the four new ones behind; and the reference's run read that way.
-/
module

public import proofs.«01_k».proof.Proof.Gen.ValsRefIdeal.Run
public import proofs.«01_k».proof.Proof.GatesMath
public import Idealize.ShloMosaic.Lib.IdealHost
public import Idealize.ShloMosaic.Lib.Pointwise
public import Idealize.ShloMosaic.Lib.Tactic
public import Idealize.ShloMosaic.Lib.Pipeline.Value
public import Idealize.ShloMosaic.PureOps.Ideal

@[expose] public section

set_option maxRecDepth 16384

noncomputable section

open Idealize.ShloMosaic Idealize.ShloMosaic.TcCoe Idealize.SL.Sem

namespace Cert.Valuing

/-- The product of row `p` with column `n` of the values' and their gates' weights. -/
def lin (u : (⟨2, ![16384, 2048]⟩ : Shape).Idx → EReal) (w : (⟨2, ![2048, 12800]⟩ : Shape).Idx → EReal) (p : Fin 16384) (n : Fin 2048) : EReal :=
  ∑ k, u (ix2 p k) * w (ix2 k ⟨2048 + n.val, by omega⟩)

/-- The value, or behind the values the gate, of row `p` at column `n`. -/
def valGate (u : (⟨2, ![16384, 2048]⟩ : Shape).Idx → EReal) (w : (⟨2, ![2048, 12800]⟩ : Shape).Idx → EReal) (p : Fin 16384) (n : Fin 2048) : EReal :=
  if n.val < 1024 then lin u w p n else lin u w p n * Ideal.logistic (lin u w p n)

/-- All values and gates. -/
def valGates (u : (⟨2, ![16384, 2048]⟩ : Shape).Idx → EReal) (w : (⟨2, ![2048, 12800]⟩ : Shape).Idx → EReal) : (⟨2, ![16384, 2048]⟩ : Shape).Idx → EReal :=
  fun i => valGate u w (i 0) (i 1)

variable {α : Type}

/-- The cache shifted by four entries. -/
def shifted (a : (⟨5, ![32, 512, 2, 4, 128]⟩ : Shape).Idx → α) (b : (⟨5, ![32, 4, 2, 4, 128]⟩ : Shape).Idx → α) (z : Fin 32) (s : Fin 512) (x : Fin 2) (y : Fin 4)
    (d : Fin 128) : α :=
  if h : s.val < 508 then a (ix5 z ⟨s.val + 4, by omega⟩ x y d) else b (ix5 z ⟨s.val - 508, by omega⟩ x y d)

/-- The shifted cache with its entries' rows in one line. -/
def shiftedRows (a : (⟨5, ![32, 512, 2, 4, 128]⟩ : Shape).Idx → α) (b : (⟨5, ![32, 4, 2, 4, 128]⟩ : Shape).Idx → α) : (⟨3, ![32, 4096, 128]⟩ : Shape).Idx → α := fun i =>
  shifted a b (i 0) ⟨(i 1).val / 8, by have : (i 1).val < 4096 := (i 1).isLt; omega⟩ ⟨(i 1).val / 4 % 2, by omega⟩ ⟨(i 1).val % 4, by omega⟩ (i 2)

end Cert.Valuing

namespace Cert.ValsRefIdeal.Arr

open Cert.ValsRefIdeal Cert.ValsRefIdeal.Gen Cert.ValsRefIdeal.Value Cert.Valuing
open Cert.Gating (lined)

variable (m : (ℓ : Loc nD τ sig) → Buf (Elt Ideal) ℓ) (ρ : Dev nD → PrngReg)

abbrev u (c : Dev nD) : Vec Ideal S16384x2048 .bf16 := m ((c.tc : Thread nD τ).loc main_arg0)
abbrev w (c : Dev nD) : Vec Ideal S2048x12800 .f32 := m ((c.tc : Thread nD τ).loc main_arg1)
abbrev old (c : Dev nD) : Vec Ideal S32x512x2x4x128 .f32 := m ((c.tc : Thread nD τ).loc main_arg2)
abbrev new (c : Dev nD) : Vec Ideal S32x4x2x4x128 .f32 := m ((c.tc : Thread nD τ).loc main_arg3)

theorem joined (a : Vec Ideal S32x512x2x4x128 .f32) (b : Vec Ideal S32x4x2x4x128 .f32) (z : Fin 32) (s : Fin 512) (x : Fin 2) (y : Fin 4) (d : Fin 128) :
    concatenate S32x512x2x4x128 1 [⟨S32x508x2x4x128, (extractStridedSlice S32x508x2x4x128 ![0, 4, 0, 0, 0] a slices_S32x512x2x4x128_S32x508x2x4x128_0_4_0_0_0)⟩, ⟨S32x4x2x4x128, b⟩]
      concatenates_S32x508x2x4x128_S32x4x2x4x128_S32x512x2x4x128_d1 (ix5 z s x y d) = shifted a b z s x y d := by
  unfold shifted
  by_cases h : s.val < 508
  · rw [dif_pos h, concatenate_pair_apply_left (t := S32x512x2x4x128) (s₁ := S32x508x2x4x128) 1 _ b _ _ rfl (ix5 z ⟨s.val, h⟩ x y d) (fun q => by fin_cases q <;> rfl)]
    pointwise
    congr 2
    apply Fin.ext
    show 4 + s.val = s.val + 4
    omega
  · rw [dif_neg h, concatenate_pair_apply_right (t := S32x512x2x4x128) (s₁ := S32x508x2x4x128) 1 _ b _ _ rfl rfl (ix5 z ⟨s.val - 508, by omega⟩ x y d)
      (fun q hq => by fin_cases q <;> first | rfl | exact absurd rfl hq) (by show s.val - 508 + 508 = s.val; omega)]

/-- The reference's product of row `p` with column `n` of a half of the columns. -/
theorem half_apply (a : FVec Ideal S16384x2048 .bf16) (b : FVec Ideal S2048x12800 .f32) (o : ℕ) (ho : o + 1024 ≤ 12800) (h) (p : Fin 16384) (n : Fin 1024) :
    (Host.dotGeneral dot_S16384x2048_S2048x1024_S16384x1024_1_0_0_1_n_n none (extf .f32 a bitsLt_bf16_f32) (extractStridedSlice S2048x1024 ![0, o] b h) : FVec Ideal S16384x1024 .f32) (ix2 p n)
      = ∑ k, a (ix2 p k) * b (ix2 k ⟨o + n.val, by omega⟩) := by
  pointwise

/-- The half of the columns a column lies in. -/
theorem halves (a b : Vec Ideal S16384x1024 .f32) (p : Fin 16384) (n : Fin 2048) :
    concatenate S16384x2048 1 [⟨S16384x1024, a⟩, ⟨S16384x1024, b⟩] concatenates_S16384x1024_S16384x1024_S16384x2048_d1 (ix2 p n)
      = if h : n.val < 1024 then a (ix2 p ⟨n.val, h⟩) else b (ix2 p ⟨n.val - 1024, by omega⟩) := by
  by_cases h : n.val < 1024
  · rw [dif_pos h, concatenate_pair_apply_left (t := S16384x2048) (s₁ := S16384x1024) 1 a b _ _ rfl (ix2 p ⟨n.val, h⟩) (fun q => by fin_cases q <;> rfl)]
  · rw [dif_neg h, concatenate_pair_apply_right (t := S16384x2048) (s₁ := S16384x1024) 1 a b _ _ rfl rfl (ix2 p ⟨n.val - 1024, by omega⟩)
      (fun q hq => by fin_cases q <;> first | rfl | exact absurd rfl hq) (by show n.val - 1024 + 1024 = n.val; omega)]

/-- The reference's gate: a product times its logistic. -/
theorem gate_apply (y : FVec Ideal S16384x1024 .f32) (p : Fin 16384) (n : Fin 1024) :
    (mulf y (Host.divf (broadcastInDim S16384x1024 ![] bcast_S_S16384x1024 (constant S_ .f32 0x3F800000#32))
      (addf (broadcastInDim S16384x1024 ![] bcast_S_S16384x1024 (constant S_ .f32 0x3F800000#32)) (Host.exp (Host.negf y)))) : FVec Ideal S16384x1024 .f32) (ix2 p n)
      = y (ix2 p n) * Ideal.logistic (y (ix2 p n)) := by
  unfold Ideal.logistic
  pointwise

theorem run_read : θ_run defs (onTc (τ := τ) (main (F := Ideal))) ⟨m, fun _ => 0, ρ⟩ fun r => ∀ c : Dev nD,
      r.2.mem ((c.tc : Thread nD τ).loc main_v9) = valGates (u m c) (w m c)
      ∧ r.2.mem ((c.tc : Thread nD τ).loc main_v10) = shiftedRows (old m c) (new m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run m ρ)
  obtain ⟨h1, h2, h3⟩ := h c
  refine ⟨h1.trans ?_, h2.trans ?_, h3⟩
  · funext i
    obtain ⟨p, n, rfl⟩ : ∃ (p : Fin 16384) (n : Fin 2048), i = ix2 p n := ⟨i 0, i 1, eq_ix2 i⟩
    refine (halves _ _ p n).trans ?_
    show _ = valGate (u m c) (w m c) p n
    unfold valGate lin
    by_cases h : n.val < 1024
    · rw [dif_pos h, if_pos h]
      exact half_apply (u m c) (w m c) 2048 (by omega) _ p ⟨n.val, h⟩
    · rw [dif_neg h, if_neg h]
      refine (gate_apply _ p ⟨n.val - 1024, by omega⟩).trans ?_
      rw [half_apply (u m c) (w m c) 3072 (by omega) _ p ⟨n.val - 1024, by omega⟩]
      have e : (⟨3072 + (n.val - 1024), by omega⟩ : Fin 12800) = ⟨2048 + n.val, by omega⟩ := Fin.ext (by show 3072 + (n.val - 1024) = 2048 + n.val; omega)
      simp only [e]
  · funext i
    obtain ⟨z, r, d, rfl⟩ : ∃ (z : Fin 32) (r : Fin 4096) (d : Fin 128), i = ix3 z r d := ⟨i 0, i 1, i 2, eq_ix3 i⟩
    refine (lined (n := 512) (N := 4096) _ _ rfl z r d).trans ?_
    exact joined _ _ _ _ _ _ _

end Cert.ValsRefIdeal.Arr

end
-- ==== Proof.ValsArrays.lean ====
/-
  What the values projection leaves in its two results, in terms of its arguments.
-/
module

public import proofs.«01_k».proof.Proof.ValsFrame
public import proofs.«01_k».proof.Proof.ValsMath

@[expose] public section

set_option maxRecDepth 16384

noncomputable section

open Idealize.ShloMosaic Idealize.ShloMosaic.TcCoe Idealize.SL.Sem

namespace Cert.ValsIdeal.Shift

open Cert.ValsIdeal Cert.ValsIdeal.Gen Cert.Valuing
open Cert.Gating (lined)

section

variable {F : FTy → Type} [FloatOps F] (m : (ℓ : Loc nD τ sig) → Buf (Elt F) ℓ) (ρ : Dev nD → PrngReg) (c : Dev nD)

abbrev u : Vec F S16384x2048 .bf16 := m ((c : Thread nD τ).loc main_arg0)
abbrev wts : Vec F S2048x12800 .f32 := m ((c : Thread nD τ).loc main_arg1)
abbrev old : Vec F S32x512x2x4x128 .f32 := m ((c : Thread nD τ).loc main_arg2)
abbrev new : Vec F S32x4x2x4x128 .f32 := m ((c : Thread nD τ).loc main_arg3)

theorem V_old : V m c main_v0 = (shapeCast _ (old m c) shapeCasts_S32x512x2x4x128_S32x4096x128 : Vec F S32x4096x128 .f32) := by
  unfold_abbrev_sides
  after_results
  rfl

theorem V_new : V m c main_v1 = (shapeCast _ (new m c) shapeCasts_S32x4x2x4x128_S32x32x128 : Vec F S32x32x128 .f32) := by
  unfold_abbrev_sides
  after_results
  rfl

/-- The moved cache is the cache shifted by four entries. -/
theorem newCache_eq : newCache m c = shiftedRows (old m c) (new m c) := by
  funext i
  obtain ⟨z, r, d, rfl⟩ : ∃ (z : Fin 32) (r : Fin 4096) (d : Fin 128), i = ix3 z r d := ⟨i 0, i 1, i 2, eq_ix3 i⟩
  show _ = shifted (old m c) (new m c) z ⟨r.val / 8, by omega⟩ ⟨r.val / 4 % 2, by omega⟩ ⟨r.val % 4, by omega⟩ d
  unfold shifted
  by_cases h : r.val < 4064
  · refine (moved_lo _ _ (ix3 z r d) (ix3 z ⟨r.val + 32, by omega⟩ d) h rfl rfl rfl).trans ?_
    rw [V_old, dif_pos (by show r.val / 8 < 508; omega)]
    refine (lined (n := 512) (N := 4096) _ _ rfl z ⟨r.val + 32, by omega⟩ d).trans ?_
    have e1 : (⟨(r.val + 32) / 8, by omega⟩ : Fin 512) = ⟨r.val / 8 + 4, by omega⟩ := Fin.ext (by show (r.val + 32) / 8 = r.val / 8 + 4; omega)
    have e2 : (⟨(r.val + 32) / 4 % 2, by omega⟩ : Fin 2) = ⟨r.val / 4 % 2, by omega⟩ := Fin.ext (by show (r.val + 32) / 4 % 2 = r.val / 4 % 2; omega)
    have e3 : (⟨(r.val + 32) % 4, by omega⟩ : Fin 4) = ⟨r.val % 4, by omega⟩ := Fin.ext (by show (r.val + 32) % 4 = r.val % 4; omega)
    rw [e1, e2, e3]
  · refine (moved_hi _ _ (ix3 z r d) (ix3 z ⟨r.val - 4064, by omega⟩ d) rfl (by show r.val = 4064 + (r.val - 4064); omega) rfl).trans ?_
    rw [V_new, dif_neg (by show ¬ r.val / 8 < 508; omega)]
    refine (lined (n := 4) (N := 32) _ _ rfl z ⟨r.val - 4064, by omega⟩ d).trans ?_
    have e1 : (⟨(r.val - 4064) / 8, by omega⟩ : Fin 4) = ⟨r.val / 8 - 508, by omega⟩ := Fin.ext (by show (r.val - 4064) / 8 = r.val / 8 - 508; omega)
    have e2 : (⟨(r.val - 4064) / 4 % 2, by omega⟩ : Fin 2) = ⟨r.val / 4 % 2, by omega⟩ := Fin.ext (by show (r.val - 4064) / 4 % 2 = r.val / 4 % 2; omega)
    have e3 : (⟨(r.val - 4064) % 4, by omega⟩ : Fin 4) = ⟨r.val % 4, by omega⟩ := Fin.ext (by show (r.val - 4064) % 4 = r.val % 4; omega)
    rw [e1, e2, e3]

/-- The run leaves the array of values and gates at its computed contents and the moved cache, and keeps its arguments. -/
theorem run_all : θ_run (defs (F := F)) (onTc (τ := τ) (main (F := F))) ⟨m, fun _ => 0, ρ⟩ (fun r =>
    (∀ c : Dev nD, r.2.mem ((c : Thread nD τ).loc main_v2_0) = (dat m 0 c).arrAt (3 : Fin 4) cfg0.N
      ∧ r.2.mem ((c : Thread nD τ).loc main_v2_1) = newCache m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r he => ⟨fun c => by
    obtain ⟨⟨hf, hr⟩, -⟩ := he
    obtain ⟨hw, ht⟩ := hf c
    refine ⟨hw (3 : Fin 4), (hr c main_v2_1 (Finset.mem_singleton_self _)).trans (G_moved m c), ?_, ?_, ?_, ?_⟩
    · exact (hw (0 : Fin 4)).trans (((dat m 0 c).arrAt_in (0 : Fin 4) rfl _).trans (V_kept m c main_arg0 (by decide) (by decide)))
    · exact (hw (1 : Fin 4)).trans (((dat m 0 c).arrAt_in (1 : Fin 4) rfl _).trans (V_kept m c main_arg1 (by decide) (by decide)))
    · exact (ht main_arg2 (Finset.mem_sdiff.mpr ⟨Pipeline.mem_restRefs_of main_arg2 (by decide) (by decide), by decide⟩)).trans (V_kept m c main_arg2 (by decide) (by decide))
    · exact (ht main_arg3 (Finset.mem_sdiff.mpr ⟨Pipeline.mem_restRefs_of main_arg3 (by decide) (by decide), by decide⟩)).trans (V_kept m c main_arg3 (by decide) (by decide)), he.2⟩)
    (run_ends m ρ)

/-- The frame, at any floats. -/
theorem frame_any : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run (defs (F := F)) _ _).mono (fun r he => ⟨fun c => (he.1 c).2.2, he.2⟩) (run_all m ρ)

end

/-- The product of a block of columns at an index. -/
theorem prod_apply (q : Fin 4) (x : Vec Ideal S1024x2048 .bf16) (w : Vec Ideal S2048x1024 .f32) (p : Fin 1024) (n : Fin 256) :
    prod q x (narrow w) (ix2 p n) = ∑ k, x (ix2 p k) * w (ix2 k ⟨256 * q.val + n.val, by omega⟩) := by
  unfold prod
  pointwise

/-- One block of columns at an index. -/
theorem colBlk_apply (b : BitVec 1) (q : Fin 4) (x : Vec Ideal S1024x2048 .bf16) (k : Vec Ideal S2048x1024 .bf16) (p : Fin 1024) (n : Fin 256) :
    colBlk b q x k (ix2 p n) = if b = 1#1 then prod q x k (ix2 p n) * Ideal.logistic (prod q x k (ix2 p n)) else prod q x k (ix2 p n) := by
  unfold colBlk Scalar.select
  by_cases hb : b = 1#1
  · rw [if_pos (show b = 1 from hb), if_pos hb]; rfl
  · rw [if_neg (show ¬ b = 1 from hb), if_neg hb]; rfl

/-- The block a point leaves, at an index. -/
theorem gateOut_apply (b : BitVec 1) (x : Vec Ideal S1024x2048 .bf16) (w : Vec Ideal S2048x1024 .f32) (p : Fin 1024) (n : Fin 1024) :
    gateOut b x (narrow w) (ix2 p n) = if b = 1#1 then (∑ k, x (ix2 p k) * w (ix2 k n)) * Ideal.logistic (∑ k, x (ix2 p k) * w (ix2 k n)) else ∑ k, x (ix2 p k) * w (ix2 k n) := by
  refine (colBlk_apply b ⟨n.val / 256, by omega⟩ x (narrow w) p ⟨n.val % 256, by omega⟩).trans ?_
  rw [prod_apply]
  have e : (⟨256 * (n.val / 256) + n.val % 256, by omega⟩ : Fin 1024) = n := Fin.ext (by show 256 * (n.val / 256) + n.val % 256 = n.val; omega)
  simp only [e]

theorem second_iff : ∀ t : Fin cfg0.N, second t = 1#1 ↔ 16 ≤ t.val := by decide +kernel

variable (m : (ℓ : Loc nD τ sig) → Buf (Elt Ideal) ℓ) (ρ : Dev nD → PrngReg) (c : Dev nD)

theorem index3 : ∀ t : Fin grid0.N, cc0_transform_4 (grid0.coords t) = ![t.val % 16, t.val / 16] := by decide +kernel

/-- Where an element of a point's block lies in the result. -/
theorem emb3 (t : Fin cfg0.N) (p : Fin 1024) (n : Fin 1024) :
    ((cfg0.win (3 : Fin 4)).blk t).view.emb (ix2 p n : S1024x1024.Idx)
      = (ix2 ⟨1024 * (t.val % 16) + p.val, by have := lt_N t; omega⟩ ⟨1024 * (t.val / 16) + n.val, by have := lt_N t; omega⟩ : S16384x2048.Idx) := by
  have e := index3 t
  funext a
  apply Fin.ext
  match a with
  | ⟨0, _⟩ => show cc0_transform_4 (grid0.coords t) 0 * 1024 + 1 * p.val = 1024 * (t.val % 16) + p.val; rw [e]; show t.val % 16 * 1024 + 1 * p.val = _; omega
  | ⟨1, _⟩ => show cc0_transform_4 (grid0.coords t) 1 * 1024 + 1 * n.val = 1024 * (t.val / 16) + n.val; rw [e]; show t.val / 16 * 1024 + 1 * n.val = _; omega

theorem cover3 (i : S16384x2048.Idx) : ∃ t : Fin cfg0.N, (cfg0.win (3 : Fin 4)).flush t = true ∧ i ∈ ((cfg0.win (3 : Fin 4)).blk t).view.set := by
  obtain ⟨r, q, rfl⟩ : ∃ (r : Fin 16384) (q : Fin 2048), i = ix2 r q := ⟨i 0, i 1, eq_ix2 i⟩
  let t : Fin cfg0.N := ⟨16 * (q.val / 1024) + r.val / 1024, lt_of_lt_of_eq (by omega) (show cfg0.N = 32 from N_0).symm⟩
  have hv : t.val = 16 * (q.val / 1024) + r.val / 1024 := rfl
  refine ⟨t, flush0_3 t, ?_⟩
  have e : (ix2 r q : S16384x2048.Idx) = ((cfg0.win (3 : Fin 4)).blk t).view.emb (ix2 (⟨r.val % 1024, by omega⟩ : Fin 1024) (⟨q.val % 1024, by omega⟩ : Fin 1024) : S1024x1024.Idx) := by
    rw [emb3]
    congr 1
    · apply Fin.ext
      show r.val = 1024 * (t.val % 16) + r.val % 1024
      omega
    · apply Fin.ext
      show q.val = 1024 * (t.val / 16) + q.val % 1024
      omega
  rw [e]
  exact ((cfg0.win (3 : Fin 4)).blk t).view.emb_mem_set _

/-- The array of values and gates at the end of a run. -/
theorem arr3_eq : (dat m 0 c).arrAt (3 : Fin 4) cfg0.N = valGates (u m c) (wts m c) :=
  (dat m 0 c).arrAt_eq_of_cover (3 : Fin 4) (valGates (u m c) (wts m c))
    (fun t _ => by
      funext j
      obtain ⟨p, n, rfl⟩ : ∃ (p : Fin 1024) (n : Fin 1024), j = (ix2 p n : S1024x1024.Idx) := ⟨j 0, j 1, eq_ix2 j⟩
      have hN := lt_N t
      rw [View.read_apply, emb3]
      refine (gateOut_apply (second t) (uAt m c t) (wAt m c t) p n).trans ?_
      have e : (∑ k, uAt m c t (ix2 p k) * wAt m c t (ix2 k n) : EReal)
          = lin (u m c) (wts m c) ⟨1024 * (t.val % 16) + p.val, by omega⟩ ⟨1024 * (t.val / 16) + n.val, by omega⟩ := by
        rw [uAt_eq, wAt_eq, V_kept m c main_arg0 (by decide) (by decide), V_kept m c main_arg1 (by decide) (by decide)]
        unfold lin
        refine Finset.sum_congr rfl fun k _ => ?_
        refine congrArg₂ (· * ·) rfl (congrArg _ ?_)
        funext a
        apply Fin.ext
        match a with
        | ⟨0, _⟩ => rfl
        | ⟨1, _⟩ => show 2048 + 1024 * (t.val / 16) + n.val = 2048 + (1024 * (t.val / 16) + n.val); omega
      rw [e]
      show _ = valGate (u m c) (wts m c) ⟨1024 * (t.val % 16) + p.val, by omega⟩ ⟨1024 * (t.val / 16) + n.val, by omega⟩
      unfold valGate
      by_cases h : 16 ≤ t.val
      · rw [if_pos ((second_iff t).mpr h), if_neg (by show ¬ 1024 * (t.val / 16) + n.val < 1024; omega)]
      · rw [if_neg (fun hb => h ((second_iff t).mp hb)), if_pos (by show 1024 * (t.val / 16) + n.val < 1024; omega)])
    cover3

end Cert.ValsIdeal.Shift

end
-- ==== Proof.ValsClaim.lean ====
/-
  The values projection's claims.
-/
module

public import proofs.«01_k».proof.Defs
public import proofs.«01_k».proof.Proof.ValsArrays
public import proofs.«01_k».proof.Proof.Gen.Vals
public import Idealize.ShloMosaic.Adequacy
public import Idealize.ShloMosaic.Init

@[expose] public section

set_option maxRecDepth 16384

noncomputable section

open Idealize.ShloMosaic Idealize.ShloMosaic.TcCoe Idealize.SL.Sem

namespace Cert.Valuing

section

variable {F : FTy → Type} [FloatOps F]

/-! The program as compiled has the text of the one read over extended reals: their runs are the same, at any floats. -/

theorem body_eq : Cert.Vals.cc0_proj_vg_ret (F := F) = Cert.ValsIdeal.cc0_proj_vg_ret (F := F) := by
  funext i a1 h1 a2 h2 a3 h3 a4 h4 a5 h5 a6 h6 a7 h7 a8 h8 a9
  unfold Cert.Vals.cc0_proj_vg_ret Cert.ValsIdeal.cc0_proj_vg_ret
  rfl

theorem bodies_eq : Cert.Vals.defs₀ (F := F) = Cert.ValsIdeal.defs₀ (F := F) := by
  unfold Cert.Vals.defs₀
  rw [body_eq]
  unfold Cert.ValsIdeal.defs₀
  refine congrArg (Defs.onTc (nD := Cert.ValsIdeal.nD) (τ := Cert.ValsIdeal.τ) (sig := Cert.ValsIdeal.sig) (Val := Elt F) (Λ := Cert.ValsIdeal.Λ₀)) ?_
  funext x y
  match x, y with
  | 0, (t, s) => rfl

theorem defs_eq : Cert.Vals.defs (F := F) = Cert.ValsIdeal.defs (F := F) := by
  unfold Cert.Vals.defs
  rw [bodies_eq]
  rfl

theorem run_eq (m : (ℓ : Loc Cert.ValsIdeal.nD Cert.ValsIdeal.τ Cert.ValsIdeal.sig) → Buf (Elt F) ℓ) (ρ : Dev Cert.ValsIdeal.nD → PrngReg) :
    (θ_run (Cert.Vals.defs (F := F)) (onTc (τ := Cert.Vals.τ) (Cert.Vals.main (F := F))) ⟨m, fun _ => 0, ρ⟩ : _ → Prop)
      = θ_run (Cert.ValsIdeal.defs (F := F)) (onTc (τ := Cert.ValsIdeal.τ) (Cert.ValsIdeal.main (F := F))) ⟨m, fun _ => 0, ρ⟩ := by
  rw [defs_eq]
  rfl

end

theorem frame_Vals : Cert.quiescent_Vals := fun m ρ _ => by
  refine (congrFun (run_eq (F := Bits) m ρ) _).mpr ?_
  exact Cert.ValsIdeal.Shift.frame_any (F := Bits) m ρ

theorem frame_ValsIdeal : Cert.quiescent_ValsIdeal := fun m ρ _ => Cert.ValsIdeal.Shift.frame_any m ρ

theorem frame_ValsRefIdeal : Cert.quiescent_ValsRefIdeal := fun m ρ _ =>
  (θ_run Cert.ValsRefIdeal.defs _ _).mono (fun r h => ⟨fun c => (h c).2.2, sem_eq_zero_of_no_sems (by decide) r.2⟩)
    (Cert.ValsRefIdeal.Value.run m ρ)

/-- The values, their gates and the moved cache are the reference's. -/
theorem algebraic_Vals : Cert.algebraic_ValsIdeal_ValsRefIdeal := by
  intro m g m' g' _ hagree
  refine ⟨fun c => valGates (Cert.ValsIdeal.Shift.u m c) (Cert.ValsIdeal.Shift.wts m c), fun c => shiftedRows (Cert.ValsIdeal.Shift.old m c) (Cert.ValsIdeal.Shift.new m c),
    (θ_run Cert.ValsIdeal.defs _ _).mono (fun r h c => ⟨(h.1 c).1.trans (Cert.ValsIdeal.Shift.arr3_eq m c),
      (h.1 c).2.1.trans (Cert.ValsIdeal.Shift.newCache_eq m c), (h.1 c).2.2⟩) (Cert.ValsIdeal.Shift.run_all m g),
    (θ_run Cert.ValsRefIdeal.defs _ _).mono (fun r h c => ⟨(h c).1.trans ?_, (h c).2.1.trans ?_, (h c).2.2⟩) (Cert.ValsRefIdeal.Arr.run_read m' g')⟩
  · have e0 : Cert.ValsRefIdeal.Arr.u m' c = Cert.ValsIdeal.Shift.u m c := (hagree c).1
    have e1 : Cert.ValsRefIdeal.Arr.w m' c = Cert.ValsIdeal.Shift.wts m c := (hagree c).2.1
    rw [e0, e1]
  · have e2 : Cert.ValsRefIdeal.Arr.old m' c = Cert.ValsIdeal.Shift.old m c := (hagree c).2.2.1
    have e3 : Cert.ValsRefIdeal.Arr.new m' c = Cert.ValsIdeal.Shift.new m c := (hagree c).2.2.2
    rw [e2, e3]

end Cert.Valuing

end
-- ==== Proof.RotRing.lean ====
/-
  The slots of the ring through which the rotary projection moves its cache, the blocks it moves, and the cells its copies end on.
-/
module

public import proofs.«01_k».proof.Defs
public import proofs.«01_k».proof.Proof.Gen.RotIdeal
public import proofs.«01_k».proof.Proof.Gen.RotIdeal.Launch
public import proofs.«01_k».proof.Proof.Gen.RotIdeal.Points
public import Idealize.ShloMosaic.Lib.Pipeline.Kit
public import Idealize.ShloMosaic.Lib.Pipeline.FrameBody
public import Idealize.ShloMosaic.Lib.Pipeline.FrameValue
public import Idealize.ShloMosaic.Lib.Pipeline.ReadBack
public import Idealize.ShloMosaic.Lib.Writes
public import Idealize.ShloMosaic.Lib.Ring
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.RotIdeal.Shift

open Cert.RotIdeal Cert.RotIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The cache, the moved cache, the ring. -/
abbrev srcM : Memref sig .tc .hbm S32x1024x128 .f32 := Memref.whole main_v14
abbrev dstM : Memref sig .tc .hbm S32x1024x128 .f32 := Memref.whole main_v16_1
abbrev ringM : Memref sig .tc .vmem S2x992x128 .f32 := Memref.whole cc0_scratch1
abbrev wM : Memref sig .tc .vmem S2048x1024 .bf16 := Memref.whole cc0_scratch0

theorem src_inb (k : Nat) (h : k < 32) : ∀ a, (![k, 32, 0] : Fin 3 → Nat) a + S1x992x128.size a ≤ S32x1024x128.size a := fun a => by
  fin_cases a
  · show k + 1 ≤ 32; omega
  · show 32 + 992 ≤ 1024; omega
  · show 0 + 128 ≤ 128; omega
theorem dst_inb (k : Nat) (h : k < 32) : ∀ a, (![k, 0, 0] : Fin 3 → Nat) a + S1x992x128.size a ≤ S32x1024x128.size a := fun a => by
  fin_cases a
  · show k + 1 ≤ 32; omega
  · show 0 + 992 ≤ 1024; omega
  · show 0 + 128 ≤ 128; omega
theorem slot_inb (k : Nat) : ∀ a, (![k % 2, 0, 0] : Fin 3 → Nat) a + S1x992x128.size a ≤ S2x992x128.size a := fun a => by
  fin_cases a
  · show k % 2 + 1 ≤ 2; omega
  · show 0 + 992 ≤ 992; omega
  · show 0 + 128 ≤ 128; omega
theorem cell_inb (r k : Nat) (h : r < 3) : ∀ a, (![r, k % 2] : Fin 2 → Nat) a + S1x1.size a ≤ S3x2.size a := fun a => by
  fin_cases a
  · show r + 1 ≤ 3; omega
  · show k % 2 + 1 ≤ 2; omega

/-- Block `k` of the cache as it is read: `992` rows, from row `32` on. -/
abbrev srcB (k : Nat) (h : k < 32) : Memref sig .tc .hbm S992x128 .f32 :=
  (srcM.slice (Rect.unit (s := S32x1024x128) ![k, 32, 0] S1x992x128.size (src_inb k h)) (fun _ => rfl)).squeeze S992x128 squeezes_S1x992x128_S992x128
/-- Block `k` of the moved cache, `32` rows earlier. -/
abbrev dstB (k : Nat) (h : k < 32) : Memref sig .tc .hbm S992x128 .f32 :=
  (dstM.slice (Rect.unit (s := S32x1024x128) ![k, 0, 0] S1x992x128.size (dst_inb k h)) (fun _ => rfl)).squeeze S992x128 squeezes_S1x992x128_S992x128
/-- The ring's slot of block `k`. -/
abbrev slotB (k : Nat) : Memref sig .tc .vmem S992x128 .f32 :=
  (ringM.slice (Rect.unit (s := S2x992x128) ![k % 2, 0, 0] S1x992x128.size (slot_inb k)) (fun _ => rfl)).squeeze S992x128 squeezes_S1x992x128_S992x128
/-- The cell of block `k`'s copy in (`r = 0`) or out (`r = 1`). -/
abbrev cellB (r k : Nat) (h : r < 3) : DmaSem sig :=
  ((cc0_scratch2.slice (Rect.unit (s := S3x2) ![r, k % 2] S1x1.size (cell_inb r k h))).squeeze S_ squeezes_S1x1_S_).sem

/-- A slice at an offset equal to a block's is the block's. -/
theorem src_at {o : Fin 3 → Nat} {k : Nat} (h : o = ![k, 32, 0]) (hk : k < 32) (p : ∀ a, o a + S1x992x128.size a ≤ S32x1024x128.size a) (q) :
    srcM.slice (Rect.unit (s := S32x1024x128) o S1x992x128.size p) q
      = srcM.slice (Rect.unit (s := S32x1024x128) ![k, 32, 0] S1x992x128.size (src_inb k hk)) (fun _ => rfl) := by
  subst h; rfl
theorem dst_at {o : Fin 3 → Nat} {k : Nat} (h : o = ![k, 0, 0]) (hk : k < 32) (p : ∀ a, o a + S1x992x128.size a ≤ S32x1024x128.size a) (q) :
    dstM.slice (Rect.unit (s := S32x1024x128) o S1x992x128.size p) q
      = dstM.slice (Rect.unit (s := S32x1024x128) ![k, 0, 0] S1x992x128.size (dst_inb k hk)) (fun _ => rfl) := by
  subst h; rfl
theorem slot_at {o : Fin 3 → Nat} {k : Nat} (h : o = ![k % 2, 0, 0]) (p : ∀ a, o a + S1x992x128.size a ≤ S2x992x128.size a) (q) :
    ringM.slice (Rect.unit (s := S2x992x128) o S1x992x128.size p) q
      = ringM.slice (Rect.unit (s := S2x992x128) ![k % 2, 0, 0] S1x992x128.size (slot_inb k)) (fun _ => rfl) := by
  subst h; rfl
theorem cell_at {o : Fin 2 → Nat} {r k : Nat} (h : o = ![r, k % 2]) (hr : r < 3) (p : ∀ a, o a + S1x1.size a ≤ S3x2.size a) :
    cc0_scratch2.slice (Rect.unit (s := S3x2) o S1x1.size p) = cc0_scratch2.slice (Rect.unit (s := S3x2) ![r, k % 2] S1x1.size (cell_inb r k hr)) := by
  subst h; rfl

theorem off1 : ∀ t : Fin cfg0.N, 2 ≤ t.val → k0_off1 (grid0.coords t) = ![1, (t.val - 2) % 2] := by decide +kernel
theorem off2 : ∀ t : Fin cfg0.N, 2 ≤ t.val → k0_off2 (grid0.coords t) = ![t.val - 2, 0, 0] := by decide +kernel
theorem off3 : ∀ t : Fin cfg0.N, 2 ≤ t.val → k0_off3 (grid0.coords t) = ![(t.val - 2) % 2, 0, 0] := by decide +kernel
theorem off4 : ∀ t : Fin cfg0.N, k0_off4 (grid0.coords t) = ![0, t.val % 2] := by decide +kernel
theorem off5 : ∀ t : Fin cfg0.N, k0_off5 (grid0.coords t) = ![t.val % 2, 0, 0] := by decide +kernel
theorem off6 : ∀ t : Fin cfg0.N, k0_off6 (grid0.coords t) = ![t.val, 32, 0] := by decide +kernel
theorem off7 : ∀ t : Fin cfg0.N, 1 ≤ t.val → k0_off7 (grid0.coords t) = ![0, (t.val - 1) % 2] := by decide +kernel
theorem off8 : ∀ t : Fin cfg0.N, 1 ≤ t.val → k0_off8 (grid0.coords t) = ![(t.val - 1) % 2, 0, 0] := by decide +kernel
theorem off9 : ∀ t : Fin cfg0.N, 1 ≤ t.val → k0_off9 (grid0.coords t) = ![t.val - 1, 32, 0] := by decide +kernel
theorem off10 : ∀ t : Fin cfg0.N, 1 ≤ t.val → k0_off10 (grid0.coords t) = ![1, (t.val - 1) % 2] := by decide +kernel
theorem off11 : ∀ t : Fin cfg0.N, 1 ≤ t.val → k0_off11 (grid0.coords t) = ![t.val - 1, 0, 0] := by decide +kernel
theorem off12 : ∀ t : Fin cfg0.N, t.val = 31 → k0_off12 (grid0.coords t) = ![0, 1] := by decide +kernel
theorem off13 : ∀ t : Fin cfg0.N, t.val = 31 → k0_off13 (grid0.coords t) = ![1, 0, 0] := by decide +kernel
theorem off14 : ∀ t : Fin cfg0.N, t.val = 31 → k0_off14 (grid0.coords t) = ![31, 32, 0] := by decide +kernel
theorem off15 : ∀ t : Fin cfg0.N, t.val = 31 → k0_off15 (grid0.coords t) = ![1, 1] := by decide +kernel
theorem off16 : ∀ t : Fin cfg0.N, t.val = 31 → k0_off16 (grid0.coords t) = ![31, 0, 0] := by decide +kernel
theorem off17 : ∀ t : Fin cfg0.N, t.val = 31 → k0_off17 (grid0.coords t) = ![1, 0] := by decide +kernel
theorem off18 : ∀ t : Fin cfg0.N, t.val = 31 → k0_off18 (grid0.coords t) = ![30, 0, 0] := by decide +kernel
theorem off19 : ∀ t : Fin cfg0.N, t.val = 31 → k0_off19 (grid0.coords t) = ![0, 0, 0] := by decide +kernel
theorem cond1 : ∀ t : Fin cfg0.N, k0_cond1 (grid0.coords t) = 1#1 ↔ 2 ≤ t.val := by decide +kernel
theorem cond2 : ∀ t : Fin cfg0.N, k0_cond2 (grid0.coords t) = 1#1 ↔ 1 ≤ t.val := by decide +kernel
theorem cond3 : ∀ t : Fin cfg0.N, k0_cond3 (grid0.coords t) = 1#1 ↔ t.val = 31 := by decide +kernel

end Cert.RotIdeal.Shift

end
-- ==== Proof.RotBlk.lean ====
/-
  The block of results one point leaves, from its rows and the weights kept.
-/
module

public import proofs.«01_k».proof.Proof.RotRing
public import Idealize.ShloMosaic.Lib.ValueIdx

@[expose] public section

set_option maxRecDepth 16384

noncomputable section

namespace Cert.RotIdeal.Shift

open Cert.RotIdeal Cert.RotIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

theorem col_inb (q : Fin 4) : ∀ a, (![0, 256 * q.val] : Fin 2 → Nat) a + S2048x256.size a ≤ S2048x1024.size a := fun a => by
  have := q.isLt
  fin_cases a
  · show 0 + 2048 ≤ 2048; omega
  · show 256 * q.val + 256 ≤ 1024; omega

/-- The rows `x` through `256` columns of the weights `k`. -/
def prod (q : Fin 4) (x : Vec F S1024x2048 .bf16) (k : Vec F S2048x1024 .bf16) : Vec F S1024x256 .f32 :=
  matmul dot_S1024x2048_S2048x256_S1024x256_1_0_0_1_n_n none x
    (View.ld k (Rect.unit (s := S2048x1024) ![0, 256 * q.val] S2048x256.size (col_inb q))) (constant S1024x256 .f32 0#32)

/-- A half of `256` columns: the first `128` or the second. -/
def half (h : Bool) (y : FVec F S1024x256 .f32) : FVec F S1024x128 .f32 := match h with
  | false => extractStridedSlice S1024x128 ![0, 0] y slices_S1024x256_o0_0_S1024x128
  | true => extractStridedSlice S1024x128 ![0, 128] y slices_S1024x256_o0_128_S1024x128

/-- The table's first or second page: what a head is multiplied by as it is and as its halves trade places. -/
abbrev page (tb : Vec F S1x2x1024x128 .f32) (o : Fin 4 → Nat) (p : ∀ a, o a + S1x1x1024x128.size a ≤ S1x2x1024x128.size a) : FVec F S1024x128 .f32 :=
  shapeCast S1024x128 (View.ld tb (Rect.unit (s := S1x2x1024x128) o S1x1x1024x128.size p) : Vec F S1x1x1024x128 .f32) shapeCasts_S1x1x1024x128_S1024x128

/-- A head turned by its rows' angles. -/
def turn (tb : Vec F S1x2x1024x128 .f32) (y : FVec F S1024x128 .f32) : FVec F S1024x128 .bf16 :=
  truncf .bf16 (addf (mulf y (page tb ![0, 0, 0, 0] inb_S1x2x1024x128_S1x1x1024x128_0_0_0_0))
    (mulf (dynamicRotate 1 64#32 none y rotates_S1024x128_d1) (page tb ![0, 1, 0, 0] inb_S1x2x1024x128_S1x1x1024x128_0_1_0_0))) bitsLt_bf16_f32

/-- One head of results. -/
def colBlk (tb : Vec F S1x2x1024x128 .f32) (q : Fin 4) (h : Bool) (x : Vec F S1024x2048 .bf16) (k : Vec F S2048x1024 .bf16) : Vec F S1024x128 .bf16 :=
  turn tb (half h (prod q x k))

/-- The block of results a point leaves. -/
def rotOut (tb : Vec F S1x2x1024x128 .f32) (x : Vec F S1024x2048 .bf16) (k : Vec F S2048x1024 .bf16) : Vec F S1024x1024 .bf16 := fun j =>
  colBlk tb ⟨(j 1).val / 256, by have h : (j 1).val < 1024 := (j 1).isLt; omega⟩ (decide (128 ≤ (j 1).val % 256)) x k (ix2 (j 0) ⟨(j 1).val % 128, by omega⟩ : S1024x128.Idx)

theorem out_inb (q : Fin 4) (h : Bool) : ∀ a, (![0, 256 * q.val + 128 * h.toNat] : Fin 2 → Nat) a + S1024x128.size a ≤ S1024x1024.size a := fun a => by
  have := q.isLt
  have := h.toNat_le
  fin_cases a
  · show 0 + 1024 ≤ 1024; omega
  · show 256 * q.val + 128 * h.toNat + 128 ≤ 1024; omega

/-- The piece of the block a store of `128` columns leaves. -/
abbrev piece (q : Fin 4) (h : Bool) (Z : Vec F S1024x128 .bf16) : View.Piece (Elt F) S1024x1024 .bf16 :=
  ⟨Rect.unit (s := S1024x1024) ![0, 256 * q.val + 128 * h.toNat] S1024x128.size (out_inb q h), Z⟩

theorem piece_eq (tb : Vec F S1x2x1024x128 .f32) (q : Fin 4) (h : Bool) (x : Vec F S1024x2048 .bf16) (k : Vec F S2048x1024 .bf16) (y : S1024x128.Idx) :
    colBlk tb q h x k y = rotOut tb x k ((piece (F := F) q h (colBlk tb q h x k)).1.emb y) := by
  have hy : (y 1).val < 128 := (y 1).isLt
  have e : (((piece (F := F) q h (colBlk tb q h x k)).1.emb y) 1).val = 256 * q.val + 128 * h.toNat + (y 1).val := by
    show 256 * q.val + 128 * h.toNat + 1 * (y 1).val = _; omega
  have e0 : (((piece (F := F) q h (colBlk tb q h x k)).1.emb y) 0).val = (y 0).val := by show 0 + 1 * (y 0).val = _; omega
  have hn := h.toNat_le
  unfold rotOut
  have eq1 : (⟨(((piece (F := F) q h (colBlk tb q h x k)).1.emb y) 1).val / 256, by rw [e]; have := q.isLt; omega⟩ : Fin 4) = q := Fin.ext (by
    show (((piece (F := F) q h (colBlk tb q h x k)).1.emb y) 1).val / 256 = q.val; rw [e]; omega)
  have eq2 : decide (128 ≤ (((piece (F := F) q h (colBlk tb q h x k)).1.emb y) 1).val % 256) = h := by
    rw [e]
    cases h
    · exact decide_eq_false (by show ¬ 128 ≤ (256 * q.val + 128 * 0 + (y 1).val) % 256; omega)
    · exact decide_eq_true (by show 128 ≤ (256 * q.val + 128 * 1 + (y 1).val) % 256; omega)
  rw [eq1, eq2]
  congr 1
  funext a
  apply Fin.ext
  match a with
  | ⟨0, _⟩ => exact e0.symm
  | ⟨1, _⟩ => show (y 1).val = (((piece (F := F) q h (colBlk tb q h x k)).1.emb y) 1).val % 128; rw [e]; omega

/-- A block stored in eight heads reads back as the block. -/
theorem read_pieces (v : View sig .tc .vmem S1024x1024 .bf16) (f) (tb : Vec F S1x2x1024x128 .f32) (x : Vec F S1024x2048 .bf16) (k : Vec F S2048x1024 .bf16) (Z0 Z1 Z2 Z3 Z4 Z5 Z6 Z7 : Vec F S1024x128 .bf16)
    (h0 : Z0 = colBlk tb 0 false x k) (h1 : Z1 = colBlk tb 0 true x k) (h2 : Z2 = colBlk tb 1 false x k) (h3 : Z3 = colBlk tb 1 true x k)
    (h4 : Z4 = colBlk tb 2 false x k) (h5 : Z5 = colBlk tb 2 true x k) (h6 : Z6 = colBlk tb 3 false x k) (h7 : Z7 = colBlk tb 3 true x k)
    (p0 : ∀ a, (![0, 0] : Fin 2 → Nat) a + S1024x128.size a ≤ S1024x1024.size a) (p1 : ∀ a, (![0, 128] : Fin 2 → Nat) a + S1024x128.size a ≤ S1024x1024.size a)
    (p2 : ∀ a, (![0, 256] : Fin 2 → Nat) a + S1024x128.size a ≤ S1024x1024.size a) (p3 : ∀ a, (![0, 384] : Fin 2 → Nat) a + S1024x128.size a ≤ S1024x1024.size a)
    (p4 : ∀ a, (![0, 512] : Fin 2 → Nat) a + S1024x128.size a ≤ S1024x1024.size a) (p5 : ∀ a, (![0, 640] : Fin 2 → Nat) a + S1024x128.size a ≤ S1024x1024.size a)
    (p6 : ∀ a, (![0, 768] : Fin 2 → Nat) a + S1024x128.size a ≤ S1024x1024.size a) (p7 : ∀ a, (![0, 896] : Fin 2 → Nat) a + S1024x128.size a ≤ S1024x1024.size a) :
    v.read (Elt F) (v.writes (Elt F) f [⟨Rect.unit ![0, 896] S1024x128.size p7, Z7⟩, ⟨Rect.unit ![0, 768] S1024x128.size p6, Z6⟩, ⟨Rect.unit ![0, 640] S1024x128.size p5, Z5⟩,
      ⟨Rect.unit ![0, 512] S1024x128.size p4, Z4⟩, ⟨Rect.unit ![0, 384] S1024x128.size p3, Z3⟩, ⟨Rect.unit ![0, 256] S1024x128.size p2, Z2⟩, ⟨Rect.unit ![0, 128] S1024x128.size p1, Z1⟩, ⟨Rect.unit ![0, 0] S1024x128.size p0, Z0⟩])
      = rotOut tb x k := by
  subst h0 h1 h2 h3 h4 h5 h6 h7
  funext j
  have hj : (j 1).val < 1024 := (j 1).isLt
  have hi : (j 0).val < 1024 := (j 0).isLt
  refine View.read_writes_apply_of_pieces v f (rotOut tb x k) _ ?_ j ?_
  · intro p hp
    simp only [List.mem_cons, List.not_mem_nil, or_false] at hp
    rcases hp with rfl | rfl | rfl | rfl | rfl | rfl | rfl | rfl
    · exact piece_eq tb 3 true x k
    · exact piece_eq tb 3 false x k
    · exact piece_eq tb 2 true x k
    · exact piece_eq tb 2 false x k
    · exact piece_eq tb 1 true x k
    · exact piece_eq tb 1 false x k
    · exact piece_eq tb 0 true x k
    · exact piece_eq tb 0 false x k
  · have hm : ∀ (o : Nat) (p : ∀ a, (![0, o] : Fin 2 → Nat) a + S1024x128.size a ≤ S1024x1024.size a), o ≤ (j 1).val → (j 1).val < o + 128 →
        j ∈ (Rect.unit (s := S1024x1024) ![0, o] S1024x128.size p).set := by
      intro o p h1 h2
      refine (Rect.unit (s := S1024x1024) ![0, o] S1024x128.size p).mem_set.mpr fun a => ?_
      match a with
      | ⟨0, _⟩ => exact ⟨(j 0).val, hi, by show (j 0).val = 0 + 1 * (j 0).val; omega⟩
      | ⟨1, _⟩ => exact ⟨(j 1).val - o, by show _ < 128; omega, by show (j 1).val = o + 1 * ((j 1).val - o); omega⟩
    by_cases c7 : 896 ≤ (j 1).val
    · exact ⟨_, .head _, hm 896 p7 c7 (by omega)⟩
    by_cases c6 : 768 ≤ (j 1).val
    · exact ⟨_, .tail _ (.head _), hm 768 p6 c6 (by omega)⟩
    by_cases c5 : 640 ≤ (j 1).val
    · exact ⟨_, .tail _ (.tail _ (.head _)), hm 640 p5 c5 (by omega)⟩
    by_cases c4 : 512 ≤ (j 1).val
    · exact ⟨_, .tail _ (.tail _ (.tail _ (.head _))), hm 512 p4 c4 (by omega)⟩
    by_cases c3 : 384 ≤ (j 1).val
    · exact ⟨_, .tail _ (.tail _ (.tail _ (.tail _ (.head _)))), hm 384 p3 c3 (by omega)⟩
    by_cases c2 : 256 ≤ (j 1).val
    · exact ⟨_, .tail _ (.tail _ (.tail _ (.tail _ (.tail _ (.head _))))), hm 256 p2 c2 (by omega)⟩
    by_cases c1 : 128 ≤ (j 1).val
    · exact ⟨_, .tail _ (.tail _ (.tail _ (.tail _ (.tail _ (.tail _ (.head _)))))), hm 128 p1 c1 (by omega)⟩
    exact ⟨_, .tail _ (.tail _ (.tail _ (.tail _ (.tail _ (.tail _ (.tail _ (.head _))))))), hm 0 p0 (by omega) (by omega)⟩

end Cert.RotIdeal.Shift

end
-- ==== Proof.RotSteps.lean ====
/-
  The rotary projection's copies, one part of its body at a time.
-/
module

public import proofs.«01_k».proof.Proof.RotBlk

@[expose] public section

set_option maxRecDepth 16384

noncomputable section

namespace Cert.RotIdeal.Shift

open Cert.RotIdeal Cert.RotIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in: the pipeline's, beside the counters of the copies in flight. -/
local notation "𝕄" => MT nD τ sig Unit (Elt F) ℕ (Pipeline.UD sig nD τ) ℕ

variable (c : Dev nD)

/-- The kinds of contents. -/
abbrev BufA : Type := Buf (Elt F) ((c : Thread nD τ).loc main_v14)
abbrev BufO : Type := Buf (Elt F) ((c : Thread nD τ).loc main_v16_1)
abbrev BufW : Type := Buf (Elt F) ((c : Thread nD τ).loc cc0_scratch0)
abbrev BufR : Type := Buf (Elt F) ((c : Thread nD τ).loc cc0_scratch1)

/-- Block `k` of the cache, block `k` of the moved cache and block `k`'s slot, held at given contents. -/
abbrev heldA (k : Nat) (h : k < 32) (f : BufA (F := F) c) : sProp 𝕄 := (srcB k h).view.loc (c : Thread nD τ) ↦[(srcB k h).view.set]{fullShare} f
abbrev heldO (k : Nat) (h : k < 32) (f : BufO (F := F) c) : sProp 𝕄 := (dstB k h).view.loc (c : Thread nD τ) ↦[(dstB k h).view.set]{fullShare} f
abbrev heldR (k : Nat) (f : BufR (F := F) c) : sProp 𝕄 := (slotB k).view.loc (c : Thread nD τ) ↦[(slotB k).view.set]{fullShare} f

/-- The weights kept, held at given contents. -/
abbrev heldW (f : BufW (F := F) c) : sProp 𝕄 := wM.view.loc (c : Thread nD τ) ↦{fullShare} f

/-- The tail of the moved cache, which the new rows fill, and the cell their copy ends on. -/
abbrev tailB : Memref sig .tc .hbm S32x32x128 .f32 :=
  dstM.slice (Rect.unit (s := S32x1024x128) ![0, 992, 0] S32x32x128.size inb_S32x1024x128_S32x32x128_0_992_0) (fun _ => rfl)
abbrev tailC : DmaSem sig := ((cc0_scratch2.slice (Rect.unit (s := S3x2) ![2, 0] S1x1.size inb_S3x2_S1x1_2_0)).squeeze S_ squeezes_S1x1_S_).sem
abbrev heldT (f : BufO (F := F) c) : sProp 𝕄 := tailB.view.loc (c : Thread nD τ) ↦[tailB.view.set]{fullShare} f

/-- A cell at rest. -/
abbrev idle (s : DmaSem sig) : sProp 𝕄 := semVal ((c : Thread nD τ), .dma s) 0

/-- What the slot of block `k` holds is the block of the cache. -/
abbrev Loaded (k : Nat) (h : k < 32) (fa : BufA (F := F) c) (fr : BufR (F := F) c) : Prop :=
  (slotB k).view.read (Elt F) fr = (srcB k h).view.read (Elt F) fa
/-- What block `k` of the moved cache holds is what its slot does. -/
abbrev Wrote (k : Nat) (h : k < 32) (fr : BufR (F := F) c) (g : BufO (F := F) c) : Prop :=
  (dstB k h).view.read (Elt F) g = (slotB k).view.read (Elt F) fr

/-- Block `k`'s copy in, in flight: it will deliver the slot at `fr` and the block back. -/
abbrev flyIn (k : Nat) (h : k < 32) (fr : BufR (F := F) c) (fa : BufA (F := F) c) : sProp 𝕄 :=
  Transfers.Flight countersEmb (c : Thread nD τ) (.dma (cellB 0 k (by decide))) default 15872
    iprop(heldR c k fr ∗ heldA c k h fa)
/-- Block `k`'s copy out, in flight: it will deliver the block written at `fo` and the slot back. -/
abbrev flyOut (k : Nat) (h : k < 32) (fo : BufO (F := F) c) (fr : BufR (F := F) c) : sProp 𝕄 :=
  Transfers.Flight countersEmb (c : Thread nD τ) (.dma (cellB 1 k (by decide))) default 15872
    iprop(heldO c k h fo ∗ heldR c k fr)

variable (t : Fin cfg0.N) (arg2 : Memref sig .tc .vmem S1024x2048 .bf16) (harg2 : arg2.IsWhole) (arg3 : Memref sig .tc .vmem S2048x1024 .f32) (harg3 : arg3.IsWhole)
  (arg4 : Memref sig .tc .vmem S1x2x1024x128 .f32) (harg4 : arg4.IsWhole)
  (arg6 : Memref sig .tc .vmem S32x32x128 .f32) (harg6 : arg6.IsWhole) (arg7 : Memref sig .tc .vmem S1024x1024 .bf16) (harg7 : arg7.IsWhole)

/-- The first part of the body at a point. -/
abbrev part6 := k0_part6 (F := F) (grid0.coords t) arg2 harg2 arg3 harg3 arg4 harg4 srcM (Memref.isWhole_whole _) arg6 harg6 arg7 harg7 dstM (Memref.isWhole_whole _) wM (Memref.isWhole_whole _) ringM (Memref.isWhole_whole _) cc0_scratch2

/-- What the first part of the body leaves behind: from `P` and what the core waits for, the slot of the point's own block at `fr`, and `Z`. -/
abbrev Frees (P Z : sProp 𝕄) (fr : BufR (F := F) c) : Prop :=
  ∀ (W : Waits sig Unit) (Q : _ → sProp 𝕄),
    iprop(P ∗ owes c.tc 0 W
        ∗ (∀ r, iprop(⌜r.1 = BitVec.ofNat 32 (grid0.coords t 1).val⌝ ∗ heldR c t.val fr ∗ Z ∗ (∃ W', owes c.tc 0 W')) -∗ Q r))
      ⊢ wp frame (wpE (defs₀ (F := F)) Variants.none c none) Set.univ (part6 t arg2 harg2 arg3 harg3 arg4 harg4 arg6 harg6 arg7 harg7) Q

theorem cellB_congr (r : Nat) (hr : r < 3) {m n : Nat} (h : m % 2 = n % 2) : cellB r m hr = cellB r n hr := by
  have key : ∀ (m n : Nat) (hm : ∀ a, (![r, m] : Fin 2 → Nat) a + S1x1.size a ≤ S3x2.size a)
      (hn : ∀ a, (![r, n] : Fin 2 → Nat) a + S1x1.size a ≤ S3x2.size a), m = n →
      ((cc0_scratch2.slice (Rect.unit (s := S3x2) ![r, m] S1x1.size hm)).squeeze S_ squeezes_S1x1_S_).sem
        = ((cc0_scratch2.slice (Rect.unit (s := S3x2) ![r, n] S1x1.size hn)).squeeze S_ squeezes_S1x1_S_).sem := by
    rintro m n hm hn rfl; rfl
  exact key _ _ _ _ h

theorem heldR_congr {m n : Nat} (h : m % 2 = n % 2) (f : BufR (F := F) c) : heldR (F := F) c m f = heldR c n f := by
  have key : ∀ (m n : Nat) (hm : ∀ a, (![m, 0, 0] : Fin 3 → Nat) a + S1x992x128.size a ≤ S2x992x128.size a)
      (hn : ∀ a, (![n, 0, 0] : Fin 3 → Nat) a + S1x992x128.size a ≤ S2x992x128.size a), m = n →
      ((((ringM.slice (Rect.unit (s := S2x992x128) ![m, 0, 0] S1x992x128.size hm) (fun _ => rfl)).squeeze S992x128 squeezes_S1x992x128_S992x128).view.set
        : Finset (Idx ((c : Thread nD τ).loc cc0_scratch1))))
        = ((ringM.slice (Rect.unit (s := S2x992x128) ![n, 0, 0] S1x992x128.size hn) (fun _ => rfl)).squeeze S992x128 squeezes_S1x992x128_S992x128).view.set := by
    rintro m n hm hn rfl; rfl
  exact congrArg (fun S : Finset (Idx ((c : Thread nD τ).loc cc0_scratch1)) => ((c : Thread nD τ).loc cc0_scratch1 ↦[S]{fullShare} f : sProp 𝕄)) (key _ _ _ _ h)

/-- From the third point on, the first part of the body takes back the block written two points before and its slot. -/
theorem frees_late (ht : 2 ≤ t.val) (hk : t.val - 2 < 32) (fo : BufO (F := F) c) (fr : BufR (F := F) c) :
    Frees c t arg2 harg2 arg3 harg3 arg4 harg4 arg6 harg6 arg7 harg7 (flyOut c (t.val - 2) hk fo fr)
      iprop(idle c (cellB 1 t.val (by decide)) ∗ heldO c (t.val - 2) hk fo) fr := by
  intro W Q
  unfold part6 k0_part6
  have h1 := (cond1 t).mpr ht
  dsimp only
  simp only [dif_pos h1, dst_at (off2 t ht) hk, slot_at (off3 t ht), cell_at (off1 t ht) (by decide)]
  iintro ⟨HF, HO, Hk⟩
  sl_exec
  sl_step
  iapply Hk
  isplitr [HF HF_dst HF_src HO]
  · ipureintro; rfl
  isplitl [HF_src]
  · rw [heldR_congr c (m := t.val) (n := t.val - 2) (by omega)]; iexact HF_src
  isplitl [HF HF_dst]
  · isplitl [HF]
    · rw [cellB_congr 1 (by decide) (m := t.val) (n := t.val - 2) (by omega)]; iexact HF
    iexact HF_dst
  iexists _; iexact HO

/-- At the first two points there is nothing to take back. -/
theorem frees_early (ht : ¬ 2 ≤ t.val) (fr : BufR (F := F) c) :
    Frees c t arg2 harg2 arg3 harg3 arg4 harg4 arg6 harg6 arg7 harg7 (heldR c t.val fr) iprop(emp) fr := by
  intro W Q
  unfold part6 k0_part6
  have h1 := fun h => ht ((cond1 t).mp h)
  dsimp only
  simp only [dif_neg h1]
  iintro ⟨HR, HO, Hk⟩
  sl_step
  iapply Hk
  isplitr [HR HO]
  · ipureintro; rfl
  isplitl [HR]; · iexact HR
  isplitr; · iempintro
  iexists _; iexact HO

/-- The whole body at a point. -/
abbrev body := cc0_proj_qk_ret (F := F) (grid0.coords t) arg2 harg2 arg3 harg3 arg4 harg4 srcM (Memref.isWhole_whole _) arg6 harg6 arg7 harg7 dstM (Memref.isWhole_whole _) wM (Memref.isWhole_whole _) ringM (Memref.isWhole_whole _) cc0_scratch2

theorem fresh1 : ∀ t : Fin cfg0.N, Scalar.cmpi .ne (Scalar.extui (Scalar.cmpi .eq (BitVec.ofNat 32 (grid0.coords t 1).val) 0#32) : BitVec 32) 0#32 = 1#1 ↔ t.val % 16 = 0 := by decide +kernel

variable (x : Vec F S1024x2048 .bf16) (w : Vec F S2048x1024 .f32) (tb : Vec F S1x2x1024x128 .f32) (z : Vec F S32x32x128 .f32)

/-- The input blocks, as the body is handed them. -/
abbrev Ins : sProp 𝕄 :=
  iprop((arg2.view.loc (c : Thread nD τ) ↦[arg2.view.set]{fullShare} arg2.view.rep (Val := Elt F) x)
    ∗ (arg3.view.loc (c : Thread nD τ) ↦[arg3.view.set]{fullShare} arg3.view.rep (Val := Elt F) w)
    ∗ (arg4.view.loc (c : Thread nD τ) ↦[arg4.view.set]{fullShare} arg4.view.rep (Val := Elt F) tb)
    ∗ (arg6.view.loc (c : Thread nD τ) ↦[arg6.view.set]{fullShare} arg6.view.rep (Val := Elt F) z))

/-- The weights, rounded. -/
abbrev narrow (w : Vec F S2048x1024 .f32) : Vec F S2048x1024 .bf16 := truncf .bf16 w bitsLt_bf16_f32

theorem read_fill {sp : Space} {s : Shape} {e : EltTy} (v : View sig .tc sp s e) (f) (off : Fin s.rank → Nat) (inb) (Z : s.Idx → Elt F e) (h0 : ∀ a, off a = 0) :
    v.read (Elt F) (v.writes (Elt F) f [⟨Rect.unit off s.size inb, Z⟩]) = Z := by
  obtain rfl : off = fun _ => 0 := funext h0
  exact View.read_writes_whole v f Z

/-- A load of part of the weights kept after a store filled them reads the stored array there. -/
theorem readCov_whole (v : View sig .tc .vmem S2048x1024 .bf16) (inb) (Z : Vec F S2048x1024 .bf16) (r : Rect S2048x1024) :
    v.readCov [⟨Rect.unit ![0, 0] (no_index S2048x1024.size) inb, Z⟩] r.toLoadRect = View.ld Z r :=
  View.readCov_fill v inb Z [] r (fun a => by fin_cases a <;> rfl)

theorem hz : (![0, 0] : Fin 2 → Nat) = fun _ => 0 := funext fun a => by fin_cases a <;> rfl

theorem off12' (ht : t.val = 31) : k0_off12 (grid0.coords t) = ![0, t.val % 2] := by rw [off12 t ht, ht]
theorem off13' (ht : t.val = 31) : k0_off13 (grid0.coords t) = ![t.val % 2, 0, 0] := by rw [off13 t ht, ht]
theorem off14' (ht : t.val = 31) : k0_off14 (grid0.coords t) = ![t.val, 32, 0] := by rw [off14 t ht, ht]
theorem off15' (ht : t.val = 31) : k0_off15 (grid0.coords t) = ![1, t.val % 2] := by rw [off15 t ht, ht]
theorem off16' (ht : t.val = 31) : k0_off16 (grid0.coords t) = ![t.val, 0, 0] := by rw [off16 t ht, ht]
theorem off17' (ht : t.val = 31) : k0_off17 (grid0.coords t) = ![1, (t.val - 1) % 2] := by rw [off17 t ht, ht]
theorem off18' (ht : t.val = 31) : k0_off18 (grid0.coords t) = ![t.val - 1, 0, 0] := by rw [off18 t ht, ht]
theorem off19' (ht : t.val = 31) : k0_off19 (grid0.coords t) = ![(t.val - 1) % 2, 0, 0] := by rw [off19 t ht, ht]

set_option maxHeartbeats 400000 in
/-- A point after the first and before the last, with the weights of the point before it. -/
theorem mid_keep (h1 : 1 ≤ t.val) (h31 : t.val ≠ 31) (h16 : t.val % 16 ≠ 0) (hk : t.val < 32) (hk1 : t.val - 1 < 32)
    (P Z : sProp 𝕄) (fr fr1 : BufR (F := F) c) (h6 : Frees c t arg2 harg2 arg3 harg3 arg4 harg4 arg6 harg6 arg7 harg7 P Z fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg4 arg6 x w tb z ∗ (∃ d, owns c.tc arg7 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ (∃ W', owes c.tc 0 W') ∗ Ins c arg2 arg3 arg4 arg6 x w tb z ∗ owns c.tc arg7 fullShare (rotOut tb x (wM.view.read (Elt F) y))
            ∗ (∃ y', ⌜wM.view.read (Elt F) y' = wM.view.read (Elt F) y⌝ ∗ heldW c y')) -∗ K ⟨⟩))
      ⊢ wp frame (wpE (defs₀ (F := F)) Variants.none c none) Set.univ (body t arg2 harg2 arg3 harg3 arg4 harg4 arg6 harg6 arg7 harg7) K := by
  unfold owns body cc0_proj_qk_ret
  iintro ⟨HP, HF, HA, HsI, HD, HsO, HO, ⟨H2, H3, H4, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a1, v1, v11, v33, v34, v35, c0⟩ := r
  dsimp only at hr ⊢
  obtain rfl := hr
  unfold k0_part7 k0_part8 k0_part9
  have c2 := (cond2 t).mpr h1
  have c3 := fun h => h31 ((cond3 t).mp h)
  have c4 := fun h => h16 ((fresh1 t).mp h)
  dsimp only
  simp only [dif_pos c2, dif_neg c3, dif_neg c4, src_at (off6 t) hk, slot_at (off5 t), cell_at (off4 t) (by decide),
    k0_part1, cell_at (off7 t h1) (by decide), slot_at (off8 t h1), src_at (off9 t h1) hk1, cell_at (off10 t h1) (by decide), dst_at (off11 t h1) hk1]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HF_src]; · iexact HF_src
  isplitl [HF]; · iexact HF
  isplitl [HsO]
  · iexists _; isplitr [HsO]
    swap; · iexact HsO
    ipureintro
    sl_unfold_words
    first | unfold Loaded | unfold Wrote
    rw [View.read_writes_whole]
  isplitl [HO]; · iexists _; iexact HO
  isplitl [H2 H3 H4 H5]
  · isplitl [H2]; · iexact H2
    isplitl [H3]; · iexact H3
    isplitl [H4]; · iexact H4
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ _ _ _ _ rfl rfl rfl rfl rfl rfl rfl rfl _ _ _ _ _ _ _ _
  iexists _; isplitr [HY]
  swap; · iexact HY
  ipureintro
  rfl

set_option maxHeartbeats 400000 in
/-- A point after the first and before the last that takes over new weights. -/
theorem mid_fresh (h1 : 1 ≤ t.val) (h31 : t.val ≠ 31) (h16 : t.val % 16 = 0) (hk : t.val < 32) (hk1 : t.val - 1 < 32)
    (P Z : sProp 𝕄) (fr fr1 : BufR (F := F) c) (h6 : Frees c t arg2 harg2 arg3 harg3 arg4 harg4 arg6 harg6 arg7 harg7 P Z fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg4 arg6 x w tb z ∗ (∃ d, owns c.tc arg7 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ (∃ W', owes c.tc 0 W') ∗ Ins c arg2 arg3 arg4 arg6 x w tb z ∗ owns c.tc arg7 fullShare (rotOut tb x (narrow w))
            ∗ (∃ y', ⌜wM.view.read (Elt F) y' = narrow w⌝ ∗ heldW c y')) -∗ K ⟨⟩))
      ⊢ wp frame (wpE (defs₀ (F := F)) Variants.none c none) Set.univ (body t arg2 harg2 arg3 harg3 arg4 harg4 arg6 harg6 arg7 harg7) K := by
  unfold owns body cc0_proj_qk_ret
  iintro ⟨HP, HF, HA, HsI, HD, HsO, HO, ⟨H2, H3, H4, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a1, v1, v11, v33, v34, v35, c0⟩ := r
  dsimp only at hr ⊢
  obtain rfl := hr
  unfold k0_part7 k0_part8 k0_part9
  have c2 := (cond2 t).mpr h1
  have c3 := fun h => h31 ((cond3 t).mp h)
  have c4 := (fresh1 t).mpr h16
  dsimp only
  simp only [dif_pos c2, dif_neg c3, dif_pos c4, src_at (off6 t) hk, slot_at (off5 t), cell_at (off4 t) (by decide),
    k0_part1, cell_at (off7 t h1) (by decide), slot_at (off8 t h1), src_at (off9 t h1) hk1, cell_at (off10 t h1) (by decide), dst_at (off11 t h1) hk1]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HF_src]; · iexact HF_src
  isplitl [HF]; · iexact HF
  isplitl [HsO]
  · iexists _; isplitr [HsO]
    swap; · iexact HsO
    ipureintro
    sl_unfold_words
    first | unfold Loaded | unfold Wrote
    rw [View.read_writes_whole]
  isplitl [HO]; · iexists _; iexact HO
  isplitl [H2 H3 H4 H5]
  · isplitl [H2]; · iexact H2
    isplitl [H3]; · iexact H3
    isplitl [H4]; · iexact H4
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ _ _ _ _ rfl rfl rfl rfl rfl rfl rfl rfl _ _ _ _ _ _ _ _
  iexists _; isplitr [HY]
  swap; · iexact HY
  ipureintro
  sl_unfold_words
  rw [read_fill (h0 := fun a => by fin_cases a <;> rfl)]
  simp only [View.readAt_eq_ld, View.read_rep, shapeCast_self, View.ld_unit_zero (S := S2048x1024) hz]

set_option maxHeartbeats 400000 in
/-- The first point. -/
theorem first (h1 : ¬ 1 ≤ t.val) (h31 : t.val ≠ 31) (h16 : t.val % 16 = 0) (hk : t.val < 32)
    (P Z : sProp 𝕄) (fr : BufR (F := F) c) (h6 : Frees c t arg2 harg2 arg3 harg3 arg4 harg4 arg6 harg6 arg7 harg7 P Z fr)
    (fa : BufA (F := F) c) (y : BufW (F := F) c) (W : Waits sig Unit) (K : PUnit → sProp 𝕄) :
    iprop(P ∗ heldA c t.val hk fa ∗ idle c (cellB 0 t.val (by decide))
        ∗ owes c.tc 0 W ∗ Ins c arg2 arg3 arg4 arg6 x w tb z ∗ (∃ d, owns c.tc arg7 fullShare d) ∗ heldW c y
        ∗ (iprop(Z ∗ (∃ fr', ⌜Loaded c t.val hk fa fr'⌝ ∗ flyIn c t.val hk fr' fa)
            ∗ (∃ W', owes c.tc 0 W') ∗ Ins c arg2 arg3 arg4 arg6 x w tb z ∗ owns c.tc arg7 fullShare (rotOut tb x (narrow w))
            ∗ (∃ y', ⌜wM.view.read (Elt F) y' = narrow w⌝ ∗ heldW c y')) -∗ K ⟨⟩))
      ⊢ wp frame (wpE (defs₀ (F := F)) Variants.none c none) Set.univ (body t arg2 harg2 arg3 harg3 arg4 harg4 arg6 harg6 arg7 harg7) K := by
  unfold owns body cc0_proj_qk_ret
  iintro ⟨HP, HA, HsI, HO, ⟨H2, H3, H4, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, HZ, ⟨%W', HO⟩⟩
  obtain ⟨a1, v1, v11, v33, v34, v35, c0⟩ := r
  dsimp only at hr ⊢
  obtain rfl := hr
  unfold k0_part7 k0_part8 k0_part9
  have c2 := fun h => h1 ((cond2 t).mp h)
  have c3 := fun h => h31 ((cond3 t).mp h)
  have c4 := (fresh1 t).mpr h16
  dsimp only
  simp only [dif_neg c2, dif_neg c3, dif_pos c4, src_at (off6 t) hk, slot_at (off5 t), cell_at (off4 t) (by decide)]
  sl_exec!
  sl_step
  iapply Hk
  isplitl [HZ]; · iexact HZ
  isplitl [HsI]
  · iexists _; isplitr [HsI]
    swap; · iexact HsI
    ipureintro
    sl_unfold_words
    first | unfold Loaded | unfold Wrote
    rw [View.read_writes_whole]
  isplitl [HO]; · iexists _; iexact HO
  isplitl [H2 H3 H4 H5]
  · isplitl [H2]; · iexact H2
    isplitl [H3]; · iexact H3
    isplitl [H4]; · iexact H4
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ _ _ _ _ rfl rfl rfl rfl rfl rfl rfl rfl _ _ _ _ _ _ _ _
  iexists _; isplitr [HY]
  swap; · iexact HY
  ipureintro
  sl_unfold_words
  rw [read_fill (h0 := fun a => by fin_cases a <;> rfl)]
  simp only [View.readAt_eq_ld, View.read_rep, shapeCast_self, View.ld_unit_zero (S := S2048x1024) hz]

set_option maxHeartbeats 400000 in
/-- The last point. -/
theorem last (h1 : 1 ≤ t.val) (h31 : t.val = 31) (h16 : t.val % 16 ≠ 0) (hk : t.val < 32) (hk1 : t.val - 1 < 32)
    (P Z : sProp 𝕄) (fr fr1 : BufR (F := F) c) (h6 : Frees c t arg2 harg2 arg3 harg3 arg4 harg4 arg6 harg6 arg7 harg7 P iprop(idle c (cellB 1 t.val (by decide)) ∗ Z) fr)
    (fa : BufA (F := F) c) (g : BufO (F := F) c) (y : BufW (F := F) c) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ heldO c t.val hk g ∗ heldT c g ∗ idle c tailC
        ∗ owes c.tc 0 W ∗ Ins c arg2 arg3 arg4 arg6 x w tb z ∗ (∃ d, owns c.tc arg7 fullShare d) ∗ heldW c y
        ∗ (iprop(Z ∗ (∃ fr' g', ⌜Loaded c t.val hk fa fr'⌝ ∗ ⌜Wrote c t.val hk fr' g'⌝ ∗ heldR c t.val fr' ∗ heldO c t.val hk g')
            ∗ heldR c (t.val - 1) fr1 ∗ (∃ g', ⌜Wrote c (t.val - 1) hk1 fr1 g'⌝ ∗ heldO c (t.val - 1) hk1 g')
            ∗ (∃ g', ⌜tailB.view.read (Elt F) g' = z⌝ ∗ heldT c g') ∗ heldA c t.val hk fa ∗ heldA c (t.val - 1) hk1 fa
            ∗ idle c (cellB 0 t.val (by decide)) ∗ idle c (cellB 0 (t.val - 1) (by decide)) ∗ idle c (cellB 1 t.val (by decide)) ∗ idle c (cellB 1 (t.val - 1) (by decide)) ∗ idle c tailC
            ∗ (∃ W', owes c.tc 0 W') ∗ Ins c arg2 arg3 arg4 arg6 x w tb z ∗ owns c.tc arg7 fullShare (rotOut tb x (wM.view.read (Elt F) y))
            ∗ (∃ y', ⌜wM.view.read (Elt F) y' = wM.view.read (Elt F) y⌝ ∗ heldW c y')) -∗ K ⟨⟩))
      ⊢ wp frame (wpE (defs₀ (F := F)) Variants.none c none) Set.univ (body t arg2 harg2 arg3 harg3 arg4 harg4 arg6 harg6 arg7 harg7) K := by
  unfold owns body cc0_proj_qk_ret
  iintro ⟨HP, HF, HA, HsI, HD, HsO, HD1, HT, HsT, HO, ⟨H2, H3, H4, H5⟩, ⟨%d6, %f6, -, H6⟩, HY, Hk⟩
  have hS : wM.IsWhole := Memref.isWhole_whole _
  rw [Idealize.SL.Sem.wp_bind]
  iapply h6 W _
  isplitl [HP]; · iexact HP
  isplitl [HO]; · iexact HO
  iintro %r ⟨%hr, HR, ⟨HsO1, HZ⟩, ⟨%W', HO⟩⟩
  obtain ⟨a1, v1, v11, v33, v34, v35, c0⟩ := r
  dsimp only at hr ⊢
  obtain rfl := hr
  unfold k0_part7 k0_part8 k0_part9
  have c2 := (cond2 t).mpr h1
  have c3 := (cond3 t).mpr h31
  have c4 := fun h => h16 ((fresh1 t).mp h)
  dsimp only
  simp only [dif_pos c2, dif_pos c3, dif_neg c4, src_at (off6 t) hk, slot_at (off5 t), cell_at (off4 t) (by decide),
    k0_part1, cell_at (off7 t h1) (by decide), slot_at (off8 t h1), src_at (off9 t h1) hk1, cell_at (off10 t h1) (by decide), dst_at (off11 t h1) hk1,
    k0_part2, k0_part3, k0_part4, k0_part5, cell_at (off12' t h31) (by decide), slot_at (off13' t h31), src_at (off14' t h31) hk, cell_at (off15' t h31) (by decide), dst_at (off16' t h31) hk, cell_at (off17' t h31) (by decide), dst_at (off18' t h31) hk1, slot_at (off19' t h31)]
  sl_exec!
  sl_step
  iapply Hk
  isplitl [HZ]; · iexact HZ
  isplitl [HR HD1]
  · iexists _, _
    isplitr [HR HD1]
    swap
    · isplitr [HR HD1]
      swap
      · isplitl [HR]; · iexact HR
        iexact HD1
      ipureintro
      sl_unfold_words
      unfold Wrote
      rw [View.read_writes_whole, View.read_writes_whole]
    ipureintro
    sl_unfold_words
    first | unfold Loaded | unfold Wrote
    rw [View.read_writes_whole]
  isplitl [HF_dst]; · iexact HF_dst
  isplitl [HD]
  · iexists _; isplitr [HD]
    swap; · iexact HD
    ipureintro
    sl_unfold_words
    first | unfold Loaded | unfold Wrote
    rw [View.read_writes_whole]
  isplitl [HT]
  · iexists _; isplitr [HT]
    swap; · iexact HT
    ipureintro
    sl_unfold_words
    rw [View.read_writes_whole]
    exact View.read_rep _ _
  isplitl [HA]; · iexact HA
  isplitl [HF_src]; · iexact HF_src
  isplitl [HsI]; · iexact HsI
  isplitl [HF]; · iexact HF
  isplitl [HsO1]; · iexact HsO1
  isplitl [HsO]; · iexact HsO
  isplitl [HsT]; · iexact HsT
  isplitl [HO]; · iexists _; iexact HO
  isplitl [H2 H3 H4 H5]
  · isplitl [H2]; · iexact H2
    isplitl [H3]; · iexact H3
    isplitl [H4]; · iexact H4
    iexact H5
  isplitl [H6]
  · iexists _; isplitr [H6]
    swap; · iexact H6
    ipureintro
    sl_unfold_words
    simp only [View.readAt_eq_ld, View.read_rep, readCov_whole, shapeCast_self, View.ld_unit_zero (S := S1024x2048) hz, View.ld_unit_zero (S := S2048x1024) hz]
    exact read_pieces _ _ _ _ _ _ _ _ _ _ _ _ _ rfl rfl rfl rfl rfl rfl rfl rfl _ _ _ _ _ _ _ _
  iexists _; isplitr [HY]
  swap; · iexact HY
  ipureintro
  rfl

end Cert.RotIdeal.Shift

end
-- ==== Proof.RotSets.lean ====
/-
  Which rows of the cache and of the moved cache each copy of the rotary projection takes and leaves, and what the moved
  cache holds when they are done.
-/
module

public import proofs.«01_k».proof.Proof.RotSteps

@[expose] public section

set_option maxRecDepth 16384

noncomputable section

namespace Cert.RotIdeal.Shift

open Cert.RotIdeal Cert.RotIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in. -/
local notation "𝕄" => MT nD τ sig Unit (Elt F) ℕ (Pipeline.UD sig nD τ) ℕ

/-- The block of the cache a place lies in, and `32` for the rows no copy takes. -/
def sn (i : S32x1024x128.Idx) : ℕ := if (i 1).val < 32 then 32 else (i 0).val
/-- The block of the moved cache a place lies in, and `32` for its tail. -/
def bn (i : S32x1024x128.Idx) : ℕ := if (i 1).val < 992 then (i 0).val else 32

theorem rows_mem {n0 n1 : ℕ} (o : Fin 3 → ℕ) (S S' : Fin 3 → ℕ) (p) (i : (⟨3, S⟩ : Shape).Idx) (h : S' = ![n0, n1, 128]) :
    i ∈ (Rect.unit (s := ⟨3, S⟩) o S' p).set ↔ (o 0 ≤ (i 0).val ∧ (i 0).val < o 0 + n0) ∧ (o 1 ≤ (i 1).val ∧ (i 1).val < o 1 + n1) ∧ (o 2 ≤ (i 2).val ∧ (i 2).val < o 2 + 128) := by
  subst h
  refine ((Rect.unit (s := ⟨3, S⟩) o ![n0, n1, 128] p).mem_set).trans ?_
  have key : ∀ x off n : ℕ, (∃ j < n, x = off + 1 * j) ↔ off ≤ x ∧ x < off + n := fun x off n =>
    ⟨fun ⟨j, h, e⟩ => by omega, fun h => ⟨x - off, by omega, by omega⟩⟩
  constructor
  · intro h
    exact ⟨(key _ _ _).mp (h 0), (key _ _ _).mp (h 1), (key _ _ _).mp (h 2)⟩
  · rintro ⟨h0, h1, h2⟩ a
    match a with
    | ⟨0, _⟩ => exact (key _ _ _).mpr h0
    | ⟨1, _⟩ => exact (key _ _ _).mpr h1
    | ⟨2, _⟩ => exact (key _ _ _).mpr h2

theorem size_a : S1x992x128.size = ![1, 992, 128] := rfl

theorem mem_src (k : ℕ) (h : k < 32) (i : S32x1024x128.Idx) : i ∈ (srcB k h).view.set ↔ sn i = k := by
  rw [show (srcB k h).view.set = (Rect.unit (s := S32x1024x128) ![k, 32, 0] S1x992x128.size (src_inb k h)).set from
    (View.set_reshape _ _).trans (View.set_slice_whole _ _), rows_mem _ _ _ _ i size_a]
  have h0 : (i 0).val < 32 := (i 0).isLt
  have h1 : (i 1).val < 1024 := (i 1).isLt
  have h2 : (i 2).val < 128 := (i 2).isLt
  show (k ≤ _ ∧ _ < k + 1) ∧ (32 ≤ _ ∧ _ < 32 + 992) ∧ (0 ≤ _ ∧ _ < 0 + 128) ↔ _
  unfold sn
  split <;> omega

theorem mem_dst (k : ℕ) (h : k < 32) (i : S32x1024x128.Idx) : i ∈ (dstB k h).view.set ↔ bn i = k := by
  rw [show (dstB k h).view.set = (Rect.unit (s := S32x1024x128) ![k, 0, 0] S1x992x128.size (dst_inb k h)).set from
    (View.set_reshape _ _).trans (View.set_slice_whole _ _), rows_mem _ _ _ _ i size_a]
  have h0 : (i 0).val < 32 := (i 0).isLt
  have h1 : (i 1).val < 1024 := (i 1).isLt
  have h2 : (i 2).val < 128 := (i 2).isLt
  show (k ≤ _ ∧ _ < k + 1) ∧ (0 ≤ _ ∧ _ < 0 + 992) ∧ (0 ≤ _ ∧ _ < 0 + 128) ↔ _
  unfold bn
  split <;> omega

theorem mem_tail (i : S32x1024x128.Idx) : i ∈ tailB.view.set ↔ bn i = 32 := by
  rw [show tailB.view.set = (Rect.unit (s := S32x1024x128) ![0, 992, 0] S32x32x128.size inb_S32x1024x128_S32x32x128_0_992_0).set from
    View.set_slice_whole _ _, rows_mem _ _ _ _ i (show S32x32x128.size = ![32, 32, 128] from rfl)]
  have h0 : (i 0).val < 32 := (i 0).isLt
  have h1 : (i 1).val < 1024 := (i 1).isLt
  have h2 : (i 2).val < 128 := (i 2).isLt
  show (0 ≤ _ ∧ _ < 0 + 32) ∧ (992 ≤ _ ∧ _ < 992 + 32) ∧ (0 ≤ _ ∧ _ < 0 + 128) ↔ _
  unfold bn
  split <;> omega

theorem mem_slot (k : ℕ) (i : S2x992x128.Idx) : i ∈ (slotB k).view.set ↔ (i 0).val = k % 2 := by
  rw [show (slotB k).view.set = (Rect.unit (s := S2x992x128) ![k % 2, 0, 0] S1x992x128.size (slot_inb k)).set from
    (View.set_reshape _ _).trans (View.set_slice_whole _ _), rows_mem _ _ _ _ i size_a]
  have h1 : (i 1).val < 992 := (i 1).isLt
  have h2 : (i 2).val < 128 := (i 2).isLt
  show (k % 2 ≤ _ ∧ _ < k % 2 + 1) ∧ (0 ≤ _ ∧ _ < 0 + 992) ∧ (0 ≤ _ ∧ _ < 0 + 128) ↔ _
  omega

theorem bn_le (i : S32x1024x128.Idx) : bn i ≤ 32 := by
  have h0 : (i 0).val < 32 := (i 0).isLt
  unfold bn; split <;> omega

/-! ## The cache and the moved cache in parts -/

variable (c : Dev nD)

/-- The places of a buffer this shape that meet a condition, held at given contents. -/
abbrev partA (p : S32x1024x128.Idx → Prop) [DecidablePred p] (f : BufA (F := F) c) : sProp 𝕄 :=
  ((c : Thread nD τ).loc main_v14) ↦[(Finset.univ.filter p : Finset S32x1024x128.Idx)]{fullShare} f
abbrev partO (p : S32x1024x128.Idx → Prop) [DecidablePred p] (f : BufO (F := F) c) : sProp 𝕄 :=
  ((c : Thread nD τ).loc main_v16_1) ↦[(Finset.univ.filter p : Finset S32x1024x128.Idx)]{fullShare} f

theorem eqA (k : ℕ) (h : k < 32) (f : BufA (F := F) c) : heldA c k h f = partA c (fun i => sn i = k) f :=
  congrArg (fun S : Finset S32x1024x128.Idx => (((c : Thread nD τ).loc main_v14) ↦[S]{fullShare} f : sProp 𝕄))
    (Finset.ext fun i => (mem_src k h i).trans (by simp))
theorem eqO (k : ℕ) (h : k < 32) (f : BufO (F := F) c) : heldO c k h f = partO c (fun i => bn i = k) f :=
  congrArg (fun S : Finset S32x1024x128.Idx => (((c : Thread nD τ).loc main_v16_1) ↦[S]{fullShare} f : sProp 𝕄))
    (Finset.ext fun i => (mem_dst k h i).trans (by simp))
theorem eqT (f : BufO (F := F) c) : heldT c f = partO c (fun i => bn i = 32) f :=
  congrArg (fun S : Finset S32x1024x128.Idx => (((c : Thread nD τ).loc main_v16_1) ↦[S]{fullShare} f : sProp 𝕄))
    (Finset.ext fun i => (mem_tail i).trans (by simp))
theorem allA (p : S32x1024x128.Idx → Prop) [DecidablePred p] (hp : ∀ i, p i) (f : BufA (F := F) c) :
    (((c : Thread nD τ).loc main_v14) ↦{fullShare} f : sProp 𝕄) = partA c p f :=
  congrArg (fun S : Finset S32x1024x128.Idx => (((c : Thread nD τ).loc main_v14) ↦[S]{fullShare} f : sProp 𝕄))
    (Finset.ext fun i => by simp [hp i])
theorem allO (p : S32x1024x128.Idx → Prop) [DecidablePred p] (hp : ∀ i, p i) (f : BufO (F := F) c) :
    (((c : Thread nD τ).loc main_v16_1) ↦{fullShare} f : sProp 𝕄) = partO c p f :=
  congrArg (fun S : Finset S32x1024x128.Idx => (((c : Thread nD τ).loc main_v16_1) ↦[S]{fullShare} f : sProp 𝕄))
    (Finset.ext fun i => by simp [hp i])

/-- A part is two parts that make it up. -/
theorem cutA (p q r : S32x1024x128.Idx → Prop) [DecidablePred p] [DecidablePred q] [DecidablePred r] (f : BufA (F := F) c)
    (h : ∀ i, p i ↔ q i ∨ r i) (hd : ∀ i, q i → ¬ r i) : partA c p f ⊣⊢ iprop(partA c q f ∗ partA c r f) := by
  have e : (Finset.univ.filter p : Finset S32x1024x128.Idx) = Finset.univ.filter q ∪ Finset.univ.filter r :=
    Finset.ext fun i => by simp [h i]
  unfold partA; rw [e]
  exact pointsTo_union (ℓ := (c : Thread nD τ).loc main_v14) (Finset.disjoint_left.mpr fun i a b => hd i (by simpa using a) (by simpa using b))
theorem cutO (p q r : S32x1024x128.Idx → Prop) [DecidablePred p] [DecidablePred q] [DecidablePred r] (f : BufO (F := F) c)
    (h : ∀ i, p i ↔ q i ∨ r i) (hd : ∀ i, q i → ¬ r i) : partO c p f ⊣⊢ iprop(partO c q f ∗ partO c r f) := by
  have e : (Finset.univ.filter p : Finset S32x1024x128.Idx) = Finset.univ.filter q ∪ Finset.univ.filter r :=
    Finset.ext fun i => by simp [h i]
  unfold partO; rw [e]
  exact pointsTo_union (ℓ := (c : Thread nD τ).loc main_v16_1) (Finset.disjoint_left.mpr fun i a b => hd i (by simpa using a) (by simpa using b))

/-! ## The ring in slots -/

theorem ring_split (f : BufR (F := F) c) : (((c : Thread nD τ).loc cc0_scratch1) ↦{fullShare} f : sProp 𝕄) ⊢ iprop(heldR c 0 f ∗ heldR c 1 f) := by
  have e : (Finset.univ : Finset S2x992x128.Idx) = (slotB 0).view.set ∪ (slotB 1).view.set := Finset.ext fun i => by
    have h0 : (i 0).val < 2 := (i 0).isLt
    simp only [Finset.mem_univ, true_iff]
    refine Finset.mem_union.mpr ?_
    rw [show (i ∈ (slotB 0).view.set ↔ _) from mem_slot 0 i, show (i ∈ (slotB 1).view.set ↔ _) from mem_slot 1 i]
    omega
  refine (Entails.of_eq (congrArg (fun S : Finset S2x992x128.Idx => (((c : Thread nD τ).loc cc0_scratch1) ↦[S]{fullShare} f : sProp 𝕄)) e)).trans ?_
  exact (pointsTo_union (ℓ := (c : Thread nD τ).loc cc0_scratch1) (Finset.disjoint_left.mpr fun i a b => by
    have a' := (mem_slot 0 i).mp a; have b' := (mem_slot 1 i).mp b; omega)).1
theorem ring_join (f g : BufR (F := F) c) : iprop(heldR c 0 f ∗ heldR c 1 g) ⊢ (iprop(∃ h, ((c : Thread nD τ).loc cc0_scratch1) ↦{fullShare} h) : sProp 𝕄) := by
  have e : (Finset.univ : Finset S2x992x128.Idx) = (slotB 0).view.set ∪ (slotB 1).view.set := Finset.ext fun i => by
    have h0 : (i 0).val < 2 := (i 0).isLt
    simp only [Finset.mem_univ, true_iff]
    refine Finset.mem_union.mpr ?_
    rw [show (i ∈ (slotB 0).view.set ↔ _) from mem_slot 0 i, show (i ∈ (slotB 1).view.set ↔ _) from mem_slot 1 i]
    omega
  refine (pointsTo_join (ℓ := (c : Thread nD τ).loc cc0_scratch1) (f := f) (g := g) (I := (slotB 0).view.set) (J := (slotB 1).view.set) (Finset.disjoint_left.mpr fun i a b => by
    have a' := (mem_slot 0 i).mp a; have b' := (mem_slot 1 i).mp b; omega)).trans ?_
  refine Entails.trans (Entails.of_eq ?_) (exists_intro ((slotB 1).view.set.piecewise g f))
  exact (congrArg (fun S : Finset S2x992x128.Idx => (((c : Thread nD τ).loc cc0_scratch1) ↦[S]{fullShare} ((slotB 1).view.set.piecewise g f) : sProp 𝕄)) e).symm

/-! ## The moved cache -/

/-- The moved cache: the cache `32` rows earlier, and the new rows at its tail. -/
def moved (fa : S32x1024x128.Idx → Elt F .f32) (z : S32x32x128.Idx → Elt F .f32) : S32x1024x128.Idx → Elt F .f32 := fun i =>
  if h : (i 1).val < 992 then fa (ix3 (i 0) ⟨(i 1).val + 32, by omega⟩ (i 2))
  else z (ix3 (i 0) ⟨(i 1).val - 992, by have : (i 1).val < 1024 := (i 1).isLt; omega⟩ (i 2))

theorem moved_lo (fa : S32x1024x128.Idx → Elt F .f32) (z : S32x32x128.Idx → Elt F .f32) (i i' : S32x1024x128.Idx) (hl : (i 1).val < 992)
    (h0 : (i' 0).val = (i 0).val) (h1 : (i' 1).val = (i 1).val + 32) (h2 : (i' 2).val = (i 2).val) : moved fa z i = fa i' := by
  unfold moved
  rw [dif_pos hl]
  congr 1
  funext a
  apply Fin.ext
  match a with
  | ⟨0, _⟩ => exact h0.symm
  | ⟨1, _⟩ => exact h1.symm
  | ⟨2, _⟩ => exact h2.symm
theorem moved_hi (fa : S32x1024x128.Idx → Elt F .f32) (z : S32x32x128.Idx → Elt F .f32) (i : S32x1024x128.Idx) (j : S32x32x128.Idx)
    (h0 : (i 0).val = (j 0).val) (h1 : (i 1).val = 992 + (j 1).val) (h2 : (i 2).val = (j 2).val) : moved fa z i = z j := by
  unfold moved
  rw [dif_neg (by omega)]
  congr 1
  funext a
  apply Fin.ext
  match a with
  | ⟨0, _⟩ => exact h0
  | ⟨1, _⟩ => show (i 1).val - 992 = (j 1).val; omega
  | ⟨2, _⟩ => exact h2

theorem moved_dst (fa : BufA (F := F) c) (z : Vec F S32x32x128 .f32) (k : ℕ) (h : k < 32) :
    (dstB k h).view.read (Elt F) (moved fa z) = (srcB k h).view.read (Elt F) fa := by
  have key : ∀ j : S1x992x128.Idx,
      moved (F := F) fa z ((Rect.unit (s := S32x1024x128) ![k, 0, 0] S1x992x128.size (dst_inb k h)).emb j)
        = fa ((Rect.unit (s := S32x1024x128) ![k, 32, 0] S1x992x128.size (src_inb k h)).emb j) := fun j => by
    have h1 : (j 1).val < 992 := (j 1).isLt
    refine moved_lo _ _ _ _ (show 0 + 1 * (j 1).val < 992 by omega) (show k + 1 * (j 0).val = k + 1 * (j 0).val from rfl) ?_ (show 0 + 1 * (j 2).val = 0 + 1 * (j 2).val from rfl)
    show 32 + 1 * (j 1).val = 0 + 1 * (j 1).val + 32; omega
  funext j
  exact key _

theorem moved_tail (fa : BufA (F := F) c) (z : Vec F S32x32x128 .f32) : tailB.view.read (Elt F) (moved fa z : BufO (F := F) c) = z := by
  funext j
  show moved (F := F) fa z ((Rect.unit (s := S32x1024x128) ![0, 992, 0] S32x32x128.size inb_S32x1024x128_S32x32x128_0_992_0).emb j) = z j
  refine moved_hi _ _ _ j ?_ ?_ ?_
  · show 0 + 1 * (j 0).val = (j 0).val; omega
  · show 992 + 1 * (j 1).val = 992 + (j 1).val; omega
  · show 0 + 1 * (j 2).val = (j 2).val; omega

/-- A block written from its slot is a block of the moved cache. -/
theorem done_eq (fa : BufA (F := F) c) (z : Vec F S32x32x128 .f32) (k : ℕ) (h : k < 32) (fr : BufR (F := F) c) (g : BufO (F := F) c)
    (hl : Loaded c k h fa fr) (hw : Wrote c k h fr g) : heldO c k h g = heldO c k h (moved fa z) := by
  unfold heldO
  rw [pointsTo_rep (c : Thread nD τ) (dstB k h) g, pointsTo_rep (c : Thread nD τ) (dstB k h) (moved fa z), hw, hl, moved_dst]
theorem tail_eq (fa : BufA (F := F) c) (z : Vec F S32x32x128 .f32) (g : BufO (F := F) c)
    (hw : tailB.view.read (Elt F) g = z) : heldT c g = heldT c (moved fa z) := by
  unfold heldT
  rw [pointsTo_rep (c : Thread nD τ) tailB g, pointsTo_rep (c : Thread nD τ) tailB (moved fa z), hw, moved_tail]

end Cert.RotIdeal.Shift

end
-- ==== Proof.RotInv.lean ====
/-
  What the rotary projection holds between its points, and that each point takes it to the next.
-/
module

public import proofs.«01_k».proof.Proof.RotSets

@[expose] public section

set_option maxRecDepth 16384

noncomputable section

namespace Cert.RotIdeal.Shift

open Cert.RotIdeal Cert.RotIdeal.Gen
open Idealize.ShloMosaic
open Idealize.ShloMosaic.TcCoe Idealize.ShloMosaic.Tactic
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type} [FloatOps F]

/-- The resource the triples are stated in. -/
local notation "𝕄" => MT nD τ sig Unit (Elt F) ℕ (Pipeline.UD sig nD τ) ℕ

variable (c : Dev nD) (fa : BufA (F := F) c) (V2 : BufO (F := F) c) (z : Vec F S32x32x128 .f32)

/-- Nothing in flight: the whole cache, the moved cache at `g`, both slots and every cell. -/
def Rest (g : BufO (F := F) c) : sProp 𝕄 :=
  iprop((((c : Thread nD τ).loc main_v14) ↦{fullShare} fa) ∗ (((c : Thread nD τ).loc main_v16_1) ↦{fullShare} g)
    ∗ (∃ f, heldR c 0 f) ∗ (∃ f, heldR c 1 f) ∗ idle c (cellB 0 0 (by decide)) ∗ idle c (cellB 0 1 (by decide)) ∗ idle c (cellB 1 0 (by decide)) ∗ idle c (cellB 1 1 (by decide)))

/-- The slot the next copy in takes, as point `n` leaves it: in the hands of a copy out, or free. -/
def Slot (n : ℕ) (h : n < 31) : sProp 𝕄 :=
  if 1 ≤ n then iprop(∃ fr, flyOut c (n - 1) (by omega) (moved fa z) fr) else iprop((∃ fr, heldR c (n + 1) fr) ∗ idle c (cellB 1 (n + 1) (by decide)))

/-- What point `n` leaves, other than the last: block `n` on its way in. -/
def Mid (n : ℕ) (h : n < 31) : sProp 𝕄 :=
  iprop((∃ fr, ⌜Loaded c n (by omega) fa fr⌝ ∗ flyIn c n (by omega) fr fa) ∗ partA c (fun i => sn i ≠ n) fa ∗ Slot c fa z n h
    ∗ idle c (cellB 0 (n + 1) (by decide)) ∗ idle c (cellB 1 n (by decide))
    ∗ partO c (fun i => bn i < n - 1) (moved fa z) ∗ partO c (fun i => n ≤ bn i) V2)

variable (t : Fin cfg0.N) (arg2 : Memref sig .tc .vmem S1024x2048 .bf16) (harg2 : arg2.IsWhole) (arg3 : Memref sig .tc .vmem S2048x1024 .f32) (harg3 : arg3.IsWhole)
  (arg4 : Memref sig .tc .vmem S1x2x1024x128 .f32) (harg4 : arg4.IsWhole)
  (arg6 : Memref sig .tc .vmem S32x32x128 .f32) (harg6 : arg6.IsWhole) (arg7 : Memref sig .tc .vmem S1024x1024 .bf16) (harg7 : arg7.IsWhole)

theorem flyOut_congr {m n : ℕ} (h : m = n) (hm : m < 32) (hn : n < 32) (fo : BufO (F := F) c) (fr : BufR (F := F) c) : flyOut c m hm fo fr = flyOut c n hn fo fr := by
  subst h; rfl
theorem partO_congr (p q : S32x1024x128.Idx → Prop) [DecidablePred p] [DecidablePred q] (h : ∀ i, p i ↔ q i) (f : BufO (F := F) c) : partO c p f = partO c q f :=
  congrArg (fun S : Finset S32x1024x128.Idx => (((c : Thread nD τ).loc main_v16_1) ↦[S]{fullShare} f : sProp 𝕄)) (Finset.ext fun i => by simp [h i])

/-- A first part that leaves more alone leaves it. -/
theorem frees_frame (P Z R : sProp 𝕄) (fr : BufR (F := F) c) (h : Frees c t arg2 harg2 arg3 harg3 arg4 harg4 arg6 harg6 arg7 harg7 P Z fr) :
    Frees c t arg2 harg2 arg3 harg3 arg4 harg4 arg6 harg6 arg7 harg7 iprop(P ∗ R) iprop(R ∗ Z) fr := by
  intro W Q
  iintro ⟨⟨HP, HR⟩, HO, Hk⟩
  iapply h W Q
  isplitl [HP]; · iexact HP
  isplitl [HO]; · iexact HO
  iintro %r ⟨%hr, H1, H2, H3⟩
  iapply Hk
  isplitr [H1 H2 H3 HR]; · ipureintro; exact hr
  isplitl [H1]; · iexact H1
  isplitl [H2 HR]
  · isplitl [HR]; · iexact HR
    iexact H2
  iexact H3

/-- At every point after the first the slot is, or is made, free, and the block copied out of it is done. -/
theorem slot_frees (h1 : 1 ≤ t.val) (h : t.val - 1 < 31) (R G : sProp 𝕄)
    (hG : ∀ (P Z : sProp 𝕄) (fr : BufR (F := F) c), Frees c t arg2 harg2 arg3 harg3 arg4 harg4 arg6 harg6 arg7 harg7 P iprop(idle c (cellB 1 t.val (by decide)) ∗ Z) fr →
      iprop(P ∗ (Z -∗ partO c (fun i => bn i < t.val - 1) (moved fa z)) ∗ R) ⊢ G) :
    iprop(Slot c fa z (t.val - 1) h ∗ partO c (fun i => bn i < t.val - 1 - 1) (moved fa z) ∗ R) ⊢ G := by
  by_cases h2 : 2 ≤ t.val
  · unfold Slot
    rw [if_pos (by omega)]
    iintro ⟨⟨%fr, HF⟩, HD, HR⟩
    iapply (hG _ _ fr (frees_late c t arg2 harg2 arg3 harg3 arg4 harg4 arg6 harg6 arg7 harg7 h2 (by omega) (moved fa z) fr))
    isplitl [HF]; · rw [flyOut_congr c (m := t.val - 2) (n := t.val - 1 - 1) (by omega) (by omega) (by omega)]; iexact HF
    isplitr [HR]
    · iintro HZ
      iapply (cutO c (fun i => bn i < t.val - 1) (fun i => bn i = t.val - 2) (fun i => bn i < t.val - 1 - 1) (moved fa z) (fun i => by omega) (fun i a b => by omega)).2
      isplitl [HZ]; · rw [← eqO c (t.val - 2) (by omega)]; iexact HZ
      iexact HD
    iexact HR
  · have e : t.val - 1 = 0 := by omega
    unfold Slot
    rw [if_neg (by omega)]
    iintro ⟨⟨⟨%fr, HF⟩, HI⟩, HD, HR⟩
    iapply (hG _ _ fr (frees_frame c t arg2 harg2 arg3 harg3 arg4 harg4 arg6 harg6 arg7 harg7 _ _ _ fr (frees_early c t arg2 harg2 arg3 harg3 arg4 harg4 arg6 harg6 arg7 harg7 h2 fr)))
    isplitl [HF HI]
    · isplitl [HF]; · rw [heldR_congr c (m := t.val) (n := t.val - 1 + 1) (by omega)]; iexact HF
      rw [cellB_congr 1 (by decide) (m := t.val) (n := t.val - 1 + 1) (by omega)]; iexact HI
    isplitr [HR]
    · iintro -
      rw [partO_congr c (fun i => bn i < t.val - 1) (fun i => bn i < t.val - 1 - 1) (fun i => by omega)]
      iexact HD
    iexact HR

variable (x : Vec F S1024x2048 .bf16) (w : Vec F S2048x1024 .f32) (tb : Vec F S1x2x1024x128 .f32)

/-- What a point gives back, besides its copies. -/
abbrev Back : sProp 𝕄 :=
  iprop((∃ W', owes c.tc 0 W') ∗ Ins c arg2 arg3 arg4 arg6 x w tb z ∗ owns c.tc arg7 fullShare (rotOut tb x (narrow w))
    ∗ (∃ y', ⌜wM.view.read (Elt F) y' = narrow w⌝ ∗ heldW c y'))

/-- A point after the first and before the last, its weights new or kept. -/
theorem mid (h1 : 1 ≤ t.val) (h31 : t.val ≠ 31) (hk : t.val < 32) (hk1 : t.val - 1 < 32)
    (P Z : sProp 𝕄) (fr fr1 : BufR (F := F) c) (h6 : Frees c t arg2 harg2 arg3 harg3 arg4 harg4 arg6 harg6 arg7 harg7 P Z fr)
    (g : BufO (F := F) c) (y : BufW (F := F) c) (hy : t.val % 16 ≠ 0 → wM.view.read (Elt F) y = narrow w) (W : Waits sig Unit) (K : PUnit → sProp 𝕄) :
    iprop(P ∗ flyIn c (t.val - 1) hk1 fr1 fa ∗ heldA c t.val hk fa ∗ idle c (cellB 0 t.val (by decide))
        ∗ heldO c (t.val - 1) hk1 g ∗ idle c (cellB 1 (t.val - 1) (by decide))
        ∗ owes c.tc 0 W ∗ Ins c arg2 arg3 arg4 arg6 x w tb z ∗ (∃ d, owns c.tc arg7 fullShare d) ∗ heldW c y
        ∗ (iprop(Z ∗ (∃ fr', ⌜Loaded c t.val hk fa fr'⌝ ∗ flyIn c t.val hk fr' fa)
            ∗ heldA c (t.val - 1) hk1 fa ∗ idle c (cellB 0 (t.val - 1) (by decide))
            ∗ (∃ g', ⌜Wrote c (t.val - 1) hk1 fr1 g'⌝ ∗ flyOut c (t.val - 1) hk1 g' fr1)
            ∗ Back c z arg2 arg3 arg4 arg6 arg7 x w tb) -∗ K ⟨⟩))
      ⊢ wp frame (wpE (defs₀ (F := F)) Variants.none c none) Set.univ (body t arg2 harg2 arg3 harg3 arg4 harg4 arg6 harg6 arg7 harg7) K := by
  by_cases h16 : t.val % 16 = 0
  · exact mid_fresh c t arg2 harg2 arg3 harg3 arg4 harg4 arg6 harg6 arg7 harg7 x w tb z h1 h31 h16 hk hk1 P Z fr fr1 h6 fa g y W K
  · have := mid_keep c t arg2 harg2 arg3 harg3 arg4 harg4 arg6 harg6 arg7 harg7 x w tb z h1 h31 h16 hk hk1 P Z fr fr1 h6 fa g y W K
    rw [hy h16] at this
    exact this

/-- The first point. -/
theorem step_first (h0 : t.val = 0) (ht : t.val < 31) (y : BufW (F := F) c) (W : Waits sig Unit) (K : PUnit → sProp 𝕄) :
    iprop(Rest c fa V2 ∗ owes c.tc 0 W ∗ Ins c arg2 arg3 arg4 arg6 x w tb z ∗ (∃ d, owns c.tc arg7 fullShare d) ∗ heldW c y
        ∗ (iprop(Mid c fa V2 z t.val ht ∗ Back c z arg2 arg3 arg4 arg6 arg7 x w tb) -∗ K ⟨⟩))
      ⊢ wp frame (wpE (defs₀ (F := F)) Variants.none c none) Set.univ (body t arg2 harg2 arg3 harg3 arg4 harg4 arg6 harg6 arg7 harg7) K := by
  unfold Rest
  rw [allA c (fun _ => True) (fun _ => trivial), allO c (fun i => t.val ≤ bn i) (fun i => by omega)]
  iintro ⟨⟨HA, HD, ⟨%f0, HR0⟩, HR1, HI0, HI1, HO0, HO1⟩, HW, Hin, Hout, HY, Hk⟩
  ihave HA2 := (cutA c (fun _ => True) (fun i => sn i = t.val) (fun i => sn i ≠ t.val) fa (fun i => by simp [em]) (fun i a b => b a)).1 $$ HA
  icases HA2 with ⟨HA, HA'⟩
  iapply (first c t arg2 harg2 arg3 harg3 arg4 harg4 arg6 harg6 arg7 harg7 x w tb z (by omega) (by omega) (by omega) (by omega) _ _ f0
    (frees_early c t arg2 harg2 arg3 harg3 arg4 harg4 arg6 harg6 arg7 harg7 (by omega) f0) fa y W K)
  isplitl [HR0]; · rw [heldR_congr c (m := t.val) (n := 0) (by omega)]; iexact HR0
  isplitl [HA]; · rw [eqA c t.val (by omega)]; iexact HA
  isplitl [HI0]; · rw [cellB_congr 0 (by decide) (m := t.val) (n := 0) (by omega)]; iexact HI0
  isplitl [HW]; · iexact HW
  isplitl [Hin]; · iexact Hin
  isplitl [Hout]; · iexact Hout
  isplitl [HY]; · iexact HY
  iintro ⟨-, HF, HB⟩
  iapply Hk
  isplitr [HB]
  swap; · iexact HB
  unfold Mid Slot
  rw [if_neg (show ¬ 1 ≤ t.val by omega)]
  isplitl [HF]; · iexact HF
  isplitl [HA']; · iexact HA'
  isplitl [HR1 HO1]
  · isplitl [HR1]
    · icases HR1 with ⟨%f1, HR1⟩
      iexists f1; rw [heldR_congr c (m := t.val + 1) (n := 1) (by omega)]; iexact HR1
    rw [cellB_congr 1 (by decide) (m := t.val + 1) (n := 1) (by omega)]; iexact HO1
  isplitl [HI1]; · rw [cellB_congr 0 (by decide) (m := t.val + 1) (n := 1) (by omega)]; iexact HI1
  isplitl [HO0]; · rw [cellB_congr 1 (by decide) (m := t.val) (n := 0) (by omega)]; iexact HO0
  isplitr
  · have e : (Finset.univ.filter (fun i => bn i < t.val - 1) : Finset S32x1024x128.Idx) = ∅ := Finset.ext fun i => by simp; omega
    unfold partO; rw [e]
    iapply (Entails.of_eq (pointsTo_empty (ℓ := (c : Thread nD τ).loc main_v16_1)).symm)
    iempintro
  iexact HD

/-- A point between the first and the last. -/
theorem step_mid (h1 : 1 ≤ t.val) (ht : t.val < 31) (ht1 : t.val - 1 < 31) (y : BufW (F := F) c) (hy : t.val % 16 ≠ 0 → wM.view.read (Elt F) y = narrow w) (W : Waits sig Unit) (K : PUnit → sProp 𝕄) :
    iprop(Mid c fa V2 z (t.val - 1) ht1 ∗ owes c.tc 0 W ∗ Ins c arg2 arg3 arg4 arg6 x w tb z ∗ (∃ d, owns c.tc arg7 fullShare d) ∗ heldW c y
        ∗ (iprop(Mid c fa V2 z t.val ht ∗ Back c z arg2 arg3 arg4 arg6 arg7 x w tb) -∗ K ⟨⟩))
      ⊢ wp frame (wpE (defs₀ (F := F)) Variants.none c none) Set.univ (body t arg2 harg2 arg3 harg3 arg4 harg4 arg6 harg6 arg7 harg7) K := by
  iintro ⟨HM, HR⟩
  unfold Mid
  icases HM with ⟨⟨%fr1, %hl, HF⟩, HA, HS, HI, HO, HD, HU⟩
  iapply (slot_frees c fa z t arg2 harg2 arg3 harg3 arg4 harg4 arg6 harg6 arg7 harg7 h1 ht1
    iprop(flyIn c (t.val - 1) (by omega) fr1 fa ∗ partA c (fun i => sn i ≠ t.val - 1) fa ∗ idle c (cellB 0 (t.val - 1 + 1) (by decide)) ∗ idle c (cellB 1 (t.val - 1) (by decide))
      ∗ partO c (fun i => t.val - 1 ≤ bn i) V2
      ∗ owes c.tc 0 W ∗ Ins c arg2 arg3 arg4 arg6 x w tb z ∗ (∃ d, owns c.tc arg7 fullShare d) ∗ heldW c y
        ∗ (iprop(Mid c fa V2 z t.val ht ∗ Back c z arg2 arg3 arg4 arg6 arg7 x w tb) -∗ K ⟨⟩)) _ ?_)
  · intro P Z fr h6
    iintro ⟨HP, HZ, HF, HA, HI, HO, HU, HW, Hin, Hout, HY, Hk⟩
    ihave HA2 := (cutA c (fun i => sn i ≠ t.val - 1) (fun i => sn i = t.val) (fun i => sn i ≠ t.val - 1 ∧ sn i ≠ t.val) fa (fun i => by omega) (fun i a b => b.2 a)).1 $$ HA
    icases HA2 with ⟨HA, HA'⟩
    ihave HU2 := (cutO c (fun i => t.val - 1 ≤ bn i) (fun i => bn i = t.val - 1) (fun i => t.val ≤ bn i) V2 (fun i => by omega) (fun i a b => by omega)).1 $$ HU
    icases HU2 with ⟨HU, HU'⟩
    iapply (mid c fa z t arg2 harg2 arg3 harg3 arg4 harg4 arg6 harg6 arg7 harg7 x w tb h1 (by omega) (by omega) (by omega) P _ fr fr1 h6 V2 y hy W K)
    isplitl [HP]; · iexact HP
    isplitl [HF]; · iexact HF
    isplitl [HA]; · rw [eqA c t.val (by omega)]; iexact HA
    isplitl [HI]; · rw [cellB_congr 0 (by decide) (m := t.val) (n := t.val - 1 + 1) (by omega)]; iexact HI
    isplitl [HU]; · rw [eqO c (t.val - 1) (by omega)]; iexact HU
    isplitl [HO]; · iexact HO
    isplitl [HW]; · iexact HW
    isplitl [Hin]; · iexact Hin
    isplitl [Hout]; · iexact Hout
    isplitl [HY]; · iexact HY
    iintro ⟨⟨HO1, HZ'⟩, HF, HA, HI, ⟨%g', %hw, HG⟩, HB⟩
    iapply Hk
    isplitr [HB]
    swap; · iexact HB
    unfold Mid Slot
    rw [if_pos h1]
    isplitl [HF]; · iexact HF
    isplitl [HA HA']
    · iapply (cutA c (fun i => sn i ≠ t.val) (fun i => sn i = t.val - 1) (fun i => sn i ≠ t.val - 1 ∧ sn i ≠ t.val) fa (fun i => by omega) (fun i a b => b.1 a)).2
      isplitl [HA]; · rw [← eqA c (t.val - 1) (by omega)]; iexact HA
      iexact HA'
    isplitl [HG]
    · iexists fr1
      rw [← show flyOut c (t.val - 1) (by omega) g' fr1 = flyOut c (t.val - 1) (by omega) (moved fa z) fr1 from by
        unfold flyOut; rw [done_eq c fa z (t.val - 1) (by omega) fr1 g' hl hw]]
      iexact HG
    isplitl [HI]; · rw [cellB_congr 0 (by decide) (m := t.val + 1) (n := t.val - 1) (by omega)]; iexact HI
    isplitl [HO1]; · iexact HO1
    isplitl [HZ HZ']; · iapply HZ; iexact HZ'
    iexact HU'
  · isplitl [HS]; · iexact HS
    isplitl [HD]; · iexact HD
    isplitl [HF]; · iexact HF
    isplitl [HA]; · iexact HA
    isplitl [HI]; · iexact HI
    isplitl [HO]; · iexact HO
    isplitl [HU]; · iexact HU
    unfold Mid
    iexact HR

/-- The last point, which waits for every copy. -/
theorem step_last (ht : t.val = 31) (ht1 : t.val - 1 < 31) (y : BufW (F := F) c) (hy : wM.view.read (Elt F) y = narrow w) (W : Waits sig Unit) (K : PUnit → sProp 𝕄) :
    iprop(Mid c fa V2 z (t.val - 1) ht1 ∗ idle c tailC ∗ owes c.tc 0 W ∗ Ins c arg2 arg3 arg4 arg6 x w tb z ∗ (∃ d, owns c.tc arg7 fullShare d) ∗ heldW c y
        ∗ (iprop(Rest c fa (moved fa z) ∗ idle c tailC ∗ Back c z arg2 arg3 arg4 arg6 arg7 x w tb) -∗ K ⟨⟩))
      ⊢ wp frame (wpE (defs₀ (F := F)) Variants.none c none) Set.univ (body t arg2 harg2 arg3 harg3 arg4 harg4 arg6 harg6 arg7 harg7) K := by
  iintro ⟨HM, HR⟩
  unfold Mid
  icases HM with ⟨⟨%fr1, %hl, HF⟩, HA, HS, HI, HO, HD, HU⟩
  iapply (slot_frees c fa z t arg2 harg2 arg3 harg3 arg4 harg4 arg6 harg6 arg7 harg7 (by omega) ht1
    iprop(flyIn c (t.val - 1) (by omega) fr1 fa ∗ partA c (fun i => sn i ≠ t.val - 1) fa ∗ idle c (cellB 0 (t.val - 1 + 1) (by decide)) ∗ idle c (cellB 1 (t.val - 1) (by decide))
      ∗ partO c (fun i => t.val - 1 ≤ bn i) V2 ∗ idle c tailC
      ∗ owes c.tc 0 W ∗ Ins c arg2 arg3 arg4 arg6 x w tb z ∗ (∃ d, owns c.tc arg7 fullShare d) ∗ heldW c y
        ∗ (iprop(Rest c fa (moved fa z) ∗ idle c tailC ∗ Back c z arg2 arg3 arg4 arg6 arg7 x w tb) -∗ K ⟨⟩)) _ ?_)
  · intro P Z fr h6
    iintro ⟨HP, HZ, HF, HA, HI, HO, HU, HT, HW, Hin, Hout, HY, Hk⟩
    ihave HA2 := (cutA c (fun i => sn i ≠ t.val - 1) (fun i => sn i = t.val) (fun i => sn i ≠ t.val - 1 ∧ sn i ≠ t.val) fa (fun i => by omega) (fun i a b => b.2 a)).1 $$ HA
    icases HA2 with ⟨HA, HA'⟩
    ihave HU2 := (cutO c (fun i => t.val - 1 ≤ bn i) (fun i => bn i = t.val - 1) (fun i => t.val ≤ bn i) V2 (fun i => by omega) (fun i a b => by omega)).1 $$ HU
    icases HU2 with ⟨HU, HU'⟩
    ihave HU3 := (cutO c (fun i => t.val ≤ bn i) (fun i => bn i = t.val) (fun i => bn i = 32) V2 (fun i => by have := bn_le i; omega) (fun i a b => by omega)).1 $$ HU'
    icases HU3 with ⟨HU1, HU2⟩
    have hk := last c t arg2 harg2 arg3 harg3 arg4 harg4 arg6 harg6 arg7 harg7 x w tb z (by omega) ht (by omega) (by omega) (by omega) P Z fr fr1 h6 fa V2 y W K
    rw [hy] at hk
    iapply hk
    isplitl [HP]; · iexact HP
    isplitl [HF]; · iexact HF
    isplitl [HA]; · rw [eqA c t.val (by omega)]; iexact HA
    isplitl [HI]; · rw [cellB_congr 0 (by decide) (m := t.val) (n := t.val - 1 + 1) (by omega)]; iexact HI
    isplitl [HU]; · rw [eqO c (t.val - 1) (by omega)]; iexact HU
    isplitl [HO]; · iexact HO
    isplitl [HU1]; · rw [eqO c t.val (by omega)]; iexact HU1
    isplitl [HU2]; · rw [eqT c]; iexact HU2
    isplitl [HT]; · iexact HT
    isplitl [HW]; · iexact HW
    isplitl [Hin]; · iexact Hin
    isplitl [Hout]; · iexact Hout
    isplitl [HY]; · iexact HY
    iintro ⟨HZ', ⟨%f2, %g2, %hl2, %hw2, HR1, HG2⟩, HR0, ⟨%g1, %hw1, HG1⟩, ⟨%g3, %hw3, HG3⟩, HA, HA1, HI1, HI0, HO1, HO0, HT, HB⟩
    iapply Hk
    isplitr [HB HT]
    swap
    · isplitl [HT]; · iexact HT
      iexact HB
    ihave HG2 := (Entails.of_eq (done_eq c fa z t.val _ f2 g2 hl2 hw2)) $$ HG2
    ihave HG1 := (Entails.of_eq (done_eq c fa z (t.val - 1) _ fr1 g1 hl hw1)) $$ HG1
    ihave HG3 := (Entails.of_eq (tail_eq c fa z g3 hw3)) $$ HG3
    unfold Rest
    isplitl [HA HA1 HA']
    · rw [allA c (fun _ => True) (fun _ => trivial)]
      iapply (cutA c (fun _ => True) (fun i => sn i = t.val) (fun i => sn i ≠ t.val) fa (fun i => by simp [em]) (fun i a b => b a)).2
      isplitl [HA]; · rw [← eqA c t.val (by omega)]; iexact HA
      iapply (cutA c (fun i => sn i ≠ t.val) (fun i => sn i = t.val - 1) (fun i => sn i ≠ t.val - 1 ∧ sn i ≠ t.val) fa (fun i => by omega) (fun i a b => b.1 a)).2
      isplitl [HA1]; · rw [← eqA c (t.val - 1) (by omega)]; iexact HA1
      iexact HA'
    isplitl [HZ HZ' HG1 HG2 HG3]
    · rw [allO c (fun _ => True) (fun _ => trivial)]
      iapply (cutO c (fun _ => True) (fun i => bn i < t.val - 1) (fun i => t.val - 1 ≤ bn i) (moved fa z) (fun i => ⟨fun _ => by omega, fun _ => trivial⟩) (fun i a b => by omega)).2
      isplitl [HZ HZ']; · iapply HZ; iexact HZ'
      iapply (cutO c (fun i => t.val - 1 ≤ bn i) (fun i => bn i = t.val - 1) (fun i => t.val ≤ bn i) (moved fa z) (fun i => by omega) (fun i a b => by omega)).2
      isplitl [HG1]; · rw [← eqO c (t.val - 1) (by omega)]; iexact HG1
      iapply (cutO c (fun i => t.val ≤ bn i) (fun i => bn i = t.val) (fun i => bn i = 32) (moved fa z) (fun i => by have := bn_le i; omega) (fun i a b => by omega)).2
      isplitl [HG2]; · rw [← eqO c t.val (by omega)]; iexact HG2
      rw [← eqT c]; iexact HG3
    isplitl [HR0]; · iexists fr1; rw [heldR_congr c (m := 0) (n := t.val - 1) (by omega)]; iexact HR0
    isplitl [HR1]; · iexists f2; rw [heldR_congr c (m := 1) (n := t.val) (by omega)]; iexact HR1
    isplitl [HI0]; · rw [cellB_congr 0 (by decide) (m := 0) (n := t.val - 1) (by omega)]; iexact HI0
    isplitl [HI1]; · rw [cellB_congr 0 (by decide) (m := 1) (n := t.val) (by omega)]; iexact HI1
    isplitl [HO0]; · rw [cellB_congr 1 (by decide) (m := 0) (n := t.val - 1) (by omega)]; iexact HO0
    rw [cellB_congr 1 (by decide) (m := 1) (n := t.val) (by omega)]; iexact HO1
  · isplitl [HS]; · iexact HS
    isplitl [HD]; · iexact HD
    isplitl [HF]; · iexact HF
    isplitl [HA]; · iexact HA
    isplitl [HI]; · iexact HI
    isplitl [HO]; · iexact HO
    isplitl [HU]; · iexact HU
    iexact HR

end Cert.RotIdeal.Shift

end
-- ==== Proof.RotFrame.lean ====
/-
  The rotary projection over its whole grid: the blocks each point takes and leaves, and the state every run ends in.
-/
module

public import proofs.«01_k».proof.Proof.RotInv
public import Idealize.ShloMosaic.Lib.Pipeline.TableIdle
public import Idealize.ShloMosaic.Lib.Pipeline.Quiescent
public import Idealize.ShloMosaic.Lib.Claim

@[expose] public section

set_option maxRecDepth 16384

noncomputable section

namespace Cert.RotIdeal.Shift

open Cert.RotIdeal Cert.RotIdeal.Gen
open Idealize.ShloMosaic
open Idealize.ShloMosaic.TcCoe Idealize.ShloMosaic.Tactic
open Idealize.SL Idealize.SL.RA Idealize.SL.BI
open scoped Idealize.SL.BI
open Idealize.ShloMosaic.ValueIdx Idealize.ShloMosaic.Rounds
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The resource the triples are stated in. -/
local notation "𝕄" => MT nD τ sig Unit (Elt F) ℕ (Pipeline.UD sig nD τ) ℕ

variable (m : (ℓ : Loc nD τ sig) → Buf (Elt F) ℓ) (ρ : Dev nD → PrngReg)

/-! ## The buffers when the grid starts -/

/-- The buffers after the table and the two reshapes. -/
abbrev V (c : Dev nD) (b : Ref sig .tc) : Buf (Elt F) ((c : Thread nD τ).loc b) := StableHlo.after hostOps0 (fun b => m (c, b)) b

theorem nothing_fresh : (hostOps0 : List (HloOp τ sig (Elt F))).Forall fun op => op.fresh = ∅ := by
  simp only [List.Forall]; repeat' constructor

set_option maxHeartbeats 800000 in
theorem starts (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub nothing_fresh main_chain

/-- A buffer no operation before the grid writes is as it was. -/
theorem V_kept (c : Dev nD) (b : Ref sig .tc) (h : ([main_v0, main_v1, main_v2, main_v3, main_v4, main_v5, main_v6, main_v7, main_v8, main_cst, main_v9, main_v10, main_v11, main_v12, main_v13, main_v14, main_v15] : List (Ref sig .tc)).Forall fun x => b ≠ x) : V m c b = m ((c : Thread nD τ).loc b) := by
  simp only [List.Forall] at h
  obtain ⟨h0, h1, h2, h3, h4, h5, h6, h7, h8, h9, h10, h11, h12, h13, h14, h15, h16⟩ := h
  exact StableHlo.after_of_forall_not_mem (b := Proc.devRef .tc b) _ _ (List.forall_iff_forall_mem.mp (by
    simp only [hostOps0, List.Forall, StableHlo.reshape_writes, StableHlo.unary_writes, StableHlo.binary_writes, StableHlo.nullary_writes, Finset.mem_singleton]
    refine ⟨?_, ?_, ?_, ?_, ?_, ?_, ?_, ?_, ?_, ?_, ?_, ?_, ?_, ?_, ?_, ?_, ?_⟩ <;> exact StableHlo.devRef_ne_of_ne (by assumption)))

/-! ## The blocks -/

def blkAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev uAt (c : Dev nD) (t : Fin cfg0.N) : Vec F S1024x2048 .bf16 := blkAt m c (0 : Fin 5) t
abbrev wAt (c : Dev nD) (t : Fin cfg0.N) : Vec F S2048x1024 .f32 := blkAt m c (1 : Fin 5) t
abbrev tAt (c : Dev nD) (t : Fin cfg0.N) : Vec F S1x2x1024x128 .f32 := blkAt m c (2 : Fin 5) t
abbrev zAt (c : Dev nD) (t : Fin cfg0.N) : Vec F S32x32x128 .f32 := blkAt m c (3 : Fin 5) t

theorem index0 : ∀ t : Fin grid0.N, cc0_transform_0 (grid0.coords t) = ![t.val % 16, 0] := by decide +kernel
theorem index1 : ∀ t : Fin grid0.N, cc0_transform_1 (grid0.coords t) = ![0, 1024 * (t.val / 16)] := by decide +kernel
theorem index2 : ∀ t : Fin grid0.N, cc0_transform_2 (grid0.coords t) = ![t.val / 16, 0, t.val % 8, 0] := by decide +kernel
theorem index3 : ∀ t : Fin grid0.N, cc0_transform_4 (grid0.coords t) = ![0, 0, 0] := by decide +kernel

theorem lt_N (t : Fin cfg0.N) : t.val < 32 := lt_of_lt_of_eq t.isLt (show cfg0.N = 32 from N_0)

theorem uAt_eq (c : Dev nD) (t : Fin cfg0.N) :
    uAt m c t = fun j => V m c main_arg0 (ix2 ⟨1024 * (t.val % 16) + (j 0).val, by have := lt_N t; have : (j 0).val < 1024 := (j 0).isLt; omega⟩ (j 1) : S16384x2048.Idx) := by
  funext j
  unfold uAt blkAt
  rw [View.read_apply]
  show V m c main_arg0 _ = _
  congr 1
  funext a
  apply Fin.ext
  have e := index0 t
  match a with
  | ⟨0, _⟩ => show cc0_transform_0 (grid0.coords t) 0 * 1024 + 1 * (j 0).val = 1024 * (t.val % 16) + (j 0).val; rw [e]; show t.val % 16 * 1024 + 1 * (j 0).val = _; omega
  | ⟨1, _⟩ => show cc0_transform_0 (grid0.coords t) 1 * 2048 + 1 * (j 1).val = (j 1).val; rw [e]; show 0 * 2048 + 1 * (j 1).val = _; omega

theorem wAt_eq (c : Dev nD) (t : Fin cfg0.N) :
    wAt m c t = fun j => V m c main_arg1 (ix2 (j 0) ⟨1024 * (t.val / 16) + (j 1).val, by have := lt_N t; have : (j 1).val < 1024 := (j 1).isLt; omega⟩ : S2048x12800.Idx) := by
  funext j
  unfold wAt blkAt
  rw [View.read_apply]
  show V m c main_arg1 _ = _
  congr 1
  funext a
  apply Fin.ext
  have e := index1 t
  match a with
  | ⟨0, _⟩ => show cc0_transform_1 (grid0.coords t) 0 + 1 * (j 0).val = (j 0).val; rw [e]; show 0 + 1 * (j 0).val = _; omega
  | ⟨1, _⟩ => show cc0_transform_1 (grid0.coords t) 1 + 1 * (j 1).val = 1024 * (t.val / 16) + (j 1).val; rw [e]; show 1024 * (t.val / 16) + 1 * (j 1).val = _; omega

theorem tAt_eq (c : Dev nD) (t : Fin cfg0.N) :
    tAt m c t = fun j => V m c main_v13 (ix4 ⟨t.val / 16, by have := lt_N t; omega⟩ (j 1) ⟨1024 * (t.val % 8) + (j 2).val, by have : (j 2).val < 1024 := (j 2).isLt; omega⟩ (j 3) : S2x2x8192x128.Idx) := by
  funext j
  unfold tAt blkAt
  rw [View.read_apply]
  show V m c main_v13 _ = _
  congr 1
  funext a
  apply Fin.ext
  have e := index2 t
  have h0 : (j 0).val < 1 := (j 0).isLt
  match a with
  | ⟨0, _⟩ => show cc0_transform_2 (grid0.coords t) 0 * 1 + 1 * (j 0).val = t.val / 16; rw [e]; show t.val / 16 * 1 + 1 * (j 0).val = _; omega
  | ⟨1, _⟩ => show cc0_transform_2 (grid0.coords t) 1 * 2 + 1 * (j 1).val = (j 1).val; rw [e]; show 0 * 2 + 1 * (j 1).val = _; omega
  | ⟨2, _⟩ => show cc0_transform_2 (grid0.coords t) 2 * 1024 + 1 * (j 2).val = 1024 * (t.val % 8) + (j 2).val; rw [e]; show t.val % 8 * 1024 + 1 * (j 2).val = _; omega
  | ⟨3, _⟩ => show cc0_transform_2 (grid0.coords t) 3 * 128 + 1 * (j 3).val = (j 3).val; rw [e]; show 0 * 128 + 1 * (j 3).val = _; omega

theorem zAt_eq (c : Dev nD) (t : Fin cfg0.N) : zAt m c t = V m c main_v15 := by
  funext j
  unfold zAt blkAt
  rw [View.read_apply]
  show V m c main_v15 _ = _
  congr 1
  funext a
  apply Fin.ext
  have e := index3 t
  match a with
  | ⟨0, _⟩ => show cc0_transform_4 (grid0.coords t) 0 * 32 + 1 * (j 0).val = (j 0).val; rw [e]; show 0 * 32 + 1 * (j 0).val = _; omega
  | ⟨1, _⟩ => show cc0_transform_4 (grid0.coords t) 1 * 32 + 1 * (j 1).val = (j 1).val; rw [e]; show 0 * 32 + 1 * (j 1).val = _; omega
  | ⟨2, _⟩ => show cc0_transform_4 (grid0.coords t) 2 * 128 + 1 * (j 2).val = (j 2).val; rw [e]; show 0 * 128 + 1 * (j 2).val = _; omega

/-- Points of one column block take the same weights. -/
theorem same_weights (c : Dev nD) (t s : Fin cfg0.N) (h : s.val / 16 = t.val / 16) : wAt m c s = wAt m c t := by
  rw [wAt_eq, wAt_eq]
  funext j
  congr 1
  funext a
  apply Fin.ext
  match a with
  | ⟨0, _⟩ => rfl
  | ⟨1, _⟩ => show 1024 * (s.val / 16) + (j 1).val = 1024 * (t.val / 16) + (j 1).val; rw [h]

/-! ## The pipeline's data -/

/-- What the moved cache ends at. -/
abbrev newCache (c : Dev nD) : BufO (F := F) c := moved (F := F) (V m c main_v14) (V m c main_v15)

/-- The copies before point `n`. -/
def Copies (c : Dev nD) (n : ℕ) : sProp 𝕄 :=
  if h : 1 ≤ n ∧ n ≤ 31 then Mid c (V m c main_v14) (V m c main_v16_1) (V m c main_v15) (n - 1) (by omega)
  else if n = 0 then Rest c (V m c main_v14) (V m c main_v16_1) else Rest c (V m c main_v14) (newCache m c)

/-- What is held before point `n`. -/
def Held (c : Dev nD) (n : ℕ) : sProp 𝕄 :=
  iprop(Copies m c n ∗ (∃ y, ⌜∀ s : Fin cfg0.N, s.val + 1 = n → wM.view.read (Elt F) y = narrow (wAt m c s)⌝ ∗ heldW c y)
    ∗ idle c tailC ∗ idle c (cellB 2 1 (by decide)) ∗ (∃ r, prngReg c r))

def dat (_ : Fin 1) (c : Dev nD) : Dat τ (Elt F) Unit ℕ (Pipeline.UD sig nD τ) ℕ cfg0 c where
  A w := V m c (Pipeline.arrRef spec0 w)
  after w t := match w with
    | ⟨0, _⟩ => blkAt m c (0 : Fin 5) t
    | ⟨1, _⟩ => blkAt m c (1 : Fin 5) t
    | ⟨2, _⟩ => blkAt m c (2 : Fin 5) t
    | ⟨3, _⟩ => blkAt m c (3 : Fin 5) t
    | ⟨4, _⟩ => rotOut (tAt m c t) (uAt m c t) (narrow (wAt m c t))
  Φ t := Held m c t.val
  q _ := fullShare
  owed _ := 0

theorem after0 (c : Dev nD) (t : Fin cfg0.N) : (dat m 0 c).after (0 : Fin 5) t = blkAt m c (0 : Fin 5) t := rfl
theorem after1 (c : Dev nD) (t : Fin cfg0.N) : (dat m 0 c).after (1 : Fin 5) t = blkAt m c (1 : Fin 5) t := rfl
theorem after2 (c : Dev nD) (t : Fin cfg0.N) : (dat m 0 c).after (2 : Fin 5) t = blkAt m c (2 : Fin 5) t := rfl
theorem after3 (c : Dev nD) (t : Fin cfg0.N) : (dat m 0 c).after (3 : Fin 5) t = blkAt m c (3 : Fin 5) t := rfl
theorem after4 (c : Dev nD) (t : Fin cfg0.N) : (dat m 0 c).after (4 : Fin 5) t = rotOut (tAt m c t) (uAt m c t) (narrow (wAt m c t)) := rfl

theorem before0 (c : Dev nD) (t : Fin cfg0.N) (d) : (dat m 0 c).before (0 : Fin 5) t d = blkAt m c (0 : Fin 5) t :=
  ((dat m 0 c).before_in_eq_fetched (0 : Fin 5) rfl (fun _ => rfl) (fun _ _ _ => rfl) (fun t => by rw [after0]; unfold Dat.blockOf blkAt; rfl) t d).trans
    (by unfold Dat.fetched Dat.blockOf blkAt; rfl)
theorem before1 (c : Dev nD) (t : Fin cfg0.N) (d) : (dat m 0 c).before (1 : Fin 5) t d = blkAt m c (1 : Fin 5) t :=
  ((dat m 0 c).before_in_eq_fetched (1 : Fin 5) rfl (fun _ => rfl) (fun _ _ _ => rfl) (fun t => by rw [after1]; unfold Dat.blockOf blkAt; rfl) t d).trans
    (by unfold Dat.fetched Dat.blockOf blkAt; rfl)
theorem before2 (c : Dev nD) (t : Fin cfg0.N) (d) : (dat m 0 c).before (2 : Fin 5) t d = blkAt m c (2 : Fin 5) t :=
  ((dat m 0 c).before_in_eq_fetched (2 : Fin 5) rfl (fun _ => rfl) (fun _ _ _ => rfl) (fun t => by rw [after2]; unfold Dat.blockOf blkAt; rfl) t d).trans
    (by unfold Dat.fetched Dat.blockOf blkAt; rfl)
theorem before3 (c : Dev nD) (t : Fin cfg0.N) (d) : (dat m 0 c).before (3 : Fin 5) t d = blkAt m c (3 : Fin 5) t :=
  ((dat m 0 c).before_in_eq_fetched (3 : Fin 5) rfl (fun _ => rfl) (fun _ _ _ => rfl) (fun t => by rw [after3]; unfold Dat.blockOf blkAt; rfl) t d).trans
    (by unfold Dat.fetched Dat.blockOf blkAt; rfl)

theorem Ins_intro (c : Dev nD) (a2 : Memref sig .tc .vmem S1024x2048 .bf16) (a3 : Memref sig .tc .vmem S2048x1024 .f32) (a4 : Memref sig .tc .vmem S1x2x1024x128 .f32) (a6 : Memref sig .tc .vmem S32x32x128 .f32) (x) (w) (tb) (z) :
    iprop(owns (c : Thread nD τ) a2 fullShare x ∗ owns (c : Thread nD τ) a3 fullShare w ∗ owns (c : Thread nD τ) a4 fullShare tb ∗ owns (c : Thread nD τ) a6 fullShare z) ⊢ (Ins (F := F) c a2 a3 a4 a6 x w tb z : sProp 𝕄) := by
  iintro ⟨H0, H1, H2, H3⟩
  isplitl [H0]; · iapply rep_of_owns; iexact H0
  isplitl [H1]; · iapply rep_of_owns; iexact H1
  isplitl [H2]; · iapply rep_of_owns; iexact H2
  iapply rep_of_owns; iexact H3
theorem Ins_elim (c : Dev nD) (a2 : Memref sig .tc .vmem S1024x2048 .bf16) (a3 : Memref sig .tc .vmem S2048x1024 .f32) (a4 : Memref sig .tc .vmem S1x2x1024x128 .f32) (a6 : Memref sig .tc .vmem S32x32x128 .f32) (x) (w) (tb) (z) :
    (Ins (F := F) c a2 a3 a4 a6 x w tb z : sProp 𝕄) ⊢ iprop(owns (c : Thread nD τ) a2 fullShare x ∗ owns (c : Thread nD τ) a3 fullShare w ∗ owns (c : Thread nD τ) a4 fullShare tb ∗ owns (c : Thread nD τ) a6 fullShare z) := by
  iintro ⟨H0, H1, H2, H3⟩
  isplitl [H0]; · iapply owns_of_rep; iexact H0
  isplitl [H1]; · iapply owns_of_rep; iexact H1
  isplitl [H2]; · iapply owns_of_rep; iexact H2
  iapply owns_of_rep; iexact H3

/-- The body at any point takes what is held before it to what is held after it. -/
theorem point (c : Dev nD) (t : Fin cfg0.N) (a2 : Memref sig .tc .vmem S1024x2048 .bf16) (h2 : a2.IsWhole) (a3 : Memref sig .tc .vmem S2048x1024 .f32) (h3 : a3.IsWhole)
    (a4 : Memref sig .tc .vmem S1x2x1024x128 .f32) (h4 : a4.IsWhole) (a6 : Memref sig .tc .vmem S32x32x128 .f32) (h6 : a6.IsWhole) (a7 : Memref sig .tc .vmem S1024x1024 .bf16) (h7 : a7.IsWhole) (W : Waits sig Unit) (K : PUnit → sProp 𝕄) :
    iprop(Held m c t.val ∗ owes (c : Thread nD τ) 0 W ∗ Ins c a2 a3 a4 a6 (uAt m c t) (wAt m c t) (tAt m c t) (V m c main_v15) ∗ (∃ d, owns (c : Thread nD τ) a7 fullShare d)
        ∗ (iprop(Held m c (t.val + 1) ∗ (∃ W', owes (c : Thread nD τ) 0 W') ∗ Ins c a2 a3 a4 a6 (uAt m c t) (wAt m c t) (tAt m c t) (V m c main_v15)
            ∗ owns (c : Thread nD τ) a7 fullShare (rotOut (tAt m c t) (uAt m c t) (narrow (wAt m c t)))) -∗ K ⟨⟩))
      ⊢ wp frame (wpE (defs₀ (F := F)) Variants.none c none) Set.univ (body t a2 h2 a3 h3 a4 h4 a6 h6 a7 h7) K := by
  have hN := lt_N t
  have hnext : ∀ y' : BufW (F := F) c, wM.view.read (Elt F) y' = narrow (wAt m c t) →
      ∀ s : Fin cfg0.N, s.val + 1 = t.val + 1 → wM.view.read (Elt F) y' = narrow (wAt m c s) := fun y' hy s hs => by
    rw [show s = t from Fin.ext (Nat.succ.inj hs)]; exact hy
  unfold Held
  iintro ⟨⟨HC, ⟨%y, %hy, HY⟩, HT, HS, HP⟩, HW, Hin, Hout, Hk⟩
  have hkeep : t.val % 16 ≠ 0 → wM.view.read (Elt F) y = narrow (wAt m c t) := fun h => by
    let s : Fin cfg0.N := ⟨t.val - 1, lt_of_le_of_lt (Nat.sub_le _ _) t.isLt⟩
    have hs : s.val + 1 = t.val := by show t.val - 1 + 1 = t.val; omega
    rw [hy s hs, same_weights m c t s (by show (t.val - 1) / 16 = t.val / 16; omega)]
  by_cases h0 : t.val = 0
  · ihave HC := (Entails.of_eq (show Copies m c t.val = Rest c (V m c main_v14) (V m c main_v16_1) from by unfold Copies; rw [dif_neg (by omega), if_pos h0])) $$ HC
    iapply (step_first c (V m c main_v14) (V m c main_v16_1) (V m c main_v15) t a2 h2 a3 h3 a4 h4 a6 h6 a7 h7 (uAt m c t) (wAt m c t) (tAt m c t) h0 (by omega) y W K)
    isplitl [HC]; · iexact HC
    isplitl [HW]; · iexact HW
    isplitl [Hin]; · iexact Hin
    isplitl [Hout]; · iexact Hout
    isplitl [HY]; · iexact HY
    iintro ⟨HC, HW, Hin, Hout, ⟨%y', %hy', HY⟩⟩
    iapply Hk
    isplitr [HW Hin Hout]
    · isplitl [HC]
      · iapply (Entails.of_eq (show Copies m c (t.val + 1) = Mid c (V m c main_v14) (V m c main_v16_1) (V m c main_v15) t.val (by omega) from by unfold Copies; rw [dif_pos (by omega)]; rfl).symm)
        iexact HC
      isplitl [HY]
      · iexists y'; isplitr; · ipureintro; exact hnext y' hy'
        iexact HY
      isplitl [HT]; · iexact HT
      isplitl [HS]; · iexact HS
      iexact HP
    isplitl [HW]; · iexact HW
    isplitl [Hin]; · iexact Hin
    iexact Hout
  · ihave HC := (Entails.of_eq (show Copies m c t.val = Mid c (V m c main_v14) (V m c main_v16_1) (V m c main_v15) (t.val - 1) (by omega) from by unfold Copies; rw [dif_pos (by omega)])) $$ HC
    by_cases h31 : t.val = 31
    · iapply (step_last c (V m c main_v14) (V m c main_v16_1) (V m c main_v15) t a2 h2 a3 h3 a4 h4 a6 h6 a7 h7 (uAt m c t) (wAt m c t) (tAt m c t) h31 (by omega) y (hkeep (by omega)) W K)
      isplitl [HC]; · iexact HC
      isplitl [HT]; · iexact HT
      isplitl [HW]; · iexact HW
      isplitl [Hin]; · iexact Hin
      isplitl [Hout]; · iexact Hout
      isplitl [HY]; · iexact HY
      iintro ⟨HC, HT, HW, Hin, Hout, ⟨%y', %hy', HY⟩⟩
      iapply Hk
      isplitr [HW Hin Hout]
      · isplitl [HC]
        · iapply (Entails.of_eq (show Copies m c (t.val + 1) = Rest c (V m c main_v14) (newCache m c) from by unfold Copies; rw [dif_neg (by omega), if_neg (by omega)]).symm)
          iexact HC
        isplitl [HY]
        · iexists y'; isplitr; · ipureintro; exact hnext y' hy'
          iexact HY
        isplitl [HT]; · iexact HT
        isplitl [HS]; · iexact HS
        iexact HP
      isplitl [HW]; · iexact HW
      isplitl [Hin]; · iexact Hin
      iexact Hout
    · iapply (step_mid c (V m c main_v14) (V m c main_v16_1) (V m c main_v15) t a2 h2 a3 h3 a4 h4 a6 h6 a7 h7 (uAt m c t) (wAt m c t) (tAt m c t) (by omega) (by omega) (by omega) y hkeep W K)
      isplitl [HC]; · iexact HC
      isplitl [HW]; · iexact HW
      isplitl [Hin]; · iexact Hin
      isplitl [Hout]; · iexact Hout
      isplitl [HY]; · iexact HY
      iintro ⟨HC, HW, Hin, Hout, ⟨%y', %hy', HY⟩⟩
      iapply Hk
      isplitr [HW Hin Hout]
      · isplitl [HC]
        · iapply (Entails.of_eq (show Copies m c (t.val + 1) = Mid c (V m c main_v14) (V m c main_v16_1) (V m c main_v15) t.val (by omega) from by unfold Copies; rw [dif_pos (by omega)]; rfl).symm)
          iexact HC
        isplitl [HY]
        · iexists y'; isplitr; · ipureintro; exact hnext y' hy'
          iexact HY
        isplitl [HT]; · iexact HT
        isplitl [HS]; · iexact HS
        iexact HP
      isplitl [HW]; · iexact HW
      isplitl [Hin]; · iexact Hin
      iexact Hout

set_option maxHeartbeats 1000000 in
/-- The body meets its obligation at every point. -/
theorem body_ok (c : Dev nD) : BodyObligation (dat m 0 c) (defs₀ (F := F)) Variants.none () Set.univ := fun t => by
  rw [bigSep_W0, bigSep_W0]
  simp only [before0, before1, before2, before3, after0, after1, after2, after3, after4]
  rewrite [show (dat m 0 c).Φ t.succ = Held m c (t.val + 1) from rfl, show (dat m 0 c).Φ t.castSucc = Held m c t.val from rfl]
  iintro ⟨HH, ⟨%W, %hW, Ho⟩, ⟨%d0, H0⟩, ⟨%d1, H1⟩, ⟨%d2, H2⟩, ⟨%d3, H3⟩, ⟨%d4, H4⟩⟩
  iapply (point m c t _ _ _ _ _ _ _ _ _ _ W _)
  isplitl [HH]; · iexact HH
  isplitl [Ho]; · iexact Ho
  isplitl [H0 H1 H2 H3]
  · iapply Ins_intro
    isplitl [H0]; · iexact H0
    isplitl [H1]; · iexact H1
    isplitl [H2]; · iexact H2
    rw [← zAt_eq m c t]; iexact H3
  isplitl [H4]; · iexists _; iexact H4
  iintro ⟨HH, ⟨%W', Ho⟩, Hin, H4⟩
  ihave Hin := (Ins_elim c _ _ _ _ _ _ _ _) $$ Hin
  icases Hin with ⟨H0, H1, H2, H3⟩
  isplitl [HH]; · iexact HH
  isplitl [Ho]
  · iexists W'; isplitr; · ipureintro; exact fun _ _ => Or.inl trivial
    iexact Ho
  isplitl [H0]; · iexact H0
  isplitl [H1]; · iexact H1
  isplitl [H2]; · iexact H2
  isplitl [H3]; · rw [← zAt_eq m c t]; iexact H3
  iexact H4

/-! ## The run -/

/-- The kernel's own cells. -/
def ownCell : Fin 6 → SemLoc sig := fun k => .dma (match k with
  | ⟨0, _⟩ => cellB 0 0 (by decide) | ⟨1, _⟩ => cellB 0 1 (by decide) | ⟨2, _⟩ => cellB 1 0 (by decide) | ⟨3, _⟩ => cellB 1 1 (by decide)
  | ⟨4, _⟩ => tailC | ⟨5, _⟩ => cellB 2 1 (by decide))

theorem ownCell_ok : Pipeline.OwnSemFacts spec0 ownCell := by decide +kernel

theorem ownCells_eq (c : Dev nD) : (Pipeline.ownSems0 (Ix := Unit) (Name := ℕ) (U := Pipeline.UD sig nD τ) (Lvl := ℕ) (Val := Elt F) (τ := τ) ownCell c : sProp 𝕄)
    = iprop(idle c (cellB 0 0 (by decide)) ∗ idle c (cellB 0 1 (by decide)) ∗ idle c (cellB 1 0 (by decide)) ∗ idle c (cellB 1 1 (by decide)) ∗ idle c tailC ∗ idle c (cellB 2 1 (by decide))) := by
  unfold Pipeline.ownSems0
  exact bigSep_univ_eq_bigSepL [(0 : Fin 6), 1, 2, 3, 4, 5] (by decide) (by decide) _

/-- The buffers at the end: the moved cache in its place, everything else as the grid found it. -/
def G (c : Dev nD) : (b : Ref sig .tc) → Buf (Elt F) ((c : Thread nD τ).loc b) := Function.update (V m c) main_v16_1 (newCache m c)

theorem G_moved (c : Dev nD) : G m c main_v16_1 = newCache m c := Function.update_self ..

theorem ends_eq (c : Dev nD) (g : (b : Ref sig .tc) → Buf (Elt F) ((c : Thread nD τ).loc b)) (gg : (c : Dev nD) → (b : Ref sig .tc) → Buf (Elt F) ((c : Thread nD τ).loc b)) (hg : gg c = g) :
    (Pipeline.ΦDRG ownCell spec0 {main_v14} {main_v16_1} (V m) gg c : sProp 𝕄)
      = iprop(((∃ f : BufW (F := F) c, ((c : Thread nD τ).loc cc0_scratch0) ↦{fullShare} f) ∗ (∃ f : BufR (F := F) c, ((c : Thread nD τ).loc cc0_scratch1) ↦{fullShare} f))
        ∗ (∃ r, prngReg c r)
        ∗ (idle c (cellB 0 0 (by decide)) ∗ idle c (cellB 0 1 (by decide)) ∗ idle c (cellB 1 0 (by decide)) ∗ idle c (cellB 1 1 (by decide)) ∗ idle c tailC ∗ idle c (cellB 2 1 (by decide)))
        ∗ (((c : Thread nD τ).loc main_v14) ↦{fullShare} V m c main_v14) ∗ (((c : Thread nD τ).loc main_v16_1) ↦{fullShare} g main_v16_1)) := by
  subst hg
  rw [Pipeline.ΦDRG_eq, ownCells_eq, scopedRest0_eq]
  unfold Pipeline.routed
  rw [bigSep_singleton, bigSep_singleton]

theorem enter (c : Dev nD) : Pipeline.ΦDRG ownCell spec0 {main_v14} {main_v16_1} (V m) (V m) c ⊢ (dat m 0 c).Φ 0 := by
  rw [ends_eq m c _ _ rfl, show (dat m 0 c).Φ 0 = Held m c 0 from rfl]
  unfold Held
  iintro ⟨⟨⟨%y, HY⟩, ⟨%f, HR⟩⟩, HP, ⟨HI0, HI1, HO0, HO1, HT, HS⟩, HA, HD⟩
  isplitr [HY HT HS HP]
  · iapply (Entails.of_eq (show Copies m c 0 = Rest c (V m c main_v14) (V m c main_v16_1) from by unfold Copies; rw [dif_neg (by omega), if_pos rfl]).symm)
    unfold Rest
    ihave HR := (ring_split c f) $$ HR
    icases HR with ⟨HR0, HR1⟩
    isplitl [HA]; · iexact HA
    isplitl [HD]; · iexact HD
    isplitl [HR0]; · iexists f; iexact HR0
    isplitl [HR1]; · iexists f; iexact HR1
    isplitl [HI0]; · iexact HI0
    isplitl [HI1]; · iexact HI1
    isplitl [HO0]; · iexact HO0
    iexact HO1
  isplitl [HY]
  · iexists y; isplitr; · ipureintro; intro s hs; exact absurd hs (Nat.succ_ne_zero _)
    iexact HY
  isplitl [HT]; · iexact HT
  isplitl [HS]; · iexact HS
  iexact HP

theorem leave (c : Dev nD) : (dat m 0 c).Φ (Fin.last cfg0.N) ⊢ Pipeline.ΦDRG ownCell spec0 {main_v14} {main_v16_1} (V m) (G m) c := by
  rw [ends_eq m c _ _ rfl, show (dat m 0 c).Φ (Fin.last cfg0.N) = Held m c cfg0.N from rfl, G_moved]
  unfold Held
  iintro ⟨HC, ⟨%y, -, HY⟩, HT, HS, HP⟩
  ihave HC := (Entails.of_eq (show Copies m c cfg0.N = Rest c (V m c main_v14) (newCache m c) from by
    rw [show cfg0.N = 32 from N_0]; unfold Copies; rw [dif_neg (by omega), if_neg (by omega)])) $$ HC
  unfold Rest
  icases HC with ⟨HA, HD, ⟨%f0, HR0⟩, ⟨%f1, HR1⟩, HI0, HI1, HO0, HO1⟩
  isplitl [HY HR0 HR1]
  · isplitl [HY]; · iexists y; iexact HY
    iapply (ring_join c f0 f1)
    isplitl [HR0]; · iexact HR0
    iexact HR1
  isplitl [HP]; · iexact HP
  isplitr [HA HD]
  · isplitl [HI0]; · iexact HI0
    isplitl [HI1]; · iexact HI1
    isplitl [HO0]; · iexact HO0
    isplitl [HO1]; · iexact HO1
    isplitl [HT]; · iexact HT
    iexact HS
  isplitl [HA]; · iexact HA
  iexact HD

theorem share_full (c : Dev nD) (w : Fin cfg0.W) : (dat m 0 c).share w = fullShare := by
  unfold Dat.share; split <;> rfl

/-- Every run ends with each window's array at its computed contents, the moved cache in its place, the other buffers as
    the grid found them, and no count on any semaphore. -/
theorem run_ends : θ_run (defs (F := F)) (onTc (τ := τ) (main (F := F))) (s₀ m ρ)
    (fun r => Pipeline.FramePostRG cfgs (dat m) 0 {main_v16_1} (V m) (G m) r ∧ r.2.sem = fun _ => 0) :=
  Pipeline.θ_run_frame_dmaRG cfgs (dat m) 0 launch0 ownCell defs₀ Variants.none ownCell_ok {main_v14} {main_v16_1}
    (by decide +kernel) (by decide +kernel) m ρ main (fun c => (body_ok m c).loose) (share_full m) (fun _ _ => rfl) (V m) (starts m _)
    (fun _ _ => rfl) (G m) (enter m) (leave m) _ (fun _ h => h)

end Cert.RotIdeal.Shift

end
-- ==== Proof.RotMath.lean ====
/-
  What the rotary projection is to leave: the rows through the columns of the queries and keys, each head turned by its
  row's angle, the keys scaled, and the cache with its four oldest entries dropped and the four new ones behind; and the
  reference's run read that way.
-/
module

public import proofs.«01_k».proof.Proof.Gen.RotRefIdeal.Run
public import proofs.«01_k».proof.Proof.GatesMath
public import Idealize.ShloMosaic.Lib.IdealHost
public import Idealize.ShloMosaic.Lib.Pointwise
public import Idealize.ShloMosaic.Lib.Tactic
public import Idealize.ShloMosaic.Lib.Pipeline.Value
public import Idealize.ShloMosaic.PureOps.Ideal

@[expose] public section

set_option maxRecDepth 16384

noncomputable section

open Idealize.ShloMosaic Idealize.ShloMosaic.TcCoe Idealize.SL.Sem

namespace Cert.Rotating

/-- The product of row `p` with column `n` of the queries' and keys' weights. -/
def lin (u : (⟨2, ![16384, 2048]⟩ : Shape).Idx → EReal) (w : (⟨2, ![2048, 12800]⟩ : Shape).Idx → EReal) (p : Fin 16384) (n : Fin 2048) : EReal :=
  ∑ k, u (ix2 p k) * w (ix2 k ⟨n.val, by omega⟩)

/-- What keys are multiplied by. -/
def scale : EReal := Ideal.ofBits .f32 0x3DB504F3#32

/-- A row `y` of heads, each with its halves turned by angles of cosines `c` and sines `s`, at column `n`. -/
def turned (y : Fin 2048 → EReal) (c s : Fin 64 → EReal) (n : Fin 2048) : EReal :=
  if h : n.val % 128 < 64 then y n * c ⟨n.val % 128, h⟩ - y ⟨n.val + 64, by omega⟩ * s ⟨n.val % 128, h⟩
  else y n * c ⟨n.val % 128 - 64, by omega⟩ + y ⟨n.val - 64, by omega⟩ * s ⟨n.val % 128 - 64, by omega⟩

/-- The query, or behind the queries the key, of row `p` at column `n`. -/
def queryKey (u : (⟨2, ![16384, 2048]⟩ : Shape).Idx → EReal) (w : (⟨2, ![2048, 12800]⟩ : Shape).Idx → EReal) (cs sn : (⟨2, ![8192, 64]⟩ : Shape).Idx → EReal)
    (p : Fin 16384) (n : Fin 2048) : EReal :=
  if n.val < 1024 then turned (lin u w p) (fun d => cs (ix2 ⟨p.val % 8192, by omega⟩ d)) (fun d => sn (ix2 ⟨p.val % 8192, by omega⟩ d)) n
  else turned (lin u w p) (fun d => cs (ix2 ⟨p.val % 8192, by omega⟩ d)) (fun d => sn (ix2 ⟨p.val % 8192, by omega⟩ d)) n * scale

/-- All queries and keys. -/
def queryKeys (u : (⟨2, ![16384, 2048]⟩ : Shape).Idx → EReal) (w : (⟨2, ![2048, 12800]⟩ : Shape).Idx → EReal) (cs sn : (⟨2, ![8192, 64]⟩ : Shape).Idx → EReal) :
    (⟨2, ![16384, 2048]⟩ : Shape).Idx → EReal := fun i => queryKey u w cs sn (i 0) (i 1)

theorem scale_nonneg : 0 ≤ scale ∧ scale ≠ ⊤ := by
  unfold scale
  simp [Ideal.ofBits, Ideal.ieee, -EReal.coe_mul]

/-- The scale taken out of a sum. -/
theorem scale_out (a b : EReal) : a * scale + b * scale = (a + b) * scale :=
  (EReal.right_distrib_of_nonneg_of_ne_top scale_nonneg.1 scale_nonneg.2 a b).symm

variable {α : Type}

/-- The cache shifted by four entries. -/
def shifted (a : (⟨5, ![32, 128, 2, 4, 128]⟩ : Shape).Idx → α) (b : (⟨5, ![32, 4, 2, 4, 128]⟩ : Shape).Idx → α) (z : Fin 32) (s : Fin 128) (x : Fin 2) (y : Fin 4)
    (d : Fin 128) : α :=
  if h : s.val < 124 then a (ix5 z ⟨s.val + 4, by omega⟩ x y d) else b (ix5 z ⟨s.val - 124, by omega⟩ x y d)

/-- The shifted cache with its entries' rows in one line. -/
def shiftedRows (a : (⟨5, ![32, 128, 2, 4, 128]⟩ : Shape).Idx → α) (b : (⟨5, ![32, 4, 2, 4, 128]⟩ : Shape).Idx → α) : (⟨3, ![32, 1024, 128]⟩ : Shape).Idx → α := fun i =>
  shifted a b (i 0) ⟨(i 1).val / 8, by have : (i 1).val < 1024 := (i 1).isLt; omega⟩ ⟨(i 1).val / 4 % 2, by omega⟩ ⟨(i 1).val % 4, by omega⟩ (i 2)

end Cert.Rotating

namespace Cert.RotRefIdeal.Arr

open Cert.RotRefIdeal Cert.RotRefIdeal.Gen Cert.RotRefIdeal.Value Cert.Rotating
open Cert.Gating (lined)

variable (m : (ℓ : Loc nD τ sig) → Buf (Elt Ideal) ℓ) (ρ : Dev nD → PrngReg)

abbrev u (c : Dev nD) : Vec Ideal S16384x2048 .bf16 := m ((c.tc : Thread nD τ).loc main_arg0)
abbrev w (c : Dev nD) : Vec Ideal S2048x12800 .f32 := m ((c.tc : Thread nD τ).loc main_arg1)
abbrev cosines (c : Dev nD) : Vec Ideal S8192x64 .f32 := m ((c.tc : Thread nD τ).loc main_arg2)
abbrev sines (c : Dev nD) : Vec Ideal S8192x64 .f32 := m ((c.tc : Thread nD τ).loc main_arg3)
abbrev old (c : Dev nD) : Vec Ideal S32x128x2x4x128 .f32 := m ((c.tc : Thread nD τ).loc main_arg4)
abbrev new (c : Dev nD) : Vec Ideal S32x4x2x4x128 .f32 := m ((c.tc : Thread nD τ).loc main_arg5)

theorem joined (a : Vec Ideal S32x128x2x4x128 .f32) (b : Vec Ideal S32x4x2x4x128 .f32) (z : Fin 32) (s : Fin 128) (x : Fin 2) (y : Fin 4) (d : Fin 128) :
    concatenate S32x128x2x4x128 1 [⟨S32x124x2x4x128, (extractStridedSlice S32x124x2x4x128 ![0, 4, 0, 0, 0] a slices_S32x128x2x4x128_S32x124x2x4x128_0_4_0_0_0)⟩, ⟨S32x4x2x4x128, b⟩]
      concatenates_S32x124x2x4x128_S32x4x2x4x128_S32x128x2x4x128_d1 (ix5 z s x y d) = shifted a b z s x y d := by
  unfold shifted
  by_cases h : s.val < 124
  · rw [dif_pos h, concatenate_pair_apply_left (t := S32x128x2x4x128) (s₁ := S32x124x2x4x128) 1 _ b _ _ rfl (ix5 z ⟨s.val, h⟩ x y d) (fun q => by fin_cases q <;> rfl)]
    pointwise
    congr 2
    apply Fin.ext
    show 4 + s.val = s.val + 4
    omega
  · rw [dif_neg h, concatenate_pair_apply_right (t := S32x128x2x4x128) (s₁ := S32x124x2x4x128) 1 _ b _ _ rfl rfl (ix5 z ⟨s.val - 124, by omega⟩ x y d)
      (fun q hq => by fin_cases q <;> first | rfl | exact absurd rfl hq) (by show s.val - 124 + 124 = s.val; omega)]

/-- The reference's product of a row with a column of a head. -/
theorem head_apply (a : FVec Ideal S16384x2048 .bf16) (b : FVec Ideal S2048x12800 .f32) (g : Fin 2) (l : Fin 8192) (h : Fin 16) (d : Fin 128) :
    (shapeCast S2x8192x16x128 (Host.dotGeneral dot_S16384x2048_S2048x2048_S16384x2048_1_0_0_1_n_n none (extf .f32 a bitsLt_bf16_f32)
        (extractStridedSlice S2048x2048 ![0, 0] b slices_S2048x12800_S2048x2048_0_0)) shapeCasts_S16384x2048_S2x8192x16x128 : FVec Ideal S2x8192x16x128 .f32) (ix4 g l h d)
      = lin a b ⟨8192 * g.val + l.val, by omega⟩ ⟨128 * h.val + d.val, by omega⟩ := by
  refine (shapeCast_apply _ _ (ix4 g l h d) (ix2 ⟨8192 * g.val + l.val, by omega⟩ ⟨128 * h.val + d.val, by omega⟩ : S16384x2048.Idx) (by
    rw [Shape.rowMajor_val_two, Shape.rowMajor_val_four]
    show (8192 * g.val + l.val) * 2048 + (128 * h.val + d.val) = ((g.val * 8192 + l.val) * 16 + h.val) * 128 + d.val
    omega)).trans ?_
  unfold lin
  pointwise

/-- The heads in one line. -/
theorem flat_apply (y : FVec Ideal S2x8192x16x128 .f32) (p : Fin 16384) (n : Fin 2048) :
    (shapeCast S16384x2048 y shapeCasts_S2x8192x16x128_S16384x2048 : FVec Ideal S16384x2048 .f32) (ix2 p n)
      = y (ix4 ⟨p.val / 8192, by omega⟩ ⟨p.val % 8192, by omega⟩ ⟨n.val / 128, by omega⟩ ⟨n.val % 128, by omega⟩) :=
  shapeCast_apply _ _ (ix2 p n) (ix4 ⟨p.val / 8192, by omega⟩ ⟨p.val % 8192, by omega⟩ ⟨n.val / 128, by omega⟩ ⟨n.val % 128, by omega⟩ : S2x8192x16x128.Idx) (by
    rw [Shape.rowMajor_val_two, Shape.rowMajor_val_four]
    show ((p.val / 8192 * 8192 + p.val % 8192) * 16 + n.val / 128) * 128 + n.val % 128 = p.val * 2048 + n.val
    omega)

/-- Every row's angles, for all heads of the row. -/
abbrev rows (v : FVec Ideal S8192x64 .f32) : FVec Ideal S2x8192x16x64 .f32 :=
  broadcastInDim S2x8192x16x64 ![0, 1, 2, 3] bcast_S1x8192x1x64_S2x8192x16x64_0_1_2_3 (broadcastInDim S1x8192x1x64 ![1, 3] bcast_S8192x64_S1x8192x1x64_1_3 v)

/-- The first halves of the heads, and the second. -/
abbrev first (y : FVec Ideal S2x8192x16x128 .f32) : FVec Ideal S2x8192x16x64 .f32 :=
  extractStridedSlice S2x8192x16x64 ![0, 0, 0, 0] y slices_S2x8192x16x128_S2x8192x16x64_0_0_0_0
abbrev second (y : FVec Ideal S2x8192x16x128 .f32) : FVec Ideal S2x8192x16x64 .f32 :=
  extractStridedSlice S2x8192x16x64 ![0, 0, 0, 64] y slices_S2x8192x16x128_S2x8192x16x64_0_0_0_64

/-- The halves turned. -/
abbrev lower (y : FVec Ideal S2x8192x16x128 .f32) (cs sn : FVec Ideal S8192x64 .f32) : FVec Ideal S2x8192x16x64 .f32 :=
  subf (mulf (first y) (rows cs)) (mulf (second y) (rows sn))
abbrev upper (y : FVec Ideal S2x8192x16x128 .f32) (cs sn : FVec Ideal S8192x64 .f32) : FVec Ideal S2x8192x16x64 .f32 :=
  addf (mulf (second y) (rows cs)) (mulf (first y) (rows sn))

/-- The array of heads turned, from the array of heads. -/
abbrev turnAll (y : FVec Ideal S2x8192x16x128 .f32) (cs sn : FVec Ideal S8192x64 .f32) : FVec Ideal S2x8192x16x128 .f32 :=
  concatenate S2x8192x16x128 3 [⟨S2x8192x16x64, lower y cs sn⟩, ⟨S2x8192x16x64, upper y cs sn⟩] concatenates_S2x8192x16x64_S2x8192x16x64_S2x8192x16x128_d3

theorem lower_apply (y : FVec Ideal S2x8192x16x128 .f32) (cs sn : FVec Ideal S8192x64 .f32) (g : Fin 2) (l : Fin 8192) (h : Fin 16) (d : Fin 64) :
    lower y cs sn (ix4 g l h d) = y (ix4 g l h ⟨d.val, by omega⟩) * cs (ix2 l d) - y (ix4 g l h ⟨64 + d.val, by omega⟩) * sn (ix2 l d) := by
  unfold lower first second rows
  pointwise

theorem upper_apply (y : FVec Ideal S2x8192x16x128 .f32) (cs sn : FVec Ideal S8192x64 .f32) (g : Fin 2) (l : Fin 8192) (h : Fin 16) (d : Fin 64) :
    upper y cs sn (ix4 g l h d) = y (ix4 g l h ⟨64 + d.val, by omega⟩) * cs (ix2 l d) + y (ix4 g l h ⟨d.val, by omega⟩) * sn (ix2 l d) := by
  unfold upper first second rows
  pointwise

theorem turnAll_apply (y : FVec Ideal S2x8192x16x128 .f32) (cs sn : FVec Ideal S8192x64 .f32) (g : Fin 2) (l : Fin 8192) (h : Fin 16) (d : Fin 128) :
    turnAll y cs sn (ix4 g l h d) = if hd : d.val < 64 then y (ix4 g l h d) * cs (ix2 l ⟨d.val, hd⟩) - y (ix4 g l h ⟨d.val + 64, by omega⟩) * sn (ix2 l ⟨d.val, hd⟩)
      else y (ix4 g l h d) * cs (ix2 l ⟨d.val - 64, by omega⟩) + y (ix4 g l h ⟨d.val - 64, by omega⟩) * sn (ix2 l ⟨d.val - 64, by omega⟩) := by
  unfold turnAll
  by_cases hd : d.val < 64
  · rw [dif_pos hd, concatenate_pair_apply_left (t := S2x8192x16x128) (s₁ := S2x8192x16x64) 3 _ _ _ _ rfl (ix4 g l h ⟨d.val, hd⟩) (fun q => by fin_cases q <;> rfl), lower_apply]
    have e : (⟨64 + d.val, by omega⟩ : Fin 128) = ⟨d.val + 64, by omega⟩ := Fin.ext (by show 64 + d.val = d.val + 64; omega)
    simp only [e]
  · rw [dif_neg hd, concatenate_pair_apply_right (t := S2x8192x16x128) (s₁ := S2x8192x16x64) (s₂ := S2x8192x16x64) 3 _ _ _ _ rfl rfl (ix4 g l h ⟨d.val - 64, by omega⟩)
      (fun q hq => by fin_cases q <;> first | rfl | exact absurd rfl hq) (by show d.val - 64 + 64 = d.val; omega), upper_apply]
    have e : (⟨64 + (d.val - 64), by omega⟩ : Fin 128) = d := Fin.ext (by show 64 + (d.val - 64) = d.val; omega)
    simp only [e]

/-- The heads turned and in one line, from the rows and the weights. -/
theorem line_apply (a : FVec Ideal S16384x2048 .bf16) (b : FVec Ideal S2048x12800 .f32) (cs sn : FVec Ideal S8192x64 .f32) (p : Fin 16384) (n : Fin 2048) :
    (shapeCast S16384x2048 (turnAll (shapeCast S2x8192x16x128 (Host.dotGeneral dot_S16384x2048_S2048x2048_S16384x2048_1_0_0_1_n_n none (extf .f32 a bitsLt_bf16_f32)
        (extractStridedSlice S2048x2048 ![0, 0] b slices_S2048x12800_S2048x2048_0_0)) shapeCasts_S16384x2048_S2x8192x16x128) cs sn) shapeCasts_S2x8192x16x128_S16384x2048 : FVec Ideal S16384x2048 .f32) (ix2 p n)
      = turned (lin a b p) (fun d => cs (ix2 ⟨p.val % 8192, by omega⟩ d)) (fun d => sn (ix2 ⟨p.val % 8192, by omega⟩ d)) n := by
  rw [flat_apply, turnAll_apply]
  simp only [head_apply]
  unfold turned
  have ep : (⟨8192 * (p.val / 8192) + p.val % 8192, by omega⟩ : Fin 16384) = p := Fin.ext (by show 8192 * (p.val / 8192) + p.val % 8192 = p.val; omega)
  have en : (⟨128 * (n.val / 128) + n.val % 128, by omega⟩ : Fin 2048) = n := Fin.ext (by show 128 * (n.val / 128) + n.val % 128 = n.val; omega)
  by_cases h : n.val % 128 < 64
  · rw [dif_pos h, dif_pos h]
    have e2 : (⟨128 * (n.val / 128) + (n.val % 128 + 64), by omega⟩ : Fin 2048) = ⟨n.val + 64, by omega⟩ := Fin.ext (by show 128 * (n.val / 128) + (n.val % 128 + 64) = n.val + 64; omega)
    rw [ep, en, e2]
  · rw [dif_neg h, dif_neg h]
    have e2 : (⟨128 * (n.val / 128) + (n.val % 128 - 64), by omega⟩ : Fin 2048) = ⟨n.val - 64, by omega⟩ := Fin.ext (by show 128 * (n.val / 128) + (n.val % 128 - 64) = n.val - 64; omega)
    rw [ep, en, e2]

/-- The half of the columns a column lies in, the second scaled. -/
theorem halves (y : FVec Ideal S16384x2048 .f32) (p : Fin 16384) (n : Fin 2048) :
    concatenate S16384x2048 1 [⟨S16384x1024, (extractStridedSlice S16384x1024 ![0, 0] y slices_S16384x2048_S16384x1024_0_0 : FVec Ideal S16384x1024 .f32)⟩,
      ⟨S16384x1024, (mulf (extractStridedSlice S16384x1024 ![0, 1024] y slices_S16384x2048_S16384x1024_0_1024) (broadcastInDim S16384x1024 ![] bcast_S_S16384x1024 (constant S_ .f32 0x3DB504F3#32)) : FVec Ideal S16384x1024 .f32)⟩]
      concatenates_S16384x1024_S16384x1024_S16384x2048_d1 (ix2 p n)
      = if n.val < 1024 then y (ix2 p n) else y (ix2 p n) * scale := by
  by_cases h : n.val < 1024
  · rw [if_pos h, concatenate_pair_apply_left (t := S16384x2048) (s₁ := S16384x1024) 1 _ _ _ _ rfl (ix2 p ⟨n.val, h⟩) (fun q => by fin_cases q <;> rfl)]
    pointwise
  · rw [if_neg h, concatenate_pair_apply_right (t := S16384x2048) (s₁ := S16384x1024) (s₂ := S16384x1024) 1 _ _ _ _ rfl rfl (ix2 p ⟨n.val - 1024, by omega⟩)
      (fun q hq => by fin_cases q <;> first | rfl | exact absurd rfl hq) (by show n.val - 1024 + 1024 = n.val; omega)]
    have e : (⟨1024 + (n.val - 1024), by omega⟩ : Fin 2048) = n := Fin.ext (by show 1024 + (n.val - 1024) = n.val; omega)
    unfold scale
    pointwise
    simp only [e]

theorem run_read : θ_run defs (onTc (τ := τ) (main (F := Ideal))) ⟨m, fun _ => 0, ρ⟩ fun r => ∀ c : Dev nD,
      r.2.mem ((c.tc : Thread nD τ).loc main_v25) = queryKeys (u m c) (w m c) (cosines m c) (sines m c)
      ∧ r.2.mem ((c.tc : Thread nD τ).loc main_v28) = shiftedRows (old m c) (new m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h1, h2, h3⟩ := h c
  refine ⟨h1.trans ?_, h2.trans ?_, h3⟩
  · funext i
    obtain ⟨p, n, rfl⟩ : ∃ (p : Fin 16384) (n : Fin 2048), i = ix2 p n := ⟨i 0, i 1, eq_ix2 i⟩
    unfold res_main_v25
    refine (halves _ p n).trans ?_
    show _ = queryKey (u m c) (w m c) (cosines m c) (sines m c) p n
    unfold queryKey
    rw [← line_apply (u m c) (w m c) (cosines m c) (sines m c) p n]
  · funext i
    obtain ⟨z, r, d, rfl⟩ : ∃ (z : Fin 32) (r : Fin 1024) (d : Fin 128), i = ix3 z r d := ⟨i 0, i 1, i 2, eq_ix3 i⟩
    refine (lined (n := 128) (N := 1024) _ _ rfl z r d).trans ?_
    exact joined _ _ _ _ _ _ _

end Cert.RotRefIdeal.Arr

end
-- ==== Proof.RotArrays.lean ====
/-
  What the rotary projection leaves in its two results, in terms of its arguments.
-/
module

public import proofs.«01_k».proof.Proof.RotFrame
public import proofs.«01_k».proof.Proof.RotMath
public import Idealize.ShloMosaic.Lib.KernelVsHost

@[expose] public section

set_option maxRecDepth 16384

noncomputable section

open Idealize.ShloMosaic Idealize.ShloMosaic.TcCoe Idealize.SL.Sem

namespace Cert.RotIdeal.Shift

open Cert.RotIdeal Cert.RotIdeal.Gen Cert.Rotating
open Cert.Gating (lined)

section

variable {F : FTy → Type} [FloatOps F]

/-- Two arrays of `64` columns side by side. -/
abbrev join (a b : Vec F S8192x64 .f32) : Vec F S8192x128 .f32 := concatenate S8192x128 1 [⟨S8192x64, a⟩, ⟨S8192x64, b⟩] concatenates_S8192x64_S8192x64_S8192x128_d1

/-- The two pages of a table of angles: the cosines, and the sines with the sign a turn gives them. -/
def pages (cs sn : Vec F S8192x64 .f32) : Vec F S2x8192x128 .f32 :=
  concatenate S2x8192x128 0 [⟨S1x8192x128, broadcastInDim S1x8192x128 ![1, 2] bcast_S8192x128_S1x8192x128_1_2 (join cs cs)⟩,
    ⟨S1x8192x128, broadcastInDim S1x8192x128 ![1, 2] bcast_S8192x128_S1x8192x128_1_2 (join (Host.negf (φ := .f32) sn) sn)⟩] concatenates_S1x8192x128_S1x8192x128_S2x8192x128_d0

/-- The queries' table and the keys'. -/
def tables (cs sn : Vec F S8192x64 .f32) : Vec F S2x2x8192x128 .f32 :=
  concatenate S2x2x8192x128 0 [⟨S1x2x8192x128, broadcastInDim S1x2x8192x128 ![1, 2, 3] bcast_S2x8192x128_S1x2x8192x128_1_2_3 (pages cs sn)⟩,
    ⟨S1x2x8192x128, broadcastInDim S1x2x8192x128 ![1, 2, 3] bcast_S2x8192x128_S1x2x8192x128_1_2_3
      (mulf (φ := .f32) (pages cs sn) (broadcastInDim S2x8192x128 ![] bcast_S_S2x8192x128 (constant S_ .f32 0x3DB504F3#32)))⟩] concatenates_S1x2x8192x128_S1x2x8192x128_S2x2x8192x128_d0

variable (m : (ℓ : Loc nD τ sig) → Buf (Elt F) ℓ) (ρ : Dev nD → PrngReg) (c : Dev nD)

abbrev u : Vec F S16384x2048 .bf16 := m ((c : Thread nD τ).loc main_arg0)
abbrev wts : Vec F S2048x12800 .f32 := m ((c : Thread nD τ).loc main_arg1)
abbrev cosines : Vec F S8192x64 .f32 := m ((c : Thread nD τ).loc main_arg2)
abbrev sines : Vec F S8192x64 .f32 := m ((c : Thread nD τ).loc main_arg3)
abbrev old : Vec F S32x128x2x4x128 .f32 := m ((c : Thread nD τ).loc main_arg4)
abbrev new : Vec F S32x4x2x4x128 .f32 := m ((c : Thread nD τ).loc main_arg5)

theorem V_old : V m c main_v14 = (shapeCast _ (old m c) shapeCasts_S32x128x2x4x128_S32x1024x128 : Vec F S32x1024x128 .f32) := by
  unfold_abbrev_sides
  after_results
  rfl

theorem V_new : V m c main_v15 = (shapeCast _ (new m c) shapeCasts_S32x4x2x4x128_S32x32x128 : Vec F S32x32x128 .f32) := by
  unfold_abbrev_sides
  after_results
  rfl

theorem V_tab : V m c main_v13 = tables (cosines m c) (sines m c) := by
  unfold_abbrev_sides
  after_results
  rfl

/-- The moved cache is the cache shifted by four entries. -/
theorem newCache_eq : newCache m c = shiftedRows (old m c) (new m c) := by
  funext i
  obtain ⟨z, r, d, rfl⟩ : ∃ (z : Fin 32) (r : Fin 1024) (d : Fin 128), i = ix3 z r d := ⟨i 0, i 1, i 2, eq_ix3 i⟩
  show _ = shifted (old m c) (new m c) z ⟨r.val / 8, by omega⟩ ⟨r.val / 4 % 2, by omega⟩ ⟨r.val % 4, by omega⟩ d
  unfold shifted
  by_cases h : r.val < 992
  · refine (moved_lo _ _ (ix3 z r d) (ix3 z ⟨r.val + 32, by omega⟩ d) h rfl rfl rfl).trans ?_
    rw [V_old, dif_pos (by show r.val / 8 < 124; omega)]
    refine (lined (n := 128) (N := 1024) _ _ rfl z ⟨r.val + 32, by omega⟩ d).trans ?_
    have e1 : (⟨(r.val + 32) / 8, by omega⟩ : Fin 128) = ⟨r.val / 8 + 4, by omega⟩ := Fin.ext (by show (r.val + 32) / 8 = r.val / 8 + 4; omega)
    have e2 : (⟨(r.val + 32) / 4 % 2, by omega⟩ : Fin 2) = ⟨r.val / 4 % 2, by omega⟩ := Fin.ext (by show (r.val + 32) / 4 % 2 = r.val / 4 % 2; omega)
    have e3 : (⟨(r.val + 32) % 4, by omega⟩ : Fin 4) = ⟨r.val % 4, by omega⟩ := Fin.ext (by show (r.val + 32) % 4 = r.val % 4; omega)
    rw [e1, e2, e3]
  · refine (moved_hi _ _ (ix3 z r d) (ix3 z ⟨r.val - 992, by omega⟩ d) rfl (by show r.val = 992 + (r.val - 992); omega) rfl).trans ?_
    rw [V_new, dif_neg (by show ¬ r.val / 8 < 124; omega)]
    refine (lined (n := 4) (N := 32) _ _ rfl z ⟨r.val - 992, by omega⟩ d).trans ?_
    have e1 : (⟨(r.val - 992) / 8, by omega⟩ : Fin 4) = ⟨r.val / 8 - 124, by omega⟩ := Fin.ext (by show (r.val - 992) / 8 = r.val / 8 - 124; omega)
    have e2 : (⟨(r.val - 992) / 4 % 2, by omega⟩ : Fin 2) = ⟨r.val / 4 % 2, by omega⟩ := Fin.ext (by show (r.val - 992) / 4 % 2 = r.val / 4 % 2; omega)
    have e3 : (⟨(r.val - 992) % 4, by omega⟩ : Fin 4) = ⟨r.val % 4, by omega⟩ := Fin.ext (by show (r.val - 992) % 4 = r.val % 4; omega)
    rw [e1, e2, e3]

/-- The run leaves the array of queries and keys at its computed contents and the moved cache, and keeps its arguments. -/
theorem run_all : θ_run (defs (F := F)) (onTc (τ := τ) (main (F := F))) ⟨m, fun _ => 0, ρ⟩ (fun r =>
    (∀ c : Dev nD, r.2.mem ((c : Thread nD τ).loc main_v16_0) = (dat m 0 c).arrAt (4 : Fin 5) cfg0.N
      ∧ r.2.mem ((c : Thread nD τ).loc main_v16_1) = newCache m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r he => ⟨fun c => by
    obtain ⟨⟨hf, hr⟩, -⟩ := he
    obtain ⟨hw, ht⟩ := hf c
    refine ⟨hw (4 : Fin 5), (hr c main_v16_1 (Finset.mem_singleton_self _)).trans (G_moved m c), ?_, ?_, ?_, ?_, ?_, ?_⟩
    · exact (hw (0 : Fin 5)).trans (((dat m 0 c).arrAt_in (0 : Fin 5) rfl _).trans (V_kept m c main_arg0 (by decide)))
    · exact (hw (1 : Fin 5)).trans (((dat m 0 c).arrAt_in (1 : Fin 5) rfl _).trans (V_kept m c main_arg1 (by decide)))
    · exact (ht main_arg2 (Finset.mem_sdiff.mpr ⟨Pipeline.mem_restRefs_of main_arg2 (by decide) (by decide), by decide⟩)).trans (V_kept m c main_arg2 (by decide))
    · exact (ht main_arg3 (Finset.mem_sdiff.mpr ⟨Pipeline.mem_restRefs_of main_arg3 (by decide) (by decide), by decide⟩)).trans (V_kept m c main_arg3 (by decide))
    · exact (ht main_arg4 (Finset.mem_sdiff.mpr ⟨Pipeline.mem_restRefs_of main_arg4 (by decide) (by decide), by decide⟩)).trans (V_kept m c main_arg4 (by decide))
    · exact (ht main_arg5 (Finset.mem_sdiff.mpr ⟨Pipeline.mem_restRefs_of main_arg5 (by decide) (by decide), by decide⟩)).trans (V_kept m c main_arg5 (by decide)), he.2⟩)
    (run_ends m ρ)

/-- The frame, at any floats. -/
theorem frame_any : θ_run (defs (F := F)) (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0) :=
  (θ_run (defs (F := F)) _ _).mono (fun r he => ⟨fun c => (he.1 c).2.2, he.2⟩) (run_all m ρ)

end

/-! ## The tables at an index -/

theorem join_apply (a b : FVec Ideal S8192x64 .f32) (l : Fin 8192) (d : Fin 128) :
    join (F := Ideal) a b (ix2 l d) = if h : d.val < 64 then a (ix2 l ⟨d.val, h⟩) else b (ix2 l ⟨d.val - 64, by omega⟩) := by
  by_cases h : d.val < 64
  · rw [dif_pos h]
    exact concatenate_pair_apply_left (t := S8192x128) (s₁ := S8192x64) 1 _ _ _ _ rfl (ix2 l ⟨d.val, h⟩) (fun q => by fin_cases q <;> rfl)
  · rw [dif_neg h]
    exact concatenate_pair_apply_right (t := S8192x128) (s₁ := S8192x64) (s₂ := S8192x64) 1 _ _ _ _ rfl rfl (ix2 l ⟨d.val - 64, by omega⟩)
      (fun q hq => by fin_cases q <;> first | rfl | exact absurd rfl hq) (by show d.val - 64 + 64 = d.val; omega)

theorem pages_zero (cs sn : FVec Ideal S8192x64 .f32) (l : Fin 8192) (d : Fin 128) : pages (F := Ideal) cs sn (ix3 0 l d) = join (F := Ideal) cs cs (ix2 l d) := by
  unfold pages
  rw [concatenate_pair_apply_left (t := S2x8192x128) (s₁ := S1x8192x128) 0 _ _ _ _ rfl (ix3 0 l d) (fun q => by fin_cases q <;> rfl)]
  pointwise

theorem pages_one (cs sn : FVec Ideal S8192x64 .f32) (l : Fin 8192) (d : Fin 128) : pages (F := Ideal) cs sn (ix3 1 l d) = join (F := Ideal) (Host.negf (φ := .f32) sn) sn (ix2 l d) := by
  unfold pages
  rw [concatenate_pair_apply_right (t := S2x8192x128) (s₁ := S1x8192x128) (s₂ := S1x8192x128) 0 _ _ _ _ rfl rfl (ix3 0 l d)
    (fun q hq => by fin_cases q <;> first | rfl | exact absurd rfl hq) rfl]
  pointwise

theorem tables_apply (cs sn : FVec Ideal S8192x64 .f32) (i o : Fin 2) (l : Fin 8192) (d : Fin 128) :
    tables (F := Ideal) cs sn (ix4 i o l d) = if i.val < 1 then pages (F := Ideal) cs sn (ix3 o l d) else pages (F := Ideal) cs sn (ix3 o l d) * scale := by
  unfold tables
  match i with
  | ⟨0, _⟩ =>
    refine Eq.trans ?_ (if_pos (show 0 < 1 by decide)).symm
    refine (concatenate_pair_apply_left (t := S2x2x8192x128) (s₁ := S1x2x8192x128) 0 _ _ _ (ix4 0 o l d) rfl (ix4 0 o l d) (fun q => by fin_cases q <;> rfl)).trans ?_
    pointwise
  | ⟨1, _⟩ =>
    refine Eq.trans ?_ (if_neg (show ¬ 1 < 1 by decide)).symm
    refine (concatenate_pair_apply_right (t := S2x2x8192x128) (s₁ := S1x2x8192x128) (s₂ := S1x2x8192x128) 0 _ _ _ (ix4 1 o l d) rfl rfl (ix4 0 o l d)
      (fun q hq => by fin_cases q <;> first | rfl | exact absurd rfl hq) rfl).trans ?_
    unfold scale
    pointwise

/-- The column a column trades places with as a head turns. -/
def partner (n : Fin 2048) : Fin 2048 := ⟨n.val / 128 * 128 + (n.val % 128 + 64) % 128, by omega⟩

/-- A turn, with the tables' pages. -/
theorem turned_pages (y : Fin 2048 → EReal) (cs sn : FVec Ideal S8192x64 .f32) (l : Fin 8192) (n : Fin 2048) :
    turned y (fun d => cs (ix2 l d)) (fun d => sn (ix2 l d)) n
      = y n * pages (F := Ideal) cs sn (ix3 0 l ⟨n.val % 128, by omega⟩) + y (partner n) * pages (F := Ideal) cs sn (ix3 1 l ⟨n.val % 128, by omega⟩) := by
  rw [pages_zero, pages_one, join_apply, join_apply]
  unfold turned
  by_cases h : n.val % 128 < 64
  · rw [dif_pos h, dif_pos h, dif_pos h]
    have e : partner n = ⟨n.val + 64, by omega⟩ := Fin.ext (by show n.val / 128 * 128 + (n.val % 128 + 64) % 128 = n.val + 64; omega)
    rw [e, sub_eq_add_neg, ← mul_neg]
    rfl
  · rw [dif_neg h, dif_neg h, dif_neg h]
    have e : partner n = ⟨n.val - 64, by omega⟩ := Fin.ext (by show n.val / 128 * 128 + (n.val % 128 + 64) % 128 = n.val - 64; omega)
    rw [e]

/-! ## A point's block at an index -/

/-- The product of a block of columns at an index. -/
theorem prod_apply (q : Fin 4) (x : Vec Ideal S1024x2048 .bf16) (w : Vec Ideal S2048x1024 .f32) (p : Fin 1024) (n : Fin 256) :
    prod q x (narrow w) (ix2 p n) = ∑ k, x (ix2 p k) * w (ix2 k ⟨256 * q.val + n.val, by omega⟩) := by
  unfold prod
  pointwise

theorem half_apply (h : Bool) (y : FVec Ideal S1024x256 .f32) (p : Fin 1024) (d : Fin 128) :
    half h y (ix2 p d) = y (ix2 p ⟨128 * h.toNat + d.val, by have := h.toNat_le; omega⟩) := by
  unfold half
  cases h
  · pointwise
    congr 2
    apply Fin.ext
    show d.val = 128 * 0 + d.val
    omega
  · pointwise
    congr 2

theorem page_apply (tb : Vec Ideal S1x2x1024x128 .f32) (o : Fin 2) (h) (p : Fin 1024) (d : Fin 128) :
    page tb ![0, o.val, 0, 0] h (ix2 p d) = tb (ix4 0 o p d) := by
  refine (shapeCast_apply _ _ (ix2 p d) (ix4 0 0 p d : S1x1x1024x128.Idx) (by
    rw [Shape.rowMajor_val_two, Shape.rowMajor_val_four]
    show ((0 * 1 + 0) * 1024 + p.val) * 128 + d.val = p.val * 128 + d.val
    omega)).trans ?_
  show tb _ = tb _
  congr 1
  funext a
  apply Fin.ext
  match a with
  | ⟨0, _⟩ => rfl
  | ⟨1, _⟩ => show o.val + 1 * 0 = o.val; omega
  | ⟨2, _⟩ => show 0 + 1 * p.val = p.val; omega
  | ⟨3, _⟩ => show 0 + 1 * d.val = d.val; omega

theorem turn_apply (tb : Vec Ideal S1x2x1024x128 .f32) (y : FVec Ideal S1024x128 .f32) (p : Fin 1024) (d : Fin 128) :
    turn tb y (ix2 p d) = y (ix2 p d) * tb (ix4 0 0 p d) + y (ix2 p ⟨(d.val + 64) % 128, by omega⟩) * tb (ix4 0 1 p d) := by
  have e0 := page_apply tb 0 inb_S1x2x1024x128_S1x1x1024x128_0_0_0_0 p d
  have e1 := page_apply tb 1 inb_S1x2x1024x128_S1x1x1024x128_0_1_0_0 p d
  have er : dynamicRotate 1 64#32 none y rotates_S1024x128_d1 (ix2 p d) = y (ix2 p ⟨(d.val + 64) % 128, by omega⟩) :=
    dynamicRotate_apply 1 64#32 y rotates_S1024x128_d1 (ix2 p d) (ix2 p ⟨(d.val + 64) % 128, by omega⟩) (fun b => by
      fin_cases b
      · rfl
      · show (d.val + 64) % 128 = (d.val + 128 - 64 % 128) % 128
        omega)
  rw [← e0, ← e1, ← er]
  rfl

/-- The block a point leaves, at an index. -/
theorem rotOut_apply (tb : Vec Ideal S1x2x1024x128 .f32) (x : Vec Ideal S1024x2048 .bf16) (w : Vec Ideal S2048x1024 .f32) (p : Fin 1024) (n : Fin 1024) :
    rotOut tb x (narrow w) (ix2 p n) = (∑ k, x (ix2 p k) * w (ix2 k n)) * tb (ix4 0 0 p ⟨n.val % 128, by omega⟩)
      + (∑ k, x (ix2 p k) * w (ix2 k ⟨n.val / 128 * 128 + (n.val % 128 + 64) % 128, by omega⟩)) * tb (ix4 0 1 p ⟨n.val % 128, by omega⟩) := by
  refine (turn_apply tb (half (decide (128 ≤ n.val % 256)) (prod ⟨n.val / 256, by omega⟩ x (narrow w))) p ⟨n.val % 128, by omega⟩).trans ?_
  rw [half_apply, half_apply, prod_apply, prod_apply]
  have hb : 128 * (decide (128 ≤ n.val % 256)).toNat = n.val % 256 - n.val % 128 := by
    by_cases h : 128 ≤ n.val % 256
    · rw [decide_eq_true h]; show 128 * 1 = _; omega
    · rw [decide_eq_false h]; show 128 * 0 = _; omega
  congr 2
  · refine Finset.sum_congr rfl fun k _ => ?_
    congr 3
    apply Fin.ext
    show 256 * (n.val / 256) + (128 * (decide (128 ≤ n.val % 256)).toNat + n.val % 128) = n.val
    omega
  · refine Finset.sum_congr rfl fun k _ => ?_
    congr 3
    apply Fin.ext
    show 256 * (n.val / 256) + (128 * (decide (128 ≤ n.val % 256)).toNat + (n.val % 128 + 64) % 128) = n.val / 128 * 128 + (n.val % 128 + 64) % 128
    omega

variable (m : (ℓ : Loc nD τ sig) → Buf (Elt Ideal) ℓ) (ρ : Dev nD → PrngReg) (c : Dev nD)

theorem index4 : ∀ t : Fin grid0.N, cc0_transform_5 (grid0.coords t) = ![t.val % 16, t.val / 16] := by decide +kernel

/-- Where an element of a point's block lies in the result. -/
theorem emb4 (t : Fin cfg0.N) (p : Fin 1024) (n : Fin 1024) :
    ((cfg0.win (4 : Fin 5)).blk t).view.emb (ix2 p n : S1024x1024.Idx)
      = (ix2 ⟨1024 * (t.val % 16) + p.val, by have := lt_N t; omega⟩ ⟨1024 * (t.val / 16) + n.val, by have := lt_N t; omega⟩ : S16384x2048.Idx) := by
  have e := index4 t
  funext a
  apply Fin.ext
  match a with
  | ⟨0, _⟩ => show cc0_transform_5 (grid0.coords t) 0 * 1024 + 1 * p.val = 1024 * (t.val % 16) + p.val; rw [e]; show t.val % 16 * 1024 + 1 * p.val = _; omega
  | ⟨1, _⟩ => show cc0_transform_5 (grid0.coords t) 1 * 1024 + 1 * n.val = 1024 * (t.val / 16) + n.val; rw [e]; show t.val / 16 * 1024 + 1 * n.val = _; omega

theorem cover4 (i : S16384x2048.Idx) : ∃ t : Fin cfg0.N, (cfg0.win (4 : Fin 5)).flush t = true ∧ i ∈ ((cfg0.win (4 : Fin 5)).blk t).view.set := by
  obtain ⟨r, q, rfl⟩ : ∃ (r : Fin 16384) (q : Fin 2048), i = ix2 r q := ⟨i 0, i 1, eq_ix2 i⟩
  let t : Fin cfg0.N := ⟨16 * (q.val / 1024) + r.val / 1024, lt_of_lt_of_eq (by omega) (show cfg0.N = 32 from N_0).symm⟩
  have hv : t.val = 16 * (q.val / 1024) + r.val / 1024 := rfl
  refine ⟨t, flush0_4 t, ?_⟩
  have e : (ix2 r q : S16384x2048.Idx) = ((cfg0.win (4 : Fin 5)).blk t).view.emb (ix2 (⟨r.val % 1024, by omega⟩ : Fin 1024) (⟨q.val % 1024, by omega⟩ : Fin 1024) : S1024x1024.Idx) := by
    rw [emb4]
    congr 1
    · apply Fin.ext
      show r.val = 1024 * (t.val % 16) + r.val % 1024
      omega
    · apply Fin.ext
      show q.val = 1024 * (t.val / 16) + q.val % 1024
      omega
  rw [e]
  exact ((cfg0.win (4 : Fin 5)).blk t).view.emb_mem_set _

/-- The array of queries and keys at the end of a run. -/
theorem arr4_eq : (dat m 0 c).arrAt (4 : Fin 5) cfg0.N = queryKeys (u m c) (wts m c) (cosines m c) (sines m c) :=
  (dat m 0 c).arrAt_eq_of_cover (4 : Fin 5) (queryKeys (u m c) (wts m c) (cosines m c) (sines m c))
    (fun t _ => by
      funext j
      obtain ⟨p, n, rfl⟩ : ∃ (p : Fin 1024) (n : Fin 1024), j = (ix2 p n : S1024x1024.Idx) := ⟨j 0, j 1, eq_ix2 j⟩
      have hN := lt_N t
      rw [View.read_apply, emb4]
      refine (rotOut_apply (tAt m c t) (uAt m c t) (wAt m c t) p n).trans ?_
      have e : ∀ n : Fin 1024, (∑ k, uAt m c t (ix2 p k) * wAt m c t (ix2 k n) : EReal)
          = lin (u m c) (wts m c) ⟨1024 * (t.val % 16) + p.val, by omega⟩ ⟨1024 * (t.val / 16) + n.val, by omega⟩ := fun n => by
        rw [uAt_eq, wAt_eq, V_kept m c main_arg0 (by decide), V_kept m c main_arg1 (by decide)]
        rfl
      have et : ∀ o : Fin 2, tAt m c t (ix4 0 o p ⟨n.val % 128, by omega⟩)
          = tables (F := Ideal) (cosines m c) (sines m c) (ix4 ⟨t.val / 16, by omega⟩ o ⟨(1024 * (t.val % 16) + p.val) % 8192, by omega⟩ ⟨(1024 * (t.val / 16) + n.val) % 128, by omega⟩) := fun o => by
        rw [tAt_eq, V_tab]
        show tables (F := Ideal) _ _ _ = tables (F := Ideal) _ _ _
        congr 1
        funext a
        apply Fin.ext
        match a with
        | ⟨0, _⟩ => rfl
        | ⟨1, _⟩ => rfl
        | ⟨2, _⟩ => show 1024 * (t.val % 8) + p.val = (1024 * (t.val % 16) + p.val) % 8192; omega
        | ⟨3, _⟩ => show n.val % 128 = (1024 * (t.val / 16) + n.val) % 128; omega
      rw [e, e, et, et]
      show _ = queryKey (u m c) (wts m c) (cosines m c) (sines m c) ⟨1024 * (t.val % 16) + p.val, by omega⟩ ⟨1024 * (t.val / 16) + n.val, by omega⟩
      unfold queryKey
      rw [turned_pages, tables_apply, tables_apply]
      have ep : (⟨1024 * (t.val / 16) + (n.val / 128 * 128 + (n.val % 128 + 64) % 128), by omega⟩ : Fin 2048) = partner ⟨1024 * (t.val / 16) + n.val, by omega⟩ := Fin.ext (by
        show 1024 * (t.val / 16) + (n.val / 128 * 128 + (n.val % 128 + 64) % 128) = (1024 * (t.val / 16) + n.val) / 128 * 128 + ((1024 * (t.val / 16) + n.val) % 128 + 64) % 128
        omega)
      rw [ep]
      by_cases h : t.val / 16 < 1
      · rw [if_pos h, if_pos h, if_pos (by show 1024 * (t.val / 16) + n.val < 1024; omega)]
      · rw [if_neg h, if_neg h, if_neg (by show ¬ 1024 * (t.val / 16) + n.val < 1024; omega), ← mul_assoc, ← mul_assoc, scale_out])
    cover4

end Cert.RotIdeal.Shift

end
-- ==== Proof.RotClaim.lean ====
/-
  The rotary projection's claims.
-/
module

public import proofs.«01_k».proof.Defs
public import proofs.«01_k».proof.Proof.RotArrays
public import proofs.«01_k».proof.Proof.Gen.Rot
public import Idealize.ShloMosaic.Adequacy
public import Idealize.ShloMosaic.Init

@[expose] public section

set_option maxRecDepth 16384

noncomputable section

open Idealize.ShloMosaic Idealize.ShloMosaic.TcCoe Idealize.SL.Sem

namespace Cert.Rotating

section

variable {F : FTy → Type} [FloatOps F]

/-! The program as compiled has the text of the one read over extended reals: their runs are the same, at any floats. -/

theorem body_eq : Cert.Rot.cc0_proj_qk_ret (F := F) = Cert.RotIdeal.cc0_proj_qk_ret (F := F) := by
  funext i a1 h1 a2 h2 a3 h3 a4 h4 a5 h5 a6 h6 a7 h7 a8 h8 a9 h9 a10
  unfold Cert.Rot.cc0_proj_qk_ret Cert.RotIdeal.cc0_proj_qk_ret
  rfl

theorem bodies_eq : Cert.Rot.defs₀ (F := F) = Cert.RotIdeal.defs₀ (F := F) := by
  unfold Cert.Rot.defs₀
  rw [body_eq]
  unfold Cert.RotIdeal.defs₀
  refine congrArg (Defs.onTc (nD := Cert.RotIdeal.nD) (τ := Cert.RotIdeal.τ) (sig := Cert.RotIdeal.sig) (Val := Elt F) (Λ := Cert.RotIdeal.Λ₀)) ?_
  funext x y
  match x, y with
  | 0, (t, s) => rfl

theorem defs_eq : Cert.Rot.defs (F := F) = Cert.RotIdeal.defs (F := F) := by
  unfold Cert.Rot.defs
  rw [bodies_eq]
  rfl

theorem run_eq (m : (ℓ : Loc Cert.RotIdeal.nD Cert.RotIdeal.τ Cert.RotIdeal.sig) → Buf (Elt F) ℓ) (ρ : Dev Cert.RotIdeal.nD → PrngReg) :
    (θ_run (Cert.Rot.defs (F := F)) (onTc (τ := Cert.Rot.τ) (Cert.Rot.main (F := F))) ⟨m, fun _ => 0, ρ⟩ : _ → Prop)
      = θ_run (Cert.RotIdeal.defs (F := F)) (onTc (τ := Cert.RotIdeal.τ) (Cert.RotIdeal.main (F := F))) ⟨m, fun _ => 0, ρ⟩ := by
  rw [defs_eq]
  rfl

end

theorem frame_Rot : Cert.quiescent_Rot := fun m ρ _ => by
  refine (congrFun (run_eq (F := Bits) m ρ) _).mpr ?_
  exact Cert.RotIdeal.Shift.frame_any (F := Bits) m ρ

theorem frame_RotIdeal : Cert.quiescent_RotIdeal := fun m ρ _ => Cert.RotIdeal.Shift.frame_any m ρ

theorem frame_RotRefIdeal : Cert.quiescent_RotRefIdeal := fun m ρ _ =>
  (θ_run Cert.RotRefIdeal.defs _ _).mono (fun r h => ⟨fun c => (h c).2.2, sem_eq_zero_of_no_sems (by decide) r.2⟩)
    (Cert.RotRefIdeal.Value.run m ρ)

/-- The queries, the keys and the moved cache are the reference's. -/
theorem algebraic_Rot : Cert.algebraic_RotIdeal_RotRefIdeal := by
  intro m g m' g' _ hagree
  refine ⟨fun c => queryKeys (Cert.RotIdeal.Shift.u m c) (Cert.RotIdeal.Shift.wts m c) (Cert.RotIdeal.Shift.cosines m c) (Cert.RotIdeal.Shift.sines m c),
    fun c => shiftedRows (Cert.RotIdeal.Shift.old m c) (Cert.RotIdeal.Shift.new m c),
    (θ_run Cert.RotIdeal.defs _ _).mono (fun r h c => ⟨(h.1 c).1.trans (Cert.RotIdeal.Shift.arr4_eq m c),
      (h.1 c).2.1.trans (Cert.RotIdeal.Shift.newCache_eq m c), (h.1 c).2.2⟩) (Cert.RotIdeal.Shift.run_all m g),
    (θ_run Cert.RotRefIdeal.defs _ _).mono (fun r h c => ⟨(h c).1.trans ?_, (h c).2.1.trans ?_, (h c).2.2⟩) (Cert.RotRefIdeal.Arr.run_read m' g')⟩
  · have e0 : Cert.RotRefIdeal.Arr.u m' c = Cert.RotIdeal.Shift.u m c := (hagree c).1
    have e1 : Cert.RotRefIdeal.Arr.w m' c = Cert.RotIdeal.Shift.wts m c := (hagree c).2.1
    have e2 : Cert.RotRefIdeal.Arr.cosines m' c = Cert.RotIdeal.Shift.cosines m c := (hagree c).2.2.1
    have e3 : Cert.RotRefIdeal.Arr.sines m' c = Cert.RotIdeal.Shift.sines m c := (hagree c).2.2.2.1
    rw [e0, e1, e2, e3]
  · have e4 : Cert.RotRefIdeal.Arr.old m' c = Cert.RotIdeal.Shift.old m c := (hagree c).2.2.2.2.1
    have e5 : Cert.RotRefIdeal.Arr.new m' c = Cert.RotIdeal.Shift.new m c := (hagree c).2.2.2.2.2
    rw [e4, e5]

end Cert.Rotating

end
-- ==== Proof.lean ====
/-
  The certificate: the dilated projections of the prompt's three groups against plain matrix products and norms, the gates,
  values and rotary projections and the caches they move against plain products, a logistic, a turn of every head and
  concatenations, and the grouped expert product against the gated sum over all experts.
-/
module

public import proofs.«01_k».proof.Defs
public import proofs.«01_k».proof.Proof.Gen.D0.Frame
public import proofs.«01_k».proof.Proof.Gen.D0Ideal.Frame
public import proofs.«01_k».proof.Proof.D0Arrays
public import proofs.«01_k».proof.Proof.R0Arrays
public import proofs.«01_k».proof.Proof.MoeFrame
public import proofs.«01_k».proof.Proof.Gen.D1.Frame
public import proofs.«01_k».proof.Proof.Gen.D1Ideal.Frame
public import proofs.«01_k».proof.Proof.D1Arrays
public import proofs.«01_k».proof.Proof.R1Arrays
public import proofs.«01_k».proof.Proof.Gen.D2.Frame
public import proofs.«01_k».proof.Proof.Gen.D2Ideal.Frame
public import proofs.«01_k».proof.Proof.D2Arrays
public import proofs.«01_k».proof.Proof.R2Arrays
public import proofs.«01_k».proof.Proof.Gen.Gates.Points
public import proofs.«01_k».proof.Proof.Gen.Gates.Launch
public import proofs.«01_k».proof.Proof.Gen.GatesIdeal.Points
public import proofs.«01_k».proof.Proof.Gen.GatesIdeal.Launch
public import proofs.«01_k».proof.Proof.Gen.GatesRefIdeal.Run
public import proofs.«01_k».proof.Proof.GatesClaim
public import proofs.«01_k».proof.Proof.ValsClaim
public import proofs.«01_k».proof.Proof.Gen.Vals.Points
public import proofs.«01_k».proof.Proof.Gen.Vals.Launch
public import proofs.«01_k».proof.Proof.Gen.ValsIdeal.Points
public import proofs.«01_k».proof.Proof.Gen.ValsIdeal.Launch
public import proofs.«01_k».proof.Proof.Gen.ValsRefIdeal.Run
public import proofs.«01_k».proof.Proof.RotClaim
public import proofs.«01_k».proof.Proof.Gen.Rot.Points
public import proofs.«01_k».proof.Proof.Gen.Rot.Launch
public import proofs.«01_k».proof.Proof.Gen.RotIdeal.Points
public import proofs.«01_k».proof.Proof.Gen.RotIdeal.Launch
public import proofs.«01_k».proof.Proof.Gen.RotRefIdeal.Run
public import Idealize.ShloMosaic.Adequacy
public import Idealize.ShloMosaic.Init

@[expose] public section

noncomputable section

namespace Cert.Proof

open Idealize.ShloMosaic Idealize.SL.Sem

/-- The reference of group 0 runs and keeps its arguments. -/
theorem frame_R0 : Cert.quiescent_R0Ideal := fun m ρ _ =>
  (θ_run Cert.R0Ideal.defs _ _).mono (fun r h => ⟨fun c => (h c).2.2.2.2.2, sem_eq_zero_of_no_sems (by decide) r.2⟩)
    (Cert.R0Ideal.Value.run m ρ)

/-- Group 0: the call's five arrays are the reference's. -/
theorem algebraic_0 : Cert.algebraic_D0Ideal_R0Ideal := by
  intro m g m' g' _ hagree
  refine ⟨_, _, _, _, _, (θ_run Cert.D0Ideal.defs _ _).mono (fun r h c => h c) (Cert.D0Ideal.Value.run m g),
    (θ_run Cert.R0Ideal.defs _ _).mono (fun r h c => ?_) (Cert.R0Ideal.Arr.run_read m' g')⟩
  obtain ⟨h1, h2, h3, h4, h5, hk⟩ := h c
  have eu : Cert.R0Ideal.Arr.u m' c = Cert.D0Ideal.Arr.u m c := (hagree c).1
  have ew : Cert.R0Ideal.Arr.w m' c = Cert.D0Ideal.Arr.w m c := (hagree c).2.1
  have eq : Cert.R0Ideal.Arr.qn m' c = Cert.D0Ideal.Arr.qn m c := (hagree c).2.2.1
  have ek : Cert.R0Ideal.Arr.kn m' c = Cert.D0Ideal.Arr.kn m c := (hagree c).2.2.2
  refine ⟨h1.trans ?_, h2.trans ?_, h3.trans ?_, h4.trans ?_, h5.trans ?_, hk⟩
  · rw [Cert.D0Ideal.Arr.G6_eq, eu, ew, eq]
  · rw [Cert.D0Ideal.Arr.G7_eq, eu, ew, ek]
  · rw [Cert.D0Ideal.Arr.G8_eq, eu, ew]
  · rw [Cert.D0Ideal.Arr.G9_eq, eu, ew, ek]
  · rw [Cert.D0Ideal.Arr.G10_eq, eu, ew]

/-- The reference of group 1 runs and keeps its arguments. -/
theorem frame_R1 : Cert.quiescent_R1Ideal := fun m ρ _ =>
  (θ_run Cert.R1Ideal.defs _ _).mono (fun r h => ⟨fun c => (h c).2.2.2.2.2, sem_eq_zero_of_no_sems (by decide) r.2⟩)
    (Cert.R1Ideal.Value.run m ρ)

/-- Group 1: the call's five arrays are the reference's. -/
theorem algebraic_1 : Cert.algebraic_D1Ideal_R1Ideal := by
  intro m g m' g' _ hagree
  refine ⟨_, _, _, _, _, (θ_run Cert.D1Ideal.defs _ _).mono (fun r h c => h c) (Cert.D1Ideal.Arr.run_read m g),
    (θ_run Cert.R1Ideal.defs _ _).mono (fun r h c => ?_) (Cert.R1Ideal.Arr.run_read m' g')⟩
  obtain ⟨h1, h2, h3, h4, h5, hk⟩ := h c
  have eu : Cert.R1Ideal.Arr.u m' c = Cert.D1Ideal.Arr.u m c := (hagree c).1
  have ew : Cert.R1Ideal.Arr.w m' c = Cert.D1Ideal.Arr.w m c := (hagree c).2.1
  have eq : Cert.R1Ideal.Arr.qn m' c = Cert.D1Ideal.Arr.qn m c := (hagree c).2.2.1
  have ek : Cert.R1Ideal.Arr.kn m' c = Cert.D1Ideal.Arr.kn m c := (hagree c).2.2.2
  refine ⟨h1.trans ?_, h2.trans ?_, h3.trans ?_, h4.trans ?_, h5.trans ?_, hk⟩
  · rw [eu, ew, eq]
  · rw [eu, ew, ek]
  · rw [eu, ew]
  · rw [eu, ew, ek]
  · rw [eu, ew]

/-- The reference of group 2 runs and keeps its arguments. -/
theorem frame_R2 : Cert.quiescent_R2Ideal := fun m ρ _ =>
  (θ_run Cert.R2Ideal.defs _ _).mono (fun r h => ⟨fun c => (h c).2.2.2.2.2, sem_eq_zero_of_no_sems (by decide) r.2⟩)
    (Cert.R2Ideal.Value.run m ρ)

/-- Group 2: the call's five arrays are the reference's. -/
theorem algebraic_2 : Cert.algebraic_D2Ideal_R2Ideal := by
  intro m g m' g' _ hagree
  refine ⟨_, _, _, _, _, (θ_run Cert.D2Ideal.defs _ _).mono (fun r h c => h c) (Cert.D2Ideal.Arr.run_read m g),
    (θ_run Cert.R2Ideal.defs _ _).mono (fun r h c => ?_) (Cert.R2Ideal.Arr.run_read m' g')⟩
  obtain ⟨h1, h2, h3, h4, h5, hk⟩ := h c
  have eu : Cert.R2Ideal.Arr.u m' c = Cert.D2Ideal.Arr.u m c := (hagree c).1
  have ew : Cert.R2Ideal.Arr.w m' c = Cert.D2Ideal.Arr.w m c := (hagree c).2.1
  have eq : Cert.R2Ideal.Arr.qn m' c = Cert.D2Ideal.Arr.qn m c := (hagree c).2.2.1
  have ek : Cert.R2Ideal.Arr.kn m' c = Cert.D2Ideal.Arr.kn m c := (hagree c).2.2.2
  refine ⟨h1.trans ?_, h2.trans ?_, h3.trans ?_, h4.trans ?_, h5.trans ?_, hk⟩
  · rw [eu, ew, eq]
  · rw [eu, ew, ek]
  · rw [eu, ew]
  · rw [eu, ew, ek]
  · rw [eu, ew]

theorem claim : Cert.Claim := ⟨Cert.D0.Gen.facts, Cert.D0Ideal.Gen.facts, Cert.R0Ideal.Gen.facts, Cert.D1.Gen.facts, Cert.D1Ideal.Gen.facts,
  Cert.R1Ideal.Gen.facts, Cert.D2.Gen.facts, Cert.D2Ideal.Gen.facts, Cert.R2Ideal.Gen.facts, Cert.Gates.Gen.facts, Cert.GatesIdeal.Gen.facts,
  Cert.GatesRefIdeal.Gen.facts, Cert.Vals.Gen.facts, Cert.ValsIdeal.Gen.facts, Cert.ValsRefIdeal.Gen.facts, Cert.Rot.Gen.facts, Cert.RotIdeal.Gen.facts, Cert.RotRefIdeal.Gen.facts,
  Cert.Moe.Gen.facts, Cert.MoeIdeal.Gen.facts,
  Cert.MoeRefIdeal.Gen.facts, Cert.Pre_experts_named.Gen.facts,
  fun m ρ _ => Cert.D0.Gen.frame m ρ, fun m ρ _ => Cert.D0Ideal.Gen.frame m ρ, frame_R0,
  fun m ρ _ => Cert.D1.Gen.frame m ρ, fun m ρ _ => Cert.D1Ideal.Gen.frame m ρ, frame_R1,
  fun m ρ _ => Cert.D2.Gen.frame m ρ, fun m ρ _ => Cert.D2Ideal.Gen.frame m ρ, frame_R2,
  Cert.Gating.frame_Gates, Cert.Gating.frame_GatesIdeal, Cert.Gating.frame_GatesRefIdeal,
  Cert.Valuing.frame_Vals, Cert.Valuing.frame_ValsIdeal, Cert.Valuing.frame_ValsRefIdeal,
  Cert.Rotating.frame_Rot, Cert.Rotating.frame_RotIdeal, Cert.Rotating.frame_RotRefIdeal,
  Cert.Experts.frame_Moe, Cert.Experts.frame_MoeIdeal, Cert.Experts.frame_MoeRefIdeal, fun m ρ _ => Cert.Experts.frame_MoeRefIdeal m ρ trivial,
  trivial, algebraic_0, trivial, algebraic_1, trivial, algebraic_2, trivial, Cert.Gating.algebraic_Gates, trivial, Cert.Valuing.algebraic_Vals,
  trivial, Cert.Rotating.algebraic_Rot, trivial, Cert.Experts.algebraic_Moe⟩

end Cert.Proof

end
